-- ==== Defs.lean ====
def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdIdeal_finite [hPre_finite : Cert.Pre_finite.Facts] (m : (ℓ : Loc Cert.OutBwdIdeal.nD Cert.OutBwdIdeal.τ Cert.OutBwdIdeal.sig) → Buf (Elt Ideal) ℓ) : Prop :=
  ∀ c : Dev Cert.OutBwdIdeal.nD,
    (Cert.Pre_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5))) = (fun _ => 1#1)

def Pre_OutBwdRefIdeal (m : (ℓ : Loc Cert.OutBwdRefIdeal.nD Cert.OutBwdRefIdeal.τ Cert.OutBwdRefIdeal.sig) → Buf (Elt Ideal) ℓ) : Prop :=
  True

def Pre_OutBwdRefIdeal_finite [hPre_finite : Cert.Pre_finite.Facts] (m : (ℓ : Loc Cert.OutBwdRefIdeal.nD Cert.OutBwdRefIdeal.τ Cert.OutBwdRefIdeal.sig) → Buf (Elt Ideal) ℓ) : Prop :=
  ∀ c : Dev Cert.OutBwdRefIdeal.nD,
    (Cert.Pre_finite.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluIdeal_swiglu_finite [hPre_swiglu_finite : Cert.Pre_swiglu_finite.Facts] (m : (ℓ : Loc Cert.SwigluIdeal.nD Cert.SwigluIdeal.τ Cert.SwigluIdeal.sig) → Buf (Elt Ideal) ℓ) : Prop :=
  ∀ c : Dev Cert.SwigluIdeal.nD,
    (Cert.Pre_swiglu_finite.fn (F := Ideal) (m ((c.tc : Thread Cert.SwigluIdeal.nD Cert.SwigluIdeal.τ).loc Cert.SwigluIdeal.main_arg0)) (m ((c.tc : Thread Cert.SwigluIdeal.nD Cert.SwigluIdeal.τ).loc Cert.SwigluIdeal.main_arg1)) (m ((c.tc : Thread Cert.SwigluIdeal.nD Cert.SwigluIdeal.τ).loc Cert.SwigluIdeal.main_arg2)) (m ((c.tc : Thread Cert.SwigluIdeal.nD Cert.SwigluIdeal.τ).loc Cert.SwigluIdeal.main_arg3)) (m ((c.tc : Thread Cert.SwigluIdeal.nD Cert.SwigluIdeal.τ).loc Cert.SwigluIdeal.main_arg4))) = (fun _ => 1#1)

def Pre_SwigluRefIdeal (m : (ℓ : Loc Cert.SwigluRefIdeal.nD Cert.SwigluRefIdeal.τ Cert.SwigluRefIdeal.sig) → Buf (Elt Ideal) ℓ) : Prop :=
  True

def Pre_SwigluRefIdeal_swiglu_finite [hPre_swiglu_finite : Cert.Pre_swiglu_finite.Facts] (m : (ℓ : Loc Cert.SwigluRefIdeal.nD Cert.SwigluRefIdeal.τ Cert.SwigluRefIdeal.sig) → Buf (Elt Ideal) ℓ) : Prop :=
  ∀ c : Dev Cert.SwigluRefIdeal.nD,
    (Cert.Pre_swiglu_finite.fn (F := Ideal) (m ((c.tc : Thread Cert.SwigluRefIdeal.nD Cert.SwigluRefIdeal.τ).loc Cert.SwigluRefIdeal.main_arg0)) (m ((c.tc : Thread Cert.SwigluRefIdeal.nD Cert.SwigluRefIdeal.τ).loc Cert.SwigluRefIdeal.main_arg1)) (m ((c.tc : Thread Cert.SwigluRefIdeal.nD Cert.SwigluRefIdeal.τ).loc Cert.SwigluRefIdeal.main_arg2)) (m ((c.tc : Thread Cert.SwigluRefIdeal.nD Cert.SwigluRefIdeal.τ).loc Cert.SwigluRefIdeal.main_arg3)) (m ((c.tc : Thread Cert.SwigluRefIdeal.nD Cert.SwigluRefIdeal.τ).loc Cert.SwigluRefIdeal.main_arg4))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpIdeal_gate_up_finite [hPre_gate_up_finite : Cert.Pre_gate_up_finite.Facts] (m : (ℓ : Loc Cert.GateUpIdeal.nD Cert.GateUpIdeal.τ Cert.GateUpIdeal.sig) → Buf (Elt Ideal) ℓ) : Prop :=
  ∀ c : Dev Cert.GateUpIdeal.nD,
    (Cert.Pre_gate_up_finite.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4)) (m ((c.tc : Thread Cert.GateUpIdeal.nD Cert.GateUpIdeal.τ).loc Cert.GateUpIdeal.main_arg5)) (m ((c.tc : Thread Cert.GateUpIdeal.nD Cert.GateUpIdeal.τ).loc Cert.GateUpIdeal.main_arg6))) = (fun _ => 1#1)

def Pre_GateUpRefIdeal (m : (ℓ : Loc Cert.GateUpRefIdeal.nD Cert.GateUpRefIdeal.τ Cert.GateUpRefIdeal.sig) → Buf (Elt Ideal) ℓ) : Prop :=
  True

def Pre_GateUpRefIdeal_gate_up_finite [hPre_gate_up_finite : Cert.Pre_gate_up_finite.Facts] (m : (ℓ : Loc Cert.GateUpRefIdeal.nD Cert.GateUpRefIdeal.τ Cert.GateUpRefIdeal.sig) → Buf (Elt Ideal) ℓ) : Prop :=
  ∀ c : Dev Cert.GateUpRefIdeal.nD,
    (Cert.Pre_gate_up_finite.fn (F := Ideal) (m ((c.tc : Thread Cert.GateUpRefIdeal.nD Cert.GateUpRefIdeal.τ).loc Cert.GateUpRefIdeal.main_arg0)) (m ((c.tc : Thread Cert.GateUpRefIdeal.nD Cert.GateUpRefIdeal.τ).loc Cert.GateUpRefIdeal.main_arg1)) (m ((c.tc : Thread Cert.GateUpRefIdeal.nD Cert.GateUpRefIdeal.τ).loc Cert.GateUpRefIdeal.main_arg2)) (m ((c.tc : Thread Cert.GateUpRefIdeal.nD Cert.GateUpRefIdeal.τ).loc Cert.GateUpRefIdeal.main_arg3)) (m ((c.tc : Thread Cert.GateUpRefIdeal.nD Cert.GateUpRefIdeal.τ).loc Cert.GateUpRefIdeal.main_arg4)) (m ((c.tc : Thread Cert.GateUpRefIdeal.nD Cert.GateUpRefIdeal.τ).loc Cert.GateUpRefIdeal.main_arg5)) (m ((c.tc : Thread Cert.GateUpRefIdeal.nD Cert.GateUpRefIdeal.τ).loc Cert.GateUpRefIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_in_proj_finite [hPre_in_proj_finite : Cert.Pre_in_proj_finite.Facts] (m : (ℓ : Loc Cert.InProjIdeal.nD Cert.InProjIdeal.τ Cert.InProjIdeal.sig) → Buf (Elt Ideal) ℓ) : Prop :=
  ∀ c : Dev Cert.InProjIdeal.nD,
    (Cert.Pre_in_proj_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_in_proj_finite [hPre_in_proj_finite : Cert.Pre_in_proj_finite.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_GateUpFwd (m : (ℓ : Loc Cert.GateUpFwd.nD Cert.GateUpFwd.τ Cert.GateUpFwd.sig) → Buf (Elt Bits) ℓ) : Prop :=
  True

def Pre_GateUpFwdIdeal (m : (ℓ : Loc Cert.GateUpFwdIdeal.nD Cert.GateUpFwdIdeal.τ Cert.GateUpFwdIdeal.sig) → Buf (Elt Ideal) ℓ) : Prop :=
  True

def Pre_GateUpFwdRefIdeal (m : (ℓ : Loc Cert.GateUpFwdRefIdeal.nD Cert.GateUpFwdRefIdeal.τ Cert.GateUpFwdRefIdeal.sig) → Buf (Elt Ideal) ℓ) : Prop :=
  True

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4)
      ∧ r.2.mem ((c.tc : Thread Cert.OutBwd.nD Cert.OutBwd.τ).loc Cert.OutBwd.main_arg5) = m ((c.tc : Thread Cert.OutBwd.nD Cert.OutBwd.τ).loc Cert.OutBwd.main_arg5))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5))
      ∧ r.2.sem = fun _ => 0)

def quiescent_OutBwdIdeal_pre_finite [hOutBwdIdeal : Cert.OutBwdIdeal.Facts] [hPre_finite : Cert.Pre_finite.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal_finite m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5))
      ∧ r.2.sem = fun _ => 0)

def quiescent_OutBwdRefIdeal_pre_finite [hOutBwdRefIdeal : Cert.OutBwdRefIdeal.Facts] [hPre_finite : Cert.Pre_finite.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal_finite m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3)
      ∧ r.2.mem ((c.tc : Thread Cert.Swiglu.nD Cert.Swiglu.τ).loc Cert.Swiglu.main_arg4) = m ((c.tc : Thread Cert.Swiglu.nD Cert.Swiglu.τ).loc Cert.Swiglu.main_arg4))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
      ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ r.2.sem = fun _ => 0)

def quiescent_SwigluIdeal_pre_swiglu_finite [hSwigluIdeal : Cert.SwigluIdeal.Facts] [hPre_swiglu_finite : Cert.Pre_swiglu_finite.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal_swiglu_finite m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
      ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3)
      ∧ r.2.mem ((c.tc : Thread Cert.SwigluRefIdeal.nD Cert.SwigluRefIdeal.τ).loc Cert.SwigluRefIdeal.main_arg4) = m ((c.tc : Thread Cert.SwigluRefIdeal.nD Cert.SwigluRefIdeal.τ).loc Cert.SwigluRefIdeal.main_arg4))
      ∧ r.2.sem = fun _ => 0)

def quiescent_SwigluRefIdeal_pre_swiglu_finite [hSwigluRefIdeal : Cert.SwigluRefIdeal.Facts] [hPre_swiglu_finite : Cert.Pre_swiglu_finite.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal_swiglu_finite m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1)
      ∧ r.2.mem ((c.tc : Thread Cert.SwigluRefIdeal.nD Cert.SwigluRefIdeal.τ).loc Cert.SwigluRefIdeal.main_arg2) = m ((c.tc : Thread Cert.SwigluRefIdeal.nD Cert.SwigluRefIdeal.τ).loc Cert.SwigluRefIdeal.main_arg2)
      ∧ r.2.mem ((c.tc : Thread Cert.SwigluRefIdeal.nD Cert.SwigluRefIdeal.τ).loc Cert.SwigluRefIdeal.main_arg3) = m ((c.tc : Thread Cert.SwigluRefIdeal.nD Cert.SwigluRefIdeal.τ).loc Cert.SwigluRefIdeal.main_arg3)
      ∧ r.2.mem ((c.tc : Thread Cert.SwigluRefIdeal.nD Cert.SwigluRefIdeal.τ).loc Cert.SwigluRefIdeal.main_arg4) = m ((c.tc : Thread Cert.SwigluRefIdeal.nD Cert.SwigluRefIdeal.τ).loc Cert.SwigluRefIdeal.main_arg4))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4)
      ∧ r.2.mem ((c.tc : Thread Cert.GateUp.nD Cert.GateUp.τ).loc Cert.GateUp.main_arg5) = m ((c.tc : Thread Cert.GateUp.nD Cert.GateUp.τ).loc Cert.GateUp.main_arg5)
      ∧ r.2.mem ((c.tc : Thread Cert.GateUp.nD Cert.GateUp.τ).loc Cert.GateUp.main_arg6) = m ((c.tc : Thread Cert.GateUp.nD Cert.GateUp.τ).loc Cert.GateUp.main_arg6))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6))
      ∧ r.2.sem = fun _ => 0)

def quiescent_GateUpIdeal_pre_gate_up_finite [hGateUpIdeal : Cert.GateUpIdeal.Facts] [hPre_gate_up_finite : Cert.Pre_gate_up_finite.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal_gate_up_finite m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
      ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
      ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5)
      ∧ r.2.mem ((c.tc : Thread Cert.GateUpRefIdeal.nD Cert.GateUpRefIdeal.τ).loc Cert.GateUpRefIdeal.main_arg6) = m ((c.tc : Thread Cert.GateUpRefIdeal.nD Cert.GateUpRefIdeal.τ).loc Cert.GateUpRefIdeal.main_arg6))
      ∧ r.2.sem = fun _ => 0)

def quiescent_GateUpRefIdeal_pre_gate_up_finite [hGateUpRefIdeal : Cert.GateUpRefIdeal.Facts] [hPre_gate_up_finite : Cert.Pre_gate_up_finite.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal_gate_up_finite m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4)
      ∧ r.2.mem ((c.tc : Thread Cert.GateUpRefIdeal.nD Cert.GateUpRefIdeal.τ).loc Cert.GateUpRefIdeal.main_arg5) = m ((c.tc : Thread Cert.GateUpRefIdeal.nD Cert.GateUpRefIdeal.τ).loc Cert.GateUpRefIdeal.main_arg5)
      ∧ r.2.mem ((c.tc : Thread Cert.GateUpRefIdeal.nD Cert.GateUpRefIdeal.τ).loc Cert.GateUpRefIdeal.main_arg6) = m ((c.tc : Thread Cert.GateUpRefIdeal.nD Cert.GateUpRefIdeal.τ).loc Cert.GateUpRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjIdeal_pre_in_proj_finite [hInProjIdeal : Cert.InProjIdeal.Facts] [hPre_in_proj_finite : Cert.Pre_in_proj_finite.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_in_proj_finite m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7))
      ∧ r.2.sem = fun _ => 0)

def quiescent_InProjRefIdeal_pre_in_proj_finite [hInProjRefIdeal : Cert.InProjRefIdeal.Facts] [hPre_in_proj_finite : Cert.Pre_in_proj_finite.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_in_proj_finite m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_GateUpFwd [hGateUpFwd : Cert.GateUpFwd.Facts] : Prop :=
  ∀ (m : (ℓ : Loc Cert.GateUpFwd.nD Cert.GateUpFwd.τ Cert.GateUpFwd.sig) → Buf (Elt Bits) ℓ) (g : Dev Cert.GateUpFwd.nD → PrngReg), Pre_GateUpFwd m →
    θ_run (Cert.GateUpFwd.defs (F := Bits)) (onTc (τ := Cert.GateUpFwd.τ) (Cert.GateUpFwd.main (F := Bits))) ⟨m, fun _ => 0, g⟩ (fun r => (∀ c : Dev Cert.GateUpFwd.nD,
      r.2.mem ((c.tc : Thread Cert.GateUpFwd.nD Cert.GateUpFwd.τ).loc Cert.GateUpFwd.main_arg0) = m ((c.tc : Thread Cert.GateUpFwd.nD Cert.GateUpFwd.τ).loc Cert.GateUpFwd.main_arg0)
      ∧ r.2.mem ((c.tc : Thread Cert.GateUpFwd.nD Cert.GateUpFwd.τ).loc Cert.GateUpFwd.main_arg1) = m ((c.tc : Thread Cert.GateUpFwd.nD Cert.GateUpFwd.τ).loc Cert.GateUpFwd.main_arg1)
      ∧ r.2.mem ((c.tc : Thread Cert.GateUpFwd.nD Cert.GateUpFwd.τ).loc Cert.GateUpFwd.main_arg2) = m ((c.tc : Thread Cert.GateUpFwd.nD Cert.GateUpFwd.τ).loc Cert.GateUpFwd.main_arg2)
      ∧ r.2.mem ((c.tc : Thread Cert.GateUpFwd.nD Cert.GateUpFwd.τ).loc Cert.GateUpFwd.main_arg3) = m ((c.tc : Thread Cert.GateUpFwd.nD Cert.GateUpFwd.τ).loc Cert.GateUpFwd.main_arg3))
      ∧ r.2.sem = fun _ => 0)

def quiescent_GateUpFwdIdeal [hGateUpFwdIdeal : Cert.GateUpFwdIdeal.Facts] : Prop :=
  ∀ (m : (ℓ : Loc Cert.GateUpFwdIdeal.nD Cert.GateUpFwdIdeal.τ Cert.GateUpFwdIdeal.sig) → Buf (Elt Ideal) ℓ) (g : Dev Cert.GateUpFwdIdeal.nD → PrngReg), Pre_GateUpFwdIdeal m →
    θ_run (Cert.GateUpFwdIdeal.defs (F := Ideal)) (onTc (τ := Cert.GateUpFwdIdeal.τ) (Cert.GateUpFwdIdeal.main (F := Ideal))) ⟨m, fun _ => 0, g⟩ (fun r => (∀ c : Dev Cert.GateUpFwdIdeal.nD,
      r.2.mem ((c.tc : Thread Cert.GateUpFwdIdeal.nD Cert.GateUpFwdIdeal.τ).loc Cert.GateUpFwdIdeal.main_arg0) = m ((c.tc : Thread Cert.GateUpFwdIdeal.nD Cert.GateUpFwdIdeal.τ).loc Cert.GateUpFwdIdeal.main_arg0)
      ∧ r.2.mem ((c.tc : Thread Cert.GateUpFwdIdeal.nD Cert.GateUpFwdIdeal.τ).loc Cert.GateUpFwdIdeal.main_arg1) = m ((c.tc : Thread Cert.GateUpFwdIdeal.nD Cert.GateUpFwdIdeal.τ).loc Cert.GateUpFwdIdeal.main_arg1)
      ∧ r.2.mem ((c.tc : Thread Cert.GateUpFwdIdeal.nD Cert.GateUpFwdIdeal.τ).loc Cert.GateUpFwdIdeal.main_arg2) = m ((c.tc : Thread Cert.GateUpFwdIdeal.nD Cert.GateUpFwdIdeal.τ).loc Cert.GateUpFwdIdeal.main_arg2)
      ∧ r.2.mem ((c.tc : Thread Cert.GateUpFwdIdeal.nD Cert.GateUpFwdIdeal.τ).loc Cert.GateUpFwdIdeal.main_arg3) = m ((c.tc : Thread Cert.GateUpFwdIdeal.nD Cert.GateUpFwdIdeal.τ).loc Cert.GateUpFwdIdeal.main_arg3))
      ∧ r.2.sem = fun _ => 0)

def quiescent_GateUpFwdRefIdeal [hGateUpFwdRefIdeal : Cert.GateUpFwdRefIdeal.Facts] : Prop :=
  ∀ (m : (ℓ : Loc Cert.GateUpFwdRefIdeal.nD Cert.GateUpFwdRefIdeal.τ Cert.GateUpFwdRefIdeal.sig) → Buf (Elt Ideal) ℓ) (g : Dev Cert.GateUpFwdRefIdeal.nD → PrngReg), Pre_GateUpFwdRefIdeal m →
    θ_run (Cert.GateUpFwdRefIdeal.defs (F := Ideal)) (onTc (τ := Cert.GateUpFwdRefIdeal.τ) (Cert.GateUpFwdRefIdeal.main (F := Ideal))) ⟨m, fun _ => 0, g⟩ (fun r => (∀ c : Dev Cert.GateUpFwdRefIdeal.nD,
      r.2.mem ((c.tc : Thread Cert.GateUpFwdRefIdeal.nD Cert.GateUpFwdRefIdeal.τ).loc Cert.GateUpFwdRefIdeal.main_arg0) = m ((c.tc : Thread Cert.GateUpFwdRefIdeal.nD Cert.GateUpFwdRefIdeal.τ).loc Cert.GateUpFwdRefIdeal.main_arg0)
      ∧ r.2.mem ((c.tc : Thread Cert.GateUpFwdRefIdeal.nD Cert.GateUpFwdRefIdeal.τ).loc Cert.GateUpFwdRefIdeal.main_arg1) = m ((c.tc : Thread Cert.GateUpFwdRefIdeal.nD Cert.GateUpFwdRefIdeal.τ).loc Cert.GateUpFwdRefIdeal.main_arg1)
      ∧ r.2.mem ((c.tc : Thread Cert.GateUpFwdRefIdeal.nD Cert.GateUpFwdRefIdeal.τ).loc Cert.GateUpFwdRefIdeal.main_arg2) = m ((c.tc : Thread Cert.GateUpFwdRefIdeal.nD Cert.GateUpFwdRefIdeal.τ).loc Cert.GateUpFwdRefIdeal.main_arg2)
      ∧ r.2.mem ((c.tc : Thread Cert.GateUpFwdRefIdeal.nD Cert.GateUpFwdRefIdeal.τ).loc Cert.GateUpFwdRefIdeal.main_arg3) = m ((c.tc : Thread Cert.GateUpFwdRefIdeal.nD Cert.GateUpFwdRefIdeal.τ).loc Cert.GateUpFwdRefIdeal.main_arg3))
      ∧ r.2.sem = fun _ => 0)

def preserves_OutBwd_OutBwdIdeal : Prop :=
  IdealRules.named_const.Statement Cert.OutBwdIdeal.κ "gelu_cubic" .f32 0x3D372713#32 ((8943 / 200000 : ℝ) : EReal)
  ∧ IdealRules.named_const.Statement Cert.OutBwdIdeal.κ "gelu_cubic3" .f32 0x3E095D4F#32 ((26829 / 200000 : ℝ) : EReal)

def algebraic_OutBwdIdeal_OutBwdRefIdeal_pre_finite [hOutBwdIdeal : Cert.OutBwdIdeal.Facts] [hOutBwdRefIdeal : Cert.OutBwdRefIdeal.Facts] [hPre_finite : Cert.Pre_finite.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal_finite m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)
      ∧ m' ((c.tc : Thread Cert.OutBwdRefIdeal.nD Cert.OutBwdRefIdeal.τ).loc Cert.OutBwdRefIdeal.main_arg4) = m ((c.tc : Thread Cert.OutBwdIdeal.nD Cert.OutBwdIdeal.τ).loc Cert.OutBwdIdeal.main_arg4)
      ∧ m' ((c.tc : Thread Cert.OutBwdRefIdeal.nD Cert.OutBwdRefIdeal.τ).loc Cert.OutBwdRefIdeal.main_arg5) = m ((c.tc : Thread Cert.OutBwdIdeal.nD Cert.OutBwdIdeal.τ).loc Cert.OutBwdIdeal.main_arg5)) →
    ∃ (v0 : (c : Dev Cert.OutBwdIdeal.nD) → Buf (Elt Ideal) ((c.tc : Thread Cert.OutBwdIdeal.nD Cert.OutBwdIdeal.τ).loc Cert.OutBwdIdeal.main_v8_0)) (v1 : (c : Dev Cert.OutBwdIdeal.nD) → Buf (Elt Ideal) ((c.tc : Thread Cert.OutBwdIdeal.nD Cert.OutBwdIdeal.τ).loc Cert.OutBwdIdeal.main_v8_1)) (v2 : (c : Dev Cert.OutBwdIdeal.nD) → Buf (Elt Ideal) ((c.tc : Thread Cert.OutBwdIdeal.nD Cert.OutBwdIdeal.τ).loc Cert.OutBwdIdeal.main_v8_2)) (v3 : (c : Dev Cert.OutBwdIdeal.nD) → Buf (Elt Ideal) ((c.tc : Thread Cert.OutBwdIdeal.nD Cert.OutBwdIdeal.τ).loc Cert.OutBwdIdeal.main_v8_3)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v8_0) = v0 c
          ∧ r.2.mem ((c.tc : Thread Cert.OutBwdIdeal.nD Cert.OutBwdIdeal.τ).loc Cert.OutBwdIdeal.main_v8_1) = v1 c
          ∧ r.2.mem ((c.tc : Thread Cert.OutBwdIdeal.nD Cert.OutBwdIdeal.τ).loc Cert.OutBwdIdeal.main_v8_2) = v2 c
          ∧ r.2.mem ((c.tc : Thread Cert.OutBwdIdeal.nD Cert.OutBwdIdeal.τ).loc Cert.OutBwdIdeal.main_v8_3) = v3 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
          ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v46) = v0 c
          ∧ r.2.mem ((c.tc : Thread Cert.OutBwdRefIdeal.nD Cert.OutBwdRefIdeal.τ).loc Cert.OutBwdRefIdeal.main_v67) = v1 c
          ∧ r.2.mem ((c.tc : Thread Cert.OutBwdRefIdeal.nD Cert.OutBwdRefIdeal.τ).loc Cert.OutBwdRefIdeal.main_v81) = v2 c
          ∧ r.2.mem ((c.tc : Thread Cert.OutBwdRefIdeal.nD Cert.OutBwdRefIdeal.τ).loc Cert.OutBwdRefIdeal.main_v50) = v3 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3)
          ∧ r.2.mem ((c.tc : Thread Cert.OutBwdRefIdeal.nD Cert.OutBwdRefIdeal.τ).loc Cert.OutBwdRefIdeal.main_arg4) = m' ((c.tc : Thread Cert.OutBwdRefIdeal.nD Cert.OutBwdRefIdeal.τ).loc Cert.OutBwdRefIdeal.main_arg4)
          ∧ r.2.mem ((c.tc : Thread Cert.OutBwdRefIdeal.nD Cert.OutBwdRefIdeal.τ).loc Cert.OutBwdRefIdeal.main_arg5) = m' ((c.tc : Thread Cert.OutBwdRefIdeal.nD Cert.OutBwdRefIdeal.τ).loc Cert.OutBwdRefIdeal.main_arg5))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)) (v3 : (c : Dev Cert.LossIdeal.nD) → Buf (Elt Ideal) ((c.tc : Thread Cert.LossIdeal.nD Cert.LossIdeal.τ).loc Cert.LossIdeal.main_v2_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_v2_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v52) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_v36) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Swiglu_SwigluIdeal : Prop :=
  True

def algebraic_SwigluIdeal_SwigluRefIdeal_pre_swiglu_finite [hSwigluIdeal : Cert.SwigluIdeal.Facts] [hSwigluRefIdeal : Cert.SwigluRefIdeal.Facts] [hPre_swiglu_finite : Cert.Pre_swiglu_finite.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal_swiglu_finite m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)
      ∧ m' ((c.tc : Thread Cert.SwigluRefIdeal.nD Cert.SwigluRefIdeal.τ).loc Cert.SwigluRefIdeal.main_arg2) = m ((c.tc : Thread Cert.SwigluIdeal.nD Cert.SwigluIdeal.τ).loc Cert.SwigluIdeal.main_arg2)
      ∧ m' ((c.tc : Thread Cert.SwigluRefIdeal.nD Cert.SwigluRefIdeal.τ).loc Cert.SwigluRefIdeal.main_arg3) = m ((c.tc : Thread Cert.SwigluIdeal.nD Cert.SwigluIdeal.τ).loc Cert.SwigluIdeal.main_arg3)
      ∧ m' ((c.tc : Thread Cert.SwigluRefIdeal.nD Cert.SwigluRefIdeal.τ).loc Cert.SwigluRefIdeal.main_arg4) = m ((c.tc : Thread Cert.SwigluIdeal.nD Cert.SwigluIdeal.τ).loc Cert.SwigluIdeal.main_arg4)) →
    ∃ (v0 : (c : Dev Cert.SwigluIdeal.nD) → Buf (Elt Ideal) ((c.tc : Thread Cert.SwigluIdeal.nD Cert.SwigluIdeal.τ).loc Cert.SwigluIdeal.main_v10_0)) (v1 : (c : Dev Cert.SwigluIdeal.nD) → Buf (Elt Ideal) ((c.tc : Thread Cert.SwigluIdeal.nD Cert.SwigluIdeal.τ).loc Cert.SwigluIdeal.main_v10_1)) (v2 : (c : Dev Cert.SwigluIdeal.nD) → Buf (Elt Ideal) ((c.tc : Thread Cert.SwigluIdeal.nD Cert.SwigluIdeal.τ).loc Cert.SwigluIdeal.main_v10_2)) (v3 : (c : Dev Cert.SwigluIdeal.nD) → Buf (Elt Ideal) ((c.tc : Thread Cert.SwigluIdeal.nD Cert.SwigluIdeal.τ).loc Cert.SwigluIdeal.main_v10_3)) (v4 : (c : Dev Cert.SwigluIdeal.nD) → Buf (Elt Ideal) ((c.tc : Thread Cert.SwigluIdeal.nD Cert.SwigluIdeal.τ).loc Cert.SwigluIdeal.main_v10_4)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v10_0) = v0 c
          ∧ r.2.mem ((c.tc : Thread Cert.SwigluIdeal.nD Cert.SwigluIdeal.τ).loc Cert.SwigluIdeal.main_v10_1) = v1 c
          ∧ r.2.mem ((c.tc : Thread Cert.SwigluIdeal.nD Cert.SwigluIdeal.τ).loc Cert.SwigluIdeal.main_v10_2) = v2 c
          ∧ r.2.mem ((c.tc : Thread Cert.SwigluIdeal.nD Cert.SwigluIdeal.τ).loc Cert.SwigluIdeal.main_v10_3) = v3 c
          ∧ r.2.mem ((c.tc : Thread Cert.SwigluIdeal.nD Cert.SwigluIdeal.τ).loc Cert.SwigluIdeal.main_v10_4) = v4 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3)
          ∧ r.2.mem ((c.tc : Thread Cert.SwigluIdeal.nD Cert.SwigluIdeal.τ).loc Cert.SwigluIdeal.main_arg4) = m ((c.tc : Thread Cert.SwigluIdeal.nD Cert.SwigluIdeal.τ).loc Cert.SwigluIdeal.main_arg4))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v17) = v0 c
          ∧ r.2.mem ((c.tc : Thread Cert.SwigluRefIdeal.nD Cert.SwigluRefIdeal.τ).loc Cert.SwigluRefIdeal.main_v18) = v1 c
          ∧ r.2.mem ((c.tc : Thread Cert.SwigluRefIdeal.nD Cert.SwigluRefIdeal.τ).loc Cert.SwigluRefIdeal.main_v19) = v2 c
          ∧ r.2.mem ((c.tc : Thread Cert.SwigluRefIdeal.nD Cert.SwigluRefIdeal.τ).loc Cert.SwigluRefIdeal.main_v20) = v3 c
          ∧ r.2.mem ((c.tc : Thread Cert.SwigluRefIdeal.nD Cert.SwigluRefIdeal.τ).loc Cert.SwigluRefIdeal.main_v21) = v4 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1)
          ∧ r.2.mem ((c.tc : Thread Cert.SwigluRefIdeal.nD Cert.SwigluRefIdeal.τ).loc Cert.SwigluRefIdeal.main_arg2) = m' ((c.tc : Thread Cert.SwigluRefIdeal.nD Cert.SwigluRefIdeal.τ).loc Cert.SwigluRefIdeal.main_arg2)
          ∧ r.2.mem ((c.tc : Thread Cert.SwigluRefIdeal.nD Cert.SwigluRefIdeal.τ).loc Cert.SwigluRefIdeal.main_arg3) = m' ((c.tc : Thread Cert.SwigluRefIdeal.nD Cert.SwigluRefIdeal.τ).loc Cert.SwigluRefIdeal.main_arg3)
          ∧ r.2.mem ((c.tc : Thread Cert.SwigluRefIdeal.nD Cert.SwigluRefIdeal.τ).loc Cert.SwigluRefIdeal.main_arg4) = m' ((c.tc : Thread Cert.SwigluRefIdeal.nD Cert.SwigluRefIdeal.τ).loc Cert.SwigluRefIdeal.main_arg4))

def preserves_GateUp_GateUpIdeal : Prop :=
  True

def algebraic_GateUpIdeal_GateUpRefIdeal_pre_gate_up_finite [hGateUpIdeal : Cert.GateUpIdeal.Facts] [hGateUpRefIdeal : Cert.GateUpRefIdeal.Facts] [hPre_gate_up_finite : Cert.Pre_gate_up_finite.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal_gate_up_finite m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)
      ∧ m' ((c.tc : Thread Cert.GateUpRefIdeal.nD Cert.GateUpRefIdeal.τ).loc Cert.GateUpRefIdeal.main_arg5) = m ((c.tc : Thread Cert.GateUpIdeal.nD Cert.GateUpIdeal.τ).loc Cert.GateUpIdeal.main_arg5)
      ∧ m' ((c.tc : Thread Cert.GateUpRefIdeal.nD Cert.GateUpRefIdeal.τ).loc Cert.GateUpRefIdeal.main_arg6) = m ((c.tc : Thread Cert.GateUpIdeal.nD Cert.GateUpIdeal.τ).loc Cert.GateUpIdeal.main_arg6)) →
    ∃ (v0 : (c : Dev Cert.GateUpIdeal.nD) → Buf (Elt Ideal) ((c.tc : Thread Cert.GateUpIdeal.nD Cert.GateUpIdeal.τ).loc Cert.GateUpIdeal.main_v6_0)) (v1 : (c : Dev Cert.GateUpIdeal.nD) → Buf (Elt Ideal) ((c.tc : Thread Cert.GateUpIdeal.nD Cert.GateUpIdeal.τ).loc Cert.GateUpIdeal.main_v6_1)) (v2 : (c : Dev Cert.GateUpIdeal.nD) → Buf (Elt Ideal) ((c.tc : Thread Cert.GateUpIdeal.nD Cert.GateUpIdeal.τ).loc Cert.GateUpIdeal.main_v6_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v6_0) = v0 c
          ∧ r.2.mem ((c.tc : Thread Cert.GateUpIdeal.nD Cert.GateUpIdeal.τ).loc Cert.GateUpIdeal.main_v6_1) = v1 c
          ∧ r.2.mem ((c.tc : Thread Cert.GateUpIdeal.nD Cert.GateUpIdeal.τ).loc Cert.GateUpIdeal.main_v6_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4)
          ∧ r.2.mem ((c.tc : Thread Cert.GateUpIdeal.nD Cert.GateUpIdeal.τ).loc Cert.GateUpIdeal.main_arg5) = m ((c.tc : Thread Cert.GateUpIdeal.nD Cert.GateUpIdeal.τ).loc Cert.GateUpIdeal.main_arg5)
          ∧ r.2.mem ((c.tc : Thread Cert.GateUpIdeal.nD Cert.GateUpIdeal.τ).loc Cert.GateUpIdeal.main_arg6) = m ((c.tc : Thread Cert.GateUpIdeal.nD Cert.GateUpIdeal.τ).loc Cert.GateUpIdeal.main_arg6))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v39) = v0 c
          ∧ r.2.mem ((c.tc : Thread Cert.GateUpRefIdeal.nD Cert.GateUpRefIdeal.τ).loc Cert.GateUpRefIdeal.main_v40) = v1 c
          ∧ r.2.mem ((c.tc : Thread Cert.GateUpRefIdeal.nD Cert.GateUpRefIdeal.τ).loc Cert.GateUpRefIdeal.main_v22) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4)
          ∧ r.2.mem ((c.tc : Thread Cert.GateUpRefIdeal.nD Cert.GateUpRefIdeal.τ).loc Cert.GateUpRefIdeal.main_arg5) = m' ((c.tc : Thread Cert.GateUpRefIdeal.nD Cert.GateUpRefIdeal.τ).loc Cert.GateUpRefIdeal.main_arg5)
          ∧ r.2.mem ((c.tc : Thread Cert.GateUpRefIdeal.nD Cert.GateUpRefIdeal.τ).loc Cert.GateUpRefIdeal.main_arg6) = m' ((c.tc : Thread Cert.GateUpRefIdeal.nD Cert.GateUpRefIdeal.τ).loc Cert.GateUpRefIdeal.main_arg6))

def preserves_InProj_InProjIdeal : Prop :=
  True

def algebraic_InProjIdeal_InProjRefIdeal_pre_in_proj_finite [hInProjIdeal : Cert.InProjIdeal.Facts] [hInProjRefIdeal : Cert.InProjRefIdeal.Facts] [hPre_in_proj_finite : Cert.Pre_in_proj_finite.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_in_proj_finite m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)) →
    ∃ (v0 : (c : Dev Cert.InProjIdeal.nD) → Buf (Elt Ideal) ((c.tc : Thread Cert.InProjIdeal.nD Cert.InProjIdeal.τ).loc Cert.InProjIdeal.main_v25_0)) (v1 : (c : Dev Cert.InProjIdeal.nD) → Buf (Elt Ideal) ((c.tc : Thread Cert.InProjIdeal.nD Cert.InProjIdeal.τ).loc Cert.InProjIdeal.main_v25_1)) (v2 : (c : Dev Cert.InProjIdeal.nD) → Buf (Elt Ideal) ((c.tc : Thread Cert.InProjIdeal.nD Cert.InProjIdeal.τ).loc Cert.InProjIdeal.main_v25_2)) (v3 : (c : Dev Cert.InProjIdeal.nD) → Buf (Elt Ideal) ((c.tc : Thread Cert.InProjIdeal.nD Cert.InProjIdeal.τ).loc Cert.InProjIdeal.main_v25_3)) (v4 : (c : Dev Cert.InProjIdeal.nD) → Buf (Elt Ideal) ((c.tc : Thread Cert.InProjIdeal.nD Cert.InProjIdeal.τ).loc Cert.InProjIdeal.main_v25_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v25_0) = v0 c
          ∧ r.2.mem ((c.tc : Thread Cert.InProjIdeal.nD Cert.InProjIdeal.τ).loc Cert.InProjIdeal.main_v25_1) = v1 c
          ∧ r.2.mem ((c.tc : Thread Cert.InProjIdeal.nD Cert.InProjIdeal.τ).loc Cert.InProjIdeal.main_v25_2) = v2 c
          ∧ r.2.mem ((c.tc : Thread Cert.InProjIdeal.nD Cert.InProjIdeal.τ).loc Cert.InProjIdeal.main_v25_3) = v3 c
          ∧ r.2.mem ((c.tc : Thread Cert.InProjIdeal.nD Cert.InProjIdeal.τ).loc Cert.InProjIdeal.main_v25_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v42) = v0 c
          ∧ r.2.mem ((c.tc : Thread Cert.InProjRefIdeal.nD Cert.InProjRefIdeal.τ).loc Cert.InProjRefIdeal.main_v41) = v1 c
          ∧ r.2.mem ((c.tc : Thread Cert.InProjRefIdeal.nD Cert.InProjRefIdeal.τ).loc Cert.InProjRefIdeal.main_v22) = v2 c
          ∧ r.2.mem ((c.tc : Thread Cert.InProjRefIdeal.nD Cert.InProjRefIdeal.τ).loc Cert.InProjRefIdeal.main_arg6) = v3 c
          ∧ r.2.mem ((c.tc : Thread Cert.InProjRefIdeal.nD Cert.InProjRefIdeal.τ).loc Cert.InProjRefIdeal.main_arg7) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7))

def preserves_OutProj_OutProjIdeal : Prop :=
  IdealRules.named_const.Statement Cert.OutProjIdeal.κ "gelu_cubic" .f32 0x3D372713#32 ((8943 / 200000 : ℝ) : EReal)

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v7_0)) (v1 : (c : Dev Cert.OutProjIdeal.nD) → Buf (Elt Ideal) ((c.tc : Thread Cert.OutProjIdeal.nD Cert.OutProjIdeal.τ).loc Cert.OutProjIdeal.main_v7_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v7_0) = v0 c
          ∧ r.2.mem ((c.tc : Thread Cert.OutProjIdeal.nD Cert.OutProjIdeal.τ).loc Cert.OutProjIdeal.main_v7_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v34) = v0 c
          ∧ r.2.mem ((c.tc : Thread Cert.OutProjRefIdeal.nD Cert.OutProjRefIdeal.τ).loc Cert.OutProjRefIdeal.main_v35) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_GateUpFwd_GateUpFwdIdeal : Prop :=
  True

def algebraic_GateUpFwdIdeal_GateUpFwdRefIdeal [hGateUpFwdIdeal : Cert.GateUpFwdIdeal.Facts] [hGateUpFwdRefIdeal : Cert.GateUpFwdRefIdeal.Facts] : Prop :=
  ∀ (m : (ℓ : Loc Cert.GateUpFwdIdeal.nD Cert.GateUpFwdIdeal.τ Cert.GateUpFwdIdeal.sig) → Buf (Elt Ideal) ℓ) (g : Dev Cert.GateUpFwdIdeal.nD → PrngReg)
    (m' : (ℓ : Loc Cert.GateUpFwdRefIdeal.nD Cert.GateUpFwdRefIdeal.τ Cert.GateUpFwdRefIdeal.sig) → Buf (Elt Ideal) ℓ) (g' : Dev Cert.GateUpFwdRefIdeal.nD → PrngReg), Pre_GateUpFwdIdeal m →
    (∀ c : Dev Cert.GateUpFwdIdeal.nD,
      m' ((c.tc : Thread Cert.GateUpFwdRefIdeal.nD Cert.GateUpFwdRefIdeal.τ).loc Cert.GateUpFwdRefIdeal.main_arg0) = m ((c.tc : Thread Cert.GateUpFwdIdeal.nD Cert.GateUpFwdIdeal.τ).loc Cert.GateUpFwdIdeal.main_arg0)
      ∧ m' ((c.tc : Thread Cert.GateUpFwdRefIdeal.nD Cert.GateUpFwdRefIdeal.τ).loc Cert.GateUpFwdRefIdeal.main_arg1) = m ((c.tc : Thread Cert.GateUpFwdIdeal.nD Cert.GateUpFwdIdeal.τ).loc Cert.GateUpFwdIdeal.main_arg1)
      ∧ m' ((c.tc : Thread Cert.GateUpFwdRefIdeal.nD Cert.GateUpFwdRefIdeal.τ).loc Cert.GateUpFwdRefIdeal.main_arg2) = m ((c.tc : Thread Cert.GateUpFwdIdeal.nD Cert.GateUpFwdIdeal.τ).loc Cert.GateUpFwdIdeal.main_arg2)
      ∧ m' ((c.tc : Thread Cert.GateUpFwdRefIdeal.nD Cert.GateUpFwdRefIdeal.τ).loc Cert.GateUpFwdRefIdeal.main_arg3) = m ((c.tc : Thread Cert.GateUpFwdIdeal.nD Cert.GateUpFwdIdeal.τ).loc Cert.GateUpFwdIdeal.main_arg3)) →
    ∃ (v0 : (c : Dev Cert.GateUpFwdIdeal.nD) → Buf (Elt Ideal) ((c.tc : Thread Cert.GateUpFwdIdeal.nD Cert.GateUpFwdIdeal.τ).loc Cert.GateUpFwdIdeal.main_v4_0)) (v1 : (c : Dev Cert.GateUpFwdIdeal.nD) → Buf (Elt Ideal) ((c.tc : Thread Cert.GateUpFwdIdeal.nD Cert.GateUpFwdIdeal.τ).loc Cert.GateUpFwdIdeal.main_v4_1)) (v2 : (c : Dev Cert.GateUpFwdIdeal.nD) → Buf (Elt Ideal) ((c.tc : Thread Cert.GateUpFwdIdeal.nD Cert.GateUpFwdIdeal.τ).loc Cert.GateUpFwdIdeal.main_v4_2)) (v3 : (c : Dev Cert.GateUpFwdIdeal.nD) → Buf (Elt Ideal) ((c.tc : Thread Cert.GateUpFwdIdeal.nD Cert.GateUpFwdIdeal.τ).loc Cert.GateUpFwdIdeal.main_v4_3)),
      θ_run (Cert.GateUpFwdIdeal.defs (F := Ideal)) (onTc (τ := Cert.GateUpFwdIdeal.τ) (Cert.GateUpFwdIdeal.main (F := Ideal))) ⟨m, fun _ => 0, g⟩ (fun r => ∀ c : Dev Cert.GateUpFwdIdeal.nD,
          r.2.mem ((c.tc : Thread Cert.GateUpFwdIdeal.nD Cert.GateUpFwdIdeal.τ).loc Cert.GateUpFwdIdeal.main_v4_0) = v0 c
          ∧ r.2.mem ((c.tc : Thread Cert.GateUpFwdIdeal.nD Cert.GateUpFwdIdeal.τ).loc Cert.GateUpFwdIdeal.main_v4_1) = v1 c
          ∧ r.2.mem ((c.tc : Thread Cert.GateUpFwdIdeal.nD Cert.GateUpFwdIdeal.τ).loc Cert.GateUpFwdIdeal.main_v4_2) = v2 c
          ∧ r.2.mem ((c.tc : Thread Cert.GateUpFwdIdeal.nD Cert.GateUpFwdIdeal.τ).loc Cert.GateUpFwdIdeal.main_v4_3) = v3 c
          ∧ r.2.mem ((c.tc : Thread Cert.GateUpFwdIdeal.nD Cert.GateUpFwdIdeal.τ).loc Cert.GateUpFwdIdeal.main_arg0) = m ((c.tc : Thread Cert.GateUpFwdIdeal.nD Cert.GateUpFwdIdeal.τ).loc Cert.GateUpFwdIdeal.main_arg0)
          ∧ r.2.mem ((c.tc : Thread Cert.GateUpFwdIdeal.nD Cert.GateUpFwdIdeal.τ).loc Cert.GateUpFwdIdeal.main_arg1) = m ((c.tc : Thread Cert.GateUpFwdIdeal.nD Cert.GateUpFwdIdeal.τ).loc Cert.GateUpFwdIdeal.main_arg1)
          ∧ r.2.mem ((c.tc : Thread Cert.GateUpFwdIdeal.nD Cert.GateUpFwdIdeal.τ).loc Cert.GateUpFwdIdeal.main_arg2) = m ((c.tc : Thread Cert.GateUpFwdIdeal.nD Cert.GateUpFwdIdeal.τ).loc Cert.GateUpFwdIdeal.main_arg2)
          ∧ r.2.mem ((c.tc : Thread Cert.GateUpFwdIdeal.nD Cert.GateUpFwdIdeal.τ).loc Cert.GateUpFwdIdeal.main_arg3) = m ((c.tc : Thread Cert.GateUpFwdIdeal.nD Cert.GateUpFwdIdeal.τ).loc Cert.GateUpFwdIdeal.main_arg3))
      ∧ θ_run (Cert.GateUpFwdRefIdeal.defs (F := Ideal)) (onTc (τ := Cert.GateUpFwdRefIdeal.τ) (Cert.GateUpFwdRefIdeal.main (F := Ideal))) ⟨m', fun _ => 0, g'⟩ (fun r => ∀ c : Dev Cert.GateUpFwdRefIdeal.nD,
          r.2.mem ((c.tc : Thread Cert.GateUpFwdRefIdeal.nD Cert.GateUpFwdRefIdeal.τ).loc Cert.GateUpFwdRefIdeal.main_v14) = v0 c
          ∧ r.2.mem ((c.tc : Thread Cert.GateUpFwdRefIdeal.nD Cert.GateUpFwdRefIdeal.τ).loc Cert.GateUpFwdRefIdeal.main_v15) = v1 c
          ∧ r.2.mem ((c.tc : Thread Cert.GateUpFwdRefIdeal.nD Cert.GateUpFwdRefIdeal.τ).loc Cert.GateUpFwdRefIdeal.main_v18) = v2 c
          ∧ r.2.mem ((c.tc : Thread Cert.GateUpFwdRefIdeal.nD Cert.GateUpFwdRefIdeal.τ).loc Cert.GateUpFwdRefIdeal.main_v19) = v3 c
          ∧ r.2.mem ((c.tc : Thread Cert.GateUpFwdRefIdeal.nD Cert.GateUpFwdRefIdeal.τ).loc Cert.GateUpFwdRefIdeal.main_arg0) = m' ((c.tc : Thread Cert.GateUpFwdRefIdeal.nD Cert.GateUpFwdRefIdeal.τ).loc Cert.GateUpFwdRefIdeal.main_arg0)
          ∧ r.2.mem ((c.tc : Thread Cert.GateUpFwdRefIdeal.nD Cert.GateUpFwdRefIdeal.τ).loc Cert.GateUpFwdRefIdeal.main_arg1) = m' ((c.tc : Thread Cert.GateUpFwdRefIdeal.nD Cert.GateUpFwdRefIdeal.τ).loc Cert.GateUpFwdRefIdeal.main_arg1)
          ∧ r.2.mem ((c.tc : Thread Cert.GateUpFwdRefIdeal.nD Cert.GateUpFwdRefIdeal.τ).loc Cert.GateUpFwdRefIdeal.main_arg2) = m' ((c.tc : Thread Cert.GateUpFwdRefIdeal.nD Cert.GateUpFwdRefIdeal.τ).loc Cert.GateUpFwdRefIdeal.main_arg2)
          ∧ r.2.mem ((c.tc : Thread Cert.GateUpFwdRefIdeal.nD Cert.GateUpFwdRefIdeal.τ).loc Cert.GateUpFwdRefIdeal.main_arg3) = m' ((c.tc : Thread Cert.GateUpFwdRefIdeal.nD Cert.GateUpFwdRefIdeal.τ).loc Cert.GateUpFwdRefIdeal.main_arg3))

def Claim : Prop :=
  ∃ (hOutBwd : Cert.OutBwd.Facts) (hOutBwdIdeal : Cert.OutBwdIdeal.Facts) (hOutBwdRefIdeal : Cert.OutBwdRefIdeal.Facts) (hLoss : Cert.Loss.Facts) (hLossIdeal : Cert.LossIdeal.Facts) (hLossRefIdeal : Cert.LossRefIdeal.Facts) (hSwiglu : Cert.Swiglu.Facts) (hSwigluIdeal : Cert.SwigluIdeal.Facts) (hSwigluRefIdeal : Cert.SwigluRefIdeal.Facts) (hGateUp : Cert.GateUp.Facts) (hGateUpIdeal : Cert.GateUpIdeal.Facts) (hGateUpRefIdeal : Cert.GateUpRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hGateUpFwd : Cert.GateUpFwd.Facts) (hGateUpFwdIdeal : Cert.GateUpFwdIdeal.Facts) (hGateUpFwdRefIdeal : Cert.GateUpFwdRefIdeal.Facts) (hPre_finite : Cert.Pre_finite.Facts) (hPre_loss_finite : Cert.Pre_loss_finite.Facts) (hPre_swiglu_finite : Cert.Pre_swiglu_finite.Facts) (hPre_gate_up_finite : Cert.Pre_gate_up_finite.Facts) (hPre_in_proj_finite : Cert.Pre_in_proj_finite.Facts),
    quiescent_OutBwd (hOutBwd := hOutBwd)
    ∧ quiescent_OutBwdIdeal (hOutBwdIdeal := hOutBwdIdeal)
    ∧ quiescent_OutBwdIdeal_pre_finite (hOutBwdIdeal := hOutBwdIdeal) (hPre_finite := hPre_finite)
    ∧ quiescent_OutBwdRefIdeal (hOutBwdRefIdeal := hOutBwdRefIdeal)
    ∧ quiescent_OutBwdRefIdeal_pre_finite (hOutBwdRefIdeal := hOutBwdRefIdeal) (hPre_finite := hPre_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Swiglu (hSwiglu := hSwiglu)
    ∧ quiescent_SwigluIdeal (hSwigluIdeal := hSwigluIdeal)
    ∧ quiescent_SwigluIdeal_pre_swiglu_finite (hSwigluIdeal := hSwigluIdeal) (hPre_swiglu_finite := hPre_swiglu_finite)
    ∧ quiescent_SwigluRefIdeal (hSwigluRefIdeal := hSwigluRefIdeal)
    ∧ quiescent_SwigluRefIdeal_pre_swiglu_finite (hSwigluRefIdeal := hSwigluRefIdeal) (hPre_swiglu_finite := hPre_swiglu_finite)
    ∧ quiescent_GateUp (hGateUp := hGateUp)
    ∧ quiescent_GateUpIdeal (hGateUpIdeal := hGateUpIdeal)
    ∧ quiescent_GateUpIdeal_pre_gate_up_finite (hGateUpIdeal := hGateUpIdeal) (hPre_gate_up_finite := hPre_gate_up_finite)
    ∧ quiescent_GateUpRefIdeal (hGateUpRefIdeal := hGateUpRefIdeal)
    ∧ quiescent_GateUpRefIdeal_pre_gate_up_finite (hGateUpRefIdeal := hGateUpRefIdeal) (hPre_gate_up_finite := hPre_gate_up_finite)
    ∧ quiescent_InProj (hInProj := hInProj)
    ∧ quiescent_InProjIdeal (hInProjIdeal := hInProjIdeal)
    ∧ quiescent_InProjIdeal_pre_in_proj_finite (hInProjIdeal := hInProjIdeal) (hPre_in_proj_finite := hPre_in_proj_finite)
    ∧ quiescent_InProjRefIdeal (hInProjRefIdeal := hInProjRefIdeal)
    ∧ quiescent_InProjRefIdeal_pre_in_proj_finite (hInProjRefIdeal := hInProjRefIdeal) (hPre_in_proj_finite := hPre_in_proj_finite)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_GateUpFwd (hGateUpFwd := hGateUpFwd)
    ∧ quiescent_GateUpFwdIdeal (hGateUpFwdIdeal := hGateUpFwdIdeal)
    ∧ quiescent_GateUpFwdRefIdeal (hGateUpFwdRefIdeal := hGateUpFwdRefIdeal)
    ∧ preserves_OutBwd_OutBwdIdeal
    ∧ algebraic_OutBwdIdeal_OutBwdRefIdeal_pre_finite (hOutBwdIdeal := hOutBwdIdeal) (hOutBwdRefIdeal := hOutBwdRefIdeal) (hPre_finite := hPre_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Swiglu_SwigluIdeal
    ∧ algebraic_SwigluIdeal_SwigluRefIdeal_pre_swiglu_finite (hSwigluIdeal := hSwigluIdeal) (hSwigluRefIdeal := hSwigluRefIdeal) (hPre_swiglu_finite := hPre_swiglu_finite)
    ∧ preserves_GateUp_GateUpIdeal
    ∧ algebraic_GateUpIdeal_GateUpRefIdeal_pre_gate_up_finite (hGateUpIdeal := hGateUpIdeal) (hGateUpRefIdeal := hGateUpRefIdeal) (hPre_gate_up_finite := hPre_gate_up_finite)
    ∧ preserves_InProj_InProjIdeal
    ∧ algebraic_InProjIdeal_InProjRefIdeal_pre_in_proj_finite (hInProjIdeal := hInProjIdeal) (hInProjRefIdeal := hInProjRefIdeal) (hPre_in_proj_finite := hPre_in_proj_finite)
    ∧ preserves_OutProj_OutProjIdeal
    ∧ algebraic_OutProjIdeal_OutProjRefIdeal (hOutProjIdeal := hOutProjIdeal) (hOutProjRefIdeal := hOutProjRefIdeal)
    ∧ preserves_GateUpFwd_GateUpFwdIdeal
    ∧ algebraic_GateUpFwdIdeal_GateUpFwdRefIdeal (hGateUpFwdIdeal := hGateUpFwdIdeal) (hGateUpFwdRefIdeal := hGateUpFwdRefIdeal)
-- ==== Pre_finite.lean ====
abbrev S2176x1024 : Shape := ⟨2, ![2176, 1024]⟩
abbrev S2176x4624 : Shape := ⟨2, ![2176, 4624]⟩
abbrev S1x1024 : Shape := ⟨2, ![1, 1024]⟩
abbrev S2048x1024 : Shape := ⟨2, ![2048, 1024]⟩
abbrev S_ : Shape := ⟨0, ![]⟩

class Facts : Prop where
  bcast_S_S2176x4624 : S_.BroadcastsInDim S2176x4624 (![] : Fin 0 → Fin S2176x4624.rank)
  reducesTo_S2176x4624_S_d0_1 : S2176x4624.ReducesTo [0, 1] S_
  h_S_ : 0 < S_.numel
  bcast_S_S2176x1024 : S_.BroadcastsInDim S2176x1024 (![] : Fin 0 → Fin S2176x1024.rank)
  reducesTo_S2176x1024_S_d0_1 : S2176x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg5 : FVec F S2176x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2176x1024 .f32 := Host.absf main_arg5
  let main_cst_6 : FVec F S_ .f32 := constant S_ .f32 0x7F800000#32
  let main_v20 : FVec F S2176x1024 .f32 := broadcastInDim S2176x1024 ![] bcast_S_S2176x1024 main_cst_6
  let main_v21 : IVec S2176x1024 1 := cmpf .olt main_v19 main_v20
  let main_c_7 : IVec S_ 1 := constantI S_ 1 1#1
  let main_v22 : IVec S_ 1 := (fun x v => Host.reduce IntOp.andi x v reducesTo_S2176x1024_S_d0_1 h_S_) main_v21 main_c_7
  let main_v23 : IVec S_ 1 := andi main_v18 main_v22
  main_v23

def fn {F : FTy → Type} [FloatOps F] (main_arg0 : FVec F S2176x1024 .f32) (main_arg1 : FVec F S2176x4624 .f32) (main_arg2 : FVec F S2176x1024 .f32) (main_arg3 : FVec F S1x1024 .f32) (main_arg4 : FVec F S2048x1024 .f32) (main_arg5 : FVec F S2176x1024 .f32) : IVec S_ 1 :=
  let main_v0 : FVec F S2176x4624 .f32 := Host.absf main_arg1
  let main_cst : FVec F S_ .f32 := constant S_ .f32 0x7F800000#32
  let main_v1 : FVec F S2176x4624 .f32 := broadcastInDim S2176x4624 ![] bcast_S_S2176x4624 main_cst
  let main_v2 : IVec S2176x4624 1 := cmpf .olt main_v0 main_v1
  let main_c : IVec S_ 1 := constantI S_ 1 1#1
  let main_v3 : IVec S_ 1 := (fun x v => Host.reduce IntOp.andi x v reducesTo_S2176x4624_S_d0_1 h_S_) main_v2 main_c
  let main_v4 : FVec F S2176x1024 .f32 := Host.absf main_arg2
  let main_cst_0 : FVec F S_ .f32 := constant S_ .f32 0x7F800000#32
  let main_v5 : FVec F S2176x1024 .f32 := broadcastInDim S2176x1024 ![] bcast_S_S2176x1024 main_cst_0
  let main_v6 : IVec S2176x1024 1 := cmpf .olt main_v4 main_v5
  let main_c_1 : IVec S_ 1 := constantI S_ 1 1#1
  let main_v7 : IVec S_ 1 := (fun x v => Host.reduce IntOp.andi x v reducesTo_S2176x1024_S_d0_1 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S2048x1024 .f32 := Host.absf main_arg4
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg5 main_v13 main_v16
-- ==== Pre_gate_up_finite.lean ====
abbrev S2176x1024 : Shape := ⟨2, ![2176, 1024]⟩
abbrev S1x1024 : Shape := ⟨2, ![1, 1024]⟩
abbrev S1024x2816 : Shape := ⟨2, ![1024, 2816]⟩
abbrev S2176x2816 : Shape := ⟨2, ![2176, 2816]⟩
abbrev S_ : Shape := ⟨0, ![]⟩

class Facts : Prop where
  bcast_S_S2176x1024 : S_.BroadcastsInDim S2176x1024 (![] : Fin 0 → Fin S2176x1024.rank)
  reducesTo_S2176x1024_S_d0_1 : S2176x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2176x2816 : S_.BroadcastsInDim S2176x2816 (![] : Fin 0 → Fin S2176x2816.rank)
  reducesTo_S2176x2816_S_d0_1 : S2176x2816.ReducesTo [0, 1] S_

variable [Facts]

def fn_part1 {F : FTy → Type} [FloatOps F] (main_arg4 : FVec F S2176x2816 .f32) (main_arg5 : FVec F S2176x2816 .f32) (main_arg6 : FVec F S2176x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2176x2816 .f32 := Host.absf main_arg4
  let main_cst_6 : FVec F S_ .f32 := constant S_ .f32 0x7F800000#32
  let main_v20 : FVec F S2176x2816 .f32 := broadcastInDim S2176x2816 ![] bcast_S_S2176x2816 main_cst_6
  let main_v21 : IVec S2176x2816 1 := cmpf .olt main_v19 main_v20
  let main_c_7 : IVec S_ 1 := constantI S_ 1 1#1
  let main_v22 : IVec S_ 1 := (fun x v => Host.reduce IntOp.andi x v reducesTo_S2176x2816_S_d0_1 h_S_) main_v21 main_c_7
  let main_v23 : IVec S_ 1 := andi main_v18 main_v22
  let main_v24 : FVec F S2176x2816 .f32 := Host.absf main_arg5
  let main_cst_8 : FVec F S_ .f32 := constant S_ .f32 0x7F800000#32
  let main_v25 : FVec F S2176x2816 .f32 := broadcastInDim S2176x2816 ![] bcast_S_S2176x2816 main_cst_8
  let main_v26 : IVec S2176x2816 1 := cmpf .olt main_v24 main_v25
  let main_c_9 : IVec S_ 1 := constantI S_ 1 1#1
  let main_v27 : IVec S_ 1 := (fun x v => Host.reduce IntOp.andi x v reducesTo_S2176x2816_S_d0_1 h_S_) main_v26 main_c_9
  let main_v28 : IVec S_ 1 := andi main_v23 main_v27
  let main_v29 : FVec F S2176x1024 .f32 := Host.absf main_arg6
  let main_cst_10 : FVec F S_ .f32 := constant S_ .f32 0x7F800000#32
  let main_v30 : FVec F S2176x1024 .f32 := broadcastInDim S2176x1024 ![] bcast_S_S2176x1024 main_cst_10
  let main_v31 : IVec S2176x1024 1 := cmpf .olt main_v29 main_v30
  let main_c_11 : IVec S_ 1 := constantI S_ 1 1#1
  let main_v32 : IVec S_ 1 := (fun x v => Host.reduce IntOp.andi x v reducesTo_S2176x1024_S_d0_1 h_S_) main_v31 main_c_11
  let main_v33 : IVec S_ 1 := andi main_v28 main_v32
  main_v33

def fn {F : FTy → Type} [FloatOps F] (main_arg0 : FVec F S2176x1024 .f32) (main_arg1 : FVec F S1x1024 .f32) (main_arg2 : FVec F S1024x2816 .f32) (main_arg3 : FVec F S1024x2816 .f32) (main_arg4 : FVec F S2176x2816 .f32) (main_arg5 : FVec F S2176x2816 .f32) (main_arg6 : FVec F S2176x1024 .f32) : IVec S_ 1 :=
  let main_v0 : FVec F S2176x1024 .f32 := Host.absf main_arg0
  let main_cst : FVec F S_ .f32 := constant S_ .f32 0x7F800000#32
  let main_v1 : FVec F S2176x1024 .f32 := broadcastInDim S2176x1024 ![] bcast_S_S2176x1024 main_cst
  let main_v2 : IVec S2176x1024 1 := cmpf .olt main_v0 main_v1
  let main_c : IVec S_ 1 := constantI S_ 1 1#1
  let main_v3 : IVec S_ 1 := (fun x v => Host.reduce IntOp.andi x v reducesTo_S2176x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_v13 main_v16
-- ==== Pre_in_proj_finite.lean ====
abbrev S2048x1024 : Shape := ⟨2, ![2048, 1024]⟩
abbrev S16x1024 : Shape := ⟨2, ![16, 1024]⟩
abbrev S1x1024 : Shape := ⟨2, ![1, 1024]⟩
abbrev S1024x4624 : Shape := ⟨2, ![1024, 4624]⟩
abbrev S2176x4624 : Shape := ⟨2, ![2176, 4624]⟩
abbrev S2176x1024 : Shape := ⟨2, ![2176, 1024]⟩
abbrev S8x128x128 : Shape := ⟨3, ![8, 128, 128]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x4624 : S_.BroadcastsInDim S1024x4624 (![] : Fin 0 → Fin S1024x4624.rank)
  reducesTo_S1024x4624_S_d0_1 : S1024x4624.ReducesTo [0, 1] S_
  bcast_S_S2176x4624 : S_.BroadcastsInDim S2176x4624 (![] : Fin 0 → Fin S2176x4624.rank)
  reducesTo_S2176x4624_S_d0_1 : S2176x4624.ReducesTo [0, 1] S_
  bcast_S_S2176x1024 : S_.BroadcastsInDim S2176x1024 (![] : Fin 0 → Fin S2176x1024.rank)
  reducesTo_S2176x1024_S_d0_1 : S2176x1024.ReducesTo [0, 1] S_

variable [Facts]

def fn_part1 {F : FTy → Type} [FloatOps F] (main_arg4 : FVec F S2176x4624 .f32) (main_arg5 : FVec F S2176x1024 .f32) (main_v13 : IVec S_ 1) (main_v16 : IVec S1024x4624 1) : IVec S_ 1 :=
  let main_c_5 : IVec S_ 1 := constantI S_ 1 1#1
  let main_v17 : IVec S_ 1 := (fun x v => Host.reduce IntOp.andi x v reducesTo_S1024x4624_S_d0_1 h_S_) main_v16 main_c_5
  let main_v18 : IVec S_ 1 := andi main_v13 main_v17
  let main_v19 : FVec F S2176x4624 .f32 := Host.absf main_arg4
  let main_cst_6 : FVec F S_ .f32 := constant S_ .f32 0x7F800000#32
  let main_v20 : FVec F S2176x4624 .f32 := broadcastInDim S2176x4624 ![] bcast_S_S2176x4624 main_cst_6
  let main_v21 : IVec S2176x4624 1 := cmpf .olt main_v19 main_v20
  let main_c_7 : IVec S_ 1 := constantI S_ 1 1#1
  let main_v22 : IVec S_ 1 := (fun x v => Host.reduce IntOp.andi x v reducesTo_S2176x4624_S_d0_1 h_S_) main_v21 main_c_7
  let main_v23 : IVec S_ 1 := andi main_v18 main_v22
  let main_v24 : FVec F S2176x1024 .f32 := Host.absf main_arg5
  let main_cst_8 : FVec F S_ .f32 := constant S_ .f32 0x7F800000#32
  let main_v25 : FVec F S2176x1024 .f32 := broadcastInDim S2176x1024 ![] bcast_S_S2176x1024 main_cst_8
  let main_v26 : IVec S2176x1024 1 := cmpf .olt main_v24 main_v25
  let main_c_9 : IVec S_ 1 := constantI S_ 1 1#1
  let main_v27 : IVec S_ 1 := (fun x v => Host.reduce IntOp.andi x v reducesTo_S2176x1024_S_d0_1 h_S_) main_v26 main_c_9
  let main_v28 : IVec S_ 1 := andi main_v23 main_v27
  main_v28

def fn {F : FTy → Type} [FloatOps F] (main_arg0 : FVec F S2048x1024 .f32) (main_arg1 : FVec F S16x1024 .f32) (main_arg2 : FVec F S1x1024 .f32) (main_arg3 : FVec F S1024x4624 .f32) (main_arg4 : FVec F S2176x4624 .f32) (main_arg5 : FVec F S2176x1024 .f32) (main_arg6 : FVec F S8x128x128 .f32) (main_arg7 : FVec F S8x128x128 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x4624 .f32 := Host.absf main_arg3
  let main_cst_4 : FVec F S_ .f32 := constant S_ .f32 0x7F800000#32
  let main_v15 : FVec F S1024x4624 .f32 := broadcastInDim S1024x4624 ![] bcast_S_S1024x4624 main_cst_4
  let main_v16 : IVec S1024x4624 1 := cmpf .olt main_v14 main_v15
  fn_part1 (F := F) main_arg4 main_arg5 main_v13 main_v16
-- ==== Pre_loss_finite.lean ====
abbrev S2176x2816 : Shape := ⟨2, ![2176, 2816]⟩
abbrev S2816x1024 : Shape := ⟨2, ![2816, 1024]⟩
abbrev S2176x1024 : Shape := ⟨2, ![2176, 1024]⟩
abbrev S2048x1024 : Shape := ⟨2, ![2048, 1024]⟩
abbrev S1x1024 : Shape := ⟨2, ![1, 1024]⟩
abbrev S_ : Shape := ⟨0, ![]⟩

class Facts : Prop where
  bcast_S_S2176x2816 : S_.BroadcastsInDim S2176x2816 (![] : Fin 0 → Fin S2176x2816.rank)
  reducesTo_S2176x2816_S_d0_1 : S2176x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2176x1024 : S_.BroadcastsInDim S2176x1024 (![] : Fin 0 → Fin S2176x1024.rank)
  reducesTo_S2176x1024_S_d0_1 : S2176x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S2176x2816 .f32) (main_arg1 : FVec F S2816x1024 .f32) (main_arg2 : FVec F S2176x1024 .f32) (main_arg3 : FVec F S2048x1024 .f32) (main_arg4 : FVec F S1x1024 .f32) : IVec S_ 1 :=
  let main_v0 : FVec F S2176x2816 .f32 := Host.absf main_arg0
  let main_cst : FVec F S_ .f32 := constant S_ .f32 0x7F800000#32
  let main_v1 : FVec F S2176x2816 .f32 := broadcastInDim S2176x2816 ![] bcast_S_S2176x2816 main_cst
  let main_v2 : IVec S2176x2816 1 := cmpf .olt main_v0 main_v1
  let main_c : IVec S_ 1 := constantI S_ 1 1#1
  let main_v3 : IVec S_ 1 := (fun x v => Host.reduce IntOp.andi x v reducesTo_S2176x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S2176x1024 .f32 := Host.absf main_arg2
  let main_cst_2 : FVec F S_ .f32 := constant S_ .f32 0x7F800000#32
  let main_v10 : FVec F S2176x1024 .f32 := broadcastInDim S2176x1024 ![] bcast_S_S2176x1024 main_cst_2
  let main_v11 : IVec S2176x1024 1 := cmpf .olt main_v9 main_v10
  let main_c_3 : IVec S_ 1 := constantI S_ 1 1#1
  let main_v12 : IVec S_ 1 := (fun x v => Host.reduce IntOp.andi x v reducesTo_S2176x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_v13 main_v16
-- ==== Pre_swiglu_finite.lean ====
abbrev S2176x1024 : Shape := ⟨2, ![2176, 1024]⟩
abbrev S1024x2816 : Shape := ⟨2, ![1024, 2816]⟩
abbrev S2816x1024 : Shape := ⟨2, ![2816, 1024]⟩
abbrev S_ : Shape := ⟨0, ![]⟩

class Facts : Prop where
  bcast_S_S2176x1024 : S_.BroadcastsInDim S2176x1024 (![] : Fin 0 → Fin S2176x1024.rank)
  reducesTo_S2176x1024_S_d0_1 : S2176x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2176x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S2176x1024 .f32 := Host.absf main_arg4
  let main_cst_6 : FVec F S_ .f32 := constant S_ .f32 0x7F800000#32
  let main_v20 : FVec F S2176x1024 .f32 := broadcastInDim S2176x1024 ![] bcast_S_S2176x1024 main_cst_6
  let main_v21 : IVec S2176x1024 1 := cmpf .olt main_v19 main_v20
  let main_c_7 : IVec S_ 1 := constantI S_ 1 1#1
  let main_v22 : IVec S_ 1 := (fun x v => Host.reduce IntOp.andi x v reducesTo_S2176x1024_S_d0_1 h_S_) main_v21 main_c_7
  let main_v23 : IVec S_ 1 := andi main_v18 main_v22
  main_v23

def fn {F : FTy → Type} [FloatOps F] (main_arg0 : FVec F S2176x1024 .f32) (main_arg1 : FVec F S1024x2816 .f32) (main_arg2 : FVec F S1024x2816 .f32) (main_arg3 : FVec F S2816x1024 .f32) (main_arg4 : FVec F S2176x1024 .f32) : IVec S_ 1 :=
  let main_v0 : FVec F S2176x1024 .f32 := Host.absf main_arg0
  let main_cst : FVec F S_ .f32 := constant S_ .f32 0x7F800000#32
  let main_v1 : FVec F S2176x1024 .f32 := broadcastInDim S2176x1024 ![] bcast_S_S2176x1024 main_cst
  let main_v2 : IVec S2176x1024 1 := cmpf .olt main_v0 main_v1
  let main_c : IVec S_ 1 := constantI S_ 1 1#1
  let main_v3 : IVec S_ 1 := (fun x v => Host.reduce IntOp.andi x v reducesTo_S2176x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== OutBwd.lean ====
abbrev S2176x1024 : Shape := ⟨2, ![2176, 1024]⟩
abbrev S2176x4624 : Shape := ⟨2, ![2176, 4624]⟩
abbrev S1x1024 : Shape := ⟨2, ![1, 1024]⟩
abbrev S2048x1024 : Shape := ⟨2, ![2048, 1024]⟩
abbrev S2176x2048 : Shape := ⟨2, ![2176, 2048]⟩
abbrev S2176x1536 : Shape := ⟨2, ![2176, 1536]⟩
abbrev S2176x4608 : Shape := ⟨2, ![2176, 4608]⟩
abbrev S_ : Shape := ⟨0, ![]⟩
abbrev S8x128 : Shape := ⟨2, ![8, 128]⟩
abbrev S544x1024 : Shape := ⟨2, ![544, 1024]⟩
abbrev S512x1024 : Shape := ⟨2, ![512, 1024]⟩
abbrev S544x512 : Shape := ⟨2, ![544, 512]⟩
abbrev S272x1024 : Shape := ⟨2, ![272, 1024]⟩
abbrev S272 : Shape := ⟨1, ![272]⟩
abbrev S272x1 : Shape := ⟨2, ![272, 1]⟩
abbrev S1024 : Shape := ⟨1, ![1024]⟩

abbrev nBuf : Space → Nat
  | .hbm => 19
  | .vmem => 16
  | .smem => 0
  | _ => 0

abbrev bufTy : (tb : Table) → Fin (tcTables nBuf tb) → BufTy
  | .hbm, ⟨0, _⟩ => ⟨S2176x1024, .f32⟩
  | .hbm, ⟨1, _⟩ => ⟨S2176x4624, .f32⟩
  | .hbm, ⟨2, _⟩ => ⟨S2176x1024, .f32⟩
  | .hbm, ⟨3, _⟩ => ⟨S1x1024, .f32⟩
  | .hbm, ⟨4, _⟩ => ⟨S2048x1024, .f32⟩
  | .hbm, ⟨5, _⟩ => ⟨S2176x1024, .f32⟩
  | .hbm, ⟨6, _⟩ => ⟨S2176x1024, .f32⟩
  | .hbm, ⟨7, _⟩ => ⟨S2176x2048, .f32⟩
  | .hbm, ⟨8, _⟩ => ⟨S2176x1536, .f32⟩
  | .hbm, ⟨9, _⟩ => ⟨S2176x4608, .f32⟩
  | .hbm, ⟨10, _⟩ => ⟨S2176x4608, .bf16⟩
  | .hbm, ⟨11, _⟩ => ⟨S2176x1024, .bf16⟩
  | .hbm, ⟨12, _⟩ => ⟨S2048x1024, .bf16⟩
  | .hbm, ⟨13, _⟩ => ⟨S_, .f32⟩
  | .hbm, ⟨14, _⟩ => ⟨S8x128, .f32⟩
  | .hbm, ⟨15, _⟩ => ⟨S2176x1024, .f32⟩
  | .hbm, ⟨16, _⟩ => ⟨S2176x1024, .f32⟩
  | .hbm, ⟨17, _⟩ => ⟨S2176x1024, .bf16⟩
  | .hbm, ⟨18, _⟩ => ⟨S1x1024, .f32⟩
  | .local _ .vmem, ⟨0, _⟩ => ⟨S544x1024, .bf16⟩
  | .local _ .vmem, ⟨1, _⟩ => ⟨S544x1024, .bf16⟩
  | .local _ .vmem, ⟨2, _⟩ => ⟨S2048x1024, .bf16⟩
  | .local _ .vmem, ⟨3, _⟩ => ⟨S544x1024, .bf16⟩
  | .local _ .vmem, ⟨4, _⟩ => ⟨S544x1024, .bf16⟩
  | .local _ .vmem, ⟨5, _⟩ => ⟨S544x1024, .f32⟩
  | .local _ .vmem, ⟨6, _⟩ => ⟨S544x1024, .f32⟩
  | .local _ .vmem, ⟨7, _⟩ => ⟨S1x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .f32⟩
  | .local _ .vmem, ⟨12, _⟩ => ⟨S544x1024, .bf16⟩
  | .local _ .vmem, ⟨13, _⟩ => ⟨S544x1024, .bf16⟩
  | .local _ .vmem, ⟨14, _⟩ => ⟨S1x1024, .f32⟩
  | .local _ .vmem, ⟨15, _⟩ => ⟨S544x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_1 : BitVec 32 := 0#32
  let c2_i32 : BitVec 32 := 2#32
  let v3 : BitVec 32 := Scalar.addi c0_i32_1 c2_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c512_i32 : BitVec 32 := 512#32
  let v168 : BitVec 32 := Scalar.muli arg12 c512_i32
  v168
def k0_off1 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c512_i32 : BitVec 32 := 512#32
  let v168 : BitVec 32 := Scalar.muli arg12 c512_i32
  let v169 : BitVec 32 := v168
  let v172 : Index := Scalar.indexCast v169
  let c0_72 : Index := 0#32
  ![v172.toNat, 0]
def k0_off2 (k0_t1 : Fin k0_t1_loop.trips) : Fin 2 → Nat :=
  let c0_74 : Index := 0#32
  let c0_i32_1 : BitVec 32 := 0#32
  let c1_i32 : BitVec 32 := 1#32
  let arg12 : BitVec 32 := Scf.iv c0_i32_1 c1_i32 k0_t1
  let c512_i32 : BitVec 32 := 512#32
  let v168 : BitVec 32 := Scalar.muli arg12 c512_i32
  let v169 : BitVec 32 := v168
  let v176 : Index := Scalar.indexCast v169
  ![0, v176.toNat]
def k0_off3 (k0_t1 : Fin k0_t1_loop.trips) : Fin 2 → Nat :=
  let c1024_i32 : BitVec 32 := 1024#32
  let c0_i32_1 : BitVec 32 := 0#32
  let c1_i32 : BitVec 32 := 1#32
  let arg12 : BitVec 32 := Scf.iv c0_i32_1 c1_i32 k0_t1
  let c512_i32 : BitVec 32 := 512#32
  let v168 : BitVec 32 := Scalar.muli arg12 c512_i32
  let v169 : BitVec 32 := v168
  let v180 : BitVec 32 := Scalar.addi c1024_i32 v169
  let v181 : Index := Scalar.indexCast v180
  let c0_77 : Index := 0#32
  ![v181.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== OutBwdIdeal.lean ====
variable {F : FTy → Type} [FloatOps F] [Named F]
def κ : String → Option EReal := fun
  | "gelu_cubic" => some ((8943 / 200000 : ℝ) : EReal)
  | "gelu_cubic3" => some ((26829 / 200000 : ℝ) : EReal)
  | _ => none
-- ==== OutBwdRefIdeal.lean ====
abbrev S2176x1024 : Shape := ⟨2, ![2176, 1024]⟩
abbrev S2176x4624 : Shape := ⟨2, ![2176, 4624]⟩
abbrev S1x1024 : Shape := ⟨2, ![1, 1024]⟩
abbrev S2048x1024 : Shape := ⟨2, ![2048, 1024]⟩
abbrev S2176x1536 : Shape := ⟨2, ![2176, 1536]⟩
abbrev S2176x16 : Shape := ⟨2, ![2176, 16]⟩
abbrev S_ : Shape := ⟨0, ![]⟩
abbrev S2176 : Shape := ⟨1, ![2176]⟩
abbrev S2176x1 : Shape := ⟨2, ![2176, 1]⟩
abbrev S2176x2048 : Shape := ⟨2, ![2176, 2048]⟩
abbrev S1024 : Shape := ⟨1, ![1024]⟩

abbrev nBuf : Space → Nat
  | .hbm => 106
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x4624, .f32⟩
  | .hbm, ⟨2, _⟩ => ⟨S2176x1024, .f32⟩
  | .hbm, ⟨3, _⟩ => ⟨S1x1024, .f32⟩
  | .hbm, ⟨4, _⟩ => ⟨S2048x1024, .f32⟩
  | .hbm, ⟨5, _⟩ => ⟨S2176x1024, .f32⟩
  | .hbm, ⟨6, _⟩ => ⟨S2176x1024, .f32⟩
  | .hbm, ⟨7, _⟩ => ⟨S2176x1536, .f32⟩
  | .hbm, ⟨8, _⟩ => ⟨S2176x16, .f32⟩
  | .hbm, ⟨9, _⟩ => ⟨S2176x1024, .f32⟩
  | .hbm, ⟨10, _⟩ => ⟨S2176x1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2176x1024, .f32⟩
  | .hbm, ⟨15, _⟩ => ⟨S2176x1024, .f32⟩
  | .hbm, ⟨16, _⟩ => ⟨S2176x1024, .f32⟩
  | .hbm, ⟨17, _⟩ => ⟨S_, .f32⟩
  | .hbm, ⟨18, _⟩ => ⟨S2176x1024, .f32⟩
  | .hbm, ⟨19, _⟩ => ⟨S2176x1024, .f32⟩
  | .hbm, ⟨20, _⟩ => ⟨S2176x1024, .f32⟩
  | .hbm, ⟨21, _⟩ => ⟨S2176x1024, .f32⟩
  | .hbm, ⟨22, _⟩ => ⟨S2176x1024, .f32⟩
  | .hbm, ⟨23, _⟩ => ⟨S_, .f32⟩
  | .hbm, ⟨24, _⟩ => ⟨S2176x1024, .f32⟩
  | .hbm, ⟨25, _⟩ => ⟨S2176x1024, .f32⟩
  | .hbm, ⟨26, _⟩ => ⟨S2176x1024, .f32⟩
  | .hbm, ⟨27, _⟩ => ⟨S_, .f32⟩
  | .hbm, ⟨28, _⟩ => ⟨S2176x1024, .f32⟩
  | .hbm, ⟨29, _⟩ => ⟨S2176x1024, .f32⟩
  | .hbm, ⟨30, _⟩ => ⟨S_, .f32⟩
  | .hbm, ⟨31, _⟩ => ⟨S2176x1024, .f32⟩
  | .hbm, ⟨32, _⟩ => ⟨S2176x1024, .f32⟩
  | .hbm, ⟨33, _⟩ => ⟨S2176x1024, .f32⟩
  | .hbm, ⟨34, _⟩ => ⟨S_, .f32⟩
  | .hbm, ⟨35, _⟩ => ⟨S2176x1024, .f32⟩
  | .hbm, ⟨36, _⟩ => ⟨S2176x1024, .f32⟩
  | .hbm, ⟨37, _⟩ => ⟨S_, .f32⟩
  | .hbm, ⟨38, _⟩ => ⟨S2176x1024, .f32⟩
  | .hbm, ⟨39, _⟩ => ⟨S2176x1024, .f32⟩
  | .hbm, ⟨40, _⟩ => ⟨S2176x1024, .f32⟩
  | .hbm, ⟨41, _⟩ => ⟨S2176x1024, .f32⟩
  | .hbm, ⟨42, _⟩ => ⟨S2176x1024, .f32⟩
  | .hbm, ⟨43, _⟩ => ⟨S_, .f32⟩
  | .hbm, ⟨44, _⟩ => ⟨S2176, .f32⟩
  | .hbm, ⟨45, _⟩ => ⟨S2176x1, .f32⟩
  | .hbm, ⟨46, _⟩ => ⟨S_, .f32⟩
  | .hbm, ⟨47, _⟩ => ⟨S2176x1, .f32⟩
  | .hbm, ⟨48, _⟩ => ⟨S2176x1, .f32⟩
  | .hbm, ⟨49, _⟩ => ⟨S_, .f32⟩
  | .hbm, ⟨50, _⟩ => ⟨S2176x1, .f32⟩
  | .hbm, ⟨51, _⟩ => ⟨S2176x1, .f32⟩
  | .hbm, ⟨52, _⟩ => ⟨S2176x1, .f32⟩
  | .hbm, ⟨53, _⟩ => ⟨S2176x1, .f32⟩
  | .hbm, ⟨54, _⟩ => ⟨S_, .f32⟩
  | .hbm, ⟨55, _⟩ => ⟨S2176x1, .f32⟩
  | .hbm, ⟨56, _⟩ => ⟨S2176x1, .f32⟩
  | .hbm, ⟨57, _⟩ => ⟨S2176x1024, .f32⟩
  | .hbm, ⟨58, _⟩ => ⟨S2176x1024, .f32⟩
  | .hbm, ⟨59, _⟩ => ⟨S2176x1024, .f32⟩
  | .hbm, ⟨60, _⟩ => ⟨S2176x1024, .f32⟩
  | .hbm, ⟨61, _⟩ => ⟨S2176x2048, .f32⟩
  | .hbm, ⟨62, _⟩ => ⟨S2176x1024, .f32⟩
  | .hbm, ⟨63, _⟩ => ⟨S2176x2048, .f32⟩
  | .hbm, ⟨64, _⟩ => ⟨S2176x1024, .f32⟩
  | .hbm, ⟨65, _⟩ => ⟨S2176x1024, .f32⟩
  | .hbm, ⟨66, _⟩ => ⟨S2176x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S2176x1024, .f32⟩
  | .hbm, ⟨71, _⟩ => ⟨S2176x1024, .f32⟩
  | .hbm, ⟨72, _⟩ => ⟨S2176x1024, .f32⟩
  | .hbm, ⟨73, _⟩ => ⟨S_, .f32⟩
  | .hbm, ⟨74, _⟩ => ⟨S2176, .f32⟩
  | .hbm, ⟨75, _⟩ => ⟨S2176x1, .f32⟩
  | .hbm, ⟨76, _⟩ => ⟨S2176x1024, .f32⟩
  | .hbm, ⟨77, _⟩ => ⟨S2176x1024, .f32⟩
  | .hbm, ⟨78, _⟩ => ⟨S2176x1, .f32⟩
  | .hbm, ⟨79, _⟩ => ⟨S_, .f32⟩
  | .hbm, ⟨80, _⟩ => ⟨S2176x1, .f32⟩
  | .hbm, ⟨81, _⟩ => ⟨S2176x1, .f32⟩
  | .hbm, ⟨82, _⟩ => ⟨S_, .f32⟩
  | .hbm, ⟨83, _⟩ => ⟨S2176, .f32⟩
  | .hbm, ⟨84, _⟩ => ⟨S2176x1024, .f32⟩
  | .hbm, ⟨85, _⟩ => ⟨S2176x1024, .f32⟩
  | .hbm, ⟨86, _⟩ => ⟨S2176x1024, .f32⟩
  | .hbm, ⟨87, _⟩ => ⟨S2176x1024, .f32⟩
  | .hbm, ⟨88, _⟩ => ⟨S2176x1024, .f32⟩
  | .hbm, ⟨89, _⟩ => ⟨S2176x1024, .f32⟩
  | .hbm, ⟨90, _⟩ => ⟨S2176x1024, .f32⟩
  | .hbm, ⟨91, _⟩ => ⟨S2176x1024, .f32⟩
  | .hbm, ⟨92, _⟩ => ⟨S2176x1024, .f32⟩
  | .hbm, ⟨93, _⟩ => ⟨S_, .f32⟩
  | .hbm, ⟨94, _⟩ => ⟨S2176x1024, .f32⟩
  | .hbm, ⟨95, _⟩ => ⟨S2176x1024, .f32⟩
  | .hbm, ⟨96, _⟩ => ⟨S2176x1024, .f32⟩
  | .hbm, ⟨97, _⟩ => ⟨S_, .f32⟩
  | .hbm, ⟨98, _⟩ => ⟨S2176x1024, .f32⟩
  | .hbm, ⟨99, _⟩ => ⟨S2176x1024, .f32⟩
  | .hbm, ⟨100, _⟩ => ⟨S2176x1024, .f32⟩
  | .hbm, ⟨101, _⟩ => ⟨S2176x1024, .f32⟩
  | .hbm, ⟨102, _⟩ => ⟨S2176x1024, .f32⟩
  | .hbm, ⟨103, _⟩ => ⟨S2176x1024, .f32⟩
  | .hbm, ⟨104, _⟩ => ⟨S2176x1024, .f32⟩
  | .hbm, ⟨105, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_13 : Ref sig .tc := ⟨.hbm, 79, rfl⟩
abbrev main_v59 : Ref sig .tc := ⟨.hbm, 80, rfl⟩
abbrev main_v60 : Ref sig .tc := ⟨.hbm, 81, rfl⟩
abbrev main_cst_14 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_16 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩

abbrev nD : Nat := 1
abbrev τ : Topo := Topo.v7x

variable {F : FTy → Type} [FloatOps F]
-- ==== Loss.lean ====
abbrev S2176x2816 : Shape := ⟨2, ![2176, 2816]⟩
abbrev S2816x1024 : Shape := ⟨2, ![2816, 1024]⟩
abbrev S2176x1024 : Shape := ⟨2, ![2176, 1024]⟩
abbrev S2048x1024 : Shape := ⟨2, ![2048, 1024]⟩
abbrev S1x1024 : Shape := ⟨2, ![1, 1024]⟩
abbrev S1x128 : Shape := ⟨2, ![1, 128]⟩
abbrev S544x2816 : Shape := ⟨2, ![544, 2816]⟩
abbrev S544x1024 : Shape := ⟨2, ![544, 1024]⟩
abbrev S_ : Shape := ⟨0, ![]⟩
abbrev S128x1024 : Shape := ⟨2, ![128, 1024]⟩
abbrev S416x1024 : Shape := ⟨2, ![416, 1024]⟩
abbrev S544x512 : Shape := ⟨2, ![544, 512]⟩
abbrev S2816x512 : Shape := ⟨2, ![2816, 512]⟩
abbrev S272x1024 : Shape := ⟨2, ![272, 1024]⟩
abbrev S272 : Shape := ⟨1, ![272]⟩
abbrev S272x1 : Shape := ⟨2, ![272, 1]⟩
abbrev S1 : Shape := ⟨1, ![1]⟩
abbrev S1x1 : Shape := ⟨2, ![1, 1]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S2176x2816, .f32⟩
  | .hbm, ⟨1, _⟩ => ⟨S2816x1024, .f32⟩
  | .hbm, ⟨2, _⟩ => ⟨S2176x1024, .f32⟩
  | .hbm, ⟨3, _⟩ => ⟨S2048x1024, .f32⟩
  | .hbm, ⟨4, _⟩ => ⟨S1x1024, .f32⟩
  | .hbm, ⟨5, _⟩ => ⟨S2176x2816, .bf16⟩
  | .hbm, ⟨6, _⟩ => ⟨S2816x1024, .bf16⟩
  | .hbm, ⟨7, _⟩ => ⟨S2176x1024, .f32⟩
  | .hbm, ⟨8, _⟩ => ⟨S2176x1024, .bf16⟩
  | .hbm, ⟨9, _⟩ => ⟨S1x128, .f32⟩
  | .hbm, ⟨10, _⟩ => ⟨S1x1024, .f32⟩
  | .local _ .vmem, ⟨0, _⟩ => ⟨S544x2816, .bf16⟩
  | .local _ .vmem, ⟨1, _⟩ => ⟨S544x2816, .bf16⟩
  | .local _ .vmem, ⟨2, _⟩ => ⟨S2816x1024, .bf16⟩
  | .local _ .vmem, ⟨3, _⟩ => ⟨S544x1024, .f32⟩
  | .local _ .vmem, ⟨4, _⟩ => ⟨S544x1024, .f32⟩
  | .local _ .vmem, ⟨5, _⟩ => ⟨S1x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .bf16⟩
  | .local _ .vmem, ⟨9, _⟩ => ⟨S544x1024, .bf16⟩
  | .local _ .vmem, ⟨10, _⟩ => ⟨S1x128, .f32⟩
  | .local _ .vmem, ⟨11, _⟩ => ⟨S1x1024, .f32⟩
  | .local _ .vmem, ⟨12, _⟩ => ⟨S544x1024, .f32⟩
  | .local _ .vmem, ⟨13, _⟩ => ⟨S544x1024, .f32⟩
  | _, _ => ⟨S2176x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c544_i32 : BitVec 32 := 544#32
  let v3 : BitVec 32 := Scalar.muli arg0 c544_i32
  let c128_i32 : BitVec 32 := 128#32
  let v4 : BitVec 32 := Scalar.subi v3 c128_i32
  let c0_i32_1 : BitVec 32 := 0#32
  let v5 : BitVec 32 := Scalar.maxsi v4 c0_i32_1
  v5
def k0_cond3 (i : grid0.Coords) : BitVec 1 :=
  let arg0 : BitVec 32 := BitVec.ofNat 32 (i 0).val
  let c0_i32_4 : BitVec 32 := 0#32
  let v10 : BitVec 1 := Scalar.cmpi .sgt arg0 c0_i32_4
  let v11 : BitVec 32 := Scalar.extui v10
  let c0_i32_5 : BitVec 32 := 0#32
  let v12 : BitVec 1 := Scalar.cmpi .ne v11 c0_i32_5
  v12

def k0_off1 (i : grid0.Coords) : Fin 2 → Nat :=
  let arg0 : BitVec 32 := BitVec.ofNat 32 (i 0).val
  let c544_i32 : BitVec 32 := 544#32
  let v3 : BitVec 32 := Scalar.muli arg0 c544_i32
  let c128_i32 : BitVec 32 := 128#32
  let v4 : BitVec 32 := Scalar.subi v3 c128_i32
  let c0_i32_1 : BitVec 32 := 0#32
  let v5 : BitVec 32 := Scalar.maxsi v4 c0_i32_1
  let v6 : BitVec 32 := v5
  let c0_i32_84 : BitVec 32 := 0#32
  ![v6.toNat, 0]
@[reducible] def k0_t1_loop : Scf.Loop 32 :=
  let c0_i32_6 : BitVec 32 := 0#32
  let c2_i32 : BitVec 32 := 2#32
  let v13 : BitVec 32 := Scalar.addi c0_i32_6 c2_i32
  let c1_i32 : BitVec 32 := 1#32
  ⟨c0_i32_6, v13, c1_i32⟩
def k0_mult2 (k0_t1 : Fin k0_t1_loop.trips) : BitVec 32 :=
  let c0_i32_6 : BitVec 32 := 0#32
  let c1_i32 : BitVec 32 := 1#32
  let arg13 : BitVec 32 := Scf.iv c0_i32_6 c1_i32 k0_t1
  let c512_i32 : BitVec 32 := 512#32
  let v168 : BitVec 32 := Scalar.muli arg13 c512_i32
  v168
def k0_off2 (k0_t1 : Fin k0_t1_loop.trips) : Fin 2 → Nat :=
  let c0_84 : Index := 0#32
  let c0_i32_6 : BitVec 32 := 0#32
  let c1_i32 : BitVec 32 := 1#32
  let arg13 : BitVec 32 := Scf.iv c0_i32_6 c1_i32 k0_t1
  let c512_i32 : BitVec 32 := 512#32
  let v168 : BitVec 32 := Scalar.muli arg13 c512_i32
  let v169 : BitVec 32 := v168
  let v170 : Index := Scalar.indexCast v169
  ![0, v170.toNat]
def k0_off3 (k0_t1 : Fin k0_t1_loop.trips) : Fin 2 → Nat :=
  let c0_87 : Index := 0#32
  let c0_i32_6 : BitVec 32 := 0#32
  let c1_i32 : BitVec 32 := 1#32
  let arg13 : BitVec 32 := Scf.iv c0_i32_6 c1_i32 k0_t1
  let c512_i32 : BitVec 32 := 512#32
  let v168 : BitVec 32 := Scalar.muli arg13 c512_i32
  let v169 : BitVec 32 := v168
  let v174 : Index := Scalar.indexCast v169
  ![0, v174.toNat]
def k0_cond5 (i : grid0.Coords) : BitVec 1 :=
  let arg0 : BitVec 32 := BitVec.ofNat 32 (i 0).val
  let c0_i32_10 : BitVec 32 := 0#32
  let v17 : BitVec 1 := Scalar.cmpi .sgt arg0 c0_i32_10
  let v18 : BitVec 32 := Scalar.extui v17
  let c0_i32_11 : BitVec 32 := 0#32
  let v19 : BitVec 1 := Scalar.cmpi .ne v18 c0_i32_11
  v19

def k0_off4 (i : grid0.Coords) : Fin 2 → Nat :=
  let arg0 : BitVec 32 := BitVec.ofNat 32 (i 0).val
  let c544_i32 : BitVec 32 := 544#32
  let v3 : BitVec 32 := Scalar.muli arg0 c544_i32
  let c128_i32 : BitVec 32 := 128#32
  let v4 : BitVec 32 := Scalar.subi v3 c128_i32
  let c0_i32_1 : BitVec 32 := 0#32
  let v5 : BitVec 32 := Scalar.maxsi v4 c0_i32_1
  let v6 : BitVec 32 := v5
  let c0_i32_84 : BitVec 32 := 0#32
  ![v6.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S2176x2816 : Shape := ⟨2, ![2176, 2816]⟩
abbrev S2816x1024 : Shape := ⟨2, ![2816, 1024]⟩
abbrev S2176x1024 : Shape := ⟨2, ![2176, 1024]⟩
abbrev S2048x1024 : Shape := ⟨2, ![2048, 1024]⟩
abbrev S1x1024 : Shape := ⟨2, ![1, 1024]⟩
abbrev S_ : Shape := ⟨0, ![]⟩
abbrev S2176 : Shape := ⟨1, ![2176]⟩
abbrev S2176x1 : Shape := ⟨2, ![2176, 1]⟩
abbrev S2048 : Shape := ⟨1, ![2048]⟩
abbrev S1024 : Shape := ⟨1, ![1024]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S2176x2816, .f32⟩
  | .hbm, ⟨1, _⟩ => ⟨S2816x1024, .f32⟩
  | .hbm, ⟨2, _⟩ => ⟨S2176x1024, .f32⟩
  | .hbm, ⟨3, _⟩ => ⟨S2048x1024, .f32⟩
  | .hbm, ⟨4, _⟩ => ⟨S1x1024, .f32⟩
  | .hbm, ⟨5, _⟩ => ⟨S2176x1024, .f32⟩
  | .hbm, ⟨6, _⟩ => ⟨S2176x1024, .f32⟩
  | .hbm, ⟨7, _⟩ => ⟨S2176x1024, .f32⟩
  | .hbm, ⟨8, _⟩ => ⟨S_, .f32⟩
  | .hbm, ⟨9, _⟩ => ⟨S2176, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S_, .f32⟩
  | .hbm, ⟨15, _⟩ => ⟨S2176x1, .f32⟩
  | .hbm, ⟨16, _⟩ => ⟨S2176x1, .f32⟩
  | .hbm, ⟨17, _⟩ => ⟨S2176x1, .f32⟩
  | .hbm, ⟨18, _⟩ => ⟨S2176x1, .f32⟩
  | .hbm, ⟨19, _⟩ => ⟨S_, .f32⟩
  | .hbm, ⟨20, _⟩ => ⟨S2176x1, .f32⟩
  | .hbm, ⟨21, _⟩ => ⟨S2176x1, .f32⟩
  | .hbm, ⟨22, _⟩ => ⟨S2176x1024, .f32⟩
  | .hbm, ⟨23, _⟩ => ⟨S2176x1024, .f32⟩
  | .hbm, ⟨24, _⟩ => ⟨S2176x1024, .f32⟩
  | .hbm, ⟨25, _⟩ => ⟨S2176x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2176x1024, .f32⟩
  | .hbm, ⟨52, _⟩ => ⟨S2176x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S2176x1024, .f32⟩
  | .hbm, ⟨57, _⟩ => ⟨S2176x1024, .f32⟩
  | .hbm, ⟨58, _⟩ => ⟨S2176x1024, .f32⟩
  | .hbm, ⟨59, _⟩ => ⟨S_, .f32⟩
  | .hbm, ⟨60, _⟩ => ⟨S2176, .f32⟩
  | .hbm, ⟨61, _⟩ => ⟨S2176x1, .f32⟩
  | .hbm, ⟨62, _⟩ => ⟨S2176x1024, .f32⟩
  | .hbm, ⟨63, _⟩ => ⟨S2176x1024, .f32⟩
  | .hbm, ⟨64, _⟩ => ⟨S2176x1, .f32⟩
  | .hbm, ⟨65, _⟩ => ⟨S_, .f32⟩
  | .hbm, ⟨66, _⟩ => ⟨S2176x1, .f32⟩
  | .hbm, ⟨67, _⟩ => ⟨S2176x1, .f32⟩
  | .hbm, ⟨68, _⟩ => ⟨S_, .f32⟩
  | .hbm, ⟨69, _⟩ => ⟨S2176, .f32⟩
  | .hbm, ⟨70, _⟩ => ⟨S2176x1024, .f32⟩
  | .hbm, ⟨71, _⟩ => ⟨S2176x1024, .f32⟩
  | .hbm, ⟨72, _⟩ => ⟨S2176x1024, .f32⟩
  | .hbm, ⟨73, _⟩ => ⟨S2176x1024, .f32⟩
  | .hbm, ⟨74, _⟩ => ⟨S2176x1024, .f32⟩
  | .hbm, ⟨75, _⟩ => ⟨S2176x1024, .bf16⟩
  | .hbm, ⟨76, _⟩ => ⟨S1x128, .f32⟩
  | _, _ => ⟨S2176x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_cst_12 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== Swiglu.lean ====
abbrev S2176x1024 : Shape := ⟨2, ![2176, 1024]⟩
abbrev S1024x2816 : Shape := ⟨2, ![1024, 2816]⟩
abbrev S2816x1024 : Shape := ⟨2, ![2816, 1024]⟩
abbrev S2176x2816 : Shape := ⟨2, ![2176, 2816]⟩
abbrev S_ : Shape := ⟨0, ![]⟩
abbrev S256x1024 : Shape := ⟨2, ![256, 1024]⟩
abbrev S2176x256 : Shape := ⟨2, ![2176, 256]⟩
abbrev S4 : Shape := ⟨1, ![4]⟩
abbrev S1 : Shape := ⟨1, ![1]⟩
abbrev S544x1024 : Shape := ⟨2, ![544, 1024]⟩
abbrev S544x256 : Shape := ⟨2, ![544, 256]⟩

abbrev nBuf : Space → Nat
  | .hbm => 28
  | .vmem => 20
  | .smem => 0
  | _ => 0

abbrev bufTy : (tb : Table) → Fin (tcTables nBuf tb) → BufTy
  | .hbm, ⟨0, _⟩ => ⟨S2176x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2176x1024, .f32⟩
  | .hbm, ⟨5, _⟩ => ⟨S2176x2816, .f32⟩
  | .hbm, ⟨6, _⟩ => ⟨S2176x2816, .f32⟩
  | .hbm, ⟨7, _⟩ => ⟨S2176x2816, .f32⟩
  | .hbm, ⟨8, _⟩ => ⟨S2176x2816, .f32⟩
  | .hbm, ⟨9, _⟩ => ⟨S_, .f32⟩
  | .hbm, ⟨10, _⟩ => ⟨S2176x2816, .f32⟩
  | .hbm, ⟨11, _⟩ => ⟨S2176x2816, .f32⟩
  | .hbm, ⟨12, _⟩ => ⟨S_, .f32⟩
  | .hbm, ⟨13, _⟩ => ⟨S2176x2816, .f32⟩
  | .hbm, ⟨14, _⟩ => ⟨S2176x2816, .f32⟩
  | .hbm, ⟨15, _⟩ => ⟨S2176x2816, .f32⟩
  | .hbm, ⟨16, _⟩ => ⟨S2176x2816, .f32⟩
  | .hbm, ⟨17, _⟩ => ⟨S2176x1024, .bf16⟩
  | .hbm, ⟨18, _⟩ => ⟨S2816x1024, .bf16⟩
  | .hbm, ⟨19, _⟩ => ⟨S2176x2816, .bf16⟩
  | .hbm, ⟨20, _⟩ => ⟨S2176x2816, .bf16⟩
  | .hbm, ⟨21, _⟩ => ⟨S2176x2816, .bf16⟩
  | .hbm, ⟨22, _⟩ => ⟨S2176x1024, .bf16⟩
  | .hbm, ⟨23, _⟩ => ⟨S2176x2816, .bf16⟩
  | .hbm, ⟨24, _⟩ => ⟨S2176x2816, .bf16⟩
  | .hbm, ⟨25, _⟩ => ⟨S2816x1024, .bf16⟩
  | .hbm, ⟨26, _⟩ => ⟨S2816x1024, .bf16⟩
  | .hbm, ⟨27, _⟩ => ⟨S2816x1024, .bf16⟩
  | .local _ .vmem, ⟨0, _⟩ => ⟨S256x1024, .bf16⟩
  | .local _ .vmem, ⟨1, _⟩ => ⟨S256x1024, .bf16⟩
  | .local _ .vmem, ⟨2, _⟩ => ⟨S2176x256, .bf16⟩
  | .local _ .vmem, ⟨3, _⟩ => ⟨S2176x256, .bf16⟩
  | .local _ .vmem, ⟨4, _⟩ => ⟨S2176x256, .bf16⟩
  | .local _ .vmem, ⟨5, _⟩ => ⟨S2176x256, .bf16⟩
  | .local _ .vmem, ⟨6, _⟩ => ⟨S2176x256, .bf16⟩
  | .local _ .vmem, ⟨7, _⟩ => ⟨S2176x256, .bf16⟩
  | .local _ .vmem, ⟨8, _⟩ => ⟨S2176x256, .bf16⟩
  | .local _ .vmem, ⟨9, _⟩ => ⟨S2176x256, .bf16⟩
  | .local _ .vmem, ⟨10, _⟩ => ⟨S2176x256, .bf16⟩
  | .local _ .vmem, ⟨11, _⟩ => ⟨S2176x256, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S2176x1024, .bf16⟩
  | .local _ .vmem, ⟨19, _⟩ => ⟨S2176x1024, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v10_3 : Ref sig .tc := ⟨.hbm, 26, rfl⟩
abbrev main_v10_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let false_32 : BitVec 1 := 0#1
  let c1632_i32 : BitVec 32 := 1632#32
  let false_31 : BitVec 1 := 0#1
  let c1088_i32 : BitVec 32 := 1088#32
  let v_false : BitVec 1 := 0#1
  let c544_i32 : BitVec 32 := 544#32
  let c0_i32_30 : BitVec 32 := 0#32
  let v33 : BitVec 32 := Scalar.select v_false c544_i32 c0_i32_30
  let v34 : BitVec 32 := Scalar.select false_31 c1088_i32 v33
  let v35 : BitVec 32 := Scalar.select false_32 c1632_i32 v34
  v35
def k0_off1 (v_false : BitVec 1) : Fin 2 → Nat :=
  let false_32 : BitVec 1 := 0#1
  let c1632_i32 : BitVec 32 := 1632#32
  let false_31 : BitVec 1 := 0#1
  let c1088_i32 : BitVec 32 := 1088#32
  let c544_i32 : BitVec 32 := 544#32
  let c0_i32_30 : BitVec 32 := 0#32
  let v33 : BitVec 32 := Scalar.select v_false c544_i32 c0_i32_30
  let v34 : BitVec 32 := Scalar.select false_31 c1088_i32 v33
  let v35 : BitVec 32 := Scalar.select false_32 c1632_i32 v34
  let v36 : BitVec 32 := v35
  let c0_i32_34 : BitVec 32 := 0#32
  ![v36.toNat, 0]
def k0_mult2 : BitVec 32 :=
  let false_40 : BitVec 1 := 0#1
  let c1632_i32_41 : BitVec 32 := 1632#32
  let false_38 : BitVec 1 := 0#1
  let c1088_i32_39 : BitVec 32 := 1088#32
  let v_true : BitVec 1 := 1#1
  let c544_i32_36 : BitVec 32 := 544#32
  let c0_i32_37 : BitVec 32 := 0#32
  let v41 : BitVec 32 := Scalar.select v_true c544_i32_36 c0_i32_37
  let v42 : BitVec 32 := Scalar.select false_38 c1088_i32_39 v41
  let v43 : BitVec 32 := Scalar.select false_40 c1632_i32_41 v42
  v43
def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_mult3 : BitVec 32 :=
  let false_32 : BitVec 1 := 0#1
  let c1632_i32 : BitVec 32 := 1632#32
  let false_31 : BitVec 1 := 0#1
  let c1088_i32 : BitVec 32 := 1088#32
  let v_false : BitVec 1 := 0#1
  let c544_i32 : BitVec 32 := 544#32
  let c0_i32_30 : BitVec 32 := 0#32
  let v33 : BitVec 32 := Scalar.select v_false c544_i32 c0_i32_30
  let v34 : BitVec 32 := Scalar.select false_31 c1088_i32 v33
  let v35 : BitVec 32 := Scalar.select false_32 c1632_i32 v34
  v35
def k0_off2 (v_false : BitVec 1) : Fin 2 → Nat :=
  let false_32 : BitVec 1 := 0#1
  let c1632_i32 : BitVec 32 := 1632#32
  let false_31 : BitVec 1 := 0#1
  let c1088_i32 : BitVec 32 := 1088#32
  let c544_i32 : BitVec 32 := 544#32
  let c0_i32_30 : BitVec 32 := 0#32
  let v33 : BitVec 32 := Scalar.select v_false c544_i32 c0_i32_30
  let v34 : BitVec 32 := Scalar.select false_31 c1088_i32 v33
  let v35 : BitVec 32 := Scalar.select false_32 c1632_i32 v34
  let v36 : BitVec 32 := v35
  let c0_i32_34 : BitVec 32 := 0#32
  ![v36.toNat, 0]
def k0_mult4 : BitVec 32 :=
  let false_40 : BitVec 1 := 0#1
  let c1632_i32_41 : BitVec 32 := 1632#32
  let false_38 : BitVec 1 := 0#1
  let c1088_i32_39 : BitVec 32 := 1088#32
  let v_true : BitVec 1 := 1#1
  let c544_i32_36 : BitVec 32 := 544#32
  let c0_i32_37 : BitVec 32 := 0#32
  let v41 : BitVec 32 := Scalar.select v_true c544_i32_36 c0_i32_37
  let v42 : BitVec 32 := Scalar.select false_38 c1088_i32_39 v41
  let v43 : BitVec 32 := Scalar.select false_40 c1632_i32_41 v42
  v43
@[reducible] def k0_t1_loop : Scf.Loop 32 :=
  let c0_i32_3 : BitVec 32 := 0#32
  let c4_i32 : BitVec 32 := 4#32
  let v6 : BitVec 32 := Scalar.addi c0_i32_3 c4_i32
  let c1_i32 : BitVec 32 := 1#32
  ⟨c0_i32_3, v6, c1_i32⟩
def k0_mult5 (k0_t1 : Fin k0_t1_loop.trips) : BitVec 32 :=
  let c0_i32_3 : BitVec 32 := 0#32
  let c1_i32 : BitVec 32 := 1#32
  let arg16 : BitVec 32 := Scf.iv c0_i32_3 c1_i32 k0_t1
  let c544_i32 : BitVec 32 := 544#32
  let v33 : BitVec 32 := Scalar.muli arg16 c544_i32
  v33
def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v52 : BitVec 32 := Scalar.extui v0
  let c0_i32_37 : BitVec 32 := 0#32
  let v53 : BitVec 1 := Scalar.cmpi .ne v52 c0_i32_37
  v53

def k0_mult6 (k0_t1 : Fin k0_t1_loop.trips) : BitVec 32 :=
  let c0_i32_3 : BitVec 32 := 0#32
  let c1_i32 : BitVec 32 := 1#32
  let arg16 : BitVec 32 := Scf.iv c0_i32_3 c1_i32 k0_t1
  let c544_i32 : BitVec 32 := 544#32
  let v33 : BitVec 32 := Scalar.muli arg16 c544_i32
  let v34 : BitVec 32 := v33
  let c0_i32_31 : BitVec 32 := 0#32
  let v36 : BitVec 1 := Scalar.cmpi .sgt v34 c0_i32_31
  let v37 : BitVec 32 := Scalar.extui v36
  let c0_i32_32 : BitVec 32 := 0#32
  let v38 : BitVec 1 := Scalar.cmpi .slt v34 c0_i32_32
  let v39 : BitVec 32 := Scalar.extui v38
  let v40 : BitVec 32 := Scalar.subi v37 v39
  let c544_i32_30 : BitVec 32 := 544#32
  let c0_i32_33 : BitVec 32 := 0#32
  let v41 : BitVec 1 := Scalar.cmpi .sgt c544_i32_30 c0_i32_33
  let v42 : BitVec 32 := Scalar.extui v41
  let c0_i32_34 : BitVec 32 := 0#32
  let v43 : BitVec 1 := Scalar.cmpi .slt c544_i32_30 c0_i32_34
  let v44 : BitVec 32 := Scalar.extui v43
  let v45 : BitVec 32 := Scalar.subi v42 v44
  let v46 : BitVec 1 := Scalar.cmpi .ne v40 v45
  let v47 : BitVec 32 := Scalar.remsi v34 c544_i32_30
  let c0_i32_35 : BitVec 32 := 0#32
  let v48 : BitVec 1 := Scalar.cmpi .ne v47 c0_i32_35
  let v49 : BitVec 1 := Scalar.andi v46 v48
  let v35 : BitVec 32 := Scalar.divsi v34 c544_i32_30
  let c1_i32_36 : BitVec 32 := 1#32
  let v50 : BitVec 32 := Scalar.subi v35 c1_i32_36
  let v51 : BitVec 32 := Scalar.select v49 v50 v35
  let c3_i32_55 : BitVec 32 := 3#32
  let v94 : BitVec 1 := Scalar.cmpi .eq v51 c3_i32_55
  let c1632_i32 : BitVec 32 := 1632#32
  let c2_i32_54 : BitVec 32 := 2#32
  let v92 : BitVec 1 := Scalar.cmpi .eq v51 c2_i32_54
  let c1088_i32 : BitVec 32 := 1088#32
  let c1_i32_51 : BitVec 32 := 1#32
  let v90 : BitVec 1 := Scalar.cmpi .eq v51 c1_i32_51
  let c544_i32_52 : BitVec 32 := 544#32
  let c0_i32_53 : BitVec 32 := 0#32
  let v91 : BitVec 32 := Scalar.select v90 c544_i32_52 c0_i32_53
  let v93 : BitVec 32 := Scalar.select v92 c1088_i32 v91
  let v95 : BitVec 32 := Scalar.select v94 c1632_i32 v93
  v95
def k0_off3 (k0_t1 : Fin k0_t1_loop.trips) : Fin 1 → Nat :=
  let c0_i32_3 : BitVec 32 := 0#32
  let c1_i32 : BitVec 32 := 1#32
  let arg16 : BitVec 32 := Scf.iv c0_i32_3 c1_i32 k0_t1
  let c544_i32 : BitVec 32 := 544#32
  let v33 : BitVec 32 := Scalar.muli arg16 c544_i32
  let v34 : BitVec 32 := v33
  let c0_i32_31 : BitVec 32 := 0#32
  let v36 : BitVec 1 := Scalar.cmpi .sgt v34 c0_i32_31
  let v37 : BitVec 32 := Scalar.extui v36
  let c0_i32_32 : BitVec 32 := 0#32
  let v38 : BitVec 1 := Scalar.cmpi .slt v34 c0_i32_32
  let v39 : BitVec 32 := Scalar.extui v38
  let v40 : BitVec 32 := Scalar.subi v37 v39
  let c544_i32_30 : BitVec 32 := 544#32
  let c0_i32_33 : BitVec 32 := 0#32
  let v41 : BitVec 1 := Scalar.cmpi .sgt c544_i32_30 c0_i32_33
  let v42 : BitVec 32 := Scalar.extui v41
  let c0_i32_34 : BitVec 32 := 0#32
  let v43 : BitVec 1 := Scalar.cmpi .slt c544_i32_30 c0_i32_34
  let v44 : BitVec 32 := Scalar.extui v43
  let v45 : BitVec 32 := Scalar.subi v42 v44
  let v46 : BitVec 1 := Scalar.cmpi .ne v40 v45
  let v47 : BitVec 32 := Scalar.remsi v34 c544_i32_30
  let c0_i32_35 : BitVec 32 := 0#32
  let v48 : BitVec 1 := Scalar.cmpi .ne v47 c0_i32_35
  let v49 : BitVec 1 := Scalar.andi v46 v48
  let v35 : BitVec 32 := Scalar.divsi v34 c544_i32_30
  let c1_i32_36 : BitVec 32 := 1#32
  let v50 : BitVec 32 := Scalar.subi v35 c1_i32_36
  let v51 : BitVec 32 := Scalar.select v49 v50 v35
  ![v51.toNat]
def k0_off4 (k0_t1 : Fin k0_t1_loop.trips) : Fin 2 → Nat :=
  let c0_i32_3 : BitVec 32 := 0#32
  let c1_i32 : BitVec 32 := 1#32
  let arg16 : BitVec 32 := Scf.iv c0_i32_3 c1_i32 k0_t1
  let c544_i32 : BitVec 32 := 544#32
  let v33 : BitVec 32 := Scalar.muli arg16 c544_i32
  let v34 : BitVec 32 := v33
  let c0_i32_31 : BitVec 32 := 0#32
  let v36 : BitVec 1 := Scalar.cmpi .sgt v34 c0_i32_31
  let v37 : BitVec 32 := Scalar.extui v36
  let c0_i32_32 : BitVec 32 := 0#32
  let v38 : BitVec 1 := Scalar.cmpi .slt v34 c0_i32_32
  let v39 : BitVec 32 := Scalar.extui v38
  let v40 : BitVec 32 := Scalar.subi v37 v39
  let c544_i32_30 : BitVec 32 := 544#32
  let c0_i32_33 : BitVec 32 := 0#32
  let v41 : BitVec 1 := Scalar.cmpi .sgt c544_i32_30 c0_i32_33
  let v42 : BitVec 32 := Scalar.extui v41
  let c0_i32_34 : BitVec 32 := 0#32
  let v43 : BitVec 1 := Scalar.cmpi .slt c544_i32_30 c0_i32_34
  let v44 : BitVec 32 := Scalar.extui v43
  let v45 : BitVec 32 := Scalar.subi v42 v44
  let v46 : BitVec 1 := Scalar.cmpi .ne v40 v45
  let v47 : BitVec 32 := Scalar.remsi v34 c544_i32_30
  let c0_i32_35 : BitVec 32 := 0#32
  let v48 : BitVec 1 := Scalar.cmpi .ne v47 c0_i32_35
  let v49 : BitVec 1 := Scalar.andi v46 v48
  let v35 : BitVec 32 := Scalar.divsi v34 c544_i32_30
  let c1_i32_36 : BitVec 32 := 1#32
  let v50 : BitVec 32 := Scalar.subi v35 c1_i32_36
  let v51 : BitVec 32 := Scalar.select v49 v50 v35
  let c3_i32_55 : BitVec 32 := 3#32
  let v94 : BitVec 1 := Scalar.cmpi .eq v51 c3_i32_55
  let c1632_i32 : BitVec 32 := 1632#32
  let c2_i32_54 : BitVec 32 := 2#32
  let v92 : BitVec 1 := Scalar.cmpi .eq v51 c2_i32_54
  let c1088_i32 : BitVec 32 := 1088#32
  let c1_i32_51 : BitVec 32 := 1#32
  let v90 : BitVec 1 := Scalar.cmpi .eq v51 c1_i32_51
  let c544_i32_52 : BitVec 32 := 544#32
  let c0_i32_53 : BitVec 32 := 0#32
  let v91 : BitVec 32 := Scalar.select v90 c544_i32_52 c0_i32_53
  let v93 : BitVec 32 := Scalar.select v92 c1088_i32 v91
  let v95 : BitVec 32 := Scalar.select v94 c1632_i32 v93
  let v96 : BitVec 32 := v95
  let c0_i32_56 : BitVec 32 := 0#32
  ![v96.toNat, 0]
def k0_cond4 (k0_t1 : Fin k0_t1_loop.trips) : BitVec 1 :=
  let c0_i32_3 : BitVec 32 := 0#32
  let c1_i32 : BitVec 32 := 1#32
  let arg16 : BitVec 32 := Scf.iv c0_i32_3 c1_i32 k0_t1
  let c544_i32 : BitVec 32 := 544#32
  let v33 : BitVec 32 := Scalar.muli arg16 c544_i32
  let v34 : BitVec 32 := v33
  let c0_i32_31 : BitVec 32 := 0#32
  let v36 : BitVec 1 := Scalar.cmpi .sgt v34 c0_i32_31
  let v37 : BitVec 32 := Scalar.extui v36
  let c0_i32_32 : BitVec 32 := 0#32
  let v38 : BitVec 1 := Scalar.cmpi .slt v34 c0_i32_32
  let v39 : BitVec 32 := Scalar.extui v38
  let v40 : BitVec 32 := Scalar.subi v37 v39
  let c544_i32_30 : BitVec 32 := 544#32
  let c0_i32_33 : BitVec 32 := 0#32
  let v41 : BitVec 1 := Scalar.cmpi .sgt c544_i32_30 c0_i32_33
  let v42 : BitVec 32 := Scalar.extui v41
  let c0_i32_34 : BitVec 32 := 0#32
  let v43 : BitVec 1 := Scalar.cmpi .slt c544_i32_30 c0_i32_34
  let v44 : BitVec 32 := Scalar.extui v43
  let v45 : BitVec 32 := Scalar.subi v42 v44
  let v46 : BitVec 1 := Scalar.cmpi .ne v40 v45
  let v47 : BitVec 32 := Scalar.remsi v34 c544_i32_30
  let c0_i32_35 : BitVec 32 := 0#32
  let v48 : BitVec 1 := Scalar.cmpi .ne v47 c0_i32_35
  let v49 : BitVec 1 := Scalar.andi v46 v48
  let v35 : BitVec 32 := Scalar.divsi v34 c544_i32_30
  let c1_i32_36 : BitVec 32 := 1#32
  let v50 : BitVec 32 := Scalar.subi v35 c1_i32_36
  let v51 : BitVec 32 := Scalar.select v49 v50 v35
  let c2_i32_58 : BitVec 32 := 2#32
  let v101 : BitVec 32 := Scalar.addi v51 c2_i32_58
  let c4_i32_59 : BitVec 32 := 4#32
  let v102 : BitVec 1 := Scalar.cmpi .slt v101 c4_i32_59
  let v103 : BitVec 32 := Scalar.extui v102
  let c0_i32_60 : BitVec 32 := 0#32
  let v104 : BitVec 1 := Scalar.cmpi .ne v103 c0_i32_60
  v104

def k0_mult7 (k0_t1 : Fin k0_t1_loop.trips) : BitVec 32 :=
  let c0_i32_3 : BitVec 32 := 0#32
  let c1_i32 : BitVec 32 := 1#32
  let arg16 : BitVec 32 := Scf.iv c0_i32_3 c1_i32 k0_t1
  let c544_i32 : BitVec 32 := 544#32
  let v33 : BitVec 32 := Scalar.muli arg16 c544_i32
  let v34 : BitVec 32 := v33
  let c0_i32_31 : BitVec 32 := 0#32
  let v36 : BitVec 1 := Scalar.cmpi .sgt v34 c0_i32_31
  let v37 : BitVec 32 := Scalar.extui v36
  let c0_i32_32 : BitVec 32 := 0#32
  let v38 : BitVec 1 := Scalar.cmpi .slt v34 c0_i32_32
  let v39 : BitVec 32 := Scalar.extui v38
  let v40 : BitVec 32 := Scalar.subi v37 v39
  let c544_i32_30 : BitVec 32 := 544#32
  let c0_i32_33 : BitVec 32 := 0#32
  let v41 : BitVec 1 := Scalar.cmpi .sgt c544_i32_30 c0_i32_33
  let v42 : BitVec 32 := Scalar.extui v41
  let c0_i32_34 : BitVec 32 := 0#32
  let v43 : BitVec 1 := Scalar.cmpi .slt c544_i32_30 c0_i32_34
  let v44 : BitVec 32 := Scalar.extui v43
  let v45 : BitVec 32 := Scalar.subi v42 v44
  let v46 : BitVec 1 := Scalar.cmpi .ne v40 v45
  let v47 : BitVec 32 := Scalar.remsi v34 c544_i32_30
  let c0_i32_35 : BitVec 32 := 0#32
  let v48 : BitVec 1 := Scalar.cmpi .ne v47 c0_i32_35
  let v49 : BitVec 1 := Scalar.andi v46 v48
  let v35 : BitVec 32 := Scalar.divsi v34 c544_i32_30
  let c1_i32_36 : BitVec 32 := 1#32
  let v50 : BitVec 32 := Scalar.subi v35 c1_i32_36
  let v51 : BitVec 32 := Scalar.select v49 v50 v35
  let c2_i32_61 : BitVec 32 := 2#32
  let v105 : BitVec 32 := Scalar.addi v51 c2_i32_61
  let c3_i32_67 : BitVec 32 := 3#32
  let v110 : BitVec 1 := Scalar.cmpi .eq v105 c3_i32_67
  let c1632_i32_68 : BitVec 32 := 1632#32
  let c2_i32_65 : BitVec 32 := 2#32
  let v108 : BitVec 1 := Scalar.cmpi .eq v105 c2_i32_65
  let c1088_i32_66 : BitVec 32 := 1088#32
  let c1_i32_62 : BitVec 32 := 1#32
  let v106 : BitVec 1 := Scalar.cmpi .eq v105 c1_i32_62
  let c544_i32_63 : BitVec 32 := 544#32
  let c0_i32_64 : BitVec 32 := 0#32
  let v107 : BitVec 32 := Scalar.select v106 c544_i32_63 c0_i32_64
  let v109 : BitVec 32 := Scalar.select v108 c1088_i32_66 v107
  let v111 : BitVec 32 := Scalar.select v110 c1632_i32_68 v109
  v111
def k0_off5 (k0_t1 : Fin k0_t1_loop.trips) : Fin 1 → Nat :=
  let c0_i32_3 : BitVec 32 := 0#32
  let c1_i32 : BitVec 32 := 1#32
  let arg16 : BitVec 32 := Scf.iv c0_i32_3 c1_i32 k0_t1
  let c544_i32 : BitVec 32 := 544#32
  let v33 : BitVec 32 := Scalar.muli arg16 c544_i32
  let v34 : BitVec 32 := v33
  let c0_i32_31 : BitVec 32 := 0#32
  let v36 : BitVec 1 := Scalar.cmpi .sgt v34 c0_i32_31
  let v37 : BitVec 32 := Scalar.extui v36
  let c0_i32_32 : BitVec 32 := 0#32
  let v38 : BitVec 1 := Scalar.cmpi .slt v34 c0_i32_32
  let v39 : BitVec 32 := Scalar.extui v38
  let v40 : BitVec 32 := Scalar.subi v37 v39
  let c544_i32_30 : BitVec 32 := 544#32
  let c0_i32_33 : BitVec 32 := 0#32
  let v41 : BitVec 1 := Scalar.cmpi .sgt c544_i32_30 c0_i32_33
  let v42 : BitVec 32 := Scalar.extui v41
  let c0_i32_34 : BitVec 32 := 0#32
  let v43 : BitVec 1 := Scalar.cmpi .slt c544_i32_30 c0_i32_34
  let v44 : BitVec 32 := Scalar.extui v43
  let v45 : BitVec 32 := Scalar.subi v42 v44
  let v46 : BitVec 1 := Scalar.cmpi .ne v40 v45
  let v47 : BitVec 32 := Scalar.remsi v34 c544_i32_30
  let c0_i32_35 : BitVec 32 := 0#32
  let v48 : BitVec 1 := Scalar.cmpi .ne v47 c0_i32_35
  let v49 : BitVec 1 := Scalar.andi v46 v48
  let v35 : BitVec 32 := Scalar.divsi v34 c544_i32_30
  let c1_i32_36 : BitVec 32 := 1#32
  let v50 : BitVec 32 := Scalar.subi v35 c1_i32_36
  let v51 : BitVec 32 := Scalar.select v49 v50 v35
  let c2_i32_61 : BitVec 32 := 2#32
  let v105 : BitVec 32 := Scalar.addi v51 c2_i32_61
  ![v105.toNat]
def k0_off6 (k0_t1 : Fin k0_t1_loop.trips) : Fin 2 → Nat :=
  let c0_i32_3 : BitVec 32 := 0#32
  let c1_i32 : BitVec 32 := 1#32
  let arg16 : BitVec 32 := Scf.iv c0_i32_3 c1_i32 k0_t1
  let c544_i32 : BitVec 32 := 544#32
  let v33 : BitVec 32 := Scalar.muli arg16 c544_i32
  let v34 : BitVec 32 := v33
  let c0_i32_31 : BitVec 32 := 0#32
  let v36 : BitVec 1 := Scalar.cmpi .sgt v34 c0_i32_31
  let v37 : BitVec 32 := Scalar.extui v36
  let c0_i32_32 : BitVec 32 := 0#32
  let v38 : BitVec 1 := Scalar.cmpi .slt v34 c0_i32_32
  let v39 : BitVec 32 := Scalar.extui v38
  let v40 : BitVec 32 := Scalar.subi v37 v39
  let c544_i32_30 : BitVec 32 := 544#32
  let c0_i32_33 : BitVec 32 := 0#32
  let v41 : BitVec 1 := Scalar.cmpi .sgt c544_i32_30 c0_i32_33
  let v42 : BitVec 32 := Scalar.extui v41
  let c0_i32_34 : BitVec 32 := 0#32
  let v43 : BitVec 1 := Scalar.cmpi .slt c544_i32_30 c0_i32_34
  let v44 : BitVec 32 := Scalar.extui v43
  let v45 : BitVec 32 := Scalar.subi v42 v44
  let v46 : BitVec 1 := Scalar.cmpi .ne v40 v45
  let v47 : BitVec 32 := Scalar.remsi v34 c544_i32_30
  let c0_i32_35 : BitVec 32 := 0#32
  let v48 : BitVec 1 := Scalar.cmpi .ne v47 c0_i32_35
  let v49 : BitVec 1 := Scalar.andi v46 v48
  let v35 : BitVec 32 := Scalar.divsi v34 c544_i32_30
  let c1_i32_36 : BitVec 32 := 1#32
  let v50 : BitVec 32 := Scalar.subi v35 c1_i32_36
  let v51 : BitVec 32 := Scalar.select v49 v50 v35
  let c2_i32_61 : BitVec 32 := 2#32
  let v105 : BitVec 32 := Scalar.addi v51 c2_i32_61
  let c3_i32_67 : BitVec 32 := 3#32
  let v110 : BitVec 1 := Scalar.cmpi .eq v105 c3_i32_67
  let c1632_i32_68 : BitVec 32 := 1632#32
  let c2_i32_65 : BitVec 32 := 2#32
  let v108 : BitVec 1 := Scalar.cmpi .eq v105 c2_i32_65
  let c1088_i32_66 : BitVec 32 := 1088#32
  let c1_i32_62 : BitVec 32 := 1#32
  let v106 : BitVec 1 := Scalar.cmpi .eq v105 c1_i32_62
  let c544_i32_63 : BitVec 32 := 544#32
  let c0_i32_64 : BitVec 32 := 0#32
  let v107 : BitVec 32 := Scalar.select v106 c544_i32_63 c0_i32_64
  let v109 : BitVec 32 := Scalar.select v108 c1088_i32_66 v107
  let v111 : BitVec 32 := Scalar.select v110 c1632_i32_68 v109
  let v112 : BitVec 32 := v111
  let c0_i32_69 : BitVec 32 := 0#32
  ![v112.toNat, 0]
def k0_off7 (k0_t1 : Fin k0_t1_loop.trips) : Fin 2 → Nat :=
  let c0_i32_3 : BitVec 32 := 0#32
  let c1_i32 : BitVec 32 := 1#32
  let arg16 : BitVec 32 := Scf.iv c0_i32_3 c1_i32 k0_t1
  let c544_i32 : BitVec 32 := 544#32
  let v33 : BitVec 32 := Scalar.muli arg16 c544_i32
  let v34 : BitVec 32 := v33
  let v54 : Index := Scalar.indexCast v34
  let c0_38 : Index := 0#32
  ![v54.toNat, 0]
def k0_off8 (k0_t1 : Fin k0_t1_loop.trips) : Fin 2 → Nat :=
  let c0_i32_3 : BitVec 32 := 0#32
  let c1_i32 : BitVec 32 := 1#32
  let arg16 : BitVec 32 := Scf.iv c0_i32_3 c1_i32 k0_t1
  let c544_i32 : BitVec 32 := 544#32
  let v33 : BitVec 32 := Scalar.muli arg16 c544_i32
  let v34 : BitVec 32 := v33
  let v59 : Index := Scalar.indexCast v34
  let c0_42 : Index := 0#32
  ![v59.toNat, 0]
def k0_cond5 (i : grid0.Coords) : BitVec 1 :=
  let arg0 : BitVec 32 := BitVec.ofNat 32 (i 0).val
  let c0_i32_1 : BitVec 32 := 0#32
  let v3 : BitVec 1 := Scalar.cmpi .eq arg0 c0_i32_1
  let v7 : BitVec 32 := Scalar.extui v3
  let c0_i32_6 : BitVec 32 := 0#32
  let v8 : BitVec 1 := Scalar.cmpi .ne v7 c0_i32_6
  v8

def k0_mult8 : BitVec 32 :=
  let c0_i32_5 : BitVec 32 := 0#32
  let c3_i32_33 : BitVec 32 := 3#32
  let v37 : BitVec 1 := Scalar.cmpi .eq c0_i32_5 c3_i32_33
  let c1632_i32 : BitVec 32 := 1632#32
  let c2_i32_32 : BitVec 32 := 2#32
  let v35 : BitVec 1 := Scalar.cmpi .eq c0_i32_5 c2_i32_32
  let c1088_i32 : BitVec 32 := 1088#32
  let c1_i32_30 : BitVec 32 := 1#32
  let v33 : BitVec 1 := Scalar.cmpi .eq c0_i32_5 c1_i32_30
  let c544_i32 : BitVec 32 := 544#32
  let c0_i32_31 : BitVec 32 := 0#32
  let v34 : BitVec 32 := Scalar.select v33 c544_i32 c0_i32_31
  let v36 : BitVec 32 := Scalar.select v35 c1088_i32 v34
  let v38 : BitVec 32 := Scalar.select v37 c1632_i32 v36
  v38
def k0_off9 : Fin 2 → Nat :=
  let c0_i32_5 : BitVec 32 := 0#32
  let c3_i32_33 : BitVec 32 := 3#32
  let v37 : BitVec 1 := Scalar.cmpi .eq c0_i32_5 c3_i32_33
  let c1632_i32 : BitVec 32 := 1632#32
  let c2_i32_32 : BitVec 32 := 2#32
  let v35 : BitVec 1 := Scalar.cmpi .eq c0_i32_5 c2_i32_32
  let c1088_i32 : BitVec 32 := 1088#32
  let c1_i32_30 : BitVec 32 := 1#32
  let v33 : BitVec 1 := Scalar.cmpi .eq c0_i32_5 c1_i32_30
  let c544_i32 : BitVec 32 := 544#32
  let c0_i32_31 : BitVec 32 := 0#32
  let v34 : BitVec 32 := Scalar.select v33 c544_i32 c0_i32_31
  let v36 : BitVec 32 := Scalar.select v35 c1088_i32 v34
  let v38 : BitVec 32 := Scalar.select v37 c1632_i32 v36
  let v39 : BitVec 32 := v38
  let c0_i32_34 : BitVec 32 := 0#32
  ![v39.toNat, 0]
def k0_cond6 : BitVec 1 :=
  let c0_i32_5 : BitVec 32 := 0#32
  let c2_i32_36 : BitVec 32 := 2#32
  let v44 : BitVec 32 := Scalar.addi c0_i32_5 c2_i32_36
  let c4_i32_37 : BitVec 32 := 4#32
  let v45 : BitVec 1 := Scalar.cmpi .slt v44 c4_i32_37
  let v46 : BitVec 32 := Scalar.extui v45
  let c0_i32_38 : BitVec 32 := 0#32
  let v47 : BitVec 1 := Scalar.cmpi .ne v46 c0_i32_38
  v47

def k0_mult9 : BitVec 32 :=
  let c0_i32_5 : BitVec 32 := 0#32
  let c2_i32_39 : BitVec 32 := 2#32
  let v48 : BitVec 32 := Scalar.addi c0_i32_5 c2_i32_39
  let c3_i32_45 : BitVec 32 := 3#32
  let v53 : BitVec 1 := Scalar.cmpi .eq v48 c3_i32_45
  let c1632_i32_46 : BitVec 32 := 1632#32
  let c2_i32_43 : BitVec 32 := 2#32
  let v51 : BitVec 1 := Scalar.cmpi .eq v48 c2_i32_43
  let c1088_i32_44 : BitVec 32 := 1088#32
  let c1_i32_40 : BitVec 32 := 1#32
  let v49 : BitVec 1 := Scalar.cmpi .eq v48 c1_i32_40
  let c544_i32_41 : BitVec 32 := 544#32
  let c0_i32_42 : BitVec 32 := 0#32
  let v50 : BitVec 32 := Scalar.select v49 c544_i32_41 c0_i32_42
  let v52 : BitVec 32 := Scalar.select v51 c1088_i32_44 v50
  let v54 : BitVec 32 := Scalar.select v53 c1632_i32_46 v52
  v54
def k0_off10 : Fin 1 → Nat :=
  let c0_i32_5 : BitVec 32 := 0#32
  let c2_i32_39 : BitVec 32 := 2#32
  let v48 : BitVec 32 := Scalar.addi c0_i32_5 c2_i32_39
  ![v48.toNat]
def k0_off11 : Fin 2 → Nat :=
  let c0_i32_5 : BitVec 32 := 0#32
  let c2_i32_39 : BitVec 32 := 2#32
  let v48 : BitVec 32 := Scalar.addi c0_i32_5 c2_i32_39
  let c3_i32_45 : BitVec 32 := 3#32
  let v53 : BitVec 1 := Scalar.cmpi .eq v48 c3_i32_45
  let c1632_i32_46 : BitVec 32 := 1632#32
  let c2_i32_43 : BitVec 32 := 2#32
  let v51 : BitVec 1 := Scalar.cmpi .eq v48 c2_i32_43
  let c1088_i32_44 : BitVec 32 := 1088#32
  let c1_i32_40 : BitVec 32 := 1#32
  let v49 : BitVec 1 := Scalar.cmpi .eq v48 c1_i32_40
  let c544_i32_41 : BitVec 32 := 544#32
  let c0_i32_42 : BitVec 32 := 0#32
  let v50 : BitVec 32 := Scalar.select v49 c544_i32_41 c0_i32_42
  let v52 : BitVec 32 := Scalar.select v51 c1088_i32_44 v50
  let v54 : BitVec 32 := Scalar.select v53 c1632_i32_46 v52
  let v55 : BitVec 32 := v54
  let c0_i32_47 : BitVec 32 := 0#32
  ![v55.toNat, 0]
def k0_cond7 (i : grid0.Coords) : BitVec 1 :=
  let arg0 : BitVec 32 := BitVec.ofNat 32 (i 0).val
  let c0_i32_1 : BitVec 32 := 0#32
  let v3 : BitVec 1 := Scalar.cmpi .eq arg0 c0_i32_1
  let v9 : BitVec 32 := Scalar.extui v3
  let c0_i32_8 : BitVec 32 := 0#32
  let v10 : BitVec 1 := Scalar.cmpi .ne v9 c0_i32_8
  v10

def k0_mult10 : BitVec 32 :=
  let c1_i32_7 : BitVec 32 := 1#32
  let c3_i32_33 : BitVec 32 := 3#32
  let v37 : BitVec 1 := Scalar.cmpi .eq c1_i32_7 c3_i32_33
  let c1632_i32 : BitVec 32 := 1632#32
  let c2_i32_32 : BitVec 32 := 2#32
  let v35 : BitVec 1 := Scalar.cmpi .eq c1_i32_7 c2_i32_32
  let c1088_i32 : BitVec 32 := 1088#32
  let c1_i32_30 : BitVec 32 := 1#32
  let v33 : BitVec 1 := Scalar.cmpi .eq c1_i32_7 c1_i32_30
  let c544_i32 : BitVec 32 := 544#32
  let c0_i32_31 : BitVec 32 := 0#32
  let v34 : BitVec 32 := Scalar.select v33 c544_i32 c0_i32_31
  let v36 : BitVec 32 := Scalar.select v35 c1088_i32 v34
  let v38 : BitVec 32 := Scalar.select v37 c1632_i32 v36
  v38
def k0_off12 : Fin 2 → Nat :=
  let c1_i32_7 : BitVec 32 := 1#32
  let c3_i32_33 : BitVec 32 := 3#32
  let v37 : BitVec 1 := Scalar.cmpi .eq c1_i32_7 c3_i32_33
  let c1632_i32 : BitVec 32 := 1632#32
  let c2_i32_32 : BitVec 32 := 2#32
  let v35 : BitVec 1 := Scalar.cmpi .eq c1_i32_7 c2_i32_32
  let c1088_i32 : BitVec 32 := 1088#32
  let c1_i32_30 : BitVec 32 := 1#32
  let v33 : BitVec 1 := Scalar.cmpi .eq c1_i32_7 c1_i32_30
  let c544_i32 : BitVec 32 := 544#32
  let c0_i32_31 : BitVec 32 := 0#32
  let v34 : BitVec 32 := Scalar.select v33 c544_i32 c0_i32_31
  let v36 : BitVec 32 := Scalar.select v35 c1088_i32 v34
  let v38 : BitVec 32 := Scalar.select v37 c1632_i32 v36
  let v39 : BitVec 32 := v38
  let c0_i32_34 : BitVec 32 := 0#32
  ![v39.toNat, 0]
def k0_cond8 : BitVec 1 :=
  let c1_i32_7 : BitVec 32 := 1#32
  let c2_i32_36 : BitVec 32 := 2#32
  let v44 : BitVec 32 := Scalar.addi c1_i32_7 c2_i32_36
  let c4_i32_37 : BitVec 32 := 4#32
  let v45 : BitVec 1 := Scalar.cmpi .slt v44 c4_i32_37
  let v46 : BitVec 32 := Scalar.extui v45
  let c0_i32_38 : BitVec 32 := 0#32
  let v47 : BitVec 1 := Scalar.cmpi .ne v46 c0_i32_38
  v47

def k0_mult11 : BitVec 32 :=
  let c1_i32_7 : BitVec 32 := 1#32
  let c2_i32_39 : BitVec 32 := 2#32
  let v48 : BitVec 32 := Scalar.addi c1_i32_7 c2_i32_39
  let c3_i32_45 : BitVec 32 := 3#32
  let v53 : BitVec 1 := Scalar.cmpi .eq v48 c3_i32_45
  let c1632_i32_46 : BitVec 32 := 1632#32
  let c2_i32_43 : BitVec 32 := 2#32
  let v51 : BitVec 1 := Scalar.cmpi .eq v48 c2_i32_43
  let c1088_i32_44 : BitVec 32 := 1088#32
  let c1_i32_40 : BitVec 32 := 1#32
  let v49 : BitVec 1 := Scalar.cmpi .eq v48 c1_i32_40
  let c544_i32_41 : BitVec 32 := 544#32
  let c0_i32_42 : BitVec 32 := 0#32
  let v50 : BitVec 32 := Scalar.select v49 c544_i32_41 c0_i32_42
  let v52 : BitVec 32 := Scalar.select v51 c1088_i32_44 v50
  let v54 : BitVec 32 := Scalar.select v53 c1632_i32_46 v52
  v54
def k0_off13 : Fin 1 → Nat :=
  let c1_i32_7 : BitVec 32 := 1#32
  let c2_i32_39 : BitVec 32 := 2#32
  let v48 : BitVec 32 := Scalar.addi c1_i32_7 c2_i32_39
  ![v48.toNat]
def k0_off14 : Fin 2 → Nat :=
  let c1_i32_7 : BitVec 32 := 1#32
  let c2_i32_39 : BitVec 32 := 2#32
  let v48 : BitVec 32 := Scalar.addi c1_i32_7 c2_i32_39
  let c3_i32_45 : BitVec 32 := 3#32
  let v53 : BitVec 1 := Scalar.cmpi .eq v48 c3_i32_45
  let c1632_i32_46 : BitVec 32 := 1632#32
  let c2_i32_43 : BitVec 32 := 2#32
  let v51 : BitVec 1 := Scalar.cmpi .eq v48 c2_i32_43
  let c1088_i32_44 : BitVec 32 := 1088#32
  let c1_i32_40 : BitVec 32 := 1#32
  let v49 : BitVec 1 := Scalar.cmpi .eq v48 c1_i32_40
  let c544_i32_41 : BitVec 32 := 544#32
  let c0_i32_42 : BitVec 32 := 0#32
  let v50 : BitVec 32 := Scalar.select v49 c544_i32_41 c0_i32_42
  let v52 : BitVec 32 := Scalar.select v51 c1088_i32_44 v50
  let v54 : BitVec 32 := Scalar.select v53 c1632_i32_46 v52
  let v55 : BitVec 32 := v54
  let c0_i32_47 : BitVec 32 := 0#32
  ![v55.toNat, 0]
def k0_cond9 (i : grid0.Coords) : BitVec 1 :=
  let arg0 : BitVec 32 := BitVec.ofNat 32 (i 0).val
  let c0_i32_1 : BitVec 32 := 0#32
  let v3 : BitVec 1 := Scalar.cmpi .eq arg0 c0_i32_1
  let v11 : BitVec 32 := Scalar.extui v3
  let c0_i32_9 : BitVec 32 := 0#32
  let v12 : BitVec 1 := Scalar.cmpi .ne v11 c0_i32_9
  v12

def k0_mult12 : BitVec 32 :=
  let c2_i32 : BitVec 32 := 2#32
  let c3_i32_33 : BitVec 32 := 3#32
  let v37 : BitVec 1 := Scalar.cmpi .eq c2_i32 c3_i32_33
  let c1632_i32 : BitVec 32 := 1632#32
  let c2_i32_32 : BitVec 32 := 2#32
  let v35 : BitVec 1 := Scalar.cmpi .eq c2_i32 c2_i32_32
  let c1088_i32 : BitVec 32 := 1088#32
  let c1_i32_30 : BitVec 32 := 1#32
  let v33 : BitVec 1 := Scalar.cmpi .eq c2_i32 c1_i32_30
  let c544_i32 : BitVec 32 := 544#32
  let c0_i32_31 : BitVec 32 := 0#32
  let v34 : BitVec 32 := Scalar.select v33 c544_i32 c0_i32_31
  let v36 : BitVec 32 := Scalar.select v35 c1088_i32 v34
  let v38 : BitVec 32 := Scalar.select v37 c1632_i32 v36
  v38
def k0_off15 : Fin 2 → Nat :=
  let c2_i32 : BitVec 32 := 2#32
  let c3_i32_33 : BitVec 32 := 3#32
  let v37 : BitVec 1 := Scalar.cmpi .eq c2_i32 c3_i32_33
  let c1632_i32 : BitVec 32 := 1632#32
  let c2_i32_32 : BitVec 32 := 2#32
  let v35 : BitVec 1 := Scalar.cmpi .eq c2_i32 c2_i32_32
  let c1088_i32 : BitVec 32 := 1088#32
  let c1_i32_30 : BitVec 32 := 1#32
  let v33 : BitVec 1 := Scalar.cmpi .eq c2_i32 c1_i32_30
  let c544_i32 : BitVec 32 := 544#32
  let c0_i32_31 : BitVec 32 := 0#32
  let v34 : BitVec 32 := Scalar.select v33 c544_i32 c0_i32_31
  let v36 : BitVec 32 := Scalar.select v35 c1088_i32 v34
  let v38 : BitVec 32 := Scalar.select v37 c1632_i32 v36
  let v39 : BitVec 32 := v38
  let c0_i32_34 : BitVec 32 := 0#32
  ![v39.toNat, 0]
def k0_cond10 : BitVec 1 :=
  let c2_i32 : BitVec 32 := 2#32
  let c2_i32_36 : BitVec 32 := 2#32
  let v44 : BitVec 32 := Scalar.addi c2_i32 c2_i32_36
  let c4_i32_37 : BitVec 32 := 4#32
  let v45 : BitVec 1 := Scalar.cmpi .slt v44 c4_i32_37
  let v46 : BitVec 32 := Scalar.extui v45
  let c0_i32_38 : BitVec 32 := 0#32
  let v47 : BitVec 1 := Scalar.cmpi .ne v46 c0_i32_38
  v47

def k0_mult13 : BitVec 32 :=
  let c2_i32 : BitVec 32 := 2#32
  let c2_i32_39 : BitVec 32 := 2#32
  let v48 : BitVec 32 := Scalar.addi c2_i32 c2_i32_39
  let c3_i32_45 : BitVec 32 := 3#32
  let v53 : BitVec 1 := Scalar.cmpi .eq v48 c3_i32_45
  let c1632_i32_46 : BitVec 32 := 1632#32
  let c2_i32_43 : BitVec 32 := 2#32
  let v51 : BitVec 1 := Scalar.cmpi .eq v48 c2_i32_43
  let c1088_i32_44 : BitVec 32 := 1088#32
  let c1_i32_40 : BitVec 32 := 1#32
  let v49 : BitVec 1 := Scalar.cmpi .eq v48 c1_i32_40
  let c544_i32_41 : BitVec 32 := 544#32
  let c0_i32_42 : BitVec 32 := 0#32
  let v50 : BitVec 32 := Scalar.select v49 c544_i32_41 c0_i32_42
  let v52 : BitVec 32 := Scalar.select v51 c1088_i32_44 v50
  let v54 : BitVec 32 := Scalar.select v53 c1632_i32_46 v52
  v54
def k0_off16 : Fin 1 → Nat :=
  let c2_i32 : BitVec 32 := 2#32
  let c2_i32_39 : BitVec 32 := 2#32
  let v48 : BitVec 32 := Scalar.addi c2_i32 c2_i32_39
  ![v48.toNat]
def k0_off17 : Fin 2 → Nat :=
  let c2_i32 : BitVec 32 := 2#32
  let c2_i32_39 : BitVec 32 := 2#32
  let v48 : BitVec 32 := Scalar.addi c2_i32 c2_i32_39
  let c3_i32_45 : BitVec 32 := 3#32
  let v53 : BitVec 1 := Scalar.cmpi .eq v48 c3_i32_45
  let c1632_i32_46 : BitVec 32 := 1632#32
  let c2_i32_43 : BitVec 32 := 2#32
  let v51 : BitVec 1 := Scalar.cmpi .eq v48 c2_i32_43
  let c1088_i32_44 : BitVec 32 := 1088#32
  let c1_i32_40 : BitVec 32 := 1#32
  let v49 : BitVec 1 := Scalar.cmpi .eq v48 c1_i32_40
  let c544_i32_41 : BitVec 32 := 544#32
  let c0_i32_42 : BitVec 32 := 0#32
  let v50 : BitVec 32 := Scalar.select v49 c544_i32_41 c0_i32_42
  let v52 : BitVec 32 := Scalar.select v51 c1088_i32_44 v50
  let v54 : BitVec 32 := Scalar.select v53 c1632_i32_46 v52
  let v55 : BitVec 32 := v54
  let c0_i32_47 : BitVec 32 := 0#32
  ![v55.toNat, 0]
def k0_cond11 (i : grid0.Coords) : BitVec 1 :=
  let arg0 : BitVec 32 := BitVec.ofNat 32 (i 0).val
  let c0_i32_1 : BitVec 32 := 0#32
  let v3 : BitVec 1 := Scalar.cmpi .eq arg0 c0_i32_1
  let v13 : BitVec 32 := Scalar.extui v3
  let c0_i32_10 : BitVec 32 := 0#32
  let v14 : BitVec 1 := Scalar.cmpi .ne v13 c0_i32_10
  v14

def k0_mult14 : BitVec 32 :=
  let c3_i32 : BitVec 32 := 3#32
  let c3_i32_33 : BitVec 32 := 3#32
  let v37 : BitVec 1 := Scalar.cmpi .eq c3_i32 c3_i32_33
  let c1632_i32 : BitVec 32 := 1632#32
  let c2_i32_32 : BitVec 32 := 2#32
  let v35 : BitVec 1 := Scalar.cmpi .eq c3_i32 c2_i32_32
  let c1088_i32 : BitVec 32 := 1088#32
  let c1_i32_30 : BitVec 32 := 1#32
  let v33 : BitVec 1 := Scalar.cmpi .eq c3_i32 c1_i32_30
  let c544_i32 : BitVec 32 := 544#32
  let c0_i32_31 : BitVec 32 := 0#32
  let v34 : BitVec 32 := Scalar.select v33 c544_i32 c0_i32_31
  let v36 : BitVec 32 := Scalar.select v35 c1088_i32 v34
  let v38 : BitVec 32 := Scalar.select v37 c1632_i32 v36
  v38
def k0_off18 : Fin 2 → Nat :=
  let c3_i32 : BitVec 32 := 3#32
  let c3_i32_33 : BitVec 32 := 3#32
  let v37 : BitVec 1 := Scalar.cmpi .eq c3_i32 c3_i32_33
  let c1632_i32 : BitVec 32 := 1632#32
  let c2_i32_32 : BitVec 32 := 2#32
  let v35 : BitVec 1 := Scalar.cmpi .eq c3_i32 c2_i32_32
  let c1088_i32 : BitVec 32 := 1088#32
  let c1_i32_30 : BitVec 32 := 1#32
  let v33 : BitVec 1 := Scalar.cmpi .eq c3_i32 c1_i32_30
  let c544_i32 : BitVec 32 := 544#32
  let c0_i32_31 : BitVec 32 := 0#32
  let v34 : BitVec 32 := Scalar.select v33 c544_i32 c0_i32_31
  let v36 : BitVec 32 := Scalar.select v35 c1088_i32 v34
  let v38 : BitVec 32 := Scalar.select v37 c1632_i32 v36
  let v39 : BitVec 32 := v38
  let c0_i32_34 : BitVec 32 := 0#32
  ![v39.toNat, 0]
def k0_cond12 : BitVec 1 :=
  let c3_i32 : BitVec 32 := 3#32
  let c2_i32_36 : BitVec 32 := 2#32
  let v44 : BitVec 32 := Scalar.addi c3_i32 c2_i32_36
  let c4_i32_37 : BitVec 32 := 4#32
  let v45 : BitVec 1 := Scalar.cmpi .slt v44 c4_i32_37
  let v46 : BitVec 32 := Scalar.extui v45
  let c0_i32_38 : BitVec 32 := 0#32
  let v47 : BitVec 1 := Scalar.cmpi .ne v46 c0_i32_38
  v47

def k0_mult15 : BitVec 32 :=
  let c3_i32 : BitVec 32 := 3#32
  let c2_i32_39 : BitVec 32 := 2#32
  let v48 : BitVec 32 := Scalar.addi c3_i32 c2_i32_39
  let c3_i32_45 : BitVec 32 := 3#32
  let v53 : BitVec 1 := Scalar.cmpi .eq v48 c3_i32_45
  let c1632_i32_46 : BitVec 32 := 1632#32
  let c2_i32_43 : BitVec 32 := 2#32
  let v51 : BitVec 1 := Scalar.cmpi .eq v48 c2_i32_43
  let c1088_i32_44 : BitVec 32 := 1088#32
  let c1_i32_40 : BitVec 32 := 1#32
  let v49 : BitVec 1 := Scalar.cmpi .eq v48 c1_i32_40
  let c544_i32_41 : BitVec 32 := 544#32
  let c0_i32_42 : BitVec 32 := 0#32
  let v50 : BitVec 32 := Scalar.select v49 c544_i32_41 c0_i32_42
  let v52 : BitVec 32 := Scalar.select v51 c1088_i32_44 v50
  let v54 : BitVec 32 := Scalar.select v53 c1632_i32_46 v52
  v54
def k0_off19 : Fin 1 → Nat :=
  let c3_i32 : BitVec 32 := 3#32
  let c2_i32_39 : BitVec 32 := 2#32
  let v48 : BitVec 32 := Scalar.addi c3_i32 c2_i32_39
  ![v48.toNat]
def k0_off20 : Fin 2 → Nat :=
  let c3_i32 : BitVec 32 := 3#32
  let c2_i32_39 : BitVec 32 := 2#32
  let v48 : BitVec 32 := Scalar.addi c3_i32 c2_i32_39
  let c3_i32_45 : BitVec 32 := 3#32
  let v53 : BitVec 1 := Scalar.cmpi .eq v48 c3_i32_45
  let c1632_i32_46 : BitVec 32 := 1632#32
  let c2_i32_43 : BitVec 32 := 2#32
  let v51 : BitVec 1 := Scalar.cmpi .eq v48 c2_i32_43
  let c1088_i32_44 : BitVec 32 := 1088#32
  let c1_i32_40 : BitVec 32 := 1#32
  let v49 : BitVec 1 := Scalar.cmpi .eq v48 c1_i32_40
  let c544_i32_41 : BitVec 32 := 544#32
  let c0_i32_42 : BitVec 32 := 0#32
  let v50 : BitVec 32 := Scalar.select v49 c544_i32_41 c0_i32_42
  let v52 : BitVec 32 := Scalar.select v51 c1088_i32_44 v50
  let v54 : BitVec 32 := Scalar.select v53 c1632_i32_46 v52
  let v55 : BitVec 32 := v54
  let c0_i32_47 : BitVec 32 := 0#32
  ![v55.toNat, 0]
def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2176x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SwigluRefIdeal.lean ====
abbrev S2176x1024 : Shape := ⟨2, ![2176, 1024]⟩
abbrev S1024x2816 : Shape := ⟨2, ![1024, 2816]⟩
abbrev S2816x1024 : Shape := ⟨2, ![2816, 1024]⟩
abbrev S2176x2816 : Shape := ⟨2, ![2176, 2816]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2176x1024, .f32⟩
  | .hbm, ⟨5, _⟩ => ⟨S2176x2816, .f32⟩
  | .hbm, ⟨6, _⟩ => ⟨S2176x2816, .f32⟩
  | .hbm, ⟨7, _⟩ => ⟨S2176x2816, .f32⟩
  | .hbm, ⟨8, _⟩ => ⟨S2176x2816, .f32⟩
  | .hbm, ⟨9, _⟩ => ⟨S_, .f32⟩
  | .hbm, ⟨10, _⟩ => ⟨S2176x2816, .f32⟩
  | .hbm, ⟨11, _⟩ => ⟨S2176x2816, .f32⟩
  | .hbm, ⟨12, _⟩ => ⟨S_, .f32⟩
  | .hbm, ⟨13, _⟩ => ⟨S2176x2816, .f32⟩
  | .hbm, ⟨14, _⟩ => ⟨S2176x2816, .f32⟩
  | .hbm, ⟨15, _⟩ => ⟨S_, .f32⟩
  | .hbm, ⟨16, _⟩ => ⟨S2176x2816, .f32⟩
  | .hbm, ⟨17, _⟩ => ⟨S2176x2816, .f32⟩
  | .hbm, ⟨18, _⟩ => ⟨S2176x2816, .f32⟩
  | .hbm, ⟨19, _⟩ => ⟨S2176x2816, .f32⟩
  | .hbm, ⟨20, _⟩ => ⟨S2176x2816, .f32⟩
  | .hbm, ⟨21, _⟩ => ⟨S2176x1024, .f32⟩
  | .hbm, ⟨22, _⟩ => ⟨S1024x2816, .f32⟩
  | .hbm, ⟨23, _⟩ => ⟨S2816x1024, .f32⟩
  | .hbm, ⟨24, _⟩ => ⟨S2176x2816, .f32⟩
  | .hbm, ⟨25, _⟩ => ⟨S2176x2816, .f32⟩
  | .hbm, ⟨26, _⟩ => ⟨S2176x2816, .f32⟩
  | .hbm, ⟨27, _⟩ => ⟨S2176x2816, .f32⟩
  | .hbm, ⟨28, _⟩ => ⟨S2176x2816, .f32⟩
  | .hbm, ⟨29, _⟩ => ⟨S2176x2816, .f32⟩
  | .hbm, ⟨30, _⟩ => ⟨S2176x2816, .f32⟩
  | .hbm, ⟨31, _⟩ => ⟨S2816x1024, .f32⟩
  | .hbm, ⟨32, _⟩ => ⟨S1024x2816, .f32⟩
  | .hbm, ⟨33, _⟩ => ⟨S2816x1024, .f32⟩
  | .hbm, ⟨34, _⟩ => ⟨S1024x2816, .f32⟩
  | .hbm, ⟨35, _⟩ => ⟨S2816x1024, .f32⟩
  | .hbm, ⟨36, _⟩ => ⟨S2816x1024, .f32⟩
  | .hbm, ⟨37, _⟩ => ⟨S2176x2816, .bf16⟩
  | .hbm, ⟨38, _⟩ => ⟨S2176x2816, .bf16⟩
  | .hbm, ⟨39, _⟩ => ⟨S2816x1024, .bf16⟩
  | .hbm, ⟨40, _⟩ => ⟨S2816x1024, .bf16⟩
  | .hbm, ⟨41, _⟩ => ⟨S2816x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]
-- ==== GateUp.lean ====
abbrev S2176x1024 : Shape := ⟨2, ![2176, 1024]⟩
abbrev S1x1024 : Shape := ⟨2, ![1, 1024]⟩
abbrev S1024x2816 : Shape := ⟨2, ![1024, 2816]⟩
abbrev S2176x2816 : Shape := ⟨2, ![2176, 2816]⟩
abbrev S2816x1024 : Shape := ⟨2, ![2816, 1024]⟩
abbrev S544x2816 : Shape := ⟨2, ![544, 2816]⟩
abbrev S544x1024 : Shape := ⟨2, ![544, 1024]⟩
abbrev S11 : Shape := ⟨1, ![11]⟩
abbrev S1 : Shape := ⟨1, ![1]⟩
abbrev S_ : Shape := ⟨0, ![]⟩
abbrev S256x1024 : Shape := ⟨2, ![256, 1024]⟩
abbrev S544x256 : Shape := ⟨2, ![544, 256]⟩
abbrev S272x1024 : Shape := ⟨2, ![272, 1024]⟩
abbrev S272 : Shape := ⟨1, ![272]⟩
abbrev S272x1 : Shape := ⟨2, ![272, 1]⟩
abbrev S1024 : Shape := ⟨1, ![1024]⟩

abbrev nBuf : Space → Nat
  | .hbm => 16
  | .vmem => 17
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2176x2816, .f32⟩
  | .hbm, ⟨5, _⟩ => ⟨S2176x2816, .f32⟩
  | .hbm, ⟨6, _⟩ => ⟨S2176x1024, .f32⟩
  | .hbm, ⟨7, _⟩ => ⟨S2176x2816, .bf16⟩
  | .hbm, ⟨8, _⟩ => ⟨S2176x2816, .bf16⟩
  | .hbm, ⟨9, _⟩ => ⟨S2816x1024, .f32⟩
  | .hbm, ⟨10, _⟩ => ⟨S2816x1024, .bf16⟩
  | .hbm, ⟨11, _⟩ => ⟨S2816x1024, .f32⟩
  | .hbm, ⟨12, _⟩ => ⟨S2816x1024, .bf16⟩
  | .hbm, ⟨13, _⟩ => ⟨S2176x1024, .f32⟩
  | .hbm, ⟨14, _⟩ => ⟨S2176x1024, .bf16⟩
  | .hbm, ⟨15, _⟩ => ⟨S1x1024, .f32⟩
  | .local _ .vmem, ⟨0, _⟩ => ⟨S544x2816, .bf16⟩
  | .local _ .vmem, ⟨1, _⟩ => ⟨S544x2816, .bf16⟩
  | .local _ .vmem, ⟨2, _⟩ => ⟨S544x2816, .bf16⟩
  | .local _ .vmem, ⟨3, _⟩ => ⟨S544x2816, .bf16⟩
  | .local _ .vmem, ⟨4, _⟩ => ⟨S544x1024, .f32⟩
  | .local _ .vmem, ⟨5, _⟩ => ⟨S544x1024, .f32⟩
  | .local _ .vmem, ⟨6, _⟩ => ⟨S1x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .bf16⟩
  | .local _ .vmem, ⟨12, _⟩ => ⟨S544x1024, .bf16⟩
  | .local _ .vmem, ⟨13, _⟩ => ⟨S1x1024, .f32⟩
  | .local _ .vmem, ⟨14, _⟩ => ⟨S544x1024, .f32⟩
  | .local _ .vmem, ⟨15, _⟩ => ⟨S2816x1024, .bf16⟩
  | .local _ .vmem, ⟨16, _⟩ => ⟨S2816x1024, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let false_60 : BitVec 1 := 0#1
  let c2560_i32 : BitVec 32 := 2560#32
  let false_59 : BitVec 1 := 0#1
  let c2304_i32 : BitVec 32 := 2304#32
  let false_58 : BitVec 1 := 0#1
  let c2048_i32 : BitVec 32 := 2048#32
  let false_57 : BitVec 1 := 0#1
  let c1792_i32 : BitVec 32 := 1792#32
  let false_56 : BitVec 1 := 0#1
  let c1536_i32 : BitVec 32 := 1536#32
  let false_55 : BitVec 1 := 0#1
  let c1280_i32 : BitVec 32 := 1280#32
  let false_54 : BitVec 1 := 0#1
  let c1024_i32 : BitVec 32 := 1024#32
  let false_53 : BitVec 1 := 0#1
  let c768_i32 : BitVec 32 := 768#32
  let false_52 : BitVec 1 := 0#1
  let c512_i32 : BitVec 32 := 512#32
  let v_false : BitVec 1 := 0#1
  let c256_i32 : BitVec 32 := 256#32
  let c0_i32_51 : BitVec 32 := 0#32
  let v88 : BitVec 32 := Scalar.select v_false c256_i32 c0_i32_51
  let v89 : BitVec 32 := Scalar.select false_52 c512_i32 v88
  let v90 : BitVec 32 := Scalar.select false_53 c768_i32 v89
  let v91 : BitVec 32 := Scalar.select false_54 c1024_i32 v90
  let v92 : BitVec 32 := Scalar.select false_55 c1280_i32 v91
  let v93 : BitVec 32 := Scalar.select false_56 c1536_i32 v92
  let v94 : BitVec 32 := Scalar.select false_57 c1792_i32 v93
  let v95 : BitVec 32 := Scalar.select false_58 c2048_i32 v94
  let v96 : BitVec 32 := Scalar.select false_59 c2304_i32 v95
  let v97 : BitVec 32 := Scalar.select false_60 c2560_i32 v96
  v97
def k0_off1 (v_false : BitVec 1) : Fin 2 → Nat :=
  let false_60 : BitVec 1 := 0#1
  let c2560_i32 : BitVec 32 := 2560#32
  let false_59 : BitVec 1 := 0#1
  let c2304_i32 : BitVec 32 := 2304#32
  let false_58 : BitVec 1 := 0#1
  let c2048_i32 : BitVec 32 := 2048#32
  let false_57 : BitVec 1 := 0#1
  let c1792_i32 : BitVec 32 := 1792#32
  let false_56 : BitVec 1 := 0#1
  let c1536_i32 : BitVec 32 := 1536#32
  let false_55 : BitVec 1 := 0#1
  let c1280_i32 : BitVec 32 := 1280#32
  let false_54 : BitVec 1 := 0#1
  let c1024_i32 : BitVec 32 := 1024#32
  let false_53 : BitVec 1 := 0#1
  let c768_i32 : BitVec 32 := 768#32
  let false_52 : BitVec 1 := 0#1
  let c512_i32 : BitVec 32 := 512#32
  let c256_i32 : BitVec 32 := 256#32
  let c0_i32_51 : BitVec 32 := 0#32
  let v88 : BitVec 32 := Scalar.select v_false c256_i32 c0_i32_51
  let v89 : BitVec 32 := Scalar.select false_52 c512_i32 v88
  let v90 : BitVec 32 := Scalar.select false_53 c768_i32 v89
  let v91 : BitVec 32 := Scalar.select false_54 c1024_i32 v90
  let v92 : BitVec 32 := Scalar.select false_55 c1280_i32 v91
  let v93 : BitVec 32 := Scalar.select false_56 c1536_i32 v92
  let v94 : BitVec 32 := Scalar.select false_57 c1792_i32 v93
  let v95 : BitVec 32 := Scalar.select false_58 c2048_i32 v94
  let v96 : BitVec 32 := Scalar.select false_59 c2304_i32 v95
  let v97 : BitVec 32 := Scalar.select false_60 c2560_i32 v96
  let v98 : BitVec 32 := v97
  let c0_i32_62 : BitVec 32 := 0#32
  ![v98.toNat, 0]
def k0_mult2 : BitVec 32 :=
  let false_82 : BitVec 1 := 0#1
  let c2560_i32_83 : BitVec 32 := 2560#32
  let false_80 : BitVec 1 := 0#1
  let c2304_i32_81 : BitVec 32 := 2304#32
  let false_78 : BitVec 1 := 0#1
  let c2048_i32_79 : BitVec 32 := 2048#32
  let false_76 : BitVec 1 := 0#1
  let c1792_i32_77 : BitVec 32 := 1792#32
  let false_74 : BitVec 1 := 0#1
  let c1536_i32_75 : BitVec 32 := 1536#32
  let false_72 : BitVec 1 := 0#1
  let c1280_i32_73 : BitVec 32 := 1280#32
  let false_70 : BitVec 1 := 0#1
  let c1024_i32_71 : BitVec 32 := 1024#32
  let false_68 : BitVec 1 := 0#1
  let c768_i32_69 : BitVec 32 := 768#32
  let false_66 : BitVec 1 := 0#1
  let c512_i32_67 : BitVec 32 := 512#32
  let v_true : BitVec 1 := 1#1
  let c256_i32_64 : BitVec 32 := 256#32
  let c0_i32_65 : BitVec 32 := 0#32
  let v103 : BitVec 32 := Scalar.select v_true c256_i32_64 c0_i32_65
  let v104 : BitVec 32 := Scalar.select false_66 c512_i32_67 v103
  let v105 : BitVec 32 := Scalar.select false_68 c768_i32_69 v104
  let v106 : BitVec 32 := Scalar.select false_70 c1024_i32_71 v105
  let v107 : BitVec 32 := Scalar.select false_72 c1280_i32_73 v106
  let v108 : BitVec 32 := Scalar.select false_74 c1536_i32_75 v107
  let v109 : BitVec 32 := Scalar.select false_76 c1792_i32_77 v108
  let v110 : BitVec 32 := Scalar.select false_78 c2048_i32_79 v109
  let v111 : BitVec 32 := Scalar.select false_80 c2304_i32_81 v110
  let v112 : BitVec 32 := Scalar.select false_82 c2560_i32_83 v111
  v112
def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_mult3 : BitVec 32 :=
  let false_60 : BitVec 1 := 0#1
  let c2560_i32 : BitVec 32 := 2560#32
  let false_59 : BitVec 1 := 0#1
  let c2304_i32 : BitVec 32 := 2304#32
  let false_58 : BitVec 1 := 0#1
  let c2048_i32 : BitVec 32 := 2048#32
  let false_57 : BitVec 1 := 0#1
  let c1792_i32 : BitVec 32 := 1792#32
  let false_56 : BitVec 1 := 0#1
  let c1536_i32 : BitVec 32 := 1536#32
  let false_55 : BitVec 1 := 0#1
  let c1280_i32 : BitVec 32 := 1280#32
  let false_54 : BitVec 1 := 0#1
  let c1024_i32 : BitVec 32 := 1024#32
  let false_53 : BitVec 1 := 0#1
  let c768_i32 : BitVec 32 := 768#32
  let false_52 : BitVec 1 := 0#1
  let c512_i32 : BitVec 32 := 512#32
  let v_false : BitVec 1 := 0#1
  let c256_i32 : BitVec 32 := 256#32
  let c0_i32_51 : BitVec 32 := 0#32
  let v88 : BitVec 32 := Scalar.select v_false c256_i32 c0_i32_51
  let v89 : BitVec 32 := Scalar.select false_52 c512_i32 v88
  let v90 : BitVec 32 := Scalar.select false_53 c768_i32 v89
  let v91 : BitVec 32 := Scalar.select false_54 c1024_i32 v90
  let v92 : BitVec 32 := Scalar.select false_55 c1280_i32 v91
  let v93 : BitVec 32 := Scalar.select false_56 c1536_i32 v92
  let v94 : BitVec 32 := Scalar.select false_57 c1792_i32 v93
  let v95 : BitVec 32 := Scalar.select false_58 c2048_i32 v94
  let v96 : BitVec 32 := Scalar.select false_59 c2304_i32 v95
  let v97 : BitVec 32 := Scalar.select false_60 c2560_i32 v96
  v97
def k0_off2 (v_false : BitVec 1) : Fin 2 → Nat :=
  let false_60 : BitVec 1 := 0#1
  let c2560_i32 : BitVec 32 := 2560#32
  let false_59 : BitVec 1 := 0#1
  let c2304_i32 : BitVec 32 := 2304#32
  let false_58 : BitVec 1 := 0#1
  let c2048_i32 : BitVec 32 := 2048#32
  let false_57 : BitVec 1 := 0#1
  let c1792_i32 : BitVec 32 := 1792#32
  let false_56 : BitVec 1 := 0#1
  let c1536_i32 : BitVec 32 := 1536#32
  let false_55 : BitVec 1 := 0#1
  let c1280_i32 : BitVec 32 := 1280#32
  let false_54 : BitVec 1 := 0#1
  let c1024_i32 : BitVec 32 := 1024#32
  let false_53 : BitVec 1 := 0#1
  let c768_i32 : BitVec 32 := 768#32
  let false_52 : BitVec 1 := 0#1
  let c512_i32 : BitVec 32 := 512#32
  let c256_i32 : BitVec 32 := 256#32
  let c0_i32_51 : BitVec 32 := 0#32
  let v88 : BitVec 32 := Scalar.select v_false c256_i32 c0_i32_51
  let v89 : BitVec 32 := Scalar.select false_52 c512_i32 v88
  let v90 : BitVec 32 := Scalar.select false_53 c768_i32 v89
  let v91 : BitVec 32 := Scalar.select false_54 c1024_i32 v90
  let v92 : BitVec 32 := Scalar.select false_55 c1280_i32 v91
  let v93 : BitVec 32 := Scalar.select false_56 c1536_i32 v92
  let v94 : BitVec 32 := Scalar.select false_57 c1792_i32 v93
  let v95 : BitVec 32 := Scalar.select false_58 c2048_i32 v94
  let v96 : BitVec 32 := Scalar.select false_59 c2304_i32 v95
  let v97 : BitVec 32 := Scalar.select false_60 c2560_i32 v96
  let v98 : BitVec 32 := v97
  let c0_i32_62 : BitVec 32 := 0#32
  ![v98.toNat, 0]
def k0_mult4 : BitVec 32 :=
  let false_82 : BitVec 1 := 0#1
  let c2560_i32_83 : BitVec 32 := 2560#32
  let false_80 : BitVec 1 := 0#1
  let c2304_i32_81 : BitVec 32 := 2304#32
  let false_78 : BitVec 1 := 0#1
  let c2048_i32_79 : BitVec 32 := 2048#32
  let false_76 : BitVec 1 := 0#1
  let c1792_i32_77 : BitVec 32 := 1792#32
  let false_74 : BitVec 1 := 0#1
  let c1536_i32_75 : BitVec 32 := 1536#32
  let false_72 : BitVec 1 := 0#1
  let c1280_i32_73 : BitVec 32 := 1280#32
  let false_70 : BitVec 1 := 0#1
  let c1024_i32_71 : BitVec 32 := 1024#32
  let false_68 : BitVec 1 := 0#1
  let c768_i32_69 : BitVec 32 := 768#32
  let false_66 : BitVec 1 := 0#1
  let c512_i32_67 : BitVec 32 := 512#32
  let v_true : BitVec 1 := 1#1
  let c256_i32_64 : BitVec 32 := 256#32
  let c0_i32_65 : BitVec 32 := 0#32
  let v103 : BitVec 32 := Scalar.select v_true c256_i32_64 c0_i32_65
  let v104 : BitVec 32 := Scalar.select false_66 c512_i32_67 v103
  let v105 : BitVec 32 := Scalar.select false_68 c768_i32_69 v104
  let v106 : BitVec 32 := Scalar.select false_70 c1024_i32_71 v105
  let v107 : BitVec 32 := Scalar.select false_72 c1280_i32_73 v106
  let v108 : BitVec 32 := Scalar.select false_74 c1536_i32_75 v107
  let v109 : BitVec 32 := Scalar.select false_76 c1792_i32_77 v108
  let v110 : BitVec 32 := Scalar.select false_78 c2048_i32_79 v109
  let v111 : BitVec 32 := Scalar.select false_80 c2304_i32_81 v110
  let v112 : BitVec 32 := Scalar.select false_82 c2560_i32_83 v111
  v112
@[reducible] def k0_t1_loop : Scf.Loop 32 :=
  let c0_i32_6 : BitVec 32 := 0#32
  let c11_i32 : BitVec 32 := 11#32
  let v13 : BitVec 32 := Scalar.addi c0_i32_6 c11_i32
  let c1_i32 : BitVec 32 := 1#32
  ⟨c0_i32_6, v13, c1_i32⟩
def k0_mult5 (k0_t1 : Fin k0_t1_loop.trips) : BitVec 32 :=
  let c0_i32_6 : BitVec 32 := 0#32
  let c1_i32 : BitVec 32 := 1#32
  let arg16 : BitVec 32 := Scf.iv c0_i32_6 c1_i32 k0_t1
  let c256_i32 : BitVec 32 := 256#32
  let v88 : BitVec 32 := Scalar.muli arg16 c256_i32
  v88
def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v107 : BitVec 32 := Scalar.extui v0
  let c0_i32_58 : BitVec 32 := 0#32
  let v108 : BitVec 1 := Scalar.cmpi .ne v107 c0_i32_58
  v108

def k0_mult6 (k0_t1 : Fin k0_t1_loop.trips) : BitVec 32 :=
  let c0_i32_6 : BitVec 32 := 0#32
  let c1_i32 : BitVec 32 := 1#32
  let arg16 : BitVec 32 := Scf.iv c0_i32_6 c1_i32 k0_t1
  let c256_i32 : BitVec 32 := 256#32
  let v88 : BitVec 32 := Scalar.muli arg16 c256_i32
  let v89 : BitVec 32 := v88
  let c0_i32_52 : BitVec 32 := 0#32
  let v91 : BitVec 1 := Scalar.cmpi .sgt v89 c0_i32_52
  let v92 : BitVec 32 := Scalar.extui v91
  let c0_i32_53 : BitVec 32 := 0#32
  let v93 : BitVec 1 := Scalar.cmpi .slt v89 c0_i32_53
  let v94 : BitVec 32 := Scalar.extui v93
  let v95 : BitVec 32 := Scalar.subi v92 v94
  let c256_i32_51 : BitVec 32 := 256#32
  let c0_i32_54 : BitVec 32 := 0#32
  let v96 : BitVec 1 := Scalar.cmpi .sgt c256_i32_51 c0_i32_54
  let v97 : BitVec 32 := Scalar.extui v96
  let c0_i32_55 : BitVec 32 := 0#32
  let v98 : BitVec 1 := Scalar.cmpi .slt c256_i32_51 c0_i32_55
  let v99 : BitVec 32 := Scalar.extui v98
  let v100 : BitVec 32 := Scalar.subi v97 v99
  let v101 : BitVec 1 := Scalar.cmpi .ne v95 v100
  let v102 : BitVec 32 := Scalar.remsi v89 c256_i32_51
  let c0_i32_56 : BitVec 32 := 0#32
  let v103 : BitVec 1 := Scalar.cmpi .ne v102 c0_i32_56
  let v104 : BitVec 1 := Scalar.andi v101 v103
  let v90 : BitVec 32 := Scalar.divsi v89 c256_i32_51
  let c1_i32_57 : BitVec 32 := 1#32
  let v105 : BitVec 32 := Scalar.subi v90 c1_i32_57
  let v106 : BitVec 32 := Scalar.select v104 v105 v90
  let c10_i32 : BitVec 32 := 10#32
  let v164 : BitVec 1 := Scalar.cmpi .eq v106 c10_i32
  let c2560_i32 : BitVec 32 := 2560#32
  let c9_i32 : BitVec 32 := 9#32
  let v162 : BitVec 1 := Scalar.cmpi .eq v106 c9_i32
  let c2304_i32 : BitVec 32 := 2304#32
  let c8_i32 : BitVec 32 := 8#32
  let v160 : BitVec 1 := Scalar.cmpi .eq v106 c8_i32
  let c2048_i32 : BitVec 32 := 2048#32
  let c7_i32 : BitVec 32 := 7#32
  let v158 : BitVec 1 := Scalar.cmpi .eq v106 c7_i32
  let c1792_i32 : BitVec 32 := 1792#32
  let c6_i32 : BitVec 32 := 6#32
  let v156 : BitVec 1 := Scalar.cmpi .eq v106 c6_i32
  let c1536_i32 : BitVec 32 := 1536#32
  let c5_i32 : BitVec 32 := 5#32
  let v154 : BitVec 1 := Scalar.cmpi .eq v106 c5_i32
  let c1280_i32 : BitVec 32 := 1280#32
  let c4_i32 : BitVec 32 := 4#32
  let v152 : BitVec 1 := Scalar.cmpi .eq v106 c4_i32
  let c1024_i32 : BitVec 32 := 1024#32
  let c3_i32 : BitVec 32 := 3#32
  let v150 : BitVec 1 := Scalar.cmpi .eq v106 c3_i32
  let c768_i32 : BitVec 32 := 768#32
  let c2_i32 : BitVec 32 := 2#32
  let v148 : BitVec 1 := Scalar.cmpi .eq v106 c2_i32
  let c512_i32 : BitVec 32 := 512#32
  let c1_i32_77 : BitVec 32 := 1#32
  let v146 : BitVec 1 := Scalar.cmpi .eq v106 c1_i32_77
  let c256_i32_78 : BitVec 32 := 256#32
  let c0_i32_79 : BitVec 32 := 0#32
  let v147 : BitVec 32 := Scalar.select v146 c256_i32_78 c0_i32_79
  let v149 : BitVec 32 := Scalar.select v148 c512_i32 v147
  let v151 : BitVec 32 := Scalar.select v150 c768_i32 v149
  let v153 : BitVec 32 := Scalar.select v152 c1024_i32 v151
  let v155 : BitVec 32 := Scalar.select v154 c1280_i32 v153
  let v157 : BitVec 32 := Scalar.select v156 c1536_i32 v155
  let v159 : BitVec 32 := Scalar.select v158 c1792_i32 v157
  let v161 : BitVec 32 := Scalar.select v160 c2048_i32 v159
  let v163 : BitVec 32 := Scalar.select v162 c2304_i32 v161
  let v165 : BitVec 32 := Scalar.select v164 c2560_i32 v163
  v165
def k0_off3 (k0_t1 : Fin k0_t1_loop.trips) : Fin 1 → Nat :=
  let c0_i32_6 : BitVec 32 := 0#32
  let c1_i32 : BitVec 32 := 1#32
  let arg16 : BitVec 32 := Scf.iv c0_i32_6 c1_i32 k0_t1
  let c256_i32 : BitVec 32 := 256#32
  let v88 : BitVec 32 := Scalar.muli arg16 c256_i32
  let v89 : BitVec 32 := v88
  let c0_i32_52 : BitVec 32 := 0#32
  let v91 : BitVec 1 := Scalar.cmpi .sgt v89 c0_i32_52
  let v92 : BitVec 32 := Scalar.extui v91
  let c0_i32_53 : BitVec 32 := 0#32
  let v93 : BitVec 1 := Scalar.cmpi .slt v89 c0_i32_53
  let v94 : BitVec 32 := Scalar.extui v93
  let v95 : BitVec 32 := Scalar.subi v92 v94
  let c256_i32_51 : BitVec 32 := 256#32
  let c0_i32_54 : BitVec 32 := 0#32
  let v96 : BitVec 1 := Scalar.cmpi .sgt c256_i32_51 c0_i32_54
  let v97 : BitVec 32 := Scalar.extui v96
  let c0_i32_55 : BitVec 32 := 0#32
  let v98 : BitVec 1 := Scalar.cmpi .slt c256_i32_51 c0_i32_55
  let v99 : BitVec 32 := Scalar.extui v98
  let v100 : BitVec 32 := Scalar.subi v97 v99
  let v101 : BitVec 1 := Scalar.cmpi .ne v95 v100
  let v102 : BitVec 32 := Scalar.remsi v89 c256_i32_51
  let c0_i32_56 : BitVec 32 := 0#32
  let v103 : BitVec 1 := Scalar.cmpi .ne v102 c0_i32_56
  let v104 : BitVec 1 := Scalar.andi v101 v103
  let v90 : BitVec 32 := Scalar.divsi v89 c256_i32_51
  let c1_i32_57 : BitVec 32 := 1#32
  let v105 : BitVec 32 := Scalar.subi v90 c1_i32_57
  let v106 : BitVec 32 := Scalar.select v104 v105 v90
  ![v106.toNat]
def k0_off4 (k0_t1 : Fin k0_t1_loop.trips) : Fin 2 → Nat :=
  let c0_i32_6 : BitVec 32 := 0#32
  let c1_i32 : BitVec 32 := 1#32
  let arg16 : BitVec 32 := Scf.iv c0_i32_6 c1_i32 k0_t1
  let c256_i32 : BitVec 32 := 256#32
  let v88 : BitVec 32 := Scalar.muli arg16 c256_i32
  let v89 : BitVec 32 := v88
  let c0_i32_52 : BitVec 32 := 0#32
  let v91 : BitVec 1 := Scalar.cmpi .sgt v89 c0_i32_52
  let v92 : BitVec 32 := Scalar.extui v91
  let c0_i32_53 : BitVec 32 := 0#32
  let v93 : BitVec 1 := Scalar.cmpi .slt v89 c0_i32_53
  let v94 : BitVec 32 := Scalar.extui v93
  let v95 : BitVec 32 := Scalar.subi v92 v94
  let c256_i32_51 : BitVec 32 := 256#32
  let c0_i32_54 : BitVec 32 := 0#32
  let v96 : BitVec 1 := Scalar.cmpi .sgt c256_i32_51 c0_i32_54
  let v97 : BitVec 32 := Scalar.extui v96
  let c0_i32_55 : BitVec 32 := 0#32
  let v98 : BitVec 1 := Scalar.cmpi .slt c256_i32_51 c0_i32_55
  let v99 : BitVec 32 := Scalar.extui v98
  let v100 : BitVec 32 := Scalar.subi v97 v99
  let v101 : BitVec 1 := Scalar.cmpi .ne v95 v100
  let v102 : BitVec 32 := Scalar.remsi v89 c256_i32_51
  let c0_i32_56 : BitVec 32 := 0#32
  let v103 : BitVec 1 := Scalar.cmpi .ne v102 c0_i32_56
  let v104 : BitVec 1 := Scalar.andi v101 v103
  let v90 : BitVec 32 := Scalar.divsi v89 c256_i32_51
  let c1_i32_57 : BitVec 32 := 1#32
  let v105 : BitVec 32 := Scalar.subi v90 c1_i32_57
  let v106 : BitVec 32 := Scalar.select v104 v105 v90
  let c10_i32 : BitVec 32 := 10#32
  let v164 : BitVec 1 := Scalar.cmpi .eq v106 c10_i32
  let c2560_i32 : BitVec 32 := 2560#32
  let c9_i32 : BitVec 32 := 9#32
  let v162 : BitVec 1 := Scalar.cmpi .eq v106 c9_i32
  let c2304_i32 : BitVec 32 := 2304#32
  let c8_i32 : BitVec 32 := 8#32
  let v160 : BitVec 1 := Scalar.cmpi .eq v106 c8_i32
  let c2048_i32 : BitVec 32 := 2048#32
  let c7_i32 : BitVec 32 := 7#32
  let v158 : BitVec 1 := Scalar.cmpi .eq v106 c7_i32
  let c1792_i32 : BitVec 32 := 1792#32
  let c6_i32 : BitVec 32 := 6#32
  let v156 : BitVec 1 := Scalar.cmpi .eq v106 c6_i32
  let c1536_i32 : BitVec 32 := 1536#32
  let c5_i32 : BitVec 32 := 5#32
  let v154 : BitVec 1 := Scalar.cmpi .eq v106 c5_i32
  let c1280_i32 : BitVec 32 := 1280#32
  let c4_i32 : BitVec 32 := 4#32
  let v152 : BitVec 1 := Scalar.cmpi .eq v106 c4_i32
  let c1024_i32 : BitVec 32 := 1024#32
  let c3_i32 : BitVec 32 := 3#32
  let v150 : BitVec 1 := Scalar.cmpi .eq v106 c3_i32
  let c768_i32 : BitVec 32 := 768#32
  let c2_i32 : BitVec 32 := 2#32
  let v148 : BitVec 1 := Scalar.cmpi .eq v106 c2_i32
  let c512_i32 : BitVec 32 := 512#32
  let c1_i32_77 : BitVec 32 := 1#32
  let v146 : BitVec 1 := Scalar.cmpi .eq v106 c1_i32_77
  let c256_i32_78 : BitVec 32 := 256#32
  let c0_i32_79 : BitVec 32 := 0#32
  let v147 : BitVec 32 := Scalar.select v146 c256_i32_78 c0_i32_79
  let v149 : BitVec 32 := Scalar.select v148 c512_i32 v147
  let v151 : BitVec 32 := Scalar.select v150 c768_i32 v149
  let v153 : BitVec 32 := Scalar.select v152 c1024_i32 v151
  let v155 : BitVec 32 := Scalar.select v154 c1280_i32 v153
  let v157 : BitVec 32 := Scalar.select v156 c1536_i32 v155
  let v159 : BitVec 32 := Scalar.select v158 c1792_i32 v157
  let v161 : BitVec 32 := Scalar.select v160 c2048_i32 v159
  let v163 : BitVec 32 := Scalar.select v162 c2304_i32 v161
  let v165 : BitVec 32 := Scalar.select v164 c2560_i32 v163
  let v166 : BitVec 32 := v165
  let c0_i32_80 : BitVec 32 := 0#32
  ![v166.toNat, 0]
def k0_cond5 (k0_t1 : Fin k0_t1_loop.trips) : BitVec 1 :=
  let c0_i32_6 : BitVec 32 := 0#32
  let c1_i32 : BitVec 32 := 1#32
  let arg16 : BitVec 32 := Scf.iv c0_i32_6 c1_i32 k0_t1
  let c256_i32 : BitVec 32 := 256#32
  let v88 : BitVec 32 := Scalar.muli arg16 c256_i32
  let v89 : BitVec 32 := v88
  let c0_i32_52 : BitVec 32 := 0#32
  let v91 : BitVec 1 := Scalar.cmpi .sgt v89 c0_i32_52
  let v92 : BitVec 32 := Scalar.extui v91
  let c0_i32_53 : BitVec 32 := 0#32
  let v93 : BitVec 1 := Scalar.cmpi .slt v89 c0_i32_53
  let v94 : BitVec 32 := Scalar.extui v93
  let v95 : BitVec 32 := Scalar.subi v92 v94
  let c256_i32_51 : BitVec 32 := 256#32
  let c0_i32_54 : BitVec 32 := 0#32
  let v96 : BitVec 1 := Scalar.cmpi .sgt c256_i32_51 c0_i32_54
  let v97 : BitVec 32 := Scalar.extui v96
  let c0_i32_55 : BitVec 32 := 0#32
  let v98 : BitVec 1 := Scalar.cmpi .slt c256_i32_51 c0_i32_55
  let v99 : BitVec 32 := Scalar.extui v98
  let v100 : BitVec 32 := Scalar.subi v97 v99
  let v101 : BitVec 1 := Scalar.cmpi .ne v95 v100
  let v102 : BitVec 32 := Scalar.remsi v89 c256_i32_51
  let c0_i32_56 : BitVec 32 := 0#32
  let v103 : BitVec 1 := Scalar.cmpi .ne v102 c0_i32_56
  let v104 : BitVec 1 := Scalar.andi v101 v103
  let v90 : BitVec 32 := Scalar.divsi v89 c256_i32_51
  let c1_i32_57 : BitVec 32 := 1#32
  let v105 : BitVec 32 := Scalar.subi v90 c1_i32_57
  let v106 : BitVec 32 := Scalar.select v104 v105 v90
  let c2_i32_82 : BitVec 32 := 2#32
  let v171 : BitVec 32 := Scalar.addi v106 c2_i32_82
  let c11_i32_83 : BitVec 32 := 11#32
  let v172 : BitVec 1 := Scalar.cmpi .slt v171 c11_i32_83
  let v173 : BitVec 32 := Scalar.extui v172
  let c0_i32_84 : BitVec 32 := 0#32
  let v174 : BitVec 1 := Scalar.cmpi .ne v173 c0_i32_84
  v174

def k0_mult7 (k0_t1 : Fin k0_t1_loop.trips) : BitVec 32 :=
  let c0_i32_6 : BitVec 32 := 0#32
  let c1_i32 : BitVec 32 := 1#32
  let arg16 : BitVec 32 := Scf.iv c0_i32_6 c1_i32 k0_t1
  let c256_i32 : BitVec 32 := 256#32
  let v88 : BitVec 32 := Scalar.muli arg16 c256_i32
  let v89 : BitVec 32 := v88
  let c0_i32_52 : BitVec 32 := 0#32
  let v91 : BitVec 1 := Scalar.cmpi .sgt v89 c0_i32_52
  let v92 : BitVec 32 := Scalar.extui v91
  let c0_i32_53 : BitVec 32 := 0#32
  let v93 : BitVec 1 := Scalar.cmpi .slt v89 c0_i32_53
  let v94 : BitVec 32 := Scalar.extui v93
  let v95 : BitVec 32 := Scalar.subi v92 v94
  let c256_i32_51 : BitVec 32 := 256#32
  let c0_i32_54 : BitVec 32 := 0#32
  let v96 : BitVec 1 := Scalar.cmpi .sgt c256_i32_51 c0_i32_54
  let v97 : BitVec 32 := Scalar.extui v96
  let c0_i32_55 : BitVec 32 := 0#32
  let v98 : BitVec 1 := Scalar.cmpi .slt c256_i32_51 c0_i32_55
  let v99 : BitVec 32 := Scalar.extui v98
  let v100 : BitVec 32 := Scalar.subi v97 v99
  let v101 : BitVec 1 := Scalar.cmpi .ne v95 v100
  let v102 : BitVec 32 := Scalar.remsi v89 c256_i32_51
  let c0_i32_56 : BitVec 32 := 0#32
  let v103 : BitVec 1 := Scalar.cmpi .ne v102 c0_i32_56
  let v104 : BitVec 1 := Scalar.andi v101 v103
  let v90 : BitVec 32 := Scalar.divsi v89 c256_i32_51
  let c1_i32_57 : BitVec 32 := 1#32
  let v105 : BitVec 32 := Scalar.subi v90 c1_i32_57
  let v106 : BitVec 32 := Scalar.select v104 v105 v90
  let c2_i32_85 : BitVec 32 := 2#32
  let v175 : BitVec 32 := Scalar.addi v106 c2_i32_85
  let c10_i32_105 : BitVec 32 := 10#32
  let v194 : BitVec 1 := Scalar.cmpi .eq v175 c10_i32_105
  let c2560_i32_106 : BitVec 32 := 2560#32
  let c9_i32_103 : BitVec 32 := 9#32
  let v192 : BitVec 1 := Scalar.cmpi .eq v175 c9_i32_103
  let c2304_i32_104 : BitVec 32 := 2304#32
  let c8_i32_101 : BitVec 32 := 8#32
  let v190 : BitVec 1 := Scalar.cmpi .eq v175 c8_i32_101
  let c2048_i32_102 : BitVec 32 := 2048#32
  let c7_i32_99 : BitVec 32 := 7#32
  let v188 : BitVec 1 := Scalar.cmpi .eq v175 c7_i32_99
  let c1792_i32_100 : BitVec 32 := 1792#32
  let c6_i32_97 : BitVec 32 := 6#32
  let v186 : BitVec 1 := Scalar.cmpi .eq v175 c6_i32_97
  let c1536_i32_98 : BitVec 32 := 1536#32
  let c5_i32_95 : BitVec 32 := 5#32
  let v184 : BitVec 1 := Scalar.cmpi .eq v175 c5_i32_95
  let c1280_i32_96 : BitVec 32 := 1280#32
  let c4_i32_93 : BitVec 32 := 4#32
  let v182 : BitVec 1 := Scalar.cmpi .eq v175 c4_i32_93
  let c1024_i32_94 : BitVec 32 := 1024#32
  let c3_i32_91 : BitVec 32 := 3#32
  let v180 : BitVec 1 := Scalar.cmpi .eq v175 c3_i32_91
  let c768_i32_92 : BitVec 32 := 768#32
  let c2_i32_89 : BitVec 32 := 2#32
  let v178 : BitVec 1 := Scalar.cmpi .eq v175 c2_i32_89
  let c512_i32_90 : BitVec 32 := 512#32
  let c1_i32_86 : BitVec 32 := 1#32
  let v176 : BitVec 1 := Scalar.cmpi .eq v175 c1_i32_86
  let c256_i32_87 : BitVec 32 := 256#32
  let c0_i32_88 : BitVec 32 := 0#32
  let v177 : BitVec 32 := Scalar.select v176 c256_i32_87 c0_i32_88
  let v179 : BitVec 32 := Scalar.select v178 c512_i32_90 v177
  let v181 : BitVec 32 := Scalar.select v180 c768_i32_92 v179
  let v183 : BitVec 32 := Scalar.select v182 c1024_i32_94 v181
  let v185 : BitVec 32 := Scalar.select v184 c1280_i32_96 v183
  let v187 : BitVec 32 := Scalar.select v186 c1536_i32_98 v185
  let v189 : BitVec 32 := Scalar.select v188 c1792_i32_100 v187
  let v191 : BitVec 32 := Scalar.select v190 c2048_i32_102 v189
  let v193 : BitVec 32 := Scalar.select v192 c2304_i32_104 v191
  let v195 : BitVec 32 := Scalar.select v194 c2560_i32_106 v193
  v195
def k0_off5 (k0_t1 : Fin k0_t1_loop.trips) : Fin 1 → Nat :=
  let c0_i32_6 : BitVec 32 := 0#32
  let c1_i32 : BitVec 32 := 1#32
  let arg16 : BitVec 32 := Scf.iv c0_i32_6 c1_i32 k0_t1
  let c256_i32 : BitVec 32 := 256#32
  let v88 : BitVec 32 := Scalar.muli arg16 c256_i32
  let v89 : BitVec 32 := v88
  let c0_i32_52 : BitVec 32 := 0#32
  let v91 : BitVec 1 := Scalar.cmpi .sgt v89 c0_i32_52
  let v92 : BitVec 32 := Scalar.extui v91
  let c0_i32_53 : BitVec 32 := 0#32
  let v93 : BitVec 1 := Scalar.cmpi .slt v89 c0_i32_53
  let v94 : BitVec 32 := Scalar.extui v93
  let v95 : BitVec 32 := Scalar.subi v92 v94
  let c256_i32_51 : BitVec 32 := 256#32
  let c0_i32_54 : BitVec 32 := 0#32
  let v96 : BitVec 1 := Scalar.cmpi .sgt c256_i32_51 c0_i32_54
  let v97 : BitVec 32 := Scalar.extui v96
  let c0_i32_55 : BitVec 32 := 0#32
  let v98 : BitVec 1 := Scalar.cmpi .slt c256_i32_51 c0_i32_55
  let v99 : BitVec 32 := Scalar.extui v98
  let v100 : BitVec 32 := Scalar.subi v97 v99
  let v101 : BitVec 1 := Scalar.cmpi .ne v95 v100
  let v102 : BitVec 32 := Scalar.remsi v89 c256_i32_51
  let c0_i32_56 : BitVec 32 := 0#32
  let v103 : BitVec 1 := Scalar.cmpi .ne v102 c0_i32_56
  let v104 : BitVec 1 := Scalar.andi v101 v103
  let v90 : BitVec 32 := Scalar.divsi v89 c256_i32_51
  let c1_i32_57 : BitVec 32 := 1#32
  let v105 : BitVec 32 := Scalar.subi v90 c1_i32_57
  let v106 : BitVec 32 := Scalar.select v104 v105 v90
  let c2_i32_85 : BitVec 32 := 2#32
  let v175 : BitVec 32 := Scalar.addi v106 c2_i32_85
  ![v175.toNat]
def k0_off6 (k0_t1 : Fin k0_t1_loop.trips) : Fin 2 → Nat :=
  let c0_i32_6 : BitVec 32 := 0#32
  let c1_i32 : BitVec 32 := 1#32
  let arg16 : BitVec 32 := Scf.iv c0_i32_6 c1_i32 k0_t1
  let c256_i32 : BitVec 32 := 256#32
  let v88 : BitVec 32 := Scalar.muli arg16 c256_i32
  let v89 : BitVec 32 := v88
  let c0_i32_52 : BitVec 32 := 0#32
  let v91 : BitVec 1 := Scalar.cmpi .sgt v89 c0_i32_52
  let v92 : BitVec 32 := Scalar.extui v91
  let c0_i32_53 : BitVec 32 := 0#32
  let v93 : BitVec 1 := Scalar.cmpi .slt v89 c0_i32_53
  let v94 : BitVec 32 := Scalar.extui v93
  let v95 : BitVec 32 := Scalar.subi v92 v94
  let c256_i32_51 : BitVec 32 := 256#32
  let c0_i32_54 : BitVec 32 := 0#32
  let v96 : BitVec 1 := Scalar.cmpi .sgt c256_i32_51 c0_i32_54
  let v97 : BitVec 32 := Scalar.extui v96
  let c0_i32_55 : BitVec 32 := 0#32
  let v98 : BitVec 1 := Scalar.cmpi .slt c256_i32_51 c0_i32_55
  let v99 : BitVec 32 := Scalar.extui v98
  let v100 : BitVec 32 := Scalar.subi v97 v99
  let v101 : BitVec 1 := Scalar.cmpi .ne v95 v100
  let v102 : BitVec 32 := Scalar.remsi v89 c256_i32_51
  let c0_i32_56 : BitVec 32 := 0#32
  let v103 : BitVec 1 := Scalar.cmpi .ne v102 c0_i32_56
  let v104 : BitVec 1 := Scalar.andi v101 v103
  let v90 : BitVec 32 := Scalar.divsi v89 c256_i32_51
  let c1_i32_57 : BitVec 32 := 1#32
  let v105 : BitVec 32 := Scalar.subi v90 c1_i32_57
  let v106 : BitVec 32 := Scalar.select v104 v105 v90
  let c2_i32_85 : BitVec 32 := 2#32
  let v175 : BitVec 32 := Scalar.addi v106 c2_i32_85
  let c10_i32_105 : BitVec 32 := 10#32
  let v194 : BitVec 1 := Scalar.cmpi .eq v175 c10_i32_105
  let c2560_i32_106 : BitVec 32 := 2560#32
  let c9_i32_103 : BitVec 32 := 9#32
  let v192 : BitVec 1 := Scalar.cmpi .eq v175 c9_i32_103
  let c2304_i32_104 : BitVec 32 := 2304#32
  let c8_i32_101 : BitVec 32 := 8#32
  let v190 : BitVec 1 := Scalar.cmpi .eq v175 c8_i32_101
  let c2048_i32_102 : BitVec 32 := 2048#32
  let c7_i32_99 : BitVec 32 := 7#32
  let v188 : BitVec 1 := Scalar.cmpi .eq v175 c7_i32_99
  let c1792_i32_100 : BitVec 32 := 1792#32
  let c6_i32_97 : BitVec 32 := 6#32
  let v186 : BitVec 1 := Scalar.cmpi .eq v175 c6_i32_97
  let c1536_i32_98 : BitVec 32 := 1536#32
  let c5_i32_95 : BitVec 32 := 5#32
  let v184 : BitVec 1 := Scalar.cmpi .eq v175 c5_i32_95
  let c1280_i32_96 : BitVec 32 := 1280#32
  let c4_i32_93 : BitVec 32 := 4#32
  let v182 : BitVec 1 := Scalar.cmpi .eq v175 c4_i32_93
  let c1024_i32_94 : BitVec 32 := 1024#32
  let c3_i32_91 : BitVec 32 := 3#32
  let v180 : BitVec 1 := Scalar.cmpi .eq v175 c3_i32_91
  let c768_i32_92 : BitVec 32 := 768#32
  let c2_i32_89 : BitVec 32 := 2#32
  let v178 : BitVec 1 := Scalar.cmpi .eq v175 c2_i32_89
  let c512_i32_90 : BitVec 32 := 512#32
  let c1_i32_86 : BitVec 32 := 1#32
  let v176 : BitVec 1 := Scalar.cmpi .eq v175 c1_i32_86
  let c256_i32_87 : BitVec 32 := 256#32
  let c0_i32_88 : BitVec 32 := 0#32
  let v177 : BitVec 32 := Scalar.select v176 c256_i32_87 c0_i32_88
  let v179 : BitVec 32 := Scalar.select v178 c512_i32_90 v177
  let v181 : BitVec 32 := Scalar.select v180 c768_i32_92 v179
  let v183 : BitVec 32 := Scalar.select v182 c1024_i32_94 v181
  let v185 : BitVec 32 := Scalar.select v184 c1280_i32_96 v183
  let v187 : BitVec 32 := Scalar.select v186 c1536_i32_98 v185
  let v189 : BitVec 32 := Scalar.select v188 c1792_i32_100 v187
  let v191 : BitVec 32 := Scalar.select v190 c2048_i32_102 v189
  let v193 : BitVec 32 := Scalar.select v192 c2304_i32_104 v191
  let v195 : BitVec 32 := Scalar.select v194 c2560_i32_106 v193
  let v196 : BitVec 32 := v195
  let c0_i32_107 : BitVec 32 := 0#32
  ![v196.toNat, 0]
def k0_cond6 (i : grid0.Coords) : BitVec 1 :=
  let arg0 : BitVec 32 := BitVec.ofNat 32 (i 0).val
  let c0_i32_1 : BitVec 32 := 0#32
  let v3 : BitVec 1 := Scalar.cmpi .eq arg0 c0_i32_1
  let v126 : BitVec 32 := Scalar.extui v3
  let c0_i32_66 : BitVec 32 := 0#32
  let v127 : BitVec 1 := Scalar.cmpi .ne v126 c0_i32_66
  v127

def k0_mult8 (k0_t1 : Fin k0_t1_loop.trips) : BitVec 32 :=
  let c0_i32_6 : BitVec 32 := 0#32
  let c1_i32 : BitVec 32 := 1#32
  let arg16 : BitVec 32 := Scf.iv c0_i32_6 c1_i32 k0_t1
  let c256_i32 : BitVec 32 := 256#32
  let v88 : BitVec 32 := Scalar.muli arg16 c256_i32
  let v89 : BitVec 32 := v88
  let c0_i32_60 : BitVec 32 := 0#32
  let v110 : BitVec 1 := Scalar.cmpi .sgt v89 c0_i32_60
  let v111 : BitVec 32 := Scalar.extui v110
  let c0_i32_61 : BitVec 32 := 0#32
  let v112 : BitVec 1 := Scalar.cmpi .slt v89 c0_i32_61
  let v113 : BitVec 32 := Scalar.extui v112
  let v114 : BitVec 32 := Scalar.subi v111 v113
  let c256_i32_59 : BitVec 32 := 256#32
  let c0_i32_62 : BitVec 32 := 0#32
  let v115 : BitVec 1 := Scalar.cmpi .sgt c256_i32_59 c0_i32_62
  let v116 : BitVec 32 := Scalar.extui v115
  let c0_i32_63 : BitVec 32 := 0#32
  let v117 : BitVec 1 := Scalar.cmpi .slt c256_i32_59 c0_i32_63
  let v118 : BitVec 32 := Scalar.extui v117
  let v119 : BitVec 32 := Scalar.subi v116 v118
  let v120 : BitVec 1 := Scalar.cmpi .ne v114 v119
  let v121 : BitVec 32 := Scalar.remsi v89 c256_i32_59
  let c0_i32_64 : BitVec 32 := 0#32
  let v122 : BitVec 1 := Scalar.cmpi .ne v121 c0_i32_64
  let v123 : BitVec 1 := Scalar.andi v120 v122
  let v109 : BitVec 32 := Scalar.divsi v89 c256_i32_59
  let c1_i32_65 : BitVec 32 := 1#32
  let v124 : BitVec 32 := Scalar.subi v109 c1_i32_65
  let v125 : BitVec 32 := Scalar.select v123 v124 v109
  let c10_i32 : BitVec 32 := 10#32
  let v164 : BitVec 1 := Scalar.cmpi .eq v125 c10_i32
  let c2560_i32 : BitVec 32 := 2560#32
  let c9_i32 : BitVec 32 := 9#32
  let v162 : BitVec 1 := Scalar.cmpi .eq v125 c9_i32
  let c2304_i32 : BitVec 32 := 2304#32
  let c8_i32 : BitVec 32 := 8#32
  let v160 : BitVec 1 := Scalar.cmpi .eq v125 c8_i32
  let c2048_i32 : BitVec 32 := 2048#32
  let c7_i32 : BitVec 32 := 7#32
  let v158 : BitVec 1 := Scalar.cmpi .eq v125 c7_i32
  let c1792_i32 : BitVec 32 := 1792#32
  let c6_i32 : BitVec 32 := 6#32
  let v156 : BitVec 1 := Scalar.cmpi .eq v125 c6_i32
  let c1536_i32 : BitVec 32 := 1536#32
  let c5_i32 : BitVec 32 := 5#32
  let v154 : BitVec 1 := Scalar.cmpi .eq v125 c5_i32
  let c1280_i32 : BitVec 32 := 1280#32
  let c4_i32 : BitVec 32 := 4#32
  let v152 : BitVec 1 := Scalar.cmpi .eq v125 c4_i32
  let c1024_i32 : BitVec 32 := 1024#32
  let c3_i32 : BitVec 32 := 3#32
  let v150 : BitVec 1 := Scalar.cmpi .eq v125 c3_i32
  let c768_i32 : BitVec 32 := 768#32
  let c2_i32 : BitVec 32 := 2#32
  let v148 : BitVec 1 := Scalar.cmpi .eq v125 c2_i32
  let c512_i32 : BitVec 32 := 512#32
  let c1_i32_77 : BitVec 32 := 1#32
  let v146 : BitVec 1 := Scalar.cmpi .eq v125 c1_i32_77
  let c256_i32_78 : BitVec 32 := 256#32
  let c0_i32_79 : BitVec 32 := 0#32
  let v147 : BitVec 32 := Scalar.select v146 c256_i32_78 c0_i32_79
  let v149 : BitVec 32 := Scalar.select v148 c512_i32 v147
  let v151 : BitVec 32 := Scalar.select v150 c768_i32 v149
  let v153 : BitVec 32 := Scalar.select v152 c1024_i32 v151
  let v155 : BitVec 32 := Scalar.select v154 c1280_i32 v153
  let v157 : BitVec 32 := Scalar.select v156 c1536_i32 v155
  let v159 : BitVec 32 := Scalar.select v158 c1792_i32 v157
  let v161 : BitVec 32 := Scalar.select v160 c2048_i32 v159
  let v163 : BitVec 32 := Scalar.select v162 c2304_i32 v161
  let v165 : BitVec 32 := Scalar.select v164 c2560_i32 v163
  v165
def k0_off7 (k0_t1 : Fin k0_t1_loop.trips) : Fin 1 → Nat :=
  let c0_i32_6 : BitVec 32 := 0#32
  let c1_i32 : BitVec 32 := 1#32
  let arg16 : BitVec 32 := Scf.iv c0_i32_6 c1_i32 k0_t1
  let c256_i32 : BitVec 32 := 256#32
  let v88 : BitVec 32 := Scalar.muli arg16 c256_i32
  let v89 : BitVec 32 := v88
  let c0_i32_60 : BitVec 32 := 0#32
  let v110 : BitVec 1 := Scalar.cmpi .sgt v89 c0_i32_60
  let v111 : BitVec 32 := Scalar.extui v110
  let c0_i32_61 : BitVec 32 := 0#32
  let v112 : BitVec 1 := Scalar.cmpi .slt v89 c0_i32_61
  let v113 : BitVec 32 := Scalar.extui v112
  let v114 : BitVec 32 := Scalar.subi v111 v113
  let c256_i32_59 : BitVec 32 := 256#32
  let c0_i32_62 : BitVec 32 := 0#32
  let v115 : BitVec 1 := Scalar.cmpi .sgt c256_i32_59 c0_i32_62
  let v116 : BitVec 32 := Scalar.extui v115
  let c0_i32_63 : BitVec 32 := 0#32
  let v117 : BitVec 1 := Scalar.cmpi .slt c256_i32_59 c0_i32_63
  let v118 : BitVec 32 := Scalar.extui v117
  let v119 : BitVec 32 := Scalar.subi v116 v118
  let v120 : BitVec 1 := Scalar.cmpi .ne v114 v119
  let v121 : BitVec 32 := Scalar.remsi v89 c256_i32_59
  let c0_i32_64 : BitVec 32 := 0#32
  let v122 : BitVec 1 := Scalar.cmpi .ne v121 c0_i32_64
  let v123 : BitVec 1 := Scalar.andi v120 v122
  let v109 : BitVec 32 := Scalar.divsi v89 c256_i32_59
  let c1_i32_65 : BitVec 32 := 1#32
  let v124 : BitVec 32 := Scalar.subi v109 c1_i32_65
  let v125 : BitVec 32 := Scalar.select v123 v124 v109
  ![v125.toNat]
def k0_off8 (k0_t1 : Fin k0_t1_loop.trips) : Fin 2 → Nat :=
  let c0_i32_6 : BitVec 32 := 0#32
  let c1_i32 : BitVec 32 := 1#32
  let arg16 : BitVec 32 := Scf.iv c0_i32_6 c1_i32 k0_t1
  let c256_i32 : BitVec 32 := 256#32
  let v88 : BitVec 32 := Scalar.muli arg16 c256_i32
  let v89 : BitVec 32 := v88
  let c0_i32_60 : BitVec 32 := 0#32
  let v110 : BitVec 1 := Scalar.cmpi .sgt v89 c0_i32_60
  let v111 : BitVec 32 := Scalar.extui v110
  let c0_i32_61 : BitVec 32 := 0#32
  let v112 : BitVec 1 := Scalar.cmpi .slt v89 c0_i32_61
  let v113 : BitVec 32 := Scalar.extui v112
  let v114 : BitVec 32 := Scalar.subi v111 v113
  let c256_i32_59 : BitVec 32 := 256#32
  let c0_i32_62 : BitVec 32 := 0#32
  let v115 : BitVec 1 := Scalar.cmpi .sgt c256_i32_59 c0_i32_62
  let v116 : BitVec 32 := Scalar.extui v115
  let c0_i32_63 : BitVec 32 := 0#32
  let v117 : BitVec 1 := Scalar.cmpi .slt c256_i32_59 c0_i32_63
  let v118 : BitVec 32 := Scalar.extui v117
  let v119 : BitVec 32 := Scalar.subi v116 v118
  let v120 : BitVec 1 := Scalar.cmpi .ne v114 v119
  let v121 : BitVec 32 := Scalar.remsi v89 c256_i32_59
  let c0_i32_64 : BitVec 32 := 0#32
  let v122 : BitVec 1 := Scalar.cmpi .ne v121 c0_i32_64
  let v123 : BitVec 1 := Scalar.andi v120 v122
  let v109 : BitVec 32 := Scalar.divsi v89 c256_i32_59
  let c1_i32_65 : BitVec 32 := 1#32
  let v124 : BitVec 32 := Scalar.subi v109 c1_i32_65
  let v125 : BitVec 32 := Scalar.select v123 v124 v109
  let c10_i32 : BitVec 32 := 10#32
  let v164 : BitVec 1 := Scalar.cmpi .eq v125 c10_i32
  let c2560_i32 : BitVec 32 := 2560#32
  let c9_i32 : BitVec 32 := 9#32
  let v162 : BitVec 1 := Scalar.cmpi .eq v125 c9_i32
  let c2304_i32 : BitVec 32 := 2304#32
  let c8_i32 : BitVec 32 := 8#32
  let v160 : BitVec 1 := Scalar.cmpi .eq v125 c8_i32
  let c2048_i32 : BitVec 32 := 2048#32
  let c7_i32 : BitVec 32 := 7#32
  let v158 : BitVec 1 := Scalar.cmpi .eq v125 c7_i32
  let c1792_i32 : BitVec 32 := 1792#32
  let c6_i32 : BitVec 32 := 6#32
  let v156 : BitVec 1 := Scalar.cmpi .eq v125 c6_i32
  let c1536_i32 : BitVec 32 := 1536#32
  let c5_i32 : BitVec 32 := 5#32
  let v154 : BitVec 1 := Scalar.cmpi .eq v125 c5_i32
  let c1280_i32 : BitVec 32 := 1280#32
  let c4_i32 : BitVec 32 := 4#32
  let v152 : BitVec 1 := Scalar.cmpi .eq v125 c4_i32
  let c1024_i32 : BitVec 32 := 1024#32
  let c3_i32 : BitVec 32 := 3#32
  let v150 : BitVec 1 := Scalar.cmpi .eq v125 c3_i32
  let c768_i32 : BitVec 32 := 768#32
  let c2_i32 : BitVec 32 := 2#32
  let v148 : BitVec 1 := Scalar.cmpi .eq v125 c2_i32
  let c512_i32 : BitVec 32 := 512#32
  let c1_i32_77 : BitVec 32 := 1#32
  let v146 : BitVec 1 := Scalar.cmpi .eq v125 c1_i32_77
  let c256_i32_78 : BitVec 32 := 256#32
  let c0_i32_79 : BitVec 32 := 0#32
  let v147 : BitVec 32 := Scalar.select v146 c256_i32_78 c0_i32_79
  let v149 : BitVec 32 := Scalar.select v148 c512_i32 v147
  let v151 : BitVec 32 := Scalar.select v150 c768_i32 v149
  let v153 : BitVec 32 := Scalar.select v152 c1024_i32 v151
  let v155 : BitVec 32 := Scalar.select v154 c1280_i32 v153
  let v157 : BitVec 32 := Scalar.select v156 c1536_i32 v155
  let v159 : BitVec 32 := Scalar.select v158 c1792_i32 v157
  let v161 : BitVec 32 := Scalar.select v160 c2048_i32 v159
  let v163 : BitVec 32 := Scalar.select v162 c2304_i32 v161
  let v165 : BitVec 32 := Scalar.select v164 c2560_i32 v163
  let v166 : BitVec 32 := v165
  let c0_i32_80 : BitVec 32 := 0#32
  ![v166.toNat, 0]
def k0_cond7 (k0_t1 : Fin k0_t1_loop.trips) : BitVec 1 :=
  let c0_i32_6 : BitVec 32 := 0#32
  let c1_i32 : BitVec 32 := 1#32
  let arg16 : BitVec 32 := Scf.iv c0_i32_6 c1_i32 k0_t1
  let c256_i32 : BitVec 32 := 256#32
  let v88 : BitVec 32 := Scalar.muli arg16 c256_i32
  let v89 : BitVec 32 := v88
  let c0_i32_60 : BitVec 32 := 0#32
  let v110 : BitVec 1 := Scalar.cmpi .sgt v89 c0_i32_60
  let v111 : BitVec 32 := Scalar.extui v110
  let c0_i32_61 : BitVec 32 := 0#32
  let v112 : BitVec 1 := Scalar.cmpi .slt v89 c0_i32_61
  let v113 : BitVec 32 := Scalar.extui v112
  let v114 : BitVec 32 := Scalar.subi v111 v113
  let c256_i32_59 : BitVec 32 := 256#32
  let c0_i32_62 : BitVec 32 := 0#32
  let v115 : BitVec 1 := Scalar.cmpi .sgt c256_i32_59 c0_i32_62
  let v116 : BitVec 32 := Scalar.extui v115
  let c0_i32_63 : BitVec 32 := 0#32
  let v117 : BitVec 1 := Scalar.cmpi .slt c256_i32_59 c0_i32_63
  let v118 : BitVec 32 := Scalar.extui v117
  let v119 : BitVec 32 := Scalar.subi v116 v118
  let v120 : BitVec 1 := Scalar.cmpi .ne v114 v119
  let v121 : BitVec 32 := Scalar.remsi v89 c256_i32_59
  let c0_i32_64 : BitVec 32 := 0#32
  let v122 : BitVec 1 := Scalar.cmpi .ne v121 c0_i32_64
  let v123 : BitVec 1 := Scalar.andi v120 v122
  let v109 : BitVec 32 := Scalar.divsi v89 c256_i32_59
  let c1_i32_65 : BitVec 32 := 1#32
  let v124 : BitVec 32 := Scalar.subi v109 c1_i32_65
  let v125 : BitVec 32 := Scalar.select v123 v124 v109
  let c2_i32_82 : BitVec 32 := 2#32
  let v171 : BitVec 32 := Scalar.addi v125 c2_i32_82
  let c11_i32_83 : BitVec 32 := 11#32
  let v172 : BitVec 1 := Scalar.cmpi .slt v171 c11_i32_83
  let v173 : BitVec 32 := Scalar.extui v172
  let c0_i32_84 : BitVec 32 := 0#32
  let v174 : BitVec 1 := Scalar.cmpi .ne v173 c0_i32_84
  v174

def k0_mult9 (k0_t1 : Fin k0_t1_loop.trips) : BitVec 32 :=
  let c0_i32_6 : BitVec 32 := 0#32
  let c1_i32 : BitVec 32 := 1#32
  let arg16 : BitVec 32 := Scf.iv c0_i32_6 c1_i32 k0_t1
  let c256_i32 : BitVec 32 := 256#32
  let v88 : BitVec 32 := Scalar.muli arg16 c256_i32
  let v89 : BitVec 32 := v88
  let c0_i32_60 : BitVec 32 := 0#32
  let v110 : BitVec 1 := Scalar.cmpi .sgt v89 c0_i32_60
  let v111 : BitVec 32 := Scalar.extui v110
  let c0_i32_61 : BitVec 32 := 0#32
  let v112 : BitVec 1 := Scalar.cmpi .slt v89 c0_i32_61
  let v113 : BitVec 32 := Scalar.extui v112
  let v114 : BitVec 32 := Scalar.subi v111 v113
  let c256_i32_59 : BitVec 32 := 256#32
  let c0_i32_62 : BitVec 32 := 0#32
  let v115 : BitVec 1 := Scalar.cmpi .sgt c256_i32_59 c0_i32_62
  let v116 : BitVec 32 := Scalar.extui v115
  let c0_i32_63 : BitVec 32 := 0#32
  let v117 : BitVec 1 := Scalar.cmpi .slt c256_i32_59 c0_i32_63
  let v118 : BitVec 32 := Scalar.extui v117
  let v119 : BitVec 32 := Scalar.subi v116 v118
  let v120 : BitVec 1 := Scalar.cmpi .ne v114 v119
  let v121 : BitVec 32 := Scalar.remsi v89 c256_i32_59
  let c0_i32_64 : BitVec 32 := 0#32
  let v122 : BitVec 1 := Scalar.cmpi .ne v121 c0_i32_64
  let v123 : BitVec 1 := Scalar.andi v120 v122
  let v109 : BitVec 32 := Scalar.divsi v89 c256_i32_59
  let c1_i32_65 : BitVec 32 := 1#32
  let v124 : BitVec 32 := Scalar.subi v109 c1_i32_65
  let v125 : BitVec 32 := Scalar.select v123 v124 v109
  let c2_i32_85 : BitVec 32 := 2#32
  let v175 : BitVec 32 := Scalar.addi v125 c2_i32_85
  let c10_i32_105 : BitVec 32 := 10#32
  let v194 : BitVec 1 := Scalar.cmpi .eq v175 c10_i32_105
  let c2560_i32_106 : BitVec 32 := 2560#32
  let c9_i32_103 : BitVec 32 := 9#32
  let v192 : BitVec 1 := Scalar.cmpi .eq v175 c9_i32_103
  let c2304_i32_104 : BitVec 32 := 2304#32
  let c8_i32_101 : BitVec 32 := 8#32
  let v190 : BitVec 1 := Scalar.cmpi .eq v175 c8_i32_101
  let c2048_i32_102 : BitVec 32 := 2048#32
  let c7_i32_99 : BitVec 32 := 7#32
  let v188 : BitVec 1 := Scalar.cmpi .eq v175 c7_i32_99
  let c1792_i32_100 : BitVec 32 := 1792#32
  let c6_i32_97 : BitVec 32 := 6#32
  let v186 : BitVec 1 := Scalar.cmpi .eq v175 c6_i32_97
  let c1536_i32_98 : BitVec 32 := 1536#32
  let c5_i32_95 : BitVec 32 := 5#32
  let v184 : BitVec 1 := Scalar.cmpi .eq v175 c5_i32_95
  let c1280_i32_96 : BitVec 32 := 1280#32
  let c4_i32_93 : BitVec 32 := 4#32
  let v182 : BitVec 1 := Scalar.cmpi .eq v175 c4_i32_93
  let c1024_i32_94 : BitVec 32 := 1024#32
  let c3_i32_91 : BitVec 32 := 3#32
  let v180 : BitVec 1 := Scalar.cmpi .eq v175 c3_i32_91
  let c768_i32_92 : BitVec 32 := 768#32
  let c2_i32_89 : BitVec 32 := 2#32
  let v178 : BitVec 1 := Scalar.cmpi .eq v175 c2_i32_89
  let c512_i32_90 : BitVec 32 := 512#32
  let c1_i32_86 : BitVec 32 := 1#32
  let v176 : BitVec 1 := Scalar.cmpi .eq v175 c1_i32_86
  let c256_i32_87 : BitVec 32 := 256#32
  let c0_i32_88 : BitVec 32 := 0#32
  let v177 : BitVec 32 := Scalar.select v176 c256_i32_87 c0_i32_88
  let v179 : BitVec 32 := Scalar.select v178 c512_i32_90 v177
  let v181 : BitVec 32 := Scalar.select v180 c768_i32_92 v179
  let v183 : BitVec 32 := Scalar.select v182 c1024_i32_94 v181
  let v185 : BitVec 32 := Scalar.select v184 c1280_i32_96 v183
  let v187 : BitVec 32 := Scalar.select v186 c1536_i32_98 v185
  let v189 : BitVec 32 := Scalar.select v188 c1792_i32_100 v187
  let v191 : BitVec 32 := Scalar.select v190 c2048_i32_102 v189
  let v193 : BitVec 32 := Scalar.select v192 c2304_i32_104 v191
  let v195 : BitVec 32 := Scalar.select v194 c2560_i32_106 v193
  v195
def k0_off9 (k0_t1 : Fin k0_t1_loop.trips) : Fin 1 → Nat :=
  let c0_i32_6 : BitVec 32 := 0#32
  let c1_i32 : BitVec 32 := 1#32
  let arg16 : BitVec 32 := Scf.iv c0_i32_6 c1_i32 k0_t1
  let c256_i32 : BitVec 32 := 256#32
  let v88 : BitVec 32 := Scalar.muli arg16 c256_i32
  let v89 : BitVec 32 := v88
  let c0_i32_60 : BitVec 32 := 0#32
  let v110 : BitVec 1 := Scalar.cmpi .sgt v89 c0_i32_60
  let v111 : BitVec 32 := Scalar.extui v110
  let c0_i32_61 : BitVec 32 := 0#32
  let v112 : BitVec 1 := Scalar.cmpi .slt v89 c0_i32_61
  let v113 : BitVec 32 := Scalar.extui v112
  let v114 : BitVec 32 := Scalar.subi v111 v113
  let c256_i32_59 : BitVec 32 := 256#32
  let c0_i32_62 : BitVec 32 := 0#32
  let v115 : BitVec 1 := Scalar.cmpi .sgt c256_i32_59 c0_i32_62
  let v116 : BitVec 32 := Scalar.extui v115
  let c0_i32_63 : BitVec 32 := 0#32
  let v117 : BitVec 1 := Scalar.cmpi .slt c256_i32_59 c0_i32_63
  let v118 : BitVec 32 := Scalar.extui v117
  let v119 : BitVec 32 := Scalar.subi v116 v118
  let v120 : BitVec 1 := Scalar.cmpi .ne v114 v119
  let v121 : BitVec 32 := Scalar.remsi v89 c256_i32_59
  let c0_i32_64 : BitVec 32 := 0#32
  let v122 : BitVec 1 := Scalar.cmpi .ne v121 c0_i32_64
  let v123 : BitVec 1 := Scalar.andi v120 v122
  let v109 : BitVec 32 := Scalar.divsi v89 c256_i32_59
  let c1_i32_65 : BitVec 32 := 1#32
  let v124 : BitVec 32 := Scalar.subi v109 c1_i32_65
  let v125 : BitVec 32 := Scalar.select v123 v124 v109
  let c2_i32_85 : BitVec 32 := 2#32
  let v175 : BitVec 32 := Scalar.addi v125 c2_i32_85
  ![v175.toNat]
def k0_off10 (k0_t1 : Fin k0_t1_loop.trips) : Fin 2 → Nat :=
  let c0_i32_6 : BitVec 32 := 0#32
  let c1_i32 : BitVec 32 := 1#32
  let arg16 : BitVec 32 := Scf.iv c0_i32_6 c1_i32 k0_t1
  let c256_i32 : BitVec 32 := 256#32
  let v88 : BitVec 32 := Scalar.muli arg16 c256_i32
  let v89 : BitVec 32 := v88
  let c0_i32_60 : BitVec 32 := 0#32
  let v110 : BitVec 1 := Scalar.cmpi .sgt v89 c0_i32_60
  let v111 : BitVec 32 := Scalar.extui v110
  let c0_i32_61 : BitVec 32 := 0#32
  let v112 : BitVec 1 := Scalar.cmpi .slt v89 c0_i32_61
  let v113 : BitVec 32 := Scalar.extui v112
  let v114 : BitVec 32 := Scalar.subi v111 v113
  let c256_i32_59 : BitVec 32 := 256#32
  let c0_i32_62 : BitVec 32 := 0#32
  let v115 : BitVec 1 := Scalar.cmpi .sgt c256_i32_59 c0_i32_62
  let v116 : BitVec 32 := Scalar.extui v115
  let c0_i32_63 : BitVec 32 := 0#32
  let v117 : BitVec 1 := Scalar.cmpi .slt c256_i32_59 c0_i32_63
  let v118 : BitVec 32 := Scalar.extui v117
  let v119 : BitVec 32 := Scalar.subi v116 v118
  let v120 : BitVec 1 := Scalar.cmpi .ne v114 v119
  let v121 : BitVec 32 := Scalar.remsi v89 c256_i32_59
  let c0_i32_64 : BitVec 32 := 0#32
  let v122 : BitVec 1 := Scalar.cmpi .ne v121 c0_i32_64
  let v123 : BitVec 1 := Scalar.andi v120 v122
  let v109 : BitVec 32 := Scalar.divsi v89 c256_i32_59
  let c1_i32_65 : BitVec 32 := 1#32
  let v124 : BitVec 32 := Scalar.subi v109 c1_i32_65
  let v125 : BitVec 32 := Scalar.select v123 v124 v109
  let c2_i32_85 : BitVec 32 := 2#32
  let v175 : BitVec 32 := Scalar.addi v125 c2_i32_85
  let c10_i32_105 : BitVec 32 := 10#32
  let v194 : BitVec 1 := Scalar.cmpi .eq v175 c10_i32_105
  let c2560_i32_106 : BitVec 32 := 2560#32
  let c9_i32_103 : BitVec 32 := 9#32
  let v192 : BitVec 1 := Scalar.cmpi .eq v175 c9_i32_103
  let c2304_i32_104 : BitVec 32 := 2304#32
  let c8_i32_101 : BitVec 32 := 8#32
  let v190 : BitVec 1 := Scalar.cmpi .eq v175 c8_i32_101
  let c2048_i32_102 : BitVec 32 := 2048#32
  let c7_i32_99 : BitVec 32 := 7#32
  let v188 : BitVec 1 := Scalar.cmpi .eq v175 c7_i32_99
  let c1792_i32_100 : BitVec 32 := 1792#32
  let c6_i32_97 : BitVec 32 := 6#32
  let v186 : BitVec 1 := Scalar.cmpi .eq v175 c6_i32_97
  let c1536_i32_98 : BitVec 32 := 1536#32
  let c5_i32_95 : BitVec 32 := 5#32
  let v184 : BitVec 1 := Scalar.cmpi .eq v175 c5_i32_95
  let c1280_i32_96 : BitVec 32 := 1280#32
  let c4_i32_93 : BitVec 32 := 4#32
  let v182 : BitVec 1 := Scalar.cmpi .eq v175 c4_i32_93
  let c1024_i32_94 : BitVec 32 := 1024#32
  let c3_i32_91 : BitVec 32 := 3#32
  let v180 : BitVec 1 := Scalar.cmpi .eq v175 c3_i32_91
  let c768_i32_92 : BitVec 32 := 768#32
  let c2_i32_89 : BitVec 32 := 2#32
  let v178 : BitVec 1 := Scalar.cmpi .eq v175 c2_i32_89
  let c512_i32_90 : BitVec 32 := 512#32
  let c1_i32_86 : BitVec 32 := 1#32
  let v176 : BitVec 1 := Scalar.cmpi .eq v175 c1_i32_86
  let c256_i32_87 : BitVec 32 := 256#32
  let c0_i32_88 : BitVec 32 := 0#32
  let v177 : BitVec 32 := Scalar.select v176 c256_i32_87 c0_i32_88
  let v179 : BitVec 32 := Scalar.select v178 c512_i32_90 v177
  let v181 : BitVec 32 := Scalar.select v180 c768_i32_92 v179
  let v183 : BitVec 32 := Scalar.select v182 c1024_i32_94 v181
  let v185 : BitVec 32 := Scalar.select v184 c1280_i32_96 v183
  let v187 : BitVec 32 := Scalar.select v186 c1536_i32_98 v185
  let v189 : BitVec 32 := Scalar.select v188 c1792_i32_100 v187
  let v191 : BitVec 32 := Scalar.select v190 c2048_i32_102 v189
  let v193 : BitVec 32 := Scalar.select v192 c2304_i32_104 v191
  let v195 : BitVec 32 := Scalar.select v194 c2560_i32_106 v193
  let v196 : BitVec 32 := v195
  let c0_i32_107 : BitVec 32 := 0#32
  ![v196.toNat, 0]
def k0_off11 (k0_t1 : Fin k0_t1_loop.trips) : Fin 2 → Nat :=
  let c0_69 : Index := 0#32
  let c0_i32_6 : BitVec 32 := 0#32
  let c1_i32 : BitVec 32 := 1#32
  let arg16 : BitVec 32 := Scf.iv c0_i32_6 c1_i32 k0_t1
  let c256_i32 : BitVec 32 := 256#32
  let v88 : BitVec 32 := Scalar.muli arg16 c256_i32
  let v89 : BitVec 32 := v88
  let v129 : Index := Scalar.indexCast v89
  ![0, v129.toNat]
def k0_off12 (k0_t1 : Fin k0_t1_loop.trips) : Fin 2 → Nat :=
  let c0_i32_6 : BitVec 32 := 0#32
  let c1_i32 : BitVec 32 := 1#32
  let arg16 : BitVec 32 := Scf.iv c0_i32_6 c1_i32 k0_t1
  let c256_i32 : BitVec 32 := 256#32
  let v88 : BitVec 32 := Scalar.muli arg16 c256_i32
  let v89 : BitVec 32 := v88
  let v132 : Index := Scalar.indexCast v89
  let c0_70 : Index := 0#32
  ![v132.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GateUpRefIdeal.lean ====
abbrev S2176x1024 : Shape := ⟨2, ![2176, 1024]⟩
abbrev S1x1024 : Shape := ⟨2, ![1, 1024]⟩
abbrev S1024x2816 : Shape := ⟨2, ![1024, 2816]⟩
abbrev S2176x2816 : Shape := ⟨2, ![2176, 2816]⟩
abbrev S_ : Shape := ⟨0, ![]⟩
abbrev S2176 : Shape := ⟨1, ![2176]⟩
abbrev S2176x1 : Shape := ⟨2, ![2176, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2176x2816, .f32⟩
  | .hbm, ⟨5, _⟩ => ⟨S2176x2816, .f32⟩
  | .hbm, ⟨6, _⟩ => ⟨S2176x1024, .f32⟩
  | .hbm, ⟨7, _⟩ => ⟨S2176x1024, .f32⟩
  | .hbm, ⟨8, _⟩ => ⟨S_, .f32⟩
  | .hbm, ⟨9, _⟩ => ⟨S2176, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S_, .f32⟩
  | .hbm, ⟨15, _⟩ => ⟨S2176x1, .f32⟩
  | .hbm, ⟨16, _⟩ => ⟨S2176x1, .f32⟩
  | .hbm, ⟨17, _⟩ => ⟨S2176x1, .f32⟩
  | .hbm, ⟨18, _⟩ => ⟨S2176x1, .f32⟩
  | .hbm, ⟨19, _⟩ => ⟨S_, .f32⟩
  | .hbm, ⟨20, _⟩ => ⟨S2176x1, .f32⟩
  | .hbm, ⟨21, _⟩ => ⟨S2176x1, .f32⟩
  | .hbm, ⟨22, _⟩ => ⟨S2176x1024, .f32⟩
  | .hbm, ⟨23, _⟩ => ⟨S2176x1024, .f32⟩
  | .hbm, ⟨24, _⟩ => ⟨S2176x1024, .f32⟩
  | .hbm, ⟨25, _⟩ => ⟨S2176x1024, .f32⟩
  | .hbm, ⟨26, _⟩ => ⟨S2176x2816, .f32⟩
  | .hbm, ⟨27, _⟩ => ⟨S2176x2816, .f32⟩
  | .hbm, ⟨28, _⟩ => ⟨S2176x1024, .f32⟩
  | .hbm, ⟨29, _⟩ => ⟨S2176x1024, .f32⟩
  | .hbm, ⟨30, _⟩ => ⟨S2176x1024, .f32⟩
  | .hbm, ⟨31, _⟩ => ⟨S2176x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S2176x1024, .f32⟩
  | .hbm, ⟨36, _⟩ => ⟨S2176x1024, .f32⟩
  | .hbm, ⟨37, _⟩ => ⟨S2176x1024, .f32⟩
  | .hbm, ⟨38, _⟩ => ⟨S_, .f32⟩
  | .hbm, ⟨39, _⟩ => ⟨S2176, .f32⟩
  | .hbm, ⟨40, _⟩ => ⟨S2176x1, .f32⟩
  | .hbm, ⟨41, _⟩ => ⟨S2176x1024, .f32⟩
  | .hbm, ⟨42, _⟩ => ⟨S2176x1024, .f32⟩
  | .hbm, ⟨43, _⟩ => ⟨S2176x1024, .f32⟩
  | .hbm, ⟨44, _⟩ => ⟨S2176x1, .f32⟩
  | .hbm, ⟨45, _⟩ => ⟨S_, .f32⟩
  | .hbm, ⟨46, _⟩ => ⟨S2176x1, .f32⟩
  | .hbm, ⟨47, _⟩ => ⟨S2176x1, .f32⟩
  | .hbm, ⟨48, _⟩ => ⟨S_, .f32⟩
  | .hbm, ⟨49, _⟩ => ⟨S2176, .f32⟩
  | .hbm, ⟨50, _⟩ => ⟨S2176x1024, .f32⟩
  | .hbm, ⟨51, _⟩ => ⟨S2176x1024, .f32⟩
  | .hbm, ⟨52, _⟩ => ⟨S2176x1024, .f32⟩
  | .hbm, ⟨53, _⟩ => ⟨S2176x1024, .f32⟩
  | .hbm, ⟨54, _⟩ => ⟨S2176x1024, .f32⟩
  | .hbm, ⟨55, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== InProj.lean ====
abbrev S2048x1024 : Shape := ⟨2, ![2048, 1024]⟩
abbrev S16x1024 : Shape := ⟨2, ![16, 1024]⟩
abbrev S1x1024 : Shape := ⟨2, ![1, 1024]⟩
abbrev S1024x4624 : Shape := ⟨2, ![1024, 4624]⟩
abbrev S2176x4624 : Shape := ⟨2, ![2176, 4624]⟩
abbrev S2176x1024 : Shape := ⟨2, ![2176, 1024]⟩
abbrev S8x128x128 : Shape := ⟨3, ![8, 128, 128]⟩
abbrev S2176x1536 : Shape := ⟨2, ![2176, 1536]⟩
abbrev S2176x16 : Shape := ⟨2, ![2176, 16]⟩
abbrev S2176x8 : Shape := ⟨2, ![2176, 8]⟩
abbrev S_ : Shape := ⟨0, ![]⟩
abbrev S2176x120 : Shape := ⟨2, ![2176, 120]⟩
abbrev S2176x256 : Shape := ⟨2, ![2176, 256]⟩
abbrev S4624x1024 : Shape := ⟨2, ![4624, 1024]⟩
abbrev S8x1024 : Shape := ⟨2, ![8, 1024]⟩
abbrev S120x1024 : Shape := ⟨2, ![120, 1024]⟩
abbrev S256x1024 : Shape := ⟨2, ![256, 1024]⟩
abbrev S112x1024 : Shape := ⟨2, ![112, 1024]⟩
abbrev S8x128 : Shape := ⟨2, ![8, 128]⟩
abbrev S544x1024 : Shape := ⟨2, ![544, 1024]⟩
abbrev S544x1536 : Shape := ⟨2, ![544, 1536]⟩
abbrev S544x256 : Shape := ⟨2, ![544, 256]⟩
abbrev S9 : Shape := ⟨1, ![9]⟩
abbrev S1 : Shape := ⟨1, ![1]⟩
abbrev S512x1024 : Shape := ⟨2, ![512, 1024]⟩
abbrev S544x512 : Shape := ⟨2, ![544, 512]⟩
abbrev S272x1024 : Shape := ⟨2, ![272, 1024]⟩
abbrev S272 : Shape := ⟨1, ![272]⟩
abbrev S272x1 : Shape := ⟨2, ![272, 1]⟩
abbrev S1024 : Shape := ⟨1, ![1024]⟩
abbrev S416x1024 : Shape := ⟨2, ![416, 1024]⟩

abbrev nBuf : Space → Nat
  | .hbm => 44
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S16x1024, .f32⟩
  | .hbm, ⟨2, _⟩ => ⟨S1x1024, .f32⟩
  | .hbm, ⟨3, _⟩ => ⟨S1024x4624, .f32⟩
  | .hbm, ⟨4, _⟩ => ⟨S2176x4624, .f32⟩
  | .hbm, ⟨5, _⟩ => ⟨S2176x1024, .f32⟩
  | .hbm, ⟨6, _⟩ => ⟨S8x128x128, .f32⟩
  | .hbm, ⟨7, _⟩ => ⟨S8x128x128, .f32⟩
  | .hbm, ⟨8, _⟩ => ⟨S2176x1024, .f32⟩
  | .hbm, ⟨9, _⟩ => ⟨S2176x1536, .f32⟩
  | .hbm, ⟨10, _⟩ => ⟨S2176x16, .f32⟩
  | .hbm, ⟨11, _⟩ => ⟨S2176x1024, .f32⟩
  | .hbm, ⟨12, _⟩ => ⟨S2176x1024, .f32⟩
  | .hbm, ⟨13, _⟩ => ⟨S2176x1024, .bf16⟩
  | .hbm, ⟨14, _⟩ => ⟨S2176x1536, .bf16⟩
  | .hbm, ⟨15, _⟩ => ⟨S2176x16, .bf16⟩
  | .hbm, ⟨16, _⟩ => ⟨S2176x1024, .bf16⟩
  | .hbm, ⟨17, _⟩ => ⟨S2176x1024, .bf16⟩
  | .hbm, ⟨18, _⟩ => ⟨S2176x8, .bf16⟩
  | .hbm, ⟨19, _⟩ => ⟨S_, .bf16⟩
  | .hbm, ⟨20, _⟩ => ⟨S2176x120, .bf16⟩
  | .hbm, ⟨21, _⟩ => ⟨S2176x8, .bf16⟩
  | .hbm, ⟨22, _⟩ => ⟨S_, .bf16⟩
  | .hbm, ⟨23, _⟩ => ⟨S2176x120, .bf16⟩
  | .hbm, ⟨24, _⟩ => ⟨S2176x256, .bf16⟩
  | .hbm, ⟨25, _⟩ => ⟨S4624x1024, .f32⟩
  | .hbm, ⟨26, _⟩ => ⟨S4624x1024, .bf16⟩
  | .hbm, ⟨27, _⟩ => ⟨S8x1024, .bf16⟩
  | .hbm, ⟨28, _⟩ => ⟨S_, .bf16⟩
  | .hbm, ⟨29, _⟩ => ⟨S120x1024, .bf16⟩
  | .hbm, ⟨30, _⟩ => ⟨S8x1024, .bf16⟩
  | .hbm, ⟨31, _⟩ => ⟨S_, .bf16⟩
  | .hbm, ⟨32, _⟩ => ⟨S120x1024, .bf16⟩
  | .hbm, ⟨33, _⟩ => ⟨S256x1024, .bf16⟩
  | .hbm, ⟨34, _⟩ => ⟨S_, .f32⟩
  | .hbm, ⟨35, _⟩ => ⟨S112x1024, .f32⟩
  | .hbm, ⟨36, _⟩ => ⟨S2176x1024, .f32⟩
  | .hbm, ⟨37, _⟩ => ⟨S_, .f32⟩
  | .hbm, ⟨38, _⟩ => ⟨S8x128, .f32⟩
  | .hbm, ⟨39, _⟩ => ⟨S2048x1024, .f32⟩
  | .hbm, ⟨40, _⟩ => ⟨S16x1024, .f32⟩
  | .hbm, ⟨41, _⟩ => ⟨S1x1024, .f32⟩
  | .hbm, ⟨42, _⟩ => ⟨S8x128x128, .f32⟩
  | .hbm, ⟨43, _⟩ => ⟨S8x128x128, .f32⟩
  | .local _ .vmem, ⟨0, _⟩ => ⟨S544x1024, .bf16⟩
  | .local _ .vmem, ⟨1, _⟩ => ⟨S544x1024, .bf16⟩
  | .local _ .vmem, ⟨2, _⟩ => ⟨S544x1024, .bf16⟩
  | .local _ .vmem, ⟨3, _⟩ => ⟨S544x1024, .bf16⟩
  | .local _ .vmem, ⟨4, _⟩ => ⟨S544x1024, .bf16⟩
  | .local _ .vmem, ⟨5, _⟩ => ⟨S544x1024, .bf16⟩
  | .local _ .vmem, ⟨6, _⟩ => ⟨S544x1536, .bf16⟩
  | .local _ .vmem, ⟨7, _⟩ => ⟨S544x1536, .bf16⟩
  | .local _ .vmem, ⟨8, _⟩ => ⟨S544x256, .bf16⟩
  | .local _ .vmem, ⟨9, _⟩ => ⟨S544x256, .bf16⟩
  | .local _ .vmem, ⟨10, _⟩ => ⟨S256x1024, .bf16⟩
  | .local _ .vmem, ⟨11, _⟩ => ⟨S544x1024, .f32⟩
  | .local _ .vmem, ⟨12, _⟩ => ⟨S544x1024, .f32⟩
  | .local _ .vmem, ⟨13, _⟩ => ⟨S1x1024, .f32⟩
  | .local _ .vmem, ⟨14, _⟩ => ⟨S544x1024, .f32⟩
  | .local _ .vmem, ⟨15, _⟩ => ⟨S544x1024, .f32⟩
  | .local _ .vmem, ⟨16, _⟩ => ⟨S16x1024, .f32⟩
  | .local _ .vmem, ⟨17, _⟩ => ⟨S1x1024, .f32⟩
  | .local _ .vmem, ⟨18, _⟩ => ⟨S544x1024, .f32⟩
  | .local _ .vmem, ⟨19, _⟩ => ⟨S544x1024, .f32⟩
  | .local _ .vmem, ⟨20, _⟩ => ⟨S4624x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev main_v25_2 : Ref sig .tc := ⟨.hbm, 41, rfl⟩
abbrev main_v25_3 : Ref sig .tc := ⟨.hbm, 42, rfl⟩
abbrev main_v25_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let false_71 : BitVec 1 := 0#1
  let c4112_i32 : BitVec 32 := 4112#32
  let false_70 : BitVec 1 := 0#1
  let c3600_i32 : BitVec 32 := 3600#32
  let false_69 : BitVec 1 := 0#1
  let c3088_i32 : BitVec 32 := 3088#32
  let false_68 : BitVec 1 := 0#1
  let c2576_i32 : BitVec 32 := 2576#32
  let false_67 : BitVec 1 := 0#1
  let c2048_i32 : BitVec 32 := 2048#32
  let false_66 : BitVec 1 := 0#1
  let c1536_i32 : BitVec 32 := 1536#32
  let false_65 : BitVec 1 := 0#1
  let c1024_i32 : BitVec 32 := 1024#32
  let v_false : BitVec 1 := 0#1
  let c512_i32 : BitVec 32 := 512#32
  let c0_i32_64 : BitVec 32 := 0#32
  let v100 : BitVec 32 := Scalar.select v_false c512_i32 c0_i32_64
  let v101 : BitVec 32 := Scalar.select false_65 c1024_i32 v100
  let v102 : BitVec 32 := Scalar.select false_66 c1536_i32 v101
  let v103 : BitVec 32 := Scalar.select false_67 c2048_i32 v102
  let v104 : BitVec 32 := Scalar.select false_68 c2576_i32 v103
  let v105 : BitVec 32 := Scalar.select false_69 c3088_i32 v104
  let v106 : BitVec 32 := Scalar.select false_70 c3600_i32 v105
  let v107 : BitVec 32 := Scalar.select false_71 c4112_i32 v106
  v107
def k0_off1 (v_false : BitVec 1) : Fin 2 → Nat :=
  let false_71 : BitVec 1 := 0#1
  let c4112_i32 : BitVec 32 := 4112#32
  let false_70 : BitVec 1 := 0#1
  let c3600_i32 : BitVec 32 := 3600#32
  let false_69 : BitVec 1 := 0#1
  let c3088_i32 : BitVec 32 := 3088#32
  let false_68 : BitVec 1 := 0#1
  let c2576_i32 : BitVec 32 := 2576#32
  let false_67 : BitVec 1 := 0#1
  let c2048_i32 : BitVec 32 := 2048#32
  let false_66 : BitVec 1 := 0#1
  let c1536_i32 : BitVec 32 := 1536#32
  let false_65 : BitVec 1 := 0#1
  let c1024_i32 : BitVec 32 := 1024#32
  let c512_i32 : BitVec 32 := 512#32
  let c0_i32_64 : BitVec 32 := 0#32
  let v100 : BitVec 32 := Scalar.select v_false c512_i32 c0_i32_64
  let v101 : BitVec 32 := Scalar.select false_65 c1024_i32 v100
  let v102 : BitVec 32 := Scalar.select false_66 c1536_i32 v101
  let v103 : BitVec 32 := Scalar.select false_67 c2048_i32 v102
  let v104 : BitVec 32 := Scalar.select false_68 c2576_i32 v103
  let v105 : BitVec 32 := Scalar.select false_69 c3088_i32 v104
  let v106 : BitVec 32 := Scalar.select false_70 c3600_i32 v105
  let v107 : BitVec 32 := Scalar.select false_71 c4112_i32 v106
  let v108 : BitVec 32 := v107
  let c0_i32_73 : BitVec 32 := 0#32
  ![v108.toNat, 0]
def k0_mult2 : BitVec 32 :=
  let false_89 : BitVec 1 := 0#1
  let c4112_i32_90 : BitVec 32 := 4112#32
  let false_87 : BitVec 1 := 0#1
  let c3600_i32_88 : BitVec 32 := 3600#32
  let false_85 : BitVec 1 := 0#1
  let c3088_i32_86 : BitVec 32 := 3088#32
  let false_83 : BitVec 1 := 0#1
  let c2576_i32_84 : BitVec 32 := 2576#32
  let false_81 : BitVec 1 := 0#1
  let c2048_i32_82 : BitVec 32 := 2048#32
  let false_79 : BitVec 1 := 0#1
  let c1536_i32_80 : BitVec 32 := 1536#32
  let false_77 : BitVec 1 := 0#1
  let c1024_i32_78 : BitVec 32 := 1024#32
  let v_true : BitVec 1 := 1#1
  let c512_i32_75 : BitVec 32 := 512#32
  let c0_i32_76 : BitVec 32 := 0#32
  let v113 : BitVec 32 := Scalar.select v_true c512_i32_75 c0_i32_76
  let v114 : BitVec 32 := Scalar.select false_77 c1024_i32_78 v113
  let v115 : BitVec 32 := Scalar.select false_79 c1536_i32_80 v114
  let v116 : BitVec 32 := Scalar.select false_81 c2048_i32_82 v115
  let v117 : BitVec 32 := Scalar.select false_83 c2576_i32_84 v116
  let v118 : BitVec 32 := Scalar.select false_85 c3088_i32_86 v117
  let v119 : BitVec 32 := Scalar.select false_87 c3600_i32_88 v118
  let v120 : BitVec 32 := Scalar.select false_89 c4112_i32_90 v119
  v120
@[reducible] def k0_t1_loop : Scf.Loop 32 :=
  let c0_i32_8 : BitVec 32 := 0#32
  let c2_i32 : BitVec 32 := 2#32
  let v14 : BitVec 32 := Scalar.addi c0_i32_8 c2_i32
  let c1_i32 : BitVec 32 := 1#32
  ⟨c0_i32_8, v14, c1_i32⟩
def k0_mult3 (k0_t1 : Fin k0_t1_loop.trips) : BitVec 32 :=
  let c0_i32_8 : BitVec 32 := 0#32
  let c1_i32 : BitVec 32 := 1#32
  let arg24 : BitVec 32 := Scf.iv c0_i32_8 c1_i32 k0_t1
  let c512_i32 : BitVec 32 := 512#32
  let v100 : BitVec 32 := Scalar.muli arg24 c512_i32
  v100
def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v103 : BitVec 32 := Scalar.extui v0
  let c0_i32_65 : BitVec 32 := 0#32
  let v104 : BitVec 1 := Scalar.cmpi .ne v103 c0_i32_65
  v104

def k0_mult4 (k0_t1 : Fin k0_t1_loop.trips) : BitVec 32 :=
  let c0_i32_64 : BitVec 32 := 0#32
  let c0_i32_8 : BitVec 32 := 0#32
  let c1_i32 : BitVec 32 := 1#32
  let arg24 : BitVec 32 := Scf.iv c0_i32_8 c1_i32 k0_t1
  let v102 : BitVec 32 := Scalar.addi c0_i32_64 arg24
  let c8_i32 : BitVec 32 := 8#32
  let v132 : BitVec 1 := Scalar.cmpi .eq v102 c8_i32
  let c4112_i32 : BitVec 32 := 4112#32
  let c7_i32 : BitVec 32 := 7#32
  let v130 : BitVec 1 := Scalar.cmpi .eq v102 c7_i32
  let c3600_i32 : BitVec 32 := 3600#32
  let c6_i32 : BitVec 32 := 6#32
  let v128 : BitVec 1 := Scalar.cmpi .eq v102 c6_i32
  let c3088_i32 : BitVec 32 := 3088#32
  let c5_i32 : BitVec 32 := 5#32
  let v126 : BitVec 1 := Scalar.cmpi .eq v102 c5_i32
  let c2576_i32 : BitVec 32 := 2576#32
  let c4_i32 : BitVec 32 := 4#32
  let v124 : BitVec 1 := Scalar.cmpi .eq v102 c4_i32
  let c2048_i32 : BitVec 32 := 2048#32
  let c3_i32_78 : BitVec 32 := 3#32
  let v122 : BitVec 1 := Scalar.cmpi .eq v102 c3_i32_78
  let c1536_i32 : BitVec 32 := 1536#32
  let c2_i32_77 : BitVec 32 := 2#32
  let v120 : BitVec 1 := Scalar.cmpi .eq v102 c2_i32_77
  let c1024_i32 : BitVec 32 := 1024#32
  let c1_i32_74 : BitVec 32 := 1#32
  let v118 : BitVec 1 := Scalar.cmpi .eq v102 c1_i32_74
  let c512_i32_75 : BitVec 32 := 512#32
  let c0_i32_76 : BitVec 32 := 0#32
  let v119 : BitVec 32 := Scalar.select v118 c512_i32_75 c0_i32_76
  let v121 : BitVec 32 := Scalar.select v120 c1024_i32 v119
  let v123 : BitVec 32 := Scalar.select v122 c1536_i32 v121
  let v125 : BitVec 32 := Scalar.select v124 c2048_i32 v123
  let v127 : BitVec 32 := Scalar.select v126 c2576_i32 v125
  let v129 : BitVec 32 := Scalar.select v128 c3088_i32 v127
  let v131 : BitVec 32 := Scalar.select v130 c3600_i32 v129
  let v133 : BitVec 32 := Scalar.select v132 c4112_i32 v131
  v133
def k0_off2 (k0_t1 : Fin k0_t1_loop.trips) : Fin 1 → Nat :=
  let c0_i32_64 : BitVec 32 := 0#32
  let c0_i32_8 : BitVec 32 := 0#32
  let c1_i32 : BitVec 32 := 1#32
  let arg24 : BitVec 32 := Scf.iv c0_i32_8 c1_i32 k0_t1
  let v102 : BitVec 32 := Scalar.addi c0_i32_64 arg24
  ![v102.toNat]
def k0_off3 (k0_t1 : Fin k0_t1_loop.trips) : Fin 2 → Nat :=
  let c0_i32_64 : BitVec 32 := 0#32
  let c0_i32_8 : BitVec 32 := 0#32
  let c1_i32 : BitVec 32 := 1#32
  let arg24 : BitVec 32 := Scf.iv c0_i32_8 c1_i32 k0_t1
  let v102 : BitVec 32 := Scalar.addi c0_i32_64 arg24
  let c8_i32 : BitVec 32 := 8#32
  let v132 : BitVec 1 := Scalar.cmpi .eq v102 c8_i32
  let c4112_i32 : BitVec 32 := 4112#32
  let c7_i32 : BitVec 32 := 7#32
  let v130 : BitVec 1 := Scalar.cmpi .eq v102 c7_i32
  let c3600_i32 : BitVec 32 := 3600#32
  let c6_i32 : BitVec 32 := 6#32
  let v128 : BitVec 1 := Scalar.cmpi .eq v102 c6_i32
  let c3088_i32 : BitVec 32 := 3088#32
  let c5_i32 : BitVec 32 := 5#32
  let v126 : BitVec 1 := Scalar.cmpi .eq v102 c5_i32
  let c2576_i32 : BitVec 32 := 2576#32
  let c4_i32 : BitVec 32 := 4#32
  let v124 : BitVec 1 := Scalar.cmpi .eq v102 c4_i32
  let c2048_i32 : BitVec 32 := 2048#32
  let c3_i32_78 : BitVec 32 := 3#32
  let v122 : BitVec 1 := Scalar.cmpi .eq v102 c3_i32_78
  let c1536_i32 : BitVec 32 := 1536#32
  let c2_i32_77 : BitVec 32 := 2#32
  let v120 : BitVec 1 := Scalar.cmpi .eq v102 c2_i32_77
  let c1024_i32 : BitVec 32 := 1024#32
  let c1_i32_74 : BitVec 32 := 1#32
  let v118 : BitVec 1 := Scalar.cmpi .eq v102 c1_i32_74
  let c512_i32_75 : BitVec 32 := 512#32
  let c0_i32_76 : BitVec 32 := 0#32
  let v119 : BitVec 32 := Scalar.select v118 c512_i32_75 c0_i32_76
  let v121 : BitVec 32 := Scalar.select v120 c1024_i32 v119
  let v123 : BitVec 32 := Scalar.select v122 c1536_i32 v121
  let v125 : BitVec 32 := Scalar.select v124 c2048_i32 v123
  let v127 : BitVec 32 := Scalar.select v126 c2576_i32 v125
  let v129 : BitVec 32 := Scalar.select v128 c3088_i32 v127
  let v131 : BitVec 32 := Scalar.select v130 c3600_i32 v129
  let v133 : BitVec 32 := Scalar.select v132 c4112_i32 v131
  let v134 : BitVec 32 := v133
  let c0_i32_79 : BitVec 32 := 0#32
  ![v134.toNat, 0]
def k0_cond4 (k0_t1 : Fin k0_t1_loop.trips) : BitVec 1 :=
  let c0_i32_64 : BitVec 32 := 0#32
  let c0_i32_8 : BitVec 32 := 0#32
  let c1_i32 : BitVec 32 := 1#32
  let arg24 : BitVec 32 := Scf.iv c0_i32_8 c1_i32 k0_t1
  let v102 : BitVec 32 := Scalar.addi c0_i32_64 arg24
  let c2_i32_81 : BitVec 32 := 2#32
  let v139 : BitVec 32 := Scalar.addi v102 c2_i32_81
  let c9_i32 : BitVec 32 := 9#32
  let v140 : BitVec 1 := Scalar.cmpi .slt v139 c9_i32
  let v141 : BitVec 32 := Scalar.extui v140
  let c0_i32_82 : BitVec 32 := 0#32
  let v142 : BitVec 1 := Scalar.cmpi .ne v141 c0_i32_82
  v142

def k0_mult5 (k0_t1 : Fin k0_t1_loop.trips) : BitVec 32 :=
  let c0_i32_64 : BitVec 32 := 0#32
  let c0_i32_8 : BitVec 32 := 0#32
  let c1_i32 : BitVec 32 := 1#32
  let arg24 : BitVec 32 := Scf.iv c0_i32_8 c1_i32 k0_t1
  let v102 : BitVec 32 := Scalar.addi c0_i32_64 arg24
  let c2_i32_83 : BitVec 32 := 2#32
  let v143 : BitVec 32 := Scalar.addi v102 c2_i32_83
  let c8_i32_99 : BitVec 32 := 8#32
  let v158 : BitVec 1 := Scalar.cmpi .eq v143 c8_i32_99
  let c4112_i32_100 : BitVec 32 := 4112#32
  let c7_i32_97 : BitVec 32 := 7#32
  let v156 : BitVec 1 := Scalar.cmpi .eq v143 c7_i32_97
  let c3600_i32_98 : BitVec 32 := 3600#32
  let c6_i32_95 : BitVec 32 := 6#32
  let v154 : BitVec 1 := Scalar.cmpi .eq v143 c6_i32_95
  let c3088_i32_96 : BitVec 32 := 3088#32
  let c5_i32_93 : BitVec 32 := 5#32
  let v152 : BitVec 1 := Scalar.cmpi .eq v143 c5_i32_93
  let c2576_i32_94 : BitVec 32 := 2576#32
  let c4_i32_91 : BitVec 32 := 4#32
  let v150 : BitVec 1 := Scalar.cmpi .eq v143 c4_i32_91
  let c2048_i32_92 : BitVec 32 := 2048#32
  let c3_i32_89 : BitVec 32 := 3#32
  let v148 : BitVec 1 := Scalar.cmpi .eq v143 c3_i32_89
  let c1536_i32_90 : BitVec 32 := 1536#32
  let c2_i32_87 : BitVec 32 := 2#32
  let v146 : BitVec 1 := Scalar.cmpi .eq v143 c2_i32_87
  let c1024_i32_88 : BitVec 32 := 1024#32
  let c1_i32_84 : BitVec 32 := 1#32
  let v144 : BitVec 1 := Scalar.cmpi .eq v143 c1_i32_84
  let c512_i32_85 : BitVec 32 := 512#32
  let c0_i32_86 : BitVec 32 := 0#32
  let v145 : BitVec 32 := Scalar.select v144 c512_i32_85 c0_i32_86
  let v147 : BitVec 32 := Scalar.select v146 c1024_i32_88 v145
  let v149 : BitVec 32 := Scalar.select v148 c1536_i32_90 v147
  let v151 : BitVec 32 := Scalar.select v150 c2048_i32_92 v149
  let v153 : BitVec 32 := Scalar.select v152 c2576_i32_94 v151
  let v155 : BitVec 32 := Scalar.select v154 c3088_i32_96 v153
  let v157 : BitVec 32 := Scalar.select v156 c3600_i32_98 v155
  let v159 : BitVec 32 := Scalar.select v158 c4112_i32_100 v157
  v159
def k0_off4 (k0_t1 : Fin k0_t1_loop.trips) : Fin 1 → Nat :=
  let c0_i32_64 : BitVec 32 := 0#32
  let c0_i32_8 : BitVec 32 := 0#32
  let c1_i32 : BitVec 32 := 1#32
  let arg24 : BitVec 32 := Scf.iv c0_i32_8 c1_i32 k0_t1
  let v102 : BitVec 32 := Scalar.addi c0_i32_64 arg24
  let c2_i32_83 : BitVec 32 := 2#32
  let v143 : BitVec 32 := Scalar.addi v102 c2_i32_83
  ![v143.toNat]
def k0_off5 (k0_t1 : Fin k0_t1_loop.trips) : Fin 2 → Nat :=
  let c0_i32_64 : BitVec 32 := 0#32
  let c0_i32_8 : BitVec 32 := 0#32
  let c1_i32 : BitVec 32 := 1#32
  let arg24 : BitVec 32 := Scf.iv c0_i32_8 c1_i32 k0_t1
  let v102 : BitVec 32 := Scalar.addi c0_i32_64 arg24
  let c2_i32_83 : BitVec 32 := 2#32
  let v143 : BitVec 32 := Scalar.addi v102 c2_i32_83
  let c8_i32_99 : BitVec 32 := 8#32
  let v158 : BitVec 1 := Scalar.cmpi .eq v143 c8_i32_99
  let c4112_i32_100 : BitVec 32 := 4112#32
  let c7_i32_97 : BitVec 32 := 7#32
  let v156 : BitVec 1 := Scalar.cmpi .eq v143 c7_i32_97
  let c3600_i32_98 : BitVec 32 := 3600#32
  let c6_i32_95 : BitVec 32 := 6#32
  let v154 : BitVec 1 := Scalar.cmpi .eq v143 c6_i32_95
  let c3088_i32_96 : BitVec 32 := 3088#32
  let c5_i32_93 : BitVec 32 := 5#32
  let v152 : BitVec 1 := Scalar.cmpi .eq v143 c5_i32_93
  let c2576_i32_94 : BitVec 32 := 2576#32
  let c4_i32_91 : BitVec 32 := 4#32
  let v150 : BitVec 1 := Scalar.cmpi .eq v143 c4_i32_91
  let c2048_i32_92 : BitVec 32 := 2048#32
  let c3_i32_89 : BitVec 32 := 3#32
  let v148 : BitVec 1 := Scalar.cmpi .eq v143 c3_i32_89
  let c1536_i32_90 : BitVec 32 := 1536#32
  let c2_i32_87 : BitVec 32 := 2#32
  let v146 : BitVec 1 := Scalar.cmpi .eq v143 c2_i32_87
  let c1024_i32_88 : BitVec 32 := 1024#32
  let c1_i32_84 : BitVec 32 := 1#32
  let v144 : BitVec 1 := Scalar.cmpi .eq v143 c1_i32_84
  let c512_i32_85 : BitVec 32 := 512#32
  let c0_i32_86 : BitVec 32 := 0#32
  let v145 : BitVec 32 := Scalar.select v144 c512_i32_85 c0_i32_86
  let v147 : BitVec 32 := Scalar.select v146 c1024_i32_88 v145
  let v149 : BitVec 32 := Scalar.select v148 c1536_i32_90 v147
  let v151 : BitVec 32 := Scalar.select v150 c2048_i32_92 v149
  let v153 : BitVec 32 := Scalar.select v152 c2576_i32_94 v151
  let v155 : BitVec 32 := Scalar.select v154 c3088_i32_96 v153
  let v157 : BitVec 32 := Scalar.select v156 c3600_i32_98 v155
  let v159 : BitVec 32 := Scalar.select v158 c4112_i32_100 v157
  let v160 : BitVec 32 := v159
  let c0_i32_101 : BitVec 32 := 0#32
  ![v160.toNat, 0]
def k0_off6 (k0_t1 : Fin k0_t1_loop.trips) : Fin 2 → Nat :=
  let c0_68 : Index := 0#32
  let c0_i32_8 : BitVec 32 := 0#32
  let c1_i32 : BitVec 32 := 1#32
  let arg24 : BitVec 32 := Scf.iv c0_i32_8 c1_i32 k0_t1
  let c512_i32 : BitVec 32 := 512#32
  let v100 : BitVec 32 := Scalar.muli arg24 c512_i32
  let v101 : BitVec 32 := v100
  let v106 : Index := Scalar.indexCast v101
  ![0, v106.toNat]
def k0_mult6 (k0_t1 : Fin k0_t1_loop.trips) : BitVec 32 :=
  let c0_i32_69 : BitVec 32 := 0#32
  let c0_i32_8 : BitVec 32 := 0#32
  let c1_i32 : BitVec 32 := 1#32
  let arg24 : BitVec 32 := Scf.iv c0_i32_8 c1_i32 k0_t1
  let c512_i32 : BitVec 32 := 512#32
  let v100 : BitVec 32 := Scalar.muli arg24 c512_i32
  let v101 : BitVec 32 := v100
  let v109 : BitVec 32 := Scalar.addi c0_i32_69 v101
  v109
def k0_off7 (k0_t1 : Fin k0_t1_loop.trips) : Fin 2 → Nat :=
  let c0_i32_69 : BitVec 32 := 0#32
  let c0_i32_8 : BitVec 32 := 0#32
  let c1_i32 : BitVec 32 := 1#32
  let arg24 : BitVec 32 := Scf.iv c0_i32_8 c1_i32 k0_t1
  let c512_i32 : BitVec 32 := 512#32
  let v100 : BitVec 32 := Scalar.muli arg24 c512_i32
  let v101 : BitVec 32 := v100
  let v109 : BitVec 32 := Scalar.addi c0_i32_69 v101
  let v110 : BitVec 32 := v109
  let v111 : Index := Scalar.indexCast v110
  let c0_70 : Index := 0#32
  ![v111.toNat, 0]
@[reducible] def k0_t2_loop : Scf.Loop 32 :=
  let c0_i32_10 : BitVec 32 := 0#32
  let c3_i32 : BitVec 32 := 3#32
  let v15 : BitVec 32 := Scalar.addi c0_i32_10 c3_i32
  let c1_i32_11 : BitVec 32 := 1#32
  ⟨c0_i32_10, v15, c1_i32_11⟩
def k0_mult7 (k0_t2 : Fin k0_t2_loop.trips) : BitVec 32 :=
  let c0_i32_10 : BitVec 32 := 0#32
  let c1_i32_11 : BitVec 32 := 1#32
  let arg24 : BitVec 32 := Scf.iv c0_i32_10 c1_i32_11 k0_t2
  let c512_i32 : BitVec 32 := 512#32
  let v100 : BitVec 32 := Scalar.muli arg24 c512_i32
  v100
def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v103 : BitVec 32 := Scalar.extui v0
  let c0_i32_65 : BitVec 32 := 0#32
  let v104 : BitVec 1 := Scalar.cmpi .ne v103 c0_i32_65
  v104

def k0_mult8 (k0_t2 : Fin k0_t2_loop.trips) : BitVec 32 :=
  let c2_i32_64 : BitVec 32 := 2#32
  let c0_i32_10 : BitVec 32 := 0#32
  let c1_i32_11 : BitVec 32 := 1#32
  let arg24 : BitVec 32 := Scf.iv c0_i32_10 c1_i32_11 k0_t2
  let v102 : BitVec 32 := Scalar.addi c2_i32_64 arg24
  let c8_i32 : BitVec 32 := 8#32
  let v132 : BitVec 1 := Scalar.cmpi .eq v102 c8_i32
  let c4112_i32 : BitVec 32 := 4112#32
  let c7_i32 : BitVec 32 := 7#32
  let v130 : BitVec 1 := Scalar.cmpi .eq v102 c7_i32
  let c3600_i32 : BitVec 32 := 3600#32
  let c6_i32 : BitVec 32 := 6#32
  let v128 : BitVec 1 := Scalar.cmpi .eq v102 c6_i32
  let c3088_i32 : BitVec 32 := 3088#32
  let c5_i32 : BitVec 32 := 5#32
  let v126 : BitVec 1 := Scalar.cmpi .eq v102 c5_i32
  let c2576_i32 : BitVec 32 := 2576#32
  let c4_i32 : BitVec 32 := 4#32
  let v124 : BitVec 1 := Scalar.cmpi .eq v102 c4_i32
  let c2048_i32 : BitVec 32 := 2048#32
  let c3_i32_78 : BitVec 32 := 3#32
  let v122 : BitVec 1 := Scalar.cmpi .eq v102 c3_i32_78
  let c1536_i32 : BitVec 32 := 1536#32
  let c2_i32_76 : BitVec 32 := 2#32
  let v120 : BitVec 1 := Scalar.cmpi .eq v102 c2_i32_76
  let c1024_i32_77 : BitVec 32 := 1024#32
  let c1_i32_73 : BitVec 32 := 1#32
  let v118 : BitVec 1 := Scalar.cmpi .eq v102 c1_i32_73
  let c512_i32_74 : BitVec 32 := 512#32
  let c0_i32_75 : BitVec 32 := 0#32
  let v119 : BitVec 32 := Scalar.select v118 c512_i32_74 c0_i32_75
  let v121 : BitVec 32 := Scalar.select v120 c1024_i32_77 v119
  let v123 : BitVec 32 := Scalar.select v122 c1536_i32 v121
  let v125 : BitVec 32 := Scalar.select v124 c2048_i32 v123
  let v127 : BitVec 32 := Scalar.select v126 c2576_i32 v125
  let v129 : BitVec 32 := Scalar.select v128 c3088_i32 v127
  let v131 : BitVec 32 := Scalar.select v130 c3600_i32 v129
  let v133 : BitVec 32 := Scalar.select v132 c4112_i32 v131
  v133
def k0_off8 (k0_t2 : Fin k0_t2_loop.trips) : Fin 1 → Nat :=
  let c2_i32_64 : BitVec 32 := 2#32
  let c0_i32_10 : BitVec 32 := 0#32
  let c1_i32_11 : BitVec 32 := 1#32
  let arg24 : BitVec 32 := Scf.iv c0_i32_10 c1_i32_11 k0_t2
  let v102 : BitVec 32 := Scalar.addi c2_i32_64 arg24
  ![v102.toNat]
def k0_off9 (k0_t2 : Fin k0_t2_loop.trips) : Fin 2 → Nat :=
  let c2_i32_64 : BitVec 32 := 2#32
  let c0_i32_10 : BitVec 32 := 0#32
  let c1_i32_11 : BitVec 32 := 1#32
  let arg24 : BitVec 32 := Scf.iv c0_i32_10 c1_i32_11 k0_t2
  let v102 : BitVec 32 := Scalar.addi c2_i32_64 arg24
  let c8_i32 : BitVec 32 := 8#32
  let v132 : BitVec 1 := Scalar.cmpi .eq v102 c8_i32
  let c4112_i32 : BitVec 32 := 4112#32
  let c7_i32 : BitVec 32 := 7#32
  let v130 : BitVec 1 := Scalar.cmpi .eq v102 c7_i32
  let c3600_i32 : BitVec 32 := 3600#32
  let c6_i32 : BitVec 32 := 6#32
  let v128 : BitVec 1 := Scalar.cmpi .eq v102 c6_i32
  let c3088_i32 : BitVec 32 := 3088#32
  let c5_i32 : BitVec 32 := 5#32
  let v126 : BitVec 1 := Scalar.cmpi .eq v102 c5_i32
  let c2576_i32 : BitVec 32 := 2576#32
  let c4_i32 : BitVec 32 := 4#32
  let v124 : BitVec 1 := Scalar.cmpi .eq v102 c4_i32
  let c2048_i32 : BitVec 32 := 2048#32
  let c3_i32_78 : BitVec 32 := 3#32
  let v122 : BitVec 1 := Scalar.cmpi .eq v102 c3_i32_78
  let c1536_i32 : BitVec 32 := 1536#32
  let c2_i32_76 : BitVec 32 := 2#32
  let v120 : BitVec 1 := Scalar.cmpi .eq v102 c2_i32_76
  let c1024_i32_77 : BitVec 32 := 1024#32
  let c1_i32_73 : BitVec 32 := 1#32
  let v118 : BitVec 1 := Scalar.cmpi .eq v102 c1_i32_73
  let c512_i32_74 : BitVec 32 := 512#32
  let c0_i32_75 : BitVec 32 := 0#32
  let v119 : BitVec 32 := Scalar.select v118 c512_i32_74 c0_i32_75
  let v121 : BitVec 32 := Scalar.select v120 c1024_i32_77 v119
  let v123 : BitVec 32 := Scalar.select v122 c1536_i32 v121
  let v125 : BitVec 32 := Scalar.select v124 c2048_i32 v123
  let v127 : BitVec 32 := Scalar.select v126 c2576_i32 v125
  let v129 : BitVec 32 := Scalar.select v128 c3088_i32 v127
  let v131 : BitVec 32 := Scalar.select v130 c3600_i32 v129
  let v133 : BitVec 32 := Scalar.select v132 c4112_i32 v131
  let v134 : BitVec 32 := v133
  let c0_i32_79 : BitVec 32 := 0#32
  ![v134.toNat, 0]
def k0_cond6 (k0_t2 : Fin k0_t2_loop.trips) : BitVec 1 :=
  let c2_i32_64 : BitVec 32 := 2#32
  let c0_i32_10 : BitVec 32 := 0#32
  let c1_i32_11 : BitVec 32 := 1#32
  let arg24 : BitVec 32 := Scf.iv c0_i32_10 c1_i32_11 k0_t2
  let v102 : BitVec 32 := Scalar.addi c2_i32_64 arg24
  let c2_i32_81 : BitVec 32 := 2#32
  let v139 : BitVec 32 := Scalar.addi v102 c2_i32_81
  let c9_i32 : BitVec 32 := 9#32
  let v140 : BitVec 1 := Scalar.cmpi .slt v139 c9_i32
  let v141 : BitVec 32 := Scalar.extui v140
  let c0_i32_82 : BitVec 32 := 0#32
  let v142 : BitVec 1 := Scalar.cmpi .ne v141 c0_i32_82
  v142

def k0_mult9 (k0_t2 : Fin k0_t2_loop.trips) : BitVec 32 :=
  let c2_i32_64 : BitVec 32 := 2#32
  let c0_i32_10 : BitVec 32 := 0#32
  let c1_i32_11 : BitVec 32 := 1#32
  let arg24 : BitVec 32 := Scf.iv c0_i32_10 c1_i32_11 k0_t2
  let v102 : BitVec 32 := Scalar.addi c2_i32_64 arg24
  let c2_i32_83 : BitVec 32 := 2#32
  let v143 : BitVec 32 := Scalar.addi v102 c2_i32_83
  let c8_i32_99 : BitVec 32 := 8#32
  let v158 : BitVec 1 := Scalar.cmpi .eq v143 c8_i32_99
  let c4112_i32_100 : BitVec 32 := 4112#32
  let c7_i32_97 : BitVec 32 := 7#32
  let v156 : BitVec 1 := Scalar.cmpi .eq v143 c7_i32_97
  let c3600_i32_98 : BitVec 32 := 3600#32
  let c6_i32_95 : BitVec 32 := 6#32
  let v154 : BitVec 1 := Scalar.cmpi .eq v143 c6_i32_95
  let c3088_i32_96 : BitVec 32 := 3088#32
  let c5_i32_93 : BitVec 32 := 5#32
  let v152 : BitVec 1 := Scalar.cmpi .eq v143 c5_i32_93
  let c2576_i32_94 : BitVec 32 := 2576#32
  let c4_i32_91 : BitVec 32 := 4#32
  let v150 : BitVec 1 := Scalar.cmpi .eq v143 c4_i32_91
  let c2048_i32_92 : BitVec 32 := 2048#32
  let c3_i32_89 : BitVec 32 := 3#32
  let v148 : BitVec 1 := Scalar.cmpi .eq v143 c3_i32_89
  let c1536_i32_90 : BitVec 32 := 1536#32
  let c2_i32_87 : BitVec 32 := 2#32
  let v146 : BitVec 1 := Scalar.cmpi .eq v143 c2_i32_87
  let c1024_i32_88 : BitVec 32 := 1024#32
  let c1_i32_84 : BitVec 32 := 1#32
  let v144 : BitVec 1 := Scalar.cmpi .eq v143 c1_i32_84
  let c512_i32_85 : BitVec 32 := 512#32
  let c0_i32_86 : BitVec 32 := 0#32
  let v145 : BitVec 32 := Scalar.select v144 c512_i32_85 c0_i32_86
  let v147 : BitVec 32 := Scalar.select v146 c1024_i32_88 v145
  let v149 : BitVec 32 := Scalar.select v148 c1536_i32_90 v147
  let v151 : BitVec 32 := Scalar.select v150 c2048_i32_92 v149
  let v153 : BitVec 32 := Scalar.select v152 c2576_i32_94 v151
  let v155 : BitVec 32 := Scalar.select v154 c3088_i32_96 v153
  let v157 : BitVec 32 := Scalar.select v156 c3600_i32_98 v155
  let v159 : BitVec 32 := Scalar.select v158 c4112_i32_100 v157
  v159
def k0_off10 (k0_t2 : Fin k0_t2_loop.trips) : Fin 1 → Nat :=
  let c2_i32_64 : BitVec 32 := 2#32
  let c0_i32_10 : BitVec 32 := 0#32
  let c1_i32_11 : BitVec 32 := 1#32
  let arg24 : BitVec 32 := Scf.iv c0_i32_10 c1_i32_11 k0_t2
  let v102 : BitVec 32 := Scalar.addi c2_i32_64 arg24
  let c2_i32_83 : BitVec 32 := 2#32
  let v143 : BitVec 32 := Scalar.addi v102 c2_i32_83
  ![v143.toNat]
def k0_off11 (k0_t2 : Fin k0_t2_loop.trips) : Fin 2 → Nat :=
  let c2_i32_64 : BitVec 32 := 2#32
  let c0_i32_10 : BitVec 32 := 0#32
  let c1_i32_11 : BitVec 32 := 1#32
  let arg24 : BitVec 32 := Scf.iv c0_i32_10 c1_i32_11 k0_t2
  let v102 : BitVec 32 := Scalar.addi c2_i32_64 arg24
  let c2_i32_83 : BitVec 32 := 2#32
  let v143 : BitVec 32 := Scalar.addi v102 c2_i32_83
  let c8_i32_99 : BitVec 32 := 8#32
  let v158 : BitVec 1 := Scalar.cmpi .eq v143 c8_i32_99
  let c4112_i32_100 : BitVec 32 := 4112#32
  let c7_i32_97 : BitVec 32 := 7#32
  let v156 : BitVec 1 := Scalar.cmpi .eq v143 c7_i32_97
  let c3600_i32_98 : BitVec 32 := 3600#32
  let c6_i32_95 : BitVec 32 := 6#32
  let v154 : BitVec 1 := Scalar.cmpi .eq v143 c6_i32_95
  let c3088_i32_96 : BitVec 32 := 3088#32
  let c5_i32_93 : BitVec 32 := 5#32
  let v152 : BitVec 1 := Scalar.cmpi .eq v143 c5_i32_93
  let c2576_i32_94 : BitVec 32 := 2576#32
  let c4_i32_91 : BitVec 32 := 4#32
  let v150 : BitVec 1 := Scalar.cmpi .eq v143 c4_i32_91
  let c2048_i32_92 : BitVec 32 := 2048#32
  let c3_i32_89 : BitVec 32 := 3#32
  let v148 : BitVec 1 := Scalar.cmpi .eq v143 c3_i32_89
  let c1536_i32_90 : BitVec 32 := 1536#32
  let c2_i32_87 : BitVec 32 := 2#32
  let v146 : BitVec 1 := Scalar.cmpi .eq v143 c2_i32_87
  let c1024_i32_88 : BitVec 32 := 1024#32
  let c1_i32_84 : BitVec 32 := 1#32
  let v144 : BitVec 1 := Scalar.cmpi .eq v143 c1_i32_84
  let c512_i32_85 : BitVec 32 := 512#32
  let c0_i32_86 : BitVec 32 := 0#32
  let v145 : BitVec 32 := Scalar.select v144 c512_i32_85 c0_i32_86
  let v147 : BitVec 32 := Scalar.select v146 c1024_i32_88 v145
  let v149 : BitVec 32 := Scalar.select v148 c1536_i32_90 v147
  let v151 : BitVec 32 := Scalar.select v150 c2048_i32_92 v149
  let v153 : BitVec 32 := Scalar.select v152 c2576_i32_94 v151
  let v155 : BitVec 32 := Scalar.select v154 c3088_i32_96 v153
  let v157 : BitVec 32 := Scalar.select v156 c3600_i32_98 v155
  let v159 : BitVec 32 := Scalar.select v158 c4112_i32_100 v157
  let v160 : BitVec 32 := v159
  let c0_i32_101 : BitVec 32 := 0#32
  ![v160.toNat, 0]
def k0_off12 (k0_t2 : Fin k0_t2_loop.trips) : Fin 2 → Nat :=
  let c0_68 : Index := 0#32
  let c0_i32_10 : BitVec 32 := 0#32
  let c1_i32_11 : BitVec 32 := 1#32
  let arg24 : BitVec 32 := Scf.iv c0_i32_10 c1_i32_11 k0_t2
  let c512_i32 : BitVec 32 := 512#32
  let v100 : BitVec 32 := Scalar.muli arg24 c512_i32
  let v101 : BitVec 32 := v100
  let v106 : Index := Scalar.indexCast v101
  ![0, v106.toNat]
def k0_mult10 (k0_t2 : Fin k0_t2_loop.trips) : BitVec 32 :=
  let c1024_i32 : BitVec 32 := 1024#32
  let c0_i32_10 : BitVec 32 := 0#32
  let c1_i32_11 : BitVec 32 := 1#32
  let arg24 : BitVec 32 := Scf.iv c0_i32_10 c1_i32_11 k0_t2
  let c512_i32 : BitVec 32 := 512#32
  let v100 : BitVec 32 := Scalar.muli arg24 c512_i32
  let v101 : BitVec 32 := v100
  let v109 : BitVec 32 := Scalar.addi c1024_i32 v101
  v109
def k0_off13 (k0_t2 : Fin k0_t2_loop.trips) : Fin 2 → Nat :=
  let c1024_i32 : BitVec 32 := 1024#32
  let c0_i32_10 : BitVec 32 := 0#32
  let c1_i32_11 : BitVec 32 := 1#32
  let arg24 : BitVec 32 := Scf.iv c0_i32_10 c1_i32_11 k0_t2
  let c512_i32 : BitVec 32 := 512#32
  let v100 : BitVec 32 := Scalar.muli arg24 c512_i32
  let v101 : BitVec 32 := v100
  let v109 : BitVec 32 := Scalar.addi c1024_i32 v101
  let v110 : BitVec 32 := v109
  let v111 : Index := Scalar.indexCast v110
  let c0_69 : Index := 0#32
  ![v111.toNat, 0]
@[reducible] def k0_t3_loop : Scf.Loop 32 :=
  let c0_i32_13 : BitVec 32 := 0#32
  let c2_i32_14 : BitVec 32 := 2#32
  let v16 : BitVec 32 := Scalar.addi c0_i32_13 c2_i32_14
  let c1_i32_15 : BitVec 32 := 1#32
  ⟨c0_i32_13, v16, c1_i32_15⟩
def k0_mult11 (k0_t3 : Fin k0_t3_loop.trips) : BitVec 32 :=
  let c0_i32_13 : BitVec 32 := 0#32
  let c1_i32_15 : BitVec 32 := 1#32
  let arg24 : BitVec 32 := Scf.iv c0_i32_13 c1_i32_15 k0_t3
  let c512_i32 : BitVec 32 := 512#32
  let v100 : BitVec 32 := Scalar.muli arg24 c512_i32
  v100
def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v103 : BitVec 32 := Scalar.extui v0
  let c0_i32_64 : BitVec 32 := 0#32
  let v104 : BitVec 1 := Scalar.cmpi .ne v103 c0_i32_64
  v104

def k0_mult12 (k0_t3 : Fin k0_t3_loop.trips) : BitVec 32 :=
  let c5_i32 : BitVec 32 := 5#32
  let c0_i32_13 : BitVec 32 := 0#32
  let c1_i32_15 : BitVec 32 := 1#32
  let arg24 : BitVec 32 := Scf.iv c0_i32_13 c1_i32_15 k0_t3
  let v102 : BitVec 32 := Scalar.addi c5_i32 arg24
  let c8_i32 : BitVec 32 := 8#32
  let v132 : BitVec 1 := Scalar.cmpi .eq v102 c8_i32
  let c4112_i32 : BitVec 32 := 4112#32
  let c7_i32 : BitVec 32 := 7#32
  let v130 : BitVec 1 := Scalar.cmpi .eq v102 c7_i32
  let c3600_i32 : BitVec 32 := 3600#32
  let c6_i32 : BitVec 32 := 6#32
  let v128 : BitVec 1 := Scalar.cmpi .eq v102 c6_i32
  let c3088_i32 : BitVec 32 := 3088#32
  let c5_i32_77 : BitVec 32 := 5#32
  let v126 : BitVec 1 := Scalar.cmpi .eq v102 c5_i32_77
  let c2576_i32_78 : BitVec 32 := 2576#32
  let c4_i32 : BitVec 32 := 4#32
  let v124 : BitVec 1 := Scalar.cmpi .eq v102 c4_i32
  let c2048_i32 : BitVec 32 := 2048#32
  let c3_i32_76 : BitVec 32 := 3#32
  let v122 : BitVec 1 := Scalar.cmpi .eq v102 c3_i32_76
  let c1536_i32 : BitVec 32 := 1536#32
  let c2_i32_75 : BitVec 32 := 2#32
  let v120 : BitVec 1 := Scalar.cmpi .eq v102 c2_i32_75
  let c1024_i32 : BitVec 32 := 1024#32
  let c1_i32_72 : BitVec 32 := 1#32
  let v118 : BitVec 1 := Scalar.cmpi .eq v102 c1_i32_72
  let c512_i32_73 : BitVec 32 := 512#32
  let c0_i32_74 : BitVec 32 := 0#32
  let v119 : BitVec 32 := Scalar.select v118 c512_i32_73 c0_i32_74
  let v121 : BitVec 32 := Scalar.select v120 c1024_i32 v119
  let v123 : BitVec 32 := Scalar.select v122 c1536_i32 v121
  let v125 : BitVec 32 := Scalar.select v124 c2048_i32 v123
  let v127 : BitVec 32 := Scalar.select v126 c2576_i32_78 v125
  let v129 : BitVec 32 := Scalar.select v128 c3088_i32 v127
  let v131 : BitVec 32 := Scalar.select v130 c3600_i32 v129
  let v133 : BitVec 32 := Scalar.select v132 c4112_i32 v131
  v133
def k0_off14 (k0_t3 : Fin k0_t3_loop.trips) : Fin 1 → Nat :=
  let c5_i32 : BitVec 32 := 5#32
  let c0_i32_13 : BitVec 32 := 0#32
  let c1_i32_15 : BitVec 32 := 1#32
  let arg24 : BitVec 32 := Scf.iv c0_i32_13 c1_i32_15 k0_t3
  let v102 : BitVec 32 := Scalar.addi c5_i32 arg24
  ![v102.toNat]
def k0_off15 (k0_t3 : Fin k0_t3_loop.trips) : Fin 2 → Nat :=
  let c5_i32 : BitVec 32 := 5#32
  let c0_i32_13 : BitVec 32 := 0#32
  let c1_i32_15 : BitVec 32 := 1#32
  let arg24 : BitVec 32 := Scf.iv c0_i32_13 c1_i32_15 k0_t3
  let v102 : BitVec 32 := Scalar.addi c5_i32 arg24
  let c8_i32 : BitVec 32 := 8#32
  let v132 : BitVec 1 := Scalar.cmpi .eq v102 c8_i32
  let c4112_i32 : BitVec 32 := 4112#32
  let c7_i32 : BitVec 32 := 7#32
  let v130 : BitVec 1 := Scalar.cmpi .eq v102 c7_i32
  let c3600_i32 : BitVec 32 := 3600#32
  let c6_i32 : BitVec 32 := 6#32
  let v128 : BitVec 1 := Scalar.cmpi .eq v102 c6_i32
  let c3088_i32 : BitVec 32 := 3088#32
  let c5_i32_77 : BitVec 32 := 5#32
  let v126 : BitVec 1 := Scalar.cmpi .eq v102 c5_i32_77
  let c2576_i32_78 : BitVec 32 := 2576#32
  let c4_i32 : BitVec 32 := 4#32
  let v124 : BitVec 1 := Scalar.cmpi .eq v102 c4_i32
  let c2048_i32 : BitVec 32 := 2048#32
  let c3_i32_76 : BitVec 32 := 3#32
  let v122 : BitVec 1 := Scalar.cmpi .eq v102 c3_i32_76
  let c1536_i32 : BitVec 32 := 1536#32
  let c2_i32_75 : BitVec 32 := 2#32
  let v120 : BitVec 1 := Scalar.cmpi .eq v102 c2_i32_75
  let c1024_i32 : BitVec 32 := 1024#32
  let c1_i32_72 : BitVec 32 := 1#32
  let v118 : BitVec 1 := Scalar.cmpi .eq v102 c1_i32_72
  let c512_i32_73 : BitVec 32 := 512#32
  let c0_i32_74 : BitVec 32 := 0#32
  let v119 : BitVec 32 := Scalar.select v118 c512_i32_73 c0_i32_74
  let v121 : BitVec 32 := Scalar.select v120 c1024_i32 v119
  let v123 : BitVec 32 := Scalar.select v122 c1536_i32 v121
  let v125 : BitVec 32 := Scalar.select v124 c2048_i32 v123
  let v127 : BitVec 32 := Scalar.select v126 c2576_i32_78 v125
  let v129 : BitVec 32 := Scalar.select v128 c3088_i32 v127
  let v131 : BitVec 32 := Scalar.select v130 c3600_i32 v129
  let v133 : BitVec 32 := Scalar.select v132 c4112_i32 v131
  let v134 : BitVec 32 := v133
  let c0_i32_79 : BitVec 32 := 0#32
  ![v134.toNat, 0]
def k0_cond8 (k0_t3 : Fin k0_t3_loop.trips) : BitVec 1 :=
  let c5_i32 : BitVec 32 := 5#32
  let c0_i32_13 : BitVec 32 := 0#32
  let c1_i32_15 : BitVec 32 := 1#32
  let arg24 : BitVec 32 := Scf.iv c0_i32_13 c1_i32_15 k0_t3
  let v102 : BitVec 32 := Scalar.addi c5_i32 arg24
  let c2_i32_81 : BitVec 32 := 2#32
  let v139 : BitVec 32 := Scalar.addi v102 c2_i32_81
  let c9_i32 : BitVec 32 := 9#32
  let v140 : BitVec 1 := Scalar.cmpi .slt v139 c9_i32
  let v141 : BitVec 32 := Scalar.extui v140
  let c0_i32_82 : BitVec 32 := 0#32
  let v142 : BitVec 1 := Scalar.cmpi .ne v141 c0_i32_82
  v142

def k0_mult13 (k0_t3 : Fin k0_t3_loop.trips) : BitVec 32 :=
  let c5_i32 : BitVec 32 := 5#32
  let c0_i32_13 : BitVec 32 := 0#32
  let c1_i32_15 : BitVec 32 := 1#32
  let arg24 : BitVec 32 := Scf.iv c0_i32_13 c1_i32_15 k0_t3
  let v102 : BitVec 32 := Scalar.addi c5_i32 arg24
  let c2_i32_83 : BitVec 32 := 2#32
  let v143 : BitVec 32 := Scalar.addi v102 c2_i32_83
  let c8_i32_99 : BitVec 32 := 8#32
  let v158 : BitVec 1 := Scalar.cmpi .eq v143 c8_i32_99
  let c4112_i32_100 : BitVec 32 := 4112#32
  let c7_i32_97 : BitVec 32 := 7#32
  let v156 : BitVec 1 := Scalar.cmpi .eq v143 c7_i32_97
  let c3600_i32_98 : BitVec 32 := 3600#32
  let c6_i32_95 : BitVec 32 := 6#32
  let v154 : BitVec 1 := Scalar.cmpi .eq v143 c6_i32_95
  let c3088_i32_96 : BitVec 32 := 3088#32
  let c5_i32_93 : BitVec 32 := 5#32
  let v152 : BitVec 1 := Scalar.cmpi .eq v143 c5_i32_93
  let c2576_i32_94 : BitVec 32 := 2576#32
  let c4_i32_91 : BitVec 32 := 4#32
  let v150 : BitVec 1 := Scalar.cmpi .eq v143 c4_i32_91
  let c2048_i32_92 : BitVec 32 := 2048#32
  let c3_i32_89 : BitVec 32 := 3#32
  let v148 : BitVec 1 := Scalar.cmpi .eq v143 c3_i32_89
  let c1536_i32_90 : BitVec 32 := 1536#32
  let c2_i32_87 : BitVec 32 := 2#32
  let v146 : BitVec 1 := Scalar.cmpi .eq v143 c2_i32_87
  let c1024_i32_88 : BitVec 32 := 1024#32
  let c1_i32_84 : BitVec 32 := 1#32
  let v144 : BitVec 1 := Scalar.cmpi .eq v143 c1_i32_84
  let c512_i32_85 : BitVec 32 := 512#32
  let c0_i32_86 : BitVec 32 := 0#32
  let v145 : BitVec 32 := Scalar.select v144 c512_i32_85 c0_i32_86
  let v147 : BitVec 32 := Scalar.select v146 c1024_i32_88 v145
  let v149 : BitVec 32 := Scalar.select v148 c1536_i32_90 v147
  let v151 : BitVec 32 := Scalar.select v150 c2048_i32_92 v149
  let v153 : BitVec 32 := Scalar.select v152 c2576_i32_94 v151
  let v155 : BitVec 32 := Scalar.select v154 c3088_i32_96 v153
  let v157 : BitVec 32 := Scalar.select v156 c3600_i32_98 v155
  let v159 : BitVec 32 := Scalar.select v158 c4112_i32_100 v157
  v159
def k0_off16 (k0_t3 : Fin k0_t3_loop.trips) : Fin 1 → Nat :=
  let c5_i32 : BitVec 32 := 5#32
  let c0_i32_13 : BitVec 32 := 0#32
  let c1_i32_15 : BitVec 32 := 1#32
  let arg24 : BitVec 32 := Scf.iv c0_i32_13 c1_i32_15 k0_t3
  let v102 : BitVec 32 := Scalar.addi c5_i32 arg24
  let c2_i32_83 : BitVec 32 := 2#32
  let v143 : BitVec 32 := Scalar.addi v102 c2_i32_83
  ![v143.toNat]
def k0_off17 (k0_t3 : Fin k0_t3_loop.trips) : Fin 2 → Nat :=
  let c5_i32 : BitVec 32 := 5#32
  let c0_i32_13 : BitVec 32 := 0#32
  let c1_i32_15 : BitVec 32 := 1#32
  let arg24 : BitVec 32 := Scf.iv c0_i32_13 c1_i32_15 k0_t3
  let v102 : BitVec 32 := Scalar.addi c5_i32 arg24
  let c2_i32_83 : BitVec 32 := 2#32
  let v143 : BitVec 32 := Scalar.addi v102 c2_i32_83
  let c8_i32_99 : BitVec 32 := 8#32
  let v158 : BitVec 1 := Scalar.cmpi .eq v143 c8_i32_99
  let c4112_i32_100 : BitVec 32 := 4112#32
  let c7_i32_97 : BitVec 32 := 7#32
  let v156 : BitVec 1 := Scalar.cmpi .eq v143 c7_i32_97
  let c3600_i32_98 : BitVec 32 := 3600#32
  let c6_i32_95 : BitVec 32 := 6#32
  let v154 : BitVec 1 := Scalar.cmpi .eq v143 c6_i32_95
  let c3088_i32_96 : BitVec 32 := 3088#32
  let c5_i32_93 : BitVec 32 := 5#32
  let v152 : BitVec 1 := Scalar.cmpi .eq v143 c5_i32_93
  let c2576_i32_94 : BitVec 32 := 2576#32
  let c4_i32_91 : BitVec 32 := 4#32
  let v150 : BitVec 1 := Scalar.cmpi .eq v143 c4_i32_91
  let c2048_i32_92 : BitVec 32 := 2048#32
  let c3_i32_89 : BitVec 32 := 3#32
  let v148 : BitVec 1 := Scalar.cmpi .eq v143 c3_i32_89
  let c1536_i32_90 : BitVec 32 := 1536#32
  let c2_i32_87 : BitVec 32 := 2#32
  let v146 : BitVec 1 := Scalar.cmpi .eq v143 c2_i32_87
  let c1024_i32_88 : BitVec 32 := 1024#32
  let c1_i32_84 : BitVec 32 := 1#32
  let v144 : BitVec 1 := Scalar.cmpi .eq v143 c1_i32_84
  let c512_i32_85 : BitVec 32 := 512#32
  let c0_i32_86 : BitVec 32 := 0#32
  let v145 : BitVec 32 := Scalar.select v144 c512_i32_85 c0_i32_86
  let v147 : BitVec 32 := Scalar.select v146 c1024_i32_88 v145
  let v149 : BitVec 32 := Scalar.select v148 c1536_i32_90 v147
  let v151 : BitVec 32 := Scalar.select v150 c2048_i32_92 v149
  let v153 : BitVec 32 := Scalar.select v152 c2576_i32_94 v151
  let v155 : BitVec 32 := Scalar.select v154 c3088_i32_96 v153
  let v157 : BitVec 32 := Scalar.select v156 c3600_i32_98 v155
  let v159 : BitVec 32 := Scalar.select v158 c4112_i32_100 v157
  let v160 : BitVec 32 := v159
  let c0_i32_101 : BitVec 32 := 0#32
  ![v160.toNat, 0]
def k0_off18 (k0_t3 : Fin k0_t3_loop.trips) : Fin 2 → Nat :=
  let c0_67 : Index := 0#32
  let c0_i32_13 : BitVec 32 := 0#32
  let c1_i32_15 : BitVec 32 := 1#32
  let arg24 : BitVec 32 := Scf.iv c0_i32_13 c1_i32_15 k0_t3
  let c512_i32 : BitVec 32 := 512#32
  let v100 : BitVec 32 := Scalar.muli arg24 c512_i32
  let v101 : BitVec 32 := v100
  let v106 : Index := Scalar.indexCast v101
  ![0, v106.toNat]
def k0_mult14 (k0_t3 : Fin k0_t3_loop.trips) : BitVec 32 :=
  let c2576_i32 : BitVec 32 := 2576#32
  let c0_i32_13 : BitVec 32 := 0#32
  let c1_i32_15 : BitVec 32 := 1#32
  let arg24 : BitVec 32 := Scf.iv c0_i32_13 c1_i32_15 k0_t3
  let c512_i32 : BitVec 32 := 512#32
  let v100 : BitVec 32 := Scalar.muli arg24 c512_i32
  let v101 : BitVec 32 := v100
  let v109 : BitVec 32 := Scalar.addi c2576_i32 v101
  v109
def k0_off19 (k0_t3 : Fin k0_t3_loop.trips) : Fin 2 → Nat :=
  let c2576_i32 : BitVec 32 := 2576#32
  let c0_i32_13 : BitVec 32 := 0#32
  let c1_i32_15 : BitVec 32 := 1#32
  let arg24 : BitVec 32 := Scf.iv c0_i32_13 c1_i32_15 k0_t3
  let c512_i32 : BitVec 32 := 512#32
  let v100 : BitVec 32 := Scalar.muli arg24 c512_i32
  let v101 : BitVec 32 := v100
  let v109 : BitVec 32 := Scalar.addi c2576_i32 v101
  let v110 : BitVec 32 := v109
  let v111 : Index := Scalar.indexCast v110
  let c0_68 : Index := 0#32
  ![v111.toNat, 0]
@[reducible] def k0_t4_loop : Scf.Loop 32 :=
  let c0_i32_17 : BitVec 32 := 0#32
  let c2_i32_18 : BitVec 32 := 2#32
  let v17 : BitVec 32 := Scalar.addi c0_i32_17 c2_i32_18
  let c1_i32_19 : BitVec 32 := 1#32
  ⟨c0_i32_17, v17, c1_i32_19⟩
def k0_mult15 (k0_t4 : Fin k0_t4_loop.trips) : BitVec 32 :=
  let c0_i32_17 : BitVec 32 := 0#32
  let c1_i32_19 : BitVec 32 := 1#32
  let arg24 : BitVec 32 := Scf.iv c0_i32_17 c1_i32_19 k0_t4
  let c512_i32 : BitVec 32 := 512#32
  let v100 : BitVec 32 := Scalar.muli arg24 c512_i32
  v100
def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v103 : BitVec 32 := Scalar.extui v0
  let c0_i32_64 : BitVec 32 := 0#32
  let v104 : BitVec 1 := Scalar.cmpi .ne v103 c0_i32_64
  v104

def k0_mult16 (k0_t4 : Fin k0_t4_loop.trips) : BitVec 32 :=
  let c7_i32 : BitVec 32 := 7#32
  let c0_i32_17 : BitVec 32 := 0#32
  let c1_i32_19 : BitVec 32 := 1#32
  let arg24 : BitVec 32 := Scf.iv c0_i32_17 c1_i32_19 k0_t4
  let v102 : BitVec 32 := Scalar.addi c7_i32 arg24
  let c8_i32 : BitVec 32 := 8#32
  let v132 : BitVec 1 := Scalar.cmpi .eq v102 c8_i32
  let c4112_i32 : BitVec 32 := 4112#32
  let c7_i32_77 : BitVec 32 := 7#32
  let v130 : BitVec 1 := Scalar.cmpi .eq v102 c7_i32_77
  let c3600_i32_78 : BitVec 32 := 3600#32
  let c6_i32 : BitVec 32 := 6#32
  let v128 : BitVec 1 := Scalar.cmpi .eq v102 c6_i32
  let c3088_i32 : BitVec 32 := 3088#32
  let c5_i32 : BitVec 32 := 5#32
  let v126 : BitVec 1 := Scalar.cmpi .eq v102 c5_i32
  let c2576_i32 : BitVec 32 := 2576#32
  let c4_i32 : BitVec 32 := 4#32
  let v124 : BitVec 1 := Scalar.cmpi .eq v102 c4_i32
  let c2048_i32 : BitVec 32 := 2048#32
  let c3_i32_76 : BitVec 32 := 3#32
  let v122 : BitVec 1 := Scalar.cmpi .eq v102 c3_i32_76
  let c1536_i32 : BitVec 32 := 1536#32
  let c2_i32_75 : BitVec 32 := 2#32
  let v120 : BitVec 1 := Scalar.cmpi .eq v102 c2_i32_75
  let c1024_i32 : BitVec 32 := 1024#32
  let c1_i32_72 : BitVec 32 := 1#32
  let v118 : BitVec 1 := Scalar.cmpi .eq v102 c1_i32_72
  let c512_i32_73 : BitVec 32 := 512#32
  let c0_i32_74 : BitVec 32 := 0#32
  let v119 : BitVec 32 := Scalar.select v118 c512_i32_73 c0_i32_74
  let v121 : BitVec 32 := Scalar.select v120 c1024_i32 v119
  let v123 : BitVec 32 := Scalar.select v122 c1536_i32 v121
  let v125 : BitVec 32 := Scalar.select v124 c2048_i32 v123
  let v127 : BitVec 32 := Scalar.select v126 c2576_i32 v125
  let v129 : BitVec 32 := Scalar.select v128 c3088_i32 v127
  let v131 : BitVec 32 := Scalar.select v130 c3600_i32_78 v129
  let v133 : BitVec 32 := Scalar.select v132 c4112_i32 v131
  v133
def k0_off20 (k0_t4 : Fin k0_t4_loop.trips) : Fin 1 → Nat :=
  let c7_i32 : BitVec 32 := 7#32
  let c0_i32_17 : BitVec 32 := 0#32
  let c1_i32_19 : BitVec 32 := 1#32
  let arg24 : BitVec 32 := Scf.iv c0_i32_17 c1_i32_19 k0_t4
  let v102 : BitVec 32 := Scalar.addi c7_i32 arg24
  ![v102.toNat]
def k0_off21 (k0_t4 : Fin k0_t4_loop.trips) : Fin 2 → Nat :=
  let c7_i32 : BitVec 32 := 7#32
  let c0_i32_17 : BitVec 32 := 0#32
  let c1_i32_19 : BitVec 32 := 1#32
  let arg24 : BitVec 32 := Scf.iv c0_i32_17 c1_i32_19 k0_t4
  let v102 : BitVec 32 := Scalar.addi c7_i32 arg24
  let c8_i32 : BitVec 32 := 8#32
  let v132 : BitVec 1 := Scalar.cmpi .eq v102 c8_i32
  let c4112_i32 : BitVec 32 := 4112#32
  let c7_i32_77 : BitVec 32 := 7#32
  let v130 : BitVec 1 := Scalar.cmpi .eq v102 c7_i32_77
  let c3600_i32_78 : BitVec 32 := 3600#32
  let c6_i32 : BitVec 32 := 6#32
  let v128 : BitVec 1 := Scalar.cmpi .eq v102 c6_i32
  let c3088_i32 : BitVec 32 := 3088#32
  let c5_i32 : BitVec 32 := 5#32
  let v126 : BitVec 1 := Scalar.cmpi .eq v102 c5_i32
  let c2576_i32 : BitVec 32 := 2576#32
  let c4_i32 : BitVec 32 := 4#32
  let v124 : BitVec 1 := Scalar.cmpi .eq v102 c4_i32
  let c2048_i32 : BitVec 32 := 2048#32
  let c3_i32_76 : BitVec 32 := 3#32
  let v122 : BitVec 1 := Scalar.cmpi .eq v102 c3_i32_76
  let c1536_i32 : BitVec 32 := 1536#32
  let c2_i32_75 : BitVec 32 := 2#32
  let v120 : BitVec 1 := Scalar.cmpi .eq v102 c2_i32_75
  let c1024_i32 : BitVec 32 := 1024#32
  let c1_i32_72 : BitVec 32 := 1#32
  let v118 : BitVec 1 := Scalar.cmpi .eq v102 c1_i32_72
  let c512_i32_73 : BitVec 32 := 512#32
  let c0_i32_74 : BitVec 32 := 0#32
  let v119 : BitVec 32 := Scalar.select v118 c512_i32_73 c0_i32_74
  let v121 : BitVec 32 := Scalar.select v120 c1024_i32 v119
  let v123 : BitVec 32 := Scalar.select v122 c1536_i32 v121
  let v125 : BitVec 32 := Scalar.select v124 c2048_i32 v123
  let v127 : BitVec 32 := Scalar.select v126 c2576_i32 v125
  let v129 : BitVec 32 := Scalar.select v128 c3088_i32 v127
  let v131 : BitVec 32 := Scalar.select v130 c3600_i32_78 v129
  let v133 : BitVec 32 := Scalar.select v132 c4112_i32 v131
  let v134 : BitVec 32 := v133
  let c0_i32_79 : BitVec 32 := 0#32
  ![v134.toNat, 0]
def k0_cond10 (k0_t4 : Fin k0_t4_loop.trips) : BitVec 1 :=
  let c7_i32 : BitVec 32 := 7#32
  let c0_i32_17 : BitVec 32 := 0#32
  let c1_i32_19 : BitVec 32 := 1#32
  let arg24 : BitVec 32 := Scf.iv c0_i32_17 c1_i32_19 k0_t4
  let v102 : BitVec 32 := Scalar.addi c7_i32 arg24
  let c2_i32_81 : BitVec 32 := 2#32
  let v139 : BitVec 32 := Scalar.addi v102 c2_i32_81
  let c9_i32 : BitVec 32 := 9#32
  let v140 : BitVec 1 := Scalar.cmpi .slt v139 c9_i32
  let v141 : BitVec 32 := Scalar.extui v140
  let c0_i32_82 : BitVec 32 := 0#32
  let v142 : BitVec 1 := Scalar.cmpi .ne v141 c0_i32_82
  v142

def k0_mult17 (k0_t4 : Fin k0_t4_loop.trips) : BitVec 32 :=
  let c7_i32 : BitVec 32 := 7#32
  let c0_i32_17 : BitVec 32 := 0#32
  let c1_i32_19 : BitVec 32 := 1#32
  let arg24 : BitVec 32 := Scf.iv c0_i32_17 c1_i32_19 k0_t4
  let v102 : BitVec 32 := Scalar.addi c7_i32 arg24
  let c2_i32_83 : BitVec 32 := 2#32
  let v143 : BitVec 32 := Scalar.addi v102 c2_i32_83
  let c8_i32_99 : BitVec 32 := 8#32
  let v158 : BitVec 1 := Scalar.cmpi .eq v143 c8_i32_99
  let c4112_i32_100 : BitVec 32 := 4112#32
  let c7_i32_97 : BitVec 32 := 7#32
  let v156 : BitVec 1 := Scalar.cmpi .eq v143 c7_i32_97
  let c3600_i32_98 : BitVec 32 := 3600#32
  let c6_i32_95 : BitVec 32 := 6#32
  let v154 : BitVec 1 := Scalar.cmpi .eq v143 c6_i32_95
  let c3088_i32_96 : BitVec 32 := 3088#32
  let c5_i32_93 : BitVec 32 := 5#32
  let v152 : BitVec 1 := Scalar.cmpi .eq v143 c5_i32_93
  let c2576_i32_94 : BitVec 32 := 2576#32
  let c4_i32_91 : BitVec 32 := 4#32
  let v150 : BitVec 1 := Scalar.cmpi .eq v143 c4_i32_91
  let c2048_i32_92 : BitVec 32 := 2048#32
  let c3_i32_89 : BitVec 32 := 3#32
  let v148 : BitVec 1 := Scalar.cmpi .eq v143 c3_i32_89
  let c1536_i32_90 : BitVec 32 := 1536#32
  let c2_i32_87 : BitVec 32 := 2#32
  let v146 : BitVec 1 := Scalar.cmpi .eq v143 c2_i32_87
  let c1024_i32_88 : BitVec 32 := 1024#32
  let c1_i32_84 : BitVec 32 := 1#32
  let v144 : BitVec 1 := Scalar.cmpi .eq v143 c1_i32_84
  let c512_i32_85 : BitVec 32 := 512#32
  let c0_i32_86 : BitVec 32 := 0#32
  let v145 : BitVec 32 := Scalar.select v144 c512_i32_85 c0_i32_86
  let v147 : BitVec 32 := Scalar.select v146 c1024_i32_88 v145
  let v149 : BitVec 32 := Scalar.select v148 c1536_i32_90 v147
  let v151 : BitVec 32 := Scalar.select v150 c2048_i32_92 v149
  let v153 : BitVec 32 := Scalar.select v152 c2576_i32_94 v151
  let v155 : BitVec 32 := Scalar.select v154 c3088_i32_96 v153
  let v157 : BitVec 32 := Scalar.select v156 c3600_i32_98 v155
  let v159 : BitVec 32 := Scalar.select v158 c4112_i32_100 v157
  v159
def k0_off22 (k0_t4 : Fin k0_t4_loop.trips) : Fin 1 → Nat :=
  let c7_i32 : BitVec 32 := 7#32
  let c0_i32_17 : BitVec 32 := 0#32
  let c1_i32_19 : BitVec 32 := 1#32
  let arg24 : BitVec 32 := Scf.iv c0_i32_17 c1_i32_19 k0_t4
  let v102 : BitVec 32 := Scalar.addi c7_i32 arg24
  let c2_i32_83 : BitVec 32 := 2#32
  let v143 : BitVec 32 := Scalar.addi v102 c2_i32_83
  ![v143.toNat]
def k0_off23 (k0_t4 : Fin k0_t4_loop.trips) : Fin 2 → Nat :=
  let c7_i32 : BitVec 32 := 7#32
  let c0_i32_17 : BitVec 32 := 0#32
  let c1_i32_19 : BitVec 32 := 1#32
  let arg24 : BitVec 32 := Scf.iv c0_i32_17 c1_i32_19 k0_t4
  let v102 : BitVec 32 := Scalar.addi c7_i32 arg24
  let c2_i32_83 : BitVec 32 := 2#32
  let v143 : BitVec 32 := Scalar.addi v102 c2_i32_83
  let c8_i32_99 : BitVec 32 := 8#32
  let v158 : BitVec 1 := Scalar.cmpi .eq v143 c8_i32_99
  let c4112_i32_100 : BitVec 32 := 4112#32
  let c7_i32_97 : BitVec 32 := 7#32
  let v156 : BitVec 1 := Scalar.cmpi .eq v143 c7_i32_97
  let c3600_i32_98 : BitVec 32 := 3600#32
  let c6_i32_95 : BitVec 32 := 6#32
  let v154 : BitVec 1 := Scalar.cmpi .eq v143 c6_i32_95
  let c3088_i32_96 : BitVec 32 := 3088#32
  let c5_i32_93 : BitVec 32 := 5#32
  let v152 : BitVec 1 := Scalar.cmpi .eq v143 c5_i32_93
  let c2576_i32_94 : BitVec 32 := 2576#32
  let c4_i32_91 : BitVec 32 := 4#32
  let v150 : BitVec 1 := Scalar.cmpi .eq v143 c4_i32_91
  let c2048_i32_92 : BitVec 32 := 2048#32
  let c3_i32_89 : BitVec 32 := 3#32
  let v148 : BitVec 1 := Scalar.cmpi .eq v143 c3_i32_89
  let c1536_i32_90 : BitVec 32 := 1536#32
  let c2_i32_87 : BitVec 32 := 2#32
  let v146 : BitVec 1 := Scalar.cmpi .eq v143 c2_i32_87
  let c1024_i32_88 : BitVec 32 := 1024#32
  let c1_i32_84 : BitVec 32 := 1#32
  let v144 : BitVec 1 := Scalar.cmpi .eq v143 c1_i32_84
  let c512_i32_85 : BitVec 32 := 512#32
  let c0_i32_86 : BitVec 32 := 0#32
  let v145 : BitVec 32 := Scalar.select v144 c512_i32_85 c0_i32_86
  let v147 : BitVec 32 := Scalar.select v146 c1024_i32_88 v145
  let v149 : BitVec 32 := Scalar.select v148 c1536_i32_90 v147
  let v151 : BitVec 32 := Scalar.select v150 c2048_i32_92 v149
  let v153 : BitVec 32 := Scalar.select v152 c2576_i32_94 v151
  let v155 : BitVec 32 := Scalar.select v154 c3088_i32_96 v153
  let v157 : BitVec 32 := Scalar.select v156 c3600_i32_98 v155
  let v159 : BitVec 32 := Scalar.select v158 c4112_i32_100 v157
  let v160 : BitVec 32 := v159
  let c0_i32_101 : BitVec 32 := 0#32
  ![v160.toNat, 0]
def k0_off24 (k0_t4 : Fin k0_t4_loop.trips) : Fin 2 → Nat :=
  let c0_67 : Index := 0#32
  let c0_i32_17 : BitVec 32 := 0#32
  let c1_i32_19 : BitVec 32 := 1#32
  let arg24 : BitVec 32 := Scf.iv c0_i32_17 c1_i32_19 k0_t4
  let c512_i32 : BitVec 32 := 512#32
  let v100 : BitVec 32 := Scalar.muli arg24 c512_i32
  let v101 : BitVec 32 := v100
  let v106 : Index := Scalar.indexCast v101
  ![0, v106.toNat]
def k0_mult18 (k0_t4 : Fin k0_t4_loop.trips) : BitVec 32 :=
  let c3600_i32 : BitVec 32 := 3600#32
  let c0_i32_17 : BitVec 32 := 0#32
  let c1_i32_19 : BitVec 32 := 1#32
  let arg24 : BitVec 32 := Scf.iv c0_i32_17 c1_i32_19 k0_t4
  let c512_i32 : BitVec 32 := 512#32
  let v100 : BitVec 32 := Scalar.muli arg24 c512_i32
  let v101 : BitVec 32 := v100
  let v109 : BitVec 32 := Scalar.addi c3600_i32 v101
  v109
def k0_off25 (k0_t4 : Fin k0_t4_loop.trips) : Fin 2 → Nat :=
  let c3600_i32 : BitVec 32 := 3600#32
  let c0_i32_17 : BitVec 32 := 0#32
  let c1_i32_19 : BitVec 32 := 1#32
  let arg24 : BitVec 32 := Scf.iv c0_i32_17 c1_i32_19 k0_t4
  let c512_i32 : BitVec 32 := 512#32
  let v100 : BitVec 32 := Scalar.muli arg24 c512_i32
  let v101 : BitVec 32 := v100
  let v109 : BitVec 32 := Scalar.addi c3600_i32 v101
  let v110 : BitVec 32 := v109
  let v111 : Index := Scalar.indexCast v110
  let c0_68 : Index := 0#32
  ![v111.toNat, 0]
def k0_cond12 (i : grid0.Coords) : BitVec 1 :=
  let arg0 : BitVec 32 := BitVec.ofNat 32 (i 0).val
  let c0_i32_62 : BitVec 32 := 0#32
  let v97 : BitVec 1 := Scalar.cmpi .sgt arg0 c0_i32_62
  let v98 : BitVec 32 := Scalar.extui v97
  let c0_i32_63 : BitVec 32 := 0#32
  let v99 : BitVec 1 := Scalar.cmpi .ne v98 c0_i32_63
  v99

def k0_mult19 (i : grid0.Coords) : BitVec 32 :=
  let arg0 : BitVec 32 := BitVec.ofNat 32 (i 0).val
  let c544_i32 : BitVec 32 := 544#32
  let v100 : BitVec 32 := Scalar.muli arg0 c544_i32
  let c128_i32 : BitVec 32 := 128#32
  let v101 : BitVec 32 := Scalar.subi v100 c128_i32
  v101
def k0_off26 (i : grid0.Coords) : Fin 2 → Nat :=
  let arg0 : BitVec 32 := BitVec.ofNat 32 (i 0).val
  let c544_i32 : BitVec 32 := 544#32
  let v100 : BitVec 32 := Scalar.muli arg0 c544_i32
  let c128_i32 : BitVec 32 := 128#32
  let v101 : BitVec 32 := Scalar.subi v100 c128_i32
  let v102 : BitVec 32 := v101
  let c0_i32_64 : BitVec 32 := 0#32
  ![v102.toNat, 0]
def k0_cond11 (i : grid0.Coords) : BitVec 1 :=
  let arg0 : BitVec 32 := BitVec.ofNat 32 (i 0).val
  let c0_i32_60 : BitVec 32 := 0#32
  let v94 : BitVec 1 := Scalar.cmpi .eq arg0 c0_i32_60
  let v95 : BitVec 32 := Scalar.extui v94
  let c0_i32_61 : BitVec 32 := 0#32
  let v96 : BitVec 1 := Scalar.cmpi .ne v95 c0_i32_61
  v96

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S544x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InProjRefIdeal.lean ====
abbrev S2048x1024 : Shape := ⟨2, ![2048, 1024]⟩
abbrev S16x1024 : Shape := ⟨2, ![16, 1024]⟩
abbrev S1x1024 : Shape := ⟨2, ![1, 1024]⟩
abbrev S1024x4624 : Shape := ⟨2, ![1024, 4624]⟩
abbrev S2176x4624 : Shape := ⟨2, ![2176, 4624]⟩
abbrev S2176x1024 : Shape := ⟨2, ![2176, 1024]⟩
abbrev S8x128x128 : Shape := ⟨3, ![8, 128, 128]⟩
abbrev S_ : Shape := ⟨0, ![]⟩
abbrev S112x1024 : Shape := ⟨2, ![112, 1024]⟩
abbrev S2176 : Shape := ⟨1, ![2176]⟩
abbrev S2176x1 : Shape := ⟨2, ![2176, 1]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S16x1024, .f32⟩
  | .hbm, ⟨2, _⟩ => ⟨S1x1024, .f32⟩
  | .hbm, ⟨3, _⟩ => ⟨S1024x4624, .f32⟩
  | .hbm, ⟨4, _⟩ => ⟨S2176x4624, .f32⟩
  | .hbm, ⟨5, _⟩ => ⟨S2176x1024, .f32⟩
  | .hbm, ⟨6, _⟩ => ⟨S8x128x128, .f32⟩
  | .hbm, ⟨7, _⟩ => ⟨S8x128x128, .f32⟩
  | .hbm, ⟨8, _⟩ => ⟨S_, .f32⟩
  | .hbm, ⟨9, _⟩ => ⟨S112x1024, .f32⟩
  | .hbm, ⟨10, _⟩ => ⟨S2176x1024, .f32⟩
  | .hbm, ⟨11, _⟩ => ⟨S_, .f32⟩
  | .hbm, ⟨12, _⟩ => ⟨S112x1024, .f32⟩
  | .hbm, ⟨13, _⟩ => ⟨S2176x1024, .f32⟩
  | .hbm, ⟨14, _⟩ => ⟨S_, .f32⟩
  | .hbm, ⟨15, _⟩ => ⟨S2176, .f32⟩
  | .hbm, ⟨16, _⟩ => ⟨S2176x1, .f32⟩
  | .hbm, ⟨17, _⟩ => ⟨S_, .f32⟩
  | .hbm, ⟨18, _⟩ => ⟨S2176x1, .f32⟩
  | .hbm, ⟨19, _⟩ => ⟨S2176x1, .f32⟩
  | .hbm, ⟨20, _⟩ => ⟨S_, .f32⟩
  | .hbm, ⟨21, _⟩ => ⟨S2176x1, .f32⟩
  | .hbm, ⟨22, _⟩ => ⟨S2176x1, .f32⟩
  | .hbm, ⟨23, _⟩ => ⟨S2176x1, .f32⟩
  | .hbm, ⟨24, _⟩ => ⟨S2176x1, .f32⟩
  | .hbm, ⟨25, _⟩ => ⟨S_, .f32⟩
  | .hbm, ⟨26, _⟩ => ⟨S2176x1, .f32⟩
  | .hbm, ⟨27, _⟩ => ⟨S2176x1, .f32⟩
  | .hbm, ⟨28, _⟩ => ⟨S2176x1024, .f32⟩
  | .hbm, ⟨29, _⟩ => ⟨S2176x1024, .f32⟩
  | .hbm, ⟨30, _⟩ => ⟨S2176x1024, .f32⟩
  | .hbm, ⟨31, _⟩ => ⟨S2176x1024, .f32⟩
  | .hbm, ⟨32, _⟩ => ⟨S2176x4624, .f32⟩
  | .hbm, ⟨33, _⟩ => ⟨S2176x1024, .f32⟩
  | .hbm, ⟨34, _⟩ => ⟨S2176x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S2176x1024, .f32⟩
  | .hbm, ⟨39, _⟩ => ⟨S2176x1024, .f32⟩
  | .hbm, ⟨40, _⟩ => ⟨S2176x1024, .f32⟩
  | .hbm, ⟨41, _⟩ => ⟨S_, .f32⟩
  | .hbm, ⟨42, _⟩ => ⟨S2176, .f32⟩
  | .hbm, ⟨43, _⟩ => ⟨S2176x1, .f32⟩
  | .hbm, ⟨44, _⟩ => ⟨S2176x1024, .f32⟩
  | .hbm, ⟨45, _⟩ => ⟨S2176x1024, .f32⟩
  | .hbm, ⟨46, _⟩ => ⟨S2176x1024, .f32⟩
  | .hbm, ⟨47, _⟩ => ⟨S2176x1, .f32⟩
  | .hbm, ⟨48, _⟩ => ⟨S_, .f32⟩
  | .hbm, ⟨49, _⟩ => ⟨S2176x1, .f32⟩
  | .hbm, ⟨50, _⟩ => ⟨S2176x1, .f32⟩
  | .hbm, ⟨51, _⟩ => ⟨S_, .f32⟩
  | .hbm, ⟨52, _⟩ => ⟨S2176, .f32⟩
  | .hbm, ⟨53, _⟩ => ⟨S2176x1024, .f32⟩
  | .hbm, ⟨54, _⟩ => ⟨S2176x1024, .f32⟩
  | .hbm, ⟨55, _⟩ => ⟨S2176x1024, .f32⟩
  | .hbm, ⟨56, _⟩ => ⟨S2176x1024, .f32⟩
  | .hbm, ⟨57, _⟩ => ⟨S2176x1024, .f32⟩
  | .hbm, ⟨58, _⟩ => ⟨S112x1024, .f32⟩
  | .hbm, ⟨59, _⟩ => ⟨S16x1024, .f32⟩
  | .hbm, ⟨60, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== OutProj.lean ====
abbrev S2176x1024 : Shape := ⟨2, ![2176, 1024]⟩
abbrev S2176x4624 : Shape := ⟨2, ![2176, 4624]⟩
abbrev S1x1024 : Shape := ⟨2, ![1, 1024]⟩
abbrev S2048x1024 : Shape := ⟨2, ![2048, 1024]⟩
abbrev S2176x2048 : Shape := ⟨2, ![2176, 2048]⟩
abbrev S2176x1536 : Shape := ⟨2, ![2176, 1536]⟩
abbrev S2176x4608 : Shape := ⟨2, ![2176, 4608]⟩
abbrev S544x1024 : Shape := ⟨2, ![544, 1024]⟩
abbrev S544x2048 : Shape := ⟨2, ![544, 2048]⟩
abbrev S272x1024 : Shape := ⟨2, ![272, 1024]⟩
abbrev S272 : Shape := ⟨1, ![272]⟩
abbrev S272x1 : Shape := ⟨2, ![272, 1]⟩
abbrev S544x512 : Shape := ⟨2, ![544, 512]⟩
abbrev S2048x512 : Shape := ⟨2, ![2048, 512]⟩

abbrev nBuf : Space → Nat
  | .hbm => 15
  | .vmem => 14
  | .smem => 0
  | _ => 0

abbrev bufTy : (tb : Table) → Fin (tcTables nBuf tb) → BufTy
  | .hbm, ⟨0, _⟩ => ⟨S2176x1024, .f32⟩
  | .hbm, ⟨1, _⟩ => ⟨S2176x4624, .f32⟩
  | .hbm, ⟨2, _⟩ => ⟨S2176x1024, .f32⟩
  | .hbm, ⟨3, _⟩ => ⟨S1x1024, .f32⟩
  | .hbm, ⟨4, _⟩ => ⟨S2048x1024, .f32⟩
  | .hbm, ⟨5, _⟩ => ⟨S2176x1024, .f32⟩
  | .hbm, ⟨6, _⟩ => ⟨S2176x1024, .f32⟩
  | .hbm, ⟨7, _⟩ => ⟨S2176x2048, .f32⟩
  | .hbm, ⟨8, _⟩ => ⟨S2176x1536, .f32⟩
  | .hbm, ⟨9, _⟩ => ⟨S2176x4608, .f32⟩
  | .hbm, ⟨10, _⟩ => ⟨S2176x4608, .bf16⟩
  | .hbm, ⟨11, _⟩ => ⟨S2176x1024, .bf16⟩
  | .hbm, ⟨12, _⟩ => ⟨S2048x1024, .bf16⟩
  | .hbm, ⟨13, _⟩ => ⟨S2176x1024, .f32⟩
  | .hbm, ⟨14, _⟩ => ⟨S2176x2048, .bf16⟩
  | .local _ .vmem, ⟨0, _⟩ => ⟨S544x1024, .bf16⟩
  | .local _ .vmem, ⟨1, _⟩ => ⟨S544x1024, .bf16⟩
  | .local _ .vmem, ⟨2, _⟩ => ⟨S544x1024, .bf16⟩
  | .local _ .vmem, ⟨3, _⟩ => ⟨S544x1024, .bf16⟩
  | .local _ .vmem, ⟨4, _⟩ => ⟨S544x1024, .f32⟩
  | .local _ .vmem, ⟨5, _⟩ => ⟨S544x1024, .f32⟩
  | .local _ .vmem, ⟨6, _⟩ => ⟨S1x1024, .f32⟩
  | .local _ .vmem, ⟨7, _⟩ => ⟨S2048x1024, .bf16⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .f32⟩
  | .local _ .vmem, ⟨12, _⟩ => ⟨S544x2048, .bf16⟩
  | .local _ .vmem, ⟨13, _⟩ => ⟨S544x2048, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c2_i32 : BitVec 32 := 2#32
  let v69 : BitVec 32 := Scalar.addi c0_i32 c2_i32
  let c1_i32 : BitVec 32 := 1#32
  ⟨c0_i32, v69, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v70 : BitVec 32 := Scalar.muli arg9 c512_i32
  v70
def k0_off1 (k0_t1 : Fin k0_t1_loop.trips) : Fin 2 → Nat :=
  let c0_31 : Index := 0#32
  let c0_i32 : BitVec 32 := 0#32
  let c1_i32 : BitVec 32 := 1#32
  let arg9 : BitVec 32 := Scf.iv c0_i32 c1_i32 k0_t1
  let c512_i32 : BitVec 32 := 512#32
  let v70 : BitVec 32 := Scalar.muli arg9 c512_i32
  let v71 : BitVec 32 := v70
  let v72 : Index := Scalar.indexCast v71
  ![0, v72.toNat]
def k0_off2 (k0_t1 : Fin k0_t1_loop.trips) : Fin 2 → Nat :=
  let c0_34 : Index := 0#32
  let c0_i32 : BitVec 32 := 0#32
  let c1_i32 : BitVec 32 := 1#32
  let arg9 : BitVec 32 := Scf.iv c0_i32 c1_i32 k0_t1
  let c512_i32 : BitVec 32 := 512#32
  let v70 : BitVec 32 := Scalar.muli arg9 c512_i32
  let v71 : BitVec 32 := v70
  let v76 : Index := Scalar.indexCast v71
  ![0, v76.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S544x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjIdeal.lean ====
variable {F : FTy → Type} [FloatOps F] [Named F]
def κ : String → Option EReal := fun
  | "gelu_cubic" => some ((8943 / 200000 : ℝ) : EReal)
  | _ => none
-- ==== OutProjRefIdeal.lean ====
abbrev S2176x1024 : Shape := ⟨2, ![2176, 1024]⟩
abbrev S2176x4624 : Shape := ⟨2, ![2176, 4624]⟩
abbrev S1x1024 : Shape := ⟨2, ![1, 1024]⟩
abbrev S2048x1024 : Shape := ⟨2, ![2048, 1024]⟩
abbrev S2176x1536 : Shape := ⟨2, ![2176, 1536]⟩
abbrev S2176x16 : Shape := ⟨2, ![2176, 16]⟩
abbrev S_ : Shape := ⟨0, ![]⟩
abbrev S2176 : Shape := ⟨1, ![2176]⟩
abbrev S2176x1 : Shape := ⟨2, ![2176, 1]⟩
abbrev S2176x2048 : Shape := ⟨2, ![2176, 2048]⟩

abbrev nBuf : Space → Nat
  | .hbm => 50
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x4624, .f32⟩
  | .hbm, ⟨2, _⟩ => ⟨S2176x1024, .f32⟩
  | .hbm, ⟨3, _⟩ => ⟨S1x1024, .f32⟩
  | .hbm, ⟨4, _⟩ => ⟨S2048x1024, .f32⟩
  | .hbm, ⟨5, _⟩ => ⟨S2176x1024, .f32⟩
  | .hbm, ⟨6, _⟩ => ⟨S2176x1024, .f32⟩
  | .hbm, ⟨7, _⟩ => ⟨S2176x1536, .f32⟩
  | .hbm, ⟨8, _⟩ => ⟨S2176x16, .f32⟩
  | .hbm, ⟨9, _⟩ => ⟨S2176x1024, .f32⟩
  | .hbm, ⟨10, _⟩ => ⟨S2176x1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2176x1024, .f32⟩
  | .hbm, ⟨15, _⟩ => ⟨S2176x1024, .f32⟩
  | .hbm, ⟨16, _⟩ => ⟨S2176x1024, .f32⟩
  | .hbm, ⟨17, _⟩ => ⟨S2176x1024, .f32⟩
  | .hbm, ⟨18, _⟩ => ⟨S2176x1024, .f32⟩
  | .hbm, ⟨19, _⟩ => ⟨S_, .f32⟩
  | .hbm, ⟨20, _⟩ => ⟨S2176x1024, .f32⟩
  | .hbm, ⟨21, _⟩ => ⟨S2176x1024, .f32⟩
  | .hbm, ⟨22, _⟩ => ⟨S2176x1024, .f32⟩
  | .hbm, ⟨23, _⟩ => ⟨S_, .f32⟩
  | .hbm, ⟨24, _⟩ => ⟨S2176x1024, .f32⟩
  | .hbm, ⟨25, _⟩ => ⟨S2176x1024, .f32⟩
  | .hbm, ⟨26, _⟩ => ⟨S_, .f32⟩
  | .hbm, ⟨27, _⟩ => ⟨S2176x1024, .f32⟩
  | .hbm, ⟨28, _⟩ => ⟨S2176x1024, .f32⟩
  | .hbm, ⟨29, _⟩ => ⟨S2176x1024, .f32⟩
  | .hbm, ⟨30, _⟩ => ⟨S2176x1024, .f32⟩
  | .hbm, ⟨31, _⟩ => ⟨S2176x1024, .f32⟩
  | .hbm, ⟨32, _⟩ => ⟨S_, .f32⟩
  | .hbm, ⟨33, _⟩ => ⟨S2176, .f32⟩
  | .hbm, ⟨34, _⟩ => ⟨S2176x1, .f32⟩
  | .hbm, ⟨35, _⟩ => ⟨S_, .f32⟩
  | .hbm, ⟨36, _⟩ => ⟨S2176x1, .f32⟩
  | .hbm, ⟨37, _⟩ => ⟨S2176x1, .f32⟩
  | .hbm, ⟨38, _⟩ => ⟨S_, .f32⟩
  | .hbm, ⟨39, _⟩ => ⟨S2176x1, .f32⟩
  | .hbm, ⟨40, _⟩ => ⟨S2176x1, .f32⟩
  | .hbm, ⟨41, _⟩ => ⟨S2176x1, .f32⟩
  | .hbm, ⟨42, _⟩ => ⟨S2176x1024, .f32⟩
  | .hbm, ⟨43, _⟩ => ⟨S2176x1024, .f32⟩
  | .hbm, ⟨44, _⟩ => ⟨S2176x1024, .f32⟩
  | .hbm, ⟨45, _⟩ => ⟨S2176x1024, .f32⟩
  | .hbm, ⟨46, _⟩ => ⟨S2176x2048, .f32⟩
  | .hbm, ⟨47, _⟩ => ⟨S2176x1024, .f32⟩
  | .hbm, ⟨48, _⟩ => ⟨S2176x1024, .f32⟩
  | .hbm, ⟨49, _⟩ => ⟨S2176x2048, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== GateUpFwd.lean ====
abbrev S2176x1024 : Shape := ⟨2, ![2176, 1024]⟩
abbrev S1x1024 : Shape := ⟨2, ![1, 1024]⟩
abbrev S1024x2816 : Shape := ⟨2, ![1024, 2816]⟩
abbrev S2816x1024 : Shape := ⟨2, ![2816, 1024]⟩
abbrev S2176x2816 : Shape := ⟨2, ![2176, 2816]⟩
abbrev S544x1024 : Shape := ⟨2, ![544, 1024]⟩
abbrev S544x2816 : Shape := ⟨2, ![544, 2816]⟩
abbrev S11 : Shape := ⟨1, ![11]⟩
abbrev S1 : Shape := ⟨1, ![1]⟩
abbrev S_ : Shape := ⟨0, ![]⟩
abbrev S256x1024 : Shape := ⟨2, ![256, 1024]⟩
abbrev S272x1024 : Shape := ⟨2, ![272, 1024]⟩
abbrev S272 : Shape := ⟨1, ![272]⟩
abbrev S272x1 : Shape := ⟨2, ![272, 1]⟩
abbrev S544x256 : Shape := ⟨2, ![544, 256]⟩

abbrev nBuf : Space → Nat
  | .hbm => 12
  | .vmem => 13
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S2176x2816, .bf16⟩
  | .hbm, ⟨9, _⟩ => ⟨S2176x2816, .bf16⟩
  | .hbm, ⟨10, _⟩ => ⟨S2176x2816, .bf16⟩
  | .hbm, ⟨11, _⟩ => ⟨S2176x1024, .bf16⟩
  | .local _ .vmem, ⟨0, _⟩ => ⟨S544x1024, .f32⟩
  | .local _ .vmem, ⟨1, _⟩ => ⟨S544x1024, .f32⟩
  | .local _ .vmem, ⟨2, _⟩ => ⟨S1x1024, .f32⟩
  | .local _ .vmem, ⟨3, _⟩ => ⟨S544x2816, .bf16⟩
  | .local _ .vmem, ⟨4, _⟩ => ⟨S544x2816, .bf16⟩
  | .local _ .vmem, ⟨5, _⟩ => ⟨S544x2816, .bf16⟩
  | .local _ .vmem, ⟨6, _⟩ => ⟨S544x2816, .bf16⟩
  | .local _ .vmem, ⟨7, _⟩ => ⟨S544x2816, .bf16⟩
  | .local _ .vmem, ⟨8, _⟩ => ⟨S544x2816, .bf16⟩
  | .local _ .vmem, ⟨9, _⟩ => ⟨S544x1024, .bf16⟩
  | .local _ .vmem, ⟨10, _⟩ => ⟨S544x1024, .bf16⟩
  | .local _ .vmem, ⟨11, _⟩ => ⟨S2816x1024, .bf16⟩
  | .local _ .vmem, ⟨12, _⟩ => ⟨S2816x1024, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let false_29 : BitVec 1 := 0#1
  let c2560_i32 : BitVec 32 := 2560#32
  let false_28 : BitVec 1 := 0#1
  let c2304_i32 : BitVec 32 := 2304#32
  let false_27 : BitVec 1 := 0#1
  let c2048_i32 : BitVec 32 := 2048#32
  let false_26 : BitVec 1 := 0#1
  let c1792_i32 : BitVec 32 := 1792#32
  let false_25 : BitVec 1 := 0#1
  let c1536_i32 : BitVec 32 := 1536#32
  let false_24 : BitVec 1 := 0#1
  let c1280_i32 : BitVec 32 := 1280#32
  let false_23 : BitVec 1 := 0#1
  let c1024_i32 : BitVec 32 := 1024#32
  let false_22 : BitVec 1 := 0#1
  let c768_i32 : BitVec 32 := 768#32
  let false_21 : BitVec 1 := 0#1
  let c512_i32 : BitVec 32 := 512#32
  let v_false : BitVec 1 := 0#1
  let c256_i32 : BitVec 32 := 256#32
  let c0_i32_20 : BitVec 32 := 0#32
  let v39 : BitVec 32 := Scalar.select v_false c256_i32 c0_i32_20
  let v40 : BitVec 32 := Scalar.select false_21 c512_i32 v39
  let v41 : BitVec 32 := Scalar.select false_22 c768_i32 v40
  let v42 : BitVec 32 := Scalar.select false_23 c1024_i32 v41
  let v43 : BitVec 32 := Scalar.select false_24 c1280_i32 v42
  let v44 : BitVec 32 := Scalar.select false_25 c1536_i32 v43
  let v45 : BitVec 32 := Scalar.select false_26 c1792_i32 v44
  let v46 : BitVec 32 := Scalar.select false_27 c2048_i32 v45
  let v47 : BitVec 32 := Scalar.select false_28 c2304_i32 v46
  let v48 : BitVec 32 := Scalar.select false_29 c2560_i32 v47
  v48
def k0_off1 (v_false : BitVec 1) : Fin 2 → Nat :=
  let false_29 : BitVec 1 := 0#1
  let c2560_i32 : BitVec 32 := 2560#32
  let false_28 : BitVec 1 := 0#1
  let c2304_i32 : BitVec 32 := 2304#32
  let false_27 : BitVec 1 := 0#1
  let c2048_i32 : BitVec 32 := 2048#32
  let false_26 : BitVec 1 := 0#1
  let c1792_i32 : BitVec 32 := 1792#32
  let false_25 : BitVec 1 := 0#1
  let c1536_i32 : BitVec 32 := 1536#32
  let false_24 : BitVec 1 := 0#1
  let c1280_i32 : BitVec 32 := 1280#32
  let false_23 : BitVec 1 := 0#1
  let c1024_i32 : BitVec 32 := 1024#32
  let false_22 : BitVec 1 := 0#1
  let c768_i32 : BitVec 32 := 768#32
  let false_21 : BitVec 1 := 0#1
  let c512_i32 : BitVec 32 := 512#32
  let c256_i32 : BitVec 32 := 256#32
  let c0_i32_20 : BitVec 32 := 0#32
  let v39 : BitVec 32 := Scalar.select v_false c256_i32 c0_i32_20
  let v40 : BitVec 32 := Scalar.select false_21 c512_i32 v39
  let v41 : BitVec 32 := Scalar.select false_22 c768_i32 v40
  let v42 : BitVec 32 := Scalar.select false_23 c1024_i32 v41
  let v43 : BitVec 32 := Scalar.select false_24 c1280_i32 v42
  let v44 : BitVec 32 := Scalar.select false_25 c1536_i32 v43
  let v45 : BitVec 32 := Scalar.select false_26 c1792_i32 v44
  let v46 : BitVec 32 := Scalar.select false_27 c2048_i32 v45
  let v47 : BitVec 32 := Scalar.select false_28 c2304_i32 v46
  let v48 : BitVec 32 := Scalar.select false_29 c2560_i32 v47
  let v49 : BitVec 32 := v48
  let c0_i32_31 : BitVec 32 := 0#32
  ![v49.toNat, 0]
def k0_mult2 : BitVec 32 :=
  let false_51 : BitVec 1 := 0#1
  let c2560_i32_52 : BitVec 32 := 2560#32
  let false_49 : BitVec 1 := 0#1
  let c2304_i32_50 : BitVec 32 := 2304#32
  let false_47 : BitVec 1 := 0#1
  let c2048_i32_48 : BitVec 32 := 2048#32
  let false_45 : BitVec 1 := 0#1
  let c1792_i32_46 : BitVec 32 := 1792#32
  let false_43 : BitVec 1 := 0#1
  let c1536_i32_44 : BitVec 32 := 1536#32
  let false_41 : BitVec 1 := 0#1
  let c1280_i32_42 : BitVec 32 := 1280#32
  let false_39 : BitVec 1 := 0#1
  let c1024_i32_40 : BitVec 32 := 1024#32
  let false_37 : BitVec 1 := 0#1
  let c768_i32_38 : BitVec 32 := 768#32
  let false_35 : BitVec 1 := 0#1
  let c512_i32_36 : BitVec 32 := 512#32
  let v_true : BitVec 1 := 1#1
  let c256_i32_33 : BitVec 32 := 256#32
  let c0_i32_34 : BitVec 32 := 0#32
  let v54 : BitVec 32 := Scalar.select v_true c256_i32_33 c0_i32_34
  let v55 : BitVec 32 := Scalar.select false_35 c512_i32_36 v54
  let v56 : BitVec 32 := Scalar.select false_37 c768_i32_38 v55
  let v57 : BitVec 32 := Scalar.select false_39 c1024_i32_40 v56
  let v58 : BitVec 32 := Scalar.select false_41 c1280_i32_42 v57
  let v59 : BitVec 32 := Scalar.select false_43 c1536_i32_44 v58
  let v60 : BitVec 32 := Scalar.select false_45 c1792_i32_46 v59
  let v61 : BitVec 32 := Scalar.select false_47 c2048_i32_48 v60
  let v62 : BitVec 32 := Scalar.select false_49 c2304_i32_50 v61
  let v63 : BitVec 32 := Scalar.select false_51 c2560_i32_52 v62
  v63
def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_mult3 : BitVec 32 :=
  let false_29 : BitVec 1 := 0#1
  let c2560_i32 : BitVec 32 := 2560#32
  let false_28 : BitVec 1 := 0#1
  let c2304_i32 : BitVec 32 := 2304#32
  let false_27 : BitVec 1 := 0#1
  let c2048_i32 : BitVec 32 := 2048#32
  let false_26 : BitVec 1 := 0#1
  let c1792_i32 : BitVec 32 := 1792#32
  let false_25 : BitVec 1 := 0#1
  let c1536_i32 : BitVec 32 := 1536#32
  let false_24 : BitVec 1 := 0#1
  let c1280_i32 : BitVec 32 := 1280#32
  let false_23 : BitVec 1 := 0#1
  let c1024_i32 : BitVec 32 := 1024#32
  let false_22 : BitVec 1 := 0#1
  let c768_i32 : BitVec 32 := 768#32
  let false_21 : BitVec 1 := 0#1
  let c512_i32 : BitVec 32 := 512#32
  let v_false : BitVec 1 := 0#1
  let c256_i32 : BitVec 32 := 256#32
  let c0_i32_20 : BitVec 32 := 0#32
  let v39 : BitVec 32 := Scalar.select v_false c256_i32 c0_i32_20
  let v40 : BitVec 32 := Scalar.select false_21 c512_i32 v39
  let v41 : BitVec 32 := Scalar.select false_22 c768_i32 v40
  let v42 : BitVec 32 := Scalar.select false_23 c1024_i32 v41
  let v43 : BitVec 32 := Scalar.select false_24 c1280_i32 v42
  let v44 : BitVec 32 := Scalar.select false_25 c1536_i32 v43
  let v45 : BitVec 32 := Scalar.select false_26 c1792_i32 v44
  let v46 : BitVec 32 := Scalar.select false_27 c2048_i32 v45
  let v47 : BitVec 32 := Scalar.select false_28 c2304_i32 v46
  let v48 : BitVec 32 := Scalar.select false_29 c2560_i32 v47
  v48
def k0_off2 (v_false : BitVec 1) : Fin 2 → Nat :=
  let false_29 : BitVec 1 := 0#1
  let c2560_i32 : BitVec 32 := 2560#32
  let false_28 : BitVec 1 := 0#1
  let c2304_i32 : BitVec 32 := 2304#32
  let false_27 : BitVec 1 := 0#1
  let c2048_i32 : BitVec 32 := 2048#32
  let false_26 : BitVec 1 := 0#1
  let c1792_i32 : BitVec 32 := 1792#32
  let false_25 : BitVec 1 := 0#1
  let c1536_i32 : BitVec 32 := 1536#32
  let false_24 : BitVec 1 := 0#1
  let c1280_i32 : BitVec 32 := 1280#32
  let false_23 : BitVec 1 := 0#1
  let c1024_i32 : BitVec 32 := 1024#32
  let false_22 : BitVec 1 := 0#1
  let c768_i32 : BitVec 32 := 768#32
  let false_21 : BitVec 1 := 0#1
  let c512_i32 : BitVec 32 := 512#32
  let c256_i32 : BitVec 32 := 256#32
  let c0_i32_20 : BitVec 32 := 0#32
  let v39 : BitVec 32 := Scalar.select v_false c256_i32 c0_i32_20
  let v40 : BitVec 32 := Scalar.select false_21 c512_i32 v39
  let v41 : BitVec 32 := Scalar.select false_22 c768_i32 v40
  let v42 : BitVec 32 := Scalar.select false_23 c1024_i32 v41
  let v43 : BitVec 32 := Scalar.select false_24 c1280_i32 v42
  let v44 : BitVec 32 := Scalar.select false_25 c1536_i32 v43
  let v45 : BitVec 32 := Scalar.select false_26 c1792_i32 v44
  let v46 : BitVec 32 := Scalar.select false_27 c2048_i32 v45
  let v47 : BitVec 32 := Scalar.select false_28 c2304_i32 v46
  let v48 : BitVec 32 := Scalar.select false_29 c2560_i32 v47
  let v49 : BitVec 32 := v48
  let c0_i32_31 : BitVec 32 := 0#32
  ![v49.toNat, 0]
def k0_mult4 : BitVec 32 :=
  let false_51 : BitVec 1 := 0#1
  let c2560_i32_52 : BitVec 32 := 2560#32
  let false_49 : BitVec 1 := 0#1
  let c2304_i32_50 : BitVec 32 := 2304#32
  let false_47 : BitVec 1 := 0#1
  let c2048_i32_48 : BitVec 32 := 2048#32
  let false_45 : BitVec 1 := 0#1
  let c1792_i32_46 : BitVec 32 := 1792#32
  let false_43 : BitVec 1 := 0#1
  let c1536_i32_44 : BitVec 32 := 1536#32
  let false_41 : BitVec 1 := 0#1
  let c1280_i32_42 : BitVec 32 := 1280#32
  let false_39 : BitVec 1 := 0#1
  let c1024_i32_40 : BitVec 32 := 1024#32
  let false_37 : BitVec 1 := 0#1
  let c768_i32_38 : BitVec 32 := 768#32
  let false_35 : BitVec 1 := 0#1
  let c512_i32_36 : BitVec 32 := 512#32
  let v_true : BitVec 1 := 1#1
  let c256_i32_33 : BitVec 32 := 256#32
  let c0_i32_34 : BitVec 32 := 0#32
  let v54 : BitVec 32 := Scalar.select v_true c256_i32_33 c0_i32_34
  let v55 : BitVec 32 := Scalar.select false_35 c512_i32_36 v54
  let v56 : BitVec 32 := Scalar.select false_37 c768_i32_38 v55
  let v57 : BitVec 32 := Scalar.select false_39 c1024_i32_40 v56
  let v58 : BitVec 32 := Scalar.select false_41 c1280_i32_42 v57
  let v59 : BitVec 32 := Scalar.select false_43 c1536_i32_44 v58
  let v60 : BitVec 32 := Scalar.select false_45 c1792_i32_46 v59
  let v61 : BitVec 32 := Scalar.select false_47 c2048_i32_48 v60
  let v62 : BitVec 32 := Scalar.select false_49 c2304_i32_50 v61
  let v63 : BitVec 32 := Scalar.select false_51 c2560_i32_52 v62
  v63
@[reducible] def k0_t1_loop : Scf.Loop 32 :=
  let c0_i32_18 : BitVec 32 := 0#32
  let c11_i32 : BitVec 32 := 11#32
  let v38 : BitVec 32 := Scalar.addi c0_i32_18 c11_i32
  let c1_i32 : BitVec 32 := 1#32
  ⟨c0_i32_18, v38, c1_i32⟩
def k0_mult5 (k0_t1 : Fin k0_t1_loop.trips) : BitVec 32 :=
  let c0_i32_18 : BitVec 32 := 0#32
  let c1_i32 : BitVec 32 := 1#32
  let arg13 : BitVec 32 := Scf.iv c0_i32_18 c1_i32 k0_t1
  let c256_i32 : BitVec 32 := 256#32
  let v39 : BitVec 32 := Scalar.muli arg13 c256_i32
  v39
def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v58 : BitVec 32 := Scalar.extui v0
  let c0_i32_27 : BitVec 32 := 0#32
  let v59 : BitVec 1 := Scalar.cmpi .ne v58 c0_i32_27
  v59

def k0_mult6 (k0_t1 : Fin k0_t1_loop.trips) : BitVec 32 :=
  let c0_i32_18 : BitVec 32 := 0#32
  let c1_i32 : BitVec 32 := 1#32
  let arg13 : BitVec 32 := Scf.iv c0_i32_18 c1_i32 k0_t1
  let c256_i32 : BitVec 32 := 256#32
  let v39 : BitVec 32 := Scalar.muli arg13 c256_i32
  let v40 : BitVec 32 := v39
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c256_i32_20 : BitVec 32 := 256#32
  let c0_i32_23 : BitVec 32 := 0#32
  let v47 : BitVec 1 := Scalar.cmpi .sgt c256_i32_20 c0_i32_23
  let v48 : BitVec 32 := Scalar.extui v47
  let c0_i32_24 : BitVec 32 := 0#32
  let v49 : BitVec 1 := Scalar.cmpi .slt c256_i32_20 c0_i32_24
  let v50 : BitVec 32 := Scalar.extui v49
  let v51 : BitVec 32 := Scalar.subi v48 v50
  let v52 : BitVec 1 := Scalar.cmpi .ne v46 v51
  let v53 : BitVec 32 := Scalar.remsi v40 c256_i32_20
  let c0_i32_25 : BitVec 32 := 0#32
  let v54 : BitVec 1 := Scalar.cmpi .ne v53 c0_i32_25
  let v55 : BitVec 1 := Scalar.andi v52 v54
  let v41 : BitVec 32 := Scalar.divsi v40 c256_i32_20
  let c1_i32_26 : BitVec 32 := 1#32
  let v56 : BitVec 32 := Scalar.subi v41 c1_i32_26
  let v57 : BitVec 32 := Scalar.select v55 v56 v41
  let c10_i32 : BitVec 32 := 10#32
  let v125 : BitVec 1 := Scalar.cmpi .eq v57 c10_i32
  let c2560_i32 : BitVec 32 := 2560#32
  let c9_i32 : BitVec 32 := 9#32
  let v123 : BitVec 1 := Scalar.cmpi .eq v57 c9_i32
  let c2304_i32 : BitVec 32 := 2304#32
  let c8_i32 : BitVec 32 := 8#32
  let v121 : BitVec 1 := Scalar.cmpi .eq v57 c8_i32
  let c2048_i32 : BitVec 32 := 2048#32
  let c7_i32 : BitVec 32 := 7#32
  let v119 : BitVec 1 := Scalar.cmpi .eq v57 c7_i32
  let c1792_i32 : BitVec 32 := 1792#32
  let c6_i32 : BitVec 32 := 6#32
  let v117 : BitVec 1 := Scalar.cmpi .eq v57 c6_i32
  let c1536_i32 : BitVec 32 := 1536#32
  let c5_i32 : BitVec 32 := 5#32
  let v115 : BitVec 1 := Scalar.cmpi .eq v57 c5_i32
  let c1280_i32 : BitVec 32 := 1280#32
  let c4_i32 : BitVec 32 := 4#32
  let v113 : BitVec 1 := Scalar.cmpi .eq v57 c4_i32
  let c1024_i32 : BitVec 32 := 1024#32
  let c3_i32 : BitVec 32 := 3#32
  let v111 : BitVec 1 := Scalar.cmpi .eq v57 c3_i32
  let c768_i32 : BitVec 32 := 768#32
  let c2_i32 : BitVec 32 := 2#32
  let v109 : BitVec 1 := Scalar.cmpi .eq v57 c2_i32
  let c512_i32 : BitVec 32 := 512#32
  let c1_i32_50 : BitVec 32 := 1#32
  let v107 : BitVec 1 := Scalar.cmpi .eq v57 c1_i32_50
  let c256_i32_51 : BitVec 32 := 256#32
  let c0_i32_52 : BitVec 32 := 0#32
  let v108 : BitVec 32 := Scalar.select v107 c256_i32_51 c0_i32_52
  let v110 : BitVec 32 := Scalar.select v109 c512_i32 v108
  let v112 : BitVec 32 := Scalar.select v111 c768_i32 v110
  let v114 : BitVec 32 := Scalar.select v113 c1024_i32 v112
  let v116 : BitVec 32 := Scalar.select v115 c1280_i32 v114
  let v118 : BitVec 32 := Scalar.select v117 c1536_i32 v116
  let v120 : BitVec 32 := Scalar.select v119 c1792_i32 v118
  let v122 : BitVec 32 := Scalar.select v121 c2048_i32 v120
  let v124 : BitVec 32 := Scalar.select v123 c2304_i32 v122
  let v126 : BitVec 32 := Scalar.select v125 c2560_i32 v124
  v126
def k0_off3 (k0_t1 : Fin k0_t1_loop.trips) : Fin 1 → Nat :=
  let c0_i32_18 : BitVec 32 := 0#32
  let c1_i32 : BitVec 32 := 1#32
  let arg13 : BitVec 32 := Scf.iv c0_i32_18 c1_i32 k0_t1
  let c256_i32 : BitVec 32 := 256#32
  let v39 : BitVec 32 := Scalar.muli arg13 c256_i32
  let v40 : BitVec 32 := v39
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c256_i32_20 : BitVec 32 := 256#32
  let c0_i32_23 : BitVec 32 := 0#32
  let v47 : BitVec 1 := Scalar.cmpi .sgt c256_i32_20 c0_i32_23
  let v48 : BitVec 32 := Scalar.extui v47
  let c0_i32_24 : BitVec 32 := 0#32
  let v49 : BitVec 1 := Scalar.cmpi .slt c256_i32_20 c0_i32_24
  let v50 : BitVec 32 := Scalar.extui v49
  let v51 : BitVec 32 := Scalar.subi v48 v50
  let v52 : BitVec 1 := Scalar.cmpi .ne v46 v51
  let v53 : BitVec 32 := Scalar.remsi v40 c256_i32_20
  let c0_i32_25 : BitVec 32 := 0#32
  let v54 : BitVec 1 := Scalar.cmpi .ne v53 c0_i32_25
  let v55 : BitVec 1 := Scalar.andi v52 v54
  let v41 : BitVec 32 := Scalar.divsi v40 c256_i32_20
  let c1_i32_26 : BitVec 32 := 1#32
  let v56 : BitVec 32 := Scalar.subi v41 c1_i32_26
  let v57 : BitVec 32 := Scalar.select v55 v56 v41
  ![v57.toNat]
def k0_off4 (k0_t1 : Fin k0_t1_loop.trips) : Fin 2 → Nat :=
  let c0_i32_18 : BitVec 32 := 0#32
  let c1_i32 : BitVec 32 := 1#32
  let arg13 : BitVec 32 := Scf.iv c0_i32_18 c1_i32 k0_t1
  let c256_i32 : BitVec 32 := 256#32
  let v39 : BitVec 32 := Scalar.muli arg13 c256_i32
  let v40 : BitVec 32 := v39
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c256_i32_20 : BitVec 32 := 256#32
  let c0_i32_23 : BitVec 32 := 0#32
  let v47 : BitVec 1 := Scalar.cmpi .sgt c256_i32_20 c0_i32_23
  let v48 : BitVec 32 := Scalar.extui v47
  let c0_i32_24 : BitVec 32 := 0#32
  let v49 : BitVec 1 := Scalar.cmpi .slt c256_i32_20 c0_i32_24
  let v50 : BitVec 32 := Scalar.extui v49
  let v51 : BitVec 32 := Scalar.subi v48 v50
  let v52 : BitVec 1 := Scalar.cmpi .ne v46 v51
  let v53 : BitVec 32 := Scalar.remsi v40 c256_i32_20
  let c0_i32_25 : BitVec 32 := 0#32
  let v54 : BitVec 1 := Scalar.cmpi .ne v53 c0_i32_25
  let v55 : BitVec 1 := Scalar.andi v52 v54
  let v41 : BitVec 32 := Scalar.divsi v40 c256_i32_20
  let c1_i32_26 : BitVec 32 := 1#32
  let v56 : BitVec 32 := Scalar.subi v41 c1_i32_26
  let v57 : BitVec 32 := Scalar.select v55 v56 v41
  let c10_i32 : BitVec 32 := 10#32
  let v125 : BitVec 1 := Scalar.cmpi .eq v57 c10_i32
  let c2560_i32 : BitVec 32 := 2560#32
  let c9_i32 : BitVec 32 := 9#32
  let v123 : BitVec 1 := Scalar.cmpi .eq v57 c9_i32
  let c2304_i32 : BitVec 32 := 2304#32
  let c8_i32 : BitVec 32 := 8#32
  let v121 : BitVec 1 := Scalar.cmpi .eq v57 c8_i32
  let c2048_i32 : BitVec 32 := 2048#32
  let c7_i32 : BitVec 32 := 7#32
  let v119 : BitVec 1 := Scalar.cmpi .eq v57 c7_i32
  let c1792_i32 : BitVec 32 := 1792#32
  let c6_i32 : BitVec 32 := 6#32
  let v117 : BitVec 1 := Scalar.cmpi .eq v57 c6_i32
  let c1536_i32 : BitVec 32 := 1536#32
  let c5_i32 : BitVec 32 := 5#32
  let v115 : BitVec 1 := Scalar.cmpi .eq v57 c5_i32
  let c1280_i32 : BitVec 32 := 1280#32
  let c4_i32 : BitVec 32 := 4#32
  let v113 : BitVec 1 := Scalar.cmpi .eq v57 c4_i32
  let c1024_i32 : BitVec 32 := 1024#32
  let c3_i32 : BitVec 32 := 3#32
  let v111 : BitVec 1 := Scalar.cmpi .eq v57 c3_i32
  let c768_i32 : BitVec 32 := 768#32
  let c2_i32 : BitVec 32 := 2#32
  let v109 : BitVec 1 := Scalar.cmpi .eq v57 c2_i32
  let c512_i32 : BitVec 32 := 512#32
  let c1_i32_50 : BitVec 32 := 1#32
  let v107 : BitVec 1 := Scalar.cmpi .eq v57 c1_i32_50
  let c256_i32_51 : BitVec 32 := 256#32
  let c0_i32_52 : BitVec 32 := 0#32
  let v108 : BitVec 32 := Scalar.select v107 c256_i32_51 c0_i32_52
  let v110 : BitVec 32 := Scalar.select v109 c512_i32 v108
  let v112 : BitVec 32 := Scalar.select v111 c768_i32 v110
  let v114 : BitVec 32 := Scalar.select v113 c1024_i32 v112
  let v116 : BitVec 32 := Scalar.select v115 c1280_i32 v114
  let v118 : BitVec 32 := Scalar.select v117 c1536_i32 v116
  let v120 : BitVec 32 := Scalar.select v119 c1792_i32 v118
  let v122 : BitVec 32 := Scalar.select v121 c2048_i32 v120
  let v124 : BitVec 32 := Scalar.select v123 c2304_i32 v122
  let v126 : BitVec 32 := Scalar.select v125 c2560_i32 v124
  let v127 : BitVec 32 := v126
  let c0_i32_53 : BitVec 32 := 0#32
  ![v127.toNat, 0]
def k0_cond4 (k0_t1 : Fin k0_t1_loop.trips) : BitVec 1 :=
  let c0_i32_18 : BitVec 32 := 0#32
  let c1_i32 : BitVec 32 := 1#32
  let arg13 : BitVec 32 := Scf.iv c0_i32_18 c1_i32 k0_t1
  let c256_i32 : BitVec 32 := 256#32
  let v39 : BitVec 32 := Scalar.muli arg13 c256_i32
  let v40 : BitVec 32 := v39
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c256_i32_20 : BitVec 32 := 256#32
  let c0_i32_23 : BitVec 32 := 0#32
  let v47 : BitVec 1 := Scalar.cmpi .sgt c256_i32_20 c0_i32_23
  let v48 : BitVec 32 := Scalar.extui v47
  let c0_i32_24 : BitVec 32 := 0#32
  let v49 : BitVec 1 := Scalar.cmpi .slt c256_i32_20 c0_i32_24
  let v50 : BitVec 32 := Scalar.extui v49
  let v51 : BitVec 32 := Scalar.subi v48 v50
  let v52 : BitVec 1 := Scalar.cmpi .ne v46 v51
  let v53 : BitVec 32 := Scalar.remsi v40 c256_i32_20
  let c0_i32_25 : BitVec 32 := 0#32
  let v54 : BitVec 1 := Scalar.cmpi .ne v53 c0_i32_25
  let v55 : BitVec 1 := Scalar.andi v52 v54
  let v41 : BitVec 32 := Scalar.divsi v40 c256_i32_20
  let c1_i32_26 : BitVec 32 := 1#32
  let v56 : BitVec 32 := Scalar.subi v41 c1_i32_26
  let v57 : BitVec 32 := Scalar.select v55 v56 v41
  let c2_i32_55 : BitVec 32 := 2#32
  let v132 : BitVec 32 := Scalar.addi v57 c2_i32_55
  let c11_i32_56 : BitVec 32 := 11#32
  let v133 : BitVec 1 := Scalar.cmpi .slt v132 c11_i32_56
  let v134 : BitVec 32 := Scalar.extui v133
  let c0_i32_57 : BitVec 32 := 0#32
  let v135 : BitVec 1 := Scalar.cmpi .ne v134 c0_i32_57
  v135

def k0_mult7 (k0_t1 : Fin k0_t1_loop.trips) : BitVec 32 :=
  let c0_i32_18 : BitVec 32 := 0#32
  let c1_i32 : BitVec 32 := 1#32
  let arg13 : BitVec 32 := Scf.iv c0_i32_18 c1_i32 k0_t1
  let c256_i32 : BitVec 32 := 256#32
  let v39 : BitVec 32 := Scalar.muli arg13 c256_i32
  let v40 : BitVec 32 := v39
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c256_i32_20 : BitVec 32 := 256#32
  let c0_i32_23 : BitVec 32 := 0#32
  let v47 : BitVec 1 := Scalar.cmpi .sgt c256_i32_20 c0_i32_23
  let v48 : BitVec 32 := Scalar.extui v47
  let c0_i32_24 : BitVec 32 := 0#32
  let v49 : BitVec 1 := Scalar.cmpi .slt c256_i32_20 c0_i32_24
  let v50 : BitVec 32 := Scalar.extui v49
  let v51 : BitVec 32 := Scalar.subi v48 v50
  let v52 : BitVec 1 := Scalar.cmpi .ne v46 v51
  let v53 : BitVec 32 := Scalar.remsi v40 c256_i32_20
  let c0_i32_25 : BitVec 32 := 0#32
  let v54 : BitVec 1 := Scalar.cmpi .ne v53 c0_i32_25
  let v55 : BitVec 1 := Scalar.andi v52 v54
  let v41 : BitVec 32 := Scalar.divsi v40 c256_i32_20
  let c1_i32_26 : BitVec 32 := 1#32
  let v56 : BitVec 32 := Scalar.subi v41 c1_i32_26
  let v57 : BitVec 32 := Scalar.select v55 v56 v41
  let c2_i32_58 : BitVec 32 := 2#32
  let v136 : BitVec 32 := Scalar.addi v57 c2_i32_58
  let c10_i32_78 : BitVec 32 := 10#32
  let v155 : BitVec 1 := Scalar.cmpi .eq v136 c10_i32_78
  let c2560_i32_79 : BitVec 32 := 2560#32
  let c9_i32_76 : BitVec 32 := 9#32
  let v153 : BitVec 1 := Scalar.cmpi .eq v136 c9_i32_76
  let c2304_i32_77 : BitVec 32 := 2304#32
  let c8_i32_74 : BitVec 32 := 8#32
  let v151 : BitVec 1 := Scalar.cmpi .eq v136 c8_i32_74
  let c2048_i32_75 : BitVec 32 := 2048#32
  let c7_i32_72 : BitVec 32 := 7#32
  let v149 : BitVec 1 := Scalar.cmpi .eq v136 c7_i32_72
  let c1792_i32_73 : BitVec 32 := 1792#32
  let c6_i32_70 : BitVec 32 := 6#32
  let v147 : BitVec 1 := Scalar.cmpi .eq v136 c6_i32_70
  let c1536_i32_71 : BitVec 32 := 1536#32
  let c5_i32_68 : BitVec 32 := 5#32
  let v145 : BitVec 1 := Scalar.cmpi .eq v136 c5_i32_68
  let c1280_i32_69 : BitVec 32 := 1280#32
  let c4_i32_66 : BitVec 32 := 4#32
  let v143 : BitVec 1 := Scalar.cmpi .eq v136 c4_i32_66
  let c1024_i32_67 : BitVec 32 := 1024#32
  let c3_i32_64 : BitVec 32 := 3#32
  let v141 : BitVec 1 := Scalar.cmpi .eq v136 c3_i32_64
  let c768_i32_65 : BitVec 32 := 768#32
  let c2_i32_62 : BitVec 32 := 2#32
  let v139 : BitVec 1 := Scalar.cmpi .eq v136 c2_i32_62
  let c512_i32_63 : BitVec 32 := 512#32
  let c1_i32_59 : BitVec 32 := 1#32
  let v137 : BitVec 1 := Scalar.cmpi .eq v136 c1_i32_59
  let c256_i32_60 : BitVec 32 := 256#32
  let c0_i32_61 : BitVec 32 := 0#32
  let v138 : BitVec 32 := Scalar.select v137 c256_i32_60 c0_i32_61
  let v140 : BitVec 32 := Scalar.select v139 c512_i32_63 v138
  let v142 : BitVec 32 := Scalar.select v141 c768_i32_65 v140
  let v144 : BitVec 32 := Scalar.select v143 c1024_i32_67 v142
  let v146 : BitVec 32 := Scalar.select v145 c1280_i32_69 v144
  let v148 : BitVec 32 := Scalar.select v147 c1536_i32_71 v146
  let v150 : BitVec 32 := Scalar.select v149 c1792_i32_73 v148
  let v152 : BitVec 32 := Scalar.select v151 c2048_i32_75 v150
  let v154 : BitVec 32 := Scalar.select v153 c2304_i32_77 v152
  let v156 : BitVec 32 := Scalar.select v155 c2560_i32_79 v154
  v156
def k0_off5 (k0_t1 : Fin k0_t1_loop.trips) : Fin 1 → Nat :=
  let c0_i32_18 : BitVec 32 := 0#32
  let c1_i32 : BitVec 32 := 1#32
  let arg13 : BitVec 32 := Scf.iv c0_i32_18 c1_i32 k0_t1
  let c256_i32 : BitVec 32 := 256#32
  let v39 : BitVec 32 := Scalar.muli arg13 c256_i32
  let v40 : BitVec 32 := v39
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c256_i32_20 : BitVec 32 := 256#32
  let c0_i32_23 : BitVec 32 := 0#32
  let v47 : BitVec 1 := Scalar.cmpi .sgt c256_i32_20 c0_i32_23
  let v48 : BitVec 32 := Scalar.extui v47
  let c0_i32_24 : BitVec 32 := 0#32
  let v49 : BitVec 1 := Scalar.cmpi .slt c256_i32_20 c0_i32_24
  let v50 : BitVec 32 := Scalar.extui v49
  let v51 : BitVec 32 := Scalar.subi v48 v50
  let v52 : BitVec 1 := Scalar.cmpi .ne v46 v51
  let v53 : BitVec 32 := Scalar.remsi v40 c256_i32_20
  let c0_i32_25 : BitVec 32 := 0#32
  let v54 : BitVec 1 := Scalar.cmpi .ne v53 c0_i32_25
  let v55 : BitVec 1 := Scalar.andi v52 v54
  let v41 : BitVec 32 := Scalar.divsi v40 c256_i32_20
  let c1_i32_26 : BitVec 32 := 1#32
  let v56 : BitVec 32 := Scalar.subi v41 c1_i32_26
  let v57 : BitVec 32 := Scalar.select v55 v56 v41
  let c2_i32_58 : BitVec 32 := 2#32
  let v136 : BitVec 32 := Scalar.addi v57 c2_i32_58
  ![v136.toNat]
def k0_off6 (k0_t1 : Fin k0_t1_loop.trips) : Fin 2 → Nat :=
  let c0_i32_18 : BitVec 32 := 0#32
  let c1_i32 : BitVec 32 := 1#32
  let arg13 : BitVec 32 := Scf.iv c0_i32_18 c1_i32 k0_t1
  let c256_i32 : BitVec 32 := 256#32
  let v39 : BitVec 32 := Scalar.muli arg13 c256_i32
  let v40 : BitVec 32 := v39
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c256_i32_20 : BitVec 32 := 256#32
  let c0_i32_23 : BitVec 32 := 0#32
  let v47 : BitVec 1 := Scalar.cmpi .sgt c256_i32_20 c0_i32_23
  let v48 : BitVec 32 := Scalar.extui v47
  let c0_i32_24 : BitVec 32 := 0#32
  let v49 : BitVec 1 := Scalar.cmpi .slt c256_i32_20 c0_i32_24
  let v50 : BitVec 32 := Scalar.extui v49
  let v51 : BitVec 32 := Scalar.subi v48 v50
  let v52 : BitVec 1 := Scalar.cmpi .ne v46 v51
  let v53 : BitVec 32 := Scalar.remsi v40 c256_i32_20
  let c0_i32_25 : BitVec 32 := 0#32
  let v54 : BitVec 1 := Scalar.cmpi .ne v53 c0_i32_25
  let v55 : BitVec 1 := Scalar.andi v52 v54
  let v41 : BitVec 32 := Scalar.divsi v40 c256_i32_20
  let c1_i32_26 : BitVec 32 := 1#32
  let v56 : BitVec 32 := Scalar.subi v41 c1_i32_26
  let v57 : BitVec 32 := Scalar.select v55 v56 v41
  let c2_i32_58 : BitVec 32 := 2#32
  let v136 : BitVec 32 := Scalar.addi v57 c2_i32_58
  let c10_i32_78 : BitVec 32 := 10#32
  let v155 : BitVec 1 := Scalar.cmpi .eq v136 c10_i32_78
  let c2560_i32_79 : BitVec 32 := 2560#32
  let c9_i32_76 : BitVec 32 := 9#32
  let v153 : BitVec 1 := Scalar.cmpi .eq v136 c9_i32_76
  let c2304_i32_77 : BitVec 32 := 2304#32
  let c8_i32_74 : BitVec 32 := 8#32
  let v151 : BitVec 1 := Scalar.cmpi .eq v136 c8_i32_74
  let c2048_i32_75 : BitVec 32 := 2048#32
  let c7_i32_72 : BitVec 32 := 7#32
  let v149 : BitVec 1 := Scalar.cmpi .eq v136 c7_i32_72
  let c1792_i32_73 : BitVec 32 := 1792#32
  let c6_i32_70 : BitVec 32 := 6#32
  let v147 : BitVec 1 := Scalar.cmpi .eq v136 c6_i32_70
  let c1536_i32_71 : BitVec 32 := 1536#32
  let c5_i32_68 : BitVec 32 := 5#32
  let v145 : BitVec 1 := Scalar.cmpi .eq v136 c5_i32_68
  let c1280_i32_69 : BitVec 32 := 1280#32
  let c4_i32_66 : BitVec 32 := 4#32
  let v143 : BitVec 1 := Scalar.cmpi .eq v136 c4_i32_66
  let c1024_i32_67 : BitVec 32 := 1024#32
  let c3_i32_64 : BitVec 32 := 3#32
  let v141 : BitVec 1 := Scalar.cmpi .eq v136 c3_i32_64
  let c768_i32_65 : BitVec 32 := 768#32
  let c2_i32_62 : BitVec 32 := 2#32
  let v139 : BitVec 1 := Scalar.cmpi .eq v136 c2_i32_62
  let c512_i32_63 : BitVec 32 := 512#32
  let c1_i32_59 : BitVec 32 := 1#32
  let v137 : BitVec 1 := Scalar.cmpi .eq v136 c1_i32_59
  let c256_i32_60 : BitVec 32 := 256#32
  let c0_i32_61 : BitVec 32 := 0#32
  let v138 : BitVec 32 := Scalar.select v137 c256_i32_60 c0_i32_61
  let v140 : BitVec 32 := Scalar.select v139 c512_i32_63 v138
  let v142 : BitVec 32 := Scalar.select v141 c768_i32_65 v140
  let v144 : BitVec 32 := Scalar.select v143 c1024_i32_67 v142
  let v146 : BitVec 32 := Scalar.select v145 c1280_i32_69 v144
  let v148 : BitVec 32 := Scalar.select v147 c1536_i32_71 v146
  let v150 : BitVec 32 := Scalar.select v149 c1792_i32_73 v148
  let v152 : BitVec 32 := Scalar.select v151 c2048_i32_75 v150
  let v154 : BitVec 32 := Scalar.select v153 c2304_i32_77 v152
  let v156 : BitVec 32 := Scalar.select v155 c2560_i32_79 v154
  let v157 : BitVec 32 := v156
  let c0_i32_80 : BitVec 32 := 0#32
  ![v157.toNat, 0]
def k0_cond5 (i : grid0.Coords) : BitVec 1 :=
  let arg0 : BitVec 32 := BitVec.ofNat 32 (i 0).val
  let c0_i32_1 : BitVec 32 := 0#32
  let v3 : BitVec 1 := Scalar.cmpi .eq arg0 c0_i32_1
  let v77 : BitVec 32 := Scalar.extui v3
  let c0_i32_35 : BitVec 32 := 0#32
  let v78 : BitVec 1 := Scalar.cmpi .ne v77 c0_i32_35
  v78

def k0_mult8 (k0_t1 : Fin k0_t1_loop.trips) : BitVec 32 :=
  let c0_i32_18 : BitVec 32 := 0#32
  let c1_i32 : BitVec 32 := 1#32
  let arg13 : BitVec 32 := Scf.iv c0_i32_18 c1_i32 k0_t1
  let c256_i32 : BitVec 32 := 256#32
  let v39 : BitVec 32 := Scalar.muli arg13 c256_i32
  let v40 : BitVec 32 := v39
  let c0_i32_29 : BitVec 32 := 0#32
  let v61 : BitVec 1 := Scalar.cmpi .sgt v40 c0_i32_29
  let v62 : BitVec 32 := Scalar.extui v61
  let c0_i32_30 : BitVec 32 := 0#32
  let v63 : BitVec 1 := Scalar.cmpi .slt v40 c0_i32_30
  let v64 : BitVec 32 := Scalar.extui v63
  let v65 : BitVec 32 := Scalar.subi v62 v64
  let c256_i32_28 : BitVec 32 := 256#32
  let c0_i32_31 : BitVec 32 := 0#32
  let v66 : BitVec 1 := Scalar.cmpi .sgt c256_i32_28 c0_i32_31
  let v67 : BitVec 32 := Scalar.extui v66
  let c0_i32_32 : BitVec 32 := 0#32
  let v68 : BitVec 1 := Scalar.cmpi .slt c256_i32_28 c0_i32_32
  let v69 : BitVec 32 := Scalar.extui v68
  let v70 : BitVec 32 := Scalar.subi v67 v69
  let v71 : BitVec 1 := Scalar.cmpi .ne v65 v70
  let v72 : BitVec 32 := Scalar.remsi v40 c256_i32_28
  let c0_i32_33 : BitVec 32 := 0#32
  let v73 : BitVec 1 := Scalar.cmpi .ne v72 c0_i32_33
  let v74 : BitVec 1 := Scalar.andi v71 v73
  let v60 : BitVec 32 := Scalar.divsi v40 c256_i32_28
  let c1_i32_34 : BitVec 32 := 1#32
  let v75 : BitVec 32 := Scalar.subi v60 c1_i32_34
  let v76 : BitVec 32 := Scalar.select v74 v75 v60
  let c10_i32 : BitVec 32 := 10#32
  let v125 : BitVec 1 := Scalar.cmpi .eq v76 c10_i32
  let c2560_i32 : BitVec 32 := 2560#32
  let c9_i32 : BitVec 32 := 9#32
  let v123 : BitVec 1 := Scalar.cmpi .eq v76 c9_i32
  let c2304_i32 : BitVec 32 := 2304#32
  let c8_i32 : BitVec 32 := 8#32
  let v121 : BitVec 1 := Scalar.cmpi .eq v76 c8_i32
  let c2048_i32 : BitVec 32 := 2048#32
  let c7_i32 : BitVec 32 := 7#32
  let v119 : BitVec 1 := Scalar.cmpi .eq v76 c7_i32
  let c1792_i32 : BitVec 32 := 1792#32
  let c6_i32 : BitVec 32 := 6#32
  let v117 : BitVec 1 := Scalar.cmpi .eq v76 c6_i32
  let c1536_i32 : BitVec 32 := 1536#32
  let c5_i32 : BitVec 32 := 5#32
  let v115 : BitVec 1 := Scalar.cmpi .eq v76 c5_i32
  let c1280_i32 : BitVec 32 := 1280#32
  let c4_i32 : BitVec 32 := 4#32
  let v113 : BitVec 1 := Scalar.cmpi .eq v76 c4_i32
  let c1024_i32 : BitVec 32 := 1024#32
  let c3_i32 : BitVec 32 := 3#32
  let v111 : BitVec 1 := Scalar.cmpi .eq v76 c3_i32
  let c768_i32 : BitVec 32 := 768#32
  let c2_i32 : BitVec 32 := 2#32
  let v109 : BitVec 1 := Scalar.cmpi .eq v76 c2_i32
  let c512_i32 : BitVec 32 := 512#32
  let c1_i32_50 : BitVec 32 := 1#32
  let v107 : BitVec 1 := Scalar.cmpi .eq v76 c1_i32_50
  let c256_i32_51 : BitVec 32 := 256#32
  let c0_i32_52 : BitVec 32 := 0#32
  let v108 : BitVec 32 := Scalar.select v107 c256_i32_51 c0_i32_52
  let v110 : BitVec 32 := Scalar.select v109 c512_i32 v108
  let v112 : BitVec 32 := Scalar.select v111 c768_i32 v110
  let v114 : BitVec 32 := Scalar.select v113 c1024_i32 v112
  let v116 : BitVec 32 := Scalar.select v115 c1280_i32 v114
  let v118 : BitVec 32 := Scalar.select v117 c1536_i32 v116
  let v120 : BitVec 32 := Scalar.select v119 c1792_i32 v118
  let v122 : BitVec 32 := Scalar.select v121 c2048_i32 v120
  let v124 : BitVec 32 := Scalar.select v123 c2304_i32 v122
  let v126 : BitVec 32 := Scalar.select v125 c2560_i32 v124
  v126
def k0_off7 (k0_t1 : Fin k0_t1_loop.trips) : Fin 1 → Nat :=
  let c0_i32_18 : BitVec 32 := 0#32
  let c1_i32 : BitVec 32 := 1#32
  let arg13 : BitVec 32 := Scf.iv c0_i32_18 c1_i32 k0_t1
  let c256_i32 : BitVec 32 := 256#32
  let v39 : BitVec 32 := Scalar.muli arg13 c256_i32
  let v40 : BitVec 32 := v39
  let c0_i32_29 : BitVec 32 := 0#32
  let v61 : BitVec 1 := Scalar.cmpi .sgt v40 c0_i32_29
  let v62 : BitVec 32 := Scalar.extui v61
  let c0_i32_30 : BitVec 32 := 0#32
  let v63 : BitVec 1 := Scalar.cmpi .slt v40 c0_i32_30
  let v64 : BitVec 32 := Scalar.extui v63
  let v65 : BitVec 32 := Scalar.subi v62 v64
  let c256_i32_28 : BitVec 32 := 256#32
  let c0_i32_31 : BitVec 32 := 0#32
  let v66 : BitVec 1 := Scalar.cmpi .sgt c256_i32_28 c0_i32_31
  let v67 : BitVec 32 := Scalar.extui v66
  let c0_i32_32 : BitVec 32 := 0#32
  let v68 : BitVec 1 := Scalar.cmpi .slt c256_i32_28 c0_i32_32
  let v69 : BitVec 32 := Scalar.extui v68
  let v70 : BitVec 32 := Scalar.subi v67 v69
  let v71 : BitVec 1 := Scalar.cmpi .ne v65 v70
  let v72 : BitVec 32 := Scalar.remsi v40 c256_i32_28
  let c0_i32_33 : BitVec 32 := 0#32
  let v73 : BitVec 1 := Scalar.cmpi .ne v72 c0_i32_33
  let v74 : BitVec 1 := Scalar.andi v71 v73
  let v60 : BitVec 32 := Scalar.divsi v40 c256_i32_28
  let c1_i32_34 : BitVec 32 := 1#32
  let v75 : BitVec 32 := Scalar.subi v60 c1_i32_34
  let v76 : BitVec 32 := Scalar.select v74 v75 v60
  ![v76.toNat]
def k0_off8 (k0_t1 : Fin k0_t1_loop.trips) : Fin 2 → Nat :=
  let c0_i32_18 : BitVec 32 := 0#32
  let c1_i32 : BitVec 32 := 1#32
  let arg13 : BitVec 32 := Scf.iv c0_i32_18 c1_i32 k0_t1
  let c256_i32 : BitVec 32 := 256#32
  let v39 : BitVec 32 := Scalar.muli arg13 c256_i32
  let v40 : BitVec 32 := v39
  let c0_i32_29 : BitVec 32 := 0#32
  let v61 : BitVec 1 := Scalar.cmpi .sgt v40 c0_i32_29
  let v62 : BitVec 32 := Scalar.extui v61
  let c0_i32_30 : BitVec 32 := 0#32
  let v63 : BitVec 1 := Scalar.cmpi .slt v40 c0_i32_30
  let v64 : BitVec 32 := Scalar.extui v63
  let v65 : BitVec 32 := Scalar.subi v62 v64
  let c256_i32_28 : BitVec 32 := 256#32
  let c0_i32_31 : BitVec 32 := 0#32
  let v66 : BitVec 1 := Scalar.cmpi .sgt c256_i32_28 c0_i32_31
  let v67 : BitVec 32 := Scalar.extui v66
  let c0_i32_32 : BitVec 32 := 0#32
  let v68 : BitVec 1 := Scalar.cmpi .slt c256_i32_28 c0_i32_32
  let v69 : BitVec 32 := Scalar.extui v68
  let v70 : BitVec 32 := Scalar.subi v67 v69
  let v71 : BitVec 1 := Scalar.cmpi .ne v65 v70
  let v72 : BitVec 32 := Scalar.remsi v40 c256_i32_28
  let c0_i32_33 : BitVec 32 := 0#32
  let v73 : BitVec 1 := Scalar.cmpi .ne v72 c0_i32_33
  let v74 : BitVec 1 := Scalar.andi v71 v73
  let v60 : BitVec 32 := Scalar.divsi v40 c256_i32_28
  let c1_i32_34 : BitVec 32 := 1#32
  let v75 : BitVec 32 := Scalar.subi v60 c1_i32_34
  let v76 : BitVec 32 := Scalar.select v74 v75 v60
  let c10_i32 : BitVec 32 := 10#32
  let v125 : BitVec 1 := Scalar.cmpi .eq v76 c10_i32
  let c2560_i32 : BitVec 32 := 2560#32
  let c9_i32 : BitVec 32 := 9#32
  let v123 : BitVec 1 := Scalar.cmpi .eq v76 c9_i32
  let c2304_i32 : BitVec 32 := 2304#32
  let c8_i32 : BitVec 32 := 8#32
  let v121 : BitVec 1 := Scalar.cmpi .eq v76 c8_i32
  let c2048_i32 : BitVec 32 := 2048#32
  let c7_i32 : BitVec 32 := 7#32
  let v119 : BitVec 1 := Scalar.cmpi .eq v76 c7_i32
  let c1792_i32 : BitVec 32 := 1792#32
  let c6_i32 : BitVec 32 := 6#32
  let v117 : BitVec 1 := Scalar.cmpi .eq v76 c6_i32
  let c1536_i32 : BitVec 32 := 1536#32
  let c5_i32 : BitVec 32 := 5#32
  let v115 : BitVec 1 := Scalar.cmpi .eq v76 c5_i32
  let c1280_i32 : BitVec 32 := 1280#32
  let c4_i32 : BitVec 32 := 4#32
  let v113 : BitVec 1 := Scalar.cmpi .eq v76 c4_i32
  let c1024_i32 : BitVec 32 := 1024#32
  let c3_i32 : BitVec 32 := 3#32
  let v111 : BitVec 1 := Scalar.cmpi .eq v76 c3_i32
  let c768_i32 : BitVec 32 := 768#32
  let c2_i32 : BitVec 32 := 2#32
  let v109 : BitVec 1 := Scalar.cmpi .eq v76 c2_i32
  let c512_i32 : BitVec 32 := 512#32
  let c1_i32_50 : BitVec 32 := 1#32
  let v107 : BitVec 1 := Scalar.cmpi .eq v76 c1_i32_50
  let c256_i32_51 : BitVec 32 := 256#32
  let c0_i32_52 : BitVec 32 := 0#32
  let v108 : BitVec 32 := Scalar.select v107 c256_i32_51 c0_i32_52
  let v110 : BitVec 32 := Scalar.select v109 c512_i32 v108
  let v112 : BitVec 32 := Scalar.select v111 c768_i32 v110
  let v114 : BitVec 32 := Scalar.select v113 c1024_i32 v112
  let v116 : BitVec 32 := Scalar.select v115 c1280_i32 v114
  let v118 : BitVec 32 := Scalar.select v117 c1536_i32 v116
  let v120 : BitVec 32 := Scalar.select v119 c1792_i32 v118
  let v122 : BitVec 32 := Scalar.select v121 c2048_i32 v120
  let v124 : BitVec 32 := Scalar.select v123 c2304_i32 v122
  let v126 : BitVec 32 := Scalar.select v125 c2560_i32 v124
  let v127 : BitVec 32 := v126
  let c0_i32_53 : BitVec 32 := 0#32
  ![v127.toNat, 0]
def k0_cond6 (k0_t1 : Fin k0_t1_loop.trips) : BitVec 1 :=
  let c0_i32_18 : BitVec 32 := 0#32
  let c1_i32 : BitVec 32 := 1#32
  let arg13 : BitVec 32 := Scf.iv c0_i32_18 c1_i32 k0_t1
  let c256_i32 : BitVec 32 := 256#32
  let v39 : BitVec 32 := Scalar.muli arg13 c256_i32
  let v40 : BitVec 32 := v39
  let c0_i32_29 : BitVec 32 := 0#32
  let v61 : BitVec 1 := Scalar.cmpi .sgt v40 c0_i32_29
  let v62 : BitVec 32 := Scalar.extui v61
  let c0_i32_30 : BitVec 32 := 0#32
  let v63 : BitVec 1 := Scalar.cmpi .slt v40 c0_i32_30
  let v64 : BitVec 32 := Scalar.extui v63
  let v65 : BitVec 32 := Scalar.subi v62 v64
  let c256_i32_28 : BitVec 32 := 256#32
  let c0_i32_31 : BitVec 32 := 0#32
  let v66 : BitVec 1 := Scalar.cmpi .sgt c256_i32_28 c0_i32_31
  let v67 : BitVec 32 := Scalar.extui v66
  let c0_i32_32 : BitVec 32 := 0#32
  let v68 : BitVec 1 := Scalar.cmpi .slt c256_i32_28 c0_i32_32
  let v69 : BitVec 32 := Scalar.extui v68
  let v70 : BitVec 32 := Scalar.subi v67 v69
  let v71 : BitVec 1 := Scalar.cmpi .ne v65 v70
  let v72 : BitVec 32 := Scalar.remsi v40 c256_i32_28
  let c0_i32_33 : BitVec 32 := 0#32
  let v73 : BitVec 1 := Scalar.cmpi .ne v72 c0_i32_33
  let v74 : BitVec 1 := Scalar.andi v71 v73
  let v60 : BitVec 32 := Scalar.divsi v40 c256_i32_28
  let c1_i32_34 : BitVec 32 := 1#32
  let v75 : BitVec 32 := Scalar.subi v60 c1_i32_34
  let v76 : BitVec 32 := Scalar.select v74 v75 v60
  let c2_i32_55 : BitVec 32 := 2#32
  let v132 : BitVec 32 := Scalar.addi v76 c2_i32_55
  let c11_i32_56 : BitVec 32 := 11#32
  let v133 : BitVec 1 := Scalar.cmpi .slt v132 c11_i32_56
  let v134 : BitVec 32 := Scalar.extui v133
  let c0_i32_57 : BitVec 32 := 0#32
  let v135 : BitVec 1 := Scalar.cmpi .ne v134 c0_i32_57
  v135

def k0_mult9 (k0_t1 : Fin k0_t1_loop.trips) : BitVec 32 :=
  let c0_i32_18 : BitVec 32 := 0#32
  let c1_i32 : BitVec 32 := 1#32
  let arg13 : BitVec 32 := Scf.iv c0_i32_18 c1_i32 k0_t1
  let c256_i32 : BitVec 32 := 256#32
  let v39 : BitVec 32 := Scalar.muli arg13 c256_i32
  let v40 : BitVec 32 := v39
  let c0_i32_29 : BitVec 32 := 0#32
  let v61 : BitVec 1 := Scalar.cmpi .sgt v40 c0_i32_29
  let v62 : BitVec 32 := Scalar.extui v61
  let c0_i32_30 : BitVec 32 := 0#32
  let v63 : BitVec 1 := Scalar.cmpi .slt v40 c0_i32_30
  let v64 : BitVec 32 := Scalar.extui v63
  let v65 : BitVec 32 := Scalar.subi v62 v64
  let c256_i32_28 : BitVec 32 := 256#32
  let c0_i32_31 : BitVec 32 := 0#32
  let v66 : BitVec 1 := Scalar.cmpi .sgt c256_i32_28 c0_i32_31
  let v67 : BitVec 32 := Scalar.extui v66
  let c0_i32_32 : BitVec 32 := 0#32
  let v68 : BitVec 1 := Scalar.cmpi .slt c256_i32_28 c0_i32_32
  let v69 : BitVec 32 := Scalar.extui v68
  let v70 : BitVec 32 := Scalar.subi v67 v69
  let v71 : BitVec 1 := Scalar.cmpi .ne v65 v70
  let v72 : BitVec 32 := Scalar.remsi v40 c256_i32_28
  let c0_i32_33 : BitVec 32 := 0#32
  let v73 : BitVec 1 := Scalar.cmpi .ne v72 c0_i32_33
  let v74 : BitVec 1 := Scalar.andi v71 v73
  let v60 : BitVec 32 := Scalar.divsi v40 c256_i32_28
  let c1_i32_34 : BitVec 32 := 1#32
  let v75 : BitVec 32 := Scalar.subi v60 c1_i32_34
  let v76 : BitVec 32 := Scalar.select v74 v75 v60
  let c2_i32_58 : BitVec 32 := 2#32
  let v136 : BitVec 32 := Scalar.addi v76 c2_i32_58
  let c10_i32_78 : BitVec 32 := 10#32
  let v155 : BitVec 1 := Scalar.cmpi .eq v136 c10_i32_78
  let c2560_i32_79 : BitVec 32 := 2560#32
  let c9_i32_76 : BitVec 32 := 9#32
  let v153 : BitVec 1 := Scalar.cmpi .eq v136 c9_i32_76
  let c2304_i32_77 : BitVec 32 := 2304#32
  let c8_i32_74 : BitVec 32 := 8#32
  let v151 : BitVec 1 := Scalar.cmpi .eq v136 c8_i32_74
  let c2048_i32_75 : BitVec 32 := 2048#32
  let c7_i32_72 : BitVec 32 := 7#32
  let v149 : BitVec 1 := Scalar.cmpi .eq v136 c7_i32_72
  let c1792_i32_73 : BitVec 32 := 1792#32
  let c6_i32_70 : BitVec 32 := 6#32
  let v147 : BitVec 1 := Scalar.cmpi .eq v136 c6_i32_70
  let c1536_i32_71 : BitVec 32 := 1536#32
  let c5_i32_68 : BitVec 32 := 5#32
  let v145 : BitVec 1 := Scalar.cmpi .eq v136 c5_i32_68
  let c1280_i32_69 : BitVec 32 := 1280#32
  let c4_i32_66 : BitVec 32 := 4#32
  let v143 : BitVec 1 := Scalar.cmpi .eq v136 c4_i32_66
  let c1024_i32_67 : BitVec 32 := 1024#32
  let c3_i32_64 : BitVec 32 := 3#32
  let v141 : BitVec 1 := Scalar.cmpi .eq v136 c3_i32_64
  let c768_i32_65 : BitVec 32 := 768#32
  let c2_i32_62 : BitVec 32 := 2#32
  let v139 : BitVec 1 := Scalar.cmpi .eq v136 c2_i32_62
  let c512_i32_63 : BitVec 32 := 512#32
  let c1_i32_59 : BitVec 32 := 1#32
  let v137 : BitVec 1 := Scalar.cmpi .eq v136 c1_i32_59
  let c256_i32_60 : BitVec 32 := 256#32
  let c0_i32_61 : BitVec 32 := 0#32
  let v138 : BitVec 32 := Scalar.select v137 c256_i32_60 c0_i32_61
  let v140 : BitVec 32 := Scalar.select v139 c512_i32_63 v138
  let v142 : BitVec 32 := Scalar.select v141 c768_i32_65 v140
  let v144 : BitVec 32 := Scalar.select v143 c1024_i32_67 v142
  let v146 : BitVec 32 := Scalar.select v145 c1280_i32_69 v144
  let v148 : BitVec 32 := Scalar.select v147 c1536_i32_71 v146
  let v150 : BitVec 32 := Scalar.select v149 c1792_i32_73 v148
  let v152 : BitVec 32 := Scalar.select v151 c2048_i32_75 v150
  let v154 : BitVec 32 := Scalar.select v153 c2304_i32_77 v152
  let v156 : BitVec 32 := Scalar.select v155 c2560_i32_79 v154
  v156
def k0_off9 (k0_t1 : Fin k0_t1_loop.trips) : Fin 1 → Nat :=
  let c0_i32_18 : BitVec 32 := 0#32
  let c1_i32 : BitVec 32 := 1#32
  let arg13 : BitVec 32 := Scf.iv c0_i32_18 c1_i32 k0_t1
  let c256_i32 : BitVec 32 := 256#32
  let v39 : BitVec 32 := Scalar.muli arg13 c256_i32
  let v40 : BitVec 32 := v39
  let c0_i32_29 : BitVec 32 := 0#32
  let v61 : BitVec 1 := Scalar.cmpi .sgt v40 c0_i32_29
  let v62 : BitVec 32 := Scalar.extui v61
  let c0_i32_30 : BitVec 32 := 0#32
  let v63 : BitVec 1 := Scalar.cmpi .slt v40 c0_i32_30
  let v64 : BitVec 32 := Scalar.extui v63
  let v65 : BitVec 32 := Scalar.subi v62 v64
  let c256_i32_28 : BitVec 32 := 256#32
  let c0_i32_31 : BitVec 32 := 0#32
  let v66 : BitVec 1 := Scalar.cmpi .sgt c256_i32_28 c0_i32_31
  let v67 : BitVec 32 := Scalar.extui v66
  let c0_i32_32 : BitVec 32 := 0#32
  let v68 : BitVec 1 := Scalar.cmpi .slt c256_i32_28 c0_i32_32
  let v69 : BitVec 32 := Scalar.extui v68
  let v70 : BitVec 32 := Scalar.subi v67 v69
  let v71 : BitVec 1 := Scalar.cmpi .ne v65 v70
  let v72 : BitVec 32 := Scalar.remsi v40 c256_i32_28
  let c0_i32_33 : BitVec 32 := 0#32
  let v73 : BitVec 1 := Scalar.cmpi .ne v72 c0_i32_33
  let v74 : BitVec 1 := Scalar.andi v71 v73
  let v60 : BitVec 32 := Scalar.divsi v40 c256_i32_28
  let c1_i32_34 : BitVec 32 := 1#32
  let v75 : BitVec 32 := Scalar.subi v60 c1_i32_34
  let v76 : BitVec 32 := Scalar.select v74 v75 v60
  let c2_i32_58 : BitVec 32 := 2#32
  let v136 : BitVec 32 := Scalar.addi v76 c2_i32_58
  ![v136.toNat]
def k0_off10 (k0_t1 : Fin k0_t1_loop.trips) : Fin 2 → Nat :=
  let c0_i32_18 : BitVec 32 := 0#32
  let c1_i32 : BitVec 32 := 1#32
  let arg13 : BitVec 32 := Scf.iv c0_i32_18 c1_i32 k0_t1
  let c256_i32 : BitVec 32 := 256#32
  let v39 : BitVec 32 := Scalar.muli arg13 c256_i32
  let v40 : BitVec 32 := v39
  let c0_i32_29 : BitVec 32 := 0#32
  let v61 : BitVec 1 := Scalar.cmpi .sgt v40 c0_i32_29
  let v62 : BitVec 32 := Scalar.extui v61
  let c0_i32_30 : BitVec 32 := 0#32
  let v63 : BitVec 1 := Scalar.cmpi .slt v40 c0_i32_30
  let v64 : BitVec 32 := Scalar.extui v63
  let v65 : BitVec 32 := Scalar.subi v62 v64
  let c256_i32_28 : BitVec 32 := 256#32
  let c0_i32_31 : BitVec 32 := 0#32
  let v66 : BitVec 1 := Scalar.cmpi .sgt c256_i32_28 c0_i32_31
  let v67 : BitVec 32 := Scalar.extui v66
  let c0_i32_32 : BitVec 32 := 0#32
  let v68 : BitVec 1 := Scalar.cmpi .slt c256_i32_28 c0_i32_32
  let v69 : BitVec 32 := Scalar.extui v68
  let v70 : BitVec 32 := Scalar.subi v67 v69
  let v71 : BitVec 1 := Scalar.cmpi .ne v65 v70
  let v72 : BitVec 32 := Scalar.remsi v40 c256_i32_28
  let c0_i32_33 : BitVec 32 := 0#32
  let v73 : BitVec 1 := Scalar.cmpi .ne v72 c0_i32_33
  let v74 : BitVec 1 := Scalar.andi v71 v73
  let v60 : BitVec 32 := Scalar.divsi v40 c256_i32_28
  let c1_i32_34 : BitVec 32 := 1#32
  let v75 : BitVec 32 := Scalar.subi v60 c1_i32_34
  let v76 : BitVec 32 := Scalar.select v74 v75 v60
  let c2_i32_58 : BitVec 32 := 2#32
  let v136 : BitVec 32 := Scalar.addi v76 c2_i32_58
  let c10_i32_78 : BitVec 32 := 10#32
  let v155 : BitVec 1 := Scalar.cmpi .eq v136 c10_i32_78
  let c2560_i32_79 : BitVec 32 := 2560#32
  let c9_i32_76 : BitVec 32 := 9#32
  let v153 : BitVec 1 := Scalar.cmpi .eq v136 c9_i32_76
  let c2304_i32_77 : BitVec 32 := 2304#32
  let c8_i32_74 : BitVec 32 := 8#32
  let v151 : BitVec 1 := Scalar.cmpi .eq v136 c8_i32_74
  let c2048_i32_75 : BitVec 32 := 2048#32
  let c7_i32_72 : BitVec 32 := 7#32
  let v149 : BitVec 1 := Scalar.cmpi .eq v136 c7_i32_72
  let c1792_i32_73 : BitVec 32 := 1792#32
  let c6_i32_70 : BitVec 32 := 6#32
  let v147 : BitVec 1 := Scalar.cmpi .eq v136 c6_i32_70
  let c1536_i32_71 : BitVec 32 := 1536#32
  let c5_i32_68 : BitVec 32 := 5#32
  let v145 : BitVec 1 := Scalar.cmpi .eq v136 c5_i32_68
  let c1280_i32_69 : BitVec 32 := 1280#32
  let c4_i32_66 : BitVec 32 := 4#32
  let v143 : BitVec 1 := Scalar.cmpi .eq v136 c4_i32_66
  let c1024_i32_67 : BitVec 32 := 1024#32
  let c3_i32_64 : BitVec 32 := 3#32
  let v141 : BitVec 1 := Scalar.cmpi .eq v136 c3_i32_64
  let c768_i32_65 : BitVec 32 := 768#32
  let c2_i32_62 : BitVec 32 := 2#32
  let v139 : BitVec 1 := Scalar.cmpi .eq v136 c2_i32_62
  let c512_i32_63 : BitVec 32 := 512#32
  let c1_i32_59 : BitVec 32 := 1#32
  let v137 : BitVec 1 := Scalar.cmpi .eq v136 c1_i32_59
  let c256_i32_60 : BitVec 32 := 256#32
  let c0_i32_61 : BitVec 32 := 0#32
  let v138 : BitVec 32 := Scalar.select v137 c256_i32_60 c0_i32_61
  let v140 : BitVec 32 := Scalar.select v139 c512_i32_63 v138
  let v142 : BitVec 32 := Scalar.select v141 c768_i32_65 v140
  let v144 : BitVec 32 := Scalar.select v143 c1024_i32_67 v142
  let v146 : BitVec 32 := Scalar.select v145 c1280_i32_69 v144
  let v148 : BitVec 32 := Scalar.select v147 c1536_i32_71 v146
  let v150 : BitVec 32 := Scalar.select v149 c1792_i32_73 v148
  let v152 : BitVec 32 := Scalar.select v151 c2048_i32_75 v150
  let v154 : BitVec 32 := Scalar.select v153 c2304_i32_77 v152
  let v156 : BitVec 32 := Scalar.select v155 c2560_i32_79 v154
  let v157 : BitVec 32 := v156
  let c0_i32_80 : BitVec 32 := 0#32
  ![v157.toNat, 0]
def k0_off11 (k0_t1 : Fin k0_t1_loop.trips) : Fin 2 → Nat :=
  let c0_i32_18 : BitVec 32 := 0#32
  let c1_i32 : BitVec 32 := 1#32
  let arg13 : BitVec 32 := Scf.iv c0_i32_18 c1_i32 k0_t1
  let c256_i32 : BitVec 32 := 256#32
  let v39 : BitVec 32 := Scalar.muli arg13 c256_i32
  let v40 : BitVec 32 := v39
  let v81 : Index := Scalar.indexCast v40
  let c0_38 : Index := 0#32
  ![v81.toNat, 0]
def k0_off12 (k0_t1 : Fin k0_t1_loop.trips) : Fin 2 → Nat :=
  let c0_44 : Index := 0#32
  let c0_i32_18 : BitVec 32 := 0#32
  let c1_i32 : BitVec 32 := 1#32
  let arg13 : BitVec 32 := Scf.iv c0_i32_18 c1_i32 k0_t1
  let c256_i32 : BitVec 32 := 256#32
  let v39 : BitVec 32 := Scalar.muli arg13 c256_i32
  let v40 : BitVec 32 := v39
  let v90 : Index := Scalar.indexCast v40
  ![0, v90.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S544x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateUpFwdRefIdeal.lean ====
abbrev S2176x1024 : Shape := ⟨2, ![2176, 1024]⟩
abbrev S1x1024 : Shape := ⟨2, ![1, 1024]⟩
abbrev S1024x2816 : Shape := ⟨2, ![1024, 2816]⟩
abbrev S_ : Shape := ⟨0, ![]⟩
abbrev S2176 : Shape := ⟨1, ![2176]⟩
abbrev S2176x1 : Shape := ⟨2, ![2176, 1]⟩
abbrev S2176x2816 : Shape := ⟨2, ![2176, 2816]⟩

abbrev nBuf : Space → Nat
  | .hbm => 35
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2176x1024, .f32⟩
  | .hbm, ⟨5, _⟩ => ⟨S_, .f32⟩
  | .hbm, ⟨6, _⟩ => ⟨S2176, .f32⟩
  | .hbm, ⟨7, _⟩ => ⟨S2176x1, .f32⟩
  | .hbm, ⟨8, _⟩ => ⟨S_, .f32⟩
  | .hbm, ⟨9, _⟩ => ⟨S2176x1, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S2176x1024, .f32⟩
  | .hbm, ⟨16, _⟩ => ⟨S2176x1024, .f32⟩
  | .hbm, ⟨17, _⟩ => ⟨S2176x1024, .f32⟩
  | .hbm, ⟨18, _⟩ => ⟨S2176x1024, .f32⟩
  | .hbm, ⟨19, _⟩ => ⟨S2176x2816, .f32⟩
  | .hbm, ⟨20, _⟩ => ⟨S2176x2816, .f32⟩
  | .hbm, ⟨21, _⟩ => ⟨S2176x2816, .bf16⟩
  | .hbm, ⟨22, _⟩ => ⟨S2176x2816, .bf16⟩
  | .hbm, ⟨23, _⟩ => ⟨S2176x2816, .f32⟩
  | .hbm, ⟨24, _⟩ => ⟨S2176x2816, .f32⟩
  | .hbm, ⟨25, _⟩ => ⟨S_, .f32⟩
  | .hbm, ⟨26, _⟩ => ⟨S2176x2816, .f32⟩
  | .hbm, ⟨27, _⟩ => ⟨S2176x2816, .f32⟩
  | .hbm, ⟨28, _⟩ => ⟨S_, .f32⟩
  | .hbm, ⟨29, _⟩ => ⟨S2176x2816, .f32⟩
  | .hbm, ⟨30, _⟩ => ⟨S2176x2816, .f32⟩
  | .hbm, ⟨31, _⟩ => ⟨S2176x2816, .f32⟩
  | .hbm, ⟨32, _⟩ => ⟨S2176x2816, .f32⟩
  | .hbm, ⟨33, _⟩ => ⟨S2176x2816, .bf16⟩
  | .hbm, ⟨34, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Proof.Lift.lean ====
/-
  Extended reals that are real numbers, and the numbers of this certificate.

  Where every argument of a call is finite, each value that the call computes is the image of a real number. The lemmas here
  carry the operations (sum, product, quotient, reciprocal root, exponential, hyperbolic tangent) from the real numbers to
  their images, name the real number that a finite word denotes (`lit`), and read the printed precondition "every element's
  absolute value is below infinity".
-/
module

public import Idealize.ShloMosaic.Lib.Pointwise
public import Idealize.ShloMosaic.Lib.ReduceAll

@[expose] public section

noncomputable section

namespace Cert.Lift

open Idealize.ShloMosaic

/-! ## Operations on images of real numbers -/

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe_coe (x : ℝ) {y : ℝ} (h : y ≠ 0) : Ideal.div (x : EReal) (y : EReal) = ((x / y : ℝ) : EReal) := by
  rw [Ideal.div_coe h, ← EReal.coe_mul, mul_one_div]

theorem rsqrt_coe_pos {x : ℝ} (h : 0 < x) : Ideal.rsqrt (x : EReal) = (((Real.sqrt x)⁻¹ : ℝ) : EReal) := by
  rw [Ideal.rsqrt_coe, if_neg (not_lt.mpr h.le), if_neg h.ne']

theorem sub_coe (x y : ℝ) : (x : EReal) - (y : EReal) = ((x - y : ℝ) : EReal) := (EReal.coe_sub x y).symm

/-! ## The number of a word -/

/-- The real number that an f32 word denotes. -/
def lit (b : BitVec 32) : ℝ := (Ideal.ofBits .f32 b : EReal).toReal

/-- A word whose exponent field is not all ones denotes a real number. -/
theorem ofBits_lit (b : BitVec 32) (h : (b.extractLsb' 23 8).toNat ≠ 2 ^ 8 - 1) :
    (Ideal.ofBits .f32 b : EReal) = ((lit b : ℝ) : EReal) := by
  unfold lit
  show Ideal.ieee 8 23 b = ((Ideal.ieee 8 23 b).toReal : EReal)
  unfold Ideal.ieee
  simp only [h, ↓reduceIte]
  split <;> rfl

theorem lit_half : lit 0x3F000000#32 = 1 / 2 := by
  simp [lit, Ideal.ofBits, Ideal.ieee, -EReal.coe_mul]; norm_num

theorem lit_one : lit 0x3F800000#32 = 1 := by
  simp [lit, Ideal.ofBits, Ideal.ieee, -EReal.coe_mul]; norm_num

theorem lit_zero : lit 0x00000000#32 = 0 := by
  simp [lit, Ideal.ofBits, Ideal.ieee, -EReal.coe_mul]

theorem lit_two : lit 0x40000000#32 = 2 := by
  simp [lit, Ideal.ofBits, Ideal.ieee, -EReal.coe_mul]; norm_num

theorem lit_three : lit 0x40400000#32 = 3 := by
  simp [lit, Ideal.ofBits, Ideal.ieee, -EReal.coe_mul]; norm_num

theorem lit_neg_half : lit 0xBF000000#32 = -(1 / 2) := by
  simp [lit, Ideal.ofBits, Ideal.ieee, -EReal.coe_mul, -EReal.coe_neg]; norm_num

theorem lit_1024 : lit 0x44800000#32 = 1024 := by
  simp [lit, Ideal.ofBits, Ideal.ieee, -EReal.coe_mul]; norm_num

/-- The norms' epsilon: the number of the f32 word of `1e-6`. -/
def eps : ℝ := lit 0x358637BD#32

theorem eps_pos : 0 < eps := by
  simp [eps, lit, Ideal.ofBits, Ideal.ieee, -EReal.coe_mul]

/-! The constants of the programs, as images of real numbers. -/

theorem c_zero : (Ideal.ofBits .f32 0x00000000#32 : EReal) = ((0 : ℝ) : EReal) := by rw [ofBits_lit _ (by decide), lit_zero]
theorem c_half : (Ideal.ofBits .f32 0x3F000000#32 : EReal) = ((1 / 2 : ℝ) : EReal) := by rw [ofBits_lit _ (by decide), lit_half]
theorem c_neg_half : (Ideal.ofBits .f32 0xBF000000#32 : EReal) = ((-(1 / 2) : ℝ) : EReal) := by rw [ofBits_lit _ (by decide), lit_neg_half]
theorem c_one : (Ideal.ofBits .f32 0x3F800000#32 : EReal) = ((1 : ℝ) : EReal) := by rw [ofBits_lit _ (by decide), lit_one]
theorem c_two : (Ideal.ofBits .f32 0x40000000#32 : EReal) = ((2 : ℝ) : EReal) := by rw [ofBits_lit _ (by decide), lit_two]
theorem c_three : (Ideal.ofBits .f32 0x40400000#32 : EReal) = ((3 : ℝ) : EReal) := by rw [ofBits_lit _ (by decide), lit_three]
theorem c_1024 : (Ideal.ofBits .f32 0x44800000#32 : EReal) = ((1024 : ℝ) : EReal) := by rw [ofBits_lit _ (by decide), lit_1024]
theorem c_eps : (Ideal.ofBits .f32 0x358637BD#32 : EReal) = ((eps : ℝ) : EReal) := ofBits_lit _ (by decide)
theorem one_coe : (1 : EReal) = ((1 : ℝ) : EReal) := EReal.coe_one.symm
theorem zero_coe : (0 : EReal) = ((0 : ℝ) : EReal) := EReal.coe_zero.symm

/-! ## Finite arguments -/

theorem ofBits_inf : (Ideal.ofBits .f32 0x7F800000#32 : EReal) = ⊤ := by
  simp [Ideal.ofBits, Ideal.ieee]

/-- An extended real whose absolute value is below infinity is the image of a real number. -/
theorem coe_toReal_of_abs_lt {a : EReal} (h : Ideal.cmp .olt (max a (-a)) ⊤ = 1#1) : ((a.toReal : ℝ) : EReal) = a := by
  refine EReal.coe_toReal ?_ ?_ <;> rintro rfl <;> simp [Ideal.cmp] at h

/-- An array whose elements are all finite, as the printed conjunction states it, consists of images of real numbers. -/
theorem finite_of_reduce {s t u : Shape} {axes : List (Fin s.rank)} [Subsingleton t.Idx] (x : FVec Ideal s .f32)
    (init : u.Idx → BitVec 1) (T : FVec Ideal s .f32) (hT : ∀ i, T i = (⊤ : EReal)) (h : s.ReducesTo axes t) (hu : 0 < u.numel) (j : t.Idx)
    (e : Host.reduce IntOp.andi (cmpf .olt (Host.absf x) T) init h hu j = 1#1) (i : s.Idx) :
    (((x i : EReal).toReal : ℝ) : EReal) = x i := by
  refine coe_toReal_of_abs_lt ?_
  have h1 := Host.reduce_andi_all _ init h hu j e i
  rw [← hT i]
  exact h1

/-- An array whose elements are images of reals. -/
def IsReal {s : Shape} (x : FVec Ideal s .f32) : Prop := ∀ i, (((x i : EReal).toReal : ℝ) : EReal) = x i

theorem and_split {s : Shape} (a b : IVec s 1) (j : s.Idx) (h : andi a b j = 1#1) : a j = 1#1 ∧ b j = 1#1 := IntOp.andi_eq_one.mp h

end Cert.Lift

end
-- ==== Proof.Spec.lean ====
/-
  The real functions that the calls compute: the tanh form of gelu and its derivative, the root-mean-square scale of a row of
  1024 numbers, and the gradient of the normalised row.
-/
module

public import proofs.«01_k».proof.Proof.Lift

@[expose] public section

noncomputable section

namespace Cert.Spec

open Idealize.ShloMosaic Lift

/-- The word of `sqrt (2 / pi)`. -/
def geluScale : ℝ := lit 0x3F4C422A#32

theorem c_geluScale : (Ideal.ofBits .f32 0x3F4C422A#32 : EReal) = ((geluScale : ℝ) : EReal) := ofBits_lit _ (by decide)

/-- gelu's inner tanh. -/
def geluTanh (x : ℝ) : ℝ := Real.tanh (geluScale * (x + 8943 / 200000 * (x * x * x)))

/-- gelu, tanh form. -/
def gelu (x : ℝ) : ℝ := 1 / 2 * x * (1 + geluTanh x)

/-- gelu's derivative. -/
def geluD (x : ℝ) : ℝ :=
  1 / 2 * (1 + geluTanh x) + 1 / 2 * x * (1 - geluTanh x * geluTanh x) * (geluScale * (1 + 26829 / 200000 * (x * x)))

/-- The reciprocal root of a row's mean square plus epsilon. -/
def rms (y : Fin 1024 → ℝ) : ℝ := (Real.sqrt ((∑ k, y k * y k) / 1024 + eps))⁻¹

theorem rms_arg_pos (y : Fin 1024 → ℝ) : 0 < (∑ k, y k * y k) / 1024 + eps :=
  add_pos_of_nonneg_of_pos (div_nonneg (Finset.sum_nonneg fun k _ => mul_self_nonneg (y k)) (by norm_num)) eps_pos

theorem rms_pos (y : Fin 1024 → ℝ) : 0 < rms y := inv_pos.mpr (Real.sqrt_pos.mpr (rms_arg_pos y))

theorem rms_sq (y : Fin 1024 → ℝ) : rms y * rms y = ((∑ k, y k * y k) / 1024 + eps)⁻¹ := by
  unfold rms
  rw [← mul_inv, Real.mul_self_sqrt (rms_arg_pos y).le]

/-- The gradient of the normalised row `y · rms y` at `y`, applied to the cotangent `dn`. -/
def rmsGrad (y dn : Fin 1024 → ℝ) (k : Fin 1024) : ℝ :=
  rms y * (dn k - y k * rms y * ((∑ j, dn j * (y j * rms y)) / 1024))

/-- The same gradient, the mean's part written as the derivative of the reciprocal root, added twice. -/
theorem rmsGrad_eq (y dn : Fin 1024 → ℝ) (k : Fin 1024) :
    dn k * rms y + y k * ((∑ j, y j * dn j) * (-(1 / 2) * (rms y / ((∑ k, y k * y k) / 1024 + eps))) / 1024)
      + (∑ j, y j * dn j) * (-(1 / 2) * (rms y / ((∑ k, y k * y k) / 1024 + eps))) / 1024 * y k = rmsGrad y dn k := by
  unfold rmsGrad
  rw [div_eq_mul_inv (rms y), ← rms_sq, show (∑ j, dn j * (y j * rms y)) = (∑ j, y j * dn j) * rms y by
    rw [Finset.sum_mul]; exact Finset.sum_congr rfl fun j _ => by ring]
  ring

end Cert.Spec

end
-- ==== Proof.OutBwd.Pay.lean ====
/-
  The out-projection gradient kernel, one half block (272 rows): what its stores write, as real functions of the rows.
-/
module

public import proofs.«01_k».proof.Proof.Spec
public import proofs.«01_k».proof.Proof.Gen.OutBwdIdeal.Skeleton

@[expose] public section

set_option maxRecDepth 16384

noncomputable section

namespace Cert.OutBwd.Pay

open Idealize.ShloMosaic OutBwdIdeal OutBwdIdeal.Gen Lift Spec

variable {x h du : Fin 272 → Fin 1024 → ℝ} {w : Fin 1024 → ℝ}
variable {v4 : Vec Ideal S272x1024 .bf16} {v7 v21 : Vec Ideal S272x1024 .f32} {v23 : Vec Ideal S1x1024 .f32}

theorem cubic : (Named.named (F := Ideal) (φ := .f32) OutBwdIdeal.κ "gelu_cubic" 0x3D372713#32) = ((8943 / 200000 : ℝ) : EReal) :=
  IdealRules.named_const.ideal_named_scalar _ _ _ _ rfl

theorem cubic3 : (Named.named (F := Ideal) (φ := .f32) OutBwdIdeal.κ "gelu_cubic3" 0x3E095D4F#32) = ((26829 / 200000 : ℝ) : EReal) :=
  IdealRules.named_const.ideal_named_scalar _ _ _ _ rfl

theorem pay6_at (h4 : ∀ a k, v4 (ix2 a k) = ((x a k : ℝ) : EReal)) (a : Fin 272) (k : Fin 1024) :
    k0_pay6 (F := Ideal) v4 (ix2 a k) = ((gelu (x a k) : ℝ) : EReal) := by
  pointwise [k0_pay6, k0_pay5]
  simp only [h4, cubic, c_half, c_geluScale, one_coe, ← EReal.coe_mul, ← EReal.coe_add, Ideal.tanh_coe]
  rfl

theorem pay8_at (h4 : ∀ a k, v4 (ix2 a k) = ((x a k : ℝ) : EReal)) (h7 : ∀ a k, v7 (ix2 a k) = ((h a k : ℝ) : EReal))
    (a : Fin 272) (k : Fin 1) :
    k0_pay8 (F := Ideal) v4 v7 (ix2 a k) = ((rms (fun k => gelu (x a k) * h a k) : ℝ) : EReal) := by
  pointwise [k0_pay8, k0_pay7]
  simp only [pay6_at h4, h7, c_1024, c_eps, ← EReal.coe_mul, sum_coe, div_coe_coe _ (show (1024 : ℝ) ≠ 0 by norm_num), ← EReal.coe_add]
  exact rsqrt_coe_pos (rms_arg_pos fun k => gelu (x a k) * h a k)

theorem pay9_at (h4 : ∀ a k, v4 (ix2 a k) = ((x a k : ℝ) : EReal)) (h7 : ∀ a k, v7 (ix2 a k) = ((h a k : ℝ) : EReal))
    (a : Fin 272) (k : Fin 1024) :
    k0_pay9 (F := Ideal) v4 v7 (ix2 a k)
      = ((gelu (x a k) * h a k * rms (fun k => gelu (x a k) * h a k) : ℝ) : EReal) := by
  pointwise [k0_pay9, k0_pay7]
  simp only [pay6_at h4, pay8_at h4 h7, h7, ← EReal.coe_mul]

theorem pay11_at (h4 : ∀ a k, v4 (ix2 a k) = ((x a k : ℝ) : EReal)) (h7 : ∀ a k, v7 (ix2 a k) = ((h a k : ℝ) : EReal))
    (h21 : ∀ a k, v21 (ix2 a k) = ((du a k : ℝ) : EReal)) (h23 : ∀ k, v23 (ix2 0 k) = ((w k : ℝ) : EReal)) (a : Fin 272) (k : Fin 1024) :
    k0_pay11 (F := Ideal) (k0_pay8 v4 v7) (k0_pay9 v4 v7) (k0_pay10 v21 v23) (ix2 a k)
      = ((rmsGrad (fun k => gelu (x a k) * h a k) (fun k => du a k * w k) k : ℝ) : EReal) := by
  pointwise [k0_pay11, k0_pay10]
  simp only [pay9_at h4 h7, pay8_at h4 h7, h21, h23, c_1024, ← EReal.coe_mul, sum_coe,
    div_coe_coe _ (show (1024 : ℝ) ≠ 0 by norm_num), sub_coe]
  rfl

/-- The half block's `dh`. -/
theorem pay13_at (h4 : ∀ a k, v4 (ix2 a k) = ((x a k : ℝ) : EReal)) (h7 : ∀ a k, v7 (ix2 a k) = ((h a k : ℝ) : EReal))
    (h21 : ∀ a k, v21 (ix2 a k) = ((du a k : ℝ) : EReal)) (h23 : ∀ k, v23 (ix2 0 k) = ((w k : ℝ) : EReal)) (a : Fin 272) (k : Fin 1024) :
    k0_pay13 (F := Ideal) (k0_pay6 v4) (k0_pay8 v4 v7) (k0_pay9 v4 v7) (k0_pay10 v21 v23) (ix2 a k)
      = ((rmsGrad (fun k => gelu (x a k) * h a k) (fun k => du a k * w k) k * gelu (x a k) : ℝ) : EReal) := by
  pointwise [k0_pay13]
  rw [pay11_at h4 h7 h21 h23, pay6_at h4, ← EReal.coe_mul]

theorem pay15_at (h4 : ∀ a k, v4 (ix2 a k) = ((x a k : ℝ) : EReal)) (a : Fin 272) (k : Fin 1024) :
    k0_pay15 (F := Ideal) (k0_pay5 v4) (ix2 a k) = ((geluTanh (x a k) : ℝ) : EReal) := by
  pointwise [k0_pay15, k0_pay5]
  simp only [h4, cubic, c_geluScale, ← EReal.coe_mul, ← EReal.coe_add, Ideal.tanh_coe]
  rfl

/-- The half block's `dgate`. -/
theorem pay19_at (h4 : ∀ a k, v4 (ix2 a k) = ((x a k : ℝ) : EReal)) (h7 : ∀ a k, v7 (ix2 a k) = ((h a k : ℝ) : EReal))
    (h21 : ∀ a k, v21 (ix2 a k) = ((du a k : ℝ) : EReal)) (h23 : ∀ k, v23 (ix2 0 k) = ((w k : ℝ) : EReal)) (a : Fin 272) (k : Fin 1024) :
    k0_pay19 (F := Ideal) (k0_pay14 v7 (k0_pay8 v4 v7) (k0_pay9 v4 v7) (k0_pay10 v21 v23)) (k0_pay16 (k0_pay5 v4))
        (k0_pay17 (k0_pay5 v4)) (k0_pay18 (k0_pay5 v4)) (Scalar.ofBits .f32 0x3F800000#32) (ix2 a k)
      = ((rmsGrad (fun k => gelu (x a k) * h a k) (fun k => du a k * w k) k * h a k * geluD (x a k) : ℝ) : EReal) := by
  pointwise [k0_pay19, k0_pay14, k0_pay16, k0_pay17, k0_pay18]
  rw [pay11_at h4 h7 h21 h23]
  simp only [pay15_at h4, show k0_pay5 (F := Ideal) v4 (ix2 a k) = ((x a k : ℝ) : EReal) by pointwise [k0_pay5]; exact h4 a k,
    h7, cubic3, c_half, c_geluScale, one_coe, ← EReal.coe_mul, ← EReal.coe_add, sub_coe]
  rfl

/-- The half block's part of `dw`, added to what the accumulator held. -/
theorem pay12_at {v47 : Vec Ideal S1x1024 .f32} (h4 : ∀ a k, v4 (ix2 a k) = ((x a k : ℝ) : EReal)) (h7 : ∀ a k, v7 (ix2 a k) = ((h a k : ℝ) : EReal))
    (h21 : ∀ a k, v21 (ix2 a k) = ((du a k : ℝ) : EReal)) (k : Fin 1024) :
    k0_pay12 (F := Ideal) v21 (k0_pay9 v4 v7) v47 (ix2 0 k)
      = v47 (ix2 0 k) + ((∑ a, du a k * (gelu (x a k) * h a k * rms (fun k => gelu (x a k) * h a k)) : ℝ) : EReal) := by
  pointwise [k0_pay12]
  simp only [pay9_at h4 h7, h21, ← EReal.coe_mul, sum_coe]

end Cert.OutBwd.Pay

end
-- ==== Proof.Rows.lean ====
/-
  Reading a matrix through a unit-stride rectangle, element by element.
-/
module

public import Idealize.ShloMosaic.Lib.Pointwise

@[expose] public section

noncomputable section

namespace Cert.Rows

open Idealize.ShloMosaic

variable {n0 n1 m0 m1 o0 o1 : ℕ}

theorem row_lt {off : Fin 2 → ℕ} (inb : ∀ a, off a + (![m0, m1] : Fin 2 → ℕ) a ≤ (![n0, n1] : Fin 2 → ℕ) a) (h : off = ![o0, o1]) (a : Fin m0) :
    o0 + a.val < n0 := by
  subst h; have := inb 0; simp at this; omega

theorem col_lt {off : Fin 2 → ℕ} (inb : ∀ a, off a + (![m0, m1] : Fin 2 → ℕ) a ≤ (![n0, n1] : Fin 2 → ℕ) a) (h : off = ![o0, o1]) (a : Fin m1) :
    o1 + a.val < n1 := by
  subst h; have := inb 1; simp at this; omega

/-- Where a rectangle's element lies. -/
theorem emb_at {off : Fin 2 → ℕ} (inb : ∀ a, off a + (![m0, m1] : Fin 2 → ℕ) a ≤ (⟨2, ![n0, n1]⟩ : Shape).size a) (h : off = ![o0, o1])
    (a : Fin m0) (b : Fin m1) :
    (Rect.unit (s := ⟨2, ![n0, n1]⟩) off ![m0, m1] inb).emb (ix2 a b) = ix2 ⟨o0 + a.val, row_lt inb h a⟩ ⟨o1 + b.val, col_lt inb h b⟩ := by
  subst h
  funext d
  match d with
  | ⟨0, _⟩ => exact Fin.ext (by show o0 + 1 * a.val = _; simp)
  | ⟨1, _⟩ => exact Fin.ext (by show o1 + 1 * b.val = _; simp)

/-- What a load reads. -/
theorem ld_at {Val : EltTy → Type} {e : EltTy} {off : Fin 2 → ℕ} (x : (⟨2, ![n0, n1]⟩ : Shape).Idx → Val e)
    (inb : ∀ a, off a + (![m0, m1] : Fin 2 → ℕ) a ≤ (⟨2, ![n0, n1]⟩ : Shape).size a) (h : off = ![o0, o1]) (a : Fin m0) (b : Fin m1) :
    View.ld x (Rect.unit (s := ⟨2, ![n0, n1]⟩) off ![m0, m1] inb) (ix2 a b) = x (ix2 ⟨o0 + a.val, row_lt inb h a⟩ ⟨o1 + b.val, col_lt inb h b⟩) := by
  rw [← emb_at inb h]
  rfl

/-- A load of a whole array reads the last store of the whole array. -/
theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w := by
  subst h
  rw [View.readCov_eq_canon']
  funext j
  exact View.canon_cons_emb (Rect.unit (fun _ => 0) S.size inb) w L j

/-- The rectangle's elements: the rows and columns within its bounds. -/
theorem mem_at {off : Fin 2 → ℕ} (inb : ∀ a, off a + (![m0, m1] : Fin 2 → ℕ) a ≤ (⟨2, ![n0, n1]⟩ : Shape).size a) (h : off = ![o0, o1])
    (a : Fin n0) (b : Fin n1) :
    (ix2 a b : (⟨2, ![n0, n1]⟩ : Shape).Idx) ∈ (Rect.unit (s := ⟨2, ![n0, n1]⟩) off ![m0, m1] inb).set
      ↔ (o0 ≤ a.val ∧ a.val < o0 + m0) ∧ (o1 ≤ b.val ∧ b.val < o1 + m1) := by
  subst h
  rw [Rect.mem_set_unit]
  constructor
  · intro h
    exact ⟨h 0, h 1⟩
  · intro h d
    match d with
    | ⟨0, _⟩ => exact h.1
    | ⟨1, _⟩ => exact h.2

end Cert.Rows

end
-- ==== Proof.Halves.lean ====
/-
  A block of 544 rows stored in two halves of 272.
-/
module

public import proofs.«01_k».proof.Proof.Rows

@[expose] public section

noncomputable section

namespace Cert.Rows

open Idealize.ShloMosaic

theorem hz : (![0, 0] : Fin 2 → Nat) = fun _ => 0 := funext fun a => by fin_cases a <;> rfl

/-- Row `o + a`. -/
def low (o : ℕ) (ho : o + 272 ≤ 544) (a : Fin 272) : Fin 544 := ⟨o + a.val, by omega⟩

/-- A block stored in two halves. -/
theorem canon_halves {e : EltTy} (G : Fin 544 → Fin 1024 → Elt Ideal e) (p q : (⟨2, ![272, 1024]⟩ : Shape).Idx → Elt Ideal e) (inb1 inb0)
    (hp : ∀ a k, p (ix2 a k) = G (low 272 (by omega) a) k) (hq : ∀ a k, q (ix2 a k) = G (low 0 (by omega) a) k) (a : Fin 544) (b : Fin 1024) :
    View.canon (Val := Elt Ideal) [(⟨Rect.unit (s := ⟨2, ![544, 1024]⟩) ![272, 0] ![272, 1024] inb1, p⟩ : View.Piece (Elt Ideal) ⟨2, ![544, 1024]⟩ e),
      ⟨Rect.unit (s := ⟨2, ![544, 1024]⟩) ![0, 0] ![272, 1024] inb0, q⟩] (ix2 a b) = G a b := by
  refine View.canon_apply_of_pieces (Val := Elt Ideal) (e := e) (fun j : (⟨2, ![544, 1024]⟩ : Shape).Idx => G (j 0) (j 1)) _ (fun r hr => ?_) _ ?_
  · rcases List.mem_cons.mp hr with rfl | hr
    · intro y
      obtain ⟨a, b, rfl⟩ : ∃ (a : Fin 272) (b : Fin 1024), y = ix2 a b := ⟨y 0, y 1, eq_ix2 y⟩
      refine (hp a b).trans (Eq.trans ?_ (congrArg (fun j : (⟨2, ![544, 1024]⟩ : Shape).Idx => G (j 0) (j 1)) (emb_at inb1 rfl a b)).symm)
      exact congrArg (G _) (Fin.ext (Nat.zero_add _).symm)
    · obtain rfl := List.mem_singleton.mp hr
      intro y
      obtain ⟨a, b, rfl⟩ : ∃ (a : Fin 272) (b : Fin 1024), y = ix2 a b := ⟨y 0, y 1, eq_ix2 y⟩
      refine (hq a b).trans (Eq.trans ?_ (congrArg (fun j : (⟨2, ![544, 1024]⟩ : Shape).Idx => G (j 0) (j 1)) (emb_at inb0 rfl a b)).symm)
      exact congrArg (G _) (Fin.ext (Nat.zero_add _).symm)
  · rcases Nat.lt_or_ge a.val 272 with ha | ha
    · exact ⟨_, List.mem_cons_of_mem _ (List.mem_singleton_self _), (mem_at inb0 rfl a b).mpr ⟨⟨Nat.zero_le _, by omega⟩, Nat.zero_le _, by omega⟩⟩
    · exact ⟨_, List.mem_cons_self, (mem_at inb1 rfl a b).mpr ⟨⟨ha, by omega⟩, Nat.zero_le _, by omega⟩⟩

theorem sum_halves (f : Fin 544 → ℝ) : ∑ a, f (low 0 (by omega) a) + ∑ a, f (low 272 (by omega) a) = ∑ a, f a := by
  rw [show (∑ a, f a) = ∑ a : Fin (272 + 272), f a from rfl, Fin.sum_univ_add]
  refine congrArg₂ (· + ·) (Finset.sum_congr rfl fun a _ => congrArg f (Fin.ext (Nat.zero_add _))) rfl

/-- A function of 2176 rows, zero past the last. -/
def past (f : Fin 2176 → ℝ) (r : ℕ) : ℝ := if hr : r < 2176 then f ⟨r, hr⟩ else 0

end Cert.Rows

end
-- ==== Proof.OutBwd.Real.lean ====
/-
  What the call computes, as functions of real rows.
-/
module

public import proofs.«01_k».proof.Proof.Spec

@[expose] public section

noncomputable section

namespace Cert.OutBwd

open Spec

variable {n : ℕ}

/-- The cotangent of the normalised rows: `d · wᵀ`, the weight's second half. -/
def du (d : Fin n → Fin 1024 → ℝ) (W : Fin 2048 → Fin 1024 → ℝ) (a : Fin n) (k : Fin 1024) : ℝ :=
  ∑ m, d a m * W ⟨1024 + k.val, by omega⟩ m

/-- The rows of the gradient with respect to `h`, and to the gate. -/
def dhRow (d : Fin n → Fin 1024 → ℝ) (W : Fin 2048 → Fin 1024 → ℝ) (x h : Fin n → Fin 1024 → ℝ) (w : Fin 1024 → ℝ) (a : Fin n) (k : Fin 1024) : ℝ :=
  rmsGrad (fun k => gelu (x a k) * h a k) (fun k => du d W a k * w k) k * gelu (x a k)
def dgRow (d : Fin n → Fin 1024 → ℝ) (W : Fin 2048 → Fin 1024 → ℝ) (x h : Fin n → Fin 1024 → ℝ) (w : Fin 1024 → ℝ) (a : Fin n) (k : Fin 1024) : ℝ :=
  rmsGrad (fun k => gelu (x a k) * h a k) (fun k => du d W a k * w k) k * h a k * geluD (x a k)
/-- The row's part of the norm weight's gradient. -/
def dwRow (d : Fin n → Fin 1024 → ℝ) (W : Fin 2048 → Fin 1024 → ℝ) (x h : Fin n → Fin 1024 → ℝ) (k : Fin 1024) (a : Fin n) : ℝ :=
  du d W a k * (gelu (x a k) * h a k * rms (fun k => gelu (x a k) * h a k))

variable {q : ℕ} (f : Fin q → Fin n) (d : Fin n → Fin 1024 → ℝ) (W : Fin 2048 → Fin 1024 → ℝ) (x h : Fin n → Fin 1024 → ℝ) (w : Fin 1024 → ℝ)

/-! A row's result reads that row alone. -/

theorem dhRow_rows (a : Fin q) (k : Fin 1024) :
    dhRow (fun a => d (f a)) W (fun a => x (f a)) (fun a => h (f a)) w a k = dhRow d W x h w (f a) k := rfl

theorem dgRow_rows (a : Fin q) (k : Fin 1024) :
    dgRow (fun a => d (f a)) W (fun a => x (f a)) (fun a => h (f a)) w a k = dgRow d W x h w (f a) k := rfl

theorem dwRow_rows (k : Fin 1024) (a : Fin q) :
    dwRow (fun a => d (f a)) W (fun a => x (f a)) (fun a => h (f a)) k a = dwRow d W x h k (f a) := rfl

end Cert.OutBwd

end
-- ==== Proof.OutBwd.Block.lean ====
/-
  The out-projection gradient kernel at one grid point: what its stores leave in the four output blocks, element by element, when
  the input blocks hold images of real numbers.
-/
module

public import proofs.«01_k».proof.Proof.OutBwd.Pay
public import proofs.«01_k».proof.Proof.Halves
public import proofs.«01_k».proof.Proof.OutBwd.Real
public import proofs.«01_k».proof.Proof.Gen.OutBwdIdeal.Value

@[expose] public section

set_option maxRecDepth 16384

noncomputable section

namespace Cert.OutBwd.Block

open Idealize.ShloMosaic Idealize.ShloMosaic.TcCoe OutBwdIdeal OutBwdIdeal.Gen Lift Spec OutBwd.Pay Rows

variable {c : Dev nD} {i : grid0.Coords} {arg1 : Memref sig .tc .vmem S544x1024 .bf16} {harg1 : arg1.IsWhole} {arg2 : Memref sig .tc .vmem S2048x1024 .bf16} {harg2 : arg2.IsWhole} {arg3 : Memref sig .tc .vmem S544x1024 .bf16} {harg3 : arg3.IsWhole} {arg4 : Memref sig .tc .vmem S544x1024 .f32} {harg4 : arg4.IsWhole} {arg5 : Memref sig .tc .vmem S1x1024 .f32} {harg5 : arg5.IsWhole} {arg7 : Memref sig .tc .vmem S544x1024 .f32} {harg7 : arg7.IsWhole} {arg8 : Memref sig .tc .vmem S544x1024 .f32} {harg8 : arg8.IsWhole} {arg9 : Memref sig .tc .vmem S544x1024 .bf16} {harg9 : arg9.IsWhole} {arg10 : Memref sig .tc .vmem S1x1024 .f32} {harg10 : arg10.IsWhole} {arg11 : Memref sig .tc .vmem S544x1024 .f32} {harg11 : arg11.IsWhole}
variable {x0 : Vec Ideal S544x1024 .bf16} {x1 : Vec Ideal S2048x1024 .bf16} {x2 : Vec Ideal S544x1024 .bf16}
  {x3 : Vec Ideal S544x1024 .f32} {x4 : Vec Ideal S1x1024 .f32}

theorem off1_eq : ∀ k : Fin k0_t1_loop.trips, k0_off1 k = ![512 * k.val, 0] := by decide +kernel
theorem off2_eq : ∀ k : Fin k0_t1_loop.trips, k0_off2 k = ![0, 512 * k.val] := by decide +kernel
theorem off3_eq : ∀ k : Fin k0_t1_loop.trips, k0_off3 k = ![1024 + 512 * k.val, 0] := by decide +kernel

theorem trips_eq : k0_t1_loop.trips = 2 := by decide +kernel

/-- The loop's pieces: two trips, the second first. -/
theorem pieces : pb_k0_t1 (F := Ideal) Variants.none c none i arg1 harg1 arg2 harg2 arg3 harg3 arg4 harg4 arg5 harg5 (Memref.whole main_v7) (Memref.isWhole_whole _) arg7 harg7 arg8 harg8 arg9 harg9 arg10 harg10 arg11 harg11 (harg1.unread x0) (harg2.unread x1) 2
    = ((tripL_k0_t1 (F := Ideal) Variants.none c none i arg1 harg1 arg2 harg2 arg3 harg3 arg4 harg4 arg5 harg5 (Memref.whole main_v7) (Memref.isWhole_whole _) arg7 harg7 arg8 harg8 arg9 harg9 arg10 harg10 arg11 harg11 (harg1.unread x0) (harg2.unread x1) ⟨1, by decide +kernel⟩).1
        ++ ((tripL_k0_t1 (F := Ideal) Variants.none c none i arg1 harg1 arg2 harg2 arg3 harg3 arg4 harg4 arg5 harg5 (Memref.whole main_v7) (Memref.isWhole_whole _) arg7 harg7 arg8 harg8 arg9 harg9 arg10 harg10 arg11 harg11 (harg1.unread x0) (harg2.unread x1) ⟨0, by decide +kernel⟩).1 ++ []),
       (tripL_k0_t1 (F := Ideal) Variants.none c none i arg1 harg1 arg2 harg2 arg3 harg3 arg4 harg4 arg5 harg5 (Memref.whole main_v7) (Memref.isWhole_whole _) arg7 harg7 arg8 harg8 arg9 harg9 arg10 harg10 arg11 harg11 (harg1.unread x0) (harg2.unread x1) ⟨1, by decide +kernel⟩).2
        ++ ((tripL_k0_t1 (F := Ideal) Variants.none c none i arg1 harg1 arg2 harg2 arg3 harg3 arg4 harg4 arg5 harg5 (Memref.whole main_v7) (Memref.isWhole_whole _) arg7 harg7 arg8 harg8 arg9 harg9 arg10 harg10 arg11 harg11 (harg1.unread x0) (harg2.unread x1) ⟨0, by decide +kernel⟩).2 ++ [])) := by
  rw [show (2 : ℕ) = (⟨1, by decide +kernel⟩ : Fin k0_t1_loop.trips).val + 1 from rfl, pb_k0_t1_succ,
    show ((⟨1, by decide +kernel⟩ : Fin k0_t1_loop.trips).val : ℕ) = (⟨0, by decide +kernel⟩ : Fin k0_t1_loop.trips).val + 1 from rfl, pb_k0_t1_succ]
  rfl

/-- The row of products `d · wᵀ` that an output column reads, with the weight's rows from `o`. -/
def dot (x0 : Vec Ideal S544x1024 .bf16) (x1 : Vec Ideal S2048x1024 .bf16) (o : ℕ) (ho : o + 1024 ≤ 2048) (j : S544x1024.Idx) : Ideal .f32 :=
  ∑ m : Fin 1024, x0 (ix2 (j 0) m) * x1 (ix2 ⟨o + (j 1).val, by have : (j 1).val < 1024 := (j 1).isLt; omega⟩ m)

theorem pay3_at (v0 : Vec Ideal S544x1024 .bf16) (v1 : Vec Ideal S512x1024 .bf16) (a : Fin 544) (b : Fin 512) :
    k0_pay3 (F := Ideal) v0 v1 (ix2 a b) = ∑ m : Fin 1024, v0 (ix2 a m) * v1 (ix2 b m) := by
  pointwise [k0_pay3]

theorem pay4_at (v0 : Vec Ideal S544x1024 .bf16) (v1 : Vec Ideal S512x1024 .bf16) (a : Fin 544) (b : Fin 512) :
    k0_pay4 (F := Ideal) v0 v1 (ix2 a b) = ∑ m : Fin 1024, v0 (ix2 a m) * v1 (ix2 b m) := by
  pointwise [k0_pay4]

theorem trip_dy (k : Fin k0_t1_loop.trips) :
    (∀ p ∈ (tripL_k0_t1 (F := Ideal) Variants.none c none i arg1 harg1 arg2 harg2 arg3 harg3 arg4 harg4 arg5 harg5 (Memref.whole main_v7) (Memref.isWhole_whole _) arg7 harg7 arg8 harg8 arg9 harg9 arg10 harg10 arg11 harg11 (harg1.unread x0) (harg2.unread x1) k).1,
      ∀ x : p.1.shape.Idx, p.2 x = dot x0 x1 0 (by omega) (p.1.emb x))
    ∧ ∃ p ∈ (tripL_k0_t1 (F := Ideal) Variants.none c none i arg1 harg1 arg2 harg2 arg3 harg3 arg4 harg4 arg5 harg5 (Memref.whole main_v7) (Memref.isWhole_whole _) arg7 harg7 arg8 harg8 arg9 harg9 arg10 harg10 arg11 harg11 (harg1.unread x0) (harg2.unread x1) k).1,
      ∀ (a : Fin 544) (b : Fin 1024), 512 * k.val ≤ b.val → b.val < 512 * k.val + 512 → (ix2 a b : S544x1024.Idx) ∈ p.1.set := by
  unfold tripL_k0_t1 trip_k0_t1
  refine ⟨fun p hp => ?_, ⟨_, List.mem_singleton.mpr rfl, fun a b h1 h2 => ?_⟩⟩
  rotate_left
  · refine (mem_at (k0_off2_inb k) (off2_eq k) a b).mpr ⟨⟨Nat.zero_le _, by simpa using a.isLt⟩, h1, h2⟩
  obtain rfl := List.mem_singleton.mp hp
  dsimp only
  simp only [View.readAt_eq_ld, harg1.read_unread, harg2.read_unread]
  intro x
  obtain ⟨a, b, rfl⟩ : ∃ (a : Fin 544) (b : Fin 512), x = ix2 a b := ⟨x 0, x 1, eq_ix2 x⟩
  refine (pay3_at _ _ a b).trans ?_
  refine Eq.trans ?_ (congrArg (dot x0 x1 0 (by omega)) (emb_at _ (off2_eq k) a b)).symm
  unfold dot
  refine Finset.sum_congr rfl fun m _ => congrArg₂ (· * ·) ((ld_at x0 _ rfl a m).trans ?_) ((ld_at x1 _ (off1_eq k) b m).trans ?_)
    <;> simp [Nat.add_assoc]

theorem canon_dy (a : Fin 544) (b : Fin 1024) :
    View.canon (pb_k0_t1 (F := Ideal) Variants.none c none i arg1 harg1 arg2 harg2 arg3 harg3 arg4 harg4 arg5 harg5 (Memref.whole main_v7) (Memref.isWhole_whole _) arg7 harg7 arg8 harg8 arg9 harg9 arg10 harg10 arg11 harg11 (harg1.unread x0) (harg2.unread x1) 2).1 (ix2 a b)
      = dot x0 x1 0 (by omega) (ix2 a b) := by
  rw [pieces]
  refine View.canon_apply_of_pieces (Val := Elt Ideal) (e := .f32) (dot x0 x1 0 (by omega)) _ (fun p hp => ?_) _ ?_
  · rcases List.mem_append.mp hp with hp | hp
    · exact (trip_dy _).1 p hp
    · exact (trip_dy _).1 p ((List.append_nil _) ▸ hp)
  · rcases Nat.lt_or_ge b.val 512 with hb | hb
    · obtain ⟨p, hp, h⟩ := (trip_dy (c := c) (i := i) (harg1 := harg1) (harg2 := harg2) (harg3 := harg3) (harg4 := harg4) (harg5 := harg5) (harg7 := harg7) (harg8 := harg8) (harg9 := harg9) (harg10 := harg10) (harg11 := harg11) (x0 := x0) (x1 := x1) ⟨0, by decide +kernel⟩).2
      exact ⟨p, List.mem_append_right _ (List.mem_append_left _ hp), h a b (by simp) (by simpa using hb)⟩
    · obtain ⟨p, hp, h⟩ := (trip_dy (c := c) (i := i) (harg1 := harg1) (harg2 := harg2) (harg3 := harg3) (harg4 := harg4) (harg5 := harg5) (harg7 := harg7) (harg8 := harg8) (harg9 := harg9) (harg10 := harg10) (harg11 := harg11) (x0 := x0) (x1 := x1) ⟨1, by decide +kernel⟩).2
      exact ⟨p, List.mem_append_left _ hp, h a b (by simpa using hb) (by simpa using b.isLt)⟩

theorem trip_du (k : Fin k0_t1_loop.trips) :
    (∀ p ∈ (tripL_k0_t1 (F := Ideal) Variants.none c none i arg1 harg1 arg2 harg2 arg3 harg3 arg4 harg4 arg5 harg5 (Memref.whole main_v7) (Memref.isWhole_whole _) arg7 harg7 arg8 harg8 arg9 harg9 arg10 harg10 arg11 harg11 (harg1.unread x0) (harg2.unread x1) k).2,
      ∀ x : p.1.shape.Idx, p.2 x = dot x0 x1 1024 (by omega) (p.1.emb x))
    ∧ ∃ p ∈ (tripL_k0_t1 (F := Ideal) Variants.none c none i arg1 harg1 arg2 harg2 arg3 harg3 arg4 harg4 arg5 harg5 (Memref.whole main_v7) (Memref.isWhole_whole _) arg7 harg7 arg8 harg8 arg9 harg9 arg10 harg10 arg11 harg11 (harg1.unread x0) (harg2.unread x1) k).2,
      ∀ (a : Fin 544) (b : Fin 1024), 512 * k.val ≤ b.val → b.val < 512 * k.val + 512 → (ix2 a b : S544x1024.Idx) ∈ p.1.set := by
  unfold tripL_k0_t1 trip_k0_t1
  refine ⟨fun p hp => ?_, ⟨_, List.mem_singleton.mpr rfl, fun a b h1 h2 => ?_⟩⟩
  rotate_left
  · refine (mem_at (k0_off2_inb k) (off2_eq k) a b).mpr ⟨⟨Nat.zero_le _, by simpa using a.isLt⟩, h1, h2⟩
  obtain rfl := List.mem_singleton.mp hp
  dsimp only
  simp only [View.readAt_eq_ld, harg1.read_unread, harg2.read_unread]
  intro x
  obtain ⟨a, b, rfl⟩ : ∃ (a : Fin 544) (b : Fin 512), x = ix2 a b := ⟨x 0, x 1, eq_ix2 x⟩
  refine (pay4_at _ _ a b).trans ?_
  refine Eq.trans ?_ (congrArg (dot x0 x1 1024 (by omega)) (emb_at _ (off2_eq k) a b)).symm
  unfold dot
  refine Finset.sum_congr rfl fun m _ => congrArg₂ (· * ·) ((ld_at x0 _ rfl a m).trans ?_) ((ld_at x1 _ (off3_eq k) b m).trans ?_)
    <;> simp [Nat.add_assoc]

theorem canon_du (a : Fin 544) (b : Fin 1024) :
    View.canon (pb_k0_t1 (F := Ideal) Variants.none c none i arg1 harg1 arg2 harg2 arg3 harg3 arg4 harg4 arg5 harg5 (Memref.whole main_v7) (Memref.isWhole_whole _) arg7 harg7 arg8 harg8 arg9 harg9 arg10 harg10 arg11 harg11 (harg1.unread x0) (harg2.unread x1) 2).2 (ix2 a b)
      = dot x0 x1 1024 (by omega) (ix2 a b) := by
  rw [pieces]
  refine View.canon_apply_of_pieces (Val := Elt Ideal) (e := .f32) (dot x0 x1 1024 (by omega)) _ (fun p hp => ?_) _ ?_
  · rcases List.mem_append.mp hp with hp | hp
    · exact (trip_du _).1 p hp
    · exact (trip_du _).1 p ((List.append_nil _) ▸ hp)
  · rcases Nat.lt_or_ge b.val 512 with hb | hb
    · obtain ⟨p, hp, h⟩ := (trip_du (c := c) (i := i) (harg1 := harg1) (harg2 := harg2) (harg3 := harg3) (harg4 := harg4) (harg5 := harg5) (harg7 := harg7) (harg8 := harg8) (harg9 := harg9) (harg10 := harg10) (harg11 := harg11) (x0 := x0) (x1 := x1) ⟨0, by decide +kernel⟩).2
      exact ⟨p, List.mem_append_right _ (List.mem_append_left _ hp), h a b (by simp) (by simpa using hb)⟩
    · obtain ⟨p, hp, h⟩ := (trip_du (c := c) (i := i) (harg1 := harg1) (harg2 := harg2) (harg3 := harg3) (harg4 := harg4) (harg5 := harg5) (harg7 := harg7) (harg8 := harg8) (harg9 := harg9) (harg10 := harg10) (harg11 := harg11) (x0 := x0) (x1 := x1) ⟨1, by decide +kernel⟩).2
      exact ⟨p, List.mem_append_left _ hp, h a b (by simpa using hb) (by simpa using b.isLt)⟩

/-- The five input blocks of a grid point hold images of reals. -/
structure Reals (x0 : Vec Ideal S544x1024 .bf16) (x1 : Vec Ideal S2048x1024 .bf16) (x2 : Vec Ideal S544x1024 .bf16)
    (x3 : Vec Ideal S544x1024 .f32) (x4 : Vec Ideal S1x1024 .f32) (d : Fin 544 → Fin 1024 → ℝ) (W : Fin 2048 → Fin 1024 → ℝ)
    (x h : Fin 544 → Fin 1024 → ℝ) (w : Fin 1024 → ℝ) : Prop where
  d_eq : ∀ a k, x0 (ix2 a k) = ((d a k : ℝ) : EReal)
  W_eq : ∀ r k, x1 (ix2 r k) = ((W r k : ℝ) : EReal)
  x_eq : ∀ a k, x2 (ix2 a k) = ((x a k : ℝ) : EReal)
  h_eq : ∀ a k, x3 (ix2 a k) = ((h a k : ℝ) : EReal)
  w_eq : ∀ k, x4 (ix2 0 k) = ((w k : ℝ) : EReal)

variable {d : Fin 544 → Fin 1024 → ℝ} {W : Fin 2048 → Fin 1024 → ℝ} {x h : Fin 544 → Fin 1024 → ℝ} {w : Fin 1024 → ℝ}

theorem dot_real (H : Reals x0 x1 x2 x3 x4 d W x h w) (o : ℕ) (ho : o + 1024 ≤ 2048) (a : Fin 544) (b : Fin 1024) :
    dot x0 x1 o ho (ix2 a b) = ((∑ m, d a m * W ⟨o + b.val, by omega⟩ m : ℝ) : EReal) := by
  unfold dot
  simp only [ix2_0, ix2_1, H.d_eq, H.W_eq, ← EReal.coe_mul, sum_coe]

theorem ld_x (H : Reals x0 x1 x2 x3 x4 d W x h w) (o : ℕ) (ho : o + 272 ≤ 544) (inb) (a : Fin 272) (k : Fin 1024) :
    View.readAt (Elt Ideal) arg3.view (Rect.unit (s := S544x1024) ![o, 0] S272x1024.size inb).toLoadRect (harg3.unread x2) (ix2 a k)
      = ((x (low o ho a) k : ℝ) : EReal) := by
  rw [View.readAt_eq_ld, harg3.read_unread]
  exact (ld_at x2 _ rfl a k).trans ((congrArg x2 (congrArg (ix2 _) (Fin.ext (Nat.zero_add _)))).trans (H.x_eq _ k))

theorem ld_h (H : Reals x0 x1 x2 x3 x4 d W x h w) (o : ℕ) (ho : o + 272 ≤ 544) (inb) (a : Fin 272) (k : Fin 1024) :
    View.readAt (Elt Ideal) arg4.view (Rect.unit (s := S544x1024) ![o, 0] S272x1024.size inb).toLoadRect (harg4.unread x3) (ix2 a k)
      = ((h (low o ho a) k : ℝ) : EReal) := by
  rw [View.readAt_eq_ld, harg4.read_unread]
  exact (ld_at x3 _ rfl a k).trans ((congrArg x3 (congrArg (ix2 _) (Fin.ext (Nat.zero_add _)))).trans (H.h_eq _ k))

theorem ld_w (H : Reals x0 x1 x2 x3 x4 d W x h w) (inb) (k : Fin 1024) :
    View.readAt (Elt Ideal) arg5.view (Rect.unit (s := S1x1024) ![0, 0] S1x1024.size inb).toLoadRect (harg5.unread x4) (ix2 0 k)
      = ((w k : ℝ) : EReal) := by
  rw [View.readAt_eq_ld, harg5.read_unread, View.ld_unit_zero (S := S1x1024) hz]
  exact H.w_eq k

theorem ld_du (H : Reals x0 x1 x2 x3 x4 d W x h w) (o : ℕ) (ho : o + 272 ≤ 544) (inb) (a : Fin 272) (k : Fin 1024) :
    (arg11.view.readCov (pb_k0_t1 (F := Ideal) Variants.none c none i arg1 harg1 arg2 harg2 arg3 harg3 arg4 harg4 arg5 harg5 (Memref.whole main_v7) (Memref.isWhole_whole _) arg7 harg7 arg8 harg8 arg9 harg9 arg10 harg10 arg11 harg11 (harg1.unread x0) (harg2.unread x1) (Scf.trips k0_t1_loop.lb k0_t1_loop.ub k0_t1_loop.st)).2
        (Rect.unit (s := S544x1024) ![o, 0] S272x1024.size inb).toLoadRect) (ix2 a k) = ((du d W (low o ho a) k : ℝ) : EReal) := by
  rw [View.readCov_eq_canon']
  refine Eq.trans (congrArg _ ((emb_at (o0 := o) (o1 := 0) _ rfl a k).trans (congrArg (ix2 _) (Fin.ext (Nat.zero_add _))))) ?_
  exact (canon_du (low o ho a) k).trans (dot_real H _ _ _ _)

theorem pay2_at {b : Fin 1024} : k0_pay2 (F := Ideal) (ix2 0 b) = 0 := by
  pointwise [k0_pay2]

theorem outA_5 (hc : cond0_0 i) (H : Reals x0 x1 x2 x3 x4 d W x h w) (a : Fin 544) (b : Fin 1024) :
    out0_A_5 c i arg1 harg1 arg2 harg2 arg3 harg3 arg4 harg4 arg5 harg5 arg7 harg7 arg8 harg8 arg9 harg9 arg10 harg10 arg11 harg11 hc x0 x1 x2 x3 x4 (ix2 a b) = ((∑ m, d a m * W ⟨0 + b.val, by omega⟩ m : ℝ) : EReal) := by
  unfold out0_A_5
  rw [View.read_writes_junk_eq_canon]
  unfold kernelRun0_A
  dsimp only
  sl_unfold_words
  exact (canon_dy a b).trans (dot_real H _ _ _ _)

theorem outA_6 (hc : cond0_0 i) (H : Reals x0 x1 x2 x3 x4 d W x h w) (a : Fin 544) (b : Fin 1024) :
    out0_A_6 c i arg1 harg1 arg2 harg2 arg3 harg3 arg4 harg4 arg5 harg5 arg7 harg7 arg8 harg8 arg9 harg9 arg10 harg10 arg11 harg11 hc x0 x1 x2 x3 x4 (ix2 a b) = ((dhRow d W x h w a b : ℝ) : EReal) := by
  unfold out0_A_6
  rw [View.read_writes_junk_eq_canon]
  unfold kernelRun0_A
  dsimp only
  sl_unfold_words
  refine canon_halves (e := .f32) (fun a b => ((dhRow d W x h w a b : ℝ) : EReal)) _ _ _ _ ?_ ?_ a b
  · exact (pay13_at (ld_x H 272 (by omega) _) (ld_h H 272 (by omega) _) (ld_du H 272 (by omega) _) (ld_w H _))
  · exact (pay13_at (ld_x H 0 (by omega) _) (ld_h H 0 (by omega) _) (ld_du H 0 (by omega) _) (ld_w H _))

theorem outA_7 (hc : cond0_0 i) (H : Reals x0 x1 x2 x3 x4 d W x h w) (a : Fin 544) (b : Fin 1024) :
    out0_A_7 c i arg1 harg1 arg2 harg2 arg3 harg3 arg4 harg4 arg5 harg5 arg7 harg7 arg8 harg8 arg9 harg9 arg10 harg10 arg11 harg11 hc x0 x1 x2 x3 x4 (ix2 a b) = ((dgRow d W x h w a b : ℝ) : EReal) := by
  unfold out0_A_7
  rw [View.read_writes_junk_eq_canon]
  unfold kernelRun0_A
  dsimp only
  sl_unfold_words
  refine canon_halves (e := .bf16) (fun a b => ((dgRow d W x h w a b : ℝ) : EReal)) _ _ _ _ ?_ ?_ a b
  · exact (pay19_at (ld_x H 272 (by omega) _) (ld_h H 272 (by omega) _) (ld_du H 272 (by omega) _) (ld_w H _))
  · exact (pay19_at (ld_x H 0 (by omega) _) (ld_h H 0 (by omega) _) (ld_du H 0 (by omega) _) (ld_w H _))

theorem outA_8 (hc : cond0_0 i) (H : Reals x0 x1 x2 x3 x4 d W x h w) (b : Fin 1024) :
    out0_A_8 c i arg1 harg1 arg2 harg2 arg3 harg3 arg4 harg4 arg5 harg5 arg7 harg7 arg8 harg8 arg9 harg9 arg10 harg10 arg11 harg11 hc x0 x1 x2 x3 x4 (ix2 0 b) = ((∑ a, dwRow d W x h b a : ℝ) : EReal) := by
  unfold out0_A_8
  rw [View.read_writes_junk_eq_canon]
  unfold kernelRun0_A
  dsimp only
  sl_unfold_words
  rw [View.canon_cons_unit_zero (S := S1x1024) hz]
  refine (pay12_at (ld_x H 272 (by omega) _) (ld_h H 272 (by omega) _) (ld_du H 272 (by omega) _) b).trans ?_
  refine (congrArg (· + _) ((congrFun (readCov_cons_unit_zero _ hz _ _ _) _).trans
    (pay12_at (ld_x H 0 (by omega) _) (ld_h H 0 (by omega) _) (ld_du H 0 (by omega) _) b))).trans ?_
  refine (congrArg (fun z => z + _ + _) ((congrFun (readCov_cons_unit_zero _ hz _ _ _) _).trans pay2_at)).trans ?_
  rw [zero_add, ← EReal.coe_add]
  exact congrArg _ (sum_halves (dwRow d W x h b))

theorem outB_5 (hc : ¬cond0_0 i) (xo : Vec Ideal S1x1024 .f32) (H : Reals x0 x1 x2 x3 x4 d W x h w) (a : Fin 544) (b : Fin 1024) :
    out0_B_5 c i arg1 harg1 arg2 harg2 arg3 harg3 arg4 harg4 arg5 harg5 arg7 harg7 arg8 harg8 arg9 harg9 arg10 harg10 arg11 harg11 hc x0 x1 x2 x3 x4 xo (ix2 a b) = ((∑ m, d a m * W ⟨0 + b.val, by omega⟩ m : ℝ) : EReal) := by
  unfold out0_B_5
  rw [View.read_writes_junk_eq_canon]
  unfold kernelRun0_B
  dsimp only
  sl_unfold_words
  exact (canon_dy a b).trans (dot_real H _ _ _ _)

theorem outB_6 (hc : ¬cond0_0 i) (xo : Vec Ideal S1x1024 .f32) (H : Reals x0 x1 x2 x3 x4 d W x h w) (a : Fin 544) (b : Fin 1024) :
    out0_B_6 c i arg1 harg1 arg2 harg2 arg3 harg3 arg4 harg4 arg5 harg5 arg7 harg7 arg8 harg8 arg9 harg9 arg10 harg10 arg11 harg11 hc x0 x1 x2 x3 x4 xo (ix2 a b) = ((dhRow d W x h w a b : ℝ) : EReal) := by
  unfold out0_B_6
  rw [View.read_writes_junk_eq_canon]
  unfold kernelRun0_B
  dsimp only
  sl_unfold_words
  refine canon_halves (e := .f32) (fun a b => ((dhRow d W x h w a b : ℝ) : EReal)) _ _ _ _ ?_ ?_ a b
  · exact (pay13_at (ld_x H 272 (by omega) _) (ld_h H 272 (by omega) _) (ld_du H 272 (by omega) _) (ld_w H _))
  · exact (pay13_at (ld_x H 0 (by omega) _) (ld_h H 0 (by omega) _) (ld_du H 0 (by omega) _) (ld_w H _))

theorem outB_7 (hc : ¬cond0_0 i) (xo : Vec Ideal S1x1024 .f32) (H : Reals x0 x1 x2 x3 x4 d W x h w) (a : Fin 544) (b : Fin 1024) :
    out0_B_7 c i arg1 harg1 arg2 harg2 arg3 harg3 arg4 harg4 arg5 harg5 arg7 harg7 arg8 harg8 arg9 harg9 arg10 harg10 arg11 harg11 hc x0 x1 x2 x3 x4 xo (ix2 a b) = ((dgRow d W x h w a b : ℝ) : EReal) := by
  unfold out0_B_7
  rw [View.read_writes_junk_eq_canon]
  unfold kernelRun0_B
  dsimp only
  sl_unfold_words
  refine canon_halves (e := .bf16) (fun a b => ((dgRow d W x h w a b : ℝ) : EReal)) _ _ _ _ ?_ ?_ a b
  · exact (pay19_at (ld_x H 272 (by omega) _) (ld_h H 272 (by omega) _) (ld_du H 272 (by omega) _) (ld_w H _))
  · exact (pay19_at (ld_x H 0 (by omega) _) (ld_h H 0 (by omega) _) (ld_du H 0 (by omega) _) (ld_w H _))

theorem outB_8 (hc : ¬cond0_0 i) (xo : Vec Ideal S1x1024 .f32) (H : Reals x0 x1 x2 x3 x4 d W x h w) (b : Fin 1024) :
    out0_B_8 c i arg1 harg1 arg2 harg2 arg3 harg3 arg4 harg4 arg5 harg5 arg7 harg7 arg8 harg8 arg9 harg9 arg10 harg10 arg11 harg11 hc x0 x1 x2 x3 x4 xo (ix2 0 b) = xo (ix2 0 b) + ((∑ a, dwRow d W x h b a : ℝ) : EReal) := by
  unfold out0_B_8
  rw [View.read_writes_junk_eq_canon]
  unfold kernelRun0_B
  dsimp only
  sl_unfold_words
  rw [View.canon_cons_unit_zero (S := S1x1024) hz]
  refine (pay12_at (ld_x H 272 (by omega) _) (ld_h H 272 (by omega) _) (ld_du H 272 (by omega) _) b).trans ?_
  refine (congrArg (· + _) ((congrFun (readCov_cons_unit_zero _ hz _ _ _) _).trans
    (pay12_at (ld_x H 0 (by omega) _) (ld_h H 0 (by omega) _) (ld_du H 0 (by omega) _) b))).trans ?_
  rw [View.readAt_eq_ld, harg10.read_unread, View.ld_unit_zero (S := S1x1024) hz, add_assoc, ← EReal.coe_add]
  exact congrArg (fun z : ℝ => xo (ix2 0 b) + (z : EReal)) (sum_halves (dwRow d W x h b))

end Cert.OutBwd.Block

end
-- ==== Proof.OutBwd.Array.lean ====
/-
  The kernel's four result arrays over real arguments: each row of a point's block is a row of the array, and the norm weight's
  gradient is summed over the points.
-/
module

public import proofs.«01_k».proof.Proof.OutBwd.Block
public import Idealize.ShloMosaic.Lib.StableHlo.ReadAt

@[expose] public section

set_option maxRecDepth 16384

noncomputable section

namespace Cert.OutBwd.Array

open Idealize.ShloMosaic Idealize.ShloMosaic.TcCoe Idealize.ShloMosaic.StableHlo Idealize.SL Idealize.SL.Sem
open OutBwdIdeal OutBwdIdeal.Gen Rows Spec Lift OutBwd.Block

variable (m : (ℓ : Loc nD τ sig) → Buf (Elt Ideal) ℓ) (c : Dev nD)

/-- The arguments are images of reals: `d` the cotangent, `W` the weight, `x` the gate's columns of the projection, `h` the
    states, `w` the norm's weight. -/
structure Args (d : Fin 2176 → Fin 1024 → ℝ) (W : Fin 2048 → Fin 1024 → ℝ) (x h : Fin 2176 → Fin 1024 → ℝ) (w : Fin 1024 → ℝ) : Prop where
  d_eq : ∀ a k, m ((c : Thread nD τ).loc main_arg5) (ix2 a k) = ((d a k : ℝ) : EReal)
  W_eq : ∀ r k, m ((c : Thread nD τ).loc main_arg4) (ix2 r k) = ((W r k : ℝ) : EReal)
  x_eq : ∀ (a : Fin 2176) (k : Fin 1024), m ((c : Thread nD τ).loc main_arg1) (ix2 a ⟨2576 + k.val, by omega⟩) = ((x a k : ℝ) : EReal)
  h_eq : ∀ a k, m ((c : Thread nD τ).loc main_arg2) (ix2 a k) = ((h a k : ℝ) : EReal)
  w_eq : ∀ k, m ((c : Thread nD τ).loc main_arg3) (ix2 0 k) = ((w k : ℝ) : EReal)

/-- Row `a` of point `t`'s block. -/
def row (t : Fin cfg0.N) (a : Fin 544) : Fin 2176 := ⟨544 * t.val + a.val, by have : cfg0.N = 4 := N_0; have := t.isLt; omega⟩

theorem idx0 : ∀ t : Fin cfg0.N, win0_0.index t 0 = t.val ∧ win0_0.index t 1 = 0 := (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = t.val ∧ win0_2.index t 1 = 1 := (by decide +kernel : ∀ t : Fin grid0.N, _)
theorem idx3 : ∀ t : Fin cfg0.N, win0_3.index t 0 = t.val ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = t.val ∧ win0_5.index t 1 = 0 := (by decide +kernel : ∀ t : Fin grid0.N, _)
theorem idx6 : ∀ t : Fin cfg0.N, win0_6.index t 0 = t.val ∧ win0_6.index t 1 = 0 := (by decide +kernel : ∀ t : Fin grid0.N, _)
theorem idx7 : ∀ t : Fin cfg0.N, win0_7.index t 0 = t.val ∧ win0_7.index t 1 = 0 := (by decide +kernel : ∀ t : Fin grid0.N, _)

theorem iblk0 (t : Fin cfg0.N) (a : Fin 544) (k : Fin 1024) : iblk m c 0 t (ix2 a k) = V m c main_v5 (ix2 (row t a) k) := by
  refine congrArg (V m c main_v5) (funext fun i => Fin.ext ?_)
  match i with
  | ⟨0, _⟩ => show win0_0.index t 0 * 544 + 1 * a.val = _; rw [(idx0 t).1]; show _ = 544 * t.val + a.val; omega
  | ⟨1, _⟩ => show win0_0.index t 1 * 1024 + 1 * k.val = _; rw [(idx0 t).2]; show _ = k.val; omega

theorem iblk1 (t : Fin cfg0.N) (a : Fin 2048) (k : Fin 1024) : iblk m c 1 t (ix2 a k) = V m c main_v6 (ix2 a k) := by
  refine congrArg (V m c main_v6) (funext fun i => Fin.ext ?_)
  match i with
  | ⟨0, _⟩ => show win0_1.index t 0 * 2048 + 1 * a.val = _; rw [(idx1 t).1]; show _ = a.val; omega
  | ⟨1, _⟩ => show win0_1.index t 1 * 1024 + 1 * k.val = _; rw [(idx1 t).2]; show _ = k.val; omega

theorem iblk2 (t : Fin cfg0.N) (a : Fin 544) (k : Fin 1024) : X0_2 m c t (ix2 a k) = V m c main_v4 (ix2 (row t a) ⟨1024 + k.val, by omega⟩) := by
  unfold X0_2 Pipeline.Window.fill
  rw [dif_pos (moved0_2 t _)]
  refine congrArg (V m c main_v4) (funext fun i => Fin.ext ?_)
  match i with
  | ⟨0, _⟩ => show win0_2.index t 0 * 544 + 1 * a.val = _; rw [(idx2 t).1]; show _ = 544 * t.val + a.val; omega
  | ⟨1, _⟩ => show win0_2.index t 1 * 1024 + 1 * k.val = _; rw [(idx2 t).2]; show _ = 1024 + k.val; omega

theorem iblk3 (t : Fin cfg0.N) (a : Fin 544) (k : Fin 1024) : iblk m c 3 t (ix2 a k) = V m c main_arg2 (ix2 (row t a) k) := by
  refine congrArg (V m c main_arg2) (funext fun i => Fin.ext ?_)
  match i with
  | ⟨0, _⟩ => show win0_3.index t 0 * 544 + 1 * a.val = _; rw [(idx3 t).1]; show _ = 544 * t.val + a.val; omega
  | ⟨1, _⟩ => show win0_3.index t 1 * 1024 + 1 * k.val = _; rw [(idx3 t).2]; show _ = k.val; omega

theorem iblk4 (t : Fin cfg0.N) (a : Fin 1) (k : Fin 1024) : iblk m c 4 t (ix2 a k) = V m c main_arg3 (ix2 a k) := by
  refine congrArg (V m c main_arg3) (funext fun i => Fin.ext ?_)
  match i with
  | ⟨0, _⟩ => show win0_4.index t 0 * 1 + 1 * a.val = _; rw [(idx4 t).1]; show _ = a.val; omega
  | ⟨1, _⟩ => show win0_4.index t 1 * 1024 + 1 * k.val = _; rw [(idx4 t).2]; show _ = k.val; omega

theorem V5 (a : Fin 2176) (k : Fin 1024) : V m c main_v5 (ix2 a k) = m ((c : Thread nD τ).loc main_arg5) (ix2 a k) := by
  unfold V
  after_reads_at

theorem V6 (a : Fin 2048) (k : Fin 1024) : V m c main_v6 (ix2 a k) = m ((c : Thread nD τ).loc main_arg4) (ix2 a k) := by
  unfold V
  after_reads_at

/-- The packed projection's second thousand columns are the gate's. -/
theorem V4 (a : Fin 2176) (k : Fin 1024) : V m c main_v4 (ix2 a ⟨1024 + k.val, by omega⟩) = m ((c : Thread nD τ).loc main_arg1) (ix2 a ⟨2576 + k.val, by omega⟩) := by
  unfold V
  after_reads_at
  rw [dif_pos (by omega)]
  after_reads_at

variable {m c} {d : Fin 2176 → Fin 1024 → ℝ} {W : Fin 2048 → Fin 1024 → ℝ} {x h : Fin 2176 → Fin 1024 → ℝ} {w : Fin 1024 → ℝ}

/-- A point's blocks are the images of the arrays' rows. -/
theorem reals (H : Args m c d W x h w) (t : Fin cfg0.N) :
    Reals (iblk m c 0 t) (iblk m c 1 t) (X0_2 m c t) (iblk m c 3 t) (iblk m c 4 t) (fun a => d (row t a)) W (fun a => x (row t a)) (fun a => h (row t a)) w where
  d_eq a k := (iblk0 m c t a k).trans ((V5 m c _ k).trans (H.d_eq _ k))
  W_eq r k := (iblk1 m c t r k).trans ((V6 m c r k).trans (H.W_eq r k))
  x_eq a k := (iblk2 m c t a k).trans ((V4 m c _ k).trans (H.x_eq _ k))
  h_eq a k := (iblk3 m c t a k).trans ((congrFun (V_main_arg2 m c) _).trans (H.h_eq _ k))
  w_eq k := (iblk4 m c t 0 k).trans ((congrFun (V_main_arg3 m c) _).trans (H.w_eq k))

theorem outs5 (H : Args m c d W x h w) (t : Fin cfg0.N) (a : Fin 544) (k : Fin 1024) :
    (outsAt0 m c t.val t.isLt).1 (ix2 a k) = ((∑ m, d (row t a) m * W ⟨0 + k.val, by omega⟩ m : ℝ) : EReal) := by
  by_cases h0 : t.val % 4 = 0
  · rw [outsAt0_A m c t h0]; dsimp only
    exact (outA_5 _ (reals H t) a k).trans (congrArg _ rfl)
  · rw [outsAt0_B m c t h0]; dsimp only
    exact (outB_5 _ _ (reals H t) a k).trans (congrArg _ rfl)

theorem arr5 (H : Args m c d W x h w) (r : Fin 2176) (k : Fin 1024) :
    (dats m 0 c).arrAt 5 cfg0.N (ix2 r k) = ((∑ m, d r m * W ⟨0 + k.val, by omega⟩ m : ℝ) : EReal) := by
  obtain ⟨t, a, rfl⟩ : ∃ (t : Fin cfg0.N) (a : Fin 544), r = row t a :=
    ⟨⟨r.val / 544, by rw [show cfg0.N = 4 from N_0]; omega⟩, ⟨r.val % 544, Nat.mod_lt _ (by decide)⟩, Fin.ext (Nat.div_add_mod _ _).symm⟩
  refine Eq.trans ?_ (((congrFun (Value.blocks5 m c t (flush0_5 t)) (ix2 a k)).trans (congrFun (Value.flushed5 m c t) (ix2 a k))).trans (outs5 H t a k))
  refine congrArg ((dats m 0 c).arrAt 5 cfg0.N) (funext fun i => Fin.ext ?_)
  match i with
  | ⟨0, _⟩ => show _ = win0_5.index t 0 * 544 + 1 * a.val; rw [(idx5 t).1]; show 544 * t.val + a.val = _; omega
  | ⟨1, _⟩ => show _ = win0_5.index t 1 * 1024 + 1 * k.val; rw [(idx5 t).2]; show k.val = _; omega

theorem outs6 (H : Args m c d W x h w) (t : Fin cfg0.N) (a : Fin 544) (k : Fin 1024) :
    (outsAt0 m c t.val t.isLt).2.1 (ix2 a k) = ((dhRow d W x h w (row t a) k : ℝ) : EReal) := by
  by_cases h0 : t.val % 4 = 0
  · rw [outsAt0_A m c t h0]; dsimp only
    exact (outA_6 _ (reals H t) a k).trans (congrArg _ (dhRow_rows (row t) d W x h w a k))
  · rw [outsAt0_B m c t h0]; dsimp only
    exact (outB_6 _ _ (reals H t) a k).trans (congrArg _ (dhRow_rows (row t) d W x h w a k))

theorem arr6 (H : Args m c d W x h w) (r : Fin 2176) (k : Fin 1024) :
    (dats m 0 c).arrAt 6 cfg0.N (ix2 r k) = ((dhRow d W x h w r k : ℝ) : EReal) := by
  obtain ⟨t, a, rfl⟩ : ∃ (t : Fin cfg0.N) (a : Fin 544), r = row t a :=
    ⟨⟨r.val / 544, by rw [show cfg0.N = 4 from N_0]; omega⟩, ⟨r.val % 544, Nat.mod_lt _ (by decide)⟩, Fin.ext (Nat.div_add_mod _ _).symm⟩
  refine Eq.trans ?_ (((congrFun (Value.blocks6 m c t (flush0_6 t)) (ix2 a k)).trans (congrFun (Value.flushed6 m c t) (ix2 a k))).trans (outs6 H t a k))
  refine congrArg ((dats m 0 c).arrAt 6 cfg0.N) (funext fun i => Fin.ext ?_)
  match i with
  | ⟨0, _⟩ => show _ = win0_6.index t 0 * 544 + 1 * a.val; rw [(idx6 t).1]; show 544 * t.val + a.val = _; omega
  | ⟨1, _⟩ => show _ = win0_6.index t 1 * 1024 + 1 * k.val; rw [(idx6 t).2]; show k.val = _; omega

theorem outs7 (H : Args m c d W x h w) (t : Fin cfg0.N) (a : Fin 544) (k : Fin 1024) :
    (outsAt0 m c t.val t.isLt).2.2.1 (ix2 a k) = ((dgRow d W x h w (row t a) k : ℝ) : EReal) := by
  by_cases h0 : t.val % 4 = 0
  · rw [outsAt0_A m c t h0]; dsimp only
    exact (outA_7 _ (reals H t) a k).trans (congrArg _ (dgRow_rows (row t) d W x h w a k))
  · rw [outsAt0_B m c t h0]; dsimp only
    exact (outB_7 _ _ (reals H t) a k).trans (congrArg _ (dgRow_rows (row t) d W x h w a k))

theorem arr7 (H : Args m c d W x h w) (r : Fin 2176) (k : Fin 1024) :
    (dats m 0 c).arrAt 7 cfg0.N (ix2 r k) = ((dgRow d W x h w r k : ℝ) : EReal) := by
  obtain ⟨t, a, rfl⟩ : ∃ (t : Fin cfg0.N) (a : Fin 544), r = row t a :=
    ⟨⟨r.val / 544, by rw [show cfg0.N = 4 from N_0]; omega⟩, ⟨r.val % 544, Nat.mod_lt _ (by decide)⟩, Fin.ext (Nat.div_add_mod _ _).symm⟩
  refine Eq.trans ?_ (((congrFun (Value.blocks7 m c t (flush0_7 t)) (ix2 a k)).trans (congrFun (Value.flushed7 m c t) (ix2 a k))).trans (outs7 H t a k))
  refine congrArg ((dats m 0 c).arrAt 7 cfg0.N) (funext fun i => Fin.ext ?_)
  match i with
  | ⟨0, _⟩ => show _ = win0_7.index t 0 * 544 + 1 * a.val; rw [(idx7 t).1]; show 544 * t.val + a.val = _; omega
  | ⟨1, _⟩ => show _ = win0_7.index t 1 * 1024 + 1 * k.val; rw [(idx7 t).2]; show k.val = _; omega

theorem past_row (f : Fin 2176 → ℝ) (t : Fin cfg0.N) : ∑ r ∈ Finset.range 544, past f (544 * t.val + r) = ∑ a, f (row t a) := by
  rw [Finset.sum_range]
  have : cfg0.N = 4 := N_0
  have := t.isLt
  exact Finset.sum_congr rfl fun a _ => dif_pos (by omega)

/-- The running sum of the norm weight's gradient after a point. -/
theorem outs8 (H : Args m c d W x h w) (k : Fin 1024) : ∀ (n : ℕ) (hn : n < cfg0.N),
    (outsAt0 m c n hn).2.2.2 (ix2 0 k) = ((∑ r ∈ Finset.range (544 * n + 544), past (dwRow d W x h k) r : ℝ) : EReal)
  | 0, hn => by
    rw [outsAt0_A m c ⟨0, hn⟩ rfl]; dsimp only
    refine (outA_8 _ (reals H ⟨0, hn⟩) k).trans (congrArg _ ?_)
    simp only [dwRow_rows (row ⟨0, hn⟩) d W x h]
    rw [← past_row (dwRow d W x h k) ⟨0, hn⟩]
    simp only [mul_zero, zero_add]
  | n + 1, hn => by
    have hN : cfg0.N = 4 := N_0
    rw [outsAt0_B m c ⟨n + 1, hn⟩ (by dsimp only; omega)]; dsimp only
    refine (outB_8 _ _ (reals H ⟨n + 1, hn⟩) k).trans ?_
    refine (congrArg (· + _) (outs8 H k n (Nat.lt_of_succ_lt hn))).trans ?_
    simp only [dwRow_rows (row ⟨n + 1, hn⟩) d W x h]
    rw [← past_row (dwRow d W x h k) ⟨n + 1, hn⟩, ← EReal.coe_add, show 544 * (n + 1) + 544 = (544 * n + 544) + 544 by omega, Finset.sum_range_add _ (544 * n + 544) 544]
    rfl

/-- The norm weight's gradient, over all rows. -/
def dw (d : Fin 2176 → Fin 1024 → ℝ) (W : Fin 2048 → Fin 1024 → ℝ) (x h : Fin 2176 → Fin 1024 → ℝ) : Vec Ideal S1x1024 .f32 :=
  fun i => ((∑ a, dwRow d W x h (i 1) a : ℝ) : EReal)

theorem flushed8 (H : Args m c d W x h w) (t : Fin cfg0.N) (hf : (cfg0.win 8).flush t = true) :
    (dats m 0 c).flushed 8 t = ((cfg0.win 8).blk t).view.read (Elt Ideal) (dw d W x h) := by
  have hN : cfg0.N = 4 := N_0
  obtain rfl : t = t0_3 := Fin.ext (by have := (flush0_8 t).mp hf; have := t.isLt; show t.val = 3; omega)
  have hz' : (fun a => win0_8.index t0_3 a * main_v8_3.ty.shape.size a) = fun _ => 0 := funext fun a => by fin_cases a <;> decide
  rw [Value.flushed8]
  refine Eq.trans ?_ (Memref.read_access_unit_zero (Elt Ideal) main_v8_3 hz' (fun a => by rw [congrFun hz' a]; simp) (dw d W x h)).symm
  funext i
  obtain ⟨a, k, rfl⟩ : ∃ (a : Fin 1) (k : Fin 1024), i = ix2 a k := ⟨i 0, i 1, eq_ix2 i⟩
  obtain rfl : a = 0 := Subsingleton.elim _ _
  refine (outs8 H k t0_3.val t0_3.isLt).trans (congrArg _ ?_)
  rw [show 544 * t0_3.val + 544 = 2176 from rfl, Finset.sum_range]
  exact Finset.sum_congr rfl fun a _ => dif_pos a.isLt

theorem arr8 (H : Args m c d W x h w) (k : Fin 1024) :
    (dats m 0 c).arrAt 8 cfg0.N (ix2 0 k) = ((∑ a, dwRow d W x h k a : ℝ) : EReal) := by
  refine congrFun ((dats m 0 c).arrAt_eq_of_cover 8 (dw d W x h) (flushed8 H) fun i => ⟨t0_3, (flush0_8 t0_3).mpr rfl, ?_⟩) (ix2 0 k)
  show i ∈ ((View.whole main_v8_3).slice (win0_8.rect t0_3)).set
  rw [View.set_slice_whole, Rect.mem_set_unit]
  intro a
  have h0 : (i 0 : Nat) < 1 := (i 0).isLt
  have h1 : (i 1 : Nat) < 1024 := (i 1).isLt
  match a with
  | ⟨0, _⟩ =>
    show win0_8.index t0_3 0 * win0_8.size 0 ≤ (i 0 : Nat) ∧ (i 0 : Nat) < win0_8.index t0_3 0 * win0_8.size 0 + win0_8.xsize (grid0.coords t0_3) 0
    rw [show win0_8.index t0_3 0 * win0_8.size 0 = 0 from by decide +kernel, show win0_8.xsize (grid0.coords t0_3) 0 = 1 from by decide +kernel]; omega
  | ⟨1, _⟩ =>
    show win0_8.index t0_3 1 * win0_8.size 1 ≤ (i 1 : Nat) ∧ (i 1 : Nat) < win0_8.index t0_3 1 * win0_8.size 1 + win0_8.xsize (grid0.coords t0_3) 1
    rw [show win0_8.index t0_3 1 * win0_8.size 1 = 0 from by decide +kernel, show win0_8.xsize (grid0.coords t0_3) 1 = 1024 from by decide +kernel]; omega

end Cert.OutBwd.Array

end
-- ==== Proof.Line.lean ====
/-
  A straight line of host operations in which every buffer is written once and read only afterwards: the contents at the end are
  left alone by every operation of the line. So any stretch of the line may be read off the final contents, in any choice of
  operations, the reads that leave the stretch again being reads of the final contents.
-/
module

public import Idealize.ShloMosaic.Lib.StableHlo.RunHlo
public import Idealize.ShloMosaic.Lib.StableHlo.ReadAt

@[expose] public section

namespace Cert.Line

open Idealize.ShloMosaic Idealize.ShloMosaic.TcCoe Idealize.ShloMosaic.StableHlo Idealize.SL.Sem

variable {nD : Nat} {τ : Topo} {sig : RefSig} {Val : EltTy → Type} {Λ : Labels}

/-- The operation writes `y` alone, and what it writes depends on the references `R` alone. -/
structure Reads (op : HloOp τ sig Val) (y : Ref sig .tc) (R : List (Ref sig .tc)) : Prop where
  writes : op.writes = {Proc.devRef .tc y}
  congr : ∀ F G : Valuation τ sig Val, (∀ r ∈ R, F (Proc.devRef .tc r) = G (Proc.devRef .tc r)) →
    op.result F (Proc.devRef .tc y) = op.result G (Proc.devRef .tc y)

theorem reads_nullary (y : Ref sig .tc) (v : y.ty.Contents Val) (hy) : Reads (nullary (τ := τ) y v hy) y [] :=
  ⟨rfl, fun F G _ => by rw [nullary_result, nullary_result]⟩

theorem reads_unary (x y : Ref sig .tc) (f : x.ty.Contents Val → y.ty.Contents Val) (hx hy) : Reads (unary (τ := τ) x y f hx hy) y [x] :=
  ⟨rfl, fun F G h => by rw [unary_result, unary_result, h x (by simp)]⟩

theorem reads_binary (a b y : Ref sig .tc) (f : a.ty.Contents Val → b.ty.Contents Val → y.ty.Contents Val) (ha hb hy) :
    Reads (binary (τ := τ) a b y f ha hb hy) y [a, b] :=
  ⟨rfl, fun F G h => by rw [binary_result, binary_result, h a (by simp), h b (by simp)]⟩

theorem reads_ternary (c a b y : Ref sig .tc) (f : c.ty.Contents Val → a.ty.Contents Val → b.ty.Contents Val → y.ty.Contents Val) (hc ha hb hy) :
    Reads (ternary (τ := τ) c a b y f hc ha hb hy) y [c, a, b] :=
  ⟨rfl, fun F G h => by rw [ternary_result, ternary_result, h c (by simp), h a (by simp), h b (by simp)]⟩

theorem reads_reshape (x y : Ref sig .tc) (he hn hx hy) : Reads (reshape (τ := τ) (Val := Val) x y he hn hx hy) y [x] :=
  ⟨rfl, fun F G h => by rw [reshape_result, reshape_result, h x (by simp)]⟩

theorem reads_nary {n : Nat} (xs : Fin n → Ref sig .tc) (y : Ref sig .tc) (f : ((k : Fin n) → (xs k).ty.Contents Val) → y.ty.Contents Val) (hxs hy) :
    Reads (nary (τ := τ) xs y f hxs hy) y (List.ofFn xs) :=
  ⟨rfl, fun F G h => by
    rw [nary_result, nary_result, show (fun k => F (Proc.devRef .tc (xs k))) = fun k => G (Proc.devRef .tc (xs k)) from
      funext fun k => h _ (List.mem_ofFn.mpr ⟨k, rfl⟩)]⟩

/-- What each operation of a line writes and reads. -/
inductive Table : List (HloOp τ sig Val) → List (Ref sig .tc × List (Ref sig .tc)) → Prop
  | nil : Table [] []
  | cons {op : HloOp τ sig Val} {ops y R T} : Reads op y R → Table ops T → Table (op :: ops) ((y, R) :: T)

/-- Each buffer is written once, and read only after it is written. -/
def single : List (Ref sig .tc × List (Ref sig .tc)) → Bool
  | [] => true
  | (y, R) :: T => T.all (fun e => e.1 != y) && R.all (fun r => r != y && T.all fun e => e.1 != r) && single T

theorem after_keep {ops : List (HloOp τ sig Val)} {T} (hT : Table ops T) {r : Ref sig .tc} (hr : T.all (fun e => e.1 != r) = true)
    (V : Valuation τ sig Val) : after ops V (Proc.devRef .tc r) = V (Proc.devRef .tc r) := by
  induction hT generalizing V with
  | nil => rfl
  | cons h _ ih =>
    simp only [List.all_cons, Bool.and_eq_true, bne_iff_ne, ne_eq] at hr
    rw [after_cons, ih hr.2, HloOp.result_of_not_mem _ _ (by
      rw [h.writes, Finset.mem_singleton]; exact devRef_ne_of_ne fun e => hr.1 e.symm)]

/-- The final contents are left alone by every operation. -/
theorem result_eq {ops : List (HloOp τ sig Val)} {T} (hT : Table ops T) (hs : single T = true) :
    ∀ (V : Valuation τ sig Val), ∀ op ∈ ops, op.result (after ops V) = after ops V := by
  induction hT with
  | nil => intro V op h; cases h
  | @cons op ops y R T h hT ih =>
    simp only [single, Bool.and_eq_true] at hs
    intro V o ho
    rcases List.mem_cons.mp ho with rfl | ho
    · rw [after_cons]
      funext b
      by_cases hb : b ∈ o.writes
      · rw [h.writes, Finset.mem_singleton] at hb
        subst hb
        rw [after_keep hT hs.1.1]
        refine h.congr _ _ fun r hr => ?_
        have := List.all_eq_true.mp hs.1.2 r hr
        rw [Bool.and_eq_true, bne_iff_ne] at this
        rw [after_keep hT this.2, HloOp.result_of_not_mem _ _ (by
          rw [h.writes, Finset.mem_singleton]; exact devRef_ne_of_ne this.1)]
      · rw [HloOp.result_of_not_mem _ _ hb]
    · exact ih hs.2 _ o ho

/-- The operations at the positions `is`. -/
def pick {α : Type _} (l : List α) (is : List ℕ) : List α := is.filterMap fun i => l[i]?

/-- `A` is left alone by every operation of the line. -/
def Fixed (ops : List (HloOp τ sig Val)) (A : Valuation τ sig Val) : Prop := ∀ is : List ℕ, after (pick ops is) A = A

theorem fixed_of {ops : List (HloOp τ sig Val)} {T} (hT : Table ops T) (hs : single T = true) (V : Valuation τ sig Val) : Fixed ops (after ops V) := by
  intro is
  have : ∀ L : List (HloOp τ sig Val), (∀ op ∈ L, op ∈ ops) → after L (after ops V) = after ops V := by
    intro L hL
    induction L with
    | nil => rfl
    | cons op L ih => rw [after_cons, result_eq hT hs V op (hL op (by simp)), ih fun o ho => hL o (by simp [ho])]
  refine this _ fun op h => ?_
  obtain ⟨i, _, hi⟩ := List.mem_filterMap.mp h
  exact List.mem_of_getElem? hi

end Cert.Line
-- ==== Proof.OutBwd.RefLine.lean ====
/-
  The reference's straight line of host operations, and that each of its buffers is written once and read only afterwards.
-/
module

public import proofs.«01_k».proof.Defs
public import proofs.«01_k».proof.Proof.Line
public import proofs.«01_k».proof.Proof.Gen.OutBwdRefIdeal

@[expose] public section

set_option maxRecDepth 16384

namespace Cert.OutBwdRefIdeal

open Idealize.ShloMosaic Idealize.ShloMosaic.StableHlo Idealize.SL.Sem Line

/-- The operations of the reference. -/
noncomputable def line : {ops : List (HloOp τ sig (Elt Ideal)) // ∀ d, IsSeq (main (F := Ideal) d) ops} := by
  apply Subtype.mk
  hlo_seq

/-- What each of them writes and reads. -/
noncomputable def table : {T : List (Ref sig .tc × List (Ref sig .tc)) // Table line.1 T} := by
  apply Subtype.mk
  repeat first
    | exact Table.nil
    | apply Table.cons (reads_nullary _ _ _)
    | apply Table.cons (reads_unary _ _ _ _ _)
    | apply Table.cons (reads_binary _ _ _ _ _ _ _)
    | apply Table.cons (reads_reshape _ _ _ _ _ _)
    | apply Table.cons (reads_ternary _ _ _ _ _ _ _ _ _)
    | apply Table.cons (reads_nary _ _ _ _ _)

theorem single_line : single table.1 = true := by decide +kernel

/-- The contents at the end, which every operation leaves alone. -/
theorem fixed (V : Valuation τ sig (Elt Ideal)) : Fixed line.1 (after line.1 V) := fixed_of table.2 single_line V

/-- The arguments are not written. -/
theorem kept (V : Valuation τ sig (Elt Ideal)) (r : Ref sig .tc) (h : table.1.all (fun e => e.1 != r) = true) :
    after line.1 V (Proc.devRef .tc r) = V (Proc.devRef .tc r) := after_keep table.2 h V

end Cert.OutBwdRefIdeal
-- ==== Proof.OutBwd.RefVal.lean ====
/-
  The reference's results over real arguments, read off its line stage by stage.
-/
module

public import proofs.«01_k».proof.Proof.OutBwd.RefLine
public import proofs.«01_k».proof.Proof.OutBwd.Real

@[expose] public section

set_option maxRecDepth 16384

namespace Cert.OutBwdRefIdeal

open Idealize.ShloMosaic Idealize.ShloMosaic.TcCoe Idealize.ShloMosaic.StableHlo Idealize.SL.Sem Line Lift Spec OutBwd

theorem c_8943 : (Ideal.ofBits .f32 0x460BBC00#32 : EReal) = ((8943 : ℝ) : EReal) := by
  rw [ofBits_lit _ (by decide), show lit 0x460BBC00#32 = 8943 by simp [lit, Ideal.ofBits, Ideal.ieee, -EReal.coe_mul]; norm_num]

theorem c_200000 : (Ideal.ofBits .f32 0x48435000#32 : EReal) = ((200000 : ℝ) : EReal) := by
  rw [ofBits_lit _ (by decide), show lit 0x48435000#32 = 200000 by simp [lit, Ideal.ofBits, Ideal.ieee, -EReal.coe_mul]; norm_num]

/-- The contents `A` at the end, the arguments being images of reals: `d` the cotangent, `W` the weight, `x` the gate's columns
    of the projection, `h` the states, `w` the norm's weight. -/
structure Reals (A : Valuation τ sig (Elt Ideal)) (d : Fin 2176 → Fin 1024 → ℝ) (W : Fin 2048 → Fin 1024 → ℝ)
    (x h : Fin 2176 → Fin 1024 → ℝ) (w : Fin 1024 → ℝ) : Prop where
  fixed : Fixed line.1 A
  d_eq : ∀ a k, A (↑main_arg5 : DevRef τ sig) (ix2 a k) = ((d a k : ℝ) : EReal)
  W_eq : ∀ r k, A (↑main_arg4 : DevRef τ sig) (ix2 r k) = ((W r k : ℝ) : EReal)
  x_eq : ∀ (a : Fin 2176) (k : Fin 1024), A (↑main_arg1 : DevRef τ sig) (ix2 a ⟨2576 + k.val, by omega⟩) = ((x a k : ℝ) : EReal)
  h_eq : ∀ a k, A (↑main_arg2 : DevRef τ sig) (ix2 a k) = ((h a k : ℝ) : EReal)
  w_eq : ∀ k, A (↑main_arg3 : DevRef τ sig) (ix2 0 k) = ((w k : ℝ) : EReal)

variable {A : Valuation τ sig (Elt Ideal)} {d : Fin 2176 → Fin 1024 → ℝ} {W : Fin 2048 → Fin 1024 → ℝ}
  {x h : Fin 2176 → Fin 1024 → ℝ} {w : Fin 1024 → ℝ} (H : Reals A d W x h w)
include H

theorem v3_at (a : Fin 2176) (k : Fin 1024) : A (↑main_v3 : DevRef τ sig) (ix2 a k) = ((x a k : ℝ) : EReal) := by
  refine (congrFun (congrFun (H.fixed [3]).symm _) _).trans ?_
  after_reads_at
  exact H.x_eq a k

theorem v16_at (a : Fin 2176) (k : Fin 1024) : A (↑main_v16 : DevRef τ sig) (ix2 a k) = ((geluTanh (x a k) : ℝ) : EReal) := by
  refine (congrFun (congrFun (H.fixed [5, 6, 7, 8, 9, 14, 15, 16, 17, 18, 19, 20]).symm _) _).trans ?_
  after_reads_at
  simp only [v3_at H, c_8943, c_200000, c_geluScale, ← EReal.coe_mul, ← EReal.coe_add,
    div_coe_coe _ (show (200000 : ℝ) ≠ 0 by norm_num), Ideal.tanh_coe]
  rfl

theorem v21_at (a : Fin 2176) (k : Fin 1024) : A (↑main_v21 : DevRef τ sig) (ix2 a k) = (((1 + geluTanh (x a k)) * (1 - geluTanh (x a k)) : ℝ) : EReal) := by
  refine (congrFun (congrFun (H.fixed [21, 22, 23, 24, 25, 26, 27]).symm _) _).trans ?_
  after_reads_at
  simp only [v16_at H, one_coe, ← EReal.coe_mul, ← EReal.coe_add, sub_coe]

theorem v25_at (a : Fin 2176) (k : Fin 1024) : A (↑main_v25 : DevRef τ sig) (ix2 a k) = ((1 / 2 * (1 + geluTanh (x a k)) : ℝ) : EReal) := by
  refine (congrFun (congrFun (H.fixed [28, 29, 30, 31, 32, 33]).symm _) _).trans ?_
  after_reads_at
  simp only [v16_at H, c_half, one_coe, ← EReal.coe_mul, ← EReal.coe_add]

theorem v26_at (a : Fin 2176) (k : Fin 1024) : A (↑main_v26 : DevRef τ sig) (ix2 a k) = ((gelu (x a k) : ℝ) : EReal) := by
  refine (congrFun (congrFun (H.fixed [34]).symm _) _).trans ?_
  after_reads_at
  simp only [v3_at H, v25_at H, ← EReal.coe_mul]
  refine congrArg _ ?_
  unfold gelu; ring

theorem v27_at (a : Fin 2176) (k : Fin 1024) : A (↑main_v27 : DevRef τ sig) (ix2 a k) = ((gelu (x a k) * h a k : ℝ) : EReal) := by
  refine (congrFun (congrFun (H.fixed [35]).symm _) _).trans ?_
  after_reads_at
  simp only [v26_at H, H.h_eq, ← EReal.coe_mul]

theorem v34_at (a : Fin 2176) : A (↑main_v34 : DevRef τ sig) (ix2 a 0) = ((((∑ k, gelu (x a k) * h a k * (gelu (x a k) * h a k)) / 1024 + eps) : ℝ) : EReal) := by
  refine (congrFun (congrFun (H.fixed [36, 37, 38, 39, 40, 41, 42, 43, 44, 45]).symm _) _).trans ?_
  after_reads_at
  simp only [v27_at H, c_1024, c_eps, ← EReal.coe_mul, ← EReal.coe_add, sum_coe,
    div_coe_coe _ (show (1024 : ℝ) ≠ 0 by norm_num)]

theorem v35_at (a : Fin 2176) : A (↑main_v35 : DevRef τ sig) (ix2 a 0) = ((rms (fun k => gelu (x a k) * h a k) : ℝ) : EReal) := by
  refine (congrFun (congrFun (H.fixed [46]).symm _) _).trans ?_
  after_reads_at
  simp only [v34_at H]
  exact rsqrt_coe_pos (rms_arg_pos (fun k => gelu (x a k) * h a k))

theorem v38_at (a : Fin 2176) : A (↑main_v38 : DevRef τ sig) (ix2 a 0) = ((-(1 / 2) * (rms (fun k => gelu (x a k) * h a k) / ((∑ k, gelu (x a k) * h a k * (gelu (x a k) * h a k)) / 1024 + eps)) : ℝ) : EReal) := by
  refine (congrFun (congrFun (H.fixed [47, 48, 49, 50]).symm _) _).trans ?_
  after_reads_at
  simp only [v34_at H, v35_at H, c_neg_half]
  rw [div_coe_coe _ (rms_arg_pos (fun k => gelu (x a k) * h a k)).ne']
  rfl

theorem v40_at (a : Fin 2176) (k : Fin 1024) : A (↑main_v40 : DevRef τ sig) (ix2 a k) = ((gelu (x a k) * h a k * rms (fun k => gelu (x a k) * h a k) : ℝ) : EReal) := by
  refine (congrFun (congrFun (H.fixed [51, 52]).symm _) _).trans ?_
  after_reads_at
  simp only [v27_at H, v35_at H, ← EReal.coe_mul]

theorem v46_at (a : Fin 2176) (k : Fin 1024) : A (↑main_v46 : DevRef τ sig) (ix2 a k) = ((∑ m, d a m * W ⟨0 + k.val, by omega⟩ m : ℝ) : EReal) := by
  refine (congrFun (congrFun (H.fixed [57, 58]).symm _) _).trans ?_
  after_reads_at
  simp only [H.d_eq, H.W_eq, ← EReal.coe_mul, sum_coe]

theorem v47_at (a : Fin 2176) (k : Fin 1024) : A (↑main_v47 : DevRef τ sig) (ix2 a k) = ((du d W a k : ℝ) : EReal) := by
  refine (congrFun (congrFun (H.fixed [57, 59]).symm _) _).trans ?_
  after_reads_at
  simp only [H.d_eq, H.W_eq, ← EReal.coe_mul, sum_coe]
  rfl

theorem v50_at (k : Fin 1024) : A (↑main_v50 : DevRef τ sig) (ix2 0 k) = ((∑ a, dwRow d W x h k a : ℝ) : EReal) := by
  refine (congrFun (congrFun (H.fixed [60, 61, 62, 63]).symm _) _).trans ?_
  after_reads_at
  simp only [v40_at H, v47_at H, ← EReal.coe_mul, sum_coe]
  refine congrArg _ ?_
  exact Finset.sum_congr rfl fun a _ => mul_comm _ _

theorem v52_at (a : Fin 2176) (k : Fin 1024) : A (↑main_v52 : DevRef τ sig) (ix2 a k) = ((du d W a k * w k : ℝ) : EReal) := by
  refine (congrFun (congrFun (H.fixed [64, 65]).symm _) _).trans ?_
  after_reads_at
  simp only [v47_at H, H.w_eq, ← EReal.coe_mul]

theorem v62_at (a : Fin 2176) (k : Fin 1024) : A (↑main_v62 : DevRef τ sig) (ix2 a k) = (((∑ j, gelu (x a j) * h a j * (du d W a j * w j)) * (-(1 / 2) * (rms (fun k => gelu (x a k) * h a k) / ((∑ k, gelu (x a k) * h a k * (gelu (x a k) * h a k)) / 1024 + eps))) / 1024 : ℝ) : EReal) := by
  refine (congrFun (congrFun (H.fixed [66, 67, 68, 69, 72, 73, 74, 75, 76, 77, 78]).symm _) _).trans ?_
  after_reads_at
  simp only [v27_at H, v52_at H, c_1024, ← EReal.coe_mul, sum_coe]
  simp only [Fin.sum_univ_one, v38_at H, ← EReal.coe_mul, div_coe_coe _ (show (1024 : ℝ) ≠ 0 by norm_num)]

theorem v66_at (a : Fin 2176) (k : Fin 1024) : A (↑main_v66 : DevRef τ sig) (ix2 a k) = ((rmsGrad (fun k => gelu (x a k) * h a k) (fun k => du d W a k * w k) k : ℝ) : EReal) := by
  refine (congrFun (congrFun (H.fixed [70, 71, 79, 80, 81, 82]).symm _) _).trans ?_
  after_reads_at
  simp only [v27_at H, v52_at H, v35_at H, v62_at H, ← EReal.coe_mul, ← EReal.coe_add]
  refine congrArg _ ?_
  exact rmsGrad_eq (fun k => gelu (x a k) * h a k) (fun k => du d W a k * w k) k

theorem v67_at (a : Fin 2176) (k : Fin 1024) : A (↑main_v67 : DevRef τ sig) (ix2 a k) = ((dhRow d W x h w a k : ℝ) : EReal) := by
  refine (congrFun (congrFun (H.fixed [83]).symm _) _).trans ?_
  after_reads_at
  simp only [v26_at H, v66_at H, ← EReal.coe_mul]
  refine congrArg _ ?_
  unfold dhRow; ring

theorem v75_at (a : Fin 2176) (k : Fin 1024) : A (↑main_v75 : DevRef τ sig) (ix2 a k) = ((geluScale * (1 / 2 * (x a k * (rmsGrad (fun k => gelu (x a k) * h a k) (fun k => du d W a k * w k) k * h a k)) * ((1 + geluTanh (x a k)) * (1 - geluTanh (x a k)))) : ℝ) : EReal) := by
  refine (congrFun (congrFun (H.fixed [84, 85, 87, 88, 89, 90, 91, 92, 93]).symm _) _).trans ?_
  after_reads_at
  simp only [v3_at H, v66_at H, H.h_eq, v21_at H, c_geluScale, c_half, ← EReal.coe_mul]

theorem v81_at (a : Fin 2176) (k : Fin 1024) : A (↑main_v81 : DevRef τ sig) (ix2 a k) = ((dgRow d W x h w a k : ℝ) : EReal) := by
  refine (congrFun (congrFun (H.fixed [5, 6, 7, 8, 10, 11, 12, 13, 84, 86, 94, 95, 96, 97, 98, 99]).symm _) _).trans ?_
  after_reads_at
  simp only [v3_at H, v66_at H, H.h_eq, v25_at H, v75_at H, c_8943, c_200000, c_three, ← EReal.coe_mul, ← EReal.coe_add,
    div_coe_coe _ (show (200000 : ℝ) ≠ 0 by norm_num)]
  refine congrArg _ ?_
  unfold dgRow geluD; ring

end Cert.OutBwdRefIdeal
-- ==== Proof.OutBwd.Finite.lean ====
/-
  The precondition read: every element of the arguments is the image of a real number.
-/
module

public import proofs.«01_k».proof.Proof.Lift
public import proofs.«01_k».proof.Proof.Gen.Pre_finite

@[expose] public section

set_option maxRecDepth 16384

namespace Cert.OutBwd

open Idealize.ShloMosaic Lift Pre_finite

theorem real_of_fn (a0 : FVec Ideal S2176x1024 .f32) (a1 : FVec Ideal S2176x4624 .f32) (a2 : FVec Ideal S2176x1024 .f32) (a3 : FVec Ideal S1x1024 .f32)
    (a4 : FVec Ideal S2048x1024 .f32) (a5 : FVec Ideal S2176x1024 .f32) (j : S_.Idx) (h : fn a0 a1 a2 a3 a4 a5 j = 1#1) :
    IsReal a1 ∧ IsReal a2 ∧ IsReal a3 ∧ IsReal a4 ∧ IsReal a5 := by
  have : Subsingleton S_.Idx := ⟨fun a b => funext fun i => i.elim0⟩
  unfold fn fn_part1 at h
  dsimp only at h
  obtain ⟨h, h5⟩ := and_split _ _ j h
  obtain ⟨h, h4⟩ := and_split _ _ j h
  obtain ⟨h, h3⟩ := and_split _ _ j h
  obtain ⟨h1, h2⟩ := and_split _ _ j h
  refine ⟨fun i => finite_of_reduce _ _ _ ?_ _ _ j h1 i, fun i => finite_of_reduce _ _ _ ?_ _ _ j h2 i,
    fun i => finite_of_reduce _ _ _ ?_ _ _ j h3 i, fun i => finite_of_reduce _ _ _ ?_ _ _ j h4 i, fun i => finite_of_reduce _ _ _ ?_ _ _ j h5 i⟩
  all_goals exact fun _ => ofBits_inf

end Cert.OutBwd
-- ==== Proof.OutBwd.Claims.lean ====
/-
  The claims about the output projection's gradient.
-/
module

public import proofs.«01_k».proof.Proof.Gen.OutBwd.Frame
public import proofs.«01_k».proof.Proof.OutBwd.Array
public import proofs.«01_k».proof.Proof.OutBwd.RefVal
public import proofs.«01_k».proof.Proof.OutBwd.Finite

@[expose] public section

set_option maxRecDepth 16384

open Idealize.ShloMosaic Idealize.ShloMosaic.TcCoe Idealize.SL.Sem Cert.Lift

namespace Cert.OutBwdRefIdeal

/-- The reference's run: every buffer ends at the line's value. -/
theorem ref_run (m : (ℓ : Loc nD τ sig) → Buf (Elt Ideal) ℓ)
    (ρ : Dev nD → PrngReg) :
    θ_run (defs (F := Ideal)) (onTc (τ := τ) (main (F := Ideal))) ⟨m, fun _ => 0, ρ⟩ fun r =>
      ∀ (d : Dev nD) (b : Ref sig .tc),
        r.2.mem ((d.tc : Thread _ _).loc b) = StableHlo.after line.1 (StableHlo.launchContents m d) (Proc.devRef .tc b) :=
  StableHlo.run_hlo _ _ line.2 (by decide) (by decide) (by unfold line; simp)
    (by unfold line; intro _ h; (repeat (cases h with | head => rfl | tail _ h => ?_)); exact nomatch h) m ρ

theorem ref_kept (m : (ℓ : Loc nD τ sig) → Buf (Elt Ideal) ℓ) (d : Dev nD)
    (b : Ref sig .tc) (h : table.1.all (fun e => e.1 != b) = true) :
    StableHlo.after line.1 (StableHlo.launchContents m d) (Proc.devRef .tc b) = m ((d.tc : Thread _ _).loc b) :=
  kept _ b h

end Cert.OutBwdRefIdeal

namespace Cert.OutBwdIdeal.Claims

open Cert.OutBwdRefIdeal (ref_run ref_kept)

theorem frame_kernel : Cert.quiescent_OutBwd := fun m ρ _ => OutBwd.Gen.frame m ρ
theorem frame_ideal : Cert.quiescent_OutBwdIdeal := fun m ρ _ => Gen.frame m ρ
theorem frame_ideal_pre : Cert.quiescent_OutBwdIdeal_pre_finite := fun m ρ _ => Gen.frame m ρ

theorem frame_ref : Cert.quiescent_OutBwdRefIdeal := fun m ρ _ =>
  (θ_run OutBwdRefIdeal.defs _ _).mono (fun r h => ⟨fun c =>
    by refine ⟨?_, ?_, ?_, ?_, ?_, ?_⟩ <;> exact (h c _).trans (ref_kept m c _ (by decide +kernel)),
    sem_eq_zero_of_no_sems (by decide) r.2⟩) (ref_run m ρ)

theorem frame_ref_pre : Cert.quiescent_OutBwdRefIdeal_pre_finite := fun m ρ _ => frame_ref m ρ trivial

theorem preserves : Cert.preserves_OutBwd_OutBwdIdeal :=
  ⟨IdealRules.named_const.statement _ "gelu_cubic" .f32 _ _ rfl, IdealRules.named_const.statement _ "gelu_cubic3" .f32 _ _ rfl⟩

section
variable (m : (ℓ : Loc nD τ sig) → Buf (Elt Ideal) ℓ)
  (m' : (ℓ : Loc OutBwdRefIdeal.nD OutBwdRefIdeal.τ OutBwdRefIdeal.sig) → Buf (Elt Ideal) ℓ) (c : Dev nD)

/-- The real arrays the arguments are images of. -/
def ct (a : Fin 2176) (k : Fin 1024) : ℝ := (m ((c : Thread nD τ).loc main_arg5) (ix2 a k) : EReal).toReal
def wout (a : Fin 2048) (k : Fin 1024) : ℝ := (m ((c : Thread nD τ).loc main_arg4) (ix2 a k) : EReal).toReal
def gate (a : Fin 2176) (k : Fin 1024) : ℝ := (m ((c : Thread nD τ).loc main_arg1) (ix2 a ⟨2576 + k.val, by omega⟩) : EReal).toReal
def hseq (a : Fin 2176) (k : Fin 1024) : ℝ := (m ((c : Thread nD τ).loc main_arg2) (ix2 a k) : EReal).toReal
def nw (k : Fin 1024) : ℝ := (m ((c : Thread nD τ).loc main_arg3) (ix2 0 k) : EReal).toReal

theorem args (hpre : Pre_OutBwdIdeal_finite m) : OutBwd.Array.Args m c (ct m c) (wout m c) (gate m c) (hseq m c) (nw m c) := by
  obtain ⟨h1, h2, h3, h4, h5⟩ := OutBwd.real_of_fn _ _ _ _ _ _ (fun i => i.elim0) (congrFun (hpre c) _)
  exact ⟨fun a k => (h5 _).symm, fun a k => (h4 _).symm, fun a k => (h1 _).symm, fun a k => (h2 _).symm, fun k => (h3 _).symm⟩

/-- The reference's buffers after its run are images of the same real arrays. -/
theorem reals (hpre : Pre_OutBwdIdeal_finite m)
    (h1 : m' ((c.tc : Thread OutBwdRefIdeal.nD OutBwdRefIdeal.τ).loc OutBwdRefIdeal.main_arg1) = m ((c.tc : Thread nD τ).loc main_arg1))
    (h2 : m' ((c.tc : Thread OutBwdRefIdeal.nD OutBwdRefIdeal.τ).loc OutBwdRefIdeal.main_arg2) = m ((c.tc : Thread nD τ).loc main_arg2))
    (h3 : m' ((c.tc : Thread OutBwdRefIdeal.nD OutBwdRefIdeal.τ).loc OutBwdRefIdeal.main_arg3) = m ((c.tc : Thread nD τ).loc main_arg3))
    (h4 : m' ((c.tc : Thread OutBwdRefIdeal.nD OutBwdRefIdeal.τ).loc OutBwdRefIdeal.main_arg4) = m ((c.tc : Thread nD τ).loc main_arg4))
    (h5 : m' ((c.tc : Thread OutBwdRefIdeal.nD OutBwdRefIdeal.τ).loc OutBwdRefIdeal.main_arg5) = m ((c.tc : Thread nD τ).loc main_arg5)) :
    OutBwdRefIdeal.Reals (StableHlo.after OutBwdRefIdeal.line.1 (StableHlo.launchContents m' c)) (ct m c) (wout m c) (gate m c) (hseq m c) (nw m c) := by
  have H := args m c hpre
  exact ⟨OutBwdRefIdeal.fixed _,
    fun a k => ((congrFun ((ref_kept m' c _ (by decide +kernel)).trans h5) _).trans (H.d_eq a k)),
    fun a k => ((congrFun ((ref_kept m' c _ (by decide +kernel)).trans h4) _).trans (H.W_eq a k)),
    fun a k => ((congrFun ((ref_kept m' c _ (by decide +kernel)).trans h1) _).trans (H.x_eq a k)),
    fun a k => ((congrFun ((ref_kept m' c _ (by decide +kernel)).trans h2) _).trans (H.h_eq a k)),
    fun k => ((congrFun ((ref_kept m' c _ (by decide +kernel)).trans h3) _).trans (H.w_eq k))⟩

end

/-- The kernel and the reference compute the same four gradients. -/
theorem algebraic : Cert.algebraic_OutBwdIdeal_OutBwdRefIdeal_pre_finite := by
  intro m g m' g' hpre hagree
  refine ⟨_, _, _, _, Value.run_blocks m g, (θ_run OutBwdRefIdeal.defs _ _).mono (fun r h c => ?_) (ref_run m' g')⟩
  obtain ⟨_, h1, h2, h3, h4, h5⟩ := hagree c
  have H := args m c hpre
  have R := reals m m' c hpre h1 h2 h3 h4 h5
  have q := fun b hb => (h c b).trans (ref_kept m' c b hb)
  refine ⟨(h c _).trans ?_, (h c _).trans ?_, (h c _).trans ?_, (h c _).trans ?_,
    q _ (by decide +kernel), q _ (by decide +kernel), q _ (by decide +kernel),
    q _ (by decide +kernel), q _ (by decide +kernel), q _ (by decide +kernel)⟩
  · funext i
    obtain ⟨a, k, rfl⟩ : ∃ (a : Fin 2176) (k : Fin 1024), i = ix2 a k := ⟨i 0, i 1, eq_ix2 i⟩
    exact (OutBwdRefIdeal.v46_at R a k).trans (OutBwd.Array.arr5 H a k).symm
  · funext i
    obtain ⟨a, k, rfl⟩ : ∃ (a : Fin 2176) (k : Fin 1024), i = ix2 a k := ⟨i 0, i 1, eq_ix2 i⟩
    exact (OutBwdRefIdeal.v67_at R a k).trans (OutBwd.Array.arr6 H a k).symm
  · funext i
    obtain ⟨a, k, rfl⟩ : ∃ (a : Fin 2176) (k : Fin 1024), i = ix2 a k := ⟨i 0, i 1, eq_ix2 i⟩
    exact (OutBwdRefIdeal.v81_at R a k).trans (OutBwd.Array.arr7 H a k).symm
  · funext i
    obtain ⟨a, k, rfl⟩ : ∃ (a : Fin 1) (k : Fin 1024), i = ix2 a k := ⟨i 0, i 1, eq_ix2 i⟩
    obtain rfl : a = 0 := Subsingleton.elim _ _
    exact (OutBwdRefIdeal.v50_at R k).trans (OutBwd.Array.arr8 H k).symm

end Cert.OutBwdIdeal.Claims
-- ==== Proof.Loss.Loop.lean ====
/-
  The loop of the loss call: the residual stream and the product with the down projection, 512 columns a trip, into the
  kernel's first scratch buffer. Its invariant at the algebra the transfers run in.
-/
module

public import proofs.«01_k».proof.Proof.Gen.LossIdeal.Frame
public import proofs.«01_k».proof.Proof.Gen.LossIdeal.Loops

@[expose] public section

set_option maxRecDepth 16384

noncomputable section

namespace Cert.LossIdeal.Hand

open LossIdeal LossIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The scratch buffers and the targets, which stay outside the windows: whole buffers, the same at every point. -/
abbrev hM : Memref sig .tc .vmem S544x1024 .f32 := Memref.whole cc0_scratch0
abbrev tM : Memref sig .tc .vmem S544x1024 .f32 := Memref.whole cc0_scratch1
abbrev targetM : Memref sig .tc .hbm S2048x1024 .f32 := Memref.whole main_arg3
abbrev whole {sp : Space} {S : Shape} {e : EltTy} (c : Dev nD) (M : Memref sig .tc sp S e) (f : Buf (Elt F) (M.view.loc (c : Thread nD τ))) : sProp 𝕄 :=
  M.view.loc (c : Thread nD τ) ↦[M.view.set]{fullShare} f

/-- The windows' buffers at one point. -/
structure Bufs where
  act : Memref sig .tc .vmem S544x2816 .bf16
  hact : act.IsWhole
  w : Memref sig .tc .vmem S2816x1024 .bf16
  hw : w.IsWhole
  h1 : Memref sig .tc .vmem S544x1024 .f32
  hh1 : h1.IsWhole
  wf : Memref sig .tc .vmem S1x1024 .f32
  hwf : wf.IsWhole
  d : Memref sig .tc .vmem S544x1024 .f32
  hd : d.IsWhole
  db : Memref sig .tc .vmem S544x1024 .bf16
  hdb : db.IsWhole
  l : Memref sig .tc .vmem S1x128 .f32
  hl : l.IsWhole
  dw : Memref sig .tc .vmem S1x1024 .f32
  hdw : dw.IsWhole

section
variable (c : Dev nD) (i : grid0.Coords) (B : Bufs)

/-- One trip's region on the buffers the call passes. -/
abbrev region : Fin k0_t1_loop.trips → Unit → Prog (TpuEff nD τ sig (Elt F) Λ₀ .tc) Unit :=
  k0_t1_body (F := F) i B.act B.hact B.w B.hw B.h1 B.hh1 targetM (Memref.isWhole_whole _) B.wf B.hwf B.d B.hd B.db B.hdb B.l B.hl B.dw B.hdw hM (Memref.isWhole_whole _) tM (Memref.isWhole_whole _) cc0_scratch2

/-- What a trip reads and what it writes. -/
abbrev tripRes (X : BufTy.Contents (Elt F) B.act.view.ty) (W : BufTy.Contents (Elt F) B.w.view.ty) (H : BufTy.Contents (Elt F) B.h1.view.ty)
    (f : BufTy.Contents (Elt F) (hM).view.ty) : sProp 𝕄 :=
  iprop(whole c B.act X ∗ whole c B.w W ∗ whole c B.h1 H ∗ whole c hM f)

/-- The piece trip `k` writes. -/
abbrev piece (X : BufTy.Contents (Elt F) B.act.view.ty) (W : BufTy.Contents (Elt F) B.w.view.ty) (H : BufTy.Contents (Elt F) B.h1.view.ty)
    (k : Fin k0_t1_loop.trips) : View.Piece (Elt F) S544x1024 .f32 :=
  ⟨Rect.unit (s := S544x1024) (k0_off2 k) S544x512.size (k0_off2_inb k),
    k0_pay7 (B.h1.view.readAt (Elt F) (Rect.unit (s := S544x1024) (k0_off2 k) S544x512.size (k0_off2_inb k)).toLoadRect H)
      (B.act.view.readAt (Elt F) (Rect.unit (s := S544x2816) ![0, 0] S544x2816.size inb_S544x2816_S544x2816_0_0).toLoadRect X)
      (B.w.view.readAt (Elt F) (Rect.unit (s := S2816x1024) (k0_off3 k) S2816x512.size (k0_off3_inb k)).toLoadRect W)⟩

theorem trip (X : BufTy.Contents (Elt F) B.act.view.ty) (W : BufTy.Contents (Elt F) B.w.view.ty) (H : BufTy.Contents (Elt F) B.h1.view.ty)
    (k : Fin k0_t1_loop.trips) (E : Set ℕ) (f : BufTy.Contents (Elt F) (hM).view.ty) :
    tripRes c B X W H f
      ⊢ wp frame (wpE (defs₀ (F := F)) Variants.none (c : Thread nD τ) none) E (region i B k PUnit.unit)
          (fun _ => tripRes c B X W H ((hM).view.writes (Elt F) f [piece B X W H k])) := by
  have hk : k.val < 2 := Nat.lt_of_lt_of_le k.isLt k0_t1_abs.2.1
  unfold region k0_t1_body
  iintro ⟨HX, HW, HH, Hf⟩
  sl_exec
  sl_step
  sl_close

/-- The pieces of the trips before `k`, the last first. -/
def pieces (X : BufTy.Contents (Elt F) B.act.view.ty) (W : BufTy.Contents (Elt F) B.w.view.ty) (H : BufTy.Contents (Elt F) B.h1.view.ty) :
    ℕ → List (View.Piece (Elt F) S544x1024 .f32)
  | 0 => []
  | k + 1 => if h : k < k0_t1_loop.trips then piece B X W H ⟨k, h⟩ :: pieces X W H k else pieces X W H k

theorem pieces_succ (X : BufTy.Contents (Elt F) B.act.view.ty) (W : BufTy.Contents (Elt F) B.w.view.ty) (H : BufTy.Contents (Elt F) B.h1.view.ty)
    (k : Fin k0_t1_loop.trips) : pieces B X W H (k.val + 1) = piece B X W H k :: pieces B X W H k.val := by
  rw [pieces]; exact dif_pos k.isLt

set_option warn.classDefReducibility false in
/-- The loop: before trip `k` the scratch holds the earlier trips' pieces over what it held at entry. -/
@[sl_loop] def loopInv (E : Set ℕ) (X : BufTy.Contents (Elt F) B.act.view.ty) (W : BufTy.Contents (Elt F) B.w.view.ty)
    (H : BufTy.Contents (Elt F) B.h1.view.ty) (G : BufTy.Contents (Elt F) (hM).view.ty) :
    LoopInvTy_k0_t1 (F := F) Unit ℕ (Pipeline.UD sig nD τ) ℕ Variants.none c none E i B.act B.hact B.w B.hw B.h1 B.hh1 targetM (Memref.isWhole_whole _) B.wf B.hwf B.d B.hd
      B.db B.hdb B.l B.hl B.dw B.hdw hM (Memref.isWhole_whole _) tM (Memref.isWhole_whole _) cc0_scratch2 where
  inv k _ := iprop(whole c B.act X ∗ whole c B.w W ∗ whole c B.h1 H
    ∗ ∃ f, whole c hM f ∗ ⌜f = (hM).view.writes (Elt F) G (pieces B X W H k)⌝)
  step k acc := by
    iintro ⟨HX, HW, HH, ⟨%f, Hf, %hf⟩⟩
    iapply (wp_wand_r Idealize.ShloMosaic.frame (wpE (defs₀ (F := F)) Variants.none (c : Thread nD τ) none) E)
    isplitl [HX HW HH Hf]
    · iapply (trip c i B X W H k E f)
      isplitl [HX]; · iexact HX
      isplitl [HW]; · iexact HW
      isplitl [HH]; · iexact HH
      iexact Hf
    · iintro %_ ⟨HX, HW, HH, Hf⟩
      isplitl [HX]; · iexact HX
      isplitl [HW]; · iexact HW
      isplitl [HH]; · iexact HH
      iexists _; isplitl [Hf]; · iexact Hf
      ipureintro; rw [hf, pieces_succ, ← View.writes_append]; rfl

end

end Cert.LossIdeal.Hand

end
-- ==== Proof.Loss.Run.lean ====
/-
  The body of the loss call, run once at the first point and once at a later point.
-/
module

public import proofs.«01_k».proof.Proof.Loss.Loop

@[expose] public section

set_option maxRecDepth 16384

noncomputable section

namespace Cert.LossIdeal.Hand

open LossIdeal LossIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The point is the first. -/
abbrev first (i : grid0.Coords) : Prop := Scalar.cmpi .ne (Scalar.extui (Scalar.cmpi .eq (BitVec.ofNat 32 (i 0).val) 0#32) : BitVec 32) 0#32 = 1#1

/-- The body on a point's buffers. -/
abbrev prog (i : grid0.Coords) (B : Bufs) : Prog (TpuEff nD τ sig (Elt F) Λ₀ .tc) PUnit :=
  cc0_down_loss i B.act B.hact B.w B.hw B.h1 B.hh1 targetM (Memref.isWhole_whole _) B.wf B.hwf B.d B.hd B.db B.hdb B.l B.hl B.dw B.hdw
    hM (Memref.isWhole_whole _) tM (Memref.isWhole_whole _) cc0_scratch2

/-- A buffer owned at some contents. -/
abbrev some {sp : Space} {S : Shape} {e : EltTy} (c : Dev nD) (M : Memref sig .tc sp S e) : sProp 𝕄 := iprop(∃ d, owns (c : Thread nD τ) M fullShare d)

/-- The input windows at their blocks. -/
abbrev inputs (c : Dev nD) (B : Bufs) (x : Vec F S544x2816 .bf16) (xw : Vec F S2816x1024 .bf16) (xh : Vec F S544x1024 .f32) (xf : Vec F S1x1024 .f32) : sProp 𝕄 :=
  iprop(owns (c : Thread nD τ) B.act fullShare x ∗ owns (c : Thread nD τ) B.w fullShare xw ∗ owns (c : Thread nD τ) B.h1 fullShare xh ∗ owns (c : Thread nD τ) B.wf fullShare xf)

/-- What the kernel keeps between the points: its two scratch buffers, its semaphore at zero, the targets. -/
abbrev kept (c : Dev nD) (xt : Buf (Elt F) ((targetM).view.loc (c : Thread nD τ))) : sProp 𝕄 :=
  iprop((some c hM ∗ some c tM) ∗ semVal ((c : Thread nD τ), SemLoc.dma cc0_scratch2.sem) 0 ∗ whole c targetM xt)

/-- A buffer with pieces written over unknown contents. -/
abbrev written {sp : Space} {S : Shape} {e : EltTy} (c : Dev nD) (M : Memref sig .tc sp S e) (L : List (View.Piece (Elt F) S e)) : sProp 𝕄 :=
  iprop(∃ f, M.view.loc (c : Thread nD τ) ↦[M.view.set]{fullShare} M.view.writes (Elt F) f L)

section
variable (c : Dev nD) (i : grid0.Coords) (B : Bufs) (x : Vec F S544x2816 .bf16) (xw : Vec F S2816x1024 .bf16) (xh : Vec F S544x1024 .f32)
  (xf : Vec F S1x1024 .f32) (xt : Buf (Elt F) ((targetM).view.loc (c : Thread nD τ)))

/-- The end of a run: the inputs and what is kept as they were, each output with its pieces. -/
abbrev ended (L4 : List (View.Piece (Elt F) S544x1024 .f32)) (L5 : List (View.Piece (Elt F) S544x1024 .bf16)) (L6 : List (View.Piece (Elt F) S1x128 .f32))
    (L7 : List (View.Piece (Elt F) S1x1024 .f32)) : sProp 𝕄 :=
  iprop(inputs c B x xw xh xf ∗ kept c xt ∗ (∃ W', owes (c : Thread nD τ) 0 W') ∗ written c B.d L4 ∗ written c B.db L5 ∗ written c B.l L6 ∗ written c B.dw L7)

set_option backward.proofsInPublic true in
set_option maxHeartbeats 1000000 in
/-- The first point: what the body leaves in its four results, found by running it. -/
def runA (h0 : first i) (h3 : ¬ k0_cond3 i = 1#1) (h5 : ¬ k0_cond5 i = 1#1) :
    Σ' (L4 : List (View.Piece (Elt F) S544x1024 .f32)), Σ' (L5 : List (View.Piece (Elt F) S544x1024 .bf16)), Σ' (L6 : List (View.Piece (Elt F) S1x128 .f32)),
      { L7 : List (View.Piece (Elt F) S1x1024 .f32) // ∀ (W : Waits sig Unit) (K : PUnit → sProp 𝕄),
        iprop(inputs c B x xw xh xf ∗ kept c xt ∗ owes (c : Thread nD τ) 0 W ∗ (some c B.d ∗ some c B.db ∗ some c B.l ∗ some c B.dw)
            ∗ (ended c B x xw xh xf xt L4 L5 L6 L7 -∗ K ⟨⟩))
          ⊢ wp frame (wpE (defs₀ (F := F)) Variants.none c none) Set.univ (prog i B) K } := by
  refine ⟨?_, ?_, ?_, ?_, fun W K => ?run⟩
  case run =>
    unfold prog; simp only [cc0_down_loss_eq_skeleton]; unfold cc0_down_loss_skel
    simp only [k0_part1_eq_skeleton, k0_part2_eq_skeleton, k0_part3_eq_skeleton, k0_part4_eq_skeleton]
    unfold ended inputs kept some owns
    iintro ⟨⟨⟨%f0, %hf0, H0⟩, ⟨%f1, %hf1, H1⟩, ⟨%f2, %hf2, H2⟩, ⟨%f3, %hf3, H3⟩⟩, ⟨⟨⟨%d8, %fs, -, HS⟩, ⟨%d9, %ft, -, HT⟩⟩, Hq, Hh⟩, HW, ⟨⟨%d4, %f4, -, H4⟩, ⟨%d5, %f5, -, H5⟩, ⟨%d6, %f6, -, H6⟩, ⟨%d7, %f7, -, H7⟩⟩, Hk⟩
    obtain rfl := B.hact.eq_unread hf0; obtain rfl := B.hw.eq_unread hf1; obtain rfl := B.hh1.eq_unread hf2; obtain rfl := B.hwf.eq_unread hf3
    sl_exec (disch := first | sl_exact h0 | sl_exact h3 | sl_exact h5)
    sl_step
    iapply Hk
    isplitl [H0 H1 H2 H3]
    · isplitl [H0]
      · iexists _; isplitr; · ipureintro; exact B.hact.read_unread _
        iexact H0
      isplitl [H1]
      · iexists _; isplitr; · ipureintro; exact B.hw.read_unread _
        iexact H1
      isplitl [H2]
      · iexists _; isplitr; · ipureintro; exact B.hh1.read_unread _
        iexact H2
      iexists _; isplitr; · ipureintro; exact B.hwf.read_unread _
      iexact H3
    isplitl [HS HT Hq Hh]
    · isplitl [HS HT]
      · isplitl [HS]
        · iexists _, _; isplitr; swap; · iexact HS
          ipureintro; rfl
        iexists _, _; isplitr; swap; · iexact HT
        ipureintro; rfl
      iframe Hq Hh
    isplitl [HW]; · iexists _; iexact HW
    isplitl [H4]; · iexists _; iexact H4
    isplitl [H5]; · iexists _; iexact H5
    isplitl [H6]; · iexists _; iexact H6
    iexists _; iexact H7

set_option backward.proofsInPublic true in
set_option maxHeartbeats 1000000 in
/-- A later point: the loss and the weight's gradient are added to what the point before left. -/
def runB (h0 : ¬ first i) (h3 : k0_cond3 i = 1#1) (h5 : k0_cond5 i = 1#1) (xl : Vec F S1x128 .f32) (xd : Vec F S1x1024 .f32) :
    Σ' (L4 : List (View.Piece (Elt F) S544x1024 .f32)), Σ' (L5 : List (View.Piece (Elt F) S544x1024 .bf16)), Σ' (L6 : List (View.Piece (Elt F) S1x128 .f32)),
      { L7 : List (View.Piece (Elt F) S1x1024 .f32) // ∀ (W : Waits sig Unit) (K : PUnit → sProp 𝕄),
        iprop(inputs c B x xw xh xf ∗ kept c xt ∗ owes (c : Thread nD τ) 0 W
            ∗ (some c B.d ∗ some c B.db ∗ owns (c : Thread nD τ) B.l fullShare xl ∗ owns (c : Thread nD τ) B.dw fullShare xd)
            ∗ (ended c B x xw xh xf xt L4 L5 L6 L7 -∗ K ⟨⟩))
          ⊢ wp frame (wpE (defs₀ (F := F)) Variants.none c none) Set.univ (prog i B) K } := by
  refine ⟨?_, ?_, ?_, ?_, fun W K => ?run⟩
  case run =>
    unfold prog; simp only [cc0_down_loss_eq_skeleton]; unfold cc0_down_loss_skel
    simp only [k0_part1_eq_skeleton, k0_part2_eq_skeleton, k0_part3_eq_skeleton, k0_part4_eq_skeleton]
    unfold ended inputs kept some owns
    iintro ⟨⟨⟨%f0, %hf0, H0⟩, ⟨%f1, %hf1, H1⟩, ⟨%f2, %hf2, H2⟩, ⟨%f3, %hf3, H3⟩⟩, ⟨⟨⟨%d8, %fs, -, HS⟩, ⟨%d9, %ft, -, HT⟩⟩, Hq, Hh⟩, HW, ⟨⟨%d4, %f4, -, H4⟩, ⟨%d5, %f5, -, H5⟩, ⟨%f6, %hf6, H6⟩, ⟨%f7, %hf7, H7⟩⟩, Hk⟩
    obtain rfl := B.hact.eq_unread hf0; obtain rfl := B.hw.eq_unread hf1; obtain rfl := B.hh1.eq_unread hf2; obtain rfl := B.hwf.eq_unread hf3
    obtain rfl := B.hl.eq_unread hf6; obtain rfl := B.hdw.eq_unread hf7
    sl_exec (disch := first | sl_exact h0 | sl_exact h3 | sl_exact h5)
    sl_step
    iapply Hk
    isplitl [H0 H1 H2 H3]
    · isplitl [H0]
      · iexists _; isplitr; · ipureintro; exact B.hact.read_unread _
        iexact H0
      isplitl [H1]
      · iexists _; isplitr; · ipureintro; exact B.hw.read_unread _
        iexact H1
      isplitl [H2]
      · iexists _; isplitr; · ipureintro; exact B.hh1.read_unread _
        iexact H2
      iexists _; isplitr; · ipureintro; exact B.hwf.read_unread _
      iexact H3
    isplitl [HS HT Hq Hh]
    · isplitl [HS HT]
      · isplitl [HS]
        · iexists _, _; isplitr; swap; · iexact HS
          ipureintro; rfl
        iexists _, _; isplitr; swap; · iexact HT
        ipureintro; rfl
      iframe Hq Hh
    isplitl [HW]; · iexists _; iexact HW
    isplitl [H4]; · iexists _; iexact H4
    isplitl [H5]; · iexists _; iexact H5
    isplitl [H6]; · iexists _; iexact H6
    iexists _; iexact H7

end

end Cert.LossIdeal.Hand

end
-- ==== Proof.Loss.Frame.lean ====
/-
  The run of the loss call: its pipeline's proof data, the body at a generic point, the launch, the frame.
-/
module

public import proofs.«01_k».proof.Proof.Loss.Run

@[expose] public section

set_option maxRecDepth 16384

noncomputable section

namespace Cert.LossIdeal.Hand

open LossIdeal LossIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## What a point leaves -/

/-- The four results' blocks. -/
structure Outs (F : FTy → Type) where
  d : Vec F S544x1024 .f32
  db : Vec F S544x1024 .bf16
  l : Vec F S1x128 .f32
  dw : Vec F S1x1024 .f32

/-- Contents are read through one buffer of each window: any buffer that the pieces cover reads the same. -/
abbrev viewD : View sig .tc .vmem S544x1024 .f32 := (Memref.whole cc0_stg4_0 : Memref sig .tc .vmem S544x1024 .f32).view
abbrev viewDb : View sig .tc .vmem S544x1024 .bf16 := (Memref.whole cc0_stg5_0 : Memref sig .tc .vmem S544x1024 .bf16).view
abbrev viewL : View sig .tc .vmem S1x128 .f32 := (Memref.whole cc0_stg6_0 : Memref sig .tc .vmem S1x128 .f32).view
abbrev viewDw : View sig .tc .vmem S1x1024 .f32 := (Memref.whole cc0_stg7_0 : Memref sig .tc .vmem S1x1024 .f32).view

/-- Pieces read back. -/
abbrev filled {S : Shape} {e : EltTy} (v : View sig .tc .vmem S e) (L : List (View.Piece (Elt F) S e)) : Vec F S e :=
  v.read (Elt F) (v.writes (Elt F) v.junk L)

section
variable (c : Dev nD) (i : grid0.Coords) (B : Bufs) (x : Vec F S544x2816 .bf16) (xw : Vec F S2816x1024 .bf16) (xh : Vec F S544x1024 .f32)
  (xf : Vec F S1x1024 .f32) (xt : Buf (Elt F) ((targetM).view.loc (c : Thread nD τ)))

/-- The results owned at `o`. -/
abbrev outputs (o : Outs F) : sProp 𝕄 :=
  iprop(owns (c : Thread nD τ) B.d fullShare o.d ∗ owns (c : Thread nD τ) B.db fullShare o.db ∗ owns (c : Thread nD τ) B.l fullShare o.l ∗ owns (c : Thread nD τ) B.dw fullShare o.dw)

def outsA (h0 : first i) (h3 : ¬ k0_cond3 i = 1#1) (h5 : ¬ k0_cond5 i = 1#1) : Outs F :=
  ⟨filled viewD (runA c i B x xw xh xf xt h0 h3 h5).1, filled viewDb (runA c i B x xw xh xf xt h0 h3 h5).2.1,
    filled viewL (runA c i B x xw xh xf xt h0 h3 h5).2.2.1, filled viewDw (runA c i B x xw xh xf xt h0 h3 h5).2.2.2.1⟩

def outsB (h0 : ¬ first i) (h3 : k0_cond3 i = 1#1) (h5 : k0_cond5 i = 1#1) (xl : Vec F S1x128 .f32) (xd : Vec F S1x1024 .f32) : Outs F :=
  ⟨filled viewD (runB c i B x xw xh xf xt h0 h3 h5 xl xd).1, filled viewDb (runB c i B x xw xh xf xt h0 h3 h5 xl xd).2.1,
    filled viewL (runB c i B x xw xh xf xt h0 h3 h5 xl xd).2.2.1, filled viewDw (runB c i B x xw xh xf xt h0 h3 h5 xl xd).2.2.2.1⟩

/-- A buffer whose pieces cover it is owned at the pieces read back. -/
theorem owns_of_written {S : Shape} {e : EltTy} (M : Memref sig .tc .vmem S e) (v : View sig .tc .vmem S e) (L : List (View.Piece (Elt F) S e))
    (hc : ∀ y, ∃ p ∈ L, y ∈ p.1.set) : (written c M L : sProp 𝕄) ⊢ owns (c : Thread nD τ) M fullShare (filled v L) := by
  unfold written owns
  iintro ⟨%f, H⟩
  iexists _; isplitr; swap; · iexact H
  ipureintro; exact View.read_writes_of_cover _ _ _ _ _ hc

theorem bodyA (h0 : first i) (h3 : ¬ k0_cond3 i = 1#1) (h5 : ¬ k0_cond5 i = 1#1) (W : Waits sig Unit) (K : PUnit → sProp 𝕄) :
    iprop(inputs c B x xw xh xf ∗ kept c xt ∗ owes (c : Thread nD τ) 0 W ∗ (some c B.d ∗ some c B.db ∗ some c B.l ∗ some c B.dw)
        ∗ (iprop(inputs c B x xw xh xf ∗ kept c xt ∗ (∃ W', owes (c : Thread nD τ) 0 W') ∗ outputs c B (outsA c i B x xw xh xf xt h0 h3 h5)) -∗ K ⟨⟩))
      ⊢ wp frame (wpE (defs₀ (F := F)) Variants.none c none) Set.univ (prog i B) K := by
  unfold outputs outsA; dsimp only
  iintro ⟨Hi, Hs, HW, Ho, Hk⟩
  iapply ((runA c i B x xw xh xf xt h0 h3 h5).2.2.2.2 W K)
  iframe Hi Hs HW Ho
  unfold ended
  iintro ⟨Hi, Hs, HW, H4, H5, H6, H7⟩
  iapply Hk
  iframe Hi Hs HW
  isplitl [H4]; · iapply (owns_of_written c B.d viewD _ (View.cover_of_tiledL (s := S544x1024) _ S272x1024.size (by sl_kernel_rfl))); iexact H4
  isplitl [H5]; · iapply (owns_of_written c B.db viewDb _ (View.cover_of_tiledL (s := S544x1024) _ S272x1024.size (by sl_kernel_rfl))); iexact H5
  isplitl [H6]; · iapply (owns_of_written c B.l viewL _ (View.cover_of_tiledL (s := S1x128) _ S1x128.size (by sl_kernel_rfl))); iexact H6
  iapply (owns_of_written c B.dw viewDw _ (View.cover_of_tiledL (s := S1x1024) _ S1x1024.size (by sl_kernel_rfl))); iexact H7

theorem bodyB (h0 : ¬ first i) (h3 : k0_cond3 i = 1#1) (h5 : k0_cond5 i = 1#1) (xl : Vec F S1x128 .f32) (xd : Vec F S1x1024 .f32) (W : Waits sig Unit)
    (K : PUnit → sProp 𝕄) :
    iprop(inputs c B x xw xh xf ∗ kept c xt ∗ owes (c : Thread nD τ) 0 W
        ∗ (some c B.d ∗ some c B.db ∗ owns (c : Thread nD τ) B.l fullShare xl ∗ owns (c : Thread nD τ) B.dw fullShare xd)
        ∗ (iprop(inputs c B x xw xh xf ∗ kept c xt ∗ (∃ W', owes (c : Thread nD τ) 0 W') ∗ outputs c B (outsB c i B x xw xh xf xt h0 h3 h5 xl xd)) -∗ K ⟨⟩))
      ⊢ wp frame (wpE (defs₀ (F := F)) Variants.none c none) Set.univ (prog i B) K := by
  unfold outputs outsB; dsimp only
  iintro ⟨Hi, Hs, HW, Ho, Hk⟩
  iapply ((runB c i B x xw xh xf xt h0 h3 h5 xl xd).2.2.2.2 W K)
  iframe Hi Hs HW Ho
  unfold ended
  iintro ⟨Hi, Hs, HW, H4, H5, H6, H7⟩
  iapply Hk
  iframe Hi Hs HW
  isplitl [H4]; · iapply (owns_of_written c B.d viewD _ (View.cover_of_tiledL (s := S544x1024) _ S272x1024.size (by sl_kernel_rfl))); iexact H4
  isplitl [H5]; · iapply (owns_of_written c B.db viewDb _ (View.cover_of_tiledL (s := S544x1024) _ S272x1024.size (by sl_kernel_rfl))); iexact H5
  isplitl [H6]; · iapply (owns_of_written c B.l viewL _ (View.cover_of_tiledL (s := S1x128) _ S1x128.size (by sl_kernel_rfl))); iexact H6
  iapply (owns_of_written c B.dw viewDw _ (View.cover_of_tiledL (s := S1x1024) _ S1x1024.size (by sl_kernel_rfl))); iexact H7

end

/-! ## The points -/

theorem first_iff : ∀ t : Fin cfg0.N, first (grid0.coords t) ↔ t.val % 4 = 0 :=
  (by decide +kernel : ∀ t : Fin grid0.N, first (grid0.coords t) ↔ t.val % 4 = 0)
theorem later3_iff : ∀ t : Fin cfg0.N, k0_cond3 (grid0.coords t) = 1#1 ↔ ¬ t.val % 4 = 0 :=
  (by decide +kernel : ∀ t : Fin grid0.N, k0_cond3 (grid0.coords t) = 1#1 ↔ ¬ t.val % 4 = 0)
theorem later5_iff : ∀ t : Fin cfg0.N, k0_cond5 (grid0.coords t) = 1#1 ↔ ¬ t.val % 4 = 0 :=
  (by decide +kernel : ∀ t : Fin grid0.N, k0_cond5 (grid0.coords t) = 1#1 ↔ ¬ t.val % 4 = 0)

/-- The buffers the pipeline passes at point `t`. -/
def bufs (t : Fin cfg0.N) : Bufs where
  act := win0_0.stage (cfg0.slots t 0)
  hact := hstage0_0 ((cfg0.slots t 0).cast nbuf0_0)
  w := win0_1.stage (cfg0.slots t 1)
  hw := hstage0_1 ((cfg0.slots t 1).cast nbuf0_1)
  h1 := win0_2.stage (cfg0.slots t 2)
  hh1 := hstage0_2 ((cfg0.slots t 2).cast nbuf0_2)
  wf := win0_3.stage (cfg0.slots t 3)
  hwf := hstage0_3 ((cfg0.slots t 3).cast nbuf0_3)
  d := win0_4.stage (cfg0.slots t 4)
  hd := hstage0_4 ((cfg0.slots t 4).cast nbuf0_4)
  db := win0_5.stage (cfg0.slots t 5)
  hdb := hstage0_5 ((cfg0.slots t 5).cast nbuf0_5)
  l := win0_6.stage (cfg0.slots t 6)
  hl := hstage0_6 ((cfg0.slots t 6).cast nbuf0_6)
  dw := win0_7.stage (cfg0.slots t 7)
  hdw := hstage0_7 ((cfg0.slots t 7).cast nbuf0_7)

variable (m : (ℓ : Loc nD τ sig) → Buf (Elt F) ℓ) (ρ : Dev nD → PrngReg)

/-- What point `t` leaves when it is the first, and when the point before left `o`. -/
def pointA (c : Dev nD) (t : Fin cfg0.N) (h : t.val % 4 = 0) : Outs F :=
  outsA c (grid0.coords t) (bufs t) (iblk m c 0 t) (iblk m c 1 t) (iblk m c 2 t) (iblk m c 3 t) (V m c main_arg3)
    ((first_iff t).mpr h) (fun k => (later3_iff t).mp k h) (fun k => (later5_iff t).mp k h)
def pointB (c : Dev nD) (t : Fin cfg0.N) (h : ¬ t.val % 4 = 0) (o : Outs F) : Outs F :=
  outsB c (grid0.coords t) (bufs t) (iblk m c 0 t) (iblk m c 1 t) (iblk m c 2 t) (iblk m c 3 t) (V m c main_arg3)
    (fun k => h ((first_iff t).mp k)) ((later3_iff t).mpr h) ((later5_iff t).mpr h) o.l o.dw

/-- What the points leave, one after the other. -/
def outsAt (c : Dev nD) : (n : ℕ) → n < cfg0.N → Outs F
  | 0, hn => pointA m c ⟨0, hn⟩ (Nat.zero_mod _)
  | n + 1, hn => if h : (n + 1) % 4 = 0 then pointA m c ⟨n + 1, hn⟩ h else pointB m c ⟨n + 1, hn⟩ h (outsAt c n (Nat.lt_of_succ_lt hn))

/-- What the point before `t` left. -/
abbrev prev (c : Dev nD) (t : Fin cfg0.N) : Outs F := outsAt m c (t.val - 1) (Nat.lt_of_le_of_lt (Nat.sub_le _ _) t.isLt)

theorem outsAt_A (c : Dev nD) (t : Fin cfg0.N) (h : t.val % 4 = 0) : outsAt m c t.val t.isLt = pointA m c t h := by
  obtain ⟨n, hn⟩ := t
  cases n with
  | zero => rfl
  | succ n => exact (dif_pos h).trans rfl

theorem outsAt_B (c : Dev nD) (t : Fin cfg0.N) (h : ¬ t.val % 4 = 0) : outsAt m c t.val t.isLt = pointB m c t h (prev m c t) := by
  obtain ⟨n, hn⟩ := t
  cases n with
  | zero => exact absurd (Nat.zero_mod _) h
  | succ n => exact (dif_neg h).trans rfl

/-! ## The kernel's own semaphore and the targets -/

abbrev osem : Fin 1 → SemLoc sig := fun j => (![SemLoc.dma cc0_scratch2.sem] : Fin 1 → SemLoc sig) j
theorem osem_facts : Pipeline.OwnSemFacts spec0 osem := by decide
def Hbm : Finset (Ref sig .tc) := {main_arg3}
theorem hbm_sub : Hbm ⊆ Pipeline.restRefs sig spec0 := by decide

theorem ownSems_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma cc0_scratch2.sem) 0 := by
  rw [Pipeline.ownSems0_eq_of_list c osem [0] (by decide) (by decide)]; rfl
theorem hbm_eq (c : Dev nD) :
    (bigSep Hbm (fun b => ((c : Thread nD τ).loc b) ↦{fullShare} V m c b) : sProp 𝕄) = whole c targetM (V m c main_arg3) := by
  rw [BI.bigSep_eq_bigSepL_of_eq [main_arg3] (by decide) (by decide)]; simp only [whole, Memref.view_whole, View.set_whole]; rfl

theorem inv_eq (c : Dev nD) :
    (Pipeline.ΦD osem spec0 Hbm (V m) c : sProp 𝕄)
      = iprop(iprop(some c hM ∗ some c tM) ∗ (∃ r, prngReg c r) ∗ semVal ((c : Thread nD τ), SemLoc.dma cc0_scratch2.sem) 0 ∗ whole c targetM (V m c main_arg3)) := by
  rw [Pipeline.ΦD_eq, scopedRest0_eq, ownSems_eq, hbm_eq]; simp only [some, hM, tM, owns_whole]; try rfl

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).d
    | ⟨5, _⟩ => (outsAt m c t.val t.isLt).db
    | ⟨6, _⟩ => (outsAt m c t.val t.isLt).l
    | ⟨7, _⟩ => (outsAt m c t.val t.isLt).dw
  Φ _ := Pipeline.ΦD osem spec0 Hbm (V m) c
  q _ := fullShare
  owed _ := 0

theorem A_eq (c : Dev nD) (w : Fin cfg0.W) : (dats m 0 c).A w = V m c (Pipeline.arrRef spec0 w) := by dsimp only [dats]

section
variable (c : Dev nD) (t : Fin cfg0.N)

/-- An input's staging buffer holds its block at every point. -/
theorem before_in (w : Fin cfg0.W) (hw : (cfg0.win w).isOut = false) (hl : ∀ i, cfg0.idle w i = false)
    (hc : ∀ t t' : Fin cfg0.N, (cfg0.win w).index t = (cfg0.win w).index t' → (cfg0.win w).clip (cfg0.grid.coords t) = (cfg0.win w).clip (cfg0.grid.coords t'))
    (ha : ∀ t, (cfg0.win w).cut (cfg0.grid.coords t) ((dats m 0 c).after w t) = iblk m c w t) (d) : (dats m 0 c).before w t d = (dats m 0 c).fetched w t d :=
  (dats m 0 c).before_in_eq_fetched w hw hl hc (fun t => by rw [ha]; unfold Dat.blockOf iblk; rw [A_eq]) t d

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = (outsAt m c t.val t.isLt).d := by dsimp only [dats]
theorem after_5 : (dats m 0 c).after 5 t = (outsAt m c t.val t.isLt).db := by dsimp only [dats]
theorem after_6 : (dats m 0 c).after 6 t = (outsAt m c t.val t.isLt).l := by dsimp only [dats]
theorem after_7 : (dats m 0 c).after 7 t = (outsAt m c t.val t.isLt).dw := by dsimp only [dats]

theorem before_0 (d) : (dats m 0 c).before 0 t d = iblk m c 0 t := (before_in m c t 0 rfl (fun _ => rfl) (fun _ _ _ => rfl) (after_0 m c) d).trans rfl
theorem before_1 (d) : (dats m 0 c).before 1 t d = iblk m c 1 t := (before_in m c t 1 rfl (fun _ => rfl) (fun _ _ _ => rfl) (after_1 m c) d).trans rfl
theorem before_2 (d) : (dats m 0 c).before 2 t d = iblk m c 2 t := (before_in m c t 2 rfl (fun _ => rfl) (fun _ _ _ => rfl) (after_2 m c) d).trans rfl
theorem before_3 (d) : (dats m 0 c).before 3 t d = iblk m c 3 t := (before_in m c t 3 rfl (fun _ => rfl) (fun _ _ _ => rfl) (after_3 m c) d).trans rfl

end

/-- After the first point an accumulated result's buffer holds what the point before left. -/
theorem before_6 (c : Dev nD) (t : Fin cfg0.N) (h : ¬ t.val % 4 = 0) (d) : (dats m 0 c).before 6 t d = (prev m c t).l := by
  have hN : t.val < 4 := lt_of_lt_of_eq t.isLt (show cfg0.N = 4 from N_0)
  rw [Dat.before_out_kept _ 6 rfl t (by omega) (Bool.eq_false_iff.mpr fun k => by have := (flush0_6 _).mp k; dsimp only at this; omega)
    (fun _ => rfl) (fun _ _ => rfl)]
  dsimp only [dats]
theorem before_7 (c : Dev nD) (t : Fin cfg0.N) (h : ¬ t.val % 4 = 0) (d) : (dats m 0 c).before 7 t d = (prev m c t).dw := by
  have hN : t.val < 4 := lt_of_lt_of_eq t.isLt (show cfg0.N = 4 from N_0)
  rw [Dat.before_out_kept _ 7 rfl t (by omega) (Bool.eq_false_iff.mpr fun k => by have := (flush0_7 _).mp k; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (bufs t).act fullShare ((dats m 0 c).before 0 t d))
    ∗ (∃ d, owns (c : Thread nD τ) (bufs t).w fullShare ((dats m 0 c).before 1 t d))
    ∗ (∃ d, owns (c : Thread nD τ) (bufs t).h1 fullShare ((dats m 0 c).before 2 t d))
    ∗ (∃ d, owns (c : Thread nD τ) (bufs t).wf fullShare ((dats m 0 c).before 3 t d))
    ∗ (∃ d, owns (c : Thread nD τ) (bufs t).d fullShare ((dats m 0 c).before 4 t d))
    ∗ (∃ d, owns (c : Thread nD τ) (bufs t).db fullShare ((dats m 0 c).before 5 t d))
    ∗ (∃ d, owns (c : Thread nD τ) (bufs t).l fullShare ((dats m 0 c).before 6 t d))
    ∗ (∃ d, owns (c : Thread nD τ) (bufs t).dw fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (bufs t).act fullShare ((dats m 0 c).after 0 t)
    ∗ owns (c : Thread nD τ) (bufs t).w fullShare ((dats m 0 c).after 1 t)
    ∗ owns (c : Thread nD τ) (bufs t).h1 fullShare ((dats m 0 c).after 2 t)
    ∗ owns (c : Thread nD τ) (bufs t).wf fullShare ((dats m 0 c).after 3 t)
    ∗ owns (c : Thread nD τ) (bufs t).d fullShare ((dats m 0 c).after 4 t)
    ∗ owns (c : Thread nD τ) (bufs t).db fullShare ((dats m 0 c).after 5 t)
    ∗ owns (c : Thread nD τ) (bufs t).l fullShare ((dats m 0 c).after 6 t)
    ∗ owns (c : Thread nD τ) (bufs t).dw fullShare ((dats m 0 c).after 7 t))

/-- The end of a point, whichever case it was. -/
theorem ends (c : Dev nD) (t : Fin cfg0.N) :
    iprop((∃ r, prngReg c r) ∗ inputs c (bufs t) (iblk m c 0 t) (iblk m c 1 t) (iblk m c 2 t) (iblk m c 3 t) ∗ kept c (V m c main_arg3)
      ∗ (∃ W', owes (c : Thread nD τ) 0 W') ∗ outputs c (bufs t) (outsAt m c t.val t.isLt)) ⊢ bodyPost m c t := by
  unfold bodyPost
  rw [show (dats m 0 c).Φ t.succ = Pipeline.ΦD osem spec0 Hbm (V m) c from rfl, inv_eq, after_0, after_1, after_2, after_3, after_4, after_5, after_6, after_7]
  unfold Dat.owesAt Pipeline.owesWithin
  rw [show (dats m 0 c).owed t.succ = 0 from rfl]
  iintro ⟨Hg, ⟨H0, H1, H2, H3⟩, ⟨Hs, Hq, Hh⟩, ⟨%W', HW⟩, ⟨H4, H5, H6, H7⟩⟩
  isplitl [Hs Hg Hq Hh]; · iframe Hs Hg Hq Hh
  isplitl [HW]
  · iexists W'; isplitr; · ipureintro; exact fun _ _ => Or.inl trivial
    iexact HW
  iframe H0 H1 H2 H3 H4 H5 H6 H7

theorem sound_body (c : Dev nD) (t : Fin cfg0.N) :
    bodyPre m c t ⊢ wp frame (wpE (defs₀ (F := F)) Variants.none c none) Set.univ (prog (grid0.coords t) (bufs t)) (fun _ => bodyPost m c t) := by
  have hend := ends m c t
  unfold bodyPre
  simp only [before_0, before_1, before_2, before_3]
  rw [show (dats m 0 c).Φ t.castSucc = Pipeline.ΦD osem spec0 Hbm (V m) c from rfl, inv_eq]
  unfold Dat.owesAt Pipeline.owesWithin
  rw [show (dats m 0 c).owed t.castSucc = 0 from rfl]
  by_cases h : t.val % 4 = 0
  · rw [outsAt_A m c t h] at hend
    iintro ⟨⟨Hs, Hg, Hq, Hh⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply (bodyA c (grid0.coords t) (bufs t) (iblk m c 0 t) (iblk m c 1 t) (iblk m c 2 t) (iblk m c 3 t) (V m c main_arg3)
      ((first_iff t).mpr h) (fun k => (later3_iff t).mp k h) (fun k => (later5_iff t).mp k h) W _)
    iframe H0 H1 H2 H3
    isplitl [Hs Hq Hh]; · isplitl [Hs]; · iexact Hs
                          iframe Hq Hh
    iframe HW
    isplitl [H4 H5 H6 H7]
    · isplitl [H4]; · iexists _; iexact H4
      isplitl [H5]; · iexists _; iexact H5
      isplitl [H6]; · iexists _; iexact H6
      iexists _; iexact H7
    iintro ⟨Hi, Hs, HW, Ho⟩
    iapply hend
    iframe Hg Hi Hs HW
    iexact Ho
  · rw [outsAt_B m c t h] at hend
    simp only [before_6 m c t h, before_7 m c t h]
    iintro ⟨⟨Hs, Hg, Hq, Hh⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply (bodyB c (grid0.coords t) (bufs t) (iblk m c 0 t) (iblk m c 1 t) (iblk m c 2 t) (iblk m c 3 t) (V m c main_arg3)
      (fun k => h ((first_iff t).mp k)) ((later3_iff t).mpr h) ((later5_iff t).mpr h) (prev m c t).l (prev m c t).dw W _)
    iframe H0 H1 H2 H3
    isplitl [Hs Hq Hh]; · isplitl [Hs]; · iexact Hs
                          iframe Hq Hh
    iframe HW
    isplitl [H4 H5 H6 H7]
    · isplitl [H4]; · iexists _; iexact H4
      isplitl [H5]; · iexists _; iexact H5
      iframe H6 H7
    iintro ⟨Hi, Hs, HW, Ho⟩
    iapply hend
    iframe Hg Hi Hs HW
    iexact Ho

theorem row (t : Fin cfg0.N) : defs₀ (F := F) .tc cfg0.body (cfg0.bodyArgs t (cfg0.slots t)) = prog (grid0.coords t) (bufs t) := by
  unfold defs₀; rw [Defs.onTc_tc]; rfl

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The launch -/

set_option maxHeartbeats 800000 in
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends, with the results' arrays at what the points leave, every other buffer as the region found it, and the
    semaphores at zero. -/
theorem run_main :
    θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ Variants.none osem_facts Hbm hbm_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- The arguments end as they were. -/
abbrev ArgsKept (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)

theorem args_kept {r : PUnit × MemSt nD τ sig (Elt F)} (h : Pipeline.FramePost cfgs (dats m) 0 (V m) r) (c : Dev nD) :
      ArgsKept m r c :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).1 3).trans (((dats m 0 c).arrAt_in 3 rfl _).trans ((A_eq m c 3).trans (V_main_arg4 m c)))⟩

theorem frame : θ_run defs (onTc (τ := τ) (main (F := F))) ⟨m, fun _ => 0, ρ⟩ (fun r => (∀ c : Dev nD,
      ArgsKept m r c)
      ∧ r.2.sem = fun _ => 0) :=
  (θ_run defs _ _).mono (fun _ h => ⟨args_kept m h.1, h.2⟩) (run_main m ρ)

end Cert.LossIdeal.Hand

end
-- ==== Proof.Loss.Real.lean ====
/-
  The loss and its gradient, as functions of real rows.
-/
module

public import proofs.«01_k».proof.Proof.Spec

@[expose] public section

noncomputable section

namespace Cert.Loss

open Spec

variable {n : ℕ}

/-- The residual stream after the down projection. -/
def resid (act : Fin n → Fin 2816 → ℝ) (W : Fin 2816 → Fin 1024 → ℝ) (h : Fin n → Fin 1024 → ℝ) (a : Fin n) (k : Fin 1024) : ℝ :=
  h a k + ∑ m, act a m * W m k

/-- The error of the normalised row, nothing where the row is padding or a meta token. -/
def err (live : Fin n → Bool) (z : Fin n → Fin 1024 → ℝ) (w : Fin 1024 → ℝ) (t : Fin n → Fin 1024 → ℝ) (a : Fin n) (k : Fin 1024) : ℝ :=
  if live a then z a k * rms (z a) * w k - t a k else 0

/-- The loss's gradient at the normalised row. -/
def derr (live : Fin n → Bool) (z : Fin n → Fin 1024 → ℝ) (w : Fin 1024 → ℝ) (t : Fin n → Fin 1024 → ℝ) (a : Fin n) (k : Fin 1024) : ℝ :=
  err live z w t a k * (1 / 1024)

/-- Half the row's mean squared error. -/
def lossRow (live : Fin n → Bool) (z : Fin n → Fin 1024 → ℝ) (w : Fin 1024 → ℝ) (t : Fin n → Fin 1024 → ℝ) (a : Fin n) : ℝ :=
  (∑ k, err live z w t a k * err live z w t a k) * (1 / 1024)

/-- The gradient at the residual stream. -/
def dzRow (live : Fin n → Bool) (z : Fin n → Fin 1024 → ℝ) (w : Fin 1024 → ℝ) (t : Fin n → Fin 1024 → ℝ) (a : Fin n) (k : Fin 1024) : ℝ :=
  rmsGrad (z a) (fun k => derr live z w t a k * w k) k

/-- The row's part of the norm weight's gradient. -/
def dwRow (live : Fin n → Bool) (z : Fin n → Fin 1024 → ℝ) (w : Fin 1024 → ℝ) (t : Fin n → Fin 1024 → ℝ) (k : Fin 1024) (a : Fin n) : ℝ :=
  derr live z w t a k * (z a k * rms (z a))

/-! The whole sequence: 112 rows of padding and 16 meta tokens carry no loss. -/

def alive (r : Fin 2176) : Bool := decide (128 ≤ r.val)
def targets (tg : Fin 2048 → Fin 1024 → ℝ) (r : Fin 2176) (k : Fin 1024) : ℝ := if h : 128 ≤ r.val then tg ⟨r.val - 128, by omega⟩ k else 0

theorem err_late (z : Fin 2176 → Fin 1024 → ℝ) (w : Fin 1024 → ℝ) (t : Fin 2176 → Fin 1024 → ℝ) (a : ℕ) (ha : 128 + a < 2176) (k : Fin 1024) :
    err alive z w t ⟨128 + a, ha⟩ k = z ⟨128 + a, ha⟩ k * rms (z ⟨128 + a, ha⟩) * w k - t ⟨128 + a, ha⟩ k :=
  if_pos (decide_eq_true (Nat.le_add_right 128 a))

theorem targets_late (tg : Fin 2048 → Fin 1024 → ℝ) (a : Fin 2048) (ha : 128 + a.val < 2176) (k : Fin 1024) : targets tg ⟨128 + a.val, ha⟩ k = tg a k :=
  (dif_pos (Nat.le_add_right 128 a.val)).trans (congrArg (fun r => tg r k) (Fin.ext (Nat.add_sub_cancel_left 128 a.val)))

/-- A sum whose first 128 terms vanish. -/
theorem sum_late (f : Fin 2176 → ℝ) (hf : ∀ a : Fin 2176, a.val < 128 → f a = 0) : ∑ a, f a = ∑ a : Fin 2048, f ⟨128 + a.val, by omega⟩ := by
  refine (Fin.sum_univ_add (a := 128) (b := 2048) f).trans ?_
  rw [Finset.sum_eq_zero fun a _ => hf _ a.isLt, zero_add]
  rfl

end Cert.Loss

end
-- ==== Proof.Loss.Pay.lean ====
/-
  The loss call, one half block (272 rows): what its stores write, as real functions of the rows.
-/
module

public import proofs.«01_k».proof.Proof.Loss.Real
public import proofs.«01_k».proof.Proof.Gen.LossIdeal.Skeleton

@[expose] public section

set_option maxRecDepth 16384

noncomputable section

namespace Cert.Loss.Pay

open Idealize.ShloMosaic LossIdeal LossIdeal.Gen Lift Spec

/-- A half block's rows are images of reals: the residual stream, the mask, the norm's weight, the targets. -/
structure Half (v : Vec Ideal S272x1024 .f32) (v27 : IVec S272x1024 1) (v28 : Vec Ideal S1x1024 .f32) (v41 : Vec Ideal S272x1024 .f32)
    (live : Fin 272 → Bool) (z : Fin 272 → Fin 1024 → ℝ) (w : Fin 1024 → ℝ) (t : Fin 272 → Fin 1024 → ℝ) : Prop where
  z_eq : ∀ a k, v (ix2 a k) = ((z a k : ℝ) : EReal)
  live_eq : ∀ a k, v27 (ix2 a k) = BitVec.ofBool (live a)
  w_eq : ∀ k, v28 (ix2 0 k) = ((w k : ℝ) : EReal)
  t_eq : ∀ a k, v41 (ix2 a k) = ((t a k : ℝ) : EReal)

variable {v : Vec Ideal S272x1024 .f32} {v27 : IVec S272x1024 1} {v28 : Vec Ideal S1x1024 .f32} {v41 : Vec Ideal S272x1024 .f32}
  {live : Fin 272 → Bool} {z : Fin 272 → Fin 1024 → ℝ} {w : Fin 1024 → ℝ} {t : Fin 272 → Fin 1024 → ℝ}

theorem c_inv1024 : (Ideal.ofBits .f32 0x3A800000#32 : EReal) = ((1 / 1024 : ℝ) : EReal) := by
  rw [ofBits_lit _ (by decide), show lit 0x3A800000#32 = 1 / 1024 by simp [lit, Ideal.ofBits, Ideal.ieee, -EReal.coe_mul]; norm_num]

theorem pick (b : Bool) (x y : ℝ) : (if BitVec.ofBool b = 1#1 then ((x : ℝ) : EReal) else ((y : ℝ) : EReal)) = (((if b then x else y : ℝ)) : EReal) := by
  cases b <;> rfl

theorem pay12_at (H : Half v v27 v28 v41 live z w t) (a : Fin 272) : k0_pay14 (F := Ideal) (k0_pay12 v) k0_pay13 (ix2 a 0) = ((rms (z a) : ℝ) : EReal) := by
  pointwise [k0_pay14, k0_pay12, k0_pay13]
  simp only [H.z_eq, c_1024, c_eps, ← EReal.coe_mul, sum_coe, div_coe_coe _ (show (1024 : ℝ) ≠ 0 by norm_num), ← EReal.coe_add]
  exact rsqrt_coe_pos (rms_arg_pos (z a))

theorem pay9_at (H : Half v v27 v28 v41 live z w t) (a : Fin 272) (k : Fin 1024) :
    k0_pay9 (F := Ideal) v v27 v28 v41 (ix2 a k) = ((err live z w t a k : ℝ) : EReal) := by
  pointwise [k0_pay9]
  simp only [H.z_eq, H.w_eq, H.t_eq, H.live_eq, c_1024, c_eps, ← EReal.coe_mul, sum_coe, div_coe_coe _ (show (1024 : ℝ) ≠ 0 by norm_num), ← EReal.coe_add,
    rsqrt_coe_pos (rms_arg_pos (z a)), sub_coe]
  exact pick _ _ _

theorem pay10_at (H : Half v v27 v28 v41 live z w t) (v45 : Vec Ideal S1x128 .f32) (k : Fin 128) :
    k0_pay10 (F := Ideal) v v27 v28 v41 v45 (ix2 0 k) = v45 (ix2 0 k) + ((1 / 2 * ∑ a, lossRow live z w t a : ℝ) : EReal) := by
  pointwise [k0_pay10]
  simp only [pay9_at H, c_half, c_inv1024, ← EReal.coe_mul, sum_coe]
  rfl

theorem pay11_at (H : Half v v27 v28 v41 live z w t) (a : Fin 272) (k : Fin 1024) :
    k0_pay11 (F := Ideal) v v27 v28 v41 (ix2 a k) = ((derr live z w t a k : ℝ) : EReal) := by
  pointwise [k0_pay11]
  simp only [pay9_at H, c_inv1024, ← EReal.coe_mul]
  rfl

theorem pay15_at (H : Half v v27 v28 v41 live z w t) (a : Fin 272) (k : Fin 1024) :
    k0_pay15 (F := Ideal) v (k0_pay12 v) k0_pay13 (ix2 a k) = ((z a k * rms (z a) : ℝ) : EReal) := by
  pointwise [k0_pay15]
  simp only [H.z_eq, pay12_at H, ← EReal.coe_mul]

/-- The gradient of the first half's rows. -/
theorem pay16_at (H : Half v v27 v28 v41 live z w t) (a : Fin 272) (k : Fin 1024) :
    k0_pay16 (F := Ideal) v (k0_pay11 v v27 v28 v41) v28 (k0_pay12 v) k0_pay13 (ix2 a k) = ((dzRow live z w t a k : ℝ) : EReal) := by
  pointwise [k0_pay16]
  simp only [pay11_at H, pay12_at H, pay15_at H, H.w_eq, c_1024, ← EReal.coe_mul, sum_coe, div_coe_coe _ (show (1024 : ℝ) ≠ 0 by norm_num), sub_coe]
  rfl

theorem pay18_at (H : Half v v27 v28 v41 live z w t) (a : Fin 272) (k : Fin 1024) :
    k0_pay18 (F := Ideal) v (k0_pay11 v v27 v28 v41) v28 (k0_pay12 v) k0_pay13 (ix2 a k) = ((dzRow live z w t a k : ℝ) : EReal) := by
  pointwise [k0_pay18]
  exact pay16_at H a k

/-- The first half's part of the norm weight's gradient, added to what the accumulator held. -/
theorem pay17_at (H : Half v v27 v28 v41 live z w t) (v85 : Vec Ideal S1x1024 .f32) (k : Fin 1024) :
    k0_pay17 (F := Ideal) v (k0_pay11 v v27 v28 v41) (k0_pay12 v) k0_pay13 v85 (ix2 0 k) = v85 (ix2 0 k) + ((∑ a, dwRow live z w t k a : ℝ) : EReal) := by
  pointwise [k0_pay17]
  simp only [pay11_at H, pay15_at H, ← EReal.coe_mul, sum_coe]
  rfl

/-! The second half: the same sums, cut at other places. -/

theorem pay21_eq : k0_pay21 (F := Ideal) v v27 v28 (k0_pay20 v) v41 = k0_pay9 v v27 v28 v41 := rfl

theorem pay22_at (H : Half v v27 v28 v41 live z w t) (v45 : Vec Ideal S1x128 .f32) (k : Fin 128) :
    k0_pay22 (F := Ideal) v v27 v28 (k0_pay20 v) v41 v45 (ix2 0 k) = v45 (ix2 0 k) + ((1 / 2 * ∑ a, lossRow live z w t a : ℝ) : EReal) :=
  pay10_at H v45 k

theorem pay1_at (H : Half v v27 v28 v41 live z w t) (a : Fin 272) (k : Fin 1024) :
    k0_pay1 (F := Ideal) (k0_pay23 v v27 v28 (k0_pay20 v) v41) v28 (k0_pay24 v) (k0_pay25 v) (ix2 a k) = ((dzRow live z w t a k : ℝ) : EReal) :=
  pay16_at H a k

theorem pay3_at (H : Half v v27 v28 v41 live z w t) (a : Fin 272) (k : Fin 1024) :
    k0_pay3 (F := Ideal) (k0_pay23 v v27 v28 (k0_pay20 v) v41) v28 (k0_pay24 v) (k0_pay25 v) (ix2 a k) = ((dzRow live z w t a k : ℝ) : EReal) :=
  pay18_at H a k

theorem pay2_at (H : Half v v27 v28 v41 live z w t) (v85 : Vec Ideal S1x1024 .f32) (k : Fin 1024) :
    k0_pay2 (F := Ideal) (k0_pay23 v v27 v28 (k0_pay20 v) v41) (k0_pay25 v) v85 (ix2 0 k) = v85 (ix2 0 k) + ((∑ a, dwRow live z w t k a : ℝ) : EReal) :=
  pay17_at H v85 k

/-! The masks, and the sums' start. -/

theorem pay8_at (i : grid0.Coords) (a : Fin 272) (k : Fin 1024) : k0_pay8 i (ix2 a k) = BitVec.ofBool (decide (128 ≤ 544 * (i 0).val + a.val)) := by
  pointwise [k0_pay8]
  exact (by decide +kernel : ∀ (n : Fin 4) (a : Fin 272), IntOp.cmpi .sge (IntOp.addi (BitVec.ofNat 32 a.val)
    (Scalar.addi (Scalar.muli (BitVec.ofNat 32 n.val) 544#32) 0#32)) 128#32 = BitVec.ofBool (decide (128 ≤ 544 * n.val + a.val))) (i 0) a

theorem pay19_at (i : grid0.Coords) (a : Fin 272) (k : Fin 1024) :
    k0_pay19 (BitVec.ofNat 32 (i 0).val) (ix2 a k) = BitVec.ofBool (decide (128 ≤ 544 * (i 0).val + (272 + a.val))) := by
  pointwise [k0_pay19]
  exact (by decide +kernel : ∀ (n : Fin 4) (a : Fin 272), IntOp.cmpi .sge (IntOp.addi (BitVec.ofNat 32 a.val)
    (Scalar.addi (Scalar.muli (BitVec.ofNat 32 n.val) 544#32) 272#32)) 128#32 = BitVec.ofBool (decide (128 ≤ 544 * n.val + (272 + a.val)))) (i 0) a

theorem pay4_at (k : Fin 128) : k0_pay4 (F := Ideal) (ix2 0 k) = 0 := by pointwise [k0_pay4]
theorem pay5_at (k : Fin 1024) : k0_pay5 (F := Ideal) (ix2 0 k) = 0 := by pointwise [k0_pay5]
theorem pay6_at (a : Fin 128) (k : Fin 1024) : k0_pay6 (F := Ideal) (ix2 a k) = 0 := by pointwise [k0_pay6]

theorem pay7_at (v171 : Vec Ideal S544x512 .f32) (v172 : Vec Ideal S544x2816 .bf16) (v175 : Vec Ideal S2816x512 .bf16) (a : Fin 544) (b : Fin 512) :
    k0_pay7 (F := Ideal) v171 v172 v175 (ix2 a b) = v171 (ix2 a b) + ∑ m : Fin 2816, v172 (ix2 a m) * v175 (ix2 m b) := by
  pointwise [k0_pay7]

end Cert.Loss.Pay

end
-- ==== Proof.Loss.Block.lean ====
/-
  The loss call at one grid point: what its stores leave in the four output blocks, element by element, when the input blocks
  hold images of real numbers.
-/
module

public import proofs.«01_k».proof.Proof.Loss.Frame
public import proofs.«01_k».proof.Proof.Loss.Pay
public import proofs.«01_k».proof.Proof.Halves

@[expose] public section

set_option maxRecDepth 16384

noncomputable section

namespace Cert.Loss.Block

open Idealize.ShloMosaic Idealize.ShloMosaic.TcCoe LossIdeal LossIdeal.Gen LossIdeal.Hand Lift Spec Loss Loss.Pay Rows

variable {c : Dev nD} {i : grid0.Coords} {B : Bufs} {x : Vec Ideal S544x2816 .bf16} {xw : Vec Ideal S2816x1024 .bf16}
  {xh : Vec Ideal S544x1024 .f32} {xf : Vec Ideal S1x1024 .f32} {xt : Buf (Elt Ideal) ((targetM).view.loc (c : Thread nD τ))}

theorem off2_eq : ∀ k : Fin k0_t1_loop.trips, k0_off2 k = ![0, 512 * k.val] := by decide +kernel
theorem off3_eq : ∀ k : Fin k0_t1_loop.trips, k0_off3 k = ![0, 512 * k.val] := by decide +kernel
theorem trips_eq : Scf.trips k0_t1_loop.lb k0_t1_loop.ub k0_t1_loop.st = 2 := by decide +kernel

/-- The input blocks hold images of reals: the activations, the weight, the residual stream, the norm's weight. -/
structure Reals (x : Vec Ideal S544x2816 .bf16) (xw : Vec Ideal S2816x1024 .bf16) (xh : Vec Ideal S544x1024 .f32) (xf : Vec Ideal S1x1024 .f32)
    (act : Fin 544 → Fin 2816 → ℝ) (W : Fin 2816 → Fin 1024 → ℝ) (h : Fin 544 → Fin 1024 → ℝ) (w : Fin 1024 → ℝ) : Prop where
  act_eq : ∀ a k, x (ix2 a k) = ((act a k : ℝ) : EReal)
  W_eq : ∀ r k, xw (ix2 r k) = ((W r k : ℝ) : EReal)
  h_eq : ∀ a k, xh (ix2 a k) = ((h a k : ℝ) : EReal)
  w_eq : ∀ k, xf (ix2 0 k) = ((w k : ℝ) : EReal)

variable {act : Fin 544 → Fin 2816 → ℝ} {W : Fin 2816 → Fin 1024 → ℝ} {h : Fin 544 → Fin 1024 → ℝ} {w : Fin 1024 → ℝ}

/-- A trip's piece holds columns of the residual stream. -/
theorem piece_real (H : Reals x xw xh xf act W h w) (k : Fin k0_t1_loop.trips) (j : S544x512.Idx) :
    (piece B (B.hact.unread x) (B.hw.unread xw) (B.hh1.unread xh) k).2 j
      = (fun j : S544x1024.Idx => ((resid act W h (j 0) (j 1) : ℝ) : EReal)) ((piece B (B.hact.unread x) (B.hw.unread xw) (B.hh1.unread xh) k).1.emb j) := by
  obtain ⟨a, b, rfl⟩ : ∃ (a : Fin 544) (b : Fin 512), j = ix2 a b := ⟨j 0, j 1, eq_ix2 j⟩
  refine Eq.trans ?_ (congrArg (fun j : S544x1024.Idx => ((resid act W h (j 0) (j 1) : ℝ) : EReal)) (emb_at (k0_off2_inb k) (off2_eq k) a b)).symm
  dsimp only
  simp only [View.readAt_eq_ld, B.hact.read_unread, B.hw.read_unread, B.hh1.read_unread]
  refine (pay7_at _ _ _ a b).trans ?_
  have e1 := ld_at xh (k0_off2_inb k) (off2_eq k) a b
  have e2 := fun m => ld_at x (o0 := 0) (o1 := 0) inb_S544x2816_S544x2816_0_0 rfl a m
  have e3 := fun m => ld_at xw (k0_off3_inb k) (off3_eq k) m b
  have z2 : ∀ m : Fin 2816, (⟨0 + m.val, by omega⟩ : Fin 2816) = m := fun m => Fin.ext (Nat.zero_add _)
  have z1 : (⟨0 + a.val, by omega⟩ : Fin 544) = a := Fin.ext (Nat.zero_add _)
  rw [e1, H.h_eq]
  simp only [e2, e3, H.act_eq, H.W_eq, ← EReal.coe_mul, sum_coe, ← EReal.coe_add]
  refine congrArg _ ?_
  unfold resid
  simp only [ix2_0, ix2_1, z1, z2]

theorem canon_resid (H : Reals x xw xh xf act W h w) (a : Fin 544) (b : Fin 1024) :
    View.canon (pieces B (B.hact.unread x) (B.hw.unread xw) (B.hh1.unread xh) (Scf.trips k0_t1_loop.lb k0_t1_loop.ub k0_t1_loop.st)) (ix2 a b)
      = ((resid act W h a b : ℝ) : EReal) := by
  rw [trips_eq, show (2 : ℕ) = (⟨1, by decide +kernel⟩ : Fin k0_t1_loop.trips).val + 1 from rfl, pieces_succ,
    show ((⟨1, by decide +kernel⟩ : Fin k0_t1_loop.trips).val : ℕ) = (⟨0, by decide +kernel⟩ : Fin k0_t1_loop.trips).val + 1 from rfl, pieces_succ]
  refine View.canon_apply_of_pieces (Val := Elt Ideal) (e := .f32) (fun j : S544x1024.Idx => ((resid act W h (j 0) (j 1) : ℝ) : EReal)) _ (fun p hp => ?_) _ ?_
  · rcases List.mem_cons.mp hp with rfl | hp
    · exact piece_real H _
    · obtain rfl := List.mem_singleton.mp (show p ∈ [_] from hp)
      exact piece_real H _
  · rcases Nat.lt_or_ge b.val 512 with hb | hb
    · exact ⟨_, List.mem_cons_of_mem _ (List.mem_singleton_self _), (mem_at (k0_off2_inb _) (off2_eq _) a b).mpr ⟨⟨Nat.zero_le _, by simpa using a.isLt⟩, by simp, by simpa using hb⟩⟩
    · exact ⟨_, List.mem_cons_self, (mem_at (k0_off2_inb _) (off2_eq _) a b).mpr ⟨⟨Nat.zero_le _, by simpa using a.isLt⟩, by simpa using hb, by simpa using b.isLt⟩⟩

theorem ld_resid (H : Reals x xw xh xf act W h w) (o : ℕ) (ho : o + 272 ≤ 544) (inb) (a : Fin 272) (k : Fin 1024) :
    (hM.view.readCov (pieces B (B.hact.unread x) (B.hw.unread xw) (B.hh1.unread xh) (Scf.trips k0_t1_loop.lb k0_t1_loop.ub k0_t1_loop.st))
        (Rect.unit (s := S544x1024) ![o, 0] S272x1024.size inb).toLoadRect) (ix2 a k) = ((resid act W h (low o ho a) k : ℝ) : EReal) := by
  rw [View.readCov_eq_canon']
  refine Eq.trans (congrArg _ ((emb_at (o0 := o) (o1 := 0) _ rfl a k).trans (congrArg (ix2 _) (Fin.ext (Nat.zero_add _))))) ?_
  exact canon_resid H (low o ho a) k

theorem ld_w (H : Reals x xw xh xf act W h w) (inb) (k : Fin 1024) :
    View.readAt (Elt Ideal) B.wf.view (Rect.unit (s := S1x1024) ![0, 0] S1x1024.size inb).toLoadRect (B.hwf.unread xf) (ix2 0 k)
      = ((w k : ℝ) : EReal) := by
  rw [View.readAt_eq_ld, B.hwf.read_unread, View.ld_unit_zero (S := S1x1024) hz]
  exact H.w_eq k

/-- The target rows the first point reads: zeros over the first 128, then the copied rows. -/
theorem ld_first (G : S416x1024.Idx → EReal) (t : Fin 544 → Fin 1024 → ℝ) (inb1 inb2)
    (h0 : ∀ (a : Fin 544) k, a.val < 128 → t a k = 0) (h1 : ∀ (a : Fin 416) k, G (ix2 a k) = ((t ⟨128 + a.val, by omega⟩ k : ℝ) : EReal))
    (a : Fin 544) (k : Fin 1024) :
    View.canon (Val := Elt Ideal) [(⟨Rect.unit (s := S544x1024) ![128, 0] S416x1024.size inb1, G⟩ : View.Piece (Elt Ideal) S544x1024 .f32),
      ⟨Rect.unit (s := S544x1024) ![0, 0] S128x1024.size inb2, k0_pay6 (F := Ideal)⟩] (ix2 a k) = ((t a k : ℝ) : EReal) := by
  refine View.canon_apply_of_pieces (Val := Elt Ideal) (e := .f32) (fun j : S544x1024.Idx => ((t (j 0) (j 1) : ℝ) : EReal)) _ (fun r hr => ?_) _ ?_
  · rcases List.mem_cons.mp hr with rfl | hr
    · intro y
      obtain ⟨a, b, rfl⟩ : ∃ (a : Fin 416) (b : Fin 1024), y = ix2 a b := ⟨y 0, y 1, eq_ix2 y⟩
      refine (h1 a b).trans (Eq.trans ?_ (congrArg (fun j : S544x1024.Idx => ((t (j 0) (j 1) : ℝ) : EReal)) (emb_at inb1 rfl a b)).symm)
      exact congrArg (fun k => ((t _ k : ℝ) : EReal)) (Fin.ext (Nat.zero_add _).symm)
    · obtain rfl := List.mem_singleton.mp hr
      intro y
      obtain ⟨a, b, rfl⟩ : ∃ (a : Fin 128) (b : Fin 1024), y = ix2 a b := ⟨y 0, y 1, eq_ix2 y⟩
      refine (pay6_at a b).trans (Eq.trans ?_ (congrArg (fun j : S544x1024.Idx => ((t (j 0) (j 1) : ℝ) : EReal)) (emb_at inb2 rfl a b)).symm)
      exact (congrArg (fun z : ℝ => (z : EReal)) (h0 _ _ (by simp [ix2_0]))).symm
  · rcases Nat.lt_or_ge a.val 128 with ha | ha
    · exact ⟨_, List.mem_cons_of_mem _ (List.mem_singleton_self _), (mem_at inb2 rfl a k).mpr ⟨⟨Nat.zero_le _, by omega⟩, Nat.zero_le _, by omega⟩⟩
    · exact ⟨_, List.mem_cons_self, (mem_at inb1 rfl a k).mpr ⟨⟨ha, by omega⟩, Nat.zero_le _, by omega⟩⟩

/-- The target rows a later point reads: the copied rows. -/
theorem ld_later (G : S544x1024.Idx → EReal) (t : Fin 544 → Fin 1024 → ℝ) (h1 : ∀ (a : Fin 544) k, G (ix2 a k) = ((t a k : ℝ) : EReal))
    (a : Fin 544) (k : Fin 1024) :
    View.canon (Val := Elt Ideal) [(⟨Rect.whole S544x1024, G⟩ : View.Piece (Elt Ideal) S544x1024 .f32)] (ix2 a k) = ((t a k : ℝ) : EReal) := by
  refine View.canon_apply_of_pieces (Val := Elt Ideal) (e := .f32) (fun j : S544x1024.Idx => ((t (j 0) (j 1) : ℝ) : EReal)) _ (fun r hr => ?_) _ ?_
  · obtain rfl := List.mem_singleton.mp hr
    intro y
    obtain ⟨a, b, rfl⟩ : ∃ (a : Fin 544) (b : Fin 1024), y = ix2 a b := ⟨y 0, y 1, eq_ix2 y⟩
    refine (h1 a b).trans ?_
    exact congrArg (fun j : S544x1024.Idx => ((t (j 0) (j 1) : ℝ) : EReal)) (Rect.emb_whole_apply S544x1024 (ix2 a b)).symm
  · exact ⟨_, List.mem_singleton_self _, by rw [Rect.set_whole]; exact Finset.mem_univ _⟩

/-- Rows of the targets, copied from row `o`. -/
theorem copied {n : ℕ} (off : Fin 2 → ℕ) (o : ℕ) (hoff : off = ![o, 0]) (inb) (hs) (ho : o + n ≤ 2048) (a : Fin n) (k : Fin 1024) :
    ReadAs.same.apply (View.read (Elt Ideal) ((targetM).slice (Rect.unit (s := S2048x1024) off ![n, 1024] inb) hs).view xt) (ix2 a k)
      = (xt : S2048x1024.Idx → EReal) (ix2 ⟨o + a.val, by omega⟩ k) := by
  refine congrArg (xt : S2048x1024.Idx → EReal) ((emb_at inb hoff a k).trans (congrArg (ix2 _) (Fin.ext (Nat.zero_add _))))

/-- A half's rows of a buffer. -/
theorem ld_half (L : List (View.Piece (Elt Ideal) S544x1024 .f32)) (t : Fin 544 → Fin 1024 → ℝ) (hL : ∀ a k, View.canon L (ix2 a k) = ((t a k : ℝ) : EReal))
    (o : ℕ) (ho : o + 272 ≤ 544) (inb) (a : Fin 272) (k : Fin 1024) :
    (tM.view.readCov L (Rect.unit (s := S544x1024) ![o, 0] S272x1024.size inb).toLoadRect) (ix2 a k) = ((t (low o ho a) k : ℝ) : EReal) := by
  rw [View.readCov_eq_canon']
  refine Eq.trans (congrArg _ ((emb_at (o0 := o) (o1 := 0) _ rfl a k).trans (congrArg (ix2 _) (Fin.ext (Nat.zero_add _))))) ?_
  exact hL (low o ho a) k

/-- The rows that carry a loss. -/
def live (n : ℕ) (a : Fin 544) : Bool := decide (128 ≤ 544 * n + a.val)

theorem mask0 (a : Fin 272) (k : Fin 1024) : k0_pay8 i (ix2 a k) = BitVec.ofBool (live (i 0).val (low 0 (by omega) a)) := by
  rw [pay8_at]; unfold live low; simp only [Nat.zero_add]
theorem mask1 (a : Fin 272) (k : Fin 1024) : k0_pay19 (BitVec.ofNat 32 (i 0).val) (ix2 a k) = BitVec.ofBool (live (i 0).val (low 272 (by omega) a)) := pay19_at i a k

theorem off1_eq : ∀ n : Fin 4, ¬ n.val = 0 → (![(Scalar.maxsi (Scalar.subi (Scalar.muli (BitVec.ofNat 32 n.val) 544#32) 128#32) 0#32).toNat, 0] : Fin 2 → ℕ) = ![544 * n.val - 128, 0] := by
  decide +kernel

theorem first_val (h0 : ¬ first i) : ¬ (i 0).val = 0 := fun h => h0 (by unfold first; rw [h]; rfl)

section
variable {t : Fin 544 → Fin 1024 → ℝ} (H : Reals x xw xh xf act W h w)
include H

section
variable (h0 : first i) (h3 : ¬ k0_cond3 i = 1#1) (h5 : ¬ k0_cond5 i = 1#1) (ht0 : ∀ (a : Fin 544) k, a.val < 128 → t a k = 0)
  (ht1 : ∀ (a : Fin 416) (r : Fin 2048) (s : Fin 544) k, r.val = a.val → s.val = 128 + a.val → (xt : S2048x1024.Idx → EReal) (ix2 r k) = ((t s k : ℝ) : EReal))
include ht0 ht1

theorem outA_d (a : Fin 544) (b : Fin 1024) : (outsA c i B x xw xh xf xt h0 h3 h5).d (ix2 a b) = ((dzRow (live (i 0).val) (resid act W h) w t a b : ℝ) : EReal) := by
  unfold outsA filled
  dsimp only
  rw [View.read_writes_junk_eq_canon]
  unfold runA
  dsimp only
  sl_unfold_words
  have hL := ld_first _ t inb_S544x1024_S416x1024_128_0 inb_S544x1024_S128x1024_0_0 ht0 fun a k => (copied (xt := xt) ![0, 0] 0 rfl inb_S2048x1024_S416x1024_0_0 (fun _ => rfl) (by omega) a k).trans (ht1 a _ _ k (Nat.zero_add _) rfl)
  refine canon_halves (e := .f32) (fun a b => ((dzRow (live (i 0).val) (resid act W h) w t a b : ℝ) : EReal)) _ _ _ _ ?_ ?_ a b
  · exact (pay1_at ⟨ld_resid H 272 (by omega) _, mask1, ld_w H _, ld_half _ t hL 272 (by omega) _⟩)
  · exact (pay16_at ⟨ld_resid H 0 (by omega) _, mask0, ld_w H _, ld_half _ t hL 0 (by omega) _⟩)

theorem outA_db (a : Fin 544) (b : Fin 1024) : (outsA c i B x xw xh xf xt h0 h3 h5).db (ix2 a b) = ((dzRow (live (i 0).val) (resid act W h) w t a b : ℝ) : EReal) := by
  unfold outsA filled
  dsimp only
  rw [View.read_writes_junk_eq_canon]
  unfold runA
  dsimp only
  sl_unfold_words
  have hL := ld_first _ t inb_S544x1024_S416x1024_128_0 inb_S544x1024_S128x1024_0_0 ht0 fun a k => (copied (xt := xt) ![0, 0] 0 rfl inb_S2048x1024_S416x1024_0_0 (fun _ => rfl) (by omega) a k).trans (ht1 a _ _ k (Nat.zero_add _) rfl)
  refine canon_halves (e := .bf16) (fun a b => ((dzRow (live (i 0).val) (resid act W h) w t a b : ℝ) : EReal)) _ _ _ _ ?_ ?_ a b
  · exact (pay3_at ⟨ld_resid H 272 (by omega) _, mask1, ld_w H _, ld_half _ t hL 272 (by omega) _⟩)
  · exact (pay18_at ⟨ld_resid H 0 (by omega) _, mask0, ld_w H _, ld_half _ t hL 0 (by omega) _⟩)

theorem outA_l (b : Fin 128) : (outsA c i B x xw xh xf xt h0 h3 h5).l (ix2 0 b) = ((1 / 2 * ∑ a, lossRow (live (i 0).val) (resid act W h) w t a : ℝ) : EReal) := by
  unfold outsA filled
  dsimp only
  rw [View.read_writes_junk_eq_canon]
  unfold runA
  dsimp only
  sl_unfold_words
  have hL := ld_first _ t inb_S544x1024_S416x1024_128_0 inb_S544x1024_S128x1024_0_0 ht0 fun a k => (copied (xt := xt) ![0, 0] 0 rfl inb_S2048x1024_S416x1024_0_0 (fun _ => rfl) (by omega) a k).trans (ht1 a _ _ k (Nat.zero_add _) rfl)
  rw [View.canon_cons_unit_zero (S := S1x128) hz]
  refine (pay22_at ⟨ld_resid H 272 (by omega) _, mask1, ld_w H _, ld_half _ t hL 272 (by omega) _⟩ _ b).trans ?_
  refine (congrArg (· + _) ((congrFun (readCov_cons_unit_zero _ hz _ _ _) _).trans
    (pay10_at ⟨ld_resid H 0 (by omega) _, mask0, ld_w H _, ld_half _ t hL 0 (by omega) _⟩ _ b))).trans ?_
  refine (congrArg (fun z => z + _ + _) ((congrFun (readCov_cons_unit_zero _ hz _ _ _) _).trans (pay4_at b))).trans ?_
  rw [zero_add, ← EReal.coe_add, ← mul_add]
  exact congrArg (fun z : ℝ => ((1 / 2 * z : ℝ) : EReal)) (sum_halves (lossRow (live (i 0).val) (resid act W h) w t))

theorem outA_dw (b : Fin 1024) : (outsA c i B x xw xh xf xt h0 h3 h5).dw (ix2 0 b) = ((∑ a, dwRow (live (i 0).val) (resid act W h) w t b a : ℝ) : EReal) := by
  unfold outsA filled
  dsimp only
  rw [View.read_writes_junk_eq_canon]
  unfold runA
  dsimp only
  sl_unfold_words
  have hL := ld_first _ t inb_S544x1024_S416x1024_128_0 inb_S544x1024_S128x1024_0_0 ht0 fun a k => (copied (xt := xt) ![0, 0] 0 rfl inb_S2048x1024_S416x1024_0_0 (fun _ => rfl) (by omega) a k).trans (ht1 a _ _ k (Nat.zero_add _) rfl)
  rw [View.canon_cons_unit_zero (S := S1x1024) hz]
  refine (pay2_at ⟨ld_resid H 272 (by omega) _, mask1, ld_w H _, ld_half _ t hL 272 (by omega) _⟩ _ b).trans ?_
  refine (congrArg (· + _) ((congrFun (readCov_cons_unit_zero _ hz _ _ _) _).trans
    (pay17_at ⟨ld_resid H 0 (by omega) _, mask0, ld_w H _, ld_half _ t hL 0 (by omega) _⟩ _ b))).trans ?_
  refine (congrArg (fun z => z + _ + _) ((congrFun (readCov_cons_unit_zero _ hz _ _ _) _).trans (pay5_at b))).trans ?_
  rw [zero_add, ← EReal.coe_add]
  exact congrArg (fun z : ℝ => (z : EReal)) (sum_halves (dwRow (live (i 0).val) (resid act W h) w t b))

end

section
variable (h0 : ¬ first i) (h3 : k0_cond3 i = 1#1) (h5 : k0_cond5 i = 1#1) (xl : Vec Ideal S1x128 .f32) (xd : Vec Ideal S1x1024 .f32)
  (hn : 544 * (i 0).val - 128 + 544 ≤ 2048)
  (ht : ∀ (a : Fin 544) (r : Fin 2048) k, r.val = 544 * (i 0).val - 128 + a.val → (xt : S2048x1024.Idx → EReal) (ix2 r k) = ((t a k : ℝ) : EReal))
include hn ht

theorem outB_d (a : Fin 544) (b : Fin 1024) : (outsB c i B x xw xh xf xt h0 h3 h5 xl xd).d (ix2 a b) = ((dzRow (live (i 0).val) (resid act W h) w t a b : ℝ) : EReal) := by
  unfold outsB filled
  dsimp only
  rw [View.read_writes_junk_eq_canon]
  unfold runB
  dsimp only
  sl_unfold_words
  have hL := fun inb => ld_later _ t fun a k => (copied (xt := xt) _ _ (off1_eq (i 0) (first_val h0)) inb (fun _ => rfl) hn a k).trans (ht a _ k rfl)
  refine canon_halves (e := .f32) (fun a b => ((dzRow (live (i 0).val) (resid act W h) w t a b : ℝ) : EReal)) _ _ _ _ ?_ ?_ a b
  · exact (pay1_at ⟨ld_resid H 272 (by omega) _, mask1, ld_w H _, ld_half _ t (hL _) 272 (by omega) _⟩)
  · exact (pay16_at ⟨ld_resid H 0 (by omega) _, mask0, ld_w H _, ld_half _ t (hL _) 0 (by omega) _⟩)

theorem outB_db (a : Fin 544) (b : Fin 1024) : (outsB c i B x xw xh xf xt h0 h3 h5 xl xd).db (ix2 a b) = ((dzRow (live (i 0).val) (resid act W h) w t a b : ℝ) : EReal) := by
  unfold outsB filled
  dsimp only
  rw [View.read_writes_junk_eq_canon]
  unfold runB
  dsimp only
  sl_unfold_words
  have hL := fun inb => ld_later _ t fun a k => (copied (xt := xt) _ _ (off1_eq (i 0) (first_val h0)) inb (fun _ => rfl) hn a k).trans (ht a _ k rfl)
  refine canon_halves (e := .bf16) (fun a b => ((dzRow (live (i 0).val) (resid act W h) w t a b : ℝ) : EReal)) _ _ _ _ ?_ ?_ a b
  · exact (pay3_at ⟨ld_resid H 272 (by omega) _, mask1, ld_w H _, ld_half _ t (hL _) 272 (by omega) _⟩)
  · exact (pay18_at ⟨ld_resid H 0 (by omega) _, mask0, ld_w H _, ld_half _ t (hL _) 0 (by omega) _⟩)

theorem outB_l (b : Fin 128) : (outsB c i B x xw xh xf xt h0 h3 h5 xl xd).l (ix2 0 b) = xl (ix2 0 b) + ((1 / 2 * ∑ a, lossRow (live (i 0).val) (resid act W h) w t a : ℝ) : EReal) := by
  unfold outsB filled
  dsimp only
  rw [View.read_writes_junk_eq_canon]
  unfold runB
  dsimp only
  sl_unfold_words
  have hL := fun inb => ld_later _ t fun a k => (copied (xt := xt) _ _ (off1_eq (i 0) (first_val h0)) inb (fun _ => rfl) hn a k).trans (ht a _ k rfl)
  rw [View.canon_cons_unit_zero (S := S1x128) hz]
  refine (pay22_at ⟨ld_resid H 272 (by omega) _, mask1, ld_w H _, ld_half _ t (hL _) 272 (by omega) _⟩ _ b).trans ?_
  refine (congrArg (· + _) ((congrFun (readCov_cons_unit_zero _ hz _ _ _) _).trans
    (pay10_at ⟨ld_resid H 0 (by omega) _, mask0, ld_w H _, ld_half _ t (hL _) 0 (by omega) _⟩ _ b))).trans ?_
  rw [View.readAt_eq_ld, B.hl.read_unread, View.ld_unit_zero (S := S1x128) hz, add_assoc, ← EReal.coe_add, ← mul_add]
  exact congrArg (fun z : ℝ => xl (ix2 0 b) + ((1 / 2 * z : ℝ) : EReal)) (sum_halves (lossRow (live (i 0).val) (resid act W h) w t))

theorem outB_dw (b : Fin 1024) : (outsB c i B x xw xh xf xt h0 h3 h5 xl xd).dw (ix2 0 b) = xd (ix2 0 b) + ((∑ a, dwRow (live (i 0).val) (resid act W h) w t b a : ℝ) : EReal) := by
  unfold outsB filled
  dsimp only
  rw [View.read_writes_junk_eq_canon]
  unfold runB
  dsimp only
  sl_unfold_words
  have hL := fun inb => ld_later _ t fun a k => (copied (xt := xt) _ _ (off1_eq (i 0) (first_val h0)) inb (fun _ => rfl) hn a k).trans (ht a _ k rfl)
  rw [View.canon_cons_unit_zero (S := S1x1024) hz]
  refine (pay2_at ⟨ld_resid H 272 (by omega) _, mask1, ld_w H _, ld_half _ t (hL _) 272 (by omega) _⟩ _ b).trans ?_
  refine (congrArg (· + _) ((congrFun (readCov_cons_unit_zero _ hz _ _ _) _).trans
    (pay17_at ⟨ld_resid H 0 (by omega) _, mask0, ld_w H _, ld_half _ t (hL _) 0 (by omega) _⟩ _ b))).trans ?_
  rw [View.readAt_eq_ld, B.hdw.read_unread, View.ld_unit_zero (S := S1x1024) hz, add_assoc, ← EReal.coe_add]
  exact congrArg (fun z : ℝ => xd (ix2 0 b) + (z : EReal)) (sum_halves (dwRow (live (i 0).val) (resid act W h) w t b))

end
end

end Cert.Loss.Block

end
-- ==== Proof.Loss.Array.lean ====
/-
  The loss call's four result arrays over real arguments: each row of a point's block is a row of the array, the loss and the norm
  weight's gradient are summed over the points.
-/
module

public import proofs.«01_k».proof.Proof.Loss.Block
public import Idealize.ShloMosaic.Lib.StableHlo.ReadAt

@[expose] public section

set_option maxRecDepth 16384

noncomputable section

namespace Cert.Loss.Array

open Idealize.ShloMosaic Idealize.ShloMosaic.TcCoe Idealize.ShloMosaic.StableHlo Idealize.SL Idealize.SL.Sem
open LossIdeal LossIdeal.Gen LossIdeal.Hand Rows Spec Lift Loss.Block

variable (m : (ℓ : Loc nD τ sig) → Buf (Elt Ideal) ℓ) (c : Dev nD)

/-- The arguments are images of reals. -/
structure Args (act : Fin 2176 → Fin 2816 → ℝ) (W : Fin 2816 → Fin 1024 → ℝ) (h : Fin 2176 → Fin 1024 → ℝ) (tg : Fin 2048 → Fin 1024 → ℝ) (w : Fin 1024 → ℝ) : Prop where
  act_eq : ∀ a k, m ((c : Thread nD τ).loc main_arg0) (ix2 a k) = ((act a k : ℝ) : EReal)
  W_eq : ∀ r k, m ((c : Thread nD τ).loc main_arg1) (ix2 r k) = ((W r k : ℝ) : EReal)
  h_eq : ∀ a k, m ((c : Thread nD τ).loc main_arg2) (ix2 a k) = ((h a k : ℝ) : EReal)
  tg_eq : ∀ a k, m ((c : Thread nD τ).loc main_arg3) (ix2 a k) = ((tg a k : ℝ) : EReal)
  w_eq : ∀ k, m ((c : Thread nD τ).loc main_arg4) (ix2 0 k) = ((w k : ℝ) : EReal)

/-- Row `a` of point `t`'s block. -/
def row (t : Fin cfg0.N) (a : Fin 544) : Fin 2176 := ⟨544 * t.val + a.val, by have : cfg0.N = 4 := N_0; have := t.isLt; omega⟩

theorem coords_val : ∀ t : Fin cfg0.N, (grid0.coords t 0).val = t.val := (by decide +kernel : ∀ t : Fin grid0.N, _)
theorem idx0 : ∀ t : Fin cfg0.N, win0_0.index t 0 = t.val ∧ win0_0.index t 1 = 0 := (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = t.val ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = t.val ∧ win0_4.index t 1 = 0 := (by decide +kernel : ∀ t : Fin grid0.N, _)
theorem idx5 : ∀ t : Fin cfg0.N, win0_5.index t 0 = t.val ∧ win0_5.index t 1 = 0 := (by decide +kernel : ∀ t : Fin grid0.N, _)

theorem iblk0 (t : Fin cfg0.N) (a : Fin 544) (k : Fin 2816) : iblk m c 0 t (ix2 a k) = V m c main_v0 (ix2 (row t a) k) := by
  refine congrArg (V m c main_v0) (funext fun i => Fin.ext ?_)
  match i with
  | ⟨0, _⟩ => show win0_0.index t 0 * 544 + 1 * a.val = _; rw [(idx0 t).1]; show _ = 544 * t.val + a.val; omega
  | ⟨1, _⟩ => show win0_0.index t 1 * 2816 + 1 * k.val = _; rw [(idx0 t).2]; show _ = k.val; omega

theorem iblk1 (t : Fin cfg0.N) (a : Fin 2816) (k : Fin 1024) : iblk m c 1 t (ix2 a k) = V m c main_v1 (ix2 a k) := by
  refine congrArg (V m c main_v1) (funext fun i => Fin.ext ?_)
  match i with
  | ⟨0, _⟩ => show win0_1.index t 0 * 2816 + 1 * a.val = _; rw [(idx1 t).1]; show _ = a.val; omega
  | ⟨1, _⟩ => show win0_1.index t 1 * 1024 + 1 * k.val = _; rw [(idx1 t).2]; show _ = k.val; omega

theorem iblk2 (t : Fin cfg0.N) (a : Fin 544) (k : Fin 1024) : iblk m c 2 t (ix2 a k) = V m c main_arg2 (ix2 (row t a) k) := by
  refine congrArg (V m c main_arg2) (funext fun i => Fin.ext ?_)
  match i with
  | ⟨0, _⟩ => show win0_2.index t 0 * 544 + 1 * a.val = _; rw [(idx2 t).1]; show _ = 544 * t.val + a.val; omega
  | ⟨1, _⟩ => show win0_2.index t 1 * 1024 + 1 * k.val = _; rw [(idx2 t).2]; show _ = k.val; omega

theorem iblk3 (t : Fin cfg0.N) (a : Fin 1) (k : Fin 1024) : iblk m c 3 t (ix2 a k) = V m c main_arg4 (ix2 a k) := by
  refine congrArg (V m c main_arg4) (funext fun i => Fin.ext ?_)
  match i with
  | ⟨0, _⟩ => show win0_3.index t 0 * 1 + 1 * a.val = _; rw [(idx3 t).1]; show _ = a.val; omega
  | ⟨1, _⟩ => show win0_3.index t 1 * 1024 + 1 * k.val = _; rw [(idx3 t).2]; show _ = k.val; omega

theorem V0 (a : Fin 2176) (k : Fin 2816) : V m c main_v0 (ix2 a k) = m ((c : Thread nD τ).loc main_arg0) (ix2 a k) := by
  unfold V
  after_reads_at

theorem V1 (a : Fin 2816) (k : Fin 1024) : V m c main_v1 (ix2 a k) = m ((c : Thread nD τ).loc main_arg1) (ix2 a k) := by
  unfold V
  after_reads_at

variable {m c} {act : Fin 2176 → Fin 2816 → ℝ} {W : Fin 2816 → Fin 1024 → ℝ} {h : Fin 2176 → Fin 1024 → ℝ} {tg : Fin 2048 → Fin 1024 → ℝ} {w : Fin 1024 → ℝ}

/-- A point's blocks are the images of the arrays' rows. -/
theorem reals (H : Args m c act W h tg w) (t : Fin cfg0.N) :
    Reals (iblk m c 0 t) (iblk m c 1 t) (iblk m c 2 t) (iblk m c 3 t) (fun a => act (row t a)) W (fun a => h (row t a)) w where
  act_eq a k := (iblk0 m c t a k).trans ((V0 m c _ k).trans (H.act_eq _ k))
  W_eq r k := (iblk1 m c t r k).trans ((V1 m c r k).trans (H.W_eq r k))
  h_eq a k := (iblk2 m c t a k).trans ((congrFun (V_main_arg2 m c) _).trans (H.h_eq _ k))
  w_eq k := (iblk3 m c t 0 k).trans ((congrFun (V_main_arg4 m c) _).trans (H.w_eq k))

theorem target (H : Args m c act W h tg w) (a : Fin 2048) (k : Fin 1024) : (V m c main_arg3 : S2048x1024.Idx → EReal) (ix2 a k) = ((tg a k : ℝ) : EReal) :=
  (congrFun (V_main_arg3 m c) _).trans (H.tg_eq a k)

/-- A point's rows that carry a loss, their targets. -/
theorem live_row (t : Fin cfg0.N) : live (grid0.coords t 0).val = fun a => alive (row t a) := by
  rw [coords_val]; rfl

theorem first_targets (t : Fin cfg0.N) (ht : t.val % 4 = 0) (a : Fin 544) (k : Fin 1024) (ha : a.val < 128) : targets tg (row t a) k = 0 := by
  have : t.val < 4 := lt_of_lt_of_eq t.isLt (show cfg0.N = 4 from N_0)
  exact dif_neg (by show ¬ 128 ≤ 544 * t.val + a.val; omega)

theorem first_rows (H : Args m c act W h tg w) (t : Fin cfg0.N) (ht : t.val % 4 = 0) (a : Fin 416) (r : Fin 2048) (s : Fin 544) (k : Fin 1024) (hr : r.val = a.val) (hs : s.val = 128 + a.val) :
    (V m c main_arg3 : S2048x1024.Idx → EReal) (ix2 r k) = ((targets tg (row t s) k : ℝ) : EReal) := by
  have : t.val < 4 := lt_of_lt_of_eq t.isLt (show cfg0.N = 4 from N_0)
  refine (target H _ k).trans (congrArg _ (Eq.trans ?_ (dif_pos (by show 128 ≤ 544 * t.val + s.val; omega)).symm))
  exact congrArg (fun r => tg r k) (Fin.ext (by show r.val = 544 * t.val + s.val - 128; omega))

theorem later_fits (t : Fin cfg0.N) (ht : ¬ t.val % 4 = 0) : 544 * (grid0.coords t 0).val - 128 + 544 ≤ 2048 := by
  have : t.val < 4 := lt_of_lt_of_eq t.isLt (show cfg0.N = 4 from N_0)
  rw [coords_val]; omega

theorem later_rows (H : Args m c act W h tg w) (t : Fin cfg0.N) (ht : ¬ t.val % 4 = 0) (a : Fin 544) (r : Fin 2048) (k : Fin 1024)
    (hr : r.val = 544 * (grid0.coords t 0).val - 128 + a.val) : (V m c main_arg3 : S2048x1024.Idx → EReal) (ix2 r k) = ((targets tg (row t a) k : ℝ) : EReal) := by
  rw [coords_val] at hr
  refine (target H _ k).trans (congrArg _ (Eq.trans ?_ (dif_pos (by show 128 ≤ 544 * t.val + a.val; omega)).symm))
  exact congrArg (fun r => tg r k) (Fin.ext (by show r.val = 544 * t.val + a.val - 128; omega))

/-- The gradient's rows, over the whole array. -/
abbrev dz (act : Fin 2176 → Fin 2816 → ℝ) (W : Fin 2816 → Fin 1024 → ℝ) (h : Fin 2176 → Fin 1024 → ℝ) (tg : Fin 2048 → Fin 1024 → ℝ) (w : Fin 1024 → ℝ) :=
  dzRow alive (resid act W h) w (targets tg)
abbrev loss (act : Fin 2176 → Fin 2816 → ℝ) (W : Fin 2816 → Fin 1024 → ℝ) (h : Fin 2176 → Fin 1024 → ℝ) (tg : Fin 2048 → Fin 1024 → ℝ) (w : Fin 1024 → ℝ) :=
  lossRow alive (resid act W h) w (targets tg)
abbrev dw (act : Fin 2176 → Fin 2816 → ℝ) (W : Fin 2816 → Fin 1024 → ℝ) (h : Fin 2176 → Fin 1024 → ℝ) (tg : Fin 2048 → Fin 1024 → ℝ) (w : Fin 1024 → ℝ) :=
  dwRow alive (resid act W h) w (targets tg)

theorem outs_d (H : Args m c act W h tg w) (t : Fin cfg0.N) (a : Fin 544) (k : Fin 1024) :
    (outsAt m c t.val t.isLt).d (ix2 a k) = ((dz act W h tg w (row t a) k : ℝ) : EReal) := by
  by_cases h0 : t.val % 4 = 0
  · rw [outsAt_A m c t h0]
    refine (outA_d (reals H t) _ _ _ (first_targets t h0) (first_rows H t h0) a k).trans ?_
    rw [live_row]; rfl
  · rw [outsAt_B m c t h0]
    refine (outB_d (reals H t) _ _ _ _ _ (later_fits t h0) (later_rows H t h0) a k).trans ?_
    rw [live_row]; rfl

theorem outs_db (H : Args m c act W h tg w) (t : Fin cfg0.N) (a : Fin 544) (k : Fin 1024) :
    (outsAt m c t.val t.isLt).db (ix2 a k) = ((dz act W h tg w (row t a) k : ℝ) : EReal) := by
  by_cases h0 : t.val % 4 = 0
  · rw [outsAt_A m c t h0]
    refine (outA_db (reals H t) _ _ _ (first_targets t h0) (first_rows H t h0) a k).trans ?_
    rw [live_row]; rfl
  · rw [outsAt_B m c t h0]
    refine (outB_db (reals H t) _ _ _ _ _ (later_fits t h0) (later_rows H t h0) a k).trans ?_
    rw [live_row]; rfl

theorem flushed4 (t : Fin cfg0.N) : (dats m 0 c).flushed 4 t = (cfg0.win 4).cut (grid0.coords t) (outsAt m c t.val t.isLt).d := by
  show (cfg0.win 4).cut (grid0.coords t) ((dats m 0 c).after 4 t) = _
  rw [after_4]
theorem flushed5 (t : Fin cfg0.N) : (dats m 0 c).flushed 5 t = (cfg0.win 5).cut (grid0.coords t) (outsAt m c t.val t.isLt).db := by
  show (cfg0.win 5).cut (grid0.coords t) ((dats m 0 c).after 5 t) = _
  rw [after_5]
theorem flushed6 (t : Fin cfg0.N) : (dats m 0 c).flushed 6 t = (cfg0.win 6).cut (grid0.coords t) (outsAt m c t.val t.isLt).l := by
  show (cfg0.win 6).cut (grid0.coords t) ((dats m 0 c).after 6 t) = _
  rw [after_6]
theorem flushed7 (t : Fin cfg0.N) : (dats m 0 c).flushed 7 t = (cfg0.win 7).cut (grid0.coords t) (outsAt m c t.val t.isLt).dw := by
  show (cfg0.win 7).cut (grid0.coords t) ((dats m 0 c).after 7 t) = _
  rw [after_7]

theorem disjoint4 (t t' : Fin cfg0.N) (_ : (cfg0.win 4).flush t = true) (_ : (cfg0.win 4).flush t' = true) (hne : t ≠ t') :
    Disjoint ((cfg0.win 4).blk t).view.set ((cfg0.win 4).blk t').view.set :=
  (cfg0.win 4).disjoint_blk fun h => hne ((by decide +kernel : ∀ t t' : Fin grid0.N, win0_4.index t = win0_4.index t' → t = t') t t' h)
theorem disjoint5 (t t' : Fin cfg0.N) (_ : (cfg0.win 5).flush t = true) (_ : (cfg0.win 5).flush t' = true) (hne : t ≠ t') :
    Disjoint ((cfg0.win 5).blk t).view.set ((cfg0.win 5).blk t').view.set :=
  (cfg0.win 5).disjoint_blk fun h => hne ((by decide +kernel : ∀ t t' : Fin grid0.N, win0_5.index t = win0_5.index t' → t = t') t t' h)

theorem split_row (r : Fin 2176) : ∃ (t : Fin cfg0.N) (a : Fin 544), r = row t a :=
  ⟨⟨r.val / 544, by rw [show cfg0.N = 4 from N_0]; omega⟩, ⟨r.val % 544, Nat.mod_lt _ (by decide)⟩, Fin.ext (Nat.div_add_mod _ _).symm⟩

theorem arr4 (H : Args m c act W h tg w) (r : Fin 2176) (k : Fin 1024) :
    (dats m 0 c).arrAt 4 cfg0.N (ix2 r k) = ((dz act W h tg w r k : ℝ) : EReal) := by
  obtain ⟨t, a, rfl⟩ := split_row r
  refine Eq.trans ?_ (((congrFun ((dats m 0 c).read_blk_arrAt_eq_flushed 4 disjoint4 cfg0.N t t.isLt (flush0_4 t)) (ix2 a k)).trans
    (congrFun (flushed4 t) (ix2 a k))).trans (outs_d H t a k))
  refine congrArg ((dats m 0 c).arrAt 4 cfg0.N) (funext fun i => Fin.ext ?_)
  match i with
  | ⟨0, _⟩ => show _ = win0_4.index t 0 * 544 + 1 * a.val; rw [(idx4 t).1]; show 544 * t.val + a.val = _; omega
  | ⟨1, _⟩ => show _ = win0_4.index t 1 * 1024 + 1 * k.val; rw [(idx4 t).2]; show k.val = _; omega

theorem arr5 (H : Args m c act W h tg w) (r : Fin 2176) (k : Fin 1024) :
    (dats m 0 c).arrAt 5 cfg0.N (ix2 r k) = ((dz act W h tg w r k : ℝ) : EReal) := by
  obtain ⟨t, a, rfl⟩ := split_row r
  refine Eq.trans ?_ (((congrFun ((dats m 0 c).read_blk_arrAt_eq_flushed 5 disjoint5 cfg0.N t t.isLt (flush0_5 t)) (ix2 a k)).trans
    (congrFun (flushed5 t) (ix2 a k))).trans (outs_db H t a k))
  refine congrArg ((dats m 0 c).arrAt 5 cfg0.N) (funext fun i => Fin.ext ?_)
  match i with
  | ⟨0, _⟩ => show _ = win0_5.index t 0 * 544 + 1 * a.val; rw [(idx5 t).1]; show 544 * t.val + a.val = _; omega
  | ⟨1, _⟩ => show _ = win0_5.index t 1 * 1024 + 1 * k.val; rw [(idx5 t).2]; show k.val = _; omega

theorem point_sum (f : Fin 2176 → ℝ) (t : Fin cfg0.N) : ∑ r ∈ Finset.range 544, past f (544 * t.val + r) = ∑ a, f (row t a) := by
  rw [Finset.sum_range]
  have : cfg0.N = 4 := N_0
  have := t.isLt
  exact Finset.sum_congr rfl fun a _ => dif_pos (by omega)

/-- The running loss after a point. -/
theorem outs_l (H : Args m c act W h tg w) (k : Fin 128) : ∀ (n : ℕ) (hn : n < cfg0.N),
    (outsAt m c n hn).l (ix2 0 k) = ((1 / 2 * ∑ r ∈ Finset.range (544 * n + 544), past (loss act W h tg w) r : ℝ) : EReal)
  | 0, hn => by
    have e : outsAt m c 0 hn = _ := outsAt_A m c ⟨0, hn⟩ rfl
    rw [e]
    refine (outA_l (reals H ⟨0, hn⟩) _ _ _ (first_targets ⟨0, hn⟩ rfl) (first_rows H ⟨0, hn⟩ rfl) k).trans ?_
    rw [live_row]
    refine congrArg (fun z : ℝ => ((1 / 2 * z : ℝ) : EReal)) ((point_sum (loss act W h tg w) ⟨0, hn⟩).symm.trans ?_)
    simp only [mul_zero, zero_add]
  | n + 1, hn => by
    have hN : cfg0.N = 4 := N_0
    have hb : ¬ (n + 1) % 4 = 0 := by omega
    have e : outsAt m c (n + 1) hn = _ := outsAt_B m c ⟨n + 1, hn⟩ hb
    rw [e]
    refine (outB_l (reals H ⟨n + 1, hn⟩) _ _ _ _ _ (later_fits ⟨n + 1, hn⟩ hb) (later_rows H ⟨n + 1, hn⟩ hb) k).trans ?_
    refine (congrArg (· + _) (outs_l H k n (Nat.lt_of_succ_lt hn))).trans ?_
    rw [live_row, ← EReal.coe_add, ← mul_add, show 544 * (n + 1) + 544 = (544 * n + 544) + 544 by omega, Finset.sum_range_add _ (544 * n + 544) 544]
    exact congrArg (fun z : ℝ => ((1 / 2 * (_ + z) : ℝ) : EReal)) (point_sum (loss act W h tg w) ⟨n + 1, hn⟩).symm

/-- The running sum of the norm weight's gradient after a point. -/
theorem outs_dw (H : Args m c act W h tg w) (k : Fin 1024) : ∀ (n : ℕ) (hn : n < cfg0.N),
    (outsAt m c n hn).dw (ix2 0 k) = ((∑ r ∈ Finset.range (544 * n + 544), past (dw act W h tg w k) r : ℝ) : EReal)
  | 0, hn => by
    have e : outsAt m c 0 hn = _ := outsAt_A m c ⟨0, hn⟩ rfl
    rw [e]
    refine (outA_dw (reals H ⟨0, hn⟩) _ _ _ (first_targets ⟨0, hn⟩ rfl) (first_rows H ⟨0, hn⟩ rfl) k).trans ?_
    rw [live_row]
    refine congrArg (fun z : ℝ => (z : EReal)) ((point_sum (dw act W h tg w k) ⟨0, hn⟩).symm.trans ?_)
    simp only [mul_zero, zero_add]
  | n + 1, hn => by
    have hN : cfg0.N = 4 := N_0
    have hb : ¬ (n + 1) % 4 = 0 := by omega
    have e : outsAt m c (n + 1) hn = _ := outsAt_B m c ⟨n + 1, hn⟩ hb
    rw [e]
    refine (outB_dw (reals H ⟨n + 1, hn⟩) _ _ _ _ _ (later_fits ⟨n + 1, hn⟩ hb) (later_rows H ⟨n + 1, hn⟩ hb) k).trans ?_
    refine (congrArg (· + _) (outs_dw H k n (Nat.lt_of_succ_lt hn))).trans ?_
    rw [live_row, ← EReal.coe_add, show 544 * (n + 1) + 544 = (544 * n + 544) + 544 by omega, Finset.sum_range_add _ (544 * n + 544) 544]
    exact congrArg (fun z : ℝ => ((_ + z : ℝ) : EReal)) (point_sum (dw act W h tg w k) ⟨n + 1, hn⟩).symm

/-- The last point, the one that writes the sums back. -/
theorem last (t : Fin cfg0.N) (ht : t.val % 4 = 3) : t = t0_3 := Fin.ext (by have := t.isLt; have hN : cfg0.N = 4 := N_0; show t.val = 3; omega)

theorem whole_sum (f : Fin 2176 → ℝ) : ∑ r ∈ Finset.range (544 * t0_3.val + 544), past f r = ∑ a, f a := by
  rw [show 544 * t0_3.val + 544 = 2176 from rfl, Finset.sum_range]
  exact Finset.sum_congr rfl fun a _ => dif_pos a.isLt

theorem arr6 (H : Args m c act W h tg w) (k : Fin 128) :
    (dats m 0 c).arrAt 6 cfg0.N (ix2 0 k) = ((1 / 2 * ∑ a, loss act W h tg w a : ℝ) : EReal) := by
  refine congrFun ((dats m 0 c).arrAt_eq_of_cover 6 (fun _ => ((1 / 2 * ∑ a, loss act W h tg w a : ℝ) : EReal)) (fun t hf => ?_) fun i => ⟨t0_3, (flush0_6 t0_3).mpr rfl, ?_⟩) (ix2 0 k)
  · obtain rfl := last t ((flush0_6 t).mp hf)
    have hz' : (fun a => win0_6.index t0_3 a * main_v2_2.ty.shape.size a) = fun _ => 0 := funext fun a => by fin_cases a <;> decide
    rw [flushed6]
    refine Eq.trans ?_ (Memref.read_access_unit_zero (Elt Ideal) main_v2_2 hz' (fun a => by rw [congrFun hz' a]; simp) _).symm
    funext i
    obtain ⟨a, k, rfl⟩ : ∃ (a : Fin 1) (k : Fin 128), i = ix2 a k := ⟨i 0, i 1, eq_ix2 i⟩
    obtain rfl : a = 0 := Subsingleton.elim _ _
    exact (outs_l H k t0_3.val t0_3.isLt).trans (congrArg (fun z : ℝ => ((1 / 2 * z : ℝ) : EReal)) (whole_sum _))
  · show i ∈ ((View.whole main_v2_2).slice (win0_6.rect t0_3)).set
    rw [View.set_slice_whole, Rect.mem_set_unit]
    intro a
    have h0 : (i 0 : Nat) < 1 := (i 0).isLt
    have h1 : (i 1 : Nat) < 128 := (i 1).isLt
    match a with
    | ⟨0, _⟩ =>
      show win0_6.index t0_3 0 * win0_6.size 0 ≤ (i 0 : Nat) ∧ (i 0 : Nat) < win0_6.index t0_3 0 * win0_6.size 0 + win0_6.xsize (grid0.coords t0_3) 0
      rw [show win0_6.index t0_3 0 * win0_6.size 0 = 0 from by decide +kernel, show win0_6.xsize (grid0.coords t0_3) 0 = 1 from by decide +kernel]; omega
    | ⟨1, _⟩ =>
      show win0_6.index t0_3 1 * win0_6.size 1 ≤ (i 1 : Nat) ∧ (i 1 : Nat) < win0_6.index t0_3 1 * win0_6.size 1 + win0_6.xsize (grid0.coords t0_3) 1
      rw [show win0_6.index t0_3 1 * win0_6.size 1 = 0 from by decide +kernel, show win0_6.xsize (grid0.coords t0_3) 1 = 128 from by decide +kernel]; omega

theorem arr7 (H : Args m c act W h tg w) (k : Fin 1024) :
    (dats m 0 c).arrAt 7 cfg0.N (ix2 0 k) = ((∑ a, dw act W h tg w k a : ℝ) : EReal) := by
  refine congrFun ((dats m 0 c).arrAt_eq_of_cover 7 (fun i : S1x1024.Idx => ((∑ a, dw act W h tg w (i 1) a : ℝ) : EReal)) (fun t hf => ?_) fun i => ⟨t0_3, (flush0_7 t0_3).mpr rfl, ?_⟩) (ix2 0 k)
  · obtain rfl := last t ((flush0_7 t).mp hf)
    have hz' : (fun a => win0_7.index t0_3 a * main_v2_3.ty.shape.size a) = fun _ => 0 := funext fun a => by fin_cases a <;> decide
    rw [flushed7]
    refine Eq.trans ?_ (Memref.read_access_unit_zero (Elt Ideal) main_v2_3 hz' (fun a => by rw [congrFun hz' a]; simp) _).symm
    funext i
    obtain ⟨a, k, rfl⟩ : ∃ (a : Fin 1) (k : Fin 1024), i = ix2 a k := ⟨i 0, i 1, eq_ix2 i⟩
    obtain rfl : a = 0 := Subsingleton.elim _ _
    exact (outs_dw H k t0_3.val t0_3.isLt).trans (congrArg (fun z : ℝ => (z : EReal)) (whole_sum _))
  · show i ∈ ((View.whole main_v2_3).slice (win0_7.rect t0_3)).set
    rw [View.set_slice_whole, Rect.mem_set_unit]
    intro a
    have h0 : (i 0 : Nat) < 1 := (i 0).isLt
    have h1 : (i 1 : Nat) < 1024 := (i 1).isLt
    match a with
    | ⟨0, _⟩ =>
      show win0_7.index t0_3 0 * win0_7.size 0 ≤ (i 0 : Nat) ∧ (i 0 : Nat) < win0_7.index t0_3 0 * win0_7.size 0 + win0_7.xsize (grid0.coords t0_3) 0
      rw [show win0_7.index t0_3 0 * win0_7.size 0 = 0 from by decide +kernel, show win0_7.xsize (grid0.coords t0_3) 0 = 1 from by decide +kernel]; omega
    | ⟨1, _⟩ =>
      show win0_7.index t0_3 1 * win0_7.size 1 ≤ (i 1 : Nat) ∧ (i 1 : Nat) < win0_7.index t0_3 1 * win0_7.size 1 + win0_7.xsize (grid0.coords t0_3) 1
      rw [show win0_7.index t0_3 1 * win0_7.size 1 = 0 from by decide +kernel, show win0_7.xsize (grid0.coords t0_3) 1 = 1024 from by decide +kernel]; omega

end Cert.Loss.Array

end
-- ==== Proof.Loss.RefLine.lean ====
/-
  The reference's straight line of host operations, and that each of its buffers is written once and read only afterwards.
-/
module

public import proofs.«01_k».proof.Defs
public import proofs.«01_k».proof.Proof.Line
public import proofs.«01_k».proof.Proof.Gen.LossRefIdeal

@[expose] public section

set_option maxRecDepth 16384

namespace Cert.LossRefIdeal

open Idealize.ShloMosaic Idealize.ShloMosaic.StableHlo Idealize.SL.Sem Line

/-- The operations of the reference. -/
noncomputable def line : {ops : List (HloOp τ sig (Elt Ideal)) // ∀ d, IsSeq (main (F := Ideal) d) ops} := by
  apply Subtype.mk
  hlo_seq

/-- What each of them writes and reads. -/
noncomputable def table : {T : List (Ref sig .tc × List (Ref sig .tc)) // Table line.1 T} := by
  apply Subtype.mk
  repeat first
    | exact Table.nil
    | apply Table.cons (reads_nullary _ _ _)
    | apply Table.cons (reads_unary _ _ _ _ _)
    | apply Table.cons (reads_binary _ _ _ _ _ _ _)
    | apply Table.cons (reads_reshape _ _ _ _ _ _)
    | apply Table.cons (reads_ternary _ _ _ _ _ _ _ _ _)
    | apply Table.cons (reads_nary _ _ _ _ _)

theorem single_line : single table.1 = true := by decide +kernel

/-- The contents at the end, which every operation leaves alone. -/
theorem fixed (V : Valuation τ sig (Elt Ideal)) : Fixed line.1 (after line.1 V) := fixed_of table.2 single_line V

/-- The arguments are not written. -/
theorem kept (V : Valuation τ sig (Elt Ideal)) (r : Ref sig .tc) (h : table.1.all (fun e => e.1 != r) = true) :
    after line.1 V (Proc.devRef .tc r) = V (Proc.devRef .tc r) := after_keep table.2 h V

end Cert.LossRefIdeal
-- ==== Proof.Loss.RefVal.lean ====
/-
  The reference's results over real arguments, read off its line stage by stage.
-/
module

public import proofs.«01_k».proof.Proof.Loss.RefLine
public import proofs.«01_k».proof.Proof.Loss.Real

@[expose] public section

set_option maxRecDepth 16384

namespace Cert.LossRefIdeal

open Idealize.ShloMosaic Idealize.ShloMosaic.TcCoe Idealize.ShloMosaic.StableHlo Idealize.SL.Sem Line Lift Spec Loss

/-- The contents `A` at the end, the arguments being images of reals. -/
structure Reals (A : Valuation τ sig (Elt Ideal)) (act : Fin 2176 → Fin 2816 → ℝ) (W : Fin 2816 → Fin 1024 → ℝ) (h : Fin 2176 → Fin 1024 → ℝ)
    (tg : Fin 2048 → Fin 1024 → ℝ) (w : Fin 1024 → ℝ) : Prop where
  fixed : Fixed line.1 A
  act_eq : ∀ a k, A (↑main_arg0 : DevRef τ sig) (ix2 a k) = ((act a k : ℝ) : EReal)
  W_eq : ∀ r k, A (↑main_arg1 : DevRef τ sig) (ix2 r k) = ((W r k : ℝ) : EReal)
  h_eq : ∀ a k, A (↑main_arg2 : DevRef τ sig) (ix2 a k) = ((h a k : ℝ) : EReal)
  tg_eq : ∀ a k, A (↑main_arg3 : DevRef τ sig) (ix2 a k) = ((tg a k : ℝ) : EReal)
  w_eq : ∀ k, A (↑main_arg4 : DevRef τ sig) (ix2 0 k) = ((w k : ℝ) : EReal)

variable {A : Valuation τ sig (Elt Ideal)} {act : Fin 2176 → Fin 2816 → ℝ} {W : Fin 2816 → Fin 1024 → ℝ} {h : Fin 2176 → Fin 1024 → ℝ}
  {tg : Fin 2048 → Fin 1024 → ℝ} {w : Fin 1024 → ℝ} (H : Reals A act W h tg w)
include H

/-- The row of the residual stream. -/
theorem v1_at (a : Fin 2176) (k : Fin 1024) : A (↑main_v1 : DevRef τ sig) (ix2 a k) = ((resid act W h a k : ℝ) : EReal) := by
  refine (congrFun (congrFun (H.fixed [0, 1]).symm _) _).trans ?_
  after_reads_at
  simp only [H.act_eq, H.W_eq, H.h_eq, ← EReal.coe_mul, ← EReal.coe_add, sum_coe]
  refine congrArg _ ?_
  unfold resid; ring

theorem v8_at (a : Fin 2176) : A (↑main_v8 : DevRef τ sig) (ix2 a 0) = ((((∑ k, resid act W h a k * resid act W h a k) / 1024 + eps) : ℝ) : EReal) := by
  refine (congrFun (congrFun (H.fixed [2, 3, 4, 5, 6, 7, 8, 9, 10, 11]).symm _) _).trans ?_
  after_reads_at
  simp only [v1_at H, c_1024, c_eps, ← EReal.coe_mul, ← EReal.coe_add, sum_coe, div_coe_coe _ (show (1024 : ℝ) ≠ 0 by norm_num)]

theorem v9_at (a : Fin 2176) : A (↑main_v9 : DevRef τ sig) (ix2 a 0) = ((rms (resid act W h a) : ℝ) : EReal) := by
  refine (congrFun (congrFun (H.fixed [12]).symm _) _).trans ?_
  after_reads_at
  simp only [v8_at H]
  exact rsqrt_coe_pos (rms_arg_pos (resid act W h a))

theorem v12_at (a : Fin 2176) : A (↑main_v12 : DevRef τ sig) (ix2 a 0) =
    ((-(1 / 2) * (rms (resid act W h a) / ((∑ k, resid act W h a k * resid act W h a k) / 1024 + eps)) : ℝ) : EReal) := by
  refine (congrFun (congrFun (H.fixed [13, 14, 15, 16]).symm _) _).trans ?_
  after_reads_at
  simp only [v8_at H, v9_at H, c_neg_half]
  rw [div_coe_coe _ (rms_arg_pos (resid act W h a)).ne', ← EReal.coe_mul]

theorem v14_at (a : Fin 2176) (k : Fin 1024) : A (↑main_v14 : DevRef τ sig) (ix2 a k) = ((resid act W h a k * rms (resid act W h a) : ℝ) : EReal) := by
  refine (congrFun (congrFun (H.fixed [17, 18]).symm _) _).trans ?_
  after_reads_at
  simp only [v1_at H, v9_at H, ← EReal.coe_mul]

/-- The error of a row that carries a loss. -/
theorem v18_at (a : Fin 2048) (k : Fin 1024) : A (↑main_v18 : DevRef τ sig) (ix2 a k) = ((err alive (resid act W h) w (targets tg) ⟨128 + a.val, by omega⟩ k : ℝ) : EReal) := by
  refine (congrFun (congrFun (H.fixed [19, 20, 21, 22]).symm _) _).trans ?_
  after_reads_at
  simp only [v14_at H, H.w_eq, H.tg_eq, ← EReal.coe_mul, sub_coe]
  refine congrArg _ ?_
  rw [err_late, targets_late]

theorem v26_at (j) : A (↑main_v26 : DevRef τ sig) j = ((1 / 2 * ∑ a, lossRow alive (resid act W h) w (targets tg) a : ℝ) : EReal) := by
  refine (congrFun (congrFun (H.fixed [23, 27, 28, 29, 30, 31, 32, 33, 34, 35]).symm _) _).trans ?_
  after_reads_at
  simp only [v18_at H, c_1024, c_half, ← EReal.coe_mul, sum_coe, div_coe_coe _ (show (1024 : ℝ) ≠ 0 by norm_num)]
  refine congrArg _ ?_
  rw [sum_late _ fun a ha => by rw [lossRow]; simp [err, alive, show ¬ 128 ≤ a.val by omega]]
  exact congrArg (1 / 2 * ·) (Finset.sum_congr rfl fun a _ => (mul_one_div _ _).symm)

theorem v32_at (a : Fin 2048) (k : Fin 1024) : A (↑main_v32 : DevRef τ sig) (ix2 a k) = ((derr alive (resid act W h) w (targets tg) ⟨128 + a.val, by omega⟩ k : ℝ) : EReal) := by
  refine (congrFun (congrFun (H.fixed [24, 25, 26, 36, 37, 38, 39, 40, 41, 42, 43, 44]).symm _) _).trans ?_
  after_reads_at
  simp only [v18_at H, c_half, c_two, c_1024, ← EReal.coe_mul, div_coe_coe _ (show (1024 : ℝ) ≠ 0 by norm_num)]
  refine congrArg _ ?_
  unfold derr; ring

theorem v33_at (a : Fin 2176) (k : Fin 1024) : A (↑main_v33 : DevRef τ sig) (ix2 a k) = ((derr alive (resid act W h) w (targets tg) a k : ℝ) : EReal) := by
  refine (congrFun (congrFun (H.fixed [45, 46]).symm _) _).trans ?_
  after_reads_at
  by_cases ha : 128 ≤ a.val
  · rw [dif_pos ⟨ha, by omega⟩, v32_at H]
    exact congrArg (fun r => ((derr alive (resid act W h) w (targets tg) r k : ℝ) : EReal)) (Fin.ext (Nat.add_sub_cancel' ha))
  · rw [dif_neg fun h => ha h.1, ← EReal.coe_zero]
    simp [derr, err, alive, ha]

theorem v36_at (k : Fin 1024) : A (↑main_v36 : DevRef τ sig) (ix2 0 k) = ((∑ a, dwRow alive (resid act W h) w (targets tg) k a : ℝ) : EReal) := by
  refine (congrFun (congrFun (H.fixed [47, 48, 49, 50]).symm _) _).trans ?_
  after_reads_at
  simp only [v14_at H, v33_at H, ← EReal.coe_mul, sum_coe]
  refine congrArg _ ?_
  simp only [dwRow, mul_comm]

theorem v38_at (a : Fin 2176) (k : Fin 1024) : A (↑main_v38 : DevRef τ sig) (ix2 a k) = ((derr alive (resid act W h) w (targets tg) a k * w k : ℝ) : EReal) := by
  refine (congrFun (congrFun (H.fixed [51, 52]).symm _) _).trans ?_
  after_reads_at
  simp only [v33_at H, H.w_eq, ← EReal.coe_mul]

theorem v48_at (a : Fin 2176) (k : Fin 1024) : A (↑main_v48 : DevRef τ sig) (ix2 a k) = (((∑ j, resid act W h a j * (derr alive (resid act W h) w (targets tg) a j * w j)) *
    (-(1 / 2) * (rms (resid act W h a) / ((∑ k, resid act W h a k * resid act W h a k) / 1024 + eps))) / 1024 : ℝ) : EReal) := by
  refine (congrFun (congrFun (H.fixed [53, 54, 55, 56, 59, 60, 61, 62, 63, 64, 65]).symm _) _).trans ?_
  after_reads_at
  simp only [Fin.sum_univ_one, v1_at H, v38_at H, v12_at H, c_1024, ← EReal.coe_mul, sum_coe, div_coe_coe _ (show (1024 : ℝ) ≠ 0 by norm_num)]

theorem v52_at (a : Fin 2176) (k : Fin 1024) : A (↑main_v52 : DevRef τ sig) (ix2 a k) = ((dzRow alive (resid act W h) w (targets tg) a k : ℝ) : EReal) := by
  refine (congrFun (congrFun (H.fixed [57, 58, 66, 67, 68, 69]).symm _) _).trans ?_
  after_reads_at
  simp only [v48_at H, v1_at H, v38_at H, v9_at H, ← EReal.coe_mul, ← EReal.coe_add]
  refine congrArg _ ?_
  exact rmsGrad_eq (resid act W h a) (fun k => derr alive (resid act W h) w (targets tg) a k * w k) k

theorem v53_at (a : Fin 2176) (k : Fin 1024) : A (↑main_v53 : DevRef τ sig) (ix2 a k) = ((dzRow alive (resid act W h) w (targets tg) a k : ℝ) : EReal) := by
  refine (congrFun (congrFun (H.fixed [70]).symm _) _).trans ?_
  after_reads_at
  exact v52_at H a k

theorem v54_at (a : Fin 1) (k : Fin 128) : A (↑main_v54 : DevRef τ sig) (ix2 a k) = ((1 / 2 * ∑ a, lossRow alive (resid act W h) w (targets tg) a : ℝ) : EReal) := by
  refine (congrFun (congrFun (H.fixed [71]).symm _) _).trans ?_
  after_reads_at
  exact v26_at H _

end Cert.LossRefIdeal
-- ==== Proof.Loss.Finite.lean ====
/-
  The precondition read: every element of the arguments is the image of a real number.
-/
module

public import proofs.«01_k».proof.Proof.Lift
public import proofs.«01_k».proof.Proof.Gen.Pre_loss_finite

@[expose] public section

set_option maxRecDepth 16384

namespace Cert.Loss

open Idealize.ShloMosaic Lift Pre_loss_finite

theorem real_of_fn (a0 : FVec Ideal S2176x2816 .f32) (a1 : FVec Ideal S2816x1024 .f32) (a2 : FVec Ideal S2176x1024 .f32) (a3 : FVec Ideal S2048x1024 .f32)
    (a4 : FVec Ideal S1x1024 .f32) (j : S_.Idx) (h : fn a0 a1 a2 a3 a4 j = 1#1) : IsReal a0 ∧ IsReal a1 ∧ IsReal a2 ∧ IsReal a3 ∧ IsReal a4 := by
  have : Subsingleton S_.Idx := ⟨fun a b => funext fun i => i.elim0⟩
  unfold fn fn_part1 at h
  dsimp only at h
  obtain ⟨h, h4⟩ := and_split _ _ j h
  obtain ⟨h, h3⟩ := and_split _ _ j h
  obtain ⟨h, h2⟩ := and_split _ _ j h
  obtain ⟨h0, h1⟩ := and_split _ _ j h
  refine ⟨fun i => finite_of_reduce _ _ _ ?_ _ _ j h0 i, fun i => finite_of_reduce _ _ _ ?_ _ _ j h1 i,
    fun i => finite_of_reduce _ _ _ ?_ _ _ j h2 i, fun i => finite_of_reduce _ _ _ ?_ _ _ j h3 i, fun i => finite_of_reduce _ _ _ ?_ _ _ j h4 i⟩
  all_goals exact fun _ => ofBits_inf

end Cert.Loss
-- ==== Proof.Loss.Claims.lean ====
/-
  The claims about the loss call.
-/
module

public import proofs.«01_k».proof.Proof.Gen.Loss.Skeleton
public import proofs.«01_k».proof.Proof.Loss.Array
public import proofs.«01_k».proof.Proof.Loss.RefVal
public import proofs.«01_k».proof.Proof.Loss.Finite

@[expose] public section

set_option maxRecDepth 16384

open Idealize.ShloMosaic Idealize.ShloMosaic.TcCoe Idealize.SL.Sem Cert.Lift

namespace Cert.LossRefIdeal

/-- The reference's run: every buffer ends at the line's value. -/
theorem ref_run (m : (ℓ : Loc nD τ sig) → Buf (Elt Ideal) ℓ)
    (ρ : Dev nD → PrngReg) :
    θ_run (defs (F := Ideal)) (onTc (τ := τ) (main (F := Ideal))) ⟨m, fun _ => 0, ρ⟩ fun r =>
      ∀ (d : Dev nD) (b : Ref sig .tc),
        r.2.mem ((d.tc : Thread _ _).loc b) = StableHlo.after line.1 (StableHlo.launchContents m d) (Proc.devRef .tc b) :=
  StableHlo.run_hlo _ _ line.2 (by decide) (by decide) (by unfold line; simp)
    (by unfold line; intro _ h; (repeat (cases h with | head => rfl | tail _ h => ?_)); exact nomatch h) m ρ

theorem ref_kept (m : (ℓ : Loc nD τ sig) → Buf (Elt Ideal) ℓ) (d : Dev nD)
    (b : Ref sig .tc) (h : table.1.all (fun e => e.1 != b) = true) :
    StableHlo.after line.1 (StableHlo.launchContents m d) (Proc.devRef .tc b) = m ((d.tc : Thread _ _).loc b) :=
  kept _ b h

end Cert.LossRefIdeal

namespace Cert.LossIdeal.Claims

open Cert.LossRefIdeal (ref_run ref_kept)

/-- The two printed programs are one. -/
theorem defs_eq : Loss.defs (F := Bits) = defs (F := Bits) := by sl_kernel_rfl

theorem frame_kernel : Cert.quiescent_Loss := fun m ρ _ => by
  have h := Hand.frame (F := Bits) m ρ
  rw [← defs_eq] at h
  exact h
theorem frame_ideal : Cert.quiescent_LossIdeal := fun m ρ _ => Hand.frame m ρ
theorem frame_ideal_pre : Cert.quiescent_LossIdeal_pre_loss_finite := fun m ρ _ => Hand.frame m ρ

theorem frame_ref : Cert.quiescent_LossRefIdeal := fun m ρ _ =>
  (θ_run LossRefIdeal.defs _ _).mono (fun r h => ⟨fun c =>
    by refine ⟨?_, ?_, ?_, ?_, ?_⟩ <;> exact (h c _).trans (ref_kept m c _ (by decide +kernel)),
    sem_eq_zero_of_no_sems (by decide) r.2⟩) (ref_run m ρ)

theorem frame_ref_pre : Cert.quiescent_LossRefIdeal_pre_loss_finite := fun m ρ _ => frame_ref m ρ trivial

theorem preserves : Cert.preserves_Loss_LossIdeal := trivial

section
variable (m : (ℓ : Loc nD τ sig) → Buf (Elt Ideal) ℓ)
  (m' : (ℓ : Loc LossRefIdeal.nD LossRefIdeal.τ LossRefIdeal.sig) → Buf (Elt Ideal) ℓ) (c : Dev nD)

/-- The real arrays the arguments are images of. -/
def act (a : Fin 2176) (k : Fin 2816) : ℝ := (m ((c : Thread nD τ).loc main_arg0) (ix2 a k) : EReal).toReal
def wdown (a : Fin 2816) (k : Fin 1024) : ℝ := (m ((c : Thread nD τ).loc main_arg1) (ix2 a k) : EReal).toReal
def stream (a : Fin 2176) (k : Fin 1024) : ℝ := (m ((c : Thread nD τ).loc main_arg2) (ix2 a k) : EReal).toReal
def goal (a : Fin 2048) (k : Fin 1024) : ℝ := (m ((c : Thread nD τ).loc main_arg3) (ix2 a k) : EReal).toReal
def nw (k : Fin 1024) : ℝ := (m ((c : Thread nD τ).loc main_arg4) (ix2 0 k) : EReal).toReal

theorem args (hpre : Pre_LossIdeal_loss_finite m) : Loss.Array.Args m c (act m c) (wdown m c) (stream m c) (goal m c) (nw m c) := by
  obtain ⟨h0, h1, h2, h3, h4⟩ := Loss.real_of_fn _ _ _ _ _ (fun i => i.elim0) (congrFun (hpre c) _)
  exact ⟨fun a k => (h0 _).symm, fun a k => (h1 _).symm, fun a k => (h2 _).symm, fun a k => (h3 _).symm, fun k => (h4 _).symm⟩

/-- The kernel's run: the results are the arrays after the last point. -/
theorem run_blocks (ρ : Dev nD → PrngReg) :
    θ_run (defs (F := Ideal)) (onTc (τ := τ) (main (F := Ideal))) ⟨m, fun _ => 0, ρ⟩ fun r => ∀ c : Dev nD,
      r.2.mem ((c.tc : Thread _ _).loc main_v2_0) = (Hand.dats m 0 c).arrAt 4 cfg0.N
      ∧ r.2.mem ((c.tc : Thread _ _).loc main_v2_1) = (Hand.dats m 0 c).arrAt 5 cfg0.N
      ∧ r.2.mem ((c.tc : Thread _ _).loc main_v2_2) = (Hand.dats m 0 c).arrAt 6 cfg0.N
      ∧ r.2.mem ((c.tc : Thread _ _).loc main_v2_3) = (Hand.dats m 0 c).arrAt 7 cfg0.N
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)
      ∧ r.2.mem ((c.tc : Thread _ _).loc main_arg3) = m ((c.tc : Thread _ _).loc main_arg3)
      ∧ r.2.mem ((c.tc : Thread _ _).loc main_arg4) = m ((c.tc : Thread _ _).loc main_arg4) :=
  (θ_run defs _ _).mono (fun _ h c => ⟨(h.1 c).1 4, (h.1 c).1 5, (h.1 c).1 6, (h.1 c).1 7, Hand.args_kept m h.1 c⟩)
    (Hand.run_main m ρ)

end

/-- The kernel and the reference compute the same loss and the same gradients. -/
theorem algebraic : Cert.algebraic_LossIdeal_LossRefIdeal_pre_loss_finite := by
  intro m g m' g' hpre hagree
  refine ⟨_, _, _, _, run_blocks m g, (θ_run LossRefIdeal.defs _ _).mono (fun r h c => ?_) (ref_run m' g')⟩
  obtain ⟨h0, h1, h2, h3, h4⟩ := hagree c
  have H := args m c hpre
  have R : LossRefIdeal.Reals (StableHlo.after LossRefIdeal.line.1 (StableHlo.launchContents m' c)) (act m c) (wdown m c) (stream m c) (goal m c) (nw m c) :=
    ⟨LossRefIdeal.fixed _,
      fun a k => ((congrFun ((ref_kept m' c _ (by decide +kernel)).trans h0) _).trans (H.act_eq a k)),
      fun a k => ((congrFun ((ref_kept m' c _ (by decide +kernel)).trans h1) _).trans (H.W_eq a k)),
      fun a k => ((congrFun ((ref_kept m' c _ (by decide +kernel)).trans h2) _).trans (H.h_eq a k)),
      fun a k => ((congrFun ((ref_kept m' c _ (by decide +kernel)).trans h3) _).trans (H.tg_eq a k)),
      fun k => ((congrFun ((ref_kept m' c _ (by decide +kernel)).trans h4) _).trans (H.w_eq k))⟩
  have q := fun b hb => (h c b).trans (ref_kept m' c b hb)
  refine ⟨(h c _).trans ?_, (h c _).trans ?_, (h c _).trans ?_, (h c _).trans ?_,
    q _ (by decide +kernel), q _ (by decide +kernel), q _ (by decide +kernel),
    q _ (by decide +kernel), q _ (by decide +kernel)⟩
  · funext i
    obtain ⟨a, k, rfl⟩ : ∃ (a : Fin 2176) (k : Fin 1024), i = ix2 a k := ⟨i 0, i 1, eq_ix2 i⟩
    exact (LossRefIdeal.v52_at R a k).trans (Loss.Array.arr4 H a k).symm
  · funext i
    obtain ⟨a, k, rfl⟩ : ∃ (a : Fin 2176) (k : Fin 1024), i = ix2 a k := ⟨i 0, i 1, eq_ix2 i⟩
    exact (LossRefIdeal.v53_at R a k).trans (Loss.Array.arr5 H a k).symm
  · funext i
    obtain ⟨a, k, rfl⟩ : ∃ (a : Fin 1) (k : Fin 128), i = ix2 a k := ⟨i 0, i 1, eq_ix2 i⟩
    obtain rfl : a = 0 := Subsingleton.elim _ _
    exact (LossRefIdeal.v54_at R 0 k).trans (Loss.Array.arr6 H k).symm
  · funext i
    obtain ⟨a, k, rfl⟩ : ∃ (a : Fin 1) (k : Fin 1024), i = ix2 a k := ⟨i 0, i 1, eq_ix2 i⟩
    obtain rfl : a = 0 := Subsingleton.elim _ _
    exact (LossRefIdeal.v36_at R k).trans (Loss.Array.arr7 H k).symm

end Cert.LossIdeal.Claims
-- ==== Proof.Swiglu.Real.lean ====
/-
  The SwiGLU gate and its gradient, as real functions.
-/
module

public import proofs.«01_k».proof.Proof.Spec

@[expose] public section

noncomputable section

namespace Cert.Spec

open Idealize.ShloMosaic Lift

/-- The logistic function, tanh form. -/
def sgm (x : ℝ) : ℝ := 1 / 2 * Real.tanh (1 / 2 * x) + 1 / 2

/-- The logistic function, exponential form. -/
theorem sgm_exp (x : ℝ) : 1 / (1 + Real.exp (-x)) = sgm x := by
  unfold sgm
  have h : Real.exp (-x) = Real.exp (-(1 / 2 * x)) * Real.exp (-(1 / 2 * x)) := by rw [← Real.exp_add]; congr 1; ring
  have h1 : Real.exp (1 / 2 * x) * Real.exp (-(1 / 2 * x)) = 1 := by rw [← Real.exp_add]; simp
  have p1 := Real.exp_pos (1 / 2 * x)
  have p2 := Real.exp_pos (-(1 / 2 * x))
  rw [Real.tanh_eq_sinh_div_cosh, Real.sinh_eq, Real.cosh_eq, h]
  generalize Real.exp (1 / 2 * x) = a at *
  generalize Real.exp (-(1 / 2 * x)) = b at *
  field_simp
  nlinarith [h1]

/-- The same on images of reals. -/
theorem sgm_coe (x : ℝ) : Ideal.div ((1 : ℝ) : EReal) (((1 : ℝ) : EReal) + Ideal.exp (-((x : ℝ) : EReal))) = ((sgm x : ℝ) : EReal) := by
  rw [← EReal.coe_neg, show Ideal.exp (((-x : ℝ) : EReal)) = ((Real.exp (-x) : ℝ) : EReal) from rfl, ← EReal.coe_add,
    div_coe_coe _ (by have := Real.exp_pos (-x); linarith), sgm_exp]

end Cert.Spec

namespace Cert.Swiglu

open Cert.Spec

/-- The gradient at the gate's argument and at the value, from the gradient `da` at the gated value. -/
def dgate (g p da : ℝ) : ℝ := da * p * (sgm g * (1 + g * (1 - sgm g)))
def dval (g da : ℝ) : ℝ := da * (g * sgm g)

/-- The gate's value. -/
def gated (g p : ℝ) : ℝ := g * sgm g * p

variable {n m k : ℕ}

/-- A product of two matrices; of a matrix with a transposed one; of a transposed one with a matrix. -/
def mul (A : Fin n → Fin k → ℝ) (B : Fin k → Fin m → ℝ) (a : Fin n) (b : Fin m) : ℝ := ∑ j, A a j * B j b
def mulT (A : Fin n → Fin k → ℝ) (B : Fin m → Fin k → ℝ) (a : Fin n) (b : Fin m) : ℝ := ∑ j, A a j * B b j
def tmul (A : Fin k → Fin n → ℝ) (B : Fin k → Fin m → ℝ) (a : Fin n) (b : Fin m) : ℝ := ∑ j, A j a * B j b

/-- The gradients at the gate's argument and at the value, entry by entry. -/
def dGate (g p da : Fin n → Fin m → ℝ) (a : Fin n) (b : Fin m) : ℝ := dgate (g a b) (p a b) (da a b)
def dVal (g da : Fin n → Fin m → ℝ) (a : Fin n) (b : Fin m) : ℝ := dval (g a b) (da a b)

end Cert.Swiglu

end
-- ==== Proof.Swiglu.Pay.lean ====
/-
  The SwiGLU gradient, one part of the rows: what its stores write, as real functions.
-/
module

public import proofs.«01_k».proof.Proof.Swiglu.Real
public import proofs.«01_k».proof.Proof.Gen.SwigluIdeal.Skeleton

@[expose] public section

set_option maxRecDepth 16384

noncomputable section

namespace Cert.Swiglu.Pay

open Idealize.ShloMosaic SwigluIdeal SwigluIdeal.Gen Lift Spec

variable {v55 : Vec Ideal S544x1024 .bf16} {v56 : Vec Ideal S256x1024 .bf16} {v60 v64 : Vec Ideal S544x256 .bf16}
  {d : Fin 544 → Fin 1024 → ℝ} {W : Fin 256 → Fin 1024 → ℝ} {g p : Fin 544 → Fin 256 → ℝ}
  (hd : ∀ a k, v55 (ix2 a k) = ((d a k : ℝ) : EReal)) (hW : ∀ b k, v56 (ix2 b k) = ((W b k : ℝ) : EReal))
  (hg : ∀ a b, v60 (ix2 a b) = ((g a b : ℝ) : EReal)) (hp : ∀ a b, v64 (ix2 a b) = ((p a b : ℝ) : EReal))

include hd hW in
theorem pay3_at (a : Fin 544) (b : Fin 256) : k0_pay3 (F := Ideal) v55 v56 (ix2 a b) = ((mulT d W a b : ℝ) : EReal) := by
  pointwise [k0_pay3]
  simp only [hd, hW, ← EReal.coe_mul, sum_coe]
  rfl

include hg in
theorem sgm_at (a : Fin 544) (b : Fin 256) : k0_pay8 (F := Ideal) (k0_pay6 v60) k0_pay7 (ix2 a b) = ((sgm (g a b) : ℝ) : EReal) := by
  pointwise [k0_pay8, k0_pay6, k0_pay7, k0_pay4]
  simp only [hg, c_half, ← EReal.coe_mul, ← EReal.coe_add, Ideal.tanh_coe]
  rfl

include hd hW hg hp in
theorem pay9_at (a : Fin 544) (b : Fin 256) :
    k0_pay9 (F := Ideal) (k0_pay3 v55 v56) (k0_pay4 v60) (k0_pay5 v64) (k0_pay6 v60) k0_pay7 (ix2 a b) = ((dGate g p (mulT d W) a b : ℝ) : EReal) := by
  pointwise [k0_pay9, k0_pay4, k0_pay5]
  simp only [pay3_at hd hW, sgm_at hg, hg, hp, one_coe, ← EReal.coe_mul, ← EReal.coe_add, sub_coe]
  rfl

include hd hW hg in
theorem pay10_at (a : Fin 544) (b : Fin 256) :
    k0_pay10 (F := Ideal) (k0_pay3 v55 v56) (k0_pay4 v60) (k0_pay6 v60) k0_pay7 (ix2 a b) = ((dVal g (mulT d W) a b : ℝ) : EReal) := by
  pointwise [k0_pay10, k0_pay4]
  simp only [pay3_at hd hW, sgm_at hg, hg, ← EReal.coe_mul]
  rfl

/-- The three products over all rows. -/
theorem pay11_at {x : Vec Ideal S2176x256 .bf16} {y : Vec Ideal S2176x1024 .bf16} {A : Fin 2176 → Fin 256 → ℝ} {B : Fin 2176 → Fin 1024 → ℝ}
    (hx : ∀ r b, x (ix2 r b) = ((A r b : ℝ) : EReal)) (hy : ∀ r k, y (ix2 r k) = ((B r k : ℝ) : EReal)) (b : Fin 256) (k : Fin 1024) :
    k0_pay11 (F := Ideal) x y (ix2 b k) = ((tmul A B b k : ℝ) : EReal) := by
  pointwise [k0_pay11]
  simp only [hx, hy, ← EReal.coe_mul, sum_coe]
  rfl
theorem pay1_at {x : Vec Ideal S2176x256 .bf16} {y : Vec Ideal S2176x1024 .bf16} {A : Fin 2176 → Fin 256 → ℝ} {B : Fin 2176 → Fin 1024 → ℝ}
    (hx : ∀ r b, x (ix2 r b) = ((A r b : ℝ) : EReal)) (hy : ∀ r k, y (ix2 r k) = ((B r k : ℝ) : EReal)) (b : Fin 256) (k : Fin 1024) :
    k0_pay1 (F := Ideal) (k0_pay12 x) y (ix2 b k) = ((tmul A B b k : ℝ) : EReal) := pay11_at hx hy b k
theorem pay2_at {x : Vec Ideal S2176x256 .bf16} {y : Vec Ideal S2176x1024 .bf16} {A : Fin 2176 → Fin 256 → ℝ} {B : Fin 2176 → Fin 1024 → ℝ}
    (hx : ∀ r b, x (ix2 r b) = ((A r b : ℝ) : EReal)) (hy : ∀ r k, y (ix2 r k) = ((B r k : ℝ) : EReal)) (b : Fin 256) (k : Fin 1024) :
    k0_pay2 (F := Ideal) x y (ix2 b k) = ((tmul A B b k : ℝ) : EReal) := pay11_at hx hy b k

end Cert.Swiglu.Pay

end
-- ==== Proof.Arrive.lean ====
/-
  Rows that arrive by transfers: a scratch buffer filled piece by piece with the rows of one array reads as that array.
-/
module

public import proofs.«01_k».proof.Proof.Rows

@[expose] public section

set_option maxRecDepth 16384

noncomputable section

namespace Cert.Arrive

open Idealize.ShloMosaic

variable {Val : EltTy → Type} [∀ e, Nonempty (Val e)] {sig : RefSig} {κ : Kind} {sp : Space} {S : Shape} {e : EltTy}

/-- Every piece holds the elements of `G` at its place. -/
abbrev Agrees (L : List (View.Piece Val S e)) (G : S.Idx → Val e) : Prop := ∀ p ∈ L, ∀ y : p.1.shape.Idx, p.2 y = G (p.1.emb y)

theorem emb_mem (r : Rect S) (y : r.shape.Idx) : r.emb y ∈ r.set := by
  rw [← Rect.map_emb_univ]; exact Finset.mem_map_of_mem _ (Finset.mem_univ y)

/-- A load of a rectangle the pieces cover reads `G` there. -/
theorem load (v : View sig κ sp S e) {L : List (View.Piece Val S e)} {G : S.Idx → Val e} (h : Agrees L G) (r : Rect S)
    (hc : ∀ y : r.shape.Idx, ∃ p ∈ L, r.emb y ∈ p.1.set) : v.readCov L r.toLoadRect = fun y => G (r.emb y) := by
  rw [View.readCov_eq_canon']
  exact funext fun y => View.canon_apply_of_pieces G L h (r.emb y) (hc y)

/-- The pieces read back are `G`. -/
theorem all (v : View sig κ sp S e) (f : v.ty.Contents Val) {L : List (View.Piece Val S e)} {G : S.Idx → Val e} (h : Agrees L G)
    (hc : ∀ y, ∃ p ∈ L, y ∈ p.1.set) : v.read Val (v.writes Val f L) = G := by
  funext y
  rw [View.read_writes_apply_eq_canon v f y L (hc y)]
  exact View.canon_apply_of_pieces G L h y (hc y)

/-- A load of a whole buffer held at `x` reads `x` at the rectangle. -/
theorem held {M : Memref sig κ sp S e} (hM : M.IsWhole) (x : S.Idx → Val e) (r : Rect S) :
    View.readAt Val M.view r.toLoadRect (hM.unread x) = fun y => x (r.emb y) := by
  rw [View.readAt_eq_ld, hM.read_unread]; rfl

end Cert.Arrive

end
-- ==== Proof.Swiglu.Run.lean ====
/-
  The body of the SwiGLU gradient call, run once at the first point and once at a later point.
-/
module

public import proofs.«01_k».proof.Proof.Gen.SwigluIdeal.Loops
public import proofs.«01_k».proof.Proof.Gen.SwigluIdeal.Points
public import Idealize.ShloMosaic.Lib.Pipeline.Frame

@[expose] public section

set_option maxRecDepth 16384

noncomputable section

namespace Cert.SwigluIdeal.Hand

open SwigluIdeal SwigluIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The two arrays the kernel copies, and the two scratch buffers it copies them into. -/
abbrev dHbm : Memref sig .tc .hbm S2176x1024 .bf16 := Memref.whole main_v4
abbrev uHbm : Memref sig .tc .hbm S2176x1024 .bf16 := Memref.whole main_v9
abbrev dM : Memref sig .tc .vmem S2176x1024 .bf16 := Memref.whole cc0_scratch0
abbrev uM : Memref sig .tc .vmem S2176x1024 .bf16 := Memref.whole cc0_scratch1

/-- A whole buffer held at its contents. -/
abbrev whole {sp : Space} {S : Shape} {e : EltTy} (c : Dev nD) (M : Memref sig .tc sp S e) (f : Buf (Elt F) (M.view.loc (c : Thread nD τ))) : sProp 𝕄 :=
  M.view.loc (c : Thread nD τ) ↦[M.view.set]{fullShare} f

/-- The windows' buffers at one point. -/
structure Bufs where
  w : Memref sig .tc .vmem S256x1024 .bf16
  hw : w.IsWhole
  gt : Memref sig .tc .vmem S2176x256 .bf16
  hgt : gt.IsWhole
  up : Memref sig .tc .vmem S2176x256 .bf16
  hup : up.IsWhole
  act : Memref sig .tc .vmem S2176x256 .bf16
  hact : act.IsWhole
  dg : Memref sig .tc .vmem S2176x256 .bf16
  hdg : dg.IsWhole
  du : Memref sig .tc .vmem S2176x256 .bf16
  hdu : du.IsWhole
  gd : Memref sig .tc .vmem S256x1024 .bf16
  hgd : gd.IsWhole
  gg : Memref sig .tc .vmem S256x1024 .bf16
  hgg : gg.IsWhole
  gu : Memref sig .tc .vmem S256x1024 .bf16
  hgu : gu.IsWhole

/-- The body on a point's buffers. -/
abbrev prog (i : grid0.Coords) (B : Bufs) : Prog (TpuEff nD τ sig (Elt F) Λ₀ .tc) PUnit :=
  cc0_swiglu_bwd i dHbm (Memref.isWhole_whole _) uHbm (Memref.isWhole_whole _) B.w B.hw B.gt B.hgt B.up B.hup B.act B.hact
    B.dg B.hdg B.du B.hdu B.gd B.hgd B.gg B.hgg B.gu B.hgu dM (Memref.isWhole_whole _) uM (Memref.isWhole_whole _) cc0_scratch2 cc0_scratch3

/-- A buffer owned at some contents. -/
abbrev some {sp : Space} {S : Shape} {e : EltTy} (c : Dev nD) (M : Memref sig .tc sp S e) : sProp 𝕄 := iprop(∃ d, owns (c : Thread nD τ) M fullShare d)

/-- A buffer with pieces written over unknown contents. -/
abbrev written {sp : Space} {S : Shape} {e : EltTy} (c : Dev nD) (M : Memref sig .tc sp S e) (L : List (View.Piece (Elt F) S e)) : sProp 𝕄 :=
  iprop(∃ f, M.view.loc (c : Thread nD τ) ↦[M.view.set]{fullShare} M.view.writes (Elt F) f L)

/-- The eight semaphores at zero. -/
abbrev sems (c : Dev nD) : sProp 𝕄 :=
  iprop(semVal ((c : Thread nD τ), SemLoc.dma 18) 0 ∗ semVal ((c : Thread nD τ), SemLoc.dma 19) 0 ∗ semVal ((c : Thread nD τ), SemLoc.dma 20) 0
    ∗ semVal ((c : Thread nD τ), SemLoc.dma 21) 0 ∗ semVal ((c : Thread nD τ), SemLoc.dma 22) 0 ∗ semVal ((c : Thread nD τ), SemLoc.dma 23) 0
    ∗ semVal ((c : Thread nD τ), SemLoc.dma 24) 0 ∗ semVal ((c : Thread nD τ), SemLoc.dma 25) 0)

/-- The input windows at their blocks. -/
abbrev inputs (c : Dev nD) (B : Bufs) (xw : Vec F S256x1024 .bf16) (xg xp xa : Vec F S2176x256 .bf16) : sProp 𝕄 :=
  iprop(owns (c : Thread nD τ) B.w fullShare xw ∗ owns (c : Thread nD τ) B.gt fullShare xg ∗ owns (c : Thread nD τ) B.up fullShare xp ∗ owns (c : Thread nD τ) B.act fullShare xa)

/-- The outputs' buffers, at unknown contents. -/
abbrev room (c : Dev nD) (B : Bufs) : sProp 𝕄 :=
  iprop(some c B.dg ∗ some c B.du ∗ some c B.gd ∗ some c B.gg ∗ some c B.gu)

section
variable (c : Dev nD) (i : grid0.Coords) (B : Bufs) (xw : Vec F S256x1024 .bf16) (xg xp xa : Vec F S2176x256 .bf16)
  (xd : Buf (Elt F) ((dHbm).view.loc (c : Thread nD τ))) (xu : Buf (Elt F) ((uHbm).view.loc (c : Thread nD τ)))

/-- The arrays the kernel copies. -/
abbrev sources : sProp 𝕄 := iprop(whole c dHbm xd ∗ whole c uHbm xu)

/-- The point is the first: every transfer's condition holds. -/
structure First (i : grid0.Coords) : Prop where
  h1 : k0_cond1 i = 1#1
  h2 : k0_cond2 i = 1#1
  h3 : k0_cond3 i = 1#1
  h5 : k0_cond5 i = 1#1
  h7 : k0_cond7 i = 1#1
  h9 : k0_cond9 i = 1#1
  h11 : k0_cond11 i = 1#1

/-- The point is a later one: no transfer's condition holds. -/
structure Later (i : grid0.Coords) : Prop where
  h1 : ¬ k0_cond1 i = 1#1
  h2 : ¬ k0_cond2 i = 1#1
  h3 : ¬ k0_cond3 i = 1#1
  h5 : ¬ k0_cond5 i = 1#1
  h7 : ¬ k0_cond7 i = 1#1
  h9 : ¬ k0_cond9 i = 1#1
  h11 : ¬ k0_cond11 i = 1#1

/-- Which pieces start the transfer of the piece two further on. -/
theorem ahead0 : k0_cond4 ⟨0, by decide⟩ = 1#1 := by decide +kernel
theorem ahead1 : k0_cond4 ⟨1, by decide⟩ = 1#1 := by decide +kernel
theorem ahead2 : ¬ k0_cond4 ⟨2, by decide⟩ = 1#1 := by decide +kernel
theorem ahead3 : ¬ k0_cond4 ⟨3, by decide⟩ = 1#1 := by decide +kernel
theorem ahead6 : k0_cond6 = 1#1 := by decide +kernel
theorem ahead8 : k0_cond8 = 1#1 := by decide +kernel
theorem ahead10 : ¬ k0_cond10 = 1#1 := by decide +kernel
theorem ahead12 : ¬ k0_cond12 = 1#1 := by decide +kernel

/-- The end of a run, apart from what is kept: the inputs as they were, each output with its pieces. -/
abbrev ended (L4 L5 : List (View.Piece (Elt F) S2176x256 .bf16)) (L6 L7 L8 : List (View.Piece (Elt F) S256x1024 .bf16)) : sProp 𝕄 :=
  iprop(inputs c B xw xg xp xa ∗ (∃ W', owes (c : Thread nD τ) 0 W') ∗ written c B.dg L4 ∗ written c B.du L5 ∗ written c B.gd L6 ∗ written c B.gg L7 ∗ written c B.gu L8)

set_option backward.proofsInPublic true in
set_option maxHeartbeats 4000000 in
set_option sl_exec.unrollTrips 8 in
set_option sl_exec.dmaWindow true in
set_option sl_exec.dmaWindowSet true in
/-- The first point: what the body leaves in its five results and in the two scratch buffers, found by running it. -/
def runA (h : First i) :
    Σ' (L4 : List (View.Piece (Elt F) S2176x256 .bf16)), Σ' (L5 : List (View.Piece (Elt F) S2176x256 .bf16)), Σ' (L6 : List (View.Piece (Elt F) S256x1024 .bf16)),
      Σ' (L7 : List (View.Piece (Elt F) S256x1024 .bf16)), Σ' (L8 : List (View.Piece (Elt F) S256x1024 .bf16)), Σ' (Ld : List (View.Piece (Elt F) S2176x1024 .bf16)),
      { Lu : List (View.Piece (Elt F) S2176x1024 .bf16) // ∀ (W : Waits sig Unit) (K : PUnit → sProp 𝕄),
        iprop(inputs c B xw xg xp xa ∗ (some c dM ∗ some c uM) ∗ sems c ∗ sources c xd xu ∗ owes (c : Thread nD τ) 0 W ∗ room c B
            ∗ (iprop((written c dM Ld ∗ written c uM Lu) ∗ sems c ∗ sources c xd xu ∗ ended c B xw xg xp xa L4 L5 L6 L7 L8) -∗ K ⟨⟩))
          ⊢ wp frame (wpE (defs₀ (F := F)) Variants.none c none) Set.univ (prog i B) K } := by
  refine ⟨?_, ?_, ?_, ?_, ?_, ?_, ?_, fun W K => ?run⟩
  case run =>
    unfold prog; simp only [cc0_swiglu_bwd_eq_skeleton]; unfold cc0_swiglu_bwd_skel
    simp only [k0_part1_eq_skeleton, k0_part2_eq_skeleton]
    unfold inputs room some owns sems sources
    iintro ⟨⟨⟨%f0, %hf0, H0⟩, ⟨%f1, %hf1, H1⟩, ⟨%f2, %hf2, H2⟩, ⟨%f3, %hf3, H3⟩⟩, ⟨⟨%ds, %fs, -, HS⟩, ⟨%dt, %ft, -, HT⟩⟩, ⟨Q0, Q1, Q2, Q3, Q4, Q5, Q6, Q7⟩, ⟨Hd, Hu⟩, HW, ⟨⟨%d4, %f4, -, H4⟩, ⟨%d5, %f5, -, H5⟩, ⟨%d6, %f6, -, H6⟩, ⟨%d7, %f7, -, H7⟩, ⟨%d8, %f8, -, H8⟩⟩, Hk⟩
    obtain rfl := B.hw.eq_unread hf0; obtain rfl := B.hgt.eq_unread hf1; obtain rfl := B.hup.eq_unread hf2; obtain rfl := B.hact.eq_unread hf3
    sl_exec (disch := first | sl_exact h.h1 | sl_exact h.h2 | sl_exact h.h3 | sl_exact h.h5 | sl_exact h.h7 | sl_exact h.h9 | sl_exact h.h11 | sl_exact ahead0 | sl_exact ahead1 | sl_exact ahead2 | sl_exact ahead3 | sl_exact ahead6 | sl_exact ahead8 | sl_exact ahead10 | sl_exact ahead12)
    sl_step
    iapply Hk
    isplitl [HS HT]
    · isplitl [HS]; · iexists _; iexact HS
      iexists _; iexact HT
    iframe Q0 Q1 Q2 Q3 Q4 Q5 Q6 Q7 Hd Hu
    unfold ended inputs owns
    isplitl [H0 H1 H2 H3]
    · isplitl [H0]
      · iexists _; isplitr; · ipureintro; exact B.hw.read_unread _
        iexact H0
      isplitl [H1]
      · iexists _; isplitr; · ipureintro; exact B.hgt.read_unread _
        iexact H1
      isplitl [H2]
      · iexists _; isplitr; · ipureintro; exact B.hup.read_unread _
        iexact H2
      iexists _; isplitr; · ipureintro; exact B.hact.read_unread _
      iexact H3
    isplitl [HW]; · iexists _; iexact HW
    isplitl [H4]; · iexists _; iexact H4
    isplitl [H5]; · iexists _; iexact H5
    isplitl [H6]; · iexists _; iexact H6
    isplitl [H7]; · iexists _; iexact H7
    iexists _; iexact H8

set_option backward.proofsInPublic true in
set_option maxHeartbeats 4000000 in
set_option sl_exec.unrollTrips 8 in
/-- A later point: the scratch buffers hold the copied arrays. -/
def runB (h : Later i) (yd yu : Vec F S2176x1024 .bf16) :
    Σ' (L4 : List (View.Piece (Elt F) S2176x256 .bf16)), Σ' (L5 : List (View.Piece (Elt F) S2176x256 .bf16)), Σ' (L6 : List (View.Piece (Elt F) S256x1024 .bf16)),
      Σ' (L7 : List (View.Piece (Elt F) S256x1024 .bf16)),
      { L8 : List (View.Piece (Elt F) S256x1024 .bf16) // ∀ (W : Waits sig Unit) (K : PUnit → sProp 𝕄),
        iprop(inputs c B xw xg xp xa ∗ (owns (c : Thread nD τ) dM fullShare yd ∗ owns (c : Thread nD τ) uM fullShare yu) ∗ owes (c : Thread nD τ) 0 W ∗ room c B
            ∗ (iprop((owns (c : Thread nD τ) dM fullShare yd ∗ owns (c : Thread nD τ) uM fullShare yu) ∗ ended c B xw xg xp xa L4 L5 L6 L7 L8) -∗ K ⟨⟩))
          ⊢ wp frame (wpE (defs₀ (F := F)) Variants.none c none) Set.univ (prog i B) K } := by
  refine ⟨?_, ?_, ?_, ?_, ?_, fun W K => ?run⟩
  case run =>
    unfold prog; simp only [cc0_swiglu_bwd_eq_skeleton]; unfold cc0_swiglu_bwd_skel
    simp only [k0_part1_eq_skeleton, k0_part2_eq_skeleton]
    unfold inputs room some owns
    iintro ⟨⟨⟨%f0, %hf0, H0⟩, ⟨%f1, %hf1, H1⟩, ⟨%f2, %hf2, H2⟩, ⟨%f3, %hf3, H3⟩⟩, ⟨⟨%fs, %hfs, HS⟩, ⟨%ft, %hft, HT⟩⟩, HW, ⟨⟨%d4, %f4, -, H4⟩, ⟨%d5, %f5, -, H5⟩, ⟨%d6, %f6, -, H6⟩, ⟨%d7, %f7, -, H7⟩, ⟨%d8, %f8, -, H8⟩⟩, Hk⟩
    obtain rfl := B.hw.eq_unread hf0; obtain rfl := B.hgt.eq_unread hf1; obtain rfl := B.hup.eq_unread hf2; obtain rfl := B.hact.eq_unread hf3
    obtain rfl := (Memref.isWhole_whole _).eq_unread hfs; obtain rfl := (Memref.isWhole_whole _).eq_unread hft
    sl_exec (disch := first | sl_exact h.h1 | sl_exact h.h2 | sl_exact h.h3 | sl_exact h.h5 | sl_exact h.h7 | sl_exact h.h9 | sl_exact h.h11)
    sl_step
    iapply Hk
    isplitl [HS HT]
    · isplitl [HS]
      · iexists _; isplitr; · ipureintro; exact (Memref.isWhole_whole _).read_unread _
        iexact HS
      iexists _; isplitr; · ipureintro; exact (Memref.isWhole_whole _).read_unread _
      iexact HT
    unfold ended inputs owns
    isplitl [H0 H1 H2 H3]
    · isplitl [H0]
      · iexists _; isplitr; · ipureintro; exact B.hw.read_unread _
        iexact H0
      isplitl [H1]
      · iexists _; isplitr; · ipureintro; exact B.hgt.read_unread _
        iexact H1
      isplitl [H2]
      · iexists _; isplitr; · ipureintro; exact B.hup.read_unread _
        iexact H2
      iexists _; isplitr; · ipureintro; exact B.hact.read_unread _
      iexact H3
    isplitl [HW]; · iexists _; iexact HW
    isplitl [H4]; · iexists _; iexact H4
    isplitl [H5]; · iexists _; iexact H5
    isplitl [H6]; · iexists _; iexact H6
    isplitl [H7]; · iexists _; iexact H7
    iexists _; iexact H8

end

end Cert.SwigluIdeal.Hand

end
-- ==== Proof.Swiglu.Frame.lean ====
/-
  The run of the SwiGLU gradient: what the scratch buffers hold, the pipeline's proof data, the body at a generic point, the
  launch, the frame.
-/
module

public import proofs.«01_k».proof.Proof.Arrive
public import proofs.«01_k».proof.Proof.Swiglu.Run
public import proofs.«01_k».proof.Proof.Gen.SwigluIdeal.Launch
public import Idealize.ShloMosaic.Lib.Ring
public import Idealize.ShloMosaic.Lib.WordCmp

@[expose] public section

set_option maxRecDepth 16384

noncomputable section

namespace Cert.SwigluIdeal.Hand

open SwigluIdeal SwigluIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section
variable (c : Dev nD) (i : grid0.Coords) (B : Bufs) (xw : Vec F S256x1024 .bf16) (xg xp xa : Vec F S2176x256 .bf16) (xd xu : Vec F S2176x1024 .bf16)

/-! ## The copied arrays -/

/-- The pieces the first point copies. -/
abbrev copyD (h : First i) : List (View.Piece (Elt F) S2176x1024 .bf16) := (runA c i B xw xg xp xa xd xu h).2.2.2.2.2.1
abbrev copyU (h : First i) : List (View.Piece (Elt F) S2176x1024 .bf16) := (runA c i B xw xg xp xa xd xu h).2.2.2.2.2.2.1

theorem agrees_d (h : First i) : Arrive.Agrees (copyD c i B xw xg xp xa xd xu h) xd := by
  intro p hp y
  simp only [copyD, runA, List.mem_cons, List.not_mem_nil, or_false] at hp
  rcases hp with rfl | rfl | rfl | rfl <;> rfl
theorem agrees_u (h : First i) : Arrive.Agrees (copyU c i B xw xg xp xa xd xu h) xu := by
  intro p hp y
  simp only [copyU, runA, List.mem_cons, List.not_mem_nil, or_false] at hp
  rcases hp with rfl | rfl | rfl | rfl <;> rfl
theorem cover_d (h : First i) (y : S2176x1024.Idx) : ∃ p ∈ copyD c i B xw xg xp xa xd xu h, y ∈ p.1.set :=
  View.cover_of_tiledL (s := S2176x1024) _ S544x1024.size (by sl_kernel_rfl) y
theorem cover_u (h : First i) (y : S2176x1024.Idx) : ∃ p ∈ copyU c i B xw xg xp xa xd xu h, y ∈ p.1.set :=
  View.cover_of_tiledL (s := S2176x1024) _ S544x1024.size (by sl_kernel_rfl) y

/-- A load of the copied rows reads the array: as at a later point, where the scratch buffer holds it. -/
theorem load_d (h : First i) (r : Rect S2176x1024) : dM.view.readCov (copyD c i B xw xg xp xa xd xu h) r.toLoadRect
    = View.readAt (Elt F) dM.view r.toLoadRect ((Memref.isWhole_whole cc0_scratch0).unread xd) :=
  (Arrive.load dM.view (agrees_d c i B xw xg xp xa xd xu h) r fun y => cover_d c i B xw xg xp xa xd xu h (r.emb y)).trans (Arrive.held (Memref.isWhole_whole cc0_scratch0) xd r).symm
theorem load_u (h : First i) (r : Rect S2176x1024) : uM.view.readCov (copyU c i B xw xg xp xa xd xu h) r.toLoadRect
    = View.readAt (Elt F) uM.view r.toLoadRect ((Memref.isWhole_whole cc0_scratch1).unread xu) :=
  (Arrive.load uM.view (agrees_u c i B xw xg xp xa xd xu h) r fun y => cover_u c i B xw xg xp xa xd xu h (r.emb y)).trans (Arrive.held (Memref.isWhole_whole cc0_scratch1) xu r).symm

/-! ## What a point leaves -/

/-- The pieces of the five results, from the copied arrays. -/
def listDg : List (View.Piece (Elt F) S2176x256 .bf16) := runB.sl.H4_4 c B xw xg xp xd
def listDu : List (View.Piece (Elt F) S2176x256 .bf16) := runB.sl.H5_4 c B xw xg xd
def listGd : List (View.Piece (Elt F) S256x1024 .bf16) := [⟨Rect.unit ![0, 0] S256x1024.size inb_S256x1024_S256x1024_0_0,
  k0_pay11 (View.readAt (Elt F) B.act.view (Rect.unit ![0, 0] S2176x256.size inb_S2176x256_S2176x256_0_0).toLoadRect (B.hact.unread xa)) (runB.sl.v17 c xd)⟩]
def listGg : List (View.Piece (Elt F) S256x1024 .bf16) := [⟨Rect.unit ![0, 0] S256x1024.size inb_S256x1024_S256x1024_0_0,
  k0_pay1 (runB.sl.r_16 c B xw xg xp xd) (runB.sl.v23 c xu)⟩]
def listGu : List (View.Piece (Elt F) S256x1024 .bf16) := [⟨Rect.unit ![0, 0] S256x1024.size inb_S256x1024_S256x1024_0_0,
  k0_pay2 (runB.sl.v27 c B xw xg xd) (runB.sl.v29 c xu)⟩]

theorem later_lists (h : Later i) : (runB c i B xw xg xp xa h xd xu).1 = listDg c B xw xg xp xd ∧ (runB c i B xw xg xp xa h xd xu).2.1 = listDu c B xw xg xd
    ∧ (runB c i B xw xg xp xa h xd xu).2.2.1 = listGd c B xa xd ∧ (runB c i B xw xg xp xa h xd xu).2.2.2.1 = listGg c B xw xg xp xd xu
    ∧ (runB c i B xw xg xp xa h xd xu).2.2.2.2.1 = listGu c B xw xg xd xu := ⟨rfl, rfl, rfl, rfl, rfl⟩

include B xw xg xp xa xu
/-- The first load comes before the last piece has arrived. -/
theorem first_v55 (h : First i) : runA.sl.v55 c i xd h = runB.sl.v55 c xd := by
  unfold runA.sl.v55 runB.sl.v55
  refine (Arrive.load dM.view (G := xd) (fun p hp => agrees_d c i B xw xg xp xa xd xu h p (List.mem_cons_of_mem _ hp)) _ ?_).trans (Arrive.held (Memref.isWhole_whole cc0_scratch0) xd _).symm
  intro y
  exact ⟨_, List.mem_cons_of_mem _ (List.mem_cons_of_mem _ List.mem_cons_self), Arrive.emb_mem _ y⟩
theorem first_r (h : First i) : runA.sl.r c i B xw xd h = runB.sl.r c B xw xd := by
  unfold runA.sl.r runB.sl.r; rw [first_v55 c i B xw xg xp xa xd xu h]
theorem first_v55_1 (h : First i) : runA.sl.v55_1 c i xd h = runB.sl.v55_1 c xd := load_d c i B xw xg xp xa xd xu h _
theorem first_r_4 (h : First i) : runA.sl.r_4 c i B xw xd h = runB.sl.r_4 c B xw xd := by
  unfold runA.sl.r_4 runB.sl.r_4; rw [first_v55_1 c i B xw xg xp xa xd xu h]
theorem first_v55_2 (h : First i) : runA.sl.v55_2 c i xd h = runB.sl.v55_2 c xd := load_d c i B xw xg xp xa xd xu h _
theorem first_r_8 (h : First i) : runA.sl.r_8 c i B xw xd h = runB.sl.r_8 c B xw xd := by
  unfold runA.sl.r_8 runB.sl.r_8; rw [first_v55_2 c i B xw xg xp xa xd xu h]
theorem first_v55_3 (h : First i) : runA.sl.v55_3 c i xd h = runB.sl.v55_3 c xd := load_d c i B xw xg xp xa xd xu h _
theorem first_r_12 (h : First i) : runA.sl.r_12 c i B xw xd h = runB.sl.r_12 c B xw xd := by
  unfold runA.sl.r_12 runB.sl.r_12; rw [first_v55_3 c i B xw xg xp xa xd xu h]
theorem first_v17 (h : First i) : runA.sl.v17 c i xd h = runB.sl.v17 c xd := load_d c i B xw xg xp xa xd xu h _
include xd
theorem first_v23 (h : First i) : runA.sl.v23 c i xu h = runB.sl.v23 c xu := load_u c i B xw xg xp xa xd xu h _
theorem first_v29 (h : First i) : runA.sl.v29 c i xu h = runB.sl.v29 c xu := load_u c i B xw xg xp xa xd xu h _

theorem first_dg (h : First i) : runA.sl.H4_4 c i B xw xg xp xd h = listDg c B xw xg xp xd := by
  unfold runA.sl.H4_4
  rw [first_r c i B xw xg xp xa xd xu h, first_r_4 c i B xw xg xp xa xd xu h, first_r_8 c i B xw xg xp xa xd xu h, first_r_12 c i B xw xg xp xa xd xu h]
  rfl
theorem first_du (h : First i) : runA.sl.H5_4 c i B xw xg xd h = listDu c B xw xg xd := by
  unfold runA.sl.H5_4
  rw [first_r c i B xw xg xp xa xd xu h, first_r_4 c i B xw xg xp xa xd xu h, first_r_8 c i B xw xg xp xa xd xu h, first_r_12 c i B xw xg xp xa xd xu h]
  rfl
theorem first_r_16 (h : First i) : runA.sl.r_16 c i B xw xg xp xd h = runB.sl.r_16 c B xw xg xp xd := by
  unfold runA.sl.r_16 runB.sl.r_16 runA.sl.v21 runB.sl.v21; rw [first_dg c i B xw xg xp xa xd xu h]; rfl
theorem first_v27 (h : First i) : runA.sl.v27 c i B xw xg xd h = runB.sl.v27 c B xw xg xd := by
  unfold runA.sl.v27 runB.sl.v27; rw [first_du c i B xw xg xp xa xd xu h]; rfl

theorem first_lists (h : First i) : (runA c i B xw xg xp xa xd xu h).1 = listDg c B xw xg xp xd ∧ (runA c i B xw xg xp xa xd xu h).2.1 = listDu c B xw xg xd
    ∧ (runA c i B xw xg xp xa xd xu h).2.2.1 = listGd c B xa xd ∧ (runA c i B xw xg xp xa xd xu h).2.2.2.1 = listGg c B xw xg xp xd xu
    ∧ (runA c i B xw xg xp xa xd xu h).2.2.2.2.1 = listGu c B xw xg xd xu := by
  refine ⟨first_dg c i B xw xg xp xa xd xu h, first_du c i B xw xg xp xa xd xu h, ?_, ?_, ?_⟩
  · unfold listGd; rw [← first_v17 c i B xw xg xp xa xd xu h]; rfl
  · unfold listGg; rw [← first_r_16 c i B xw xg xp xa xd xu h, ← first_v23 c i B xw xg xp xa xd xu h]; rfl
  · unfold listGu; rw [← first_v27 c i B xw xg xp xa xd xu h, ← first_v29 c i B xw xg xp xa xd xu h]; rfl

end

section
variable (c : Dev nD) (i : grid0.Coords) (B : Bufs) (xw : Vec F S256x1024 .bf16) (xg xp xa : Vec F S2176x256 .bf16) (xd xu : Vec F S2176x1024 .bf16)

/-- The five results' blocks. -/
structure Outs (F : FTy → Type) where
  dg : Vec F S2176x256 .bf16
  du : Vec F S2176x256 .bf16
  gd : Vec F S256x1024 .bf16
  gg : Vec F S256x1024 .bf16
  gu : Vec F S256x1024 .bf16

/-- Contents are read through one buffer of each window: any buffer that the pieces cover reads the same. -/
abbrev viewG : View sig .tc .vmem S2176x256 .bf16 := (Memref.whole cc0_stg4_0 : Memref sig .tc .vmem S2176x256 .bf16).view
abbrev viewW : View sig .tc .vmem S256x1024 .bf16 := (Memref.whole cc0_stg6_0 : Memref sig .tc .vmem S256x1024 .bf16).view

/-- Pieces read back. -/
abbrev filled {S : Shape} {e : EltTy} (v : View sig .tc .vmem S e) (L : List (View.Piece (Elt F) S e)) : Vec F S e :=
  v.read (Elt F) (v.writes (Elt F) v.junk L)

/-- What every point leaves. -/
def outs : Outs F :=
  ⟨filled viewG (listDg c B xw xg xp xd), filled viewG (listDu c B xw xg xd), filled viewW (listGd c B xa xd),
    filled viewW (listGg c B xw xg xp xd xu), filled viewW (listGu c B xw xg xd xu)⟩

/-- The results owned at `o`. -/
abbrev outputs (o : Outs F) : sProp 𝕄 :=
  iprop(owns (c : Thread nD τ) B.dg fullShare o.dg ∗ owns (c : Thread nD τ) B.du fullShare o.du ∗ owns (c : Thread nD τ) B.gd fullShare o.gd
    ∗ owns (c : Thread nD τ) B.gg fullShare o.gg ∗ owns (c : Thread nD τ) B.gu fullShare o.gu)

/-- The scratch buffers at the copied arrays. -/
abbrev arrived : sProp 𝕄 := iprop(owns (c : Thread nD τ) dM fullShare xd ∗ owns (c : Thread nD τ) uM fullShare xu)

/-- A buffer whose pieces cover it is owned at the pieces read back. -/
theorem owns_of_written {S : Shape} {e : EltTy} (M : Memref sig .tc .vmem S e) (v : View sig .tc .vmem S e) (L : List (View.Piece (Elt F) S e))
    (hc : ∀ y, ∃ p ∈ L, y ∈ p.1.set) : (written c M L : sProp 𝕄) ⊢ owns (c : Thread nD τ) M fullShare (filled v L) := by
  unfold written owns
  iintro ⟨%f, H⟩
  iexists _; isplitr; swap; · iexact H
  ipureintro; exact View.read_writes_of_cover _ _ _ _ _ hc

/-- A buffer whose pieces cover it and agree with `G` is owned at `G`. -/
theorem owns_of_agrees {S : Shape} {e : EltTy} (M : Memref sig .tc .vmem S e) (G : Vec F S e) (L : List (View.Piece (Elt F) S e))
    (ha : Arrive.Agrees L G) (hc : ∀ y, ∃ p ∈ L, y ∈ p.1.set) : (written c M L : sProp 𝕄) ⊢ owns (c : Thread nD τ) M fullShare G := by
  unfold written owns
  iintro ⟨%f, H⟩
  iexists _; isplitr; swap; · iexact H
  ipureintro; exact Arrive.all M.view f ha hc

/-- The five results from their pieces. -/
theorem outputs_of_written {L4 L5 : List (View.Piece (Elt F) S2176x256 .bf16)} {L6 L7 L8 : List (View.Piece (Elt F) S256x1024 .bf16)}
    (e : L4 = listDg c B xw xg xp xd ∧ L5 = listDu c B xw xg xd ∧ L6 = listGd c B xa xd ∧ L7 = listGg c B xw xg xp xd xu ∧ L8 = listGu c B xw xg xd xu) :
    iprop(written c B.dg L4 ∗ written c B.du L5 ∗ written c B.gd L6 ∗ written c B.gg L7 ∗ written c B.gu L8) ⊢ (outputs c B (outs c B xw xg xp xa xd xu) : sProp 𝕄) := by
  obtain ⟨rfl, rfl, rfl, rfl, rfl⟩ := e
  unfold outputs outs; dsimp only
  iintro ⟨H4, H5, H6, H7, H8⟩
  isplitl [H4]; · iapply (owns_of_written c B.dg viewG _ (View.cover_of_tiledL (s := S2176x256) _ S544x256.size (by sl_kernel_rfl))); iexact H4
  isplitl [H5]; · iapply (owns_of_written c B.du viewG _ (View.cover_of_tiledL (s := S2176x256) _ S544x256.size (by sl_kernel_rfl))); iexact H5
  isplitl [H6]; · iapply (owns_of_written c B.gd viewW _ (View.cover_of_tiledL (s := S256x1024) _ S256x1024.size (by sl_kernel_rfl))); iexact H6
  isplitl [H7]; · iapply (owns_of_written c B.gg viewW _ (View.cover_of_tiledL (s := S256x1024) _ S256x1024.size (by sl_kernel_rfl))); iexact H7
  iapply (owns_of_written c B.gu viewW _ (View.cover_of_tiledL (s := S256x1024) _ S256x1024.size (by sl_kernel_rfl))); iexact H8

theorem bodyA (h : First i) (W : Waits sig Unit) (K : PUnit → sProp 𝕄) :
    iprop(inputs c B xw xg xp xa ∗ (some c dM ∗ some c uM) ∗ sems c ∗ sources c xd xu ∗ owes (c : Thread nD τ) 0 W ∗ room c B
        ∗ (iprop(inputs c B xw xg xp xa ∗ arrived c xd xu ∗ sems c ∗ sources c xd xu ∗ (∃ W', owes (c : Thread nD τ) 0 W') ∗ outputs c B (outs c B xw xg xp xa xd xu)) -∗ K ⟨⟩))
      ⊢ wp frame (wpE (defs₀ (F := F)) Variants.none c none) Set.univ (prog i B) K := by
  iintro ⟨Hi, Hs, Hq, Hh, HW, Ho, Hk⟩
  iapply ((runA c i B xw xg xp xa xd xu h).2.2.2.2.2.2.2 W K)
  iframe Hi Hs Hq Hh HW Ho
  unfold ended
  iintro ⟨⟨Hd, Hu⟩, Hq, Hh, Hi, HW, H⟩
  iapply Hk
  isplitl [Hi]; · iexact Hi
  isplitl [Hd Hu]
  · isplitl [Hd]
    · iapply (owns_of_agrees c dM xd _ (agrees_d c i B xw xg xp xa xd xu h) (cover_d c i B xw xg xp xa xd xu h)); iexact Hd
    iapply (owns_of_agrees c uM xu _ (agrees_u c i B xw xg xp xa xd xu h) (cover_u c i B xw xg xp xa xd xu h)); iexact Hu
  iframe Hq Hh HW
  iapply (outputs_of_written c B xw xg xp xa xd xu (first_lists c i B xw xg xp xa xd xu h)); iexact H

theorem bodyB (h : Later i) (W : Waits sig Unit) (K : PUnit → sProp 𝕄) :
    iprop(inputs c B xw xg xp xa ∗ arrived c xd xu ∗ owes (c : Thread nD τ) 0 W ∗ room c B
        ∗ (iprop(inputs c B xw xg xp xa ∗ arrived c xd xu ∗ (∃ W', owes (c : Thread nD τ) 0 W') ∗ outputs c B (outs c B xw xg xp xa xd xu)) -∗ K ⟨⟩))
      ⊢ wp frame (wpE (defs₀ (F := F)) Variants.none c none) Set.univ (prog i B) K := by
  iintro ⟨Hi, Hs, HW, Ho, Hk⟩
  iapply ((runB c i B xw xg xp xa h xd xu).2.2.2.2.2 W K)
  iframe Hi Hs HW Ho
  unfold ended
  iintro ⟨Hs, Hi, HW, H⟩
  iapply Hk
  iframe Hi Hs HW
  iapply (outputs_of_written c B xw xg xp xa xd xu (later_lists c i B xw xg xp xa xd xu h)); iexact H

end

/-! ## The points -/

theorem first_of (t : Fin cfg0.N) : t.val = 0 → First (grid0.coords t) := by
  obtain ⟨h1, h2, h3, h5, h7, h9, h11⟩ := (by decide +kernel : (∀ t : Fin grid0.N, t.val = 0 → k0_cond1 (grid0.coords t) = 1#1) ∧ (∀ t : Fin grid0.N, t.val = 0 → k0_cond2 (grid0.coords t) = 1#1)
    ∧ (∀ t : Fin grid0.N, t.val = 0 → k0_cond3 (grid0.coords t) = 1#1) ∧ (∀ t : Fin grid0.N, t.val = 0 → k0_cond5 (grid0.coords t) = 1#1)
    ∧ (∀ t : Fin grid0.N, t.val = 0 → k0_cond7 (grid0.coords t) = 1#1) ∧ (∀ t : Fin grid0.N, t.val = 0 → k0_cond9 (grid0.coords t) = 1#1)
    ∧ (∀ t : Fin grid0.N, t.val = 0 → k0_cond11 (grid0.coords t) = 1#1))
  exact fun h => ⟨h1 t h, h2 t h, h3 t h, h5 t h, h7 t h, h9 t h, h11 t h⟩
theorem later_of (t : Fin cfg0.N) : ¬ t.val = 0 → Later (grid0.coords t) := by
  obtain ⟨h1, h2, h3, h5, h7, h9, h11⟩ := (by decide +kernel : (∀ t : Fin grid0.N, ¬ t.val = 0 → ¬ k0_cond1 (grid0.coords t) = 1#1) ∧ (∀ t : Fin grid0.N, ¬ t.val = 0 → ¬ k0_cond2 (grid0.coords t) = 1#1)
    ∧ (∀ t : Fin grid0.N, ¬ t.val = 0 → ¬ k0_cond3 (grid0.coords t) = 1#1) ∧ (∀ t : Fin grid0.N, ¬ t.val = 0 → ¬ k0_cond5 (grid0.coords t) = 1#1)
    ∧ (∀ t : Fin grid0.N, ¬ t.val = 0 → ¬ k0_cond7 (grid0.coords t) = 1#1) ∧ (∀ t : Fin grid0.N, ¬ t.val = 0 → ¬ k0_cond9 (grid0.coords t) = 1#1)
    ∧ (∀ t : Fin grid0.N, ¬ t.val = 0 → ¬ k0_cond11 (grid0.coords t) = 1#1))
  exact fun h => ⟨h1 t h, h2 t h, h3 t h, h5 t h, h7 t h, h9 t h, h11 t h⟩

/-- The buffers the pipeline passes at point `t`. -/
def bufs (t : Fin cfg0.N) : Bufs where
  w := win0_0.stage (cfg0.slots t 0)
  hw := hstage0_0 ((cfg0.slots t 0).cast nbuf0_0)
  gt := win0_1.stage (cfg0.slots t 1)
  hgt := hstage0_1 ((cfg0.slots t 1).cast nbuf0_1)
  up := win0_2.stage (cfg0.slots t 2)
  hup := hstage0_2 ((cfg0.slots t 2).cast nbuf0_2)
  act := win0_3.stage (cfg0.slots t 3)
  hact := hstage0_3 ((cfg0.slots t 3).cast nbuf0_3)
  dg := win0_4.stage (cfg0.slots t 4)
  hdg := hstage0_4 ((cfg0.slots t 4).cast nbuf0_4)
  du := win0_5.stage (cfg0.slots t 5)
  hdu := hstage0_5 ((cfg0.slots t 5).cast nbuf0_5)
  gd := win0_6.stage (cfg0.slots t 6)
  hgd := hstage0_6 ((cfg0.slots t 6).cast nbuf0_6)
  gg := win0_7.stage (cfg0.slots t 7)
  hgg := hstage0_7 ((cfg0.slots t 7).cast nbuf0_7)
  gu := win0_8.stage (cfg0.slots t 8)
  hgu := hstage0_8 ((cfg0.slots t 8).cast nbuf0_8)

variable (m : (ℓ : Loc nD τ sig) → Buf (Elt F) ℓ) (ρ : Dev nD → PrngReg)

/-! ## The host operations before the region -/

abbrev hosts : List (List (HloOp τ sig (Elt F))) := [hostOps0, hostOps0_1, hostOps0_2]

/-- A core's buffers when the region is entered. -/
abbrev V (c : Dev nD) (b : Ref sig .tc) : Buf (Elt F) ((c : Thread nD τ).loc b) := StableHlo.after (List.flatten hosts) (fun b => m (c, b)) b

theorem hosts_sub : (hosts : List (List (HloOp τ sig (Elt F)))).Forall fun ops => ops.Forall fun op => op.bufs ⊆ StableHlo.tcRefs τ sig :=
  ⟨hostOps0_sub, hostOps0_1_sub, hostOps0_2_sub⟩
theorem hosts_fresh : (hosts : List (List (HloOp τ sig (Elt F)))).Forall fun ops => ops.Forall fun op => op.fresh = ∅ := by
  simp only [List.Forall]; repeat' constructor

/-- No host operation writes an argument. -/
theorem V_of_not_written (c : Dev nD) (b : Ref sig .tc)
    (h : (List.flatten hosts : List (HloOp τ sig (Elt F))).Forall fun op => Proc.devRef .tc b ∉ op.writes) : V m c b = m ((c : Thread nD τ).loc b) :=
  StableHlo.after_of_forall_not_mem (b := Proc.devRef .tc b) _ _ (List.forall_iff_forall_mem.mp h)
theorem V_main_arg0 (c : Dev nD) : V m c main_arg0 = m ((c : Thread nD τ).loc main_arg0) :=
  V_of_not_written m c main_arg0 (by
    simp only [hosts, hostOps0, hostOps0_1, hostOps0_2, List.flatten_cons, List.flatten_nil, List.append_nil, List.cons_append, List.nil_append, List.Forall,
      StableHlo.nullary_writes, StableHlo.unary_writes, StableHlo.binary_writes, Finset.mem_singleton]
    repeat' apply And.intro
    all_goals exact StableHlo.devRef_ne_of_ne (by decide))
theorem V_main_arg1 (c : Dev nD) : V m c main_arg1 = m ((c : Thread nD τ).loc main_arg1) :=
  V_of_not_written m c main_arg1 (by
    simp only [hosts, hostOps0, hostOps0_1, hostOps0_2, List.flatten_cons, List.flatten_nil, List.append_nil, List.cons_append, List.nil_append, List.Forall,
      StableHlo.nullary_writes, StableHlo.unary_writes, StableHlo.binary_writes, Finset.mem_singleton]
    repeat' apply And.intro
    all_goals exact StableHlo.devRef_ne_of_ne (by decide))
theorem V_main_arg2 (c : Dev nD) : V m c main_arg2 = m ((c : Thread nD τ).loc main_arg2) :=
  V_of_not_written m c main_arg2 (by
    simp only [hosts, hostOps0, hostOps0_1, hostOps0_2, List.flatten_cons, List.flatten_nil, List.append_nil, List.cons_append, List.nil_append, List.Forall,
      StableHlo.nullary_writes, StableHlo.unary_writes, StableHlo.binary_writes, Finset.mem_singleton]
    repeat' apply And.intro
    all_goals exact StableHlo.devRef_ne_of_ne (by decide))
theorem V_main_arg3 (c : Dev nD) : V m c main_arg3 = m ((c : Thread nD τ).loc main_arg3) :=
  V_of_not_written m c main_arg3 (by
    simp only [hosts, hostOps0, hostOps0_1, hostOps0_2, List.flatten_cons, List.flatten_nil, List.append_nil, List.cons_append, List.nil_append, List.Forall,
      StableHlo.nullary_writes, StableHlo.unary_writes, StableHlo.binary_writes, Finset.mem_singleton]
    repeat' apply And.intro
    all_goals exact StableHlo.devRef_ne_of_ne (by decide))
theorem V_main_arg4 (c : Dev nD) : V m c main_arg4 = m ((c : Thread nD τ).loc main_arg4) :=
  V_of_not_written m c main_arg4 (by
    simp only [hosts, hostOps0, hostOps0_1, hostOps0_2, List.flatten_cons, List.flatten_nil, List.append_nil, List.cons_append, List.nil_append, List.Forall,
      StableHlo.nullary_writes, StableHlo.unary_writes, StableHlo.binary_writes, Finset.mem_singleton]
    repeat' apply And.intro
    all_goals exact StableHlo.devRef_ne_of_ne (by decide))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What point `t` leaves. -/
def outsAt (c : Dev nD) (t : Fin cfg0.N) : Outs F :=
  outs c (bufs t) (iblk m c 0 t) (iblk m c 1 t) (iblk m c 2 t) (iblk m c 3 t) (V m c main_v4) (V m c main_v9)

/-! ## The kernel's own semaphores and the copied arrays -/

abbrev osem : Fin 8 → SemLoc sig := fun j => (![.dma 18, .dma 19, .dma 20, .dma 21, .dma 22, .dma 23, .dma 24, .dma 25] : Fin 8 → SemLoc sig) j
theorem osem_facts : Pipeline.OwnSemFacts spec0 osem := by decide
def Hbm : Finset (Ref sig .tc) := {main_v4, main_v9}
theorem hbm_sub : Hbm ⊆ Pipeline.restRefs sig spec0 := by decide

theorem ownSems_eq (c : Dev nD) :
    (Pipeline.ownSems0 (Ix := Unit) (Name := ℕ) (U := Pipeline.UD sig nD τ) (Lvl := ℕ) (Val := Elt F) (τ := τ) osem c : sProp 𝕄) = sems c := by
  rw [Pipeline.ownSems0_eq_of_list c osem [0, 1, 2, 3, 4, 5, 6, 7] (by decide) (by decide)]; rfl
theorem hbm_eq (c : Dev nD) :
    (bigSep Hbm (fun b => ((c : Thread nD τ).loc b) ↦{fullShare} V m c b) : sProp 𝕄) = sources c (V m c main_v4) (V m c main_v9) := by
  rw [BI.bigSep_eq_bigSepL_of_eq [main_v4, main_v9] (by decide) (by decide)]; simp only [sources, whole, Memref.view_whole, View.set_whole]; rfl

/-- What the kernel keeps between points, apart from the scratch buffers. -/
abbrev kept (c : Dev nD) : sProp 𝕄 := iprop((∃ r, prngReg c r) ∗ sems c ∗ sources c (V m c main_v4) (V m c main_v9))

theorem inv_eq (c : Dev nD) :
    (Pipeline.ΦD osem spec0 Hbm (V m) c : sProp 𝕄) = iprop((some c dM ∗ some c uM) ∗ kept m c) := by
  rw [Pipeline.ΦD_eq, scopedRest0_eq, ownSems_eq, hbm_eq]; simp only [some, dM, uM, owns_whole, kept]; try rfl

/-- The invariant: before the first point the scratch buffers hold anything, from then on the copied arrays. -/
def inv (c : Dev nD) (p : ℕ) : sProp 𝕄 :=
  if p = 0 then Pipeline.ΦD osem spec0 Hbm (V m) c else iprop(arrived c (V m c main_v4) (V m c main_v9) ∗ kept m c)

theorem inv_first (c : Dev nD) (p : ℕ) (h : p = 0) : inv m c p = Pipeline.ΦD osem spec0 Hbm (V m) c := by unfold inv; exact if_pos h
theorem inv_later (c : Dev nD) (p : ℕ) (h : ¬ p = 0) : inv m c p = iprop(arrived c (V m c main_v4) (V m c main_v9) ∗ kept m c) := by
  unfold inv; exact if_neg h

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t).dg
    | ⟨5, _⟩ => (outsAt m c t).du
    | ⟨6, _⟩ => (outsAt m c t).gd
    | ⟨7, _⟩ => (outsAt m c t).gg
    | ⟨8, _⟩ => (outsAt m c t).gu
  Φ p := inv m c p.val
  q _ := fullShare
  owed _ := 0

theorem A_eq (c : Dev nD) (w : Fin cfg0.W) : (dats m 0 c).A w = V m c (Pipeline.arrRef spec0 w) := by dsimp only [dats]

section
variable (c : Dev nD) (t : Fin cfg0.N)

/-- An input's staging buffer holds its block at every point. -/
theorem before_in (w : Fin cfg0.W) (hw : (cfg0.win w).isOut = false) (hl : ∀ i, cfg0.idle w i = false)
    (hc : ∀ t t' : Fin cfg0.N, (cfg0.win w).index t = (cfg0.win w).index t' → (cfg0.win w).clip (cfg0.grid.coords t) = (cfg0.win w).clip (cfg0.grid.coords t'))
    (ha : ∀ t, (cfg0.win w).cut (cfg0.grid.coords t) ((dats m 0 c).after w t) = iblk m c w t) (d) : (dats m 0 c).before w t d = (dats m 0 c).fetched w t d :=
  (dats m 0 c).before_in_eq_fetched w hw hl hc (fun t => by rw [ha]; unfold Dat.blockOf iblk; rw [A_eq]) t d

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = (outsAt m c t).dg := by dsimp only [dats]
theorem after_5 : (dats m 0 c).after 5 t = (outsAt m c t).du := by dsimp only [dats]
theorem after_6 : (dats m 0 c).after 6 t = (outsAt m c t).gd := by dsimp only [dats]
theorem after_7 : (dats m 0 c).after 7 t = (outsAt m c t).gg := by dsimp only [dats]
theorem after_8 : (dats m 0 c).after 8 t = (outsAt m c t).gu := by dsimp only [dats]

theorem before_0 (d) : (dats m 0 c).before 0 t d = iblk m c 0 t := (before_in m c t 0 rfl (fun _ => rfl) (fun _ _ _ => rfl) (after_0 m c) d).trans rfl
theorem before_1 (d) : (dats m 0 c).before 1 t d = iblk m c 1 t := (before_in m c t 1 rfl (fun _ => rfl) (fun _ _ _ => rfl) (after_1 m c) d).trans rfl
theorem before_2 (d) : (dats m 0 c).before 2 t d = iblk m c 2 t := (before_in m c t 2 rfl (fun _ => rfl) (fun _ _ _ => rfl) (after_2 m c) d).trans rfl
theorem before_3 (d) : (dats m 0 c).before 3 t d = iblk m c 3 t := (before_in m c t 3 rfl (fun _ => rfl) (fun _ _ _ => rfl) (after_3 m c) d).trans rfl

end

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (bufs t).w fullShare ((dats m 0 c).before 0 t d))
    ∗ (∃ d, owns (c : Thread nD τ) (bufs t).gt fullShare ((dats m 0 c).before 1 t d))
    ∗ (∃ d, owns (c : Thread nD τ) (bufs t).up fullShare ((dats m 0 c).before 2 t d))
    ∗ (∃ d, owns (c : Thread nD τ) (bufs t).act fullShare ((dats m 0 c).before 3 t d))
    ∗ (∃ d, owns (c : Thread nD τ) (bufs t).dg fullShare ((dats m 0 c).before 4 t d))
    ∗ (∃ d, owns (c : Thread nD τ) (bufs t).du fullShare ((dats m 0 c).before 5 t d))
    ∗ (∃ d, owns (c : Thread nD τ) (bufs t).gd fullShare ((dats m 0 c).before 6 t d))
    ∗ (∃ d, owns (c : Thread nD τ) (bufs t).gg fullShare ((dats m 0 c).before 7 t d))
    ∗ (∃ d, owns (c : Thread nD τ) (bufs t).gu fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (bufs t).w fullShare ((dats m 0 c).after 0 t)
    ∗ owns (c : Thread nD τ) (bufs t).gt fullShare ((dats m 0 c).after 1 t)
    ∗ owns (c : Thread nD τ) (bufs t).up fullShare ((dats m 0 c).after 2 t)
    ∗ owns (c : Thread nD τ) (bufs t).act fullShare ((dats m 0 c).after 3 t)
    ∗ owns (c : Thread nD τ) (bufs t).dg fullShare ((dats m 0 c).after 4 t)
    ∗ owns (c : Thread nD τ) (bufs t).du fullShare ((dats m 0 c).after 5 t)
    ∗ owns (c : Thread nD τ) (bufs t).gd fullShare ((dats m 0 c).after 6 t)
    ∗ owns (c : Thread nD τ) (bufs t).gg fullShare ((dats m 0 c).after 7 t)
    ∗ owns (c : Thread nD τ) (bufs t).gu fullShare ((dats m 0 c).after 8 t))

/-- The end of a point, whichever case it was. -/
theorem ends (c : Dev nD) (t : Fin cfg0.N) :
    iprop(kept m c ∗ inputs c (bufs t) (iblk m c 0 t) (iblk m c 1 t) (iblk m c 2 t) (iblk m c 3 t) ∗ arrived c (V m c main_v4) (V m c main_v9)
      ∗ (∃ W', owes (c : Thread nD τ) 0 W') ∗ outputs c (bufs t) (outsAt m c t)) ⊢ bodyPost m c t := by
  unfold bodyPost
  rw [show (dats m 0 c).Φ t.succ = iprop(arrived c (V m c main_v4) (V m c main_v9) ∗ kept m c) from inv_later m c t.succ.val (Nat.succ_ne_zero _),
    after_0, after_1, after_2, after_3, after_4, after_5, after_6, after_7, after_8]
  unfold Dat.owesAt Pipeline.owesWithin
  rw [show (dats m 0 c).owed t.succ = 0 from rfl]
  iintro ⟨Hk, ⟨H0, H1, H2, H3⟩, Hs, ⟨%W', HW⟩, ⟨H4, H5, H6, H7, H8⟩⟩
  isplitl [Hs Hk]; · iframe Hs Hk
  isplitl [HW]
  · iexists W'; isplitr; · ipureintro; exact fun _ _ => Or.inl trivial
    iexact HW
  iframe H0 H1 H2 H3 H4 H5 H6 H7 H8

theorem sound_body (c : Dev nD) (t : Fin cfg0.N) :
    bodyPre m c t ⊢ wp frame (wpE (defs₀ (F := F)) Variants.none c none) Set.univ (prog (grid0.coords t) (bufs t)) (fun _ => bodyPost m c t) := by
  have hend := ends m c t
  unfold bodyPre
  simp only [before_0, before_1, before_2, before_3]
  unfold Dat.owesAt Pipeline.owesWithin
  rw [show (dats m 0 c).owed t.castSucc = 0 from rfl]
  by_cases h : t.val = 0
  · rw [show (dats m 0 c).Φ t.castSucc = Pipeline.ΦD osem spec0 Hbm (V m) c from inv_first m c _ h, inv_eq]
    iintro ⟨⟨Hs, Hg, Hq, Hh⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (bodyA c (grid0.coords t) (bufs t) (iblk m c 0 t) (iblk m c 1 t) (iblk m c 2 t) (iblk m c 3 t) (V m c main_v4) (V m c main_v9) (first_of t h) W _)
    iframe H0 H1 H2 H3 Hs Hq Hh HW
    isplitl [H4 H5 H6 H7 H8]
    · isplitl [H4]; · iexists _; iexact H4
      isplitl [H5]; · iexists _; iexact H5
      isplitl [H6]; · iexists _; iexact H6
      isplitl [H7]; · iexists _; iexact H7
      iexists _; iexact H8
    iintro ⟨Hi, Hs, Hq, Hh, HW, Ho⟩
    iapply hend
    iframe Hg Hq Hh Hi Hs HW
    iexact Ho
  · rw [show (dats m 0 c).Φ t.castSucc = iprop(arrived c (V m c main_v4) (V m c main_v9) ∗ kept m c) from inv_later m c t.castSucc.val h]
    iintro ⟨⟨Hs, Hg⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (bodyB c (grid0.coords t) (bufs t) (iblk m c 0 t) (iblk m c 1 t) (iblk m c 2 t) (iblk m c 3 t) (V m c main_v4) (V m c main_v9) (later_of t h) W _)
    iframe H0 H1 H2 H3 Hs HW
    isplitl [H4 H5 H6 H7 H8]
    · isplitl [H4]; · iexists _; iexact H4
      isplitl [H5]; · iexists _; iexact H5
      isplitl [H6]; · iexists _; iexact H6
      isplitl [H7]; · iexists _; iexact H7
      iexists _; iexact H8
    iintro ⟨Hi, Hs, HW, Ho⟩
    iapply hend
    iframe Hg Hi Hs HW
    iexact Ho

theorem row (t : Fin cfg0.N) : defs₀ (F := F) .tc cfg0.body (cfg0.bodyArgs t (cfg0.slots t)) = prog (grid0.coords t) (bufs t) := by
  unfold defs₀; rw [Defs.onTc_tc]; rfl

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The launch -/

set_option maxHeartbeats 800000 in
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main hosts hosts_sub hosts_fresh main_chain

/-- The invariant's ends: the scratch buffers at any contents. -/
theorem inv_in (c : Dev nD) : Pipeline.ΦD osem spec0 Hbm (V m) c ⊢ (dats m 0 c).Φ 0 := by
  rw [show (dats m 0 c).Φ 0 = Pipeline.ΦD osem spec0 Hbm (V m) c from inv_first m c _ rfl]
theorem inv_out (c : Dev nD) : (dats m 0 c).Φ (Fin.last cfg0.N) ⊢ Pipeline.ΦD osem spec0 Hbm (V m) c := by
  rw [show (dats m 0 c).Φ (Fin.last cfg0.N) = iprop(arrived c (V m c main_v4) (V m c main_v9) ∗ kept m c) from
    inv_later m c (Fin.last cfg0.N).val (by rw [Fin.val_last, show cfg0.N = 11 from N_0]; decide), inv_eq]
  iintro ⟨⟨Hd, Hu⟩, Hk⟩
  isplitl [Hd Hu]
  · isplitl [Hd]; · iexists _; iexact Hd
    iexists _; iexact Hu
  iexact Hk

set_option backward.isDefEq.respectTransparency.types false in
/-- Every run ends, with the results' arrays at what the points leave, every other buffer as the region found it, and the
    semaphores at zero. -/
theorem run_main :
    θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ Variants.none osem_facts Hbm hbm_sub m ρ main
    (hbody := fun c => (body_obligation m c).loose) (hshare := fun c => (dats m 0 c).share_full fun _ => rfl)
    (howed := fun _ _ => rfl) (V := V m) (hmain := hmainD m Variants.none) (hA := A_eq m)
    (hin := inv_in m) (hout := inv_out m)

/-- The arguments end as they were. -/
abbrev ArgsKept (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)

theorem args_kept {r : PUnit × MemSt nD τ sig (Elt F)} (h : Pipeline.FramePost cfgs (dats m) 0 (V m) r) (c : Dev nD) :
      ArgsKept m r c :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

theorem frame : θ_run defs (onTc (τ := τ) (main (F := F))) ⟨m, fun _ => 0, ρ⟩ (fun r => (∀ c : Dev nD,
      ArgsKept m r c)
      ∧ r.2.sem = fun _ => 0) :=
  (θ_run defs _ _).mono (fun _ h => ⟨args_kept m h.1, h.2⟩) (run_main m ρ)

end Cert.SwigluIdeal.Hand

end
-- ==== Proof.Swiglu.Block.lean ====
/-
  The SwiGLU gradient, one tile of 256 columns: what a point leaves, as real functions of its blocks.
-/
module

public import proofs.«01_k».proof.Proof.Swiglu.Pay
public import proofs.«01_k».proof.Proof.Swiglu.Frame
public import proofs.«01_k».proof.Proof.Halves

@[expose] public section

set_option maxRecDepth 16384

noncomputable section

namespace Cert.Swiglu.Block

open Idealize.ShloMosaic Idealize.ShloMosaic.TcCoe Idealize.ShloMosaic.Tactic
open SwigluIdeal SwigluIdeal.Gen SwigluIdeal.Hand Lift Spec Swiglu Swiglu.Pay Rows Arrive

variable {c : Dev nD} {B : Bufs} {xw : Vec Ideal S256x1024 .bf16} {xg xp xa : Vec Ideal S2176x256 .bf16} {xd xu : Vec Ideal S2176x1024 .bf16}
  {W : Fin 256 → Fin 1024 → ℝ} {g p act : Fin 2176 → Fin 256 → ℝ} {d u : Fin 2176 → Fin 1024 → ℝ}

/-- The blocks are images of reals. -/
structure Reals (xw : Vec Ideal S256x1024 .bf16) (xg xp xa : Vec Ideal S2176x256 .bf16) (xd xu : Vec Ideal S2176x1024 .bf16)
    (W : Fin 256 → Fin 1024 → ℝ) (g p act : Fin 2176 → Fin 256 → ℝ) (d u : Fin 2176 → Fin 1024 → ℝ) : Prop where
  w_eq : ∀ b k, xw (ix2 b k) = ((W b k : ℝ) : EReal)
  g_eq : ∀ r b, xg (ix2 r b) = ((g r b : ℝ) : EReal)
  p_eq : ∀ r b, xp (ix2 r b) = ((p r b : ℝ) : EReal)
  a_eq : ∀ r b, xa (ix2 r b) = ((act r b : ℝ) : EReal)
  d_eq : ∀ r k, xd (ix2 r k) = ((d r k : ℝ) : EReal)
  u_eq : ∀ r k, xu (ix2 r k) = ((u r k : ℝ) : EReal)

/-- Row `o + a`. -/
def part (o : ℕ) (ho : o + 544 ≤ 2176) (a : Fin 544) : Fin 2176 := ⟨o + a.val, by omega⟩

/-- Rows of a buffer held at images of reals. -/
theorem ld_rows {n1 : ℕ} {e : EltTy} {M : Memref sig .tc .vmem ⟨2, ![2176, n1]⟩ e} (hM : M.IsWhole) {x : (⟨2, ![2176, n1]⟩ : Shape).Idx → Elt Ideal e}
    {G : Fin 2176 → Fin n1 → Elt Ideal e} (hx : ∀ a b, x (ix2 a b) = G a b) (o : ℕ) (ho : o + 544 ≤ 2176) (inb) (a : Fin 544) (b : Fin n1) :
    View.readAt (Elt Ideal) M.view (Rect.unit (s := ⟨2, ![2176, n1]⟩) ![o, 0] ![544, n1] inb).toLoadRect (hM.unread x) (ix2 a b) = G (part o ho a) b := by
  rw [held hM x]
  refine (congrArg x (emb_at inb rfl a b)).trans ((hx _ _).trans ?_)
  exact congrArg (G _) (Fin.ext (Nat.zero_add _))

/-- An entry of a part of the rows, at its place in the whole. -/
theorem at_row {n1 : ℕ} {G : Fin 2176 → Fin n1 → EReal} (o : ℕ) (ho : o + 544 ≤ 2176) (inb) (a : Fin 544) (b : Fin n1) :
    G (part o ho a) b = (fun j : (⟨2, ![2176, n1]⟩ : Shape).Idx => G (j 0) (j 1)) ((Rect.unit (s := ⟨2, ![2176, n1]⟩) ![o, 0] ![544, n1] inb).emb (ix2 a b)) := by
  refine Eq.trans ?_ (congrArg (fun j : (⟨2, ![2176, n1]⟩ : Shape).Idx => G (j 0) (j 1)) (emb_at inb rfl a b)).symm
  exact congrArg (G _) (Fin.ext (Nat.zero_add _).symm)

/-- A whole buffer held at images of reals. -/
theorem ld_whole {n0 n1 : ℕ} {e : EltTy} {M : Memref sig .tc .vmem ⟨2, ![n0, n1]⟩ e} (hM : M.IsWhole) {x : (⟨2, ![n0, n1]⟩ : Shape).Idx → Elt Ideal e}
    {G : Fin n0 → Fin n1 → Elt Ideal e} (hx : ∀ a b, x (ix2 a b) = G a b) (inb) (a : Fin n0) (b : Fin n1) :
    View.readAt (Elt Ideal) M.view (Rect.unit (s := ⟨2, ![n0, n1]⟩) ![0, 0] ![n0, n1] inb).toLoadRect (hM.unread x) (ix2 a b) = G a b := by
  rw [held hM x]
  refine (congrArg x (emb_at inb rfl a b)).trans ((hx _ _).trans ?_)
  exact congrArg₂ G (Fin.ext (Nat.zero_add _)) (Fin.ext (Nat.zero_add _))

section
variable (H : Reals xw xg xp xa xd xu W g p act d u)
include H

theorem agrees_dg : Agrees (Val := Elt Ideal) (listDg c B xw xg xp xd) (fun j => ((dGate g p (mulT d W) (j 0) (j 1) : ℝ) : EReal)) := by
  intro q hq y
  simp only [listDg, runB.sl.H4_4, List.mem_cons, List.not_mem_nil, or_false] at hq
  rcases hq with rfl | rfl | rfl | rfl <;>
  obtain ⟨a, b, rfl⟩ : ∃ (a : Fin 544) (b : Fin 256), y = ix2 a b := ⟨y 0, y 1, eq_ix2 y⟩
  · refine (pay9_at (ld_rows _ H.d_eq 1632 (by omega) _) (ld_whole B.hw H.w_eq _) (ld_rows B.hgt H.g_eq 1632 (by omega) _) (ld_rows B.hup H.p_eq 1632 (by omega) _) a b).trans ?_
    exact at_row (G := fun r b => ((dGate g p (mulT d W) r b : ℝ) : EReal)) 1632 (by omega) (by decide) a b
  · refine (pay9_at (ld_rows _ H.d_eq 1088 (by omega) _) (ld_whole B.hw H.w_eq _) (ld_rows B.hgt H.g_eq 1088 (by omega) _) (ld_rows B.hup H.p_eq 1088 (by omega) _) a b).trans ?_
    exact at_row (G := fun r b => ((dGate g p (mulT d W) r b : ℝ) : EReal)) 1088 (by omega) (by decide) a b
  · refine (pay9_at (ld_rows _ H.d_eq 544 (by omega) _) (ld_whole B.hw H.w_eq _) (ld_rows B.hgt H.g_eq 544 (by omega) _) (ld_rows B.hup H.p_eq 544 (by omega) _) a b).trans ?_
    exact at_row (G := fun r b => ((dGate g p (mulT d W) r b : ℝ) : EReal)) 544 (by omega) (by decide) a b
  · refine (pay9_at (ld_rows _ H.d_eq 0 (by omega) _) (ld_whole B.hw H.w_eq _) (ld_rows B.hgt H.g_eq 0 (by omega) _) (ld_rows B.hup H.p_eq 0 (by omega) _) a b).trans ?_
    exact at_row (G := fun r b => ((dGate g p (mulT d W) r b : ℝ) : EReal)) 0 (by omega) (by decide) a b

theorem agrees_du : Agrees (Val := Elt Ideal) (listDu c B xw xg xd) (fun j => ((dVal g (mulT d W) (j 0) (j 1) : ℝ) : EReal)) := by
  intro q hq y
  simp only [listDu, runB.sl.H5_4, List.mem_cons, List.not_mem_nil, or_false] at hq
  rcases hq with rfl | rfl | rfl | rfl <;>
  obtain ⟨a, b, rfl⟩ : ∃ (a : Fin 544) (b : Fin 256), y = ix2 a b := ⟨y 0, y 1, eq_ix2 y⟩
  · refine (pay10_at (ld_rows _ H.d_eq 1632 (by omega) _) (ld_whole B.hw H.w_eq _) (ld_rows B.hgt H.g_eq 1632 (by omega) _) a b).trans ?_
    exact at_row (G := fun r b => ((dVal g (mulT d W) r b : ℝ) : EReal)) 1632 (by omega) (by decide) a b
  · refine (pay10_at (ld_rows _ H.d_eq 1088 (by omega) _) (ld_whole B.hw H.w_eq _) (ld_rows B.hgt H.g_eq 1088 (by omega) _) a b).trans ?_
    exact at_row (G := fun r b => ((dVal g (mulT d W) r b : ℝ) : EReal)) 1088 (by omega) (by decide) a b
  · refine (pay10_at (ld_rows _ H.d_eq 544 (by omega) _) (ld_whole B.hw H.w_eq _) (ld_rows B.hgt H.g_eq 544 (by omega) _) a b).trans ?_
    exact at_row (G := fun r b => ((dVal g (mulT d W) r b : ℝ) : EReal)) 544 (by omega) (by decide) a b
  · refine (pay10_at (ld_rows _ H.d_eq 0 (by omega) _) (ld_whole B.hw H.w_eq _) (ld_rows B.hgt H.g_eq 0 (by omega) _) a b).trans ?_
    exact at_row (G := fun r b => ((dVal g (mulT d W) r b : ℝ) : EReal)) 0 (by omega) (by decide) a b

omit H in
theorem cover_dg (y : S2176x256.Idx) : ∃ q ∈ listDg (F := Ideal) c B xw xg xp xd, y ∈ q.1.set :=
  View.cover_of_tiledL (s := S2176x256) _ S544x256.size (by sl_kernel_rfl) y
omit H in
theorem cover_du (y : S2176x256.Idx) : ∃ q ∈ listDu (F := Ideal) c B xw xg xd, y ∈ q.1.set :=
  View.cover_of_tiledL (s := S2176x256) _ S544x256.size (by sl_kernel_rfl) y

/-- A whole buffer read back. -/
theorem ld_dg (inb) (r : Fin 2176) (b : Fin 256) :
    B.dg.view.readCov (listDg c B xw xg xp xd) (Rect.unit (s := S2176x256) ![0, 0] S2176x256.size inb).toLoadRect (ix2 r b) = ((dGate g p (mulT d W) r b : ℝ) : EReal) := by
  rw [load B.dg.view (agrees_dg H) _ fun y => cover_dg _]
  refine (congrArg (fun j : S2176x256.Idx => ((dGate g p (mulT d W) (j 0) (j 1) : ℝ) : EReal)) (emb_at inb rfl r b)).trans ?_
  exact congrArg₂ (fun r b => ((dGate g p (mulT d W) r b : ℝ) : EReal)) (Fin.ext (Nat.zero_add _)) (Fin.ext (Nat.zero_add _))
theorem ld_du (inb) (r : Fin 2176) (b : Fin 256) :
    B.du.view.readCov (listDu c B xw xg xd) (Rect.unit (s := S2176x256) ![0, 0] S2176x256.size inb).toLoadRect (ix2 r b) = ((dVal g (mulT d W) r b : ℝ) : EReal) := by
  rw [load B.du.view (agrees_du H) _ fun y => cover_du _]
  refine (congrArg (fun j : S2176x256.Idx => ((dVal g (mulT d W) (j 0) (j 1) : ℝ) : EReal)) (emb_at inb rfl r b)).trans ?_
  exact congrArg₂ (fun r b => ((dVal g (mulT d W) r b : ℝ) : EReal)) (Fin.ext (Nat.zero_add _)) (Fin.ext (Nat.zero_add _))

theorem out_dg (r : Fin 2176) (b : Fin 256) : (outs c B xw xg xp xa xd xu).dg (ix2 r b) = ((dGate g p (mulT d W) r b : ℝ) : EReal) :=
  congrFun (all viewG _ (agrees_dg H) cover_dg) (ix2 r b)
theorem out_du (r : Fin 2176) (b : Fin 256) : (outs c B xw xg xp xa xd xu).du (ix2 r b) = ((dVal g (mulT d W) r b : ℝ) : EReal) :=
  congrFun (all viewG _ (agrees_du H) cover_du) (ix2 r b)

theorem out_gd (b : Fin 256) (k : Fin 1024) : (outs c B xw xg xp xa xd xu).gd (ix2 b k) = ((tmul act d b k : ℝ) : EReal) := by
  unfold outs filled listGd
  dsimp only
  rw [View.read_writes_junk_eq_canon, View.canon_cons_unit_zero (S := S256x1024) hz]
  exact pay11_at (ld_whole B.hact H.a_eq _) (ld_whole _ H.d_eq _) b k
theorem out_gg (b : Fin 256) (k : Fin 1024) : (outs c B xw xg xp xa xd xu).gg (ix2 b k) = ((tmul (dGate g p (mulT d W)) u b k : ℝ) : EReal) := by
  unfold outs filled listGg
  dsimp only
  rw [View.read_writes_junk_eq_canon, View.canon_cons_unit_zero (S := S256x1024) hz]
  exact pay1_at (ld_dg H _) (ld_whole _ H.u_eq _) b k
theorem out_gu (b : Fin 256) (k : Fin 1024) : (outs c B xw xg xp xa xd xu).gu (ix2 b k) = ((tmul (dVal g (mulT d W)) u b k : ℝ) : EReal) := by
  unfold outs filled listGu
  dsimp only
  rw [View.read_writes_junk_eq_canon, View.canon_cons_unit_zero (S := S256x1024) hz]
  exact pay2_at (ld_du H _) (ld_whole _ H.u_eq _) b k

end

end Cert.Swiglu.Block

end
-- ==== Proof.Swiglu.Array.lean ====
/-
  The SwiGLU gradient's five result arrays over real arguments: each column of a point's tile is a column of the array.
-/
module

public import proofs.«01_k».proof.Proof.Swiglu.Block
public import Idealize.ShloMosaic.Lib.StableHlo.ReadAt

@[expose] public section

set_option maxRecDepth 16384

noncomputable section

namespace Cert.Swiglu.Array

open Idealize.ShloMosaic Idealize.ShloMosaic.TcCoe Idealize.ShloMosaic.StableHlo Idealize.SL Idealize.SL.Sem
open SwigluIdeal SwigluIdeal.Gen SwigluIdeal.Hand Rows Spec Lift Swiglu Swiglu.Block

variable (m : (ℓ : Loc nD τ sig) → Buf (Elt Ideal) ℓ) (c : Dev nD)

/-- The arguments are images of reals. -/
structure Args (u : Fin 2176 → Fin 1024 → ℝ) (Wg Wu : Fin 1024 → Fin 2816 → ℝ) (Wd : Fin 2816 → Fin 1024 → ℝ) (d : Fin 2176 → Fin 1024 → ℝ) : Prop where
  u_eq : ∀ r k, m ((c : Thread nD τ).loc main_arg0) (ix2 r k) = ((u r k : ℝ) : EReal)
  g_eq : ∀ k q, m ((c : Thread nD τ).loc main_arg1) (ix2 k q) = ((Wg k q : ℝ) : EReal)
  p_eq : ∀ k q, m ((c : Thread nD τ).loc main_arg2) (ix2 k q) = ((Wu k q : ℝ) : EReal)
  w_eq : ∀ q k, m ((c : Thread nD τ).loc main_arg3) (ix2 q k) = ((Wd q k : ℝ) : EReal)
  d_eq : ∀ r k, m ((c : Thread nD τ).loc main_arg4) (ix2 r k) = ((d r k : ℝ) : EReal)

/-- Column `b` of point `t`'s tile. -/
def col (t : Fin cfg0.N) (b : Fin 256) : Fin 2816 := ⟨256 * t.val + b.val, by have : cfg0.N = 11 := N_0; have := t.isLt; omega⟩

theorem split_col (q : Fin 2816) : ∃ (t : Fin cfg0.N) (b : Fin 256), q = col t b :=
  ⟨⟨q.val / 256, by rw [show cfg0.N = 11 from N_0]; omega⟩, ⟨q.val % 256, Nat.mod_lt _ (by decide)⟩, Fin.ext (Nat.div_add_mod _ _).symm⟩

theorem idx0 : ∀ t : Fin cfg0.N, win0_0.index t 0 = t.val ∧ win0_0.index t 1 = 0 := (by decide +kernel : ∀ t : Fin grid0.N, _)
theorem idx1 : ∀ t : Fin cfg0.N, win0_1.index t 0 = 0 ∧ win0_1.index t 1 = t.val := (by decide +kernel : ∀ t : Fin grid0.N, _)
theorem idx2 : ∀ t : Fin cfg0.N, win0_2.index t 0 = 0 ∧ win0_2.index t 1 = t.val := (by decide +kernel : ∀ t : Fin grid0.N, _)
theorem idx3 : ∀ t : Fin cfg0.N, win0_3.index t 0 = 0 ∧ win0_3.index t 1 = t.val := (by decide +kernel : ∀ t : Fin grid0.N, _)
theorem idx4 : ∀ t : Fin cfg0.N, win0_4.index t 0 = 0 ∧ win0_4.index t 1 = t.val := (by decide +kernel : ∀ t : Fin grid0.N, _)
theorem idx5 : ∀ t : Fin cfg0.N, win0_5.index t 0 = 0 ∧ win0_5.index t 1 = t.val := (by decide +kernel : ∀ t : Fin grid0.N, _)
theorem idx6 : ∀ t : Fin cfg0.N, win0_6.index t 0 = t.val ∧ win0_6.index t 1 = 0 := (by decide +kernel : ∀ t : Fin grid0.N, _)
theorem idx7 : ∀ t : Fin cfg0.N, win0_7.index t 0 = t.val ∧ win0_7.index t 1 = 0 := (by decide +kernel : ∀ t : Fin grid0.N, _)
theorem idx8 : ∀ t : Fin cfg0.N, win0_8.index t 0 = t.val ∧ win0_8.index t 1 = 0 := (by decide +kernel : ∀ t : Fin grid0.N, _)

theorem iblk0 (t : Fin cfg0.N) (b : Fin 256) (k : Fin 1024) : iblk m c 0 t (ix2 b k) = V m c main_v5 (ix2 (col t b) k) := by
  refine congrArg (V m c main_v5) (funext fun i => Fin.ext ?_)
  match i with
  | ⟨0, _⟩ => show win0_0.index t 0 * 256 + 1 * b.val = _; rw [(idx0 t).1]; show _ = 256 * t.val + b.val; omega
  | ⟨1, _⟩ => show win0_0.index t 1 * 1024 + 1 * k.val = _; rw [(idx0 t).2]; show _ = k.val; omega

theorem iblk1 (t : Fin cfg0.N) (r : Fin 2176) (b : Fin 256) : iblk m c 1 t (ix2 r b) = V m c main_v6 (ix2 r (col t b)) := by
  refine congrArg (V m c main_v6) (funext fun i => Fin.ext ?_)
  match i with
  | ⟨0, _⟩ => show win0_1.index t 0 * 2176 + 1 * r.val = _; rw [(idx1 t).1]; show _ = r.val; omega
  | ⟨1, _⟩ => show win0_1.index t 1 * 256 + 1 * b.val = _; rw [(idx1 t).2]; show _ = 256 * t.val + b.val; omega

theorem iblk2 (t : Fin cfg0.N) (r : Fin 2176) (b : Fin 256) : iblk m c 2 t (ix2 r b) = V m c main_v7 (ix2 r (col t b)) := by
  refine congrArg (V m c main_v7) (funext fun i => Fin.ext ?_)
  match i with
  | ⟨0, _⟩ => show win0_2.index t 0 * 2176 + 1 * r.val = _; rw [(idx2 t).1]; show _ = r.val; omega
  | ⟨1, _⟩ => show win0_2.index t 1 * 256 + 1 * b.val = _; rw [(idx2 t).2]; show _ = 256 * t.val + b.val; omega

theorem iblk3 (t : Fin cfg0.N) (r : Fin 2176) (b : Fin 256) : iblk m c 3 t (ix2 r b) = V m c main_v8 (ix2 r (col t b)) := by
  refine congrArg (V m c main_v8) (funext fun i => Fin.ext ?_)
  match i with
  | ⟨0, _⟩ => show win0_3.index t 0 * 2176 + 1 * r.val = _; rw [(idx3 t).1]; show _ = r.val; omega
  | ⟨1, _⟩ => show win0_3.index t 1 * 256 + 1 * b.val = _; rw [(idx3 t).2]; show _ = 256 * t.val + b.val; omega

variable {m c} {u : Fin 2176 → Fin 1024 → ℝ} {Wg Wu : Fin 1024 → Fin 2816 → ℝ} {Wd : Fin 2816 → Fin 1024 → ℝ} {d : Fin 2176 → Fin 1024 → ℝ}

/-- The gate's value over the whole array. -/
def acts (u : Fin 2176 → Fin 1024 → ℝ) (Wg Wu : Fin 1024 → Fin 2816 → ℝ) (r : Fin 2176) (q : Fin 2816) : ℝ := gated (mul u Wg r q) (mul u Wu r q)

section
variable (H : Args m c u Wg Wu Wd d)
include H

theorem V4 (r : Fin 2176) (k : Fin 1024) : (V m c main_v4 : S2176x1024.Idx → EReal) (ix2 r k) = ((d r k : ℝ) : EReal) := by
  refine Eq.trans ?_ (H.d_eq r k)
  unfold V
  after_reads_at
theorem V5 (q : Fin 2816) (k : Fin 1024) : (V m c main_v5 : S2816x1024.Idx → EReal) (ix2 q k) = ((Wd q k : ℝ) : EReal) := by
  refine Eq.trans ?_ (H.w_eq q k)
  unfold V
  after_reads_at
theorem V6 (r : Fin 2176) (q : Fin 2816) : (V m c main_v6 : S2176x2816.Idx → EReal) (ix2 r q) = ((mul u Wg r q : ℝ) : EReal) := by
  unfold V
  after_reads_at
  simp only [H.u_eq, H.g_eq, ← EReal.coe_mul, sum_coe]
  rfl
theorem V7 (r : Fin 2176) (q : Fin 2816) : (V m c main_v7 : S2176x2816.Idx → EReal) (ix2 r q) = ((mul u Wu r q : ℝ) : EReal) := by
  unfold V
  after_reads_at
  simp only [H.u_eq, H.p_eq, ← EReal.coe_mul, sum_coe]
  rfl
theorem V8 (r : Fin 2176) (q : Fin 2816) : (V m c main_v8 : S2176x2816.Idx → EReal) (ix2 r q) = ((acts u Wg Wu r q : ℝ) : EReal) := by
  unfold V
  after_reads_at
  simp only [H.u_eq, H.g_eq, H.p_eq, ← EReal.coe_mul, sum_coe, one_coe, sgm_coe]
  rfl
theorem V9 (r : Fin 2176) (k : Fin 1024) : (V m c main_v9 : S2176x1024.Idx → EReal) (ix2 r k) = ((u r k : ℝ) : EReal) := by
  refine Eq.trans ?_ (H.u_eq r k)
  unfold V
  after_reads_at

/-- A point's blocks are the images of the arrays' columns. -/
theorem reals (t : Fin cfg0.N) : Reals (iblk m c 0 t) (iblk m c 1 t) (iblk m c 2 t) (iblk m c 3 t) (V m c main_v4) (V m c main_v9)
    (fun b k => Wd (col t b) k) (fun r b => mul u Wg r (col t b)) (fun r b => mul u Wu r (col t b)) (fun r b => acts u Wg Wu r (col t b)) d u where
  w_eq b k := (iblk0 m c t b k).trans (V5 H _ k)
  g_eq r b := (iblk1 m c t r b).trans (V6 H r _)
  p_eq r b := (iblk2 m c t r b).trans (V7 H r _)
  a_eq r b := (iblk3 m c t r b).trans (V8 H r _)
  d_eq r k := V4 H r k
  u_eq r k := V9 H r k

end

/-- The gradients over the whole arrays. -/
def gateGrad (u : Fin 2176 → Fin 1024 → ℝ) (Wg Wu : Fin 1024 → Fin 2816 → ℝ) (Wd : Fin 2816 → Fin 1024 → ℝ) (d : Fin 2176 → Fin 1024 → ℝ) : Fin 2176 → Fin 2816 → ℝ :=
  dGate (mul u Wg) (mul u Wu) (mulT d Wd)
def valGrad (u : Fin 2176 → Fin 1024 → ℝ) (Wg : Fin 1024 → Fin 2816 → ℝ) (Wd : Fin 2816 → Fin 1024 → ℝ) (d : Fin 2176 → Fin 1024 → ℝ) : Fin 2176 → Fin 2816 → ℝ :=
  dVal (mul u Wg) (mulT d Wd)

theorem flushed4 (t : Fin cfg0.N) : (dats m 0 c).flushed 4 t = (cfg0.win 4).cut (grid0.coords t) (outsAt m c t).dg := by
  show (cfg0.win 4).cut (grid0.coords t) ((dats m 0 c).after 4 t) = _
  rw [after_4]
theorem disjoint4 (t t' : Fin cfg0.N) (_ : (cfg0.win 4).flush t = true) (_ : (cfg0.win 4).flush t' = true) (hne : t ≠ t') :
    Disjoint ((cfg0.win 4).blk t).view.set ((cfg0.win 4).blk t').view.set :=
  (cfg0.win 4).disjoint_blk fun h => hne ((by decide +kernel : ∀ t t' : Fin grid0.N, win0_4.index t = win0_4.index t' → t = t') t t' h)
theorem flushed5 (t : Fin cfg0.N) : (dats m 0 c).flushed 5 t = (cfg0.win 5).cut (grid0.coords t) (outsAt m c t).du := by
  show (cfg0.win 5).cut (grid0.coords t) ((dats m 0 c).after 5 t) = _
  rw [after_5]
theorem disjoint5 (t t' : Fin cfg0.N) (_ : (cfg0.win 5).flush t = true) (_ : (cfg0.win 5).flush t' = true) (hne : t ≠ t') :
    Disjoint ((cfg0.win 5).blk t).view.set ((cfg0.win 5).blk t').view.set :=
  (cfg0.win 5).disjoint_blk fun h => hne ((by decide +kernel : ∀ t t' : Fin grid0.N, win0_5.index t = win0_5.index t' → t = t') t t' h)
theorem flushed6 (t : Fin cfg0.N) : (dats m 0 c).flushed 6 t = (cfg0.win 6).cut (grid0.coords t) (outsAt m c t).gd := by
  show (cfg0.win 6).cut (grid0.coords t) ((dats m 0 c).after 6 t) = _
  rw [after_6]
theorem disjoint6 (t t' : Fin cfg0.N) (_ : (cfg0.win 6).flush t = true) (_ : (cfg0.win 6).flush t' = true) (hne : t ≠ t') :
    Disjoint ((cfg0.win 6).blk t).view.set ((cfg0.win 6).blk t').view.set :=
  (cfg0.win 6).disjoint_blk fun h => hne ((by decide +kernel : ∀ t t' : Fin grid0.N, win0_6.index t = win0_6.index t' → t = t') t t' h)
theorem flushed7 (t : Fin cfg0.N) : (dats m 0 c).flushed 7 t = (cfg0.win 7).cut (grid0.coords t) (outsAt m c t).gg := by
  show (cfg0.win 7).cut (grid0.coords t) ((dats m 0 c).after 7 t) = _
  rw [after_7]
theorem disjoint7 (t t' : Fin cfg0.N) (_ : (cfg0.win 7).flush t = true) (_ : (cfg0.win 7).flush t' = true) (hne : t ≠ t') :
    Disjoint ((cfg0.win 7).blk t).view.set ((cfg0.win 7).blk t').view.set :=
  (cfg0.win 7).disjoint_blk fun h => hne ((by decide +kernel : ∀ t t' : Fin grid0.N, win0_7.index t = win0_7.index t' → t = t') t t' h)
theorem flushed8 (t : Fin cfg0.N) : (dats m 0 c).flushed 8 t = (cfg0.win 8).cut (grid0.coords t) (outsAt m c t).gu := by
  show (cfg0.win 8).cut (grid0.coords t) ((dats m 0 c).after 8 t) = _
  rw [after_8]
theorem disjoint8 (t t' : Fin cfg0.N) (_ : (cfg0.win 8).flush t = true) (_ : (cfg0.win 8).flush t' = true) (hne : t ≠ t') :
    Disjoint ((cfg0.win 8).blk t).view.set ((cfg0.win 8).blk t').view.set :=
  (cfg0.win 8).disjoint_blk fun h => hne ((by decide +kernel : ∀ t t' : Fin grid0.N, win0_8.index t = win0_8.index t' → t = t') t t' h)

section
variable (H : Args m c u Wg Wu Wd d)
include H

theorem arr4 (r : Fin 2176) (q : Fin 2816) : (dats m 0 c).arrAt 4 cfg0.N (ix2 r q) = ((gateGrad u Wg Wu Wd d r q : ℝ) : EReal) := by
  obtain ⟨t, b, rfl⟩ := split_col q
  refine Eq.trans ?_ (((congrFun ((dats m 0 c).read_blk_arrAt_eq_flushed 4 disjoint4 cfg0.N t t.isLt (flush0_4 t)) (ix2 r b)).trans
    (congrFun (flushed4 t) (ix2 r b))).trans (out_dg (reals H t) r b))
  refine congrArg ((dats m 0 c).arrAt 4 cfg0.N) (funext fun i => Fin.ext ?_)
  match i with
  | ⟨0, _⟩ => show _ = win0_4.index t 0 * 2176 + 1 * r.val; rw [(idx4 t).1]; show r.val = _; omega
  | ⟨1, _⟩ => show _ = win0_4.index t 1 * 256 + 1 * b.val; rw [(idx4 t).2]; show 256 * t.val + b.val = _; omega

theorem arr5 (r : Fin 2176) (q : Fin 2816) : (dats m 0 c).arrAt 5 cfg0.N (ix2 r q) = ((valGrad u Wg Wd d r q : ℝ) : EReal) := by
  obtain ⟨t, b, rfl⟩ := split_col q
  refine Eq.trans ?_ (((congrFun ((dats m 0 c).read_blk_arrAt_eq_flushed 5 disjoint5 cfg0.N t t.isLt (flush0_5 t)) (ix2 r b)).trans
    (congrFun (flushed5 t) (ix2 r b))).trans (out_du (reals H t) r b))
  refine congrArg ((dats m 0 c).arrAt 5 cfg0.N) (funext fun i => Fin.ext ?_)
  match i with
  | ⟨0, _⟩ => show _ = win0_5.index t 0 * 2176 + 1 * r.val; rw [(idx5 t).1]; show r.val = _; omega
  | ⟨1, _⟩ => show _ = win0_5.index t 1 * 256 + 1 * b.val; rw [(idx5 t).2]; show 256 * t.val + b.val = _; omega

theorem arr6 (q : Fin 2816) (k : Fin 1024) : (dats m 0 c).arrAt 6 cfg0.N (ix2 q k) = ((tmul (acts u Wg Wu) d q k : ℝ) : EReal) := by
  obtain ⟨t, b, rfl⟩ := split_col q
  refine Eq.trans ?_ (((congrFun ((dats m 0 c).read_blk_arrAt_eq_flushed 6 disjoint6 cfg0.N t t.isLt (flush0_6 t)) (ix2 b k)).trans
    (congrFun (flushed6 t) (ix2 b k))).trans (out_gd (reals H t) b k))
  refine congrArg ((dats m 0 c).arrAt 6 cfg0.N) (funext fun i => Fin.ext ?_)
  match i with
  | ⟨0, _⟩ => show _ = win0_6.index t 0 * 256 + 1 * b.val; rw [(idx6 t).1]; show 256 * t.val + b.val = _; omega
  | ⟨1, _⟩ => show _ = win0_6.index t 1 * 1024 + 1 * k.val; rw [(idx6 t).2]; show k.val = _; omega

theorem arr7 (q : Fin 2816) (k : Fin 1024) : (dats m 0 c).arrAt 7 cfg0.N (ix2 q k) = ((tmul (gateGrad u Wg Wu Wd d) u q k : ℝ) : EReal) := by
  obtain ⟨t, b, rfl⟩ := split_col q
  refine Eq.trans ?_ (((congrFun ((dats m 0 c).read_blk_arrAt_eq_flushed 7 disjoint7 cfg0.N t t.isLt (flush0_7 t)) (ix2 b k)).trans
    (congrFun (flushed7 t) (ix2 b k))).trans (out_gg (reals H t) b k))
  refine congrArg ((dats m 0 c).arrAt 7 cfg0.N) (funext fun i => Fin.ext ?_)
  match i with
  | ⟨0, _⟩ => show _ = win0_7.index t 0 * 256 + 1 * b.val; rw [(idx7 t).1]; show 256 * t.val + b.val = _; omega
  | ⟨1, _⟩ => show _ = win0_7.index t 1 * 1024 + 1 * k.val; rw [(idx7 t).2]; show k.val = _; omega

theorem arr8 (q : Fin 2816) (k : Fin 1024) : (dats m 0 c).arrAt 8 cfg0.N (ix2 q k) = ((tmul (valGrad u Wg Wd d) u q k : ℝ) : EReal) := by
  obtain ⟨t, b, rfl⟩ := split_col q
  refine Eq.trans ?_ (((congrFun ((dats m 0 c).read_blk_arrAt_eq_flushed 8 disjoint8 cfg0.N t t.isLt (flush0_8 t)) (ix2 b k)).trans
    (congrFun (flushed8 t) (ix2 b k))).trans (out_gu (reals H t) b k))
  refine congrArg ((dats m 0 c).arrAt 8 cfg0.N) (funext fun i => Fin.ext ?_)
  match i with
  | ⟨0, _⟩ => show _ = win0_8.index t 0 * 256 + 1 * b.val; rw [(idx8 t).1]; show 256 * t.val + b.val = _; omega
  | ⟨1, _⟩ => show _ = win0_8.index t 1 * 1024 + 1 * k.val; rw [(idx8 t).2]; show k.val = _; omega

end

end Cert.Swiglu.Array

end
-- ==== Proof.Swiglu.RefLine.lean ====
/-
  The reference's straight line of host operations, and that each of its buffers is written once and read only afterwards.
-/
module

public import proofs.«01_k».proof.Defs
public import proofs.«01_k».proof.Proof.Line
public import proofs.«01_k».proof.Proof.Gen.SwigluRefIdeal

@[expose] public section

set_option maxRecDepth 16384

namespace Cert.SwigluRefIdeal

open Idealize.ShloMosaic Idealize.ShloMosaic.StableHlo Idealize.SL.Sem Line

/-- The operations of the reference. -/
noncomputable def line : {ops : List (HloOp τ sig (Elt Ideal)) // ∀ d, IsSeq (main (F := Ideal) d) ops} := by
  apply Subtype.mk
  hlo_seq

/-- What each of them writes and reads. -/
noncomputable def table : {T : List (Ref sig .tc × List (Ref sig .tc)) // Table line.1 T} := by
  apply Subtype.mk
  repeat first
    | exact Table.nil
    | apply Table.cons (reads_nullary _ _ _)
    | apply Table.cons (reads_unary _ _ _ _ _)
    | apply Table.cons (reads_binary _ _ _ _ _ _ _)
    | apply Table.cons (reads_reshape _ _ _ _ _ _)
    | apply Table.cons (reads_ternary _ _ _ _ _ _ _ _ _)
    | apply Table.cons (reads_nary _ _ _ _ _)

theorem single_line : single table.1 = true := by decide +kernel

/-- The contents at the end, which every operation leaves alone. -/
theorem fixed (V : Valuation τ sig (Elt Ideal)) : Fixed line.1 (after line.1 V) := fixed_of table.2 single_line V

/-- The arguments are not written. -/
theorem kept (V : Valuation τ sig (Elt Ideal)) (r : Ref sig .tc) (h : table.1.all (fun e => e.1 != r) = true) :
    after line.1 V (Proc.devRef .tc r) = V (Proc.devRef .tc r) := after_keep table.2 h V

end Cert.SwigluRefIdeal
-- ==== Proof.Swiglu.RefVal.lean ====
/-
  The reference's results over real arguments, read off its line stage by stage.
-/
module

public import proofs.«01_k».proof.Proof.Swiglu.RefLine
public import proofs.«01_k».proof.Proof.Swiglu.Real

@[expose] public section

set_option maxRecDepth 16384

namespace Cert.SwigluRefIdeal

open Idealize.ShloMosaic Idealize.ShloMosaic.TcCoe Idealize.ShloMosaic.StableHlo Idealize.SL.Sem Line Lift Spec Swiglu

/-- The contents `A` at the end, the arguments being images of reals. -/
structure Reals (A : Valuation τ sig (Elt Ideal)) (u : Fin 2176 → Fin 1024 → ℝ) (Wg Wu : Fin 1024 → Fin 2816 → ℝ) (Wd : Fin 2816 → Fin 1024 → ℝ)
    (d : Fin 2176 → Fin 1024 → ℝ) : Prop where
  fixed : Fixed line.1 A
  u_eq : ∀ r k, A (↑main_arg0 : DevRef τ sig) (ix2 r k) = ((u r k : ℝ) : EReal)
  g_eq : ∀ k q, A (↑main_arg1 : DevRef τ sig) (ix2 k q) = ((Wg k q : ℝ) : EReal)
  p_eq : ∀ k q, A (↑main_arg2 : DevRef τ sig) (ix2 k q) = ((Wu k q : ℝ) : EReal)
  w_eq : ∀ q k, A (↑main_arg3 : DevRef τ sig) (ix2 q k) = ((Wd q k : ℝ) : EReal)
  d_eq : ∀ r k, A (↑main_arg4 : DevRef τ sig) (ix2 r k) = ((d r k : ℝ) : EReal)

variable {A : Valuation τ sig (Elt Ideal)} {u : Fin 2176 → Fin 1024 → ℝ} {Wg Wu : Fin 1024 → Fin 2816 → ℝ} {Wd : Fin 2816 → Fin 1024 → ℝ}
  {d : Fin 2176 → Fin 1024 → ℝ} (H : Reals A u Wg Wu Wd d)
include H

theorem v0_at (r : Fin 2176) (q : Fin 2816) : A (↑main_v0 : DevRef τ sig) (ix2 r q) = ((mul u Wg r q : ℝ) : EReal) := by
  refine (congrFun (congrFun (H.fixed [0]).symm _) _).trans ?_
  after_reads_at
  simp only [H.u_eq, H.g_eq, ← EReal.coe_mul, sum_coe]
  rfl

theorem v1_at (r : Fin 2176) (q : Fin 2816) : A (↑main_v1 : DevRef τ sig) (ix2 r q) = ((mul u Wu r q : ℝ) : EReal) := by
  refine (congrFun (congrFun (H.fixed [1]).symm _) _).trans ?_
  after_reads_at
  simp only [H.u_eq, H.p_eq, ← EReal.coe_mul, sum_coe]
  rfl

theorem v2_2_at (r : Fin 2176) (q : Fin 2816) : A (↑main_v2_2 : DevRef τ sig) (ix2 r q) = ((sgm (mul u Wg r q) : ℝ) : EReal) := by
  refine (congrFun (congrFun (H.fixed [2, 3, 4, 5, 6, 7, 8, 9]).symm _) _).trans ?_
  after_reads_at
  simp only [v0_at H, one_coe, sgm_coe]

theorem v2_1_at (r : Fin 2176) (q : Fin 2816) : A (↑main_v2_1 : DevRef τ sig) (ix2 r q) = ((sgm (mul u Wg r q) * (1 - sgm (mul u Wg r q)) : ℝ) : EReal) := by
  refine (congrFun (congrFun (H.fixed [10, 11, 12, 13]).symm _) _).trans ?_
  after_reads_at
  simp only [v2_2_at H, one_coe, sub_coe, ← EReal.coe_mul]

theorem v2_0_at (r : Fin 2176) (q : Fin 2816) : A (↑main_v2_0 : DevRef τ sig) (ix2 r q) = ((mul u Wg r q * sgm (mul u Wg r q) : ℝ) : EReal) := by
  refine (congrFun (congrFun (H.fixed [14]).symm _) _).trans ?_
  after_reads_at
  simp only [v0_at H, v2_2_at H, ← EReal.coe_mul]

theorem v3_at (r : Fin 2176) (q : Fin 2816) : A (↑main_v3 : DevRef τ sig) (ix2 r q) = ((gated (mul u Wg r q) (mul u Wu r q) : ℝ) : EReal) := by
  refine (congrFun (congrFun (H.fixed [15]).symm _) _).trans ?_
  after_reads_at
  simp only [v2_0_at H, v1_at H, ← EReal.coe_mul]
  rfl

theorem v7_at (r : Fin 2176) (q : Fin 2816) : A (↑main_v7 : DevRef τ sig) (ix2 r q) = ((mulT d Wd r q : ℝ) : EReal) := by
  refine (congrFun (congrFun (H.fixed [19]).symm _) _).trans ?_
  after_reads_at
  simp only [H.d_eq, H.w_eq, ← EReal.coe_mul, sum_coe]
  rfl

theorem v8_at (r : Fin 2176) (q : Fin 2816) : A (↑main_v8 : DevRef τ sig) (ix2 r q) = ((dVal (mul u Wg) (mulT d Wd) r q : ℝ) : EReal) := by
  refine (congrFun (congrFun (H.fixed [20]).symm _) _).trans ?_
  after_reads_at
  simp only [v2_0_at H, v7_at H, ← EReal.coe_mul]
  refine congrArg _ ?_
  unfold dVal dval; ring

theorem v10_at (r : Fin 2176) (q : Fin 2816) : A (↑main_v10 : DevRef τ sig) (ix2 r q) = ((dGate (mul u Wg) (mul u Wu) (mulT d Wd) r q : ℝ) : EReal) := by
  refine (congrFun (congrFun (H.fixed [21, 22, 23, 24, 25]).symm _) _).trans ?_
  after_reads_at
  simp only [v0_at H, v1_at H, v2_1_at H, v2_2_at H, v7_at H, ← EReal.coe_mul, ← EReal.coe_add]
  refine congrArg _ ?_
  unfold dGate dgate; ring

theorem v17_at (r : Fin 2176) (q : Fin 2816) : A (↑main_v17 : DevRef τ sig) (ix2 r q) = ((dGate (mul u Wg) (mul u Wu) (mulT d Wd) r q : ℝ) : EReal) := by
  refine (congrFun (congrFun (H.fixed [32]).symm _) _).trans ?_
  after_reads_at
  simp only [v10_at H]

theorem v18_at (r : Fin 2176) (q : Fin 2816) : A (↑main_v18 : DevRef τ sig) (ix2 r q) = ((dVal (mul u Wg) (mulT d Wd) r q : ℝ) : EReal) := by
  refine (congrFun (congrFun (H.fixed [33]).symm _) _).trans ?_
  after_reads_at
  simp only [v8_at H]

theorem v19_at (q : Fin 2816) (k : Fin 1024) : A (↑main_v19 : DevRef τ sig) (ix2 q k) = ((tmul (fun r q => gated (mul u Wg r q) (mul u Wu r q)) d q k : ℝ) : EReal) := by
  refine (congrFun (congrFun (H.fixed [17, 18, 34]).symm _) _).trans ?_
  after_reads_at
  simp only [H.d_eq, v3_at H, ← EReal.coe_mul, sum_coe]
  exact congrArg _ (Finset.sum_congr rfl fun r _ => mul_comm _ _)

theorem v20_at (q : Fin 2816) (k : Fin 1024) : A (↑main_v20 : DevRef τ sig) (ix2 q k) = ((tmul (dGate (mul u Wg) (mul u Wu) (mulT d Wd)) u q k : ℝ) : EReal) := by
  refine (congrFun (congrFun (H.fixed [28, 29, 30, 35]).symm _) _).trans ?_
  after_reads_at
  simp only [v10_at H, H.u_eq, ← EReal.coe_mul, sum_coe]
  rfl

theorem v21_at (q : Fin 2816) (k : Fin 1024) : A (↑main_v21 : DevRef τ sig) (ix2 q k) = ((tmul (dVal (mul u Wg) (mulT d Wd)) u q k : ℝ) : EReal) := by
  refine (congrFun (congrFun (H.fixed [26, 27, 31, 36]).symm _) _).trans ?_
  after_reads_at
  simp only [v8_at H, H.u_eq, ← EReal.coe_mul, sum_coe]
  rfl

end Cert.SwigluRefIdeal
-- ==== Proof.Swiglu.Finite.lean ====
/-
  The precondition read: every element of the arguments is the image of a real number.
-/
module

public import proofs.«01_k».proof.Proof.Lift
public import proofs.«01_k».proof.Proof.Gen.Pre_swiglu_finite

@[expose] public section

set_option maxRecDepth 16384

namespace Cert.Swiglu

open Idealize.ShloMosaic Lift Pre_swiglu_finite

theorem real_of_fn (a0 : FVec Ideal S2176x1024 .f32) (a1 a2 : FVec Ideal S1024x2816 .f32) (a3 : FVec Ideal S2816x1024 .f32)
    (a4 : FVec Ideal S2176x1024 .f32) (j : S_.Idx) (h : fn a0 a1 a2 a3 a4 j = 1#1) : IsReal a0 ∧ IsReal a1 ∧ IsReal a2 ∧ IsReal a3 ∧ IsReal a4 := by
  have : Subsingleton S_.Idx := ⟨fun a b => funext fun i => i.elim0⟩
  unfold fn fn_part1 at h
  dsimp only at h
  obtain ⟨h, h4⟩ := and_split _ _ j h
  obtain ⟨h, h3⟩ := and_split _ _ j h
  obtain ⟨h, h2⟩ := and_split _ _ j h
  obtain ⟨h0, h1⟩ := and_split _ _ j h
  refine ⟨fun i => finite_of_reduce _ _ _ ?_ _ _ j h0 i, fun i => finite_of_reduce _ _ _ ?_ _ _ j h1 i,
    fun i => finite_of_reduce _ _ _ ?_ _ _ j h2 i, fun i => finite_of_reduce _ _ _ ?_ _ _ j h3 i, fun i => finite_of_reduce _ _ _ ?_ _ _ j h4 i⟩
  all_goals exact fun _ => ofBits_inf

end Cert.Swiglu
-- ==== Proof.Swiglu.Claims.lean ====
/-
  The claims about the SwiGLU gradient.
-/
module

public import proofs.«01_k».proof.Proof.Gen.Swiglu.Skeleton
public import proofs.«01_k».proof.Proof.Swiglu.Array
public import proofs.«01_k».proof.Proof.Swiglu.RefVal
public import proofs.«01_k».proof.Proof.Swiglu.Finite

@[expose] public section

set_option maxRecDepth 16384

open Idealize.ShloMosaic Idealize.ShloMosaic.TcCoe Idealize.SL.Sem Cert.Lift

namespace Cert.SwigluRefIdeal

/-- The reference's run: every buffer ends at the line's value. -/
theorem ref_run (m : (ℓ : Loc nD τ sig) → Buf (Elt Ideal) ℓ)
    (ρ : Dev nD → PrngReg) :
    θ_run (defs (F := Ideal)) (onTc (τ := τ) (main (F := Ideal))) ⟨m, fun _ => 0, ρ⟩ fun r =>
      ∀ (d : Dev nD) (b : Ref sig .tc),
        r.2.mem ((d.tc : Thread _ _).loc b) = StableHlo.after line.1 (StableHlo.launchContents m d) (Proc.devRef .tc b) :=
  StableHlo.run_hlo _ _ line.2 (by decide) (by decide) (by unfold line; simp)
    (by unfold line; intro _ h; (repeat (cases h with | head => rfl | tail _ h => ?_)); exact nomatch h) m ρ

theorem ref_kept (m : (ℓ : Loc nD τ sig) → Buf (Elt Ideal) ℓ) (d : Dev nD)
    (b : Ref sig .tc) (h : table.1.all (fun e => e.1 != b) = true) :
    StableHlo.after line.1 (StableHlo.launchContents m d) (Proc.devRef .tc b) = m ((d.tc : Thread _ _).loc b) :=
  kept _ b h

end Cert.SwigluRefIdeal

namespace Cert.SwigluIdeal.Claims

open Cert.SwigluRefIdeal (ref_run ref_kept)

/-- The two printed programs are one. -/
theorem defs_eq : Swiglu.defs (F := Bits) = defs (F := Bits) := by sl_kernel_rfl

theorem frame_kernel : Cert.quiescent_Swiglu := fun m ρ _ => by
  have h := Hand.frame (F := Bits) m ρ
  rw [← defs_eq] at h
  exact h
theorem frame_ideal : Cert.quiescent_SwigluIdeal := fun m ρ _ => Hand.frame m ρ
theorem frame_ideal_pre : Cert.quiescent_SwigluIdeal_pre_swiglu_finite := fun m ρ _ => Hand.frame m ρ

theorem frame_ref : Cert.quiescent_SwigluRefIdeal := fun m ρ _ =>
  (θ_run SwigluRefIdeal.defs _ _).mono (fun r h => ⟨fun c =>
    by refine ⟨?_, ?_, ?_, ?_, ?_⟩ <;> exact (h c _).trans (ref_kept m c _ (by decide +kernel)),
    sem_eq_zero_of_no_sems (by decide) r.2⟩) (ref_run m ρ)

theorem frame_ref_pre : Cert.quiescent_SwigluRefIdeal_pre_swiglu_finite := fun m ρ _ => frame_ref m ρ trivial

theorem preserves : Cert.preserves_Swiglu_SwigluIdeal := trivial

section
variable (m : (ℓ : Loc nD τ sig) → Buf (Elt Ideal) ℓ)
  (m' : (ℓ : Loc SwigluRefIdeal.nD SwigluRefIdeal.τ SwigluRefIdeal.sig) → Buf (Elt Ideal) ℓ) (c : Dev nD)

/-- The real arrays the arguments are images of. -/
def inp (r : Fin 2176) (k : Fin 1024) : ℝ := (m ((c : Thread nD τ).loc main_arg0) (ix2 r k) : EReal).toReal
def wgate (k : Fin 1024) (q : Fin 2816) : ℝ := (m ((c : Thread nD τ).loc main_arg1) (ix2 k q) : EReal).toReal
def wup (k : Fin 1024) (q : Fin 2816) : ℝ := (m ((c : Thread nD τ).loc main_arg2) (ix2 k q) : EReal).toReal
def wdown (q : Fin 2816) (k : Fin 1024) : ℝ := (m ((c : Thread nD τ).loc main_arg3) (ix2 q k) : EReal).toReal
def cot (r : Fin 2176) (k : Fin 1024) : ℝ := (m ((c : Thread nD τ).loc main_arg4) (ix2 r k) : EReal).toReal

theorem args (hpre : Pre_SwigluIdeal_swiglu_finite m) : Swiglu.Array.Args m c (inp m c) (wgate m c) (wup m c) (wdown m c) (cot m c) := by
  obtain ⟨h0, h1, h2, h3, h4⟩ := Swiglu.real_of_fn _ _ _ _ _ (fun i => i.elim0) (congrFun (hpre c) _)
  exact ⟨fun r k => (h0 _).symm, fun k q => (h1 _).symm, fun k q => (h2 _).symm, fun q k => (h3 _).symm, fun r k => (h4 _).symm⟩

/-- The kernel's run: the results are the arrays after the last point. -/
theorem run_blocks (ρ : Dev nD → PrngReg) :
    θ_run (defs (F := Ideal)) (onTc (τ := τ) (main (F := Ideal))) ⟨m, fun _ => 0, ρ⟩ fun r => ∀ c : Dev nD,
      r.2.mem ((c.tc : Thread _ _).loc main_v10_0) = (Hand.dats m 0 c).arrAt 4 cfg0.N
      ∧ r.2.mem ((c.tc : Thread _ _).loc main_v10_1) = (Hand.dats m 0 c).arrAt 5 cfg0.N
      ∧ r.2.mem ((c.tc : Thread _ _).loc main_v10_2) = (Hand.dats m 0 c).arrAt 6 cfg0.N
      ∧ r.2.mem ((c.tc : Thread _ _).loc main_v10_3) = (Hand.dats m 0 c).arrAt 7 cfg0.N
      ∧ r.2.mem ((c.tc : Thread _ _).loc main_v10_4) = (Hand.dats m 0 c).arrAt 8 cfg0.N
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)
      ∧ r.2.mem ((c.tc : Thread _ _).loc main_arg3) = m ((c.tc : Thread _ _).loc main_arg3)
      ∧ r.2.mem ((c.tc : Thread _ _).loc main_arg4) = m ((c.tc : Thread _ _).loc main_arg4) :=
  (θ_run defs _ _).mono (fun _ h c => ⟨(h.1 c).1 4, (h.1 c).1 5, (h.1 c).1 6, (h.1 c).1 7, (h.1 c).1 8, Hand.args_kept m h.1 c⟩)
    (Hand.run_main m ρ)

end

/-- The kernel and the reference compute the same five gradients. -/
theorem algebraic : Cert.algebraic_SwigluIdeal_SwigluRefIdeal_pre_swiglu_finite := by
  intro m g m' g' hpre hagree
  refine ⟨_, _, _, _, _, run_blocks m g, (θ_run SwigluRefIdeal.defs _ _).mono (fun r h c => ?_) (ref_run m' g')⟩
  obtain ⟨h0, h1, h2, h3, h4⟩ := hagree c
  have H := args m c hpre
  have R : SwigluRefIdeal.Reals (StableHlo.after SwigluRefIdeal.line.1 (StableHlo.launchContents m' c)) (inp m c) (wgate m c) (wup m c) (wdown m c) (cot m c) :=
    ⟨SwigluRefIdeal.fixed _,
      fun r k => ((congrFun ((ref_kept m' c _ (by decide +kernel)).trans h0) _).trans (H.u_eq r k)),
      fun k q => ((congrFun ((ref_kept m' c _ (by decide +kernel)).trans h1) _).trans (H.g_eq k q)),
      fun k q => ((congrFun ((ref_kept m' c _ (by decide +kernel)).trans h2) _).trans (H.p_eq k q)),
      fun q k => ((congrFun ((ref_kept m' c _ (by decide +kernel)).trans h3) _).trans (H.w_eq q k)),
      fun r k => ((congrFun ((ref_kept m' c _ (by decide +kernel)).trans h4) _).trans (H.d_eq r k))⟩
  have q := fun b hb => (h c b).trans (ref_kept m' c b hb)
  refine ⟨(h c _).trans ?_, (h c _).trans ?_, (h c _).trans ?_, (h c _).trans ?_, (h c _).trans ?_,
    q _ (by decide +kernel), q _ (by decide +kernel), q _ (by decide +kernel),
    q _ (by decide +kernel), q _ (by decide +kernel)⟩
  · funext i
    obtain ⟨r, q, rfl⟩ : ∃ (r : Fin 2176) (q : Fin 2816), i = ix2 r q := ⟨i 0, i 1, eq_ix2 i⟩
    exact (SwigluRefIdeal.v17_at R r q).trans (Swiglu.Array.arr4 H r q).symm
  · funext i
    obtain ⟨r, q, rfl⟩ : ∃ (r : Fin 2176) (q : Fin 2816), i = ix2 r q := ⟨i 0, i 1, eq_ix2 i⟩
    exact (SwigluRefIdeal.v18_at R r q).trans (Swiglu.Array.arr5 H r q).symm
  · funext i
    obtain ⟨q, k, rfl⟩ : ∃ (q : Fin 2816) (k : Fin 1024), i = ix2 q k := ⟨i 0, i 1, eq_ix2 i⟩
    exact (SwigluRefIdeal.v19_at R q k).trans (Swiglu.Array.arr6 H q k).symm
  · funext i
    obtain ⟨q, k, rfl⟩ : ∃ (q : Fin 2816) (k : Fin 1024), i = ix2 q k := ⟨i 0, i 1, eq_ix2 i⟩
    exact (SwigluRefIdeal.v20_at R q k).trans (Swiglu.Array.arr7 H q k).symm
  · funext i
    obtain ⟨q, k, rfl⟩ : ∃ (q : Fin 2816) (k : Fin 1024), i = ix2 q k := ⟨i 0, i 1, eq_ix2 i⟩
    exact (SwigluRefIdeal.v21_at R q k).trans (Swiglu.Array.arr8 H q k).symm

end Cert.SwigluIdeal.Claims
-- ==== Proof.GateUp.Run.lean ====
/-
  The body of the gradient of the two input products' norm, run once at the first point and once at a later point.
-/
module

public import proofs.«01_k».proof.Proof.Gen.GateUpIdeal.Loops
public import proofs.«01_k».proof.Proof.Gen.GateUpIdeal.Points
public import Idealize.ShloMosaic.Lib.Pipeline.Frame

@[expose] public section

set_option maxRecDepth 16384

noncomputable section

namespace Cert.GateUpIdeal.Hand

open GateUpIdeal GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The two weights the kernel copies, the two scratch buffers it copies them into, and the accumulator. -/
abbrev gHbm : Memref sig .tc .hbm S2816x1024 .bf16 := Memref.whole main_v3
abbrev uHbm : Memref sig .tc .hbm S2816x1024 .bf16 := Memref.whole main_v5
abbrev aM : Memref sig .tc .vmem S544x1024 .f32 := Memref.whole cc0_scratch0
abbrev gM : Memref sig .tc .vmem S2816x1024 .bf16 := Memref.whole cc0_scratch1
abbrev uM : Memref sig .tc .vmem S2816x1024 .bf16 := Memref.whole cc0_scratch2

/-- A whole buffer held at its contents. -/
abbrev whole {sp : Space} {S : Shape} {e : EltTy} (c : Dev nD) (M : Memref sig .tc sp S e) (f : Buf (Elt F) (M.view.loc (c : Thread nD τ))) : sProp 𝕄 :=
  M.view.loc (c : Thread nD τ) ↦[M.view.set]{fullShare} f

/-- The windows' buffers at one point. -/
structure Bufs where
  dg : Memref sig .tc .vmem S544x2816 .bf16
  hdg : dg.IsWhole
  du : Memref sig .tc .vmem S544x2816 .bf16
  hdu : du.IsWhole
  h : Memref sig .tc .vmem S544x1024 .f32
  hh : h.IsWhole
  wn : Memref sig .tc .vmem S1x1024 .f32
  hwn : wn.IsWhole
  r : Memref sig .tc .vmem S544x1024 .f32
  hr : r.IsWhole
  d : Memref sig .tc .vmem S544x1024 .f32
  hd : d.IsWhole
  db : Memref sig .tc .vmem S544x1024 .bf16
  hdb : db.IsWhole
  dw : Memref sig .tc .vmem S1x1024 .f32
  hdw : dw.IsWhole

/-- The body on a point's buffers. -/
abbrev prog (i : grid0.Coords) (B : Bufs) : Prog (TpuEff nD τ sig (Elt F) Λ₀ .tc) PUnit :=
  cc0_gate_up_bwd i B.dg B.hdg B.du B.hdu gHbm (Memref.isWhole_whole _) uHbm (Memref.isWhole_whole _) B.h B.hh B.wn B.hwn B.r B.hr
    B.d B.hd B.db B.hdb B.dw B.hdw aM (Memref.isWhole_whole _) gM (Memref.isWhole_whole _) uM (Memref.isWhole_whole _) cc0_scratch3 cc0_scratch4

/-- A buffer owned at some contents. -/
abbrev some {sp : Space} {S : Shape} {e : EltTy} (c : Dev nD) (M : Memref sig .tc sp S e) : sProp 𝕄 := iprop(∃ d, owns (c : Thread nD τ) M fullShare d)

/-- A buffer with pieces written over unknown contents. -/
abbrev written {sp : Space} {S : Shape} {e : EltTy} (c : Dev nD) (M : Memref sig .tc sp S e) (L : List (View.Piece (Elt F) S e)) : sProp 𝕄 :=
  iprop(∃ f, M.view.loc (c : Thread nD τ) ↦[M.view.set]{fullShare} M.view.writes (Elt F) f L)

/-- The transfers' semaphores at zero. -/
abbrev sems (c : Dev nD) : sProp 𝕄 :=
  iprop(semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0)

/-- The input windows at their blocks. -/
abbrev inputs (c : Dev nD) (B : Bufs) (xg xp : Vec F S544x2816 .bf16) (xh : Vec F S544x1024 .f32) (xn : Vec F S1x1024 .f32) (xr : Vec F S544x1024 .f32) : sProp 𝕄 :=
  iprop(owns (c : Thread nD τ) B.dg fullShare xg ∗ owns (c : Thread nD τ) B.du fullShare xp ∗ owns (c : Thread nD τ) B.h fullShare xh
    ∗ owns (c : Thread nD τ) B.wn fullShare xn ∗ owns (c : Thread nD τ) B.r fullShare xr)

section
variable (c : Dev nD) (i : grid0.Coords) (B : Bufs) (xg xp : Vec F S544x2816 .bf16) (xh : Vec F S544x1024 .f32) (xn : Vec F S1x1024 .f32) (xr : Vec F S544x1024 .f32)
  (yg : Buf (Elt F) ((gHbm).view.loc (c : Thread nD τ))) (yu : Buf (Elt F) ((uHbm).view.loc (c : Thread nD τ)))

/-- The arrays the kernel copies. -/
abbrev sources : sProp 𝕄 := iprop(whole c gHbm yg ∗ whole c uHbm yu)

/-- The sum over the points is started here. -/
abbrev Starts (i : grid0.Coords) : Prop := Scalar.cmpi .ne (Scalar.extui (Scalar.cmpi .eq (BitVec.ofNat 32 (i 0).val) 0#32) : BitVec 32) 0#32 = 1#1

/-- The point is the first: every transfer's condition holds. -/
structure First (i : grid0.Coords) : Prop where
  h1 : k0_cond1 i = 1#1
  h2 : k0_cond2 i = 1#1
  h3 : Starts i
  h4 : k0_cond4 i = 1#1
  h6 : k0_cond6 i = 1#1

/-- The point is a later one: no transfer's condition holds. -/
structure Later (i : grid0.Coords) : Prop where
  h1 : ¬ k0_cond1 i = 1#1
  h2 : ¬ k0_cond2 i = 1#1
  h3 : ¬ Starts i
  h4 : ¬ k0_cond4 i = 1#1
  h6 : ¬ k0_cond6 i = 1#1

/-- Which pieces start the transfer of the piece two further on. -/
theorem gate0 : k0_cond5 ⟨0, by decide⟩ = 1#1 := by decide +kernel
theorem up0 : k0_cond7 ⟨0, by decide⟩ = 1#1 := by decide +kernel
theorem gate1 : k0_cond5 ⟨1, by decide⟩ = 1#1 := by decide +kernel
theorem up1 : k0_cond7 ⟨1, by decide⟩ = 1#1 := by decide +kernel
theorem gate2 : k0_cond5 ⟨2, by decide⟩ = 1#1 := by decide +kernel
theorem up2 : k0_cond7 ⟨2, by decide⟩ = 1#1 := by decide +kernel
theorem gate3 : k0_cond5 ⟨3, by decide⟩ = 1#1 := by decide +kernel
theorem up3 : k0_cond7 ⟨3, by decide⟩ = 1#1 := by decide +kernel
theorem gate4 : k0_cond5 ⟨4, by decide⟩ = 1#1 := by decide +kernel
theorem up4 : k0_cond7 ⟨4, by decide⟩ = 1#1 := by decide +kernel
theorem gate5 : k0_cond5 ⟨5, by decide⟩ = 1#1 := by decide +kernel
theorem up5 : k0_cond7 ⟨5, by decide⟩ = 1#1 := by decide +kernel
theorem gate6 : k0_cond5 ⟨6, by decide⟩ = 1#1 := by decide +kernel
theorem up6 : k0_cond7 ⟨6, by decide⟩ = 1#1 := by decide +kernel
theorem gate7 : k0_cond5 ⟨7, by decide⟩ = 1#1 := by decide +kernel
theorem up7 : k0_cond7 ⟨7, by decide⟩ = 1#1 := by decide +kernel
theorem gate8 : k0_cond5 ⟨8, by decide⟩ = 1#1 := by decide +kernel
theorem up8 : k0_cond7 ⟨8, by decide⟩ = 1#1 := by decide +kernel
theorem gate9 : ¬ k0_cond5 ⟨9, by decide⟩ = 1#1 := by decide +kernel
theorem up9 : ¬ k0_cond7 ⟨9, by decide⟩ = 1#1 := by decide +kernel
theorem gate10 : ¬ k0_cond5 ⟨10, by decide⟩ = 1#1 := by decide +kernel
theorem up10 : ¬ k0_cond7 ⟨10, by decide⟩ = 1#1 := by decide +kernel

/-- The end of a run, apart from what is kept: the inputs as they were, each output with its pieces. -/
abbrev ended (L5 : List (View.Piece (Elt F) S544x1024 .f32)) (L6 : List (View.Piece (Elt F) S544x1024 .bf16)) (L7 : List (View.Piece (Elt F) S1x1024 .f32)) : sProp 𝕄 :=
  iprop(inputs c B xg xp xh xn xr ∗ some c aM ∗ (∃ W', owes (c : Thread nD τ) 0 W') ∗ written c B.d L5 ∗ written c B.db L6 ∗ written c B.dw L7)

set_option backward.proofsInPublic true in
set_option maxHeartbeats 8000000 in
set_option sl_exec.unrollTrips 12 in
set_option sl_exec.dischHeartbeats 100000 in
set_option sl_exec.dmaWindow true in
set_option sl_exec.dmaWindowSet true in
/-- The first point: what the body leaves in its three results and in the two scratch buffers, found by running it. -/
def runA (h : First i) :
    Σ' (L5 : List (View.Piece (Elt F) S544x1024 .f32)), Σ' (L6 : List (View.Piece (Elt F) S544x1024 .bf16)), Σ' (L7 : List (View.Piece (Elt F) S1x1024 .f32)), Σ' (Lg : List (View.Piece (Elt F) S2816x1024 .bf16)),
      { Lu : List (View.Piece (Elt F) S2816x1024 .bf16) // ∀ (W : Waits sig Unit) (K : PUnit → sProp 𝕄),
        iprop(inputs c B xg xp xh xn xr ∗ (some c aM ∗ some c gM ∗ some c uM) ∗ sems c ∗ sources c yg yu ∗ owes (c : Thread nD τ) 0 W ∗ (some c B.d ∗ some c B.db ∗ some c B.dw)
            ∗ (iprop((written c gM Lg ∗ written c uM Lu) ∗ sems c ∗ sources c yg yu ∗ ended c B xg xp xh xn xr L5 L6 L7) -∗ K ⟨⟩))
          ⊢ wp frame (wpE (defs₀ (F := F)) Variants.none c none) Set.univ (prog i B) K } := by
  refine ⟨?_, ?_, ?_, ?_, ?_, fun W K => ?run⟩
  case run =>
    unfold prog; simp only [cc0_gate_up_bwd_eq_skeleton]; unfold cc0_gate_up_bwd_skel
    simp only [k0_part1_eq_skeleton, k0_part2_eq_skeleton, k0_part3_eq_skeleton, k0_part4_eq_skeleton, k0_part5_eq_skeleton]
    unfold inputs some owns sems sources
    iintro ⟨⟨⟨%f0, %hf0, H0⟩, ⟨%f1, %hf1, H1⟩, ⟨%f2, %hf2, H2⟩, ⟨%f3, %hf3, H3⟩, ⟨%f4, %hf4, H4⟩⟩, ⟨⟨%da, %fa, -, HS⟩, ⟨%ds, %fs, -, HG⟩, ⟨%dt, %ft, -, HT⟩⟩, ⟨Q0, Q1, Q2, Q3, Q4, Q5, Q6, Q7, Q8, Q9, Q10, Q11, Q12, Q13, Q14, Q15, Q16, Q17, Q18, Q19, Q20, Q21⟩, ⟨Hg, Hu⟩, HW, ⟨⟨%d5, %f5, -, H5⟩, ⟨%d6, %f6, -, H6⟩, ⟨%d7, %f7, -, H7⟩⟩, Hk⟩
    obtain rfl := B.hdg.eq_unread hf0; obtain rfl := B.hdu.eq_unread hf1; obtain rfl := B.hh.eq_unread hf2; obtain rfl := B.hwn.eq_unread hf3; obtain rfl := B.hr.eq_unread hf4
    sl_exec (disch := first | sl_exact h.h1 | sl_exact h.h2 | sl_exact h.h3 | sl_exact h.h4 | sl_exact h.h6 | sl_exact gate0 | sl_exact up0 | sl_exact gate1 | sl_exact up1 | sl_exact gate2 | sl_exact up2 | sl_exact gate3 | sl_exact up3 | sl_exact gate4 | sl_exact up4 | sl_exact gate5 | sl_exact up5 | sl_exact gate6 | sl_exact up6 | sl_exact gate7 | sl_exact up7 | sl_exact gate8 | sl_exact up8 | sl_exact gate9 | sl_exact up9 | sl_exact gate10 | sl_exact up10)
    sl_step
    iapply Hk
    isplitl [HG HT]
    · isplitl [HG]; · iexists _; iexact HG
      iexists _; iexact HT
    iframe Q0 Q1 Q2 Q3 Q4 Q5 Q6 Q7 Q8 Q9 Q10 Q11 Q12 Q13 Q14 Q15 Q16 Q17 Q18 Q19 Q20 Q21 Hg Hu
    unfold ended inputs some owns
    isplitl [H0 H1 H2 H3 H4]
    · isplitl [H0]
      · iexists _; isplitr; · ipureintro; exact B.hdg.read_unread _
        iexact H0
      isplitl [H1]
      · iexists _; isplitr; · ipureintro; exact B.hdu.read_unread _
        iexact H1
      isplitl [H2]
      · iexists _; isplitr; · ipureintro; exact B.hh.read_unread _
        iexact H2
      isplitl [H3]
      · iexists _; isplitr; · ipureintro; exact B.hwn.read_unread _
        iexact H3
      iexists _; isplitr; · ipureintro; exact B.hr.read_unread _
      iexact H4
    isplitl [HS]
    · iexists _, _; isplitr; swap; · iexact HS
      ipureintro; rfl
    isplitl [HW]; · iexists _; iexact HW
    isplitl [H5]; · iexists _; iexact H5
    isplitl [H6]; · iexists _; iexact H6
    iexists _; iexact H7

set_option backward.proofsInPublic true in
set_option maxHeartbeats 8000000 in
set_option sl_exec.unrollTrips 12 in
set_option sl_exec.dischHeartbeats 100000 in
/-- A later point: the scratch buffers hold the copied weights, and the weight's gradient is added to what the point before left. -/
def runB (h : Later i) (zg zu : Vec F S2816x1024 .bf16) (xd : Vec F S1x1024 .f32) :
    Σ' (L5 : List (View.Piece (Elt F) S544x1024 .f32)), Σ' (L6 : List (View.Piece (Elt F) S544x1024 .bf16)),
      { L7 : List (View.Piece (Elt F) S1x1024 .f32) // ∀ (W : Waits sig Unit) (K : PUnit → sProp 𝕄),
        iprop(inputs c B xg xp xh xn xr ∗ some c aM ∗ (owns (c : Thread nD τ) gM fullShare zg ∗ owns (c : Thread nD τ) uM fullShare zu) ∗ owes (c : Thread nD τ) 0 W
            ∗ (some c B.d ∗ some c B.db ∗ owns (c : Thread nD τ) B.dw fullShare xd)
            ∗ (iprop((owns (c : Thread nD τ) gM fullShare zg ∗ owns (c : Thread nD τ) uM fullShare zu) ∗ ended c B xg xp xh xn xr L5 L6 L7) -∗ K ⟨⟩))
          ⊢ wp frame (wpE (defs₀ (F := F)) Variants.none c none) Set.univ (prog i B) K } := by
  refine ⟨?_, ?_, ?_, fun W K => ?run⟩
  case run =>
    unfold prog; simp only [cc0_gate_up_bwd_eq_skeleton]; unfold cc0_gate_up_bwd_skel
    simp only [k0_part3_eq_skeleton, k0_part4_eq_skeleton, k0_part5_eq_skeleton]
    unfold inputs some owns
    iintro ⟨⟨⟨%f0, %hf0, H0⟩, ⟨%f1, %hf1, H1⟩, ⟨%f2, %hf2, H2⟩, ⟨%f3, %hf3, H3⟩, ⟨%f4, %hf4, H4⟩⟩, ⟨%da, %fa, -, HS⟩, ⟨⟨%fs, %hfs, HG⟩, ⟨%ft, %hft, HT⟩⟩, HW, ⟨⟨%d5, %f5, -, H5⟩, ⟨%d6, %f6, -, H6⟩, ⟨%f7, %hf7, H7⟩⟩, Hk⟩
    obtain rfl := B.hdg.eq_unread hf0; obtain rfl := B.hdu.eq_unread hf1; obtain rfl := B.hh.eq_unread hf2; obtain rfl := B.hwn.eq_unread hf3; obtain rfl := B.hr.eq_unread hf4
    obtain rfl := B.hdw.eq_unread hf7
    obtain rfl := (Memref.isWhole_whole _).eq_unread hfs; obtain rfl := (Memref.isWhole_whole _).eq_unread hft
    sl_exec (disch := first | sl_exact h.h1 | sl_exact h.h2 | sl_exact h.h3 | sl_exact h.h4 | sl_exact h.h6)
    sl_step
    iapply Hk
    isplitl [HG HT]
    · isplitl [HG]
      · iexists _; isplitr; · ipureintro; exact (Memref.isWhole_whole _).read_unread _
        iexact HG
      iexists _; isplitr; · ipureintro; exact (Memref.isWhole_whole _).read_unread _
      iexact HT
    unfold ended inputs some owns
    isplitl [H0 H1 H2 H3 H4]
    · isplitl [H0]
      · iexists _; isplitr; · ipureintro; exact B.hdg.read_unread _
        iexact H0
      isplitl [H1]
      · iexists _; isplitr; · ipureintro; exact B.hdu.read_unread _
        iexact H1
      isplitl [H2]
      · iexists _; isplitr; · ipureintro; exact B.hh.read_unread _
        iexact H2
      isplitl [H3]
      · iexists _; isplitr; · ipureintro; exact B.hwn.read_unread _
        iexact H3
      iexists _; isplitr; · ipureintro; exact B.hr.read_unread _
      iexact H4
    isplitl [HS]
    · iexists _, _; isplitr; swap; · iexact HS
      ipureintro; rfl
    isplitl [HW]; · iexists _; iexact HW
    isplitl [H5]; · iexists _; iexact H5
    isplitl [H6]; · iexists _; iexact H6
    iexists _; iexact H7

end

end Cert.GateUpIdeal.Hand

end
-- ==== Proof.GateUp.Lists.lean ====
/-
  What the body of the gradient of the two input products' norm leaves: its lists of stores, from the contents of the blocks.
-/
module

public import proofs.«01_k».proof.Proof.Arrive
public import proofs.«01_k».proof.Proof.GateUp.Run
public import proofs.«01_k».proof.Proof.Gen.GateUpIdeal.Launch
public import Idealize.ShloMosaic.Lib.Ring
public import Idealize.ShloMosaic.Lib.WordCmp

@[expose] public section

set_option maxRecDepth 16384

noncomputable section

namespace Cert.GateUpIdeal.Hand

open GateUpIdeal GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## The accumulator over the tiles -/

theorem zz : (![0, 0] : Fin 2 → ℕ) = fun _ => 0 := funext fun a => by fin_cases a <;> rfl
theorem inb_cols : ∀ (k : Fin 11) (a : Fin 2), (![0, 256 * k.val] : Fin 2 → ℕ) a + S544x256.size a ≤ S544x2816.size a := by decide
theorem inb_rows : ∀ (k : Fin 11) (a : Fin 2), (![256 * k.val, 0] : Fin 2 → ℕ) a + S256x1024.size a ≤ S2816x1024.size a := by decide

/-- Tile `k` of a block's columns, and of a weight's rows. -/
def cols (x : Vec F S544x2816 .bf16) (k : Fin 11) : Vec F S544x256 .bf16 := fun y => x ((Rect.unit (s := S544x2816) ![0, 256 * k.val] S544x256.size (inb_cols k)).emb y)
def rows (z : Vec F S2816x1024 .bf16) (k : Fin 11) : Vec F S256x1024 .bf16 := fun y => z ((Rect.unit (s := S2816x1024) ![256 * k.val, 0] S256x1024.size (inb_rows k)).emb y)

/-- The accumulator after the first `n` tiles. -/
def acc (xg xp : Vec F S544x2816 .bf16) (zg zu : Vec F S2816x1024 .bf16) : (n : ℕ) → n ≤ 11 → Vec F S544x1024 .f32
  | 0, _ => k0_pay5
  | n + 1, h => k0_pay6 (acc xg xp zg zu n (Nat.le_of_succ_le h)) (cols xg ⟨n, h⟩) (rows zg ⟨n, h⟩) (cols xp ⟨n, h⟩) (rows zu ⟨n, h⟩)

/-- The rows of a half. -/
def lo (a : Vec F S544x1024 .f32) : Vec F S272x1024 .f32 := fun y => a ((Rect.unit (s := S544x1024) ![0, 0] S272x1024.size inb_S544x1024_S272x1024_0_0).emb y)
def hi (a : Vec F S544x1024 .f32) : Vec F S272x1024 .f32 := fun y => a ((Rect.unit (s := S544x1024) ![272, 0] S272x1024.size inb_S544x1024_S272x1024_272_0).emb y)

/-- A load after a store to the whole buffer reads what was stored. -/
theorem over (v : View sig .tc .vmem S544x1024 .f32) (p : Vec F S544x1024 .f32) (L : List (View.Piece (Elt F) S544x1024 .f32)) (inb) (r : Rect S544x1024) :
    v.readCov ((⟨Rect.unit (s := S544x1024) ![0, 0] S544x1024.size inb, p⟩ : View.Piece (Elt F) S544x1024 .f32) :: L) r.toLoadRect = fun y => p (r.emb y) := by
  rw [View.readCov_eq_canon', View.canon_cons_unit_zero (S := S544x1024) zz]; rfl

/-! ## What a point leaves -/

section
variable (a xh xr : Vec F S544x1024 .f32) (xn : Vec F S1x1024 .f32)

/-- The pieces of the three results, from the accumulator, the norm's input rows, its weight, the cotangent passed through, and
    what the weight's gradient held. -/
def listD : List (View.Piece (Elt F) S544x1024 .f32) :=
  [⟨Rect.unit (s := S544x1024) ![272, 0] S272x1024.size inb_S544x1024_S272x1024_272_0, k0_pay2 (k0_pay14 (hi xh)) (k0_pay15 (hi xh)) (k0_pay16 (hi a) xn) (k0_pay17 (hi a) (hi xh) xn) (hi xr)⟩,
    ⟨Rect.unit (s := S544x1024) ![0, 0] S272x1024.size inb_S544x1024_S272x1024_0_0, k0_pay12 (k0_pay7 (lo xh)) (k0_pay8 (lo xh)) (k0_pay9 (lo a) xn) (k0_pay10 (lo a) (lo xh) xn) (lo xr)⟩]
def listDb : List (View.Piece (Elt F) S544x1024 .bf16) :=
  [⟨Rect.unit (s := S544x1024) ![272, 0] S272x1024.size inb_S544x1024_S272x1024_272_0, k0_pay3 (k0_pay14 (hi xh)) (k0_pay15 (hi xh)) (k0_pay16 (hi a) xn) (k0_pay17 (hi a) (hi xh) xn) (hi xr)⟩,
    ⟨Rect.unit (s := S544x1024) ![0, 0] S272x1024.size inb_S544x1024_S272x1024_0_0, k0_pay13 (k0_pay7 (lo xh)) (k0_pay8 (lo xh)) (k0_pay9 (lo a) xn) (k0_pay10 (lo a) (lo xh) xn) (lo xr)⟩]
/-- The weight's gradient after the first half, and after both. -/
def half (w0 : Vec F S1x1024 .f32) : Vec F S1x1024 .f32 := k0_pay11 (lo a) (k0_pay8 (lo xh)) w0
def both (w0 : Vec F S1x1024 .f32) : Vec F S1x1024 .f32 := k0_pay1 (hi a) (k0_pay15 (hi xh)) (half a xh w0)

end

section
variable (c : Dev nD) (i : grid0.Coords) (B : Bufs) (xg xp : Vec F S544x2816 .bf16) (xh : Vec F S544x1024 .f32) (xn : Vec F S1x1024 .f32) (xr : Vec F S544x1024 .f32)
  (yg yu : Vec F S2816x1024 .bf16)

/-! ## A later point -/

/-- One tile more. -/
theorem step {n : ℕ} (h : n + 1 ≤ 11) {a : Vec F S544x1024 .f32} {g p : Vec F S544x256 .bf16} {y z : Vec F S256x1024 .bf16} (ha : a = acc xg xp yg yu n (Nat.le_of_succ_le h))
    (hg : g = cols xg ⟨n, h⟩) (hy : y = rows yg ⟨n, h⟩) (hp : p = cols xp ⟨n, h⟩) (hz : z = rows yu ⟨n, h⟩) : k0_pay6 a g y p z = acc xg xp yg yu (n + 1) h := by
  subst ha hg hy hp hz; rfl

section
/-- The accumulator's last contents head its list of stores. -/
theorem later_head (r : Rect S544x1024) : aM.view.readCov (runB.sl.HS_12 c B xg xp yg yu) r.toLoadRect = fun y => acc xg xp yg yu 11 (by decide) (r.emb y) := by
  have hg := Arrive.held B.hdg xg
  have hp := Arrive.held B.hdu xp
  have hy := Arrive.held (Memref.isWhole_whole cc0_scratch1) yg
  have hz := Arrive.held (Memref.isWhole_whole cc0_scratch2) yu
  have S := fun {n} h {a g p y z} => step xg xp yg yu (n := n) h (a := a) (g := g) (p := p) (y := y) (z := z)
  have P := fun (p : Vec F S544x1024 .f32) L inb => Rows.readCov_cons_unit_zero aM.view zz inb p L
  have a0 : runB.sl.v128 (F := F) c = acc xg xp yg yu 0 (by decide) := P _ _ _
  have a1 : runB.sl.v128_1 c B xg xp yg yu = acc xg xp yg yu 1 (by decide) := (P _ _ _).trans (S _ a0 (hg _) (hy _) (hp _) (hz _))
  have a2 : runB.sl.v128_2 c B xg xp yg yu = acc xg xp yg yu 2 (by decide) := (P _ _ _).trans (S _ a1 (hg _) (hy _) (hp _) (hz _))
  have a3 : runB.sl.v128_3 c B xg xp yg yu = acc xg xp yg yu 3 (by decide) := (P _ _ _).trans (S _ a2 (hg _) (hy _) (hp _) (hz _))
  have a4 : runB.sl.v128_4 c B xg xp yg yu = acc xg xp yg yu 4 (by decide) := (P _ _ _).trans (S _ a3 (hg _) (hy _) (hp _) (hz _))
  have a5 : runB.sl.v128_5 c B xg xp yg yu = acc xg xp yg yu 5 (by decide) := (P _ _ _).trans (S _ a4 (hg _) (hy _) (hp _) (hz _))
  have a6 : runB.sl.v128_6 c B xg xp yg yu = acc xg xp yg yu 6 (by decide) := (P _ _ _).trans (S _ a5 (hg _) (hy _) (hp _) (hz _))
  have a7 : runB.sl.v128_7 c B xg xp yg yu = acc xg xp yg yu 7 (by decide) := (P _ _ _).trans (S _ a6 (hg _) (hy _) (hp _) (hz _))
  have a8 : runB.sl.v128_8 c B xg xp yg yu = acc xg xp yg yu 8 (by decide) := (P _ _ _).trans (S _ a7 (hg _) (hy _) (hp _) (hz _))
  have a9 : runB.sl.v128_9 c B xg xp yg yu = acc xg xp yg yu 9 (by decide) := (P _ _ _).trans (S _ a8 (hg _) (hy _) (hp _) (hz _))
  have a10 : runB.sl.v128_10 c B xg xp yg yu = acc xg xp yg yu 10 (by decide) := (P _ _ _).trans (S _ a9 (hg _) (hy _) (hp _) (hz _))
  exact (over _ _ _ _ r).trans (congrArg (fun f y => f (r.emb y)) (S _ a10 (hg _) (hy _) (hp _) (hz _)))
theorem later_v14 : runB.sl.v14 c B xg xp yg yu = lo (acc xg xp yg yu 11 (by decide)) := later_head c B xg xp yg yu _
theorem later_v51 : runB.sl.v51 c B xg xp yg yu = hi (acc xg xp yg yu 11 (by decide)) := later_head c B xg xp yg yu _

end

/-! ## The first point -/

/-- The pieces the first point copies. -/
abbrev copyG (h : First i) : List (View.Piece (Elt F) S2816x1024 .bf16) := (runA c i B xg xp xh xn xr yg yu h).2.2.2.1
abbrev copyU (h : First i) : List (View.Piece (Elt F) S2816x1024 .bf16) := (runA c i B xg xp xh xn xr yg yu h).2.2.2.2.1

theorem agrees_g (h : First i) : Arrive.Agrees (copyG c i B xg xp xh xn xr yg yu h) yg := by
  intro p hp y
  simp only [copyG, runA, List.mem_cons, List.not_mem_nil, or_false] at hp
  rcases hp with rfl | rfl | rfl | rfl | rfl | rfl | rfl | rfl | rfl | rfl | rfl <;> rfl
theorem agrees_u (h : First i) : Arrive.Agrees (copyU c i B xg xp xh xn xr yg yu h) yu := by
  intro p hp y
  simp only [copyU, runA, List.mem_cons, List.not_mem_nil, or_false] at hp
  rcases hp with rfl | rfl | rfl | rfl | rfl | rfl | rfl | rfl | rfl | rfl | rfl <;> rfl
theorem cover_g (h : First i) (y : S2816x1024.Idx) : ∃ p ∈ copyG c i B xg xp xh xn xr yg yu h, y ∈ p.1.set :=
  View.cover_of_tiledL (s := S2816x1024) _ S256x1024.size (by sl_kernel_rfl) y
theorem cover_u (h : First i) (y : S2816x1024.Idx) : ∃ p ∈ copyU c i B xg xp xh xn xr yg yu h, y ∈ p.1.set :=
  View.cover_of_tiledL (s := S2816x1024) _ S256x1024.size (by sl_kernel_rfl) y

theorem second {α : Type*} {a b : α} {l : List α} : b ∈ a :: b :: l := List.mem_cons_of_mem _ List.mem_cons_self
theorem third {α : Type*} {a b d : α} {l : List α} : d ∈ a :: b :: d :: l := List.mem_cons_of_mem _ second

/-- A tile is loaded when its own piece is among those that have arrived. -/
theorem tile_g (h : First i) (n : ℕ) (k : Fin 11) (e : ∃ f, (⟨Rect.unit (s := S2816x1024) ![256 * k.val, 0] S256x1024.size (inb_rows k), f⟩ : View.Piece (Elt F) S2816x1024 .bf16) ∈ (copyG c i B xg xp xh xn xr yg yu h).drop n) :
    gM.view.readCov ((copyG c i B xg xp xh xn xr yg yu h).drop n) (Rect.unit (s := S2816x1024) ![256 * k.val, 0] S256x1024.size (inb_rows k)).toLoadRect = rows yg k :=
  let ⟨_, hf⟩ := e
  Arrive.load gM.view (fun p hp => agrees_g c i B xg xp xh xn xr yg yu h p (List.mem_of_mem_drop hp)) _ fun y => ⟨_, hf, Arrive.emb_mem _ y⟩
theorem tile_u (h : First i) (n : ℕ) (k : Fin 11) (e : ∃ f, (⟨Rect.unit (s := S2816x1024) ![256 * k.val, 0] S256x1024.size (inb_rows k), f⟩ : View.Piece (Elt F) S2816x1024 .bf16) ∈ (copyU c i B xg xp xh xn xr yg yu h).drop n) :
    uM.view.readCov ((copyU c i B xg xp xh xn xr yg yu h).drop n) (Rect.unit (s := S2816x1024) ![256 * k.val, 0] S256x1024.size (inb_rows k)).toLoadRect = rows yu k :=
  let ⟨_, hf⟩ := e
  Arrive.load uM.view (fun p hp => agrees_u c i B xg xp xh xn xr yg yu h p (List.mem_of_mem_drop hp)) _ fun y => ⟨_, hf, Arrive.emb_mem _ y⟩

section
include B xg xp xh xn xr
theorem first_head (h : First i) (r : Rect S544x1024) : aM.view.readCov (runA.sl.HS_12 c i B xg xp yg yu h) r.toLoadRect = fun y => acc xg xp yg yu 11 (by decide) (r.emb y) := by
  have hg := Arrive.held B.hdg xg
  have hp := Arrive.held B.hdu xp
  have G := tile_g c i B xg xp xh xn xr yg yu h
  have U := tile_u c i B xg xp xh xn xr yg yu h
  have S := fun {n} h {a g p y z} => step xg xp yg yu (n := n) h (a := a) (g := g) (p := p) (y := y) (z := z)
  have P := fun (p : Vec F S544x1024 .f32) L inb => Rows.readCov_cons_unit_zero aM.view zz inb p L
  have a0 : runA.sl.v128 (F := F) c = acc xg xp yg yu 0 (by decide) := P _ _ _
  have a1 : runA.sl.v128_1 c i B xg xp yg yu h = acc xg xp yg yu 1 (by decide) := (P _ _ _).trans (S _ a0 (hg _) (G 8 0 ⟨_, third⟩) (hp _) (U 8 0 ⟨_, third⟩))
  have a2 : runA.sl.v128_2 c i B xg xp yg yu h = acc xg xp yg yu 2 (by decide) := (P _ _ _).trans (S _ a1 (hg _) (G 7 1 ⟨_, third⟩) (hp _) (U 7 1 ⟨_, third⟩))
  have a3 : runA.sl.v128_3 c i B xg xp yg yu h = acc xg xp yg yu 3 (by decide) := (P _ _ _).trans (S _ a2 (hg _) (G 6 2 ⟨_, third⟩) (hp _) (U 6 2 ⟨_, third⟩))
  have a4 : runA.sl.v128_4 c i B xg xp yg yu h = acc xg xp yg yu 4 (by decide) := (P _ _ _).trans (S _ a3 (hg _) (G 5 3 ⟨_, third⟩) (hp _) (U 5 3 ⟨_, third⟩))
  have a5 : runA.sl.v128_5 c i B xg xp yg yu h = acc xg xp yg yu 5 (by decide) := (P _ _ _).trans (S _ a4 (hg _) (G 4 4 ⟨_, third⟩) (hp _) (U 4 4 ⟨_, third⟩))
  have a6 : runA.sl.v128_6 c i B xg xp yg yu h = acc xg xp yg yu 6 (by decide) := (P _ _ _).trans (S _ a5 (hg _) (G 3 5 ⟨_, third⟩) (hp _) (U 3 5 ⟨_, third⟩))
  have a7 : runA.sl.v128_7 c i B xg xp yg yu h = acc xg xp yg yu 7 (by decide) := (P _ _ _).trans (S _ a6 (hg _) (G 2 6 ⟨_, third⟩) (hp _) (U 2 6 ⟨_, third⟩))
  have a8 : runA.sl.v128_8 c i B xg xp yg yu h = acc xg xp yg yu 8 (by decide) := (P _ _ _).trans (S _ a7 (hg _) (G 1 7 ⟨_, third⟩) (hp _) (U 1 7 ⟨_, third⟩))
  have a9 : runA.sl.v128_9 c i B xg xp yg yu h = acc xg xp yg yu 9 (by decide) := (P _ _ _).trans (S _ a8 (hg _) (G 0 8 ⟨_, third⟩) (hp _) (U 0 8 ⟨_, third⟩))
  have a10 : runA.sl.v128_10 c i B xg xp yg yu h = acc xg xp yg yu 10 (by decide) := (P _ _ _).trans (S _ a9 (hg _) (G 0 9 ⟨_, second⟩) (hp _) (U 0 9 ⟨_, second⟩))
  exact (over _ _ _ _ r).trans (congrArg (fun f y => f (r.emb y)) (S _ a10 (hg _) (G 0 10 ⟨_, List.mem_cons_self⟩) (hp _) (U 0 10 ⟨_, List.mem_cons_self⟩)))
theorem first_v14 (h : First i) : runA.sl.v14 c i B xg xp yg yu h = lo (acc xg xp yg yu 11 (by decide)) := first_head c i B xg xp xh xn xr yg yu h _
theorem first_v51 (h : First i) : runA.sl.v51 c i B xg xp yg yu h = hi (acc xg xp yg yu 11 (by decide)) := first_head c i B xg xp xh xn xr yg yu h _

end

/-! ## The lists of stores -/

/-- What the norm reads: whole blocks and their halves. -/
theorem read_n : View.readAt (Elt F) B.wn.view (Rect.unit (s := S1x1024) ![0, 0] S1x1024.size inb_S1x1024_S1x1024_0_0).toLoadRect (B.hwn.unread xn) = xn := by
  rw [View.readAt_eq_ld, B.hwn.read_unread, View.ld_unit_zero (S := S1x1024) zz]
theorem read_w (w0 : Vec F S1x1024 .f32) : View.readAt (Elt F) B.dw.view (Rect.unit (s := S1x1024) ![0, 0] S1x1024.size inb_S1x1024_S1x1024_0_0).toLoadRect (B.hdw.unread w0) = w0 := by
  rw [View.readAt_eq_ld, B.hdw.read_unread, View.ld_unit_zero (S := S1x1024) zz]

theorem later_lists (h : Later i) (w0 : Vec F S1x1024 .f32) :
    (runB c i B xg xp xh xn xr h yg yu w0).1 = listD (acc xg xp yg yu 11 (by decide)) xh xr xn
    ∧ (runB c i B xg xp xh xn xr h yg yu w0).2.1 = listDb (acc xg xp yg yu 11 (by decide)) xh xr xn
    ∧ ∃ L, (runB c i B xg xp xh xn xr h yg yu w0).2.2.1 = ⟨Rect.unit (s := S1x1024) ![0, 0] S1x1024.size inb_S1x1024_S1x1024_0_0, both (acc xg xp yg yu 11 (by decide)) xh w0⟩ :: L := by
  have e14 := later_v14 c B xg xp yg yu
  have e51 := later_v51 c B xg xp yg yu
  have el := Arrive.held B.hh xh (Rect.unit (s := S544x1024) ![0, 0] S272x1024.size inb_S544x1024_S272x1024_0_0)
  have eh := Arrive.held B.hh xh (Rect.unit (s := S544x1024) ![272, 0] S272x1024.size inb_S544x1024_S272x1024_272_0)
  have rl := Arrive.held B.hr xr (Rect.unit (s := S544x1024) ![0, 0] S272x1024.size inb_S544x1024_S272x1024_0_0)
  have rh := Arrive.held B.hr xr (Rect.unit (s := S544x1024) ![272, 0] S272x1024.size inb_S544x1024_S272x1024_272_0)
  have en := read_n B xn
  have ew := read_w B w0
  have e77 : runB.sl.v77 c B xg xp xh yg yu w0 = half (acc xg xp yg yu 11 (by decide)) xh w0 := by
    unfold runB.sl.v77 runB.sl.H7_1 runB.sl.r_1 half
    rw [e14, el, ew]; exact Rows.readCov_cons_unit_zero _ zz _ _ _
  refine ⟨?_, ?_, ?_⟩
  · unfold runB listD; dsimp only
    simp only [runB.sl.r, runB.sl.r_1, runB.sl.r_2, runB.sl.r_3, runB.sl.r_4, runB.sl.r_5, runB.sl.r_6, runB.sl.r_7, e14, e51, el, eh, rl, rh, en]
    rfl
  · unfold runB listDb; dsimp only
    simp only [runB.sl.r, runB.sl.r_1, runB.sl.r_2, runB.sl.r_3, runB.sl.r_4, runB.sl.r_5, runB.sl.r_6, runB.sl.r_7, e14, e51, el, eh, rl, rh, en]
    rfl
  · refine ⟨runB.sl.H7_1 c B xg xp xh yg yu w0, ?_⟩
    unfold runB both; dsimp only
    simp only [runB.sl.r_5, e51, e77, eh]
    rfl

theorem first_lists (h : First i) :
    (runA c i B xg xp xh xn xr yg yu h).1 = listD (acc xg xp yg yu 11 (by decide)) xh xr xn
    ∧ (runA c i B xg xp xh xn xr yg yu h).2.1 = listDb (acc xg xp yg yu 11 (by decide)) xh xr xn
    ∧ ∃ L, (runA c i B xg xp xh xn xr yg yu h).2.2.1 = ⟨Rect.unit (s := S1x1024) ![0, 0] S1x1024.size inb_S1x1024_S1x1024_0_0, both (acc xg xp yg yu 11 (by decide)) xh k0_pay4⟩ :: L := by
  have e14 := first_v14 c i B xg xp xh xn xr yg yu h
  have e51 := first_v51 c i B xg xp xh xn xr yg yu h
  have el := Arrive.held B.hh xh (Rect.unit (s := S544x1024) ![0, 0] S272x1024.size inb_S544x1024_S272x1024_0_0)
  have eh := Arrive.held B.hh xh (Rect.unit (s := S544x1024) ![272, 0] S272x1024.size inb_S544x1024_S272x1024_272_0)
  have rl := Arrive.held B.hr xr (Rect.unit (s := S544x1024) ![0, 0] S272x1024.size inb_S544x1024_S272x1024_0_0)
  have rh := Arrive.held B.hr xr (Rect.unit (s := S544x1024) ![272, 0] S272x1024.size inb_S544x1024_S272x1024_272_0)
  have en := read_n B xn
  have e40 : runA.sl.v40 (F := F) c B = k0_pay4 := by unfold runA.sl.v40 runA.sl.H7_1; exact Rows.readCov_cons_unit_zero _ zz _ _ _
  have e77 : runA.sl.v77 c i B xg xp xh yg yu h = half (acc xg xp yg yu 11 (by decide)) xh k0_pay4 := by
    unfold runA.sl.v77 runA.sl.H7_2 runA.sl.r_1 half
    rw [e14, el, e40]; exact Rows.readCov_cons_unit_zero _ zz _ _ _
  refine ⟨?_, ?_, ?_⟩
  · unfold runA listD; dsimp only
    simp only [runA.sl.r, runA.sl.r_1, runA.sl.r_2, runA.sl.r_3, runA.sl.r_4, runA.sl.r_5, runA.sl.r_6, runA.sl.r_7, e14, e51, el, eh, rl, rh, en]
    rfl
  · unfold runA listDb; dsimp only
    simp only [runA.sl.r, runA.sl.r_1, runA.sl.r_2, runA.sl.r_3, runA.sl.r_4, runA.sl.r_5, runA.sl.r_6, runA.sl.r_7, e14, e51, el, eh, rl, rh, en]
    rfl
  · refine ⟨runA.sl.H7_2 c i B xg xp xh yg yu h, ?_⟩
    unfold runA both; dsimp only
    simp only [runA.sl.r_5, e51, e77, eh]
    rfl

end

end Cert.GateUpIdeal.Hand

end
-- ==== Proof.GateUp.Frame.lean ====
/-
  The run of the gradient of the two input products' norm: the pipeline's proof data, the body at
  a generic point, the launch, the frame.
-/
module

public import proofs.«01_k».proof.Proof.GateUp.Lists

@[expose] public section

set_option maxRecDepth 16384

noncomputable section

namespace Cert.GateUpIdeal.Hand

open GateUpIdeal GateUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## What a point leaves, owned -/

/-- The three results' blocks. -/
structure Outs (F : FTy → Type) where
  d : Vec F S544x1024 .f32
  db : Vec F S544x1024 .bf16
  dw : Vec F S1x1024 .f32

section
variable (c : Dev nD) (i : grid0.Coords) (B : Bufs) (xg xp : Vec F S544x2816 .bf16) (xh : Vec F S544x1024 .f32) (xn : Vec F S1x1024 .f32) (xr : Vec F S544x1024 .f32)
  (yg yu : Vec F S2816x1024 .bf16) (w0 : Vec F S1x1024 .f32)

/-- Contents are read through one buffer of each window: any buffer that the pieces cover reads the same. -/
abbrev viewD : View sig .tc .vmem S544x1024 .f32 := (Memref.whole cc0_stg5_0 : Memref sig .tc .vmem S544x1024 .f32).view
abbrev viewDb : View sig .tc .vmem S544x1024 .bf16 := (Memref.whole cc0_stg6_0 : Memref sig .tc .vmem S544x1024 .bf16).view

/-- Pieces read back. -/
abbrev filled {S : Shape} {e : EltTy} (v : View sig .tc .vmem S e) (L : List (View.Piece (Elt F) S e)) : Vec F S e :=
  v.read (Elt F) (v.writes (Elt F) v.junk L)

/-- What a point leaves, where the weight's gradient was `w0`. -/
def outs : Outs F :=
  ⟨filled viewD (listD (acc xg xp yg yu 11 (by decide)) xh xr xn), filled viewDb (listDb (acc xg xp yg yu 11 (by decide)) xh xr xn),
    both (acc xg xp yg yu 11 (by decide)) xh w0⟩

/-- The results owned at `o`. -/
abbrev outputs (o : Outs F) : sProp 𝕄 :=
  iprop(owns (c : Thread nD τ) B.d fullShare o.d ∗ owns (c : Thread nD τ) B.db fullShare o.db ∗ owns (c : Thread nD τ) B.dw fullShare o.dw)

/-- The weights' buffers at the copied arrays. -/
abbrev arrived : sProp 𝕄 := iprop(owns (c : Thread nD τ) gM fullShare yg ∗ owns (c : Thread nD τ) uM fullShare yu)

/-- A buffer whose pieces cover it is owned at the pieces read back. -/
theorem owns_of_written {S : Shape} {e : EltTy} (M : Memref sig .tc .vmem S e) (v : View sig .tc .vmem S e) (L : List (View.Piece (Elt F) S e))
    (hc : ∀ y, ∃ p ∈ L, y ∈ p.1.set) : (written c M L : sProp 𝕄) ⊢ owns (c : Thread nD τ) M fullShare (filled v L) := by
  unfold written owns
  iintro ⟨%f, H⟩
  iexists _; isplitr; swap; · iexact H
  ipureintro; exact View.read_writes_of_cover _ _ _ _ _ hc

/-- A buffer whose pieces cover it and agree with `G` is owned at `G`. -/
theorem owns_of_agrees {S : Shape} {e : EltTy} (M : Memref sig .tc .vmem S e) (G : Vec F S e) (L : List (View.Piece (Elt F) S e))
    (ha : Arrive.Agrees L G) (hc : ∀ y, ∃ p ∈ L, y ∈ p.1.set) : (written c M L : sProp 𝕄) ⊢ owns (c : Thread nD τ) M fullShare G := by
  unfold written owns
  iintro ⟨%f, H⟩
  iexists _; isplitr; swap; · iexact H
  ipureintro; exact Arrive.all M.view f ha hc

/-- A buffer last written whole is owned at what was written. -/
theorem owns_of_last {S : Shape} {e : EltTy} (M : Memref sig .tc .vmem S e) {off : Fin S.rank → Nat} (hz : off = fun _ => 0) (inb : ∀ a, off a + S.size a ≤ S.size a)
    (G : Vec F S e) (L : List (View.Piece (Elt F) S e)) :
    (written c M ((⟨Rect.unit off S.size inb, G⟩ : View.Piece (Elt F) S e) :: L) : sProp 𝕄) ⊢ owns (c : Thread nD τ) M fullShare G := by
  have e : ∀ f, M.view.read (Elt F) (M.view.writes (Elt F) f ((⟨Rect.unit off S.size inb, G⟩ : View.Piece (Elt F) S e) :: L)) = G := fun f => by
    rw [View.read_writes_of_cover M.view f M.view M.view.junk _ (fun y => ⟨_, List.mem_cons_self, View.mem_set_unit_zero hz inb y⟩),
      View.read_writes_junk_eq_canon, View.canon_cons_unit_zero hz]
  unfold written owns
  iintro ⟨%f, H⟩
  iexists _; isplitr; swap; · iexact H
  ipureintro; exact e f

/-- The three results from their pieces. -/
theorem outputs_of_written {L5 : List (View.Piece (Elt F) S544x1024 .f32)} {L6 : List (View.Piece (Elt F) S544x1024 .bf16)} {L7 : List (View.Piece (Elt F) S1x1024 .f32)}
    (e : L5 = listD (acc xg xp yg yu 11 (by decide)) xh xr xn ∧ L6 = listDb (acc xg xp yg yu 11 (by decide)) xh xr xn
      ∧ ∃ L, L7 = ⟨Rect.unit (s := S1x1024) ![0, 0] S1x1024.size inb_S1x1024_S1x1024_0_0, both (acc xg xp yg yu 11 (by decide)) xh w0⟩ :: L) :
    iprop(written c B.d L5 ∗ written c B.db L6 ∗ written c B.dw L7) ⊢ (outputs c B (outs xg xp xh xn xr yg yu w0) : sProp 𝕄) := by
  obtain ⟨rfl, rfl, L, rfl⟩ := e
  unfold outputs outs; dsimp only
  iintro ⟨H5, H6, H7⟩
  isplitl [H5]; · iapply (owns_of_written c B.d viewD _ (View.cover_of_tiledL (s := S544x1024) _ S272x1024.size (by sl_kernel_rfl))); iexact H5
  isplitl [H6]; · iapply (owns_of_written c B.db viewDb _ (View.cover_of_tiledL (s := S544x1024) _ S272x1024.size (by sl_kernel_rfl))); iexact H6
  iapply (owns_of_last c B.dw zz inb_S1x1024_S1x1024_0_0 _ L); iexact H7

theorem bodyA (h : First i) (W : Waits sig Unit) (K : PUnit → sProp 𝕄) :
    iprop(inputs c B xg xp xh xn xr ∗ (some c aM ∗ some c gM ∗ some c uM) ∗ sems c ∗ sources c yg yu ∗ owes (c : Thread nD τ) 0 W ∗ (some c B.d ∗ some c B.db ∗ some c B.dw)
        ∗ (iprop(inputs c B xg xp xh xn xr ∗ some c aM ∗ arrived c yg yu ∗ sems c ∗ sources c yg yu ∗ (∃ W', owes (c : Thread nD τ) 0 W') ∗ outputs c B (outs xg xp xh xn xr yg yu k0_pay4)) -∗ K ⟨⟩))
      ⊢ wp frame (wpE (defs₀ (F := F)) Variants.none c none) Set.univ (prog i B) K := by
  iintro ⟨Hi, Hs, Hq, Hh, HW, Ho, Hk⟩
  iapply ((runA c i B xg xp xh xn xr yg yu h).2.2.2.2.2 W K)
  iframe Hi Hs Hq Hh HW Ho
  unfold ended
  iintro ⟨⟨Hd, Hu⟩, Hq, Hh, Hi, Ha, HW, H⟩
  iapply Hk
  iframe Hi Ha
  isplitl [Hd Hu]
  · isplitl [Hd]
    · iapply (owns_of_agrees c gM yg _ (agrees_g c i B xg xp xh xn xr yg yu h) (cover_g c i B xg xp xh xn xr yg yu h)); iexact Hd
    iapply (owns_of_agrees c uM yu _ (agrees_u c i B xg xp xh xn xr yg yu h) (cover_u c i B xg xp xh xn xr yg yu h)); iexact Hu
  iframe Hq Hh HW
  iapply (outputs_of_written c B xg xp xh xn xr yg yu k0_pay4 (first_lists c i B xg xp xh xn xr yg yu h)); iexact H

theorem bodyB (h : Later i) (W : Waits sig Unit) (K : PUnit → sProp 𝕄) :
    iprop(inputs c B xg xp xh xn xr ∗ some c aM ∗ arrived c yg yu ∗ owes (c : Thread nD τ) 0 W ∗ (some c B.d ∗ some c B.db ∗ owns (c : Thread nD τ) B.dw fullShare w0)
        ∗ (iprop(inputs c B xg xp xh xn xr ∗ some c aM ∗ arrived c yg yu ∗ (∃ W', owes (c : Thread nD τ) 0 W') ∗ outputs c B (outs xg xp xh xn xr yg yu w0)) -∗ K ⟨⟩))
      ⊢ wp frame (wpE (defs₀ (F := F)) Variants.none c none) Set.univ (prog i B) K := by
  iintro ⟨Hi, Ha, Hs, HW, Ho, Hk⟩
  iapply ((runB c i B xg xp xh xn xr h yg yu w0).2.2.2 W K)
  iframe Hi Ha Hs HW Ho
  unfold ended
  iintro ⟨Hs, Hi, Ha, HW, H⟩
  iapply Hk
  iframe Hi Ha Hs HW
  iapply (outputs_of_written c B xg xp xh xn xr yg yu w0 (later_lists c i B xg xp xh xn xr yg yu h w0)); iexact H

end

/-! ## The points -/

theorem first_of (t : Fin cfg0.N) : t.val = 0 → First (grid0.coords t) := by
  obtain ⟨h1, h2, h3, h4, h6⟩ := (by decide +kernel : (∀ t : Fin grid0.N, t.val = 0 → k0_cond1 (grid0.coords t) = 1#1) ∧ (∀ t : Fin grid0.N, t.val = 0 → k0_cond2 (grid0.coords t) = 1#1)
    ∧ (∀ t : Fin grid0.N, t.val = 0 → Starts (grid0.coords t)) ∧ (∀ t : Fin grid0.N, t.val = 0 → k0_cond4 (grid0.coords t) = 1#1)
    ∧ (∀ t : Fin grid0.N, t.val = 0 → k0_cond6 (grid0.coords t) = 1#1))
  exact fun h => ⟨h1 t h, h2 t h, h3 t h, h4 t h, h6 t h⟩
theorem later_of (t : Fin cfg0.N) : ¬ t.val = 0 → Later (grid0.coords t) := by
  obtain ⟨h1, h2, h3, h4, h6⟩ := (by decide +kernel : (∀ t : Fin grid0.N, ¬ t.val = 0 → ¬ k0_cond1 (grid0.coords t) = 1#1) ∧ (∀ t : Fin grid0.N, ¬ t.val = 0 → ¬ k0_cond2 (grid0.coords t) = 1#1)
    ∧ (∀ t : Fin grid0.N, ¬ t.val = 0 → ¬ Starts (grid0.coords t)) ∧ (∀ t : Fin grid0.N, ¬ t.val = 0 → ¬ k0_cond4 (grid0.coords t) = 1#1)
    ∧ (∀ t : Fin grid0.N, ¬ t.val = 0 → ¬ k0_cond6 (grid0.coords t) = 1#1))
  exact fun h => ⟨h1 t h, h2 t h, h3 t h, h4 t h, h6 t h⟩

/-- The buffers the pipeline passes at point `t`. -/
def bufs (t : Fin cfg0.N) : Bufs where
  dg := win0_0.stage (cfg0.slots t 0)
  hdg := hstage0_0 ((cfg0.slots t 0).cast nbuf0_0)
  du := win0_1.stage (cfg0.slots t 1)
  hdu := hstage0_1 ((cfg0.slots t 1).cast nbuf0_1)
  h := win0_2.stage (cfg0.slots t 2)
  hh := hstage0_2 ((cfg0.slots t 2).cast nbuf0_2)
  wn := win0_3.stage (cfg0.slots t 3)
  hwn := hstage0_3 ((cfg0.slots t 3).cast nbuf0_3)
  r := win0_4.stage (cfg0.slots t 4)
  hr := hstage0_4 ((cfg0.slots t 4).cast nbuf0_4)
  d := win0_5.stage (cfg0.slots t 5)
  hd := hstage0_5 ((cfg0.slots t 5).cast nbuf0_5)
  db := win0_6.stage (cfg0.slots t 6)
  hdb := hstage0_6 ((cfg0.slots t 6).cast nbuf0_6)
  dw := win0_7.stage (cfg0.slots t 7)
  hdw := hstage0_7 ((cfg0.slots t 7).cast nbuf0_7)

variable (m : (ℓ : Loc nD τ sig) → Buf (Elt F) ℓ) (ρ : Dev nD → PrngReg)

/-! ## The host operations before the region -/

/-- A core's buffers when the region is entered. -/
abbrev V (c : Dev nD) (b : Ref sig .tc) : Buf (Elt F) ((c : Thread nD τ).loc b) := StableHlo.after hostOps0 (fun b => m (c, b)) b

/-- No host operation writes an argument. -/
theorem V_of_not_written (c : Dev nD) (b : Ref sig .tc)
    (h : (hostOps0 : List (HloOp τ sig (Elt F))).Forall fun op => Proc.devRef .tc b ∉ op.writes) : V m c b = m ((c : Thread nD τ).loc b) :=
  StableHlo.after_of_forall_not_mem (b := Proc.devRef .tc b) _ _ (List.forall_iff_forall_mem.mp h)
theorem V_args (c : Dev nD) : V m c main_arg0 = m ((c : Thread nD τ).loc main_arg0) ∧ V m c main_arg1 = m ((c : Thread nD τ).loc main_arg1) ∧ V m c main_arg2 = m ((c : Thread nD τ).loc main_arg2) ∧ V m c main_arg3 = m ((c : Thread nD τ).loc main_arg3) ∧ V m c main_arg4 = m ((c : Thread nD τ).loc main_arg4) ∧ V m c main_arg5 = m ((c : Thread nD τ).loc main_arg5) ∧ V m c main_arg6 = m ((c : Thread nD τ).loc main_arg6) := by
  refine ⟨V_of_not_written m c main_arg0 ?_, V_of_not_written m c main_arg1 ?_, V_of_not_written m c main_arg2 ?_, V_of_not_written m c main_arg3 ?_, V_of_not_written m c main_arg4 ?_, V_of_not_written m c main_arg5 ?_, V_of_not_written m c main_arg6 ?_⟩ <;>
    (simp only [hostOps0, List.Forall, StableHlo.nullary_writes, StableHlo.unary_writes, StableHlo.binary_writes, Finset.mem_singleton]
     repeat' apply And.intro
     all_goals exact StableHlo.devRef_ne_of_ne (by decide))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What point `t` leaves, where the weight's gradient was `w0`. -/
def outsOf (c : Dev nD) (t : Fin cfg0.N) (w0 : Vec F S1x1024 .f32) : Outs F :=
  outs (iblk m c 0 t) (iblk m c 1 t) (iblk m c 2 t) (iblk m c 3 t) (iblk m c 4 t) (V m c main_v3) (V m c main_v5) w0

/-- The weight's gradient before point `n`: zero at first. -/
def sofar (c : Dev nD) : (n : ℕ) → n ≤ cfg0.N → Vec F S1x1024 .f32
  | 0, _ => k0_pay4
  | n + 1, hn => (outsOf m c ⟨n, hn⟩ (sofar c n (Nat.le_of_succ_le hn))).dw

/-- What point `t` leaves. -/
def outsAt (c : Dev nD) (t : Fin cfg0.N) : Outs F := outsOf m c t (sofar m c t.val t.isLt.le)

theorem sofar_pos (c : Dev nD) (t : Fin cfg0.N) (h : ¬ t.val = 0) (h1 : t.val - 1 < cfg0.N) :
    sofar m c t.val t.isLt.le = (outsAt m c ⟨t.val - 1, h1⟩).dw := by
  obtain ⟨n, hn⟩ := t
  cases n with
  | zero => exact absurd rfl h
  | succ n => rfl

/-! ## The kernel's own semaphores and the copied arrays -/

abbrev osem : Fin 22 → SemLoc sig := fun j => (![.dma 14, .dma 15, .dma 16, .dma 17, .dma 18, .dma 19, .dma 20, .dma 21, .dma 22, .dma 23, .dma 24, .dma 25, .dma 26, .dma 27, .dma 28, .dma 29, .dma 30, .dma 31, .dma 32, .dma 33, .dma 34, .dma 35] : Fin 22 → SemLoc sig) j
theorem osem_facts : Pipeline.OwnSemFacts spec0 osem := by decide
def Hbm : Finset (Ref sig .tc) := {main_v3, main_v5}
theorem hbm_sub : Hbm ⊆ Pipeline.restRefs sig spec0 := by decide

theorem ownSems_eq (c : Dev nD) :
    (Pipeline.ownSems0 (Ix := Unit) (Name := ℕ) (U := Pipeline.UD sig nD τ) (Lvl := ℕ) (Val := Elt F) (τ := τ) osem c : sProp 𝕄) = sems c := by
  rw [Pipeline.ownSems0_eq_of_list c osem [0, 1, 2, 3, 4, 5, 6, 7, 8, 9, 10, 11, 12, 13, 14, 15, 16, 17, 18, 19, 20, 21] (by decide) (by decide)]; rfl
theorem hbm_eq (c : Dev nD) :
    (bigSep Hbm (fun b => ((c : Thread nD τ).loc b) ↦{fullShare} V m c b) : sProp 𝕄) = sources c (V m c main_v3) (V m c main_v5) := by
  rw [BI.bigSep_eq_bigSepL_of_eq [main_v3, main_v5] (by decide) (by decide)]; simp only [sources, whole, Memref.view_whole, View.set_whole]; rfl

/-- What the kernel keeps between points, apart from the scratch buffers. -/
abbrev kept (c : Dev nD) : sProp 𝕄 := iprop((∃ r, prngReg c r) ∗ sems c ∗ sources c (V m c main_v3) (V m c main_v5))

theorem inv_eq (c : Dev nD) :
    (Pipeline.ΦD osem spec0 Hbm (V m) c : sProp 𝕄) = iprop((some c aM ∗ some c gM ∗ some c uM) ∗ kept m c) := by
  rw [Pipeline.ΦD_eq, scopedRest0_eq, ownSems_eq, hbm_eq]; simp only [some, aM, gM, uM, owns_whole, kept]; try rfl

/-- The invariant: before the first point the weights' buffers hold anything, from then on the copied arrays. -/
def inv (c : Dev nD) (p : ℕ) : sProp 𝕄 :=
  if p = 0 then Pipeline.ΦD osem spec0 Hbm (V m) c else iprop((some c aM ∗ arrived c (V m c main_v3) (V m c main_v5)) ∗ kept m c)

theorem inv_first (c : Dev nD) (p : ℕ) (h : p = 0) : inv m c p = Pipeline.ΦD osem spec0 Hbm (V m) c := by unfold inv; exact if_pos h
theorem inv_later (c : Dev nD) (p : ℕ) (h : ¬ p = 0) : inv m c p = iprop((some c aM ∗ arrived c (V m c main_v3) (V m c main_v5)) ∗ kept m c) := by
  unfold inv; exact if_neg h

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t).d
    | ⟨6, _⟩ => (outsAt m c t).db
    | ⟨7, _⟩ => (outsAt m c t).dw
  Φ p := inv m c p.val
  q _ := fullShare
  owed _ := 0

theorem A_eq (c : Dev nD) (w : Fin cfg0.W) : (dats m 0 c).A w = V m c (Pipeline.arrRef spec0 w) := by dsimp only [dats]

section
variable (c : Dev nD) (t : Fin cfg0.N)

/-- An input's staging buffer holds its block at every point. -/
theorem before_in (w : Fin cfg0.W) (hw : (cfg0.win w).isOut = false) (hl : ∀ i, cfg0.idle w i = false)
    (hc : ∀ t t' : Fin cfg0.N, (cfg0.win w).index t = (cfg0.win w).index t' → (cfg0.win w).clip (cfg0.grid.coords t) = (cfg0.win w).clip (cfg0.grid.coords t'))
    (ha : ∀ t, (cfg0.win w).cut (cfg0.grid.coords t) ((dats m 0 c).after w t) = iblk m c w t) (d) : (dats m 0 c).before w t d = (dats m 0 c).fetched w t d :=
  (dats m 0 c).before_in_eq_fetched w hw hl hc (fun t => by rw [ha]; unfold Dat.blockOf iblk; rw [A_eq]) t d

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = (outsAt m c t).d := by dsimp only [dats]
theorem after_6 : (dats m 0 c).after 6 t = (outsAt m c t).db := by dsimp only [dats]
theorem after_7 : (dats m 0 c).after 7 t = (outsAt m c t).dw := by dsimp only [dats]

theorem before_0 (d) : (dats m 0 c).before 0 t d = iblk m c 0 t := (before_in m c t 0 rfl (fun _ => rfl) (fun _ _ _ => rfl) (after_0 m c) d).trans rfl
theorem before_1 (d) : (dats m 0 c).before 1 t d = iblk m c 1 t := (before_in m c t 1 rfl (fun _ => rfl) (fun _ _ _ => rfl) (after_1 m c) d).trans rfl
theorem before_2 (d) : (dats m 0 c).before 2 t d = iblk m c 2 t := (before_in m c t 2 rfl (fun _ => rfl) (fun _ _ _ => rfl) (after_2 m c) d).trans rfl
theorem before_3 (d) : (dats m 0 c).before 3 t d = iblk m c 3 t := (before_in m c t 3 rfl (fun _ => rfl) (fun _ _ _ => rfl) (after_3 m c) d).trans rfl
theorem before_4 (d) : (dats m 0 c).before 4 t d = iblk m c 4 t := (before_in m c t 4 rfl (fun _ => rfl) (fun _ _ _ => rfl) (after_4 m c) d).trans rfl

end
/-- The weight's gradient is not sent between the points: its buffer holds what the previous one left. -/
theorem before_7 (c : Dev nD) (t : Fin cfg0.N) (h : ¬ t.val = 0) (d) : (dats m 0 c).before 7 t d = sofar m c t.val t.isLt.le := by
  have hN : t.val < 4 := lt_of_lt_of_eq t.isLt (show cfg0.N = 4 from N_0)
  rw [Dat.before_out_kept _ 7 rfl t (by omega) (Bool.eq_false_iff.mpr fun k => by have := (flush0_7 _).mp k; dsimp only at this; omega)
    (fun _ => rfl) (fun _ _ => rfl), after_7, sofar_pos m c t h]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (bufs t).dg fullShare ((dats m 0 c).before 0 t d))
    ∗ (∃ d, owns (c : Thread nD τ) (bufs t).du fullShare ((dats m 0 c).before 1 t d))
    ∗ (∃ d, owns (c : Thread nD τ) (bufs t).h fullShare ((dats m 0 c).before 2 t d))
    ∗ (∃ d, owns (c : Thread nD τ) (bufs t).wn fullShare ((dats m 0 c).before 3 t d))
    ∗ (∃ d, owns (c : Thread nD τ) (bufs t).r fullShare ((dats m 0 c).before 4 t d))
    ∗ (∃ d, owns (c : Thread nD τ) (bufs t).d fullShare ((dats m 0 c).before 5 t d))
    ∗ (∃ d, owns (c : Thread nD τ) (bufs t).db fullShare ((dats m 0 c).before 6 t d))
    ∗ (∃ d, owns (c : Thread nD τ) (bufs t).dw fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (bufs t).dg fullShare ((dats m 0 c).after 0 t)
    ∗ owns (c : Thread nD τ) (bufs t).du fullShare ((dats m 0 c).after 1 t)
    ∗ owns (c : Thread nD τ) (bufs t).h fullShare ((dats m 0 c).after 2 t)
    ∗ owns (c : Thread nD τ) (bufs t).wn fullShare ((dats m 0 c).after 3 t)
    ∗ owns (c : Thread nD τ) (bufs t).r fullShare ((dats m 0 c).after 4 t)
    ∗ owns (c : Thread nD τ) (bufs t).d fullShare ((dats m 0 c).after 5 t)
    ∗ owns (c : Thread nD τ) (bufs t).db fullShare ((dats m 0 c).after 6 t)
    ∗ owns (c : Thread nD τ) (bufs t).dw fullShare ((dats m 0 c).after 7 t))

/-- The end of a point, whichever case it was. -/
theorem ends (c : Dev nD) (t : Fin cfg0.N) :
    iprop(kept m c ∗ inputs c (bufs t) (iblk m c 0 t) (iblk m c 1 t) (iblk m c 2 t) (iblk m c 3 t) (iblk m c 4 t) ∗ some c aM ∗ arrived c (V m c main_v3) (V m c main_v5)
      ∗ (∃ W', owes (c : Thread nD τ) 0 W') ∗ outputs c (bufs t) (outsAt m c t)) ⊢ bodyPost m c t := by
  unfold bodyPost
  rw [show (dats m 0 c).Φ t.succ = iprop((some c aM ∗ arrived c (V m c main_v3) (V m c main_v5)) ∗ kept m c) from inv_later m c t.succ.val (Nat.succ_ne_zero _),
    after_0, after_1, after_2, after_3, after_4, after_5, after_6, after_7]
  unfold Dat.owesAt Pipeline.owesWithin
  rw [show (dats m 0 c).owed t.succ = 0 from rfl]
  iintro ⟨Hk, ⟨H0, H1, H2, H3, H4⟩, Ha, Hs, ⟨%W', HW⟩, ⟨H5, H6, H7⟩⟩
  isplitl [Ha Hs Hk]; · iframe Ha Hs Hk
  isplitl [HW]
  · iexists W'; isplitr; · ipureintro; exact fun _ _ => Or.inl trivial
    iexact HW
  iframe H0 H1 H2 H3 H4 H5 H6 H7

theorem sound_body (c : Dev nD) (t : Fin cfg0.N) :
    bodyPre m c t ⊢ wp frame (wpE (defs₀ (F := F)) Variants.none c none) Set.univ (prog (grid0.coords t) (bufs t)) (fun _ => bodyPost m c t) := by
  have hend := ends m c t
  unfold bodyPre
  simp only [before_0, before_1, before_2, before_3, before_4]
  unfold Dat.owesAt Pipeline.owesWithin
  rw [show (dats m 0 c).owed t.castSucc = 0 from rfl]
  by_cases h : t.val = 0
  · have e : outsAt m c t = outsOf m c t k0_pay4 := by unfold outsAt; congr 1; obtain ⟨n, hn⟩ := t; obtain rfl : n = 0 := h; rfl
    rw [e] at hend
    rw [show (dats m 0 c).Φ t.castSucc = Pipeline.ΦD osem spec0 Hbm (V m) c from inv_first m c _ h, inv_eq]
    iintro ⟨⟨Hs, Hg, Hq, Hh⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply (bodyA c (grid0.coords t) (bufs t) (iblk m c 0 t) (iblk m c 1 t) (iblk m c 2 t) (iblk m c 3 t) (iblk m c 4 t) (V m c main_v3) (V m c main_v5) (first_of t h) W _)
    iframe H0 H1 H2 H3 H4 Hs Hq Hh HW
    isplitl [H5 H6 H7]
    · isplitl [H5]; · iexists _; iexact H5
      isplitl [H6]; · iexists _; iexact H6
      iexists _; iexact H7
    iintro ⟨Hi, Ha, Hs, Hq, Hh, HW, Ho⟩
    iapply hend
    iframe Hg Hq Hh Hi Ha Hs HW
    iexact Ho
  · simp only [before_7 m c t h]
    rw [show (dats m 0 c).Φ t.castSucc = iprop((some c aM ∗ arrived c (V m c main_v3) (V m c main_v5)) ∗ kept m c) from inv_later m c t.castSucc.val h]
    iintro ⟨⟨⟨Ha, Hs⟩, Hg⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩⟩
    iapply (bodyB c (grid0.coords t) (bufs t) (iblk m c 0 t) (iblk m c 1 t) (iblk m c 2 t) (iblk m c 3 t) (iblk m c 4 t) (V m c main_v3) (V m c main_v5) (sofar m c t.val t.isLt.le) (later_of t h) W _)
    iframe H0 H1 H2 H3 H4 Ha Hs HW
    isplitl [H5 H6 H7]
    · isplitl [H5]; · iexists _; iexact H5
      isplitl [H6]; · iexists _; iexact H6
      iexact H7
    iintro ⟨Hi, Ha, Hs, HW, Ho⟩
    iapply hend
    iframe Hg Hi Ha Hs HW
    iexact Ho

theorem row (t : Fin cfg0.N) : defs₀ (F := F) .tc cfg0.body (cfg0.bodyArgs t (cfg0.slots t)) = prog (grid0.coords t) (bufs t) := by
  unfold defs₀; rw [Defs.onTc_tc]; rfl

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The launch -/

set_option maxHeartbeats 800000 in
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub (by simp only [List.Forall]; repeat' constructor) main_chain

/-- The invariant's ends: the scratch buffers at any contents. -/
theorem inv_in (c : Dev nD) : Pipeline.ΦD osem spec0 Hbm (V m) c ⊢ (dats m 0 c).Φ 0 := by
  rw [show (dats m 0 c).Φ 0 = Pipeline.ΦD osem spec0 Hbm (V m) c from inv_first m c _ rfl]
theorem inv_out (c : Dev nD) : (dats m 0 c).Φ (Fin.last cfg0.N) ⊢ Pipeline.ΦD osem spec0 Hbm (V m) c := by
  rw [show (dats m 0 c).Φ (Fin.last cfg0.N) = iprop((some c aM ∗ arrived c (V m c main_v3) (V m c main_v5)) ∗ kept m c) from
    inv_later m c (Fin.last cfg0.N).val (by rw [Fin.val_last, show cfg0.N = 4 from N_0]; decide), inv_eq]
  iintro ⟨⟨Ha, Hd, Hu⟩, Hk⟩
  isplitl [Ha Hd Hu]
  · isplitl [Ha]; · iexact Ha
    isplitl [Hd]; · iexists _; iexact Hd
    iexists _; iexact Hu
  iexact Hk

set_option backward.isDefEq.respectTransparency.types false in
/-- Every run ends, with the results' arrays at what the points leave, every other buffer as the region found it, and the
    semaphores at zero. -/
theorem run_main :
    θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ Variants.none osem_facts Hbm hbm_sub m ρ main
    (hbody := fun c => (body_obligation m c).loose) (hshare := fun c => (dats m 0 c).share_full fun _ => rfl)
    (howed := fun _ _ => rfl) (V := V m) (hmain := hmainD m Variants.none) (hA := A_eq m)
    (hin := inv_in m) (hout := inv_out m)

/-- The arguments end as they were. -/
abbrev ArgsKept (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)

theorem args_kept {r : PUnit × MemSt nD τ sig (Elt F)} (h : Pipeline.FramePost cfgs (dats m) 0 (V m) r) (c : Dev nD) :
      ArgsKept m r c := by
  obtain ⟨e0, e1, e2, e3, e4, e5, e6⟩ := V_args m c
  exact ⟨((h c).1 2).trans (((dats m 0 c).arrAt_in 2 rfl _).trans ((A_eq m c 2).trans e0)),
    ((h c).1 3).trans (((dats m 0 c).arrAt_in 3 rfl _).trans ((A_eq m c 3).trans e1)),
    ((h c).2 main_arg2 (Pipeline.mem_restRefs_of main_arg2 (by decide) (by decide))).trans e2,
    ((h c).2 main_arg3 (Pipeline.mem_restRefs_of main_arg3 (by decide) (by decide))).trans e3,
    ((h c).2 main_arg4 (Pipeline.mem_restRefs_of main_arg4 (by decide) (by decide))).trans e4,
    ((h c).2 main_arg5 (Pipeline.mem_restRefs_of main_arg5 (by decide) (by decide))).trans e5,
    ((h c).1 4).trans (((dats m 0 c).arrAt_in 4 rfl _).trans ((A_eq m c 4).trans e6))⟩

theorem frame : θ_run defs (onTc (τ := τ) (main (F := F))) ⟨m, fun _ => 0, ρ⟩ (fun r => (∀ c : Dev nD,
      ArgsKept m r c)
      ∧ r.2.sem = fun _ => 0) :=
  (θ_run defs _ _).mono (fun _ h => ⟨args_kept m h.1, h.2⟩) (run_main m ρ)

end Cert.GateUpIdeal.Hand

end
-- ==== Proof.GateUp.Real.lean ====
/-
  The gradient of a norm that feeds two products, as functions of real rows.
-/
module

public import proofs.«01_k».proof.Proof.Spec

@[expose] public section

set_option maxRecDepth 16384

noncomputable section

namespace Cert.GateUp

open Spec

variable {n : ℕ}

/-- The gradient at the normalised rows: the two products' cotangents through their weights. -/
def du (dg dp : Fin n → Fin 2816 → ℝ) (Wg Wu : Fin 1024 → Fin 2816 → ℝ) (a : Fin n) (k : Fin 1024) : ℝ :=
  ∑ j, (dg a j * Wg k j + dp a j * Wu k j)

/-- The gradient at the norm's rows, with the cotangent passed through. -/
def dhRow (u y r : Fin n → Fin 1024 → ℝ) (w : Fin 1024 → ℝ) (a : Fin n) (k : Fin 1024) : ℝ :=
  rmsGrad (y a) (fun k => u a k * w k) k + r a k

/-- The row's part of the norm weight's gradient. -/
def dwRow (u y : Fin n → Fin 1024 → ℝ) (k : Fin 1024) (a : Fin n) : ℝ := u a k * (y a k * rms (y a))

end Cert.GateUp

end
-- ==== Proof.GateUp.Pay.lean ====
/-
  The call's body, one half block (272 rows): what its stores write, as real functions of the rows.
-/
module

public import proofs.«01_k».proof.Proof.GateUp.Real
public import proofs.«01_k».proof.Proof.Gen.GateUpIdeal.Skeleton

@[expose] public section

set_option maxRecDepth 16384

noncomputable section

namespace Cert.GateUp.Pay

open Idealize.ShloMosaic GateUpIdeal GateUpIdeal.Gen Lift Spec

/-- A half block's rows are images of reals: the accumulated gradient, the norm's rows, its weight, the cotangent passed through. -/
structure Half (v yv : Vec Ideal S272x1024 .f32) (wv : Vec Ideal S1x1024 .f32) (rv : Vec Ideal S272x1024 .f32)
    (u y : Fin 272 → Fin 1024 → ℝ) (w : Fin 1024 → ℝ) (r : Fin 272 → Fin 1024 → ℝ) : Prop where
  u_eq : ∀ a k, v (ix2 a k) = ((u a k : ℝ) : EReal)
  y_eq : ∀ a k, yv (ix2 a k) = ((y a k : ℝ) : EReal)
  w_eq : ∀ k, wv (ix2 0 k) = ((w k : ℝ) : EReal)
  r_eq : ∀ a k, rv (ix2 a k) = ((r a k : ℝ) : EReal)

variable {v yv : Vec Ideal S272x1024 .f32} {wv : Vec Ideal S1x1024 .f32} {rv : Vec Ideal S272x1024 .f32}
  {u y : Fin 272 → Fin 1024 → ℝ} {w : Fin 1024 → ℝ} {r : Fin 272 → Fin 1024 → ℝ}

theorem pay7_at (H : Half v yv wv rv u y w r) (a : Fin 272) : k0_pay7 (F := Ideal) yv (ix2 a 0) = ((rms (y a) : ℝ) : EReal) := by
  pointwise [k0_pay7]
  simp only [H.y_eq, c_1024, c_eps, ← EReal.coe_mul, sum_coe, div_coe_coe _ (show (1024 : ℝ) ≠ 0 by norm_num), ← EReal.coe_add]
  exact rsqrt_coe_pos (rms_arg_pos (y a))

theorem pay8_at (H : Half v yv wv rv u y w r) (a : Fin 272) (k : Fin 1024) : k0_pay8 (F := Ideal) yv (ix2 a k) = ((y a k * rms (y a) : ℝ) : EReal) := by
  pointwise [k0_pay8]
  simp only [H.y_eq, pay7_at H, ← EReal.coe_mul]

theorem pay9_at (H : Half v yv wv rv u y w r) (a : Fin 272) (k : Fin 1024) : k0_pay9 (F := Ideal) v wv (ix2 a k) = ((u a k * w k : ℝ) : EReal) := by
  pointwise [k0_pay9]
  simp only [H.u_eq, H.w_eq, ← EReal.coe_mul]

/-- The gradient of the first half's rows. -/
theorem pay12_at (H : Half v yv wv rv u y w r) (a : Fin 272) (k : Fin 1024) :
    k0_pay12 (F := Ideal) (k0_pay7 yv) (k0_pay8 yv) (k0_pay9 v wv) (k0_pay10 v yv wv) rv (ix2 a k) = ((dhRow u y r w a k : ℝ) : EReal) := by
  pointwise [k0_pay12, k0_pay10]
  simp only [pay7_at H, pay8_at H, pay9_at H, H.r_eq, c_1024, ← EReal.coe_mul, sum_coe, div_coe_coe _ (show (1024 : ℝ) ≠ 0 by norm_num), sub_coe, ← EReal.coe_add]
  rfl

theorem pay13_at (H : Half v yv wv rv u y w r) (a : Fin 272) (k : Fin 1024) :
    k0_pay13 (F := Ideal) (k0_pay7 yv) (k0_pay8 yv) (k0_pay9 v wv) (k0_pay10 v yv wv) rv (ix2 a k) = ((dhRow u y r w a k : ℝ) : EReal) := by
  pointwise [k0_pay13]
  exact pay12_at H a k

/-- The first half's part of the norm weight's gradient, added to what the accumulator held. -/
theorem pay11_at (H : Half v yv wv rv u y w r) (x : Vec Ideal S1x1024 .f32) (k : Fin 1024) :
    k0_pay11 (F := Ideal) v (k0_pay8 yv) x (ix2 0 k) = x (ix2 0 k) + ((∑ a, dwRow u y k a : ℝ) : EReal) := by
  pointwise [k0_pay11]
  simp only [pay8_at H, H.u_eq, ← EReal.coe_mul, sum_coe]
  rfl

/-! The second half: the same sums, cut at other places. -/

theorem pay2_at (H : Half v yv wv rv u y w r) (a : Fin 272) (k : Fin 1024) :
    k0_pay2 (F := Ideal) (k0_pay14 yv) (k0_pay15 yv) (k0_pay16 v wv) (k0_pay17 v yv wv) rv (ix2 a k) = ((dhRow u y r w a k : ℝ) : EReal) :=
  pay12_at H a k
theorem pay3_at (H : Half v yv wv rv u y w r) (a : Fin 272) (k : Fin 1024) :
    k0_pay3 (F := Ideal) (k0_pay14 yv) (k0_pay15 yv) (k0_pay16 v wv) (k0_pay17 v yv wv) rv (ix2 a k) = ((dhRow u y r w a k : ℝ) : EReal) :=
  pay13_at H a k
theorem pay1_at (H : Half v yv wv rv u y w r) (x : Vec Ideal S1x1024 .f32) (k : Fin 1024) :
    k0_pay1 (F := Ideal) v (k0_pay15 yv) x (ix2 0 k) = x (ix2 0 k) + ((∑ a, dwRow u y k a : ℝ) : EReal) :=
  pay11_at H x k

/-! The sums' start, and one tile of the two products. -/

theorem pay4_at (k : Fin 1024) : k0_pay4 (F := Ideal) (ix2 0 k) = 0 := by pointwise [k0_pay4]
theorem pay5_at (a : Fin 544) (k : Fin 1024) : k0_pay5 (F := Ideal) (ix2 a k) = 0 := by pointwise [k0_pay5]
theorem pay6_at (x : Vec Ideal S544x1024 .f32) (g : Vec Ideal S544x256 .bf16) (wg : Vec Ideal S256x1024 .bf16) (p : Vec Ideal S544x256 .bf16) (wp : Vec Ideal S256x1024 .bf16)
    (a : Fin 544) (k : Fin 1024) :
    k0_pay6 (F := Ideal) x g wg p wp (ix2 a k) = x (ix2 a k) + (∑ j : Fin 256, g (ix2 a j) * wg (ix2 j k) + ∑ j : Fin 256, p (ix2 a j) * wp (ix2 j k)) := by
  pointwise [k0_pay6]

end Cert.GateUp.Pay

end
-- ==== Proof.GateUp.Block.lean ====
/-
  The call at one grid point: what its stores leave in the three output blocks, element by element, when the input blocks hold images of
  real numbers.
-/
module

public import proofs.«01_k».proof.Proof.GateUp.Frame
public import proofs.«01_k».proof.Proof.GateUp.Pay
public import proofs.«01_k».proof.Proof.Halves

@[expose] public section

set_option maxRecDepth 16384

noncomputable section

namespace Cert.GateUp.Block

open Idealize.ShloMosaic Idealize.ShloMosaic.TcCoe GateUpIdeal GateUpIdeal.Gen GateUpIdeal.Hand Lift Spec GateUp GateUp.Pay Rows

variable {xg xp : Vec Ideal S544x2816 .bf16} {xh : Vec Ideal S544x1024 .f32} {xn : Vec Ideal S1x1024 .f32} {xr : Vec Ideal S544x1024 .f32}
  {yg yu : Vec Ideal S2816x1024 .bf16}

/-- The input blocks hold images of reals; the copied weights are the transposes of `Wg` and `Wu`. -/
structure Reals (xg xp : Vec Ideal S544x2816 .bf16) (xh : Vec Ideal S544x1024 .f32) (xn : Vec Ideal S1x1024 .f32) (xr : Vec Ideal S544x1024 .f32)
    (yg yu : Vec Ideal S2816x1024 .bf16) (dg dp : Fin 544 → Fin 2816 → ℝ) (y : Fin 544 → Fin 1024 → ℝ) (w : Fin 1024 → ℝ) (r : Fin 544 → Fin 1024 → ℝ)
    (Wg Wu : Fin 1024 → Fin 2816 → ℝ) : Prop where
  dg_eq : ∀ a k, xg (ix2 a k) = ((dg a k : ℝ) : EReal)
  dp_eq : ∀ a k, xp (ix2 a k) = ((dp a k : ℝ) : EReal)
  y_eq : ∀ a k, xh (ix2 a k) = ((y a k : ℝ) : EReal)
  w_eq : ∀ k, xn (ix2 0 k) = ((w k : ℝ) : EReal)
  r_eq : ∀ a k, xr (ix2 a k) = ((r a k : ℝ) : EReal)
  g_eq : ∀ j k, yg (ix2 j k) = ((Wg k j : ℝ) : EReal)
  u_eq : ∀ j k, yu (ix2 j k) = ((Wu k j : ℝ) : EReal)

/-- A tile's element is the block's. -/
theorem cols_at (x : Vec Ideal S544x2816 .bf16) (t : Fin 11) (a : Fin 544) (j : Fin 256) : cols x t (ix2 a j) = x (ix2 a ⟨256 * t.val + j.val, by omega⟩) :=
  congrArg x ((emb_at (o0 := 0) (o1 := 256 * t.val) (inb_cols t) rfl a j).trans (congrArg (fun i => ix2 i _) (Fin.ext (Nat.zero_add _))))
theorem rows_at (z : Vec Ideal S2816x1024 .bf16) (t : Fin 11) (j : Fin 256) (k : Fin 1024) : rows z t (ix2 j k) = z (ix2 ⟨256 * t.val + j.val, by omega⟩ k) :=
  congrArg z ((emb_at (o0 := 256 * t.val) (o1 := 0) (inb_rows t) rfl j k).trans (congrArg (ix2 _) (Fin.ext (Nat.zero_add _))))
theorem lo_at (x : Vec Ideal S544x1024 .f32) (a : Fin 272) (k : Fin 1024) : lo x (ix2 a k) = x (ix2 (low 0 (by omega) a) k) :=
  congrArg x ((emb_at (o0 := 0) (o1 := 0) inb_S544x1024_S272x1024_0_0 rfl a k).trans (congrArg (ix2 _) (Fin.ext (Nat.zero_add _))))
theorem hi_at (x : Vec Ideal S544x1024 .f32) (a : Fin 272) (k : Fin 1024) : hi x (ix2 a k) = x (ix2 (low 272 (by omega) a) k) :=
  congrArg x ((emb_at (o0 := 272) (o1 := 0) inb_S544x1024_S272x1024_272_0 rfl a k).trans (congrArg (ix2 _) (Fin.ext (Nat.zero_add _))))

variable {dg dp : Fin 544 → Fin 2816 → ℝ} {y : Fin 544 → Fin 1024 → ℝ} {w : Fin 1024 → ℝ} {r : Fin 544 → Fin 1024 → ℝ} {Wg Wu : Fin 1024 → Fin 2816 → ℝ}

/-- Term `j` of the gradient's sum, nothing past the last. -/
def term (dg dp : Fin 544 → Fin 2816 → ℝ) (Wg Wu : Fin 1024 → Fin 2816 → ℝ) (a : Fin 544) (k : Fin 1024) (j : ℕ) : ℝ :=
  if h : j < 2816 then dg a ⟨j, h⟩ * Wg k ⟨j, h⟩ + dp a ⟨j, h⟩ * Wu k ⟨j, h⟩ else 0

section
variable (H : Reals xg xp xh xn xr yg yu dg dp y w r Wg Wu)
include H

/-- The accumulator after `n` tiles is the sum over their columns. -/
theorem acc_at (a : Fin 544) (k : Fin 1024) : ∀ (n : ℕ) (hn : n ≤ 11), acc xg xp yg yu n hn (ix2 a k) = ((∑ j ∈ Finset.range (256 * n), term dg dp Wg Wu a k j : ℝ) : EReal)
  | 0, _ => by
    refine (pay5_at a k).trans ?_
    rw [Nat.mul_zero, Finset.sum_range_zero, EReal.coe_zero]
  | n + 1, hn => by
    refine (pay6_at _ _ _ _ _ a k).trans ?_
    rw [acc_at a k n (Nat.le_of_succ_le hn)]
    simp only [cols_at, rows_at, H.dg_eq, H.dp_eq, H.g_eq, H.u_eq, ← EReal.coe_mul, sum_coe, ← EReal.coe_add]
    rw [Nat.mul_succ, Finset.sum_range_add _ (256 * n) 256, ← Finset.sum_add_distrib, Finset.sum_range (fun j => term dg dp Wg Wu a k (256 * n + j))]
    refine congrArg (fun z : ℝ => ((_ + z : ℝ) : EReal)) (Finset.sum_congr rfl fun j _ => ?_)
    unfold term
    rw [dif_pos (show 256 * n + j.val < 2816 by omega)]

theorem acc_all (a : Fin 544) (k : Fin 1024) : acc xg xp yg yu 11 (by decide) (ix2 a k) = ((du dg dp Wg Wu a k : ℝ) : EReal) := by
  refine (acc_at H a k 11 (by decide)).trans (congrArg (fun z : ℝ => (z : EReal)) ?_)
  rw [show 256 * 11 = 2816 from rfl, Finset.sum_range]
  exact Finset.sum_congr rfl fun j _ => dif_pos j.isLt

theorem half_lo : Half (lo (acc xg xp yg yu 11 (by decide))) (lo xh) xn (lo xr) (fun a => du dg dp Wg Wu (low 0 (by omega) a)) (fun a => y (low 0 (by omega) a)) w
    (fun a => r (low 0 (by omega) a)) :=
  ⟨fun a k => (lo_at _ a k).trans (acc_all H _ k), fun a k => (lo_at _ a k).trans (H.y_eq _ k), H.w_eq, fun a k => (lo_at _ a k).trans (H.r_eq _ k)⟩
theorem half_hi : Half (hi (acc xg xp yg yu 11 (by decide))) (hi xh) xn (hi xr) (fun a => du dg dp Wg Wu (low 272 (by omega) a)) (fun a => y (low 272 (by omega) a)) w
    (fun a => r (low 272 (by omega) a)) :=
  ⟨fun a k => (hi_at _ a k).trans (acc_all H _ k), fun a k => (hi_at _ a k).trans (H.y_eq _ k), H.w_eq, fun a k => (hi_at _ a k).trans (H.r_eq _ k)⟩

variable (w0 : Vec Ideal S1x1024 .f32)

theorem outs_d (a : Fin 544) (k : Fin 1024) : (outs xg xp xh xn xr yg yu w0).d (ix2 a k) = ((dhRow (du dg dp Wg Wu) y r w a k : ℝ) : EReal) := by
  unfold outs filled; dsimp only
  rw [View.read_writes_junk_eq_canon]
  exact canon_halves (e := .f32) (fun a k => ((dhRow (du dg dp Wg Wu) y r w a k : ℝ) : EReal)) _ _ _ _ (fun a k => pay2_at (half_hi H) a k) (fun a k => pay12_at (half_lo H) a k) a k

theorem outs_db (a : Fin 544) (k : Fin 1024) : (outs xg xp xh xn xr yg yu w0).db (ix2 a k) = ((dhRow (du dg dp Wg Wu) y r w a k : ℝ) : EReal) := by
  unfold outs filled; dsimp only
  rw [View.read_writes_junk_eq_canon]
  exact canon_halves (e := .bf16) (fun a k => ((dhRow (du dg dp Wg Wu) y r w a k : ℝ) : EReal)) _ _ _ _ (fun a k => pay3_at (half_hi H) a k) (fun a k => pay13_at (half_lo H) a k) a k

theorem outs_dw (k : Fin 1024) : (outs xg xp xh xn xr yg yu w0).dw (ix2 0 k) = w0 (ix2 0 k) + ((∑ a, dwRow (du dg dp Wg Wu) y k a : ℝ) : EReal) := by
  refine (pay1_at (half_hi H) _ k).trans ?_
  refine (congrArg (· + _) (pay11_at (half_lo H) w0 k)).trans ?_
  rw [add_assoc, ← EReal.coe_add]
  exact congrArg (fun z : ℝ => w0 (ix2 0 k) + (z : EReal)) (sum_halves (dwRow (du dg dp Wg Wu) y k))

end

end Cert.GateUp.Block

end
-- ==== Proof.GateUp.Array.lean ====
/-
  The call's three result arrays over real arguments: each row of a point's block is a row of the array, the norm weight's gradient is
  summed over the points.
-/
module

public import proofs.«01_k».proof.Proof.GateUp.Block
public import Idealize.ShloMosaic.Lib.StableHlo.ReadAt

@[expose] public section

set_option maxRecDepth 16384

noncomputable section

namespace Cert.GateUp.Array

open Idealize.ShloMosaic Idealize.ShloMosaic.TcCoe Idealize.ShloMosaic.StableHlo Idealize.SL Idealize.SL.Sem
open GateUpIdeal GateUpIdeal.Gen GateUpIdeal.Hand Rows Spec Lift GateUp.Block

variable (m : (ℓ : Loc nD τ sig) → Buf (Elt Ideal) ℓ) (c : Dev nD)

/-- The arguments are images of reals. -/
structure Args (dg dp : Fin 2176 → Fin 2816 → ℝ) (y : Fin 2176 → Fin 1024 → ℝ) (w : Fin 1024 → ℝ) (r : Fin 2176 → Fin 1024 → ℝ) (Wg Wu : Fin 1024 → Fin 2816 → ℝ) : Prop where
  y_eq : ∀ a k, m ((c : Thread nD τ).loc main_arg0) (ix2 a k) = ((y a k : ℝ) : EReal)
  w_eq : ∀ k, m ((c : Thread nD τ).loc main_arg1) (ix2 0 k) = ((w k : ℝ) : EReal)
  g_eq : ∀ k j, m ((c : Thread nD τ).loc main_arg2) (ix2 k j) = ((Wg k j : ℝ) : EReal)
  u_eq : ∀ k j, m ((c : Thread nD τ).loc main_arg3) (ix2 k j) = ((Wu k j : ℝ) : EReal)
  dg_eq : ∀ a k, m ((c : Thread nD τ).loc main_arg4) (ix2 a k) = ((dg a k : ℝ) : EReal)
  dp_eq : ∀ a k, m ((c : Thread nD τ).loc main_arg5) (ix2 a k) = ((dp a k : ℝ) : EReal)
  r_eq : ∀ a k, m ((c : Thread nD τ).loc main_arg6) (ix2 a k) = ((r a k : ℝ) : EReal)

/-- Row `a` of point `t`'s block. -/
def row (t : Fin cfg0.N) (a : Fin 544) : Fin 2176 := ⟨544 * t.val + a.val, by have : cfg0.N = 4 := N_0; have := t.isLt; omega⟩

theorem idx0 : ∀ t : Fin cfg0.N, win0_0.index t 0 = t.val ∧ win0_0.index t 1 = 0 := (by decide +kernel : ∀ t : Fin grid0.N, _)
theorem idx1 : ∀ t : Fin cfg0.N, win0_1.index t 0 = t.val ∧ win0_1.index t 1 = 0 := (by decide +kernel : ∀ t : Fin grid0.N, _)
theorem idx2 : ∀ t : Fin cfg0.N, win0_2.index t 0 = t.val ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = t.val ∧ win0_4.index t 1 = 0 := (by decide +kernel : ∀ t : Fin grid0.N, _)
theorem idx5 : ∀ t : Fin cfg0.N, win0_5.index t 0 = t.val ∧ win0_5.index t 1 = 0 := (by decide +kernel : ∀ t : Fin grid0.N, _)
theorem idx6 : ∀ t : Fin cfg0.N, win0_6.index t 0 = t.val ∧ win0_6.index t 1 = 0 := (by decide +kernel : ∀ t : Fin grid0.N, _)

theorem iblk0 (t : Fin cfg0.N) (a : Fin 544) (k : Fin 2816) : iblk m c 0 t (ix2 a k) = V m c main_v0 (ix2 (row t a) k) := by
  refine congrArg (V m c main_v0) (funext fun i => Fin.ext ?_)
  match i with
  | ⟨0, _⟩ => show win0_0.index t 0 * 544 + 1 * a.val = _; rw [(idx0 t).1]; show _ = 544 * t.val + a.val; omega
  | ⟨1, _⟩ => show win0_0.index t 1 * 2816 + 1 * k.val = _; rw [(idx0 t).2]; show _ = k.val; omega

theorem iblk1 (t : Fin cfg0.N) (a : Fin 544) (k : Fin 2816) : iblk m c 1 t (ix2 a k) = V m c main_v1 (ix2 (row t a) k) := by
  refine congrArg (V m c main_v1) (funext fun i => Fin.ext ?_)
  match i with
  | ⟨0, _⟩ => show win0_1.index t 0 * 544 + 1 * a.val = _; rw [(idx1 t).1]; show _ = 544 * t.val + a.val; omega
  | ⟨1, _⟩ => show win0_1.index t 1 * 2816 + 1 * k.val = _; rw [(idx1 t).2]; show _ = k.val; omega

theorem iblk2 (t : Fin cfg0.N) (a : Fin 544) (k : Fin 1024) : iblk m c 2 t (ix2 a k) = V m c main_arg0 (ix2 (row t a) k) := by
  refine congrArg (V m c main_arg0) (funext fun i => Fin.ext ?_)
  match i with
  | ⟨0, _⟩ => show win0_2.index t 0 * 544 + 1 * a.val = _; rw [(idx2 t).1]; show _ = 544 * t.val + a.val; omega
  | ⟨1, _⟩ => show win0_2.index t 1 * 1024 + 1 * k.val = _; rw [(idx2 t).2]; show _ = k.val; omega

theorem iblk3 (t : Fin cfg0.N) (a : Fin 1) (k : Fin 1024) : iblk m c 3 t (ix2 a k) = V m c main_arg1 (ix2 a k) := by
  refine congrArg (V m c main_arg1) (funext fun i => Fin.ext ?_)
  match i with
  | ⟨0, _⟩ => show win0_3.index t 0 * 1 + 1 * a.val = _; rw [(idx3 t).1]; show _ = a.val; omega
  | ⟨1, _⟩ => show win0_3.index t 1 * 1024 + 1 * k.val = _; rw [(idx3 t).2]; show _ = k.val; omega

theorem iblk4 (t : Fin cfg0.N) (a : Fin 544) (k : Fin 1024) : iblk m c 4 t (ix2 a k) = V m c main_arg6 (ix2 (row t a) k) := by
  refine congrArg (V m c main_arg6) (funext fun i => Fin.ext ?_)
  match i with
  | ⟨0, _⟩ => show win0_4.index t 0 * 544 + 1 * a.val = _; rw [(idx4 t).1]; show _ = 544 * t.val + a.val; omega
  | ⟨1, _⟩ => show win0_4.index t 1 * 1024 + 1 * k.val = _; rw [(idx4 t).2]; show _ = k.val; omega

theorem V0 (a : Fin 2176) (k : Fin 2816) : V m c main_v0 (ix2 a k) = m ((c : Thread nD τ).loc main_arg4) (ix2 a k) := by
  unfold V
  after_reads_at
theorem V1 (a : Fin 2176) (k : Fin 2816) : V m c main_v1 (ix2 a k) = m ((c : Thread nD τ).loc main_arg5) (ix2 a k) := by
  unfold V
  after_reads_at
theorem V3 (j : Fin 2816) (k : Fin 1024) : V m c main_v3 (ix2 j k) = m ((c : Thread nD τ).loc main_arg2) (ix2 k j) := by
  unfold V
  after_reads_at
theorem V5 (j : Fin 2816) (k : Fin 1024) : V m c main_v5 (ix2 j k) = m ((c : Thread nD τ).loc main_arg3) (ix2 k j) := by
  unfold V
  after_reads_at

variable {m c} {dg dp : Fin 2176 → Fin 2816 → ℝ} {y : Fin 2176 → Fin 1024 → ℝ} {w : Fin 1024 → ℝ} {r : Fin 2176 → Fin 1024 → ℝ} {Wg Wu : Fin 1024 → Fin 2816 → ℝ}

/-- A point's blocks are the images of the arrays' rows. -/
theorem reals (H : Args m c dg dp y w r Wg Wu) (t : Fin cfg0.N) :
    Reals (iblk m c 0 t) (iblk m c 1 t) (iblk m c 2 t) (iblk m c 3 t) (iblk m c 4 t) (V m c main_v3) (V m c main_v5)
      (fun a => dg (row t a)) (fun a => dp (row t a)) (fun a => y (row t a)) w (fun a => r (row t a)) Wg Wu := by
  obtain ⟨e0, e1, -, -, -, -, e6⟩ := V_args m c
  exact ⟨fun a k => (iblk0 m c t a k).trans ((V0 m c _ k).trans (H.dg_eq _ k)), fun a k => (iblk1 m c t a k).trans ((V1 m c _ k).trans (H.dp_eq _ k)),
    fun a k => (iblk2 m c t a k).trans ((congrFun e0 _).trans (H.y_eq _ k)), fun k => (iblk3 m c t 0 k).trans ((congrFun e1 _).trans (H.w_eq k)),
    fun a k => (iblk4 m c t a k).trans ((congrFun e6 _).trans (H.r_eq _ k)), fun j k => (V3 m c j k).trans (H.g_eq k j), fun j k => (V5 m c j k).trans (H.u_eq k j)⟩

theorem split_row (r : Fin 2176) : ∃ (t : Fin cfg0.N) (a : Fin 544), r = row t a :=
  ⟨⟨r.val / 544, by rw [show cfg0.N = 4 from N_0]; omega⟩, ⟨r.val % 544, Nat.mod_lt _ (by decide)⟩, Fin.ext (Nat.div_add_mod _ _).symm⟩

theorem flushed5 (t : Fin cfg0.N) : (dats m 0 c).flushed 5 t = (cfg0.win 5).cut (grid0.coords t) (outsAt m c t).d := by
  show (cfg0.win 5).cut (grid0.coords t) ((dats m 0 c).after 5 t) = _
  rw [after_5]
theorem disjoint5 (t t' : Fin cfg0.N) (_ : (cfg0.win 5).flush t = true) (_ : (cfg0.win 5).flush t' = true) (hne : t ≠ t') :
    Disjoint ((cfg0.win 5).blk t).view.set ((cfg0.win 5).blk t').view.set :=
  (cfg0.win 5).disjoint_blk fun h => hne ((by decide +kernel : ∀ t t' : Fin grid0.N, win0_5.index t = win0_5.index t' → t = t') t t' h)
theorem arr5 (H : Args m c dg dp y w r Wg Wu) (i : Fin 2176) (k : Fin 1024) :
    (dats m 0 c).arrAt 5 cfg0.N (ix2 i k) = ((dhRow (du dg dp Wg Wu) y r w i k : ℝ) : EReal) := by
  obtain ⟨t, a, rfl⟩ := split_row i
  refine Eq.trans ?_ (((congrFun ((dats m 0 c).read_blk_arrAt_eq_flushed 5 disjoint5 cfg0.N t t.isLt (flush0_5 t)) (ix2 a k)).trans
    (congrFun (flushed5 t) (ix2 a k))).trans (outs_d (reals H t) _ a k))
  refine congrArg ((dats m 0 c).arrAt 5 cfg0.N) (funext fun i => Fin.ext ?_)
  match i with
  | ⟨0, _⟩ => show _ = win0_5.index t 0 * 544 + 1 * a.val; rw [(idx5 t).1]; show 544 * t.val + a.val = _; omega
  | ⟨1, _⟩ => show _ = win0_5.index t 1 * 1024 + 1 * k.val; rw [(idx5 t).2]; show k.val = _; omega

theorem flushed6 (t : Fin cfg0.N) : (dats m 0 c).flushed 6 t = (cfg0.win 6).cut (grid0.coords t) (outsAt m c t).db := by
  show (cfg0.win 6).cut (grid0.coords t) ((dats m 0 c).after 6 t) = _
  rw [after_6]
theorem disjoint6 (t t' : Fin cfg0.N) (_ : (cfg0.win 6).flush t = true) (_ : (cfg0.win 6).flush t' = true) (hne : t ≠ t') :
    Disjoint ((cfg0.win 6).blk t).view.set ((cfg0.win 6).blk t').view.set :=
  (cfg0.win 6).disjoint_blk fun h => hne ((by decide +kernel : ∀ t t' : Fin grid0.N, win0_6.index t = win0_6.index t' → t = t') t t' h)
theorem arr6 (H : Args m c dg dp y w r Wg Wu) (i : Fin 2176) (k : Fin 1024) :
    (dats m 0 c).arrAt 6 cfg0.N (ix2 i k) = ((dhRow (du dg dp Wg Wu) y r w i k : ℝ) : EReal) := by
  obtain ⟨t, a, rfl⟩ := split_row i
  refine Eq.trans ?_ (((congrFun ((dats m 0 c).read_blk_arrAt_eq_flushed 6 disjoint6 cfg0.N t t.isLt (flush0_6 t)) (ix2 a k)).trans
    (congrFun (flushed6 t) (ix2 a k))).trans (outs_db (reals H t) _ a k))
  refine congrArg ((dats m 0 c).arrAt 6 cfg0.N) (funext fun i => Fin.ext ?_)
  match i with
  | ⟨0, _⟩ => show _ = win0_6.index t 0 * 544 + 1 * a.val; rw [(idx6 t).1]; show 544 * t.val + a.val = _; omega
  | ⟨1, _⟩ => show _ = win0_6.index t 1 * 1024 + 1 * k.val; rw [(idx6 t).2]; show k.val = _; omega

theorem flushed7 (t : Fin cfg0.N) : (dats m 0 c).flushed 7 t = (cfg0.win 7).cut (grid0.coords t) (outsAt m c t).dw := by
  show (cfg0.win 7).cut (grid0.coords t) ((dats m 0 c).after 7 t) = _
  rw [after_7]

theorem point_sum (f : Fin 2176 → ℝ) (t : Fin cfg0.N) : ∑ r ∈ Finset.range 544, past f (544 * t.val + r) = ∑ a, f (row t a) := by
  rw [Finset.sum_range]
  have : cfg0.N = 4 := N_0
  have := t.isLt
  exact Finset.sum_congr rfl fun a _ => dif_pos (by omega)

/-- The weight's gradient before point `n`. -/
theorem sofar_at (H : Args m c dg dp y w r Wg Wu) (k : Fin 1024) : ∀ (n : ℕ) (hn : n ≤ cfg0.N),
    sofar m c n hn (ix2 0 k) = ((∑ i ∈ Finset.range (544 * n), past (dwRow (du dg dp Wg Wu) y k) i : ℝ) : EReal)
  | 0, _ => by
    refine (Pay.pay4_at k).trans ?_
    rw [Nat.mul_zero, Finset.sum_range_zero, EReal.coe_zero]
  | n + 1, hn => by
    refine (outs_dw (reals H ⟨n, hn⟩) _ k).trans ?_
    rw [sofar_at H k n (Nat.le_of_succ_le hn), ← EReal.coe_add, Nat.mul_succ, Finset.sum_range_add _ (544 * n) 544]
    exact congrArg (fun z : ℝ => ((_ + z : ℝ) : EReal)) (point_sum (dwRow (du dg dp Wg Wu) y k) ⟨n, hn⟩).symm

/-- The last point, the one that writes the sum back. -/
theorem last (t : Fin cfg0.N) (ht : t.val % 4 = 3) : t = t0_3 := Fin.ext (by have := t.isLt; have hN : cfg0.N = 4 := N_0; show t.val = 3; omega)

theorem whole_sum (f : Fin 2176 → ℝ) : ∑ r ∈ Finset.range (544 * (t0_3.val + 1)), past f r = ∑ a, f a := by
  rw [show 544 * (t0_3.val + 1) = 2176 from rfl, Finset.sum_range]
  exact Finset.sum_congr rfl fun a _ => dif_pos a.isLt

theorem arr7 (H : Args m c dg dp y w r Wg Wu) (k : Fin 1024) :
    (dats m 0 c).arrAt 7 cfg0.N (ix2 0 k) = ((∑ a, dwRow (du dg dp Wg Wu) y k a : ℝ) : EReal) := by
  refine congrFun ((dats m 0 c).arrAt_eq_of_cover 7 (fun i : S1x1024.Idx => ((∑ a, dwRow (du dg dp Wg Wu) y (i 1) a : ℝ) : EReal)) (fun t hf => ?_) fun i => ⟨t0_3, (flush0_7 t0_3).mpr rfl, ?_⟩) (ix2 0 k)
  · obtain rfl := last t ((flush0_7 t).mp hf)
    have hz' : (fun a => win0_7.index t0_3 a * main_v6_2.ty.shape.size a) = fun _ => 0 := funext fun a => by fin_cases a <;> decide
    rw [flushed7]
    refine Eq.trans ?_ (Memref.read_access_unit_zero (Elt Ideal) main_v6_2 hz' (fun a => by rw [congrFun hz' a]; simp) _).symm
    funext i
    obtain ⟨a, k, rfl⟩ : ∃ (a : Fin 1) (k : Fin 1024), i = ix2 a k := ⟨i 0, i 1, eq_ix2 i⟩
    obtain rfl : a = 0 := Subsingleton.elim _ _
    exact (sofar_at H k (t0_3.val + 1) t0_3.isLt).trans (congrArg (fun z : ℝ => (z : EReal)) (whole_sum _))
  · show i ∈ ((View.whole main_v6_2).slice (win0_7.rect t0_3)).set
    rw [View.set_slice_whole, Rect.mem_set_unit]
    intro a
    have h0 : (i 0 : Nat) < 1 := (i 0).isLt
    have h1 : (i 1 : Nat) < 1024 := (i 1).isLt
    match a with
    | ⟨0, _⟩ =>
      show win0_7.index t0_3 0 * win0_7.size 0 ≤ (i 0 : Nat) ∧ (i 0 : Nat) < win0_7.index t0_3 0 * win0_7.size 0 + win0_7.xsize (grid0.coords t0_3) 0
      rw [show win0_7.index t0_3 0 * win0_7.size 0 = 0 from by decide +kernel, show win0_7.xsize (grid0.coords t0_3) 0 = 1 from by decide +kernel]; omega
    | ⟨1, _⟩ =>
      show win0_7.index t0_3 1 * win0_7.size 1 ≤ (i 1 : Nat) ∧ (i 1 : Nat) < win0_7.index t0_3 1 * win0_7.size 1 + win0_7.xsize (grid0.coords t0_3) 1
      rw [show win0_7.index t0_3 1 * win0_7.size 1 = 0 from by decide +kernel, show win0_7.xsize (grid0.coords t0_3) 1 = 1024 from by decide +kernel]; omega

end Cert.GateUp.Array

end
-- ==== Proof.GateUp.RefLine.lean ====
/-
  The reference's straight line of host operations, and that each of its buffers is written once and read only afterwards.
-/
module

public import proofs.«01_k».proof.Defs
public import proofs.«01_k».proof.Proof.Line
public import proofs.«01_k».proof.Proof.Gen.GateUpRefIdeal

@[expose] public section

set_option maxRecDepth 16384

namespace Cert.GateUpRefIdeal

open Idealize.ShloMosaic Idealize.ShloMosaic.StableHlo Idealize.SL.Sem Line

/-- The operations of the reference. -/
noncomputable def line : {ops : List (HloOp τ sig (Elt Ideal)) // ∀ d, IsSeq (main (F := Ideal) d) ops} := by
  apply Subtype.mk
  hlo_seq

/-- What each of them writes and reads. -/
noncomputable def table : {T : List (Ref sig .tc × List (Ref sig .tc)) // Table line.1 T} := by
  apply Subtype.mk
  repeat first
    | exact Table.nil
    | apply Table.cons (reads_nullary _ _ _)
    | apply Table.cons (reads_unary _ _ _ _ _)
    | apply Table.cons (reads_binary _ _ _ _ _ _ _)
    | apply Table.cons (reads_reshape _ _ _ _ _ _)
    | apply Table.cons (reads_ternary _ _ _ _ _ _ _ _ _)
    | apply Table.cons (reads_nary _ _ _ _ _)

theorem single_line : single table.1 = true := by decide +kernel

/-- The contents at the end, which every operation leaves alone. -/
theorem fixed (V : Valuation τ sig (Elt Ideal)) : Fixed line.1 (after line.1 V) := fixed_of table.2 single_line V

/-- The arguments are not written. -/
theorem kept (V : Valuation τ sig (Elt Ideal)) (r : Ref sig .tc) (h : table.1.all (fun e => e.1 != r) = true) :
    after line.1 V (Proc.devRef .tc r) = V (Proc.devRef .tc r) := after_keep table.2 h V

end Cert.GateUpRefIdeal
-- ==== Proof.GateUp.RefVal.lean ====
/-
  The reference's results over real arguments, read off its line stage by stage.
-/
module

public import proofs.«01_k».proof.Proof.GateUp.RefLine
public import proofs.«01_k».proof.Proof.GateUp.Real

@[expose] public section

set_option maxRecDepth 16384

namespace Cert.GateUpRefIdeal

open Idealize.ShloMosaic Idealize.ShloMosaic.TcCoe Idealize.ShloMosaic.StableHlo Idealize.SL.Sem Line Lift Spec GateUp

/-- The contents `A` at the end, the arguments being images of reals. -/
structure Reals (A : Valuation τ sig (Elt Ideal)) (dg dp : Fin 2176 → Fin 2816 → ℝ) (y : Fin 2176 → Fin 1024 → ℝ) (w : Fin 1024 → ℝ) (r : Fin 2176 → Fin 1024 → ℝ) (Wg Wu : Fin 1024 → Fin 2816 → ℝ) : Prop where
  fixed : Fixed line.1 A
  y_eq : ∀ a k, A (↑main_arg0 : DevRef τ sig) (ix2 a k) = ((y a k : ℝ) : EReal)
  w_eq : ∀ k, A (↑main_arg1 : DevRef τ sig) (ix2 0 k) = ((w k : ℝ) : EReal)
  g_eq : ∀ k j, A (↑main_arg2 : DevRef τ sig) (ix2 k j) = ((Wg k j : ℝ) : EReal)
  u_eq : ∀ k j, A (↑main_arg3 : DevRef τ sig) (ix2 k j) = ((Wu k j : ℝ) : EReal)
  dg_eq : ∀ a k, A (↑main_arg4 : DevRef τ sig) (ix2 a k) = ((dg a k : ℝ) : EReal)
  dp_eq : ∀ a k, A (↑main_arg5 : DevRef τ sig) (ix2 a k) = ((dp a k : ℝ) : EReal)
  r_eq : ∀ a k, A (↑main_arg6 : DevRef τ sig) (ix2 a k) = ((r a k : ℝ) : EReal)

variable {A : Valuation τ sig (Elt Ideal)} {dg dp : Fin 2176 → Fin 2816 → ℝ} {y : Fin 2176 → Fin 1024 → ℝ} {w : Fin 1024 → ℝ} {r : Fin 2176 → Fin 1024 → ℝ} {Wg Wu : Fin 1024 → Fin 2816 → ℝ} (H : Reals A dg dp y w r Wg Wu)
include H

theorem v6_at (a : Fin 2176) : A (↑main_v6 : DevRef τ sig) (ix2 a 0) = ((((∑ k, y a k * y a k) / 1024 + eps) : ℝ) : EReal) := by
  refine (congrFun (congrFun (H.fixed [0, 1, 2, 3, 4, 5, 6, 7, 8, 9]).symm _) _).trans ?_
  after_reads_at
  simp only [H.y_eq, c_1024, c_eps, ← EReal.coe_mul, ← EReal.coe_add, sum_coe, div_coe_coe _ (show (1024 : ℝ) ≠ 0 by norm_num)]

theorem v7_at (a : Fin 2176) : A (↑main_v7 : DevRef τ sig) (ix2 a 0) = ((rms (y a) : ℝ) : EReal) := by
  refine (congrFun (congrFun (H.fixed [10]).symm _) _).trans ?_
  after_reads_at
  simp only [v6_at H]
  exact rsqrt_coe_pos (rms_arg_pos (y a))

theorem v10_at (a : Fin 2176) : A (↑main_v10 : DevRef τ sig) (ix2 a 0) = ((-(1 / 2) * (rms (y a) / ((∑ k, y a k * y a k) / 1024 + eps)) : ℝ) : EReal) := by
  refine (congrFun (congrFun (H.fixed [11, 12, 13, 14]).symm _) _).trans ?_
  after_reads_at
  simp only [v6_at H, v7_at H, c_neg_half]
  rw [div_coe_coe _ (rms_arg_pos (y a)).ne', ← EReal.coe_mul]

theorem v12_at (a : Fin 2176) (k : Fin 1024) : A (↑main_v12 : DevRef τ sig) (ix2 a k) = ((y a k * rms (y a) : ℝ) : EReal) := by
  refine (congrFun (congrFun (H.fixed [15, 16]).symm _) _).trans ?_
  after_reads_at
  simp only [H.y_eq, v7_at H, ← EReal.coe_mul]

theorem v19_at (a : Fin 2176) (k : Fin 1024) : A (↑main_v19 : DevRef τ sig) (ix2 a k) = ((du dg dp Wg Wu a k : ℝ) : EReal) := by
  refine (congrFun (congrFun (H.fixed [21, 22, 23]).symm _) _).trans ?_
  after_reads_at
  simp only [H.dg_eq, H.dp_eq, H.g_eq, H.u_eq, ← EReal.coe_mul, ← EReal.coe_add, sum_coe]
  refine congrArg _ ?_
  rw [add_comm, ← Finset.sum_add_distrib]
  rfl

theorem v22_at (k : Fin 1024) : A (↑main_v22 : DevRef τ sig) (ix2 0 k) = ((∑ a, dwRow (du dg dp Wg Wu) y k a : ℝ) : EReal) := by
  refine (congrFun (congrFun (H.fixed [24, 25, 26, 27]).symm _) _).trans ?_
  after_reads_at
  simp only [v12_at H, v19_at H, ← EReal.coe_mul, sum_coe]
  refine congrArg _ ?_
  simp only [dwRow, mul_comm]

theorem v24_at (a : Fin 2176) (k : Fin 1024) : A (↑main_v24 : DevRef τ sig) (ix2 a k) = ((du dg dp Wg Wu a k * w k : ℝ) : EReal) := by
  refine (congrFun (congrFun (H.fixed [28, 29]).symm _) _).trans ?_
  after_reads_at
  simp only [v19_at H, H.w_eq, ← EReal.coe_mul]

theorem v35_at (a : Fin 2176) (k : Fin 1024) : A (↑main_v35 : DevRef τ sig) (ix2 a k) = (((∑ j, y a j * (du dg dp Wg Wu a j * w j)) * (-(1 / 2) * (rms (y a) / ((∑ k, y a k * y a k) / 1024 + eps))) / 1024 : ℝ) : EReal) := by
  refine (congrFun (congrFun (H.fixed [30, 31, 32, 33, 37, 38, 39, 40, 41, 42, 43]).symm _) _).trans ?_
  after_reads_at
  simp only [Fin.sum_univ_one, H.y_eq, v24_at H, v10_at H, c_1024, ← EReal.coe_mul, sum_coe, div_coe_coe _ (show (1024 : ℝ) ≠ 0 by norm_num)]

theorem v39_at (a : Fin 2176) (k : Fin 1024) : A (↑main_v39 : DevRef τ sig) (ix2 a k) = ((dhRow (du dg dp Wg Wu) y r w a k : ℝ) : EReal) := by
  refine (congrFun (congrFun (H.fixed [34, 35, 36, 44, 45, 46, 47]).symm _) _).trans ?_
  after_reads_at
  simp only [v35_at H, H.y_eq, H.r_eq, v24_at H, v7_at H, ← EReal.coe_mul, ← EReal.coe_add]
  refine congrArg _ ?_
  unfold dhRow
  rw [← rmsGrad_eq]
  ring

theorem v40_at (a : Fin 2176) (k : Fin 1024) : A (↑main_v40 : DevRef τ sig) (ix2 a k) = ((dhRow (du dg dp Wg Wu) y r w a k : ℝ) : EReal) := by
  refine (congrFun (congrFun (H.fixed [48]).symm _) _).trans ?_
  after_reads_at
  exact v39_at H a k

end Cert.GateUpRefIdeal
-- ==== Proof.GateUp.Finite.lean ====
/-
  The precondition read: every element of the arguments is the image of a real number.
-/
module

public import proofs.«01_k».proof.Proof.Lift
public import proofs.«01_k».proof.Proof.Gen.Pre_gate_up_finite

@[expose] public section

set_option maxRecDepth 16384

namespace Cert.GateUp

open Idealize.ShloMosaic Lift Pre_gate_up_finite

theorem real_of_fn (a0 : FVec Ideal S2176x1024 .f32) (a1 : FVec Ideal S1x1024 .f32) (a2 : FVec Ideal S1024x2816 .f32) (a3 : FVec Ideal S1024x2816 .f32) (a4 : FVec Ideal S2176x2816 .f32) (a5 : FVec Ideal S2176x2816 .f32) (a6 : FVec Ideal S2176x1024 .f32)
    (j : S_.Idx) (h : fn a0 a1 a2 a3 a4 a5 a6 j = 1#1) : IsReal a0 ∧ IsReal a1 ∧ IsReal a2 ∧ IsReal a3 ∧ IsReal a4 ∧ IsReal a5 ∧ IsReal a6 := by
  have : Subsingleton S_.Idx := ⟨fun a b => funext fun i => i.elim0⟩
  unfold fn fn_part1 at h
  dsimp only at h
  obtain ⟨h, h6⟩ := and_split _ _ j h
  obtain ⟨h, h5⟩ := and_split _ _ j h
  obtain ⟨h, h4⟩ := and_split _ _ j h
  obtain ⟨h, h3⟩ := and_split _ _ j h
  obtain ⟨h, h2⟩ := and_split _ _ j h
  obtain ⟨h0, h1⟩ := and_split _ _ j h
  refine ⟨fun i => finite_of_reduce _ _ _ ?_ _ _ j h0 i, fun i => finite_of_reduce _ _ _ ?_ _ _ j h1 i, fun i => finite_of_reduce _ _ _ ?_ _ _ j h2 i, fun i => finite_of_reduce _ _ _ ?_ _ _ j h3 i, fun i => finite_of_reduce _ _ _ ?_ _ _ j h4 i, fun i => finite_of_reduce _ _ _ ?_ _ _ j h5 i, fun i => finite_of_reduce _ _ _ ?_ _ _ j h6 i⟩
  all_goals exact fun _ => ofBits_inf

end Cert.GateUp
-- ==== Proof.GateUp.Claims.lean ====
/-
  The claims about the gradient of the two input products and their norm.
-/
module

public import proofs.«01_k».proof.Proof.Gen.GateUp.Skeleton
public import proofs.«01_k».proof.Proof.GateUp.Array
public import proofs.«01_k».proof.Proof.GateUp.RefVal
public import proofs.«01_k».proof.Proof.GateUp.Finite

@[expose] public section

set_option maxRecDepth 16384

open Idealize.ShloMosaic Idealize.ShloMosaic.TcCoe Idealize.SL.Sem Cert.Lift

namespace Cert.GateUpRefIdeal

/-- The reference's run: every buffer ends at the line's value. -/
theorem ref_run (m : (ℓ : Loc nD τ sig) → Buf (Elt Ideal) ℓ)
    (ρ : Dev nD → PrngReg) :
    θ_run (defs (F := Ideal)) (onTc (τ := τ) (main (F := Ideal))) ⟨m, fun _ => 0, ρ⟩ fun r =>
      ∀ (d : Dev nD) (b : Ref sig .tc),
        r.2.mem ((d.tc : Thread _ _).loc b) = StableHlo.after line.1 (StableHlo.launchContents m d) (Proc.devRef .tc b) :=
  StableHlo.run_hlo _ _ line.2 (by decide) (by decide) (by unfold line; simp)
    (by unfold line; intro _ h; (repeat (cases h with | head => rfl | tail _ h => ?_)); exact nomatch h) m ρ

theorem ref_kept (m : (ℓ : Loc nD τ sig) → Buf (Elt Ideal) ℓ) (d : Dev nD)
    (b : Ref sig .tc) (h : table.1.all (fun e => e.1 != b) = true) :
    StableHlo.after line.1 (StableHlo.launchContents m d) (Proc.devRef .tc b) = m ((d.tc : Thread _ _).loc b) :=
  kept _ b h

end Cert.GateUpRefIdeal

namespace Cert.GateUpIdeal.Claims

open Cert.GateUpRefIdeal (ref_run ref_kept)

/-- The two printed programs are one. -/
theorem defs_eq : GateUp.defs (F := Bits) = defs (F := Bits) := by sl_kernel_rfl

theorem frame_kernel : Cert.quiescent_GateUp := fun m ρ _ => by
  have h := Hand.frame (F := Bits) m ρ
  rw [← defs_eq] at h
  exact h
theorem frame_ideal : Cert.quiescent_GateUpIdeal := fun m ρ _ => Hand.frame m ρ
theorem frame_ideal_pre : Cert.quiescent_GateUpIdeal_pre_gate_up_finite := fun m ρ _ => Hand.frame m ρ

theorem frame_ref : Cert.quiescent_GateUpRefIdeal := fun m ρ _ =>
  (θ_run GateUpRefIdeal.defs _ _).mono (fun r h => ⟨fun c =>
    by refine ⟨?_, ?_, ?_, ?_, ?_, ?_, ?_⟩ <;> exact (h c _).trans (ref_kept m c _ (by decide +kernel)),
    sem_eq_zero_of_no_sems (by decide) r.2⟩) (ref_run m ρ)

theorem frame_ref_pre : Cert.quiescent_GateUpRefIdeal_pre_gate_up_finite := fun m ρ _ => frame_ref m ρ trivial

theorem preserves : Cert.preserves_GateUp_GateUpIdeal := trivial

section
variable (m : (ℓ : Loc nD τ sig) → Buf (Elt Ideal) ℓ) (c : Dev nD)

/-- The real arrays the arguments are images of. -/
def argY (a : Fin 2176) (k : Fin 1024) : ℝ := (m ((c : Thread nD τ).loc main_arg0) (ix2 a k) : EReal).toReal
def argW (k : Fin 1024) : ℝ := (m ((c : Thread nD τ).loc main_arg1) (ix2 0 k) : EReal).toReal
def argWg (a : Fin 1024) (k : Fin 2816) : ℝ := (m ((c : Thread nD τ).loc main_arg2) (ix2 a k) : EReal).toReal
def argWu (a : Fin 1024) (k : Fin 2816) : ℝ := (m ((c : Thread nD τ).loc main_arg3) (ix2 a k) : EReal).toReal
def argDg (a : Fin 2176) (k : Fin 2816) : ℝ := (m ((c : Thread nD τ).loc main_arg4) (ix2 a k) : EReal).toReal
def argDp (a : Fin 2176) (k : Fin 2816) : ℝ := (m ((c : Thread nD τ).loc main_arg5) (ix2 a k) : EReal).toReal
def argR (a : Fin 2176) (k : Fin 1024) : ℝ := (m ((c : Thread nD τ).loc main_arg6) (ix2 a k) : EReal).toReal

theorem args (hpre : Pre_GateUpIdeal_gate_up_finite m) : GateUp.Array.Args m c (argDg m c) (argDp m c) (argY m c) (argW m c) (argR m c) (argWg m c) (argWu m c) := by
  obtain ⟨h0, h1, h2, h3, h4, h5, h6⟩ := GateUp.real_of_fn _ _ _ _ _ _ _ (fun i => i.elim0) (congrFun (hpre c) _)
  exact ⟨fun a k => (h0 _).symm, fun k => (h1 _).symm, fun a k => (h2 _).symm, fun a k => (h3 _).symm, fun a k => (h4 _).symm, fun a k => (h5 _).symm, fun a k => (h6 _).symm⟩

/-- The kernel's run: the results are the arrays after the last point. -/
theorem run_blocks (ρ : Dev nD → PrngReg) :
    θ_run (defs (F := Ideal)) (onTc (τ := τ) (main (F := Ideal))) ⟨m, fun _ => 0, ρ⟩ fun r => ∀ c : Dev nD,
      r.2.mem ((c.tc : Thread _ _).loc main_v6_0) = (Hand.dats m 0 c).arrAt 5 cfg0.N
      ∧ r.2.mem ((c.tc : Thread _ _).loc main_v6_1) = (Hand.dats m 0 c).arrAt 6 cfg0.N
      ∧ r.2.mem ((c.tc : Thread _ _).loc main_v6_2) = (Hand.dats m 0 c).arrAt 7 cfg0.N
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)
      ∧ r.2.mem ((c.tc : Thread _ _).loc main_arg3) = m ((c.tc : Thread _ _).loc main_arg3)
      ∧ r.2.mem ((c.tc : Thread _ _).loc main_arg4) = m ((c.tc : Thread _ _).loc main_arg4)
      ∧ r.2.mem ((c.tc : Thread _ _).loc main_arg5) = m ((c.tc : Thread _ _).loc main_arg5)
      ∧ r.2.mem ((c.tc : Thread _ _).loc main_arg6) = m ((c.tc : Thread _ _).loc main_arg6) :=
  (θ_run defs _ _).mono (fun _ h c => ⟨(h.1 c).1 5, (h.1 c).1 6, (h.1 c).1 7, Hand.args_kept m h.1 c⟩)
    (Hand.run_main m ρ)

end

/-- The kernel and the reference compute the same gradients. -/
theorem algebraic : Cert.algebraic_GateUpIdeal_GateUpRefIdeal_pre_gate_up_finite := by
  intro m g m' g' hpre hagree
  refine ⟨_, _, _, run_blocks m g, (θ_run GateUpRefIdeal.defs _ _).mono (fun r h c => ?_) (ref_run m' g')⟩
  obtain ⟨h0, h1, h2, h3, h4, h5, h6⟩ := hagree c
  have H := args m c hpre
  have R : GateUpRefIdeal.Reals (StableHlo.after GateUpRefIdeal.line.1 (StableHlo.launchContents m' c)) (argDg m c) (argDp m c) (argY m c) (argW m c) (argR m c) (argWg m c) (argWu m c) :=
    ⟨GateUpRefIdeal.fixed _,
      fun a k => ((congrFun ((ref_kept m' c _ (by decide +kernel)).trans h0) _).trans (H.y_eq a k)),
      fun k => ((congrFun ((ref_kept m' c _ (by decide +kernel)).trans h1) _).trans (H.w_eq k)),
      fun a k => ((congrFun ((ref_kept m' c _ (by decide +kernel)).trans h2) _).trans (H.g_eq a k)),
      fun a k => ((congrFun ((ref_kept m' c _ (by decide +kernel)).trans h3) _).trans (H.u_eq a k)),
      fun a k => ((congrFun ((ref_kept m' c _ (by decide +kernel)).trans h4) _).trans (H.dg_eq a k)),
      fun a k => ((congrFun ((ref_kept m' c _ (by decide +kernel)).trans h5) _).trans (H.dp_eq a k)),
      fun a k => ((congrFun ((ref_kept m' c _ (by decide +kernel)).trans h6) _).trans (H.r_eq a k))⟩
  have q := fun b hb => (h c b).trans (ref_kept m' c b hb)
  refine ⟨(h c _).trans ?_, (h c _).trans ?_, (h c _).trans ?_,
    q _ (by decide +kernel), q _ (by decide +kernel), q _ (by decide +kernel), q _ (by decide +kernel), q _ (by decide +kernel), q _ (by decide +kernel), q _ (by decide +kernel)⟩
  · funext i
    obtain ⟨a, k, rfl⟩ : ∃ (a : Fin 2176) (k : Fin 1024), i = ix2 a k := ⟨i 0, i 1, eq_ix2 i⟩
    exact (GateUpRefIdeal.v39_at R a k).trans (GateUp.Array.arr5 H a k).symm
  · funext i
    obtain ⟨a, k, rfl⟩ : ∃ (a : Fin 2176) (k : Fin 1024), i = ix2 a k := ⟨i 0, i 1, eq_ix2 i⟩
    exact (GateUpRefIdeal.v40_at R a k).trans (GateUp.Array.arr6 H a k).symm
  · funext i
    obtain ⟨a, k, rfl⟩ : ∃ (a : Fin 1) (k : Fin 1024), i = ix2 a k := ⟨i 0, i 1, eq_ix2 i⟩
    obtain rfl : a = 0 := Subsingleton.elim _ _
    exact (GateUpRefIdeal.v22_at R k).trans (GateUp.Array.arr7 H k).symm

end Cert.GateUpIdeal.Claims
-- ==== Proof.InProj.Run.lean ====
/-
  The body of the gradient of the input projection's norm, run once at the first point and once at a later point.
-/
module

public import proofs.«01_k».proof.Proof.Gen.InProjIdeal.Loops
public import proofs.«01_k».proof.Proof.Gen.InProjIdeal.Points
public import Idealize.ShloMosaic.Lib.Pipeline.Frame

@[expose] public section

set_option maxRecDepth 16384

noncomputable section

namespace Cert.InProjIdeal.Hand

open InProjIdeal InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The weight the kernel copies, the result it writes itself, and its scratch buffers: the accumulator, the gradient's rows, the copied weight. -/
abbrev wHbm : Memref sig .tc .hbm S4624x1024 .bf16 := Memref.whole main_v16
abbrev gxM : Memref sig .tc .hbm S2048x1024 .f32 := Memref.whole main_v25_0
abbrev aM : Memref sig .tc .vmem S544x1024 .f32 := Memref.whole cc0_scratch0
abbrev oM : Memref sig .tc .vmem S544x1024 .f32 := Memref.whole cc0_scratch1
abbrev wM : Memref sig .tc .vmem S4624x1024 .bf16 := Memref.whole cc0_scratch3

/-- A whole buffer held at its contents. -/
abbrev whole {sp : Space} {S : Shape} {e : EltTy} (c : Dev nD) (M : Memref sig .tc sp S e) (f : Buf (Elt F) (M.view.loc (c : Thread nD τ))) : sProp 𝕄 :=
  M.view.loc (c : Thread nD τ) ↦[M.view.set]{fullShare} f

/-- The windows' buffers at one point. -/
structure Bufs where
  dz : Memref sig .tc .vmem S544x1024 .bf16
  hdz : dz.IsWhole
  dg : Memref sig .tc .vmem S544x1024 .bf16
  hdg : dg.IsWhole
  dxl : Memref sig .tc .vmem S544x1024 .bf16
  hdxl : dxl.IsWhole
  dxbc : Memref sig .tc .vmem S544x1536 .bf16
  hdxbc : dxbc.IsWhole
  ddt : Memref sig .tc .vmem S544x256 .bf16
  hddt : ddt.IsWhole
  wdt : Memref sig .tc .vmem S256x1024 .bf16
  hwdt : wdt.IsWhole
  h : Memref sig .tc .vmem S544x1024 .f32
  hh : h.IsWhole
  wn : Memref sig .tc .vmem S1x1024 .f32
  hwn : wn.IsWhole
  r : Memref sig .tc .vmem S544x1024 .f32
  hr : r.IsWhole
  mt : Memref sig .tc .vmem S16x1024 .f32
  hmt : mt.IsWhole
  dw : Memref sig .tc .vmem S1x1024 .f32
  hdw : dw.IsWhole

/-- The body on a point's buffers. -/
abbrev prog (i : grid0.Coords) (B : Bufs) : Prog (TpuEff nD τ sig (Elt F) Λ₀ .tc) PUnit :=
  cc0_in_proj_bwd i B.dz B.hdz B.dg B.hdg B.dxl B.hdxl B.dxbc B.hdxbc B.ddt B.hddt wHbm (Memref.isWhole_whole _) B.wdt B.hwdt B.h B.hh B.wn B.hwn B.r B.hr
    (Memref.whole main_v24) (Memref.isWhole_whole _) (Memref.whole main_v25_3) (Memref.isWhole_whole _) (Memref.whole main_v25_4) (Memref.isWhole_whole _)
    gxM (Memref.isWhole_whole _) B.mt B.hmt B.dw B.hdw (Memref.whole main_v25_3) (Memref.isWhole_whole _) (Memref.whole main_v25_4) (Memref.isWhole_whole _)
    aM (Memref.isWhole_whole _) oM (Memref.isWhole_whole _) cc0_scratch2 wM (Memref.isWhole_whole _) cc0_scratch4

/-- A buffer owned at some contents. -/
abbrev some {sp : Space} {S : Shape} {e : EltTy} (c : Dev nD) (M : Memref sig .tc sp S e) : sProp 𝕄 := iprop(∃ d, owns (c : Thread nD τ) M fullShare d)

/-- A buffer with pieces written over unknown contents. -/
abbrev written {sp : Space} {S : Shape} {e : EltTy} (c : Dev nD) (M : Memref sig .tc sp S e) (L : List (View.Piece (Elt F) S e)) : sProp 𝕄 :=
  iprop(∃ f, M.view.loc (c : Thread nD τ) ↦[M.view.set]{fullShare} M.view.writes (Elt F) f L)

/-- The transfers' semaphores at zero. -/
abbrev sems (c : Dev nD) : sProp 𝕄 :=
  iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0)

/-- The input windows at their blocks. -/
abbrev inputs (c : Dev nD) (B : Bufs) (xz : Vec F S544x1024 .bf16) (xg : Vec F S544x1024 .bf16) (xl : Vec F S544x1024 .bf16) (xb : Vec F S544x1536 .bf16) (xt : Vec F S544x256 .bf16) (yt : Vec F S256x1024 .bf16) (xh : Vec F S544x1024 .f32) (xn : Vec F S1x1024 .f32) (xr : Vec F S544x1024 .f32) : sProp 𝕄 :=
  iprop(owns (c : Thread nD τ) B.dz fullShare xz ∗ owns (c : Thread nD τ) B.dg fullShare xg ∗ owns (c : Thread nD τ) B.dxl fullShare xl ∗ owns (c : Thread nD τ) B.dxbc fullShare xb ∗ owns (c : Thread nD τ) B.ddt fullShare xt ∗ owns (c : Thread nD τ) B.wdt fullShare yt ∗ owns (c : Thread nD τ) B.h fullShare xh ∗ owns (c : Thread nD τ) B.wn fullShare xn ∗ owns (c : Thread nD τ) B.r fullShare xr)

section
variable (c : Dev nD) (i : grid0.Coords) (B : Bufs) (xz : Vec F S544x1024 .bf16) (xg : Vec F S544x1024 .bf16) (xl : Vec F S544x1024 .bf16) (xb : Vec F S544x1536 .bf16) (xt : Vec F S544x256 .bf16) (yt : Vec F S256x1024 .bf16) (xh : Vec F S544x1024 .f32) (xn : Vec F S1x1024 .f32) (xr : Vec F S544x1024 .f32) (xo : Vec F S544x1024 .f32)
  (yw : Buf (Elt F) ((wHbm).view.loc (c : Thread nD τ))) (fx : Buf (Elt F) ((gxM).view.loc (c : Thread nD τ)))

/-- The sum over the points is started here. -/
abbrev Starts (i : grid0.Coords) : Prop := Scalar.cmpi .ne (Scalar.extui (Scalar.cmpi .eq (BitVec.ofNat 32 (i 0).val) 0#32) : BitVec 32) 0#32 = 1#1

/-- The point is the first: every transfer's condition holds. -/
structure First (i : grid0.Coords) : Prop where
  h2 : Starts i
  h1 : k0_cond1 i = 1#1
  h3 : k0_cond3 i = 1#1
  h5 : k0_cond5 i = 1#1
  h7 : k0_cond7 i = 1#1
  h9 : k0_cond9 i = 1#1
  h11 : k0_cond11 i = 1#1
  h12 : ¬ k0_cond12 i = 1#1

/-- The point is a later one: the weight has arrived. -/
structure Later (i : grid0.Coords) : Prop where
  h2 : ¬ Starts i
  h1 : ¬ k0_cond1 i = 1#1
  h3 : ¬ k0_cond3 i = 1#1
  h5 : ¬ k0_cond5 i = 1#1
  h7 : ¬ k0_cond7 i = 1#1
  h9 : ¬ k0_cond9 i = 1#1
  h11 : ¬ k0_cond11 i = 1#1
  h12 : k0_cond12 i = 1#1

/-! Which pieces start the transfer of the piece two further on. -/

theorem up0 : k0_cond4 ⟨0, by decide⟩ = 1#1 := by decide +kernel
theorem up1 : k0_cond4 ⟨1, by decide⟩ = 1#1 := by decide +kernel
theorem up2 : k0_cond6 ⟨0, by decide⟩ = 1#1 := by decide +kernel
theorem up3 : k0_cond6 ⟨1, by decide⟩ = 1#1 := by decide +kernel
theorem up4 : k0_cond6 ⟨2, by decide⟩ = 1#1 := by decide +kernel
theorem up5 : k0_cond8 ⟨0, by decide⟩ = 1#1 := by decide +kernel
theorem up6 : k0_cond8 ⟨1, by decide⟩ = 1#1 := by decide +kernel
theorem up7 : ¬ k0_cond10 ⟨0, by decide⟩ = 1#1 := by decide +kernel
theorem up8 : ¬ k0_cond10 ⟨1, by decide⟩ = 1#1 := by decide +kernel

/-- The end of a run, apart from what is kept: the inputs as they were, the scratch, the semaphores, the result the kernel writes itself, the
    weight's gradient with its pieces. -/
abbrev ended (GX : Buf (Elt F) ((gxM).view.loc (c : Thread nD τ))) (LD : List (View.Piece (Elt F) S1x1024 .f32)) : sProp 𝕄 :=
  iprop(inputs c B xz xg xl xb xt yt xh xn xr ∗ some c aM ∗ some c oM ∗ whole c wHbm yw ∗ (∃ W', owes (c : Thread nD τ) 0 W') ∗ whole c gxM GX ∗ written c B.dw LD)

set_option backward.proofsInPublic true in
set_option maxHeartbeats 8000000 in
set_option sl_exec.unrollTrips 4 in
set_option sl_exec.dischHeartbeats 100000 in
set_option sl_exec.dmaWindow true in
set_option sl_exec.dmaWindowSet true in
/-- The first point: what the body leaves in its results and in the scratch buffer of the copied weight, found by running it. -/
def runA (h : First i) :
    Σ' (GX : Buf (Elt F) ((gxM).view.loc (c : Thread nD τ))), Σ' (LD : List (View.Piece (Elt F) S1x1024 .f32)), Σ' (LM : List (View.Piece (Elt F) S16x1024 .f32)),
      { LW : List (View.Piece (Elt F) S4624x1024 .bf16) // ∀ (W : Waits sig Unit) (K : PUnit → sProp 𝕄),
        iprop(inputs c B xz xg xl xb xt yt xh xn xr ∗ (some c aM ∗ owns (c : Thread nD τ) oM fullShare xo ∗ some c wM) ∗ sems c ∗ whole c wHbm yw ∗ whole c gxM fx ∗ owes (c : Thread nD τ) 0 W ∗ (some c B.mt ∗ some c B.dw)
            ∗ (iprop((written c wM LW ∗ written c B.mt LM) ∗ sems c ∗ ended c B xz xg xl xb xt yt xh xn xr yw GX LD) -∗ K ⟨⟩))
          ⊢ wp frame (wpE (defs₀ (F := F)) Variants.none c none) Set.univ (prog i B) K } := by
  refine ⟨?_, ?_, ?_, ?_, fun W K => ?run⟩
  case run =>
    unfold prog; simp only [cc0_in_proj_bwd_eq_skeleton]; unfold cc0_in_proj_bwd_skel
    simp only [k0_part1_eq_skeleton, k0_part2_eq_skeleton, k0_part3_eq_skeleton, k0_part4_eq_skeleton]
    unfold inputs some owns sems
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨⟨%da, %fa, -, HS⟩, ⟨%fo, %hfo, HO⟩, ⟨%dm, %fm, -, HM⟩⟩, ⟨Q0, Q1, Q2, Q3, Q4, Q5, Q6, Q7, Q8, Q9⟩, HQ, HX, HW, ⟨⟨%d9, %f9, -, HT⟩, ⟨%d10, %f10, -, HD⟩⟩, Hk⟩
    obtain rfl := B.hdz.eq_unread hf0; obtain rfl := B.hdg.eq_unread hf1; obtain rfl := B.hdxl.eq_unread hf2; obtain rfl := B.hdxbc.eq_unread hf3; obtain rfl := B.hddt.eq_unread hf4; obtain rfl := B.hwdt.eq_unread hf5; obtain rfl := B.hh.eq_unread hf6; obtain rfl := B.hwn.eq_unread hf7; obtain rfl := B.hr.eq_unread hf8
    obtain rfl := (Memref.isWhole_whole _).eq_unread hfo
    sl_exec (disch := first | sl_exact h.h2 | sl_exact h.h1 | sl_exact h.h3 | sl_exact h.h5 | sl_exact h.h7 | sl_exact h.h9 | sl_exact h.h11 | sl_exact h.h12 | sl_exact up0 | sl_exact up1 | sl_exact up2 | sl_exact up3 | sl_exact up4 | sl_exact up5 | sl_exact up6 | sl_exact up7 | sl_exact up8)
    sl_step
    iapply Hk
    isplitl [HM HT]
    · isplitl [HM]; · iexists _; iexact HM
      iexists _; iexact HT
    isplitl [Q0 Q1 Q2 Q3 Q4 Q5 Q6 Q7 Q8 Q9]; · iframe Q0 Q1 Q2 Q3 Q4 Q5 Q6 Q7 Q8 Q9
    unfold ended inputs some owns
    isplitl [H0 H1 H2 H3 H4 H5 H6 H7 H8]
    · isplitl [H0]
      · iexists _; isplitr; · ipureintro; exact B.hdz.read_unread _
        iexact H0
      isplitl [H1]
      · iexists _; isplitr; · ipureintro; exact B.hdg.read_unread _
        iexact H1
      isplitl [H2]
      · iexists _; isplitr; · ipureintro; exact B.hdxl.read_unread _
        iexact H2
      isplitl [H3]
      · iexists _; isplitr; · ipureintro; exact B.hdxbc.read_unread _
        iexact H3
      isplitl [H4]
      · iexists _; isplitr; · ipureintro; exact B.hddt.read_unread _
        iexact H4
      isplitl [H5]
      · iexists _; isplitr; · ipureintro; exact B.hwdt.read_unread _
        iexact H5
      isplitl [H6]
      · iexists _; isplitr; · ipureintro; exact B.hh.read_unread _
        iexact H6
      isplitl [H7]
      · iexists _; isplitr; · ipureintro; exact B.hwn.read_unread _
        iexact H7
      iexists _; isplitr; · ipureintro; exact B.hr.read_unread _
      iexact H8
    isplitl [HS]
    · iexists _, _; isplitr; swap; · iexact HS
      ipureintro; rfl
    isplitl [HO]
    · iexists _, _; isplitr; swap; · iexact HO
      ipureintro; rfl
    isplitl [HQ]; · iexact HQ
    isplitl [HW]; · iexists _; iexact HW
    isplitl [HX]; · iexact HX
    iexists _; iexact HD

set_option backward.proofsInPublic true in
set_option maxHeartbeats 8000000 in
set_option sl_exec.unrollTrips 4 in
set_option sl_exec.dischHeartbeats 100000 in
set_option sl_exec.dmaWindow true in
set_option sl_exec.dmaWindowSet true in
/-- A later point: the scratch buffer holds the copied weight, and the weight's gradient is added to what the point before left. -/
def runB (h : Later i) (zw : Vec F S4624x1024 .bf16) (xm : Vec F S16x1024 .f32) (xd : Vec F S1x1024 .f32) :
    Σ' (GX : Buf (Elt F) ((gxM).view.loc (c : Thread nD τ))),
      { LD : List (View.Piece (Elt F) S1x1024 .f32) // ∀ (W : Waits sig Unit) (K : PUnit → sProp 𝕄),
        iprop(inputs c B xz xg xl xb xt yt xh xn xr ∗ (some c aM ∗ owns (c : Thread nD τ) oM fullShare xo ∗ owns (c : Thread nD τ) wM fullShare zw) ∗ sems c ∗ whole c wHbm yw ∗ whole c gxM fx ∗ owes (c : Thread nD τ) 0 W
            ∗ (owns (c : Thread nD τ) B.mt fullShare xm ∗ owns (c : Thread nD τ) B.dw fullShare xd)
            ∗ (iprop((owns (c : Thread nD τ) wM fullShare zw ∗ owns (c : Thread nD τ) B.mt fullShare xm) ∗ sems c ∗ ended c B xz xg xl xb xt yt xh xn xr yw GX LD) -∗ K ⟨⟩))
          ⊢ wp frame (wpE (defs₀ (F := F)) Variants.none c none) Set.univ (prog i B) K } := by
  refine ⟨?_, ?_, fun W K => ?run⟩
  case run =>
    unfold prog; simp only [cc0_in_proj_bwd_eq_skeleton]; unfold cc0_in_proj_bwd_skel
    simp only [k0_part1_eq_skeleton, k0_part2_eq_skeleton, k0_part3_eq_skeleton, k0_part4_eq_skeleton]
    unfold inputs some owns sems
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨⟨%da, %fa, -, HS⟩, ⟨%fo, %hfo, HO⟩, ⟨%fm, %hfm, HM⟩⟩, ⟨Q0, Q1, Q2, Q3, Q4, Q5, Q6, Q7, Q8, Q9⟩, HQ, HX, HW, ⟨⟨%f9, %hf9, HT⟩, ⟨%f10, %hf10, HD⟩⟩, Hk⟩
    obtain rfl := B.hdz.eq_unread hf0; obtain rfl := B.hdg.eq_unread hf1; obtain rfl := B.hdxl.eq_unread hf2; obtain rfl := B.hdxbc.eq_unread hf3; obtain rfl := B.hddt.eq_unread hf4; obtain rfl := B.hwdt.eq_unread hf5; obtain rfl := B.hh.eq_unread hf6; obtain rfl := B.hwn.eq_unread hf7; obtain rfl := B.hr.eq_unread hf8
    obtain rfl := (Memref.isWhole_whole _).eq_unread hfo
    obtain rfl := B.hdw.eq_unread hf10
    obtain rfl := (Memref.isWhole_whole _).eq_unread hfm
    sl_exec (disch := first | sl_exact h.h2 | sl_exact h.h1 | sl_exact h.h3 | sl_exact h.h5 | sl_exact h.h7 | sl_exact h.h9 | sl_exact h.h11 | sl_exact h.h12)
    sl_step
    iapply Hk
    isplitl [HM HT]
    · isplitl [HM]
      · iexists _; isplitr; · ipureintro; exact (Memref.isWhole_whole _).read_unread _
        iexact HM
      iexists _; isplitr; · ipureintro; exact hf9
      iexact HT
    isplitl [Q0 Q1 Q2 Q3 Q4 Q5 Q6 Q7 Q8 Q9]; · iframe Q0 Q1 Q2 Q3 Q4 Q5 Q6 Q7 Q8 Q9
    unfold ended inputs some owns
    isplitl [H0 H1 H2 H3 H4 H5 H6 H7 H8]
    · isplitl [H0]
      · iexists _; isplitr; · ipureintro; exact B.hdz.read_unread _
        iexact H0
      isplitl [H1]
      · iexists _; isplitr; · ipureintro; exact B.hdg.read_unread _
        iexact H1
      isplitl [H2]
      · iexists _; isplitr; · ipureintro; exact B.hdxl.read_unread _
        iexact H2
      isplitl [H3]
      · iexists _; isplitr; · ipureintro; exact B.hdxbc.read_unread _
        iexact H3
      isplitl [H4]
      · iexists _; isplitr; · ipureintro; exact B.hddt.read_unread _
        iexact H4
      isplitl [H5]
      · iexists _; isplitr; · ipureintro; exact B.hwdt.read_unread _
        iexact H5
      isplitl [H6]
      · iexists _; isplitr; · ipureintro; exact B.hh.read_unread _
        iexact H6
      isplitl [H7]
      · iexists _; isplitr; · ipureintro; exact B.hwn.read_unread _
        iexact H7
      iexists _; isplitr; · ipureintro; exact B.hr.read_unread _
      iexact H8
    isplitl [HS]
    · iexists _, _; isplitr; swap; · iexact HS
      ipureintro; rfl
    isplitl [HO]
    · iexists _, _; isplitr; swap; · iexact HO
      ipureintro; rfl
    isplitl [HQ]; · iexact HQ
    isplitl [HW]; · iexists _; iexact HW
    isplitl [HX]; · iexact HX
    iexists _; iexact HD

end

end Cert.InProjIdeal.Hand

end
-- ==== Proof.InProj.Lists.lean ====
/-
  What the body of the gradient of the input projection's norm leaves: its stores and copies, from the contents of the blocks.
-/
module

public import proofs.«01_k».proof.Proof.Arrive
public import proofs.«01_k».proof.Proof.InProj.Run
public import proofs.«01_k».proof.Proof.Gen.InProjIdeal.Launch
public import Idealize.ShloMosaic.Lib.Ring
public import Idealize.ShloMosaic.Lib.WordCmp

@[expose] public section

set_option maxRecDepth 16384

noncomputable section

namespace Cert.InProjIdeal.Hand

open InProjIdeal InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## The accumulator over the tiles -/

theorem zz : (![0, 0] : Fin 2 → ℕ) = fun _ => 0 := funext fun a => by fin_cases a <;> rfl

/-- Where a tile's rows of the weight start: the rows of the step sizes lie between the first five and the others. -/
def start (k : Fin 9) : ℕ := if k.val < 5 then 512 * k.val else 512 * k.val + 16
theorem inb_tile : ∀ (k : Fin 9) (a : Fin 2), (![start k, 0] : Fin 2 → ℕ) a + S512x1024.size a ≤ S4624x1024.size a := by decide
theorem inb_two : ∀ (k : Fin 2) (a : Fin 2), (![0, 512 * k.val] : Fin 2 → ℕ) a + S544x512.size a ≤ S544x1024.size a := by decide
theorem inb_three : ∀ (k : Fin 3) (a : Fin 2), (![0, 512 * k.val] : Fin 2 → ℕ) a + S544x512.size a ≤ S544x1536.size a := by decide

/-- A tile of the weight's rows, and of a block's columns. -/
def tile (z : Vec F S4624x1024 .bf16) (k : Fin 9) : Vec F S512x1024 .bf16 := fun y => z ((Rect.unit (s := S4624x1024) ![start k, 0] S512x1024.size (inb_tile k)).emb y)
def two (x : Vec F S544x1024 .bf16) (k : Fin 2) : Vec F S544x512 .bf16 := fun y => x ((Rect.unit (s := S544x1024) ![0, 512 * k.val] S544x512.size (inb_two k)).emb y)
def three (x : Vec F S544x1536 .bf16) (k : Fin 3) : Vec F S544x512 .bf16 := fun y => x ((Rect.unit (s := S544x1536) ![0, 512 * k.val] S544x512.size (inb_three k)).emb y)

/-- The columns that meet a tile of the weight. -/
def cols (xz xg xl : Vec F S544x1024 .bf16) (xb : Vec F S544x1536 .bf16) : Fin 9 → Vec F S544x512 .bf16 :=
  ![two xz 0, two xz 1, three xb 0, three xb 1, three xb 2, two xg 0, two xg 1, two xl 0, two xl 1]

/-- The accumulator after the first `n` tiles. -/
def acc (xz xg xl : Vec F S544x1024 .bf16) (xb : Vec F S544x1536 .bf16) (xt : Vec F S544x256 .bf16) (yt : Vec F S256x1024 .bf16) (w : Fin 9 → Vec F S512x1024 .bf16) :
    (n : ℕ) → n ≤ 9 → Vec F S544x1024 .f32
  | 0, _ => k0_pay2 xt yt
  | n + 1, h => k0_pay3 (acc xz xg xl xb xt yt w n (Nat.le_of_succ_le h)) (cols xz xg xl xb ⟨n, h⟩) (w ⟨n, h⟩)

/-- The rows of a half. -/
def lo (a : Vec F S544x1024 .f32) : Vec F S272x1024 .f32 := fun y => a ((Rect.unit (s := S544x1024) ![0, 0] S272x1024.size inb_S544x1024_S272x1024_0_0).emb y)
def hi (a : Vec F S544x1024 .f32) : Vec F S272x1024 .f32 := fun y => a ((Rect.unit (s := S544x1024) ![272, 0] S272x1024.size inb_S544x1024_S272x1024_272_0).emb y)

/-- A load after a store to the whole buffer reads what was stored. -/
theorem over (v : View sig .tc .vmem S544x1024 .f32) (p : Vec F S544x1024 .f32) (L : List (View.Piece (Elt F) S544x1024 .f32)) (inb) (r : Rect S544x1024) :
    v.readCov ((⟨Rect.unit (s := S544x1024) ![0, 0] S544x1024.size inb, p⟩ : View.Piece (Elt F) S544x1024 .f32) :: L) r.toLoadRect = fun y => p (r.emb y) := by
  rw [View.readCov_eq_canon', View.canon_cons_unit_zero (S := S544x1024) zz]; rfl

/-! ## What a point leaves -/

section
variable (a xh xr : Vec F S544x1024 .f32) (xn : Vec F S1x1024 .f32)

/-- The gradient's rows: the two pieces, and what they leave. -/
def listO : List (View.Piece (Elt F) S544x1024 .f32) :=
  [⟨Rect.unit (s := S544x1024) ![272, 0] S272x1024.size inb_S544x1024_S272x1024_272_0, k0_pay16 (hi a) (k0_pay12 (hi xh)) xn (hi xr)⟩,
    ⟨Rect.unit (s := S544x1024) ![0, 0] S272x1024.size inb_S544x1024_S272x1024_0_0, k0_pay11 (lo a) (k0_pay7 (lo xh)) xn (lo xr)⟩]
def rowsO : Vec F S544x1024 .f32 := View.canon (listO a xh xr xn)
theorem cover_o (y : S544x1024.Idx) : ∃ p ∈ listO a xh xr xn, y ∈ p.1.set :=
  View.cover_of_tiledL (s := S544x1024) _ S272x1024.size (by sl_kernel_rfl) y
/-- The rows that the first point writes to the result, and the meta tokens' rows. -/
def topO : Vec F S416x1024 .f32 := fun y => rowsO a xh xr xn ((Rect.unit (s := S544x1024) ![128, 0] S416x1024.size inb_S544x1024_S416x1024_128_0).emb y)
def metaO : Vec F S16x1024 .f32 := fun y => rowsO a xh xr xn ((Rect.unit (s := S544x1024) ![112, 0] S16x1024.size inb_S544x1024_S16x1024_112_0).emb y)
/-- The weight's gradient after the first half, and after both. -/
def half (w0 : Vec F S1x1024 .f32) : Vec F S1x1024 .f32 := k0_pay10 (lo a) (k0_pay7 (lo xh)) w0
def both (w0 : Vec F S1x1024 .f32) : Vec F S1x1024 .f32 := k0_pay15 (hi a) (k0_pay12 (hi xh)) (half a xh w0)

end

/-- The result after a point's copy. -/
def putTop (c : Dev nD) (g : Buf (Elt F) ((gxM).view.loc (c : Thread nD τ))) (o : Vec F S416x1024 .f32) : Buf (Elt F) ((gxM).view.loc (c : Thread nD τ)) :=
  gxM.view.writes (Elt F) g [⟨Rect.unit (s := S2048x1024) ![0, 0] S416x1024.size inb_S2048x1024_S416x1024_0_0, o⟩]
def put (c : Dev nD) (g : Buf (Elt F) ((gxM).view.loc (c : Thread nD τ))) (i : grid0.Coords) (h : k0_cond12 i = 1#1) (o : Vec F S544x1024 .f32) : Buf (Elt F) ((gxM).view.loc (c : Thread nD τ)) :=
  View.write (Elt F) (gxM.slice (Rect.unit (s := S2048x1024) (k0_off26 i) S544x1024.size (k0_off26_inb i h)) (fun _ => rfl)).view g o Finset.univ

section
variable (c : Dev nD) (i : grid0.Coords) (B : Bufs) (xz xg xl : Vec F S544x1024 .bf16) (xb : Vec F S544x1536 .bf16) (xt : Vec F S544x256 .bf16) (yt : Vec F S256x1024 .bf16)
  (xh : Vec F S544x1024 .f32) (xn : Vec F S1x1024 .f32) (xr xo : Vec F S544x1024 .f32) (yw : Vec F S4624x1024 .bf16) (fx : Buf (Elt F) ((gxM).view.loc (c : Thread nD τ)))

/-- The product's rows. -/
abbrev sums (w : Vec F S4624x1024 .bf16) : Vec F S544x1024 .f32 := acc xz xg xl xb xt yt (tile w) 9 (by decide)

/-- What the norm reads: whole blocks and their halves. -/
theorem read_n : View.readAt (Elt F) B.wn.view (Rect.unit (s := S1x1024) ![0, 0] S1x1024.size inb_S1x1024_S1x1024_0_0).toLoadRect (B.hwn.unread xn) = xn := by
  rw [View.readAt_eq_ld, B.hwn.read_unread, View.ld_unit_zero (S := S1x1024) zz]
theorem read_w (w0 : Vec F S1x1024 .f32) : View.readAt (Elt F) B.dw.view (Rect.unit (s := S1x1024) ![0, 0] S1x1024.size inb_S1x1024_S1x1024_0_0).toLoadRect (B.hdw.unread w0) = w0 := by
  rw [View.readAt_eq_ld, B.hdw.read_unread, View.ld_unit_zero (S := S1x1024) zz]
theorem read_t : View.readAt (Elt F) B.ddt.view (Rect.unit (s := S544x256) ![0, 0] S544x256.size inb_S544x256_S544x256_0_0).toLoadRect (B.hddt.unread xt) = xt := by
  rw [View.readAt_eq_ld, B.hddt.read_unread, View.ld_unit_zero (S := S544x256) zz]
theorem read_y : View.readAt (Elt F) B.wdt.view (Rect.unit (s := S256x1024) ![0, 0] S256x1024.size inb_S256x1024_S256x1024_0_0).toLoadRect (B.hwdt.unread yt) = yt := by
  rw [View.readAt_eq_ld, B.hwdt.read_unread, View.ld_unit_zero (S := S256x1024) zz]

/-! ## A later point -/

/-- One tile more. -/
theorem step (w : Vec F S4624x1024 .bf16) {n : ℕ} (h : n + 1 ≤ 9) {a : Vec F S544x1024 .f32} {x : Vec F S544x512 .bf16} {y : Vec F S512x1024 .bf16}
    (ha : a = acc xz xg xl xb xt yt (tile w) n (Nat.le_of_succ_le h)) (hx : x = cols xz xg xl xb ⟨n, h⟩) (hy : y = tile w ⟨n, h⟩) :
    k0_pay3 a x y = acc xz xg xl xb xt yt (tile w) (n + 1) h := by
  subst ha hx hy; rfl

section
variable (z : Vec F S4624x1024 .bf16)
include c B xz xg xl xb xt yt
/-- The accumulator's last contents head its list of stores. -/
theorem later_head (r : Rect S544x1024) : aM.view.readCov (runB.sl.HS_10 c B xz xg xl xb xt yt z) r.toLoadRect = fun y => sums xz xg xl xb xt yt z (r.emb y) := by
  have hz := Arrive.held B.hdz xz
  have hg := Arrive.held B.hdg xg
  have hl := Arrive.held B.hdxl xl
  have hb := Arrive.held B.hdxbc xb
  have hw := Arrive.held (Memref.isWhole_whole cc0_scratch3) z
  have S := fun {n} h {a x y} => step xz xg xl xb xt yt z (n := n) h (a := a) (x := x) (y := y)
  have P := fun (p : Vec F S544x1024 .f32) L inb => Rows.readCov_cons_unit_zero aM.view zz inb p L
  have a0 : runB.sl.v105 c B xt yt = acc xz xg xl xb xt yt (tile z) 0 (by decide) := (P _ _ _).trans (congrArg₂ k0_pay2 (read_t B xt) (read_y B yt))
  have a1 : runB.sl.v105_1 c B xz xt yt z = acc xz xg xl xb xt yt (tile z) 1 (by decide) := (P _ _ _).trans (S _ a0 (hz _) (hw _))
  have a2 : runB.sl.v105_2 c B xz xt yt z = acc xz xg xl xb xt yt (tile z) 2 (by decide) := (P _ _ _).trans (S _ a1 (hz _) (hw _))
  have a3 : runB.sl.v105_3 c B xz xb xt yt z = acc xz xg xl xb xt yt (tile z) 3 (by decide) := (P _ _ _).trans (S _ a2 (hb _) (hw _))
  have a4 : runB.sl.v105_4 c B xz xb xt yt z = acc xz xg xl xb xt yt (tile z) 4 (by decide) := (P _ _ _).trans (S _ a3 (hb _) (hw _))
  have a5 : runB.sl.v105_5 c B xz xb xt yt z = acc xz xg xl xb xt yt (tile z) 5 (by decide) := (P _ _ _).trans (S _ a4 (hb _) (hw _))
  have a6 : runB.sl.v105_6 c B xz xg xb xt yt z = acc xz xg xl xb xt yt (tile z) 6 (by decide) := (P _ _ _).trans (S _ a5 (hg _) (hw _))
  have a7 : runB.sl.v105_7 c B xz xg xb xt yt z = acc xz xg xl xb xt yt (tile z) 7 (by decide) := (P _ _ _).trans (S _ a6 (hg _) (hw _))
  have a8 : runB.sl.v105_8 c B xz xg xl xb xt yt z = acc xz xg xl xb xt yt (tile z) 8 (by decide) := (P _ _ _).trans (S _ a7 (hl _) (hw _))
  exact (over _ _ _ _ r).trans (congrArg (fun f y => f (r.emb y)) (S _ a8 (hl _) (hw _)))
theorem later_v18 : runB.sl.v18 c B xz xg xl xb xt yt z = lo (sums xz xg xl xb xt yt z) := later_head c B xz xg xl xb xt yt z _
theorem later_v56 : runB.sl.v56 c B xz xg xl xb xt yt z = hi (sums xz xg xl xb xt yt z) := later_head c B xz xg xl xb xt yt z _

end

/-! ## The first point -/

/-- The pieces the first point copies. -/
abbrev copyW (h : First i) : List (View.Piece (Elt F) S4624x1024 .bf16) := (runA c i B xz xg xl xb xt yt xh xn xr xo yw fx h).2.2.2.1

theorem agrees_w (h : First i) : Arrive.Agrees (copyW c i B xz xg xl xb xt yt xh xn xr xo yw fx h) yw := by
  intro p hp y
  simp only [copyW, runA, List.mem_cons, List.not_mem_nil, or_false] at hp
  rcases hp with rfl | rfl | rfl | rfl | rfl | rfl | rfl | rfl | rfl <;> rfl

theorem second {α : Type*} {a b : α} {l : List α} : b ∈ a :: b :: l := List.mem_cons_of_mem _ List.mem_cons_self
theorem third {α : Type*} {a b d : α} {l : List α} : d ∈ a :: b :: d :: l := List.mem_cons_of_mem _ second

/-- A tile is loaded when its own piece is among those that have arrived. -/
theorem tile_w (h : First i) (n : ℕ) (k : Fin 9) (e : ∃ f, (⟨Rect.unit (s := S4624x1024) ![start k, 0] S512x1024.size (inb_tile k), f⟩ : View.Piece (Elt F) S4624x1024 .bf16) ∈ (copyW c i B xz xg xl xb xt yt xh xn xr xo yw fx h).drop n) :
    wM.view.readCov ((copyW c i B xz xg xl xb xt yt xh xn xr xo yw fx h).drop n) (Rect.unit (s := S4624x1024) ![start k, 0] S512x1024.size (inb_tile k)).toLoadRect = tile yw k :=
  let ⟨_, hf⟩ := e
  Arrive.load wM.view (fun p hp => agrees_w c i B xz xg xl xb xt yt xh xn xr xo yw fx h p (List.mem_of_mem_drop hp)) _ fun y => ⟨_, hf, Arrive.emb_mem _ y⟩

section
include c i B xz xg xl xb xt yt xh xn xr xo fx
theorem first_head (h : First i) (r : Rect S544x1024) : aM.view.readCov (runA.sl.HS_10 c i B xz xg xl xb xt yt yw h) r.toLoadRect = fun y => sums xz xg xl xb xt yt yw (r.emb y) := by
  have hz := Arrive.held B.hdz xz
  have hg := Arrive.held B.hdg xg
  have hl := Arrive.held B.hdxl xl
  have hb := Arrive.held B.hdxbc xb
  have W := tile_w c i B xz xg xl xb xt yt xh xn xr xo yw fx h
  have S := fun {n} h {a x y} => step xz xg xl xb xt yt yw (n := n) h (a := a) (x := x) (y := y)
  have P := fun (p : Vec F S544x1024 .f32) L inb => Rows.readCov_cons_unit_zero aM.view zz inb p L
  have a0 : runA.sl.v105 c B xt yt = acc xz xg xl xb xt yt (tile yw) 0 (by decide) := (P _ _ _).trans (congrArg₂ k0_pay2 (read_t B xt) (read_y B yt))
  have a1 : runA.sl.v105_1 c i B xz xt yt yw h = acc xz xg xl xb xt yt (tile yw) 1 (by decide) := (P _ _ _).trans (S _ a0 (hz _) (W 6 0 ⟨_, third⟩))
  have a2 : runA.sl.v105_2 c i B xz xt yt yw h = acc xz xg xl xb xt yt (tile yw) 2 (by decide) := (P _ _ _).trans (S _ a1 (hz _) (W 5 1 ⟨_, third⟩))
  have a3 : runA.sl.v105_3 c i B xz xb xt yt yw h = acc xz xg xl xb xt yt (tile yw) 3 (by decide) := (P _ _ _).trans (S _ a2 (hb _) (W 4 2 ⟨_, third⟩))
  have a4 : runA.sl.v105_4 c i B xz xb xt yt yw h = acc xz xg xl xb xt yt (tile yw) 4 (by decide) := (P _ _ _).trans (S _ a3 (hb _) (W 3 3 ⟨_, third⟩))
  have a5 : runA.sl.v105_5 c i B xz xb xt yt yw h = acc xz xg xl xb xt yt (tile yw) 5 (by decide) := (P _ _ _).trans (S _ a4 (hb _) (W 2 4 ⟨_, third⟩))
  have a6 : runA.sl.v105_6 c i B xz xg xb xt yt yw h = acc xz xg xl xb xt yt (tile yw) 6 (by decide) := (P _ _ _).trans (S _ a5 (hg _) (W 1 5 ⟨_, third⟩))
  have a7 : runA.sl.v105_7 c i B xz xg xb xt yt yw h = acc xz xg xl xb xt yt (tile yw) 7 (by decide) := (P _ _ _).trans (S _ a6 (hg _) (W 0 6 ⟨_, third⟩))
  have a8 : runA.sl.v105_8 c i B xz xg xl xb xt yt yw h = acc xz xg xl xb xt yt (tile yw) 8 (by decide) := (P _ _ _).trans (S _ a7 (hl _) (W 0 7 ⟨_, second⟩))
  exact (over _ _ _ _ r).trans (congrArg (fun f y => f (r.emb y)) (S _ a8 (hl _) (W 0 8 ⟨_, List.mem_cons_self⟩)))
theorem first_v18 (h : First i) : runA.sl.v18 c i B xz xg xl xb xt yt yw h = lo (sums xz xg xl xb xt yt yw) := first_head c i B xz xg xl xb xt yt xh xn xr xo yw fx h _
theorem first_v56 (h : First i) : runA.sl.v56 c i B xz xg xl xb xt yt yw h = hi (sums xz xg xl xb xt yt yw) := first_head c i B xz xg xl xb xt yt xh xn xr xo yw fx h _

end

/-! ## The stores and copies -/

/-- The gradient's rows read back whole or in part. -/
theorem read_o (f : Buf (Elt F) ((oM).view.loc (c : Thread nD τ))) (a xh xr : Vec F S544x1024 .f32) (xn : Vec F S1x1024 .f32) :
    View.read (Elt F) oM.view (oM.view.writes (Elt F) f (listO a xh xr xn)) = rowsO a xh xr xn :=
  funext fun y => View.read_writes_apply_eq_canon oM.view f y _ (cover_o a xh xr xn y)

theorem later_rows (z : Vec F S4624x1024 .bf16) : runB.sl.HO_2 c B xz xg xl xb xt yt xh xn xr z = listO (sums xz xg xl xb xt yt z) xh xr xn := by
  have el := Arrive.held B.hh xh (Rect.unit (s := S544x1024) ![0, 0] S272x1024.size inb_S544x1024_S272x1024_0_0)
  have eh := Arrive.held B.hh xh (Rect.unit (s := S544x1024) ![272, 0] S272x1024.size inb_S544x1024_S272x1024_272_0)
  have rl := Arrive.held B.hr xr (Rect.unit (s := S544x1024) ![0, 0] S272x1024.size inb_S544x1024_S272x1024_0_0)
  have rh := Arrive.held B.hr xr (Rect.unit (s := S544x1024) ![272, 0] S272x1024.size inb_S544x1024_S272x1024_272_0)
  have en := read_n B xn
  unfold runB.sl.HO_2 runB.sl.r runB.sl.r_1 listO
  rw [later_v18 c B xz xg xl xb xt yt z, later_v56 c B xz xg xl xb xt yt z, el, eh, rl, rh, en]; rfl

include xo fx in
theorem first_rows (h : First i) : runA.sl.HO_2 c i B xz xg xl xb xt yt xh xn xr yw h = listO (sums xz xg xl xb xt yt yw) xh xr xn := by
  have el := Arrive.held B.hh xh (Rect.unit (s := S544x1024) ![0, 0] S272x1024.size inb_S544x1024_S272x1024_0_0)
  have eh := Arrive.held B.hh xh (Rect.unit (s := S544x1024) ![272, 0] S272x1024.size inb_S544x1024_S272x1024_272_0)
  have rl := Arrive.held B.hr xr (Rect.unit (s := S544x1024) ![0, 0] S272x1024.size inb_S544x1024_S272x1024_0_0)
  have rh := Arrive.held B.hr xr (Rect.unit (s := S544x1024) ![272, 0] S272x1024.size inb_S544x1024_S272x1024_272_0)
  have en := read_n B xn
  unfold runA.sl.HO_2 runA.sl.r runA.sl.r_1 listO
  rw [first_v18 c i B xz xg xl xb xt yt xh xn xr xo yw fx h, first_v56 c i B xz xg xl xb xt yt xh xn xr xo yw fx h, el, eh, rl, rh, en]; rfl

theorem later_lists (h : Later i) (z : Vec F S4624x1024 .bf16) (xm : Vec F S16x1024 .f32) (w0 : Vec F S1x1024 .f32) :
    (runB c i B xz xg xl xb xt yt xh xn xr xo yw fx h z xm w0).1 = put c fx i h.h12 (rowsO (sums xz xg xl xb xt yt z) xh xr xn)
    ∧ ∃ L, (runB c i B xz xg xl xb xt yt xh xn xr xo yw fx h z xm w0).2.1 = ⟨Rect.unit (s := S1x1024) ![0, 0] S1x1024.size inb_S1x1024_S1x1024_0_0, both (sums xz xg xl xb xt yt z) xh w0⟩ :: L := by
  have el := Arrive.held B.hh xh (Rect.unit (s := S544x1024) ![0, 0] S272x1024.size inb_S544x1024_S272x1024_0_0)
  have eh := Arrive.held B.hh xh (Rect.unit (s := S544x1024) ![272, 0] S272x1024.size inb_S544x1024_S272x1024_272_0)
  have e83 : runB.sl.v83 c B xz xg xl xb xt yt xh z w0 = half (sums xz xg xl xb xt yt z) xh w0 := by
    unfold runB.sl.v83 runB.sl.HD_1 runB.sl.r half
    rw [later_v18 c B xz xg xl xb xt yt z, el, read_w B w0]; exact Rows.readCov_cons_unit_zero _ zz _ _ _
  refine ⟨?_, runB.sl.HD_1 c B xz xg xl xb xt yt xh z w0, ?_⟩
  · unfold runB; dsimp only
    unfold runB.sl.HX_w0 runB.sl.dma67 put
    rw [later_rows c B xz xg xl xb xt yt xh xn xr z, read_o]
  · unfold runB both; dsimp only
    unfold runB.sl.r_1
    rw [later_v56 c B xz xg xl xb xt yt z, e83, eh]; rfl

theorem first_lists (h : First i) :
    (runA c i B xz xg xl xb xt yt xh xn xr xo yw fx h).1 = putTop c fx (topO (sums xz xg xl xb xt yt yw) xh xr xn)
    ∧ (∃ L, (runA c i B xz xg xl xb xt yt xh xn xr xo yw fx h).2.1 = ⟨Rect.unit (s := S1x1024) ![0, 0] S1x1024.size inb_S1x1024_S1x1024_0_0, both (sums xz xg xl xb xt yt yw) xh k0_pay1⟩ :: L)
    ∧ (runA c i B xz xg xl xb xt yt xh xn xr xo yw fx h).2.2.1 = [⟨Rect.unit (s := S16x1024) ![0, 0] S16x1024.size inb_S16x1024_S16x1024_0_0, metaO (sums xz xg xl xb xt yt yw) xh xr xn⟩] := by
  have el := Arrive.held B.hh xh (Rect.unit (s := S544x1024) ![0, 0] S272x1024.size inb_S544x1024_S272x1024_0_0)
  have eh := Arrive.held B.hh xh (Rect.unit (s := S544x1024) ![272, 0] S272x1024.size inb_S544x1024_S272x1024_272_0)
  have e45 : runA.sl.v45 (F := F) c B = k0_pay1 := by unfold runA.sl.v45 runA.sl.HD_1; exact Rows.readCov_cons_unit_zero _ zz _ _ _
  have e83 : runA.sl.v83 c i B xz xg xl xb xt yt xh yw h = half (sums xz xg xl xb xt yt yw) xh k0_pay1 := by
    unfold runA.sl.v83 runA.sl.HD_2 runA.sl.r half
    rw [first_v18 c i B xz xg xl xb xt yt xh xn xr xo yw fx h, el, e45]; exact Rows.readCov_cons_unit_zero _ zz _ _ _
  refine ⟨?_, ⟨runA.sl.HD_2 c i B xz xg xl xb xt yt xh yw h, ?_⟩, ?_⟩
  · unfold runA; dsimp only
    have e : runA.sl.dma72 c i B xz xg xl xb xt yt xh xn xr xo yw h = topO (sums xz xg xl xb xt yt yw) xh xr xn := by
      unfold runA.sl.dma72
      rw [first_rows c i B xz xg xl xb xt yt xh xn xr xo yw fx h]
      exact funext fun y => congrFun (read_o c _ (sums xz xg xl xb xt yt yw) xh xr xn) _
    rw [e]; rfl
  · unfold runA both; dsimp only
    unfold runA.sl.r_1
    rw [first_v56 c i B xz xg xl xb xt yt xh xn xr xo yw fx h, e83, eh]; rfl
  · unfold runA; dsimp only
    have e : runA.sl.v100 c i B xz xg xl xb xt yt xh xn xr yw h = metaO (sums xz xg xl xb xt yt yw) xh xr xn := by
      unfold runA.sl.v100
      rw [first_rows c i B xz xg xl xb xt yt xh xn xr xo yw fx h, View.readCov_eq_canon']; rfl
    rw [e]

end

end Cert.InProjIdeal.Hand

end
-- ==== Proof.InProj.Frame.lean ====
/-
  The run of the gradient of the input projection's norm: the pipeline's proof data, the body at a generic point, the launch, the frame.
-/
module

public import proofs.«01_k».proof.Proof.InProj.Lists
public import Idealize.ShloMosaic.Lib.Pipeline.FrameValue

@[expose] public section

set_option maxRecDepth 16384

noncomputable section

namespace Cert.InProjIdeal.Hand

open InProjIdeal InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## What a point leaves, owned -/

section
variable (c : Dev nD) (i : grid0.Coords) (B : Bufs) (xz xg xl : Vec F S544x1024 .bf16) (xb : Vec F S544x1536 .bf16) (xt : Vec F S544x256 .bf16) (yt : Vec F S256x1024 .bf16)
  (xh : Vec F S544x1024 .f32) (xn : Vec F S1x1024 .f32) (xr xo : Vec F S544x1024 .f32) (yw : Vec F S4624x1024 .bf16) (fx : Buf (Elt F) ((gxM).view.loc (c : Thread nD τ)))

/-- The weight's scratch buffer once the copies have arrived: its tiles are the array's; the rows between them are never copied. -/
abbrev arrived : sProp 𝕄 := iprop(∃ z, ⌜tile z = tile yw⌝ ∗ owns (c : Thread nD τ) wM fullShare z)

theorem tile_mem (h : First i) : ∀ (k : Fin 9) (y : S512x1024.Idx),
    ∃ p ∈ copyW c i B xz xg xl xb xt yt xh xn xr xo yw fx h, (Rect.unit (s := S4624x1024) ![start k, 0] S512x1024.size (inb_tile k)).emb y ∈ p.1.set
  | 0, y => ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), Arrive.emb_mem (Rect.unit (s := S4624x1024) ![start 0, 0] S512x1024.size (inb_tile 0)) y⟩
  | 1, y => ⟨_, List.mem_cons_of_mem _ (List.mem_cons_of_mem _ (List.mem_cons_of_mem _ (List.mem_cons_of_mem _ (List.mem_cons_of_mem _ (List.mem_cons_of_mem _ (List.mem_cons_of_mem _ List.mem_cons_self)))))), Arrive.emb_mem (Rect.unit (s := S4624x1024) ![start 1, 0] S512x1024.size (inb_tile 1)) y⟩
  | 2, y => ⟨_, List.mem_cons_of_mem _ (List.mem_cons_of_mem _ (List.mem_cons_of_mem _ (List.mem_cons_of_mem _ (List.mem_cons_of_mem _ (List.mem_cons_of_mem _ List.mem_cons_self))))), Arrive.emb_mem (Rect.unit (s := S4624x1024) ![start 2, 0] S512x1024.size (inb_tile 2)) y⟩
  | 3, y => ⟨_, List.mem_cons_of_mem _ (List.mem_cons_of_mem _ (List.mem_cons_of_mem _ (List.mem_cons_of_mem _ (List.mem_cons_of_mem _ List.mem_cons_self)))), Arrive.emb_mem (Rect.unit (s := S4624x1024) ![start 3, 0] S512x1024.size (inb_tile 3)) y⟩
  | 4, y => ⟨_, List.mem_cons_of_mem _ (List.mem_cons_of_mem _ (List.mem_cons_of_mem _ (List.mem_cons_of_mem _ List.mem_cons_self))), Arrive.emb_mem (Rect.unit (s := S4624x1024) ![start 4, 0] S512x1024.size (inb_tile 4)) y⟩
  | 5, y => ⟨_, List.mem_cons_of_mem _ (List.mem_cons_of_mem _ (List.mem_cons_of_mem _ List.mem_cons_self)), Arrive.emb_mem (Rect.unit (s := S4624x1024) ![start 5, 0] S512x1024.size (inb_tile 5)) y⟩
  | 6, y => ⟨_, List.mem_cons_of_mem _ (List.mem_cons_of_mem _ List.mem_cons_self), Arrive.emb_mem (Rect.unit (s := S4624x1024) ![start 6, 0] S512x1024.size (inb_tile 6)) y⟩
  | 7, y => ⟨_, List.mem_cons_of_mem _ List.mem_cons_self, Arrive.emb_mem (Rect.unit (s := S4624x1024) ![start 7, 0] S512x1024.size (inb_tile 7)) y⟩
  | 8, y => ⟨_, List.mem_cons_self, Arrive.emb_mem (Rect.unit (s := S4624x1024) ![start 8, 0] S512x1024.size (inb_tile 8)) y⟩

theorem arrived_of_copied (h : First i) : (written c wM (copyW c i B xz xg xl xb xt yt xh xn xr xo yw fx h) : sProp 𝕄) ⊢ arrived c yw := by
  unfold written arrived owns
  iintro ⟨%f, H⟩
  iexists _; isplitr; swap
  · iexists _; isplitr; swap; · iexact H
    ipureintro; rfl
  ipureintro
  funext k y
  unfold tile
  rw [View.read_writes_apply_eq_canon wM.view f _ _ (tile_mem c i B xz xg xl xb xt yt xh xn xr xo yw fx h k y)]
  exact View.canon_apply_of_pieces yw _ (agrees_w c i B xz xg xl xb xt yt xh xn xr xo yw fx h) _ (tile_mem c i B xz xg xl xb xt yt xh xn xr xo yw fx h k y)

/-- A buffer last written whole is owned at what was written. -/
theorem owns_of_last {S : Shape} {e : EltTy} (M : Memref sig .tc .vmem S e) {off : Fin S.rank → Nat} (hz : off = fun _ => 0) (inb : ∀ a, off a + S.size a ≤ S.size a)
    (G : Vec F S e) (L : List (View.Piece (Elt F) S e)) :
    (written c M ((⟨Rect.unit off S.size inb, G⟩ : View.Piece (Elt F) S e) :: L) : sProp 𝕄) ⊢ owns (c : Thread nD τ) M fullShare G := by
  have e : ∀ f, M.view.read (Elt F) (M.view.writes (Elt F) f ((⟨Rect.unit off S.size inb, G⟩ : View.Piece (Elt F) S e) :: L)) = G := fun f => by
    rw [View.read_writes_of_cover M.view f M.view M.view.junk _ (fun y => ⟨_, List.mem_cons_self, View.mem_set_unit_zero hz inb y⟩),
      View.read_writes_junk_eq_canon, View.canon_cons_unit_zero hz]
  unfold written owns
  iintro ⟨%f, H⟩
  iexists _; isplitr; swap; · iexact H
  ipureintro; exact e f

/-- The two results that stay in their windows. -/
abbrev outputs (xm : Vec F S16x1024 .f32) (xd : Vec F S1x1024 .f32) : sProp 𝕄 :=
  iprop(owns (c : Thread nD τ) B.mt fullShare xm ∗ owns (c : Thread nD τ) B.dw fullShare xd)

theorem bodyA (h : First i) (W : Waits sig Unit) (K : PUnit → sProp 𝕄) :
    iprop(inputs c B xz xg xl xb xt yt xh xn xr ∗ (some c aM ∗ some c oM ∗ some c wM) ∗ sems c ∗ whole c wHbm yw ∗ whole c gxM fx ∗ owes (c : Thread nD τ) 0 W ∗ (some c B.mt ∗ some c B.dw)
        ∗ (iprop(inputs c B xz xg xl xb xt yt xh xn xr ∗ (some c aM ∗ some c oM ∗ arrived c yw) ∗ sems c ∗ whole c wHbm yw ∗ whole c gxM (putTop c fx (topO (sums xz xg xl xb xt yt yw) xh xr xn))
            ∗ (∃ W', owes (c : Thread nD τ) 0 W') ∗ outputs c B (metaO (sums xz xg xl xb xt yt yw) xh xr xn) (both (sums xz xg xl xb xt yt yw) xh k0_pay1)) -∗ K ⟨⟩))
      ⊢ wp frame (wpE (defs₀ (F := F)) Variants.none c none) Set.univ (prog i B) K := by
  iintro ⟨Hi, ⟨Ha, ⟨%xo, Ho⟩, Hw⟩, Hq, Hh, Hx, HW, Hr, Hk⟩
  iapply ((runA c i B xz xg xl xb xt yt xh xn xr xo yw fx h).2.2.2.2 W K)
  iframe Hi Ha Ho Hw Hq Hh Hx HW Hr
  obtain ⟨eX, ⟨L, eD⟩, eM⟩ := first_lists c i B xz xg xl xb xt yt xh xn xr xo yw fx h
  unfold ended
  iintro ⟨⟨Hw, Hm⟩, Hq, Hi, Ha, Ho, Hh, HW, Hx, Hd⟩
  iapply Hk
  isplitl [Hi]; · iexact Hi
  isplitl [Ha Ho Hw]
  · iframe Ha Ho
    iapply (arrived_of_copied c i B xz xg xl xb xt yt xh xn xr xo yw fx h); iexact Hw
  iframe Hq Hh
  isplitl [Hx]; · rw [← eX]; iexact Hx
  isplitl [HW]; · iexact HW
  isplitl [Hm]
  · iapply (owns_of_last c B.mt zz inb_S16x1024_S16x1024_0_0 _ []); rw [← eM]; iexact Hm
  iapply (owns_of_last c B.dw zz inb_S1x1024_S1x1024_0_0 _ L); rw [← eD]; iexact Hd

theorem bodyB (h : Later i) (xm : Vec F S16x1024 .f32) (w0 : Vec F S1x1024 .f32) (W : Waits sig Unit) (K : PUnit → sProp 𝕄) :
    iprop(inputs c B xz xg xl xb xt yt xh xn xr ∗ (some c aM ∗ some c oM ∗ arrived c yw) ∗ sems c ∗ whole c wHbm yw ∗ whole c gxM fx ∗ owes (c : Thread nD τ) 0 W ∗ outputs c B xm w0
        ∗ (iprop(inputs c B xz xg xl xb xt yt xh xn xr ∗ (some c aM ∗ some c oM ∗ arrived c yw) ∗ sems c ∗ whole c wHbm yw ∗ whole c gxM (put c fx i h.h12 (rowsO (sums xz xg xl xb xt yt yw) xh xr xn))
            ∗ (∃ W', owes (c : Thread nD τ) 0 W') ∗ outputs c B xm (both (sums xz xg xl xb xt yt yw) xh w0)) -∗ K ⟨⟩))
      ⊢ wp frame (wpE (defs₀ (F := F)) Variants.none c none) Set.univ (prog i B) K := by
  iintro ⟨Hi, ⟨Ha, ⟨%xo, Ho⟩, ⟨%z, %hz, Hw⟩⟩, Hq, Hh, Hx, HW, Hr, Hk⟩
  iapply ((runB c i B xz xg xl xb xt yt xh xn xr xo yw fx h z xm w0).2.2 W K)
  iframe Hi Ha Ho Hw Hq Hh Hx HW Hr
  obtain ⟨eX, ⟨L, eD⟩⟩ := later_lists c i B xz xg xl xb xt yt xh xn xr xo yw fx h z xm w0
  unfold sums at eX eD
  rw [hz] at eX eD
  unfold ended
  iintro ⟨⟨Hw, Hm⟩, Hq, Hi, Ha, Ho, Hh, HW, Hx, Hd⟩
  iapply Hk
  isplitl [Hi]; · iexact Hi
  isplitl [Ha Ho Hw]
  · iframe Ha Ho
    iexists z; isplitr; · ipureintro; exact hz
    iexact Hw
  iframe Hq Hh
  isplitl [Hx]; · rw [← eX]; iexact Hx
  iframe HW Hm
  iapply (owns_of_last c B.dw zz inb_S1x1024_S1x1024_0_0 _ L); rw [← eD]; iexact Hd

end

/-! ## The points -/

theorem first_of (t : Fin cfg0.N) : t.val = 0 → First (grid0.coords t) := by
  obtain ⟨h2, h1, h3, h5, h7, h9, h11, h12⟩ := (by decide +kernel : (∀ t : Fin grid0.N, t.val = 0 → Starts (grid0.coords t)) ∧ (∀ t : Fin grid0.N, t.val = 0 → k0_cond1 (grid0.coords t) = 1#1) ∧ (∀ t : Fin grid0.N, t.val = 0 → k0_cond3 (grid0.coords t) = 1#1) ∧ (∀ t : Fin grid0.N, t.val = 0 → k0_cond5 (grid0.coords t) = 1#1) ∧ (∀ t : Fin grid0.N, t.val = 0 → k0_cond7 (grid0.coords t) = 1#1) ∧ (∀ t : Fin grid0.N, t.val = 0 → k0_cond9 (grid0.coords t) = 1#1) ∧ (∀ t : Fin grid0.N, t.val = 0 → k0_cond11 (grid0.coords t) = 1#1)
    ∧ (∀ t : Fin grid0.N, t.val = 0 → ¬ k0_cond12 (grid0.coords t) = 1#1))
  exact fun h => ⟨h2 t h, h1 t h, h3 t h, h5 t h, h7 t h, h9 t h, h11 t h, h12 t h⟩
theorem later_of (t : Fin cfg0.N) : ¬ t.val = 0 → Later (grid0.coords t) := by
  obtain ⟨h2, h1, h3, h5, h7, h9, h11, h12⟩ := (by decide +kernel : (∀ t : Fin grid0.N, ¬ t.val = 0 → ¬ Starts (grid0.coords t)) ∧ (∀ t : Fin grid0.N, ¬ t.val = 0 → ¬ k0_cond1 (grid0.coords t) = 1#1) ∧ (∀ t : Fin grid0.N, ¬ t.val = 0 → ¬ k0_cond3 (grid0.coords t) = 1#1) ∧ (∀ t : Fin grid0.N, ¬ t.val = 0 → ¬ k0_cond5 (grid0.coords t) = 1#1) ∧ (∀ t : Fin grid0.N, ¬ t.val = 0 → ¬ k0_cond7 (grid0.coords t) = 1#1) ∧ (∀ t : Fin grid0.N, ¬ t.val = 0 → ¬ k0_cond9 (grid0.coords t) = 1#1) ∧ (∀ t : Fin grid0.N, ¬ t.val = 0 → ¬ k0_cond11 (grid0.coords t) = 1#1)
    ∧ (∀ t : Fin grid0.N, ¬ t.val = 0 → k0_cond12 (grid0.coords t) = 1#1))
  exact fun h => ⟨h2 t h, h1 t h, h3 t h, h5 t h, h7 t h, h9 t h, h11 t h, h12 t h⟩

/-- The buffers the pipeline passes at point `t`. -/
def bufs (t : Fin cfg0.N) : Bufs where
  dz := win0_0.stage (cfg0.slots t 0)
  hdz := hstage0_0 ((cfg0.slots t 0).cast nbuf0_0)
  dg := win0_1.stage (cfg0.slots t 1)
  hdg := hstage0_1 ((cfg0.slots t 1).cast nbuf0_1)
  dxl := win0_2.stage (cfg0.slots t 2)
  hdxl := hstage0_2 ((cfg0.slots t 2).cast nbuf0_2)
  dxbc := win0_3.stage (cfg0.slots t 3)
  hdxbc := hstage0_3 ((cfg0.slots t 3).cast nbuf0_3)
  ddt := win0_4.stage (cfg0.slots t 4)
  hddt := hstage0_4 ((cfg0.slots t 4).cast nbuf0_4)
  wdt := win0_5.stage (cfg0.slots t 5)
  hwdt := hstage0_5 ((cfg0.slots t 5).cast nbuf0_5)
  h := win0_6.stage (cfg0.slots t 6)
  hh := hstage0_6 ((cfg0.slots t 6).cast nbuf0_6)
  wn := win0_7.stage (cfg0.slots t 7)
  hwn := hstage0_7 ((cfg0.slots t 7).cast nbuf0_7)
  r := win0_8.stage (cfg0.slots t 8)
  hr := hstage0_8 ((cfg0.slots t 8).cast nbuf0_8)
  mt := win0_9.stage (cfg0.slots t 9)
  hmt := hstage0_9 ((cfg0.slots t 9).cast nbuf0_9)
  dw := win0_10.stage (cfg0.slots t 10)
  hdw := hstage0_10 ((cfg0.slots t 10).cast nbuf0_10)

variable (m : (ℓ : Loc nD τ sig) → Buf (Elt F) ℓ) (ρ : Dev nD → PrngReg)

/-! ## The host operations before the region -/

/-- A core's buffers when the region is entered. -/
abbrev V (c : Dev nD) (b : Ref sig .tc) : Buf (Elt F) ((c : Thread nD τ).loc b) := StableHlo.after hostOps0 (fun b => m (c, b)) b

/-- No host operation writes an argument. -/
theorem V_of_not_written (c : Dev nD) (b : Ref sig .tc)
    (h : (hostOps0 : List (HloOp τ sig (Elt F))).Forall fun op => Proc.devRef .tc b ∉ op.writes) : V m c b = m ((c : Thread nD τ).loc b) :=
  StableHlo.after_of_forall_not_mem (b := Proc.devRef .tc b) _ _ (List.forall_iff_forall_mem.mp h)
theorem V_args (c : Dev nD) : V m c main_arg0 = m ((c : Thread nD τ).loc main_arg0) ∧ V m c main_arg1 = m ((c : Thread nD τ).loc main_arg1) ∧ V m c main_arg2 = m ((c : Thread nD τ).loc main_arg2) ∧ V m c main_arg3 = m ((c : Thread nD τ).loc main_arg3) ∧ V m c main_arg4 = m ((c : Thread nD τ).loc main_arg4) ∧ V m c main_arg5 = m ((c : Thread nD τ).loc main_arg5) ∧ V m c main_arg6 = m ((c : Thread nD τ).loc main_arg6) ∧ V m c main_arg7 = m ((c : Thread nD τ).loc main_arg7) := by
  refine ⟨V_of_not_written m c main_arg0 ?_, V_of_not_written m c main_arg1 ?_, V_of_not_written m c main_arg2 ?_, V_of_not_written m c main_arg3 ?_, V_of_not_written m c main_arg4 ?_, V_of_not_written m c main_arg5 ?_, V_of_not_written m c main_arg6 ?_, V_of_not_written m c main_arg7 ?_⟩ <;>
    (simp only [hostOps0, List.Forall, StableHlo.nullary_writes, StableHlo.unary_writes, StableHlo.binary_writes, StableHlo.nary_writes, Finset.mem_singleton]
     repeat' apply And.intro
     all_goals exact StableHlo.devRef_ne_of_ne (by decide))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The product's rows at point `t`, and what the point leaves: the gradient's rows, the meta tokens' rows, the weight's gradient. -/
def sumsAt (c : Dev nD) (t : Fin cfg0.N) : Vec F S544x1024 .f32 :=
  sums (iblk m c 0 t) (iblk m c 1 t) (iblk m c 2 t) (iblk m c 3 t) (iblk m c 4 t) (iblk m c 5 t) (V m c main_v16)
def rowsAt (c : Dev nD) (t : Fin cfg0.N) : Vec F S544x1024 .f32 := rowsO (sumsAt m c t) (iblk m c 6 t) (iblk m c 8 t) (iblk m c 7 t)
def topAt (c : Dev nD) (t : Fin cfg0.N) : Vec F S416x1024 .f32 := topO (sumsAt m c t) (iblk m c 6 t) (iblk m c 8 t) (iblk m c 7 t)
def metaOf (c : Dev nD) (t : Fin cfg0.N) : Vec F S16x1024 .f32 := metaO (sumsAt m c t) (iblk m c 6 t) (iblk m c 8 t) (iblk m c 7 t)
def addAt (c : Dev nD) (t : Fin cfg0.N) (w0 : Vec F S1x1024 .f32) : Vec F S1x1024 .f32 := both (sumsAt m c t) (iblk m c 6 t) w0

/-- The first point. -/
abbrev t0 : Fin cfg0.N := ⟨0, by rw [show cfg0.N = 4 from N_0]; decide⟩
abbrev metaAt (c : Dev nD) : Vec F S16x1024 .f32 := metaOf m c t0

/-- The weight's gradient before point `n`: zero at first. -/
def sofar (c : Dev nD) : (n : ℕ) → n ≤ cfg0.N → Vec F S1x1024 .f32
  | 0, _ => k0_pay1
  | n + 1, hn => addAt m c ⟨n, hn⟩ (sofar c n (Nat.le_of_succ_le hn))

/-- The result's rows before point `n`: as the region found them at first. -/
def stepX (c : Dev nD) (t : Fin cfg0.N) (g : Buf (Elt F) ((gxM).view.loc (c : Thread nD τ))) : Buf (Elt F) ((gxM).view.loc (c : Thread nD τ)) :=
  if h : t.val = 0 then putTop c g (topAt m c t) else put c g (grid0.coords t) (later_of t h).h12 (rowsAt m c t)
def gxAt (c : Dev nD) : (n : ℕ) → n ≤ cfg0.N → Buf (Elt F) ((gxM).view.loc (c : Thread nD τ))
  | 0, _ => V m c main_v25_0
  | n + 1, hn => stepX m c ⟨n, hn⟩ (gxAt c n (Nat.le_of_succ_le hn))

/-- What point `t` leaves of the weight's gradient. -/
abbrev dwAt (c : Dev nD) (t : Fin cfg0.N) : Vec F S1x1024 .f32 := addAt m c t (sofar m c t.val t.isLt.le)

theorem sofar_pos (c : Dev nD) (t : Fin cfg0.N) (h : ¬ t.val = 0) (h1 : t.val - 1 < cfg0.N) :
    sofar m c t.val t.isLt.le = dwAt m c ⟨t.val - 1, h1⟩ := by
  obtain ⟨n, hn⟩ := t
  cases n with
  | zero => exact absurd rfl h
  | succ n => rfl

/-! ## The kernel's own semaphores, the array it copies and the one it writes -/

abbrev osem : Fin 10 → SemLoc sig := fun j => (![.dma 18, .dma 19, .dma 20, .dma 21, .dma 22, .dma 23, .dma 24, .dma 25, .dma 26, .dma 27] : Fin 10 → SemLoc sig) j
theorem osem_facts : Pipeline.OwnSemFacts spec0 osem := by decide
def Hbm : Finset (Ref sig .tc) := {main_v16}
theorem hbm_sub : Hbm ⊆ Pipeline.restRefs sig spec0 := by decide
def Wr : Finset (Ref sig .tc) := {main_v25_0}
theorem wr_sub : Wr ⊆ Pipeline.restRefs sig spec0 \ Hbm := by decide

theorem ownSems_eq (c : Dev nD) :
    (Pipeline.ownSems0 (Ix := Unit) (Name := ℕ) (U := Pipeline.UD sig nD τ) (Lvl := ℕ) (Val := Elt F) (τ := τ) osem c : sProp 𝕄) = sems c := by
  rw [Pipeline.ownSems0_eq_of_list c osem [0, 1, 2, 3, 4, 5, 6, 7, 8, 9] (by decide) (by decide)]; rfl
theorem hbm_eq (c : Dev nD) :
    (bigSep Hbm (fun b => ((c : Thread nD τ).loc b) ↦{fullShare} V m c b) : sProp 𝕄) = whole c wHbm (V m c main_v16) := by
  rw [BI.bigSep_eq_bigSepL_of_eq [main_v16] (by decide) (by decide)]; simp only [whole, Memref.view_whole, View.set_whole]; rfl

/-- The array the kernel writes, at each end. -/
def G (c : Dev nD) (b : Ref sig .tc) : Buf (Elt F) ((c : Thread nD τ).loc b) :=
  if h : b = main_v25_0 then h ▸ gxAt m c cfg0.N le_rfl else V m c b
theorem routed_eq (c : Dev nD) (g : (b : Ref sig .tc) → Buf (Elt F) ((c : Thread nD τ).loc b)) : (Pipeline.routed Wr c g : sProp 𝕄) = whole c gxM (g main_v25_0) := by
  unfold Pipeline.routed
  rw [BI.bigSep_eq_bigSepL_of_eq [main_v25_0] (by decide) (by decide)]; simp only [whole, Memref.view_whole, View.set_whole]; rfl

/-- What the kernel keeps between points, apart from the scratch buffers and the result it writes. -/
abbrev kept (c : Dev nD) : sProp 𝕄 := iprop((∃ r, prngReg c r) ∗ sems c ∗ whole c wHbm (V m c main_v16))

theorem end_eq (c : Dev nD) (g : (c : Dev nD) → (b : Ref sig .tc) → Buf (Elt F) ((c : Thread nD τ).loc b)) :
    (Pipeline.ΦDRG osem spec0 Hbm Wr (V m) g c : sProp 𝕄)
      = iprop((some c aM ∗ some c oM ∗ some c wM) ∗ (∃ r, prngReg c r) ∗ sems c ∗ whole c wHbm (V m c main_v16) ∗ whole c gxM (g c main_v25_0)) := by
  rw [Pipeline.ΦDRG_eq, scopedRest0_eq, ownSems_eq, hbm_eq, routed_eq]; simp only [some, aM, oM, wM, owns_whole]; try rfl

/-- The invariant: before the first point the scratch buffers hold anything, from then on the weight's holds the copied rows. -/
def inv (c : Dev nD) (p : ℕ) (hp : p ≤ cfg0.N) : sProp 𝕄 :=
  if p = 0 then Pipeline.ΦDRG osem spec0 Hbm Wr (V m) (V m) c else iprop((some c aM ∗ some c oM ∗ arrived c (V m c main_v16)) ∗ kept m c ∗ whole c gxM (gxAt m c p hp))

theorem inv_first (c : Dev nD) (p : ℕ) (hp : p ≤ cfg0.N) (h : p = 0) : inv m c p hp = Pipeline.ΦDRG osem spec0 Hbm Wr (V m) (V m) c := by unfold inv; exact if_pos h
theorem inv_later (c : Dev nD) (p : ℕ) (hp : p ≤ cfg0.N) (h : ¬ p = 0) :
    inv m c p hp = iprop((some c aM ∗ some c oM ∗ arrived c (V m c main_v16)) ∗ kept m c ∗ whole c gxM (gxAt m c p hp)) := by unfold inv; exact if_neg h

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => metaAt m c
    | ⟨10, _⟩ => dwAt m c t
  Φ p := inv m c p.val (Nat.le_of_lt_succ p.isLt)
  q _ := fullShare
  owed _ := 0

theorem A_eq (c : Dev nD) (w : Fin cfg0.W) : (dats m 0 c).A w = V m c (Pipeline.arrRef spec0 w) := by dsimp only [dats]

section
variable (c : Dev nD) (t : Fin cfg0.N)

/-- An input's staging buffer holds its block at every point. -/
theorem before_in (w : Fin cfg0.W) (hw : (cfg0.win w).isOut = false) (hl : ∀ i, cfg0.idle w i = false)
    (hc : ∀ t t' : Fin cfg0.N, (cfg0.win w).index t = (cfg0.win w).index t' → (cfg0.win w).clip (cfg0.grid.coords t) = (cfg0.win w).clip (cfg0.grid.coords t'))
    (ha : ∀ t, (cfg0.win w).cut (cfg0.grid.coords t) ((dats m 0 c).after w t) = iblk m c w t) (d) : (dats m 0 c).before w t d = (dats m 0 c).fetched w t d :=
  (dats m 0 c).before_in_eq_fetched w hw hl hc (fun t => by rw [ha]; unfold Dat.blockOf iblk; rw [A_eq]) t d

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = iblk m c 8 t := by dsimp only [dats]
theorem after_9 : (dats m 0 c).after 9 t = metaAt m c := by dsimp only [dats]
theorem after_10 : (dats m 0 c).after 10 t = dwAt m c t := by dsimp only [dats]

theorem before_0 (d) : (dats m 0 c).before 0 t d = iblk m c 0 t := (before_in m c t 0 rfl (fun _ => rfl) (fun _ _ _ => rfl) (after_0 m c) d).trans rfl
theorem before_1 (d) : (dats m 0 c).before 1 t d = iblk m c 1 t := (before_in m c t 1 rfl (fun _ => rfl) (fun _ _ _ => rfl) (after_1 m c) d).trans rfl
theorem before_2 (d) : (dats m 0 c).before 2 t d = iblk m c 2 t := (before_in m c t 2 rfl (fun _ => rfl) (fun _ _ _ => rfl) (after_2 m c) d).trans rfl
theorem before_3 (d) : (dats m 0 c).before 3 t d = iblk m c 3 t := (before_in m c t 3 rfl (fun _ => rfl) (fun _ _ _ => rfl) (after_3 m c) d).trans rfl
theorem before_4 (d) : (dats m 0 c).before 4 t d = iblk m c 4 t := (before_in m c t 4 rfl (fun _ => rfl) (fun _ _ _ => rfl) (after_4 m c) d).trans rfl
theorem before_5 (d) : (dats m 0 c).before 5 t d = iblk m c 5 t := (before_in m c t 5 rfl (fun _ => rfl) (fun _ _ _ => rfl) (after_5 m c) d).trans rfl
theorem before_6 (d) : (dats m 0 c).before 6 t d = iblk m c 6 t := (before_in m c t 6 rfl (fun _ => rfl) (fun _ _ _ => rfl) (after_6 m c) d).trans rfl
theorem before_7 (d) : (dats m 0 c).before 7 t d = iblk m c 7 t := (before_in m c t 7 rfl (fun _ => rfl) (fun _ _ _ => rfl) (after_7 m c) d).trans rfl
theorem before_8 (d) : (dats m 0 c).before 8 t d = iblk m c 8 t := (before_in m c t 8 rfl (fun _ => rfl) (fun _ _ _ => rfl) (after_8 m c) d).trans rfl

end
/-- The results that are not sent between the points: their buffers hold what the previous one left. -/
theorem idle_first : cfg0.idle 9 (cfg0.grid.coords t0) = false := by decide +kernel
theorem idle_later (t : Fin cfg0.N) (h : ¬ t.val = 0) : cfg0.idle 9 (cfg0.grid.coords t) = true := by
  show (!(k0_cond11 (grid0.coords t) == 1#1)) = true
  rw [Bool.not_eq_true', beq_eq_false_iff_ne]; exact (later_of t h).h11
theorem before_9 (c : Dev nD) (d) : (n : ℕ) → (hn : n < cfg0.N) → ¬ n = 0 → (dats m 0 c).before 9 ⟨n, hn⟩ d = metaAt m c
  | 0, _, h => absurd rfl h
  | n + 1, hn, _ => by
    have hN : n + 1 < 4 := lt_of_lt_of_eq hn (show cfg0.N = 4 from N_0)
    have hn' : n < cfg0.N := Nat.lt_of_succ_lt hn
    have hf : (cfg0.win 9).flush ⟨n, hn'⟩ = false := Bool.eq_false_iff.mpr fun k => by have := (flush0_9 _).mp k; dsimp only at this; omega
    rw [Dat.before_of_pos _ 9 _ (Nat.succ_ne_zero n) ((cfg0.win 9).fetch_out rfl _)]
    show (if (cfg0.win 9).flush ⟨n, _⟩ then d else (dats m 0 c).left 9 ⟨n, _⟩ d) = _
    rw [hf, if_neg Bool.false_ne_true]
    unfold Dat.left
    by_cases h : n = 0
    · subst h
      rw [show cfg0.idle 9 (cfg0.grid.coords ⟨0, hn'⟩) = false from idle_first]
      show (dats m 0 c).kept 9 _ d = _
      unfold Dat.kept
      rw [Pipeline.fill_of_clip_none _ _ (fun _ => rfl) d ((dats m 0 c).after 9 _), (cfg0.win 9).fill_cut, after_9]
    · rw [idle_later ⟨n, hn'⟩ h]; exact before_9 c d n _ h
theorem before_10 (c : Dev nD) (t : Fin cfg0.N) (h : ¬ t.val = 0) (d) : (dats m 0 c).before 10 t d = sofar m c t.val t.isLt.le := by
  have hN : t.val < 4 := lt_of_lt_of_eq t.isLt (show cfg0.N = 4 from N_0)
  rw [Dat.before_out_kept _ 10 rfl t (by omega) (Bool.eq_false_iff.mpr fun k => by have := (flush0_10 _).mp k; dsimp only at this; omega)
    (fun _ => rfl) (fun _ _ => rfl), after_10, sofar_pos m c t h]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (bufs t).dz fullShare ((dats m 0 c).before 0 t d))
    ∗ (∃ d, owns (c : Thread nD τ) (bufs t).dg fullShare ((dats m 0 c).before 1 t d))
    ∗ (∃ d, owns (c : Thread nD τ) (bufs t).dxl fullShare ((dats m 0 c).before 2 t d))
    ∗ (∃ d, owns (c : Thread nD τ) (bufs t).dxbc fullShare ((dats m 0 c).before 3 t d))
    ∗ (∃ d, owns (c : Thread nD τ) (bufs t).ddt fullShare ((dats m 0 c).before 4 t d))
    ∗ (∃ d, owns (c : Thread nD τ) (bufs t).wdt fullShare ((dats m 0 c).before 5 t d))
    ∗ (∃ d, owns (c : Thread nD τ) (bufs t).h fullShare ((dats m 0 c).before 6 t d))
    ∗ (∃ d, owns (c : Thread nD τ) (bufs t).wn fullShare ((dats m 0 c).before 7 t d))
    ∗ (∃ d, owns (c : Thread nD τ) (bufs t).r fullShare ((dats m 0 c).before 8 t d))
    ∗ (∃ d, owns (c : Thread nD τ) (bufs t).mt fullShare ((dats m 0 c).before 9 t d))
    ∗ (∃ d, owns (c : Thread nD τ) (bufs t).dw fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (bufs t).dz fullShare ((dats m 0 c).after 0 t)
    ∗ owns (c : Thread nD τ) (bufs t).dg fullShare ((dats m 0 c).after 1 t)
    ∗ owns (c : Thread nD τ) (bufs t).dxl fullShare ((dats m 0 c).after 2 t)
    ∗ owns (c : Thread nD τ) (bufs t).dxbc fullShare ((dats m 0 c).after 3 t)
    ∗ owns (c : Thread nD τ) (bufs t).ddt fullShare ((dats m 0 c).after 4 t)
    ∗ owns (c : Thread nD τ) (bufs t).wdt fullShare ((dats m 0 c).after 5 t)
    ∗ owns (c : Thread nD τ) (bufs t).h fullShare ((dats m 0 c).after 6 t)
    ∗ owns (c : Thread nD τ) (bufs t).wn fullShare ((dats m 0 c).after 7 t)
    ∗ owns (c : Thread nD τ) (bufs t).r fullShare ((dats m 0 c).after 8 t)
    ∗ (dats m 0 c).leavesExact 9 t
    ∗ owns (c : Thread nD τ) (bufs t).dw fullShare ((dats m 0 c).after 10 t))

/-- The meta tokens' buffer at the end of a point: as the first point left it. -/
theorem leaves_9 (c : Dev nD) (t : Fin cfg0.N) : owns (c : Thread nD τ) (bufs t).mt fullShare (metaAt m c) ⊢ ((dats m 0 c).leavesExact 9 t : sProp 𝕄) := by
  unfold Dat.leavesExact
  by_cases h : t.val = 0
  · obtain rfl : t = t0 := Fin.ext h
    rw [idle_first, after_9]; exact .rfl
  · rw [idle_later t h]
    cases hf : (cfg0.win 9).flush t
    · iintro H; iexists metaAt m c; rw [before_9 m c _ t.val t.isLt h]; iexact H
    · rw [after_9]; exact .rfl

/-- The input windows at point `t`'s blocks. -/
abbrev inputsAt (c : Dev nD) (t : Fin cfg0.N) : sProp 𝕄 := inputs c (bufs t) (iblk m c 0 t) (iblk m c 1 t) (iblk m c 2 t) (iblk m c 3 t) (iblk m c 4 t) (iblk m c 5 t) (iblk m c 6 t) (iblk m c 7 t) (iblk m c 8 t)

/-- The end of a point, whichever case it was. -/
theorem ends (c : Dev nD) (t : Fin cfg0.N) :
    iprop((∃ r, prngReg c r) ∗ inputsAt m c t ∗ (some c aM ∗ some c oM ∗ arrived c (V m c main_v16)) ∗ sems c ∗ whole c wHbm (V m c main_v16)
      ∗ whole c gxM (stepX m c t (gxAt m c t.val t.isLt.le)) ∗ (∃ W', owes (c : Thread nD τ) 0 W') ∗ outputs c (bufs t) (metaAt m c) (dwAt m c t)) ⊢ bodyPost m c t := by
  unfold bodyPost
  rw [show (dats m 0 c).Φ t.succ = iprop((some c aM ∗ some c oM ∗ arrived c (V m c main_v16)) ∗ kept m c ∗ whole c gxM (stepX m c t (gxAt m c t.val t.isLt.le))) from
      inv_later m c t.succ.val (Nat.le_of_lt_succ t.succ.isLt) (Nat.succ_ne_zero _),
    after_0, after_1, after_2, after_3, after_4, after_5, after_6, after_7, after_8, after_10]
  unfold Dat.owesAt Pipeline.owesWithin
  rw [show (dats m 0 c).owed t.succ = 0 from rfl]
  iintro ⟨Hg, ⟨H0, H1, H2, H3, H4, H5, H6, H7, H8⟩, Hs, Hq, Hh, Hx, ⟨%W', HW⟩, ⟨H9, H10⟩⟩
  isplitl [Hs Hg Hq Hh Hx]; · iframe Hs Hg Hq Hh Hx
  isplitl [HW]
  · iexists W'; isplitr; · ipureintro; exact fun _ _ => Or.inl trivial
    iexact HW
  iframe H0 H1 H2 H3 H4 H5 H6 H7 H8
  isplitl [H9]; · iapply (leaves_9 m c t); iexact H9
  iexact H10

theorem sound_body (c : Dev nD) (t : Fin cfg0.N) :
    bodyPre m c t ⊢ wp frame (wpE (defs₀ (F := F)) Variants.none c none) Set.univ (prog (grid0.coords t) (bufs t)) (fun _ => bodyPost m c t) := by
  have hend := ends m c t
  unfold bodyPre
  simp only [before_0, before_1, before_2, before_3, before_4, before_5, before_6, before_7, before_8]
  unfold Dat.owesAt Pipeline.owesWithin
  rw [show (dats m 0 c).owed t.castSucc = 0 from rfl]
  by_cases h : t.val = 0
  · obtain rfl : t = t0 := Fin.ext h
    rw [show (dats m 0 c).Φ (Fin.castSucc t0) = Pipeline.ΦDRG osem spec0 Hbm Wr (V m) (V m) c from inv_first m c _ (Nat.le_of_lt_succ (Fin.castSucc t0).isLt) h, end_eq]
    iintro ⟨⟨Hs, Hg, Hq, Hh, Hx⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (bodyA c (grid0.coords t0) (bufs t0) (iblk m c 0 t0) (iblk m c 1 t0) (iblk m c 2 t0) (iblk m c 3 t0) (iblk m c 4 t0) (iblk m c 5 t0) (iblk m c 6 t0) (iblk m c 7 t0) (iblk m c 8 t0) (V m c main_v16) (V m c main_v25_0) (first_of t0 h) W _)
    iframe H0 H1 H2 H3 H4 H5 H6 H7 H8 Hs Hq Hh Hx HW
    isplitl [H9 H10]
    · isplitl [H9]; · iexists _; iexact H9
      iexists _; iexact H10
    iintro ⟨Hi, Hs, Hq, Hh, Hx, HW, Ho⟩
    iapply hend
    iframe Hg Hi Hs Hq Hh
    isplitl [Hx]; · rw [show stepX m c t0 (gxAt m c (t0 : Fin cfg0.N).val (t0 : Fin cfg0.N).isLt.le) = putTop c (V m c main_v25_0) (topAt m c t0) from by unfold stepX; exact dif_pos rfl]; iexact Hx
    iframe HW
    iexact Ho
  · simp only [fun d => before_9 m c d t.val t.isLt h, before_10 m c t h]
    rw [show (dats m 0 c).Φ t.castSucc = iprop((some c aM ∗ some c oM ∗ arrived c (V m c main_v16)) ∗ kept m c ∗ whole c gxM (gxAt m c t.val t.isLt.le)) from inv_later m c t.castSucc.val (Nat.le_of_lt_succ t.castSucc.isLt) h]
    iintro ⟨⟨Hs, ⟨Hg, Hq, Hh⟩, Hx⟩, ⟨%W, %hW, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (bodyB c (grid0.coords t) (bufs t) (iblk m c 0 t) (iblk m c 1 t) (iblk m c 2 t) (iblk m c 3 t) (iblk m c 4 t) (iblk m c 5 t) (iblk m c 6 t) (iblk m c 7 t) (iblk m c 8 t) (V m c main_v16) (gxAt m c t.val t.isLt.le) (later_of t h) (metaAt m c) (sofar m c t.val t.isLt.le) W _)
    iframe H0 H1 H2 H3 H4 H5 H6 H7 H8 Hs Hq Hh Hx HW
    isplitl [H9 H10]; · iframe H9 H10
    iintro ⟨Hi, Hs, Hq, Hh, Hx, HW, Ho⟩
    iapply hend
    iframe Hg Hi Hs Hq Hh
    isplitl [Hx]; · rw [show stepX m c t (gxAt m c t.val t.isLt.le) = put c (gxAt m c t.val t.isLt.le) (grid0.coords t) (later_of t h).h12 (rowsAt m c t) from by unfold stepX; exact dif_neg h]; iexact Hx
    iframe HW
    iexact Ho

theorem row (t : Fin cfg0.N) : defs₀ (F := F) .tc cfg0.body (cfg0.bodyArgs t (cfg0.slots t)) = prog (grid0.coords t) (bufs t) := by
  unfold defs₀; rw [Defs.onTc_tc]; rfl

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The launch -/

set_option maxHeartbeats 800000 in
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub (by simp only [List.Forall]; repeat' constructor) main_chain

/-- The invariant's ends: the scratch buffers at any contents. -/
theorem inv_in (c : Dev nD) : Pipeline.ΦDRG osem spec0 Hbm Wr (V m) (V m) c ⊢ (dats m 0 c).Φ 0 := by
  rw [show (dats m 0 c).Φ 0 = Pipeline.ΦDRG osem spec0 Hbm Wr (V m) (V m) c from inv_first m c _ (Nat.zero_le _) rfl]
theorem inv_out (c : Dev nD) : (dats m 0 c).Φ (Fin.last cfg0.N) ⊢ Pipeline.ΦDRG osem spec0 Hbm Wr (V m) (G m) c := by
  rw [show (dats m 0 c).Φ (Fin.last cfg0.N) = iprop((some c aM ∗ some c oM ∗ arrived c (V m c main_v16)) ∗ kept m c ∗ whole c gxM (gxAt m c cfg0.N le_rfl)) from
    inv_later m c (Fin.last cfg0.N).val (Nat.le_of_lt_succ (Fin.last cfg0.N).isLt) (by rw [Fin.val_last, show cfg0.N = 4 from N_0]; decide), end_eq,
    show G m c main_v25_0 = gxAt m c cfg0.N le_rfl from dif_pos rfl]
  iintro ⟨⟨Ha, Ho, ⟨%z, -, Hw⟩⟩, ⟨Hg, Hq, Hh⟩, Hx⟩
  isplitl [Ha Ho Hw]
  · iframe Ha Ho
    iexists _; iexact Hw
  iframe Hg Hq Hh Hx

set_option backward.isDefEq.respectTransparency.types false in
/-- Every run ends, with the results' arrays at what the points leave, every other buffer as the region found it, and the
    semaphores at zero. -/
theorem run_main :
    θ_run defs (onTc (τ := τ) (main (F := F))) (s₀ m ρ) (fun r => Pipeline.FramePostRG cfgs (dats m) 0 Wr (V m) (G m) r ∧ r.2.sem = fun _ => 0) :=
  Pipeline.θ_run_frame_dmaRG (Q' := _) cfgs (dats m) (0 : Fin 1) launch0 osem defs₀ Variants.none osem_facts Hbm Wr hbm_sub wr_sub m ρ main
    (hbody := fun c => (body_obligation m c).loose) (hshare := fun c => (dats m 0 c).share_full fun _ => rfl)
    (howed := fun _ _ => rfl) (V := V m) (hmain := hmainD m Variants.none) (hA := A_eq m) (G := G m)
    (hin := inv_in m) (hout := inv_out m)

/-- A buffer that is neither a window's array nor written by the kernel itself. -/
theorem untouched {r : PUnit × MemSt nD τ sig (Elt F)} (h : Pipeline.FramePostRG cfgs (dats m) 0 Wr (V m) (G m) r) (c : Dev nD) (b : Ref sig .tc)
    (hb : b ∈ Pipeline.restRefs sig spec0 \ Wr) : r.2.mem ((c.tc : Thread nD τ).loc b) = V m c b := (h.toR c).2 b hb

/-- The arguments end as they were. -/
abbrev ArgsKept (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)

theorem args_kept {r : PUnit × MemSt nD τ sig (Elt F)} (h : Pipeline.FramePostRG cfgs (dats m) 0 Wr (V m) (G m) r) (c : Dev nD) :
      ArgsKept m r c := by
  obtain ⟨e0, e1, e2, e3, e4, e5, e6, e7⟩ := V_args m c
  exact ⟨(untouched m h c main_arg0 (by decide)).trans e0, (untouched m h c main_arg1 (by decide)).trans e1,
    ((h.toR c).1 7).trans (((dats m 0 c).arrAt_in 7 rfl _).trans ((A_eq m c 7).trans e2)),
    (untouched m h c main_arg3 (by decide)).trans e3, (untouched m h c main_arg4 (by decide)).trans e4,
    ((h.toR c).1 8).trans (((dats m 0 c).arrAt_in 8 rfl _).trans ((A_eq m c 8).trans e5)),
    (untouched m h c main_arg6 (by decide)).trans e6, (untouched m h c main_arg7 (by decide)).trans e7⟩

theorem frame : θ_run defs (onTc (τ := τ) (main (F := F))) ⟨m, fun _ => 0, ρ⟩ (fun r => (∀ c : Dev nD,
      ArgsKept m r c)
      ∧ r.2.sem = fun _ => 0) :=
  (θ_run defs _ _).mono (fun _ h => ⟨args_kept m h.1, h.2⟩) (run_main m ρ)

end Cert.InProjIdeal.Hand

end
-- ==== Proof.InProj.Real.lean ====
/-
  The gradient of a norm that feeds the input projection, as functions of real rows.
-/
module

public import proofs.«01_k».proof.Proof.GateUp.Real

@[expose] public section

set_option maxRecDepth 16384

noncomputable section

namespace Cert.InProj

open Spec

/-- Entry `j` of a row of 4624, zero past the last. -/
def col (f : Fin 4624 → ℝ) (j : ℕ) : ℝ := if h : j < 4624 then f ⟨j, h⟩ else 0

theorem col_fin (f : Fin 4624 → ℝ) (j : Fin 4624) : col f j.val = f j := dif_pos j.isLt

/-- The 16 entries from 2560 spread over 256: the first eight from 0, the others from 128, zeros between and after. -/
def packed (f : ℕ → ℝ) (j : ℕ) : ℝ := if j < 8 then f (2560 + j) else if j < 128 then 0 else if j < 136 then f (2440 + j) else 0

theorem sum_packed (f g : ℕ → ℝ) : ∑ j : Fin 256, packed f j * packed g j = ∑ j ∈ Finset.range 16, f (2560 + j) * g (2560 + j) := by
  rw [← Finset.sum_range (fun j => packed f j * packed g j), show 256 = 8 + (120 + (8 + 120)) from rfl, Finset.sum_range_add, Finset.sum_range_add, Finset.sum_range_add,
    show 16 = 8 + 8 from rfl, Finset.sum_range_add]
  have e1 : ∀ j ∈ Finset.range 8, packed f j * packed g j = f (2560 + j) * g (2560 + j) := fun j hj => by
    have := Finset.mem_range.mp hj
    unfold packed; rw [if_pos this, if_pos this]
  have e2 : ∀ j ∈ Finset.range 120, packed f (8 + j) * packed g (8 + j) = 0 := fun j hj => by
    have := Finset.mem_range.mp hj
    unfold packed; rw [if_neg (by omega), if_pos (by omega)]; ring
  have e3 : ∀ j ∈ Finset.range 8, packed f (8 + (120 + j)) * packed g (8 + (120 + j)) = f (2560 + (8 + j)) * g (2560 + (8 + j)) := fun j hj => by
    have := Finset.mem_range.mp hj
    unfold packed; rw [if_neg (by omega), if_neg (by omega), if_pos (by omega), if_neg (by omega), if_neg (by omega), if_pos (by omega),
      show 2440 + (8 + (120 + j)) = 2560 + (8 + j) by omega]
  have e4 : ∀ j ∈ Finset.range 120, packed f (8 + (120 + (8 + j))) * packed g (8 + (120 + (8 + j))) = 0 := fun j hj => by
    have := Finset.mem_range.mp hj
    unfold packed; rw [if_neg (by omega), if_neg (by omega), if_neg (by omega)]; ring
  rw [Finset.sum_congr rfl e1, Finset.sum_congr rfl e2, Finset.sum_congr rfl e3, Finset.sum_congr rfl e4, Finset.sum_const_zero]
  ring

/-- The entries besides the 16, in order: those before 2560, then those from 2576. -/
def skip (j : ℕ) : ℕ := if j < 2560 then j else j + 16

theorem sum_skip (f : ℕ → ℝ) : ∑ j ∈ Finset.range 16, f (2560 + j) + ∑ j ∈ Finset.range 4608, f (skip j) = ∑ j ∈ Finset.range 4624, f j := by
  rw [show 4608 = 2560 + 2048 from rfl, show 4624 = 2560 + (16 + 2048) from rfl, Finset.sum_range_add _ 2560, Finset.sum_range_add _ 2560, Finset.sum_range_add _ 16]
  have e1 : ∑ j ∈ Finset.range 2560, f (skip j) = ∑ j ∈ Finset.range 2560, f j := Finset.sum_congr rfl fun j hj => by
    have := Finset.mem_range.mp hj
    unfold skip; rw [if_pos this]
  have e2 : ∑ j ∈ Finset.range 2048, f (skip (2560 + j)) = ∑ j ∈ Finset.range 2048, f (2560 + (16 + j)) := Finset.sum_congr rfl fun j _ => by
    unfold skip; rw [if_neg (by omega), show 2560 + j + 16 = 2560 + (16 + j) by omega]
  rw [e1, e2]
  ring

variable {n : ℕ}

/-- The gradient at the normalised rows: the projections' cotangents through the weight. -/
def dn (p : Fin n → Fin 4624 → ℝ) (W : Fin 1024 → Fin 4624 → ℝ) (a : Fin n) (k : Fin 1024) : ℝ := ∑ j, p a j * W k j

/-- The norm's rows: 112 rows of zeros, the meta tokens, the input. -/
def hid (x : Fin 2048 → Fin 1024 → ℝ) (m : Fin 16 → Fin 1024 → ℝ) (a : Fin 2176) (k : Fin 1024) : ℝ :=
  if h : a.val < 112 then 0 else if h' : a.val < 128 then m ⟨a.val - 112, by omega⟩ k else x ⟨a.val - 128, by omega⟩ k

end Cert.InProj

end
-- ==== Proof.InProj.Pay.lean ====
/-
  The call's body, one half block (272 rows): what its stores write, as real functions of the rows.
-/
module

public import proofs.«01_k».proof.Proof.InProj.Real
public import proofs.«01_k».proof.Proof.Gen.InProjIdeal.Skeleton

@[expose] public section

set_option maxRecDepth 16384

noncomputable section

namespace Cert.InProj.Pay

open Idealize.ShloMosaic InProjIdeal InProjIdeal.Gen Lift Spec GateUp

/-- A half block's rows are images of reals: the accumulated gradient, the norm's rows, its weight, the cotangent passed through. -/
structure Half (v yv : Vec Ideal S272x1024 .f32) (wv : Vec Ideal S1x1024 .f32) (rv : Vec Ideal S272x1024 .f32)
    (u y : Fin 272 → Fin 1024 → ℝ) (w : Fin 1024 → ℝ) (r : Fin 272 → Fin 1024 → ℝ) : Prop where
  u_eq : ∀ a k, v (ix2 a k) = ((u a k : ℝ) : EReal)
  y_eq : ∀ a k, yv (ix2 a k) = ((y a k : ℝ) : EReal)
  w_eq : ∀ k, wv (ix2 0 k) = ((w k : ℝ) : EReal)
  r_eq : ∀ a k, rv (ix2 a k) = ((r a k : ℝ) : EReal)

variable {v yv : Vec Ideal S272x1024 .f32} {wv : Vec Ideal S1x1024 .f32} {rv : Vec Ideal S272x1024 .f32}
  {u y : Fin 272 → Fin 1024 → ℝ} {w : Fin 1024 → ℝ} {r : Fin 272 → Fin 1024 → ℝ}

theorem pay7_at (x : Vec Ideal S272x1024 .f32) (a : Fin 272) (k : Fin 1024) : k0_pay7 (F := Ideal) x (ix2 a k) = x (ix2 a k) := by pointwise [k0_pay7]

theorem pay8_at (H : Half v yv wv rv u y w r) (a : Fin 272) : k0_pay8 (F := Ideal) yv (ix2 a 0) = ((rms (y a) : ℝ) : EReal) := by
  pointwise [k0_pay8]
  simp only [H.y_eq, c_1024, c_eps, ← EReal.coe_mul, sum_coe, div_coe_coe _ (show (1024 : ℝ) ≠ 0 by norm_num), ← EReal.coe_add]
  exact rsqrt_coe_pos (rms_arg_pos (y a))

theorem pay9_at (H : Half v yv wv rv u y w r) (a : Fin 272) (k : Fin 1024) : k0_pay9 (F := Ideal) yv (ix2 a k) = ((y a k * rms (y a) : ℝ) : EReal) := by
  pointwise [k0_pay9]
  simp only [H.y_eq, pay8_at H, ← EReal.coe_mul]

/-- The gradient of the first half's rows. -/
theorem pay11_at (H : Half v yv wv rv u y w r) (a : Fin 272) (k : Fin 1024) :
    k0_pay11 (F := Ideal) v yv wv rv (ix2 a k) = ((dhRow u y r w a k : ℝ) : EReal) := by
  pointwise [k0_pay11]
  simp only [pay8_at H, pay9_at H, H.u_eq, H.w_eq, H.r_eq, c_1024, ← EReal.coe_mul, sum_coe, div_coe_coe _ (show (1024 : ℝ) ≠ 0 by norm_num), sub_coe, ← EReal.coe_add]
  rfl

/-- The first half's part of the norm weight's gradient, added to what the accumulator held. -/
theorem pay10_at (H : Half v yv wv rv u y w r) (x : Vec Ideal S1x1024 .f32) (k : Fin 1024) :
    k0_pay10 (F := Ideal) v yv x (ix2 0 k) = x (ix2 0 k) + ((∑ a, dwRow u y k a : ℝ) : EReal) := by
  pointwise [k0_pay10]
  simp only [pay9_at H, H.u_eq, ← EReal.coe_mul, sum_coe]
  rfl

/-! The second half: the same sums, cut at other places. -/

theorem pay16_at (H : Half v yv wv rv u y w r) (a : Fin 272) (k : Fin 1024) :
    k0_pay16 (F := Ideal) v yv wv rv (ix2 a k) = ((dhRow u y r w a k : ℝ) : EReal) := pay11_at H a k
theorem pay15_at (H : Half v yv wv rv u y w r) (x : Vec Ideal S1x1024 .f32) (k : Fin 1024) :
    k0_pay15 (F := Ideal) v yv x (ix2 0 k) = x (ix2 0 k) + ((∑ a, dwRow u y k a : ℝ) : EReal) := pay10_at H x k

/-! The sums' start, and one tile of the product. -/

theorem pay1_at (k : Fin 1024) : k0_pay1 (F := Ideal) (ix2 0 k) = 0 := by pointwise [k0_pay1]
theorem pay2_at (t : Vec Ideal S544x256 .bf16) (wt : Vec Ideal S256x1024 .bf16) (a : Fin 544) (k : Fin 1024) :
    k0_pay2 (F := Ideal) t wt (ix2 a k) = ∑ j : Fin 256, t (ix2 a j) * wt (ix2 j k) := by pointwise [k0_pay2]
theorem pay3_at (x : Vec Ideal S544x1024 .f32) (g : Vec Ideal S544x512 .bf16) (wg : Vec Ideal S512x1024 .bf16) (a : Fin 544) (k : Fin 1024) :
    k0_pay3 (F := Ideal) x g wg (ix2 a k) = x (ix2 a k) + ∑ j : Fin 512, g (ix2 a j) * wg (ix2 j k) := by
  pointwise [k0_pay3]

end Cert.InProj.Pay

end
-- ==== Proof.InProj.Block.lean ====
/-
  The call at one grid point: what it leaves of its results, element by element, when the input blocks hold images of real numbers.
-/
module

public import proofs.«01_k».proof.Proof.InProj.Frame
public import proofs.«01_k».proof.Proof.InProj.Pay
public import proofs.«01_k».proof.Proof.Halves

@[expose] public section

set_option maxRecDepth 16384

noncomputable section

namespace Cert.InProj.Block

open Idealize.ShloMosaic Idealize.ShloMosaic.TcCoe InProjIdeal InProjIdeal.Gen InProjIdeal.Hand Lift Spec GateUp InProj InProj.Pay Rows

variable {xz xg xl : Vec Ideal S544x1024 .bf16} {xb : Vec Ideal S544x1536 .bf16} {xt : Vec Ideal S544x256 .bf16} {yt : Vec Ideal S256x1024 .bf16}
  {xh : Vec Ideal S544x1024 .f32} {xn : Vec Ideal S1x1024 .f32} {xr : Vec Ideal S544x1024 .f32} {yw : Vec Ideal S4624x1024 .bf16}
  {p : Fin 544 → Fin 4624 → ℝ} {y : Fin 544 → Fin 1024 → ℝ} {w : Fin 1024 → ℝ} {r : Fin 544 → Fin 1024 → ℝ} {W : Fin 1024 → Fin 4624 → ℝ}

/-- The input blocks hold images of reals: the cotangents are column ranges of `p`, the copied weight is the transpose of `W`. -/
structure Reals (xz xg xl : Vec Ideal S544x1024 .bf16) (xb : Vec Ideal S544x1536 .bf16) (xt : Vec Ideal S544x256 .bf16) (yt : Vec Ideal S256x1024 .bf16)
    (xh : Vec Ideal S544x1024 .f32) (xn : Vec Ideal S1x1024 .f32) (xr : Vec Ideal S544x1024 .f32) (yw : Vec Ideal S4624x1024 .bf16)
    (p : Fin 544 → Fin 4624 → ℝ) (y : Fin 544 → Fin 1024 → ℝ) (w : Fin 1024 → ℝ) (r : Fin 544 → Fin 1024 → ℝ) (W : Fin 1024 → Fin 4624 → ℝ) : Prop where
  z_eq : ∀ a j, xz (ix2 a j) = ((col (p a) j.val : ℝ) : EReal)
  g_eq : ∀ a j, xg (ix2 a j) = ((col (p a) (2576 + j.val) : ℝ) : EReal)
  l_eq : ∀ a j, xl (ix2 a j) = ((col (p a) (3600 + j.val) : ℝ) : EReal)
  b_eq : ∀ a j, xb (ix2 a j) = ((col (p a) (1024 + j.val) : ℝ) : EReal)
  t_eq : ∀ a j, xt (ix2 a j) = ((packed (col (p a)) j.val : ℝ) : EReal)
  yt_eq : ∀ j k, yt (ix2 j k) = ((packed (col (W k)) j.val : ℝ) : EReal)
  y_eq : ∀ a k, xh (ix2 a k) = ((y a k : ℝ) : EReal)
  w_eq : ∀ k, xn (ix2 0 k) = ((w k : ℝ) : EReal)
  r_eq : ∀ a k, xr (ix2 a k) = ((r a k : ℝ) : EReal)
  m_eq : ∀ j k, yw (ix2 j k) = ((col (W k) j.val : ℝ) : EReal)

/-- A tile's element is the block's. -/
theorem two_at (x : Vec Ideal S544x1024 .bf16) (t : Fin 2) (a : Fin 544) (j : Fin 512) : two x t (ix2 a j) = x (ix2 a ⟨512 * t.val + j.val, by omega⟩) :=
  congrArg x ((emb_at (o0 := 0) (o1 := 512 * t.val) (inb_two t) rfl a j).trans (congrArg (fun i => ix2 i _) (Fin.ext (Nat.zero_add _))))
theorem three_at (x : Vec Ideal S544x1536 .bf16) (t : Fin 3) (a : Fin 544) (j : Fin 512) : three x t (ix2 a j) = x (ix2 a ⟨512 * t.val + j.val, by omega⟩) :=
  congrArg x ((emb_at (o0 := 0) (o1 := 512 * t.val) (inb_three t) rfl a j).trans (congrArg (fun i => ix2 i _) (Fin.ext (Nat.zero_add _))))
theorem start_lt : ∀ k : Fin 9, start k + 512 ≤ 4624 := by decide
theorem tile_at (z : Vec Ideal S4624x1024 .bf16) (t : Fin 9) (j : Fin 512) (k : Fin 1024) :
    tile z t (ix2 j k) = z (ix2 ⟨start t + j.val, by have := start_lt t; omega⟩ k) :=
  congrArg z ((emb_at (o0 := start t) (o1 := 0) (inb_tile t) rfl j k).trans (congrArg (ix2 _) (Fin.ext (Nat.zero_add _))))
theorem lo_at (x : Vec Ideal S544x1024 .f32) (a : Fin 272) (k : Fin 1024) : lo x (ix2 a k) = x (ix2 (low 0 (by omega) a) k) :=
  congrArg x ((emb_at (o0 := 0) (o1 := 0) inb_S544x1024_S272x1024_0_0 rfl a k).trans (congrArg (ix2 _) (Fin.ext (Nat.zero_add _))))
theorem hi_at (x : Vec Ideal S544x1024 .f32) (a : Fin 272) (k : Fin 1024) : hi x (ix2 a k) = x (ix2 (low 272 (by omega) a) k) :=
  congrArg x ((emb_at (o0 := 272) (o1 := 0) inb_S544x1024_S272x1024_272_0 rfl a k).trans (congrArg (ix2 _) (Fin.ext (Nat.zero_add _))))

theorem start_eq (t : Fin 9) (j : Fin 512) : start t + j.val = skip (512 * t.val + j.val) := by
  unfold start skip
  split_ifs <;> omega

section
variable (H : Reals xz xg xl xb xt yt xh xn xr yw p y w r W)
include H

/-- The columns that meet tile `t` of the weight are those of the tile. -/
theorem cols_at (a : Fin 544) (j : Fin 512) : ∀ t : Fin 9, cols xz xg xl xb t (ix2 a j) = ((col (p a) (start t + j.val) : ℝ) : EReal)
  | 0 => (two_at _ 0 a j).trans ((H.z_eq a _).trans (congrArg (fun n => ((col (p a) n : ℝ) : EReal)) (show 512 * (0 : Fin 2).val + j.val = start 0 + j.val by simp only [start]; norm_num <;> omega)))
  | 1 => (two_at _ 1 a j).trans ((H.z_eq a _).trans (congrArg (fun n => ((col (p a) n : ℝ) : EReal)) (show 512 * (1 : Fin 2).val + j.val = start 1 + j.val by simp only [start]; norm_num <;> omega)))
  | 2 => (three_at _ 0 a j).trans ((H.b_eq a _).trans (congrArg (fun n => ((col (p a) n : ℝ) : EReal)) (show 1024 + (512 * (0 : Fin 3).val + j.val) = start 2 + j.val by simp only [start]; norm_num <;> omega)))
  | 3 => (three_at _ 1 a j).trans ((H.b_eq a _).trans (congrArg (fun n => ((col (p a) n : ℝ) : EReal)) (show 1024 + (512 * (1 : Fin 3).val + j.val) = start 3 + j.val by simp only [start]; norm_num <;> omega)))
  | 4 => (three_at _ 2 a j).trans ((H.b_eq a _).trans (congrArg (fun n => ((col (p a) n : ℝ) : EReal)) (show 1024 + (512 * (2 : Fin 3).val + j.val) = start 4 + j.val by simp only [start]; norm_num <;> omega)))
  | 5 => (two_at _ 0 a j).trans ((H.g_eq a _).trans (congrArg (fun n => ((col (p a) n : ℝ) : EReal)) (show 2576 + (512 * (0 : Fin 2).val + j.val) = start 5 + j.val by simp only [start]; norm_num <;> omega)))
  | 6 => (two_at _ 1 a j).trans ((H.g_eq a _).trans (congrArg (fun n => ((col (p a) n : ℝ) : EReal)) (show 2576 + (512 * (1 : Fin 2).val + j.val) = start 6 + j.val by simp only [start]; norm_num <;> omega)))
  | 7 => (two_at _ 0 a j).trans ((H.l_eq a _).trans (congrArg (fun n => ((col (p a) n : ℝ) : EReal)) (show 3600 + (512 * (0 : Fin 2).val + j.val) = start 7 + j.val by simp only [start]; norm_num <;> omega)))
  | 8 => (two_at _ 1 a j).trans ((H.l_eq a _).trans (congrArg (fun n => ((col (p a) n : ℝ) : EReal)) (show 3600 + (512 * (1 : Fin 2).val + j.val) = start 8 + j.val by simp only [start]; norm_num <;> omega)))

/-- The accumulator after `n` tiles. -/
theorem acc_at (a : Fin 544) (k : Fin 1024) : ∀ (n : ℕ) (hn : n ≤ 9), acc xz xg xl xb xt yt (tile yw) n hn (ix2 a k)
    = ((∑ j ∈ Finset.range 16, col (p a) (2560 + j) * col (W k) (2560 + j) + ∑ j ∈ Finset.range (512 * n), col (p a) (skip j) * col (W k) (skip j) : ℝ) : EReal)
  | 0, _ => by
    refine (pay2_at _ _ a k).trans ?_
    simp only [H.t_eq, H.yt_eq, ← EReal.coe_mul, sum_coe]
    rw [sum_packed, Nat.mul_zero, Finset.sum_range_zero, add_zero]
  | n + 1, hn => by
    refine (pay3_at _ _ _ a k).trans ?_
    rw [acc_at a k n (Nat.le_of_succ_le hn)]
    simp only [cols_at H, tile_at, H.m_eq, start_eq, ← EReal.coe_mul, sum_coe, ← EReal.coe_add]
    rw [Nat.mul_succ, Finset.sum_range_add _ (512 * n) 512, ← add_assoc, Finset.sum_range (fun j => col (p a) (skip (512 * n + j)) * col (W k) (skip (512 * n + j)))]

theorem acc_all (a : Fin 544) (k : Fin 1024) : sums xz xg xl xb xt yt yw (ix2 a k) = ((dn p W a k : ℝ) : EReal) := by
  refine (acc_at H a k 9 (by decide)).trans (congrArg (fun z : ℝ => (z : EReal)) ?_)
  refine (sum_skip fun j => col (p a) j * col (W k) j).trans ?_
  rw [Finset.sum_range]
  exact Finset.sum_congr rfl fun j _ => by rw [col_fin, col_fin]

theorem half_lo : Half (lo (sums xz xg xl xb xt yt yw)) (k0_pay7 (lo xh)) xn (lo xr) (fun a => dn p W (low 0 (by omega) a)) (fun a => y (low 0 (by omega) a)) w
    (fun a => r (low 0 (by omega) a)) :=
  ⟨fun a k => (lo_at _ a k).trans (acc_all H _ k), fun a k => (pay7_at _ a k).trans ((lo_at _ a k).trans (H.y_eq _ k)), H.w_eq, fun a k => (lo_at _ a k).trans (H.r_eq _ k)⟩
theorem half_hi : Half (hi (sums xz xg xl xb xt yt yw)) (k0_pay12 (hi xh)) xn (hi xr) (fun a => dn p W (low 272 (by omega) a)) (fun a => y (low 272 (by omega) a)) w
    (fun a => r (low 272 (by omega) a)) :=
  ⟨fun a k => (hi_at _ a k).trans (acc_all H _ k), fun a k => (pay7_at _ a k).trans ((hi_at _ a k).trans (H.y_eq _ k)), H.w_eq, fun a k => (hi_at _ a k).trans (H.r_eq _ k)⟩

/-- The gradient's rows. -/
theorem rows_at (a : Fin 544) (k : Fin 1024) : rowsO (sums xz xg xl xb xt yt yw) xh xr xn (ix2 a k) = ((dhRow (dn p W) y r w a k : ℝ) : EReal) :=
  canon_halves (e := .f32) (fun a k => ((dhRow (dn p W) y r w a k : ℝ) : EReal)) _ _ _ _ (fun a k => pay16_at (half_hi H) a k) (fun a k => pay11_at (half_lo H) a k) a k

theorem top_at (a : Fin 416) (k : Fin 1024) : topO (sums xz xg xl xb xt yt yw) xh xr xn (ix2 a k) = ((dhRow (dn p W) y r w ⟨128 + a.val, by omega⟩ k : ℝ) : EReal) :=
  (congrArg (rowsO (sums xz xg xl xb xt yt yw) xh xr xn) ((emb_at (o0 := 128) (o1 := 0) inb_S544x1024_S416x1024_128_0 rfl a k).trans (congrArg (ix2 _) (Fin.ext (Nat.zero_add _))))).trans (rows_at H _ k)
theorem meta_at (a : Fin 16) (k : Fin 1024) : metaO (sums xz xg xl xb xt yt yw) xh xr xn (ix2 a k) = ((dhRow (dn p W) y r w ⟨112 + a.val, by omega⟩ k : ℝ) : EReal) :=
  (congrArg (rowsO (sums xz xg xl xb xt yt yw) xh xr xn) ((emb_at (o0 := 112) (o1 := 0) inb_S544x1024_S16x1024_112_0 rfl a k).trans (congrArg (ix2 _) (Fin.ext (Nat.zero_add _))))).trans (rows_at H _ k)

theorem both_at (w0 : Vec Ideal S1x1024 .f32) (k : Fin 1024) : both (sums xz xg xl xb xt yt yw) xh w0 (ix2 0 k) = w0 (ix2 0 k) + ((∑ a, dwRow (dn p W) y k a : ℝ) : EReal) := by
  refine (pay15_at (half_hi H) _ k).trans ?_
  refine (congrArg (· + _) (pay10_at (half_lo H) w0 k)).trans ?_
  rw [add_assoc, ← EReal.coe_add]
  exact congrArg (fun z : ℝ => w0 (ix2 0 k) + (z : EReal)) (sum_halves (dwRow (dn p W) y k))

end

end Cert.InProj.Block

end
-- ==== Proof.InProj.Host.lean ====
/-
  What the host prepares for the call, over real arguments: the cotangents' column ranges, the packed columns, the padded rows.
-/
module

public import proofs.«01_k».proof.Proof.InProj.Block
public import Idealize.ShloMosaic.Lib.StableHlo.ReadAt

@[expose] public section

set_option maxRecDepth 16384

noncomputable section

namespace Cert.InProj.Array

open Idealize.ShloMosaic Idealize.ShloMosaic.TcCoe Idealize.ShloMosaic.StableHlo Idealize.SL Idealize.SL.Sem
open InProjIdeal InProjIdeal.Gen InProjIdeal.Hand Rows Spec Lift GateUp InProj InProj.Block

variable (m : (ℓ : Loc nD τ sig) → Buf (Elt Ideal) ℓ) (c : Dev nD)

/-- The arguments are images of reals. -/
structure Args (p : Fin 2176 → Fin 4624 → ℝ) (x : Fin 2048 → Fin 1024 → ℝ) (e : Fin 16 → Fin 1024 → ℝ) (w : Fin 1024 → ℝ) (r : Fin 2176 → Fin 1024 → ℝ) (W : Fin 1024 → Fin 4624 → ℝ) : Prop where
  x_eq : ∀ a k, m ((c : Thread nD τ).loc main_arg0) (ix2 a k) = ((x a k : ℝ) : EReal)
  e_eq : ∀ a k, m ((c : Thread nD τ).loc main_arg1) (ix2 a k) = ((e a k : ℝ) : EReal)
  w_eq : ∀ k, m ((c : Thread nD τ).loc main_arg2) (ix2 0 k) = ((w k : ℝ) : EReal)
  W_eq : ∀ k j, m ((c : Thread nD τ).loc main_arg3) (ix2 k j) = ((W k j : ℝ) : EReal)
  p_eq : ∀ a j, m ((c : Thread nD τ).loc main_arg4) (ix2 a j) = ((p a j : ℝ) : EReal)
  r_eq : ∀ a k, m ((c : Thread nD τ).loc main_arg5) (ix2 a k) = ((r a k : ℝ) : EReal)

/-- Row `a` of point `t`'s block. -/
def row (t : Fin cfg0.N) (a : Fin 544) : Fin 2176 := ⟨544 * t.val + a.val, by have : cfg0.N = 4 := N_0; have := t.isLt; omega⟩

theorem idx0 : ∀ t : Fin cfg0.N, win0_0.index t 0 = t.val ∧ win0_0.index t 1 = 0 := (by decide +kernel : ∀ t : Fin grid0.N, _)
theorem idx1 : ∀ t : Fin cfg0.N, win0_1.index t 0 = t.val ∧ win0_1.index t 1 = 0 := (by decide +kernel : ∀ t : Fin grid0.N, _)
theorem idx2 : ∀ t : Fin cfg0.N, win0_2.index t 0 = t.val ∧ win0_2.index t 1 = 0 := (by decide +kernel : ∀ t : Fin grid0.N, _)
theorem idx3 : ∀ t : Fin cfg0.N, win0_3.index t 0 = t.val ∧ win0_3.index t 1 = 0 := (by decide +kernel : ∀ t : Fin grid0.N, _)
theorem idx4 : ∀ t : Fin cfg0.N, win0_4.index t 0 = t.val ∧ win0_4.index t 1 = 0 := (by decide +kernel : ∀ t : Fin grid0.N, _)
theorem idx5 : ∀ t : Fin cfg0.N, win0_5.index t 0 = 0 ∧ win0_5.index t 1 = 0 := (by decide +kernel : ∀ t : Fin grid0.N, _)
theorem idx6 : ∀ t : Fin cfg0.N, win0_6.index t 0 = t.val ∧ win0_6.index t 1 = 0 := (by decide +kernel : ∀ t : Fin grid0.N, _)
theorem idx7 : ∀ t : Fin cfg0.N, win0_7.index t 0 = 0 ∧ win0_7.index t 1 = 0 := (by decide +kernel : ∀ t : Fin grid0.N, _)
theorem idx8 : ∀ t : Fin cfg0.N, win0_8.index t 0 = t.val ∧ win0_8.index t 1 = 0 := (by decide +kernel : ∀ t : Fin grid0.N, _)

theorem iblk0 (t : Fin cfg0.N) (a : Fin 544) (k : Fin 1024) : iblk m c 0 t (ix2 a k) = V m c main_v5 (ix2 (row t a) k) := by
  refine congrArg (V m c main_v5) (funext fun i => Fin.ext ?_)
  match i with
  | ⟨0, _⟩ => show win0_0.index t 0 * 544 + 1 * a.val = _; rw [(idx0 t).1]; show _ = 544 * t.val + a.val; omega
  | ⟨1, _⟩ => show win0_0.index t 1 * 1024 + 1 * k.val = _; rw [(idx0 t).2]; show _ = k.val; omega

theorem iblk1 (t : Fin cfg0.N) (a : Fin 544) (k : Fin 1024) : iblk m c 1 t (ix2 a k) = V m c main_v8 (ix2 (row t a) k) := by
  refine congrArg (V m c main_v8) (funext fun i => Fin.ext ?_)
  match i with
  | ⟨0, _⟩ => show win0_1.index t 0 * 544 + 1 * a.val = _; rw [(idx1 t).1]; show _ = 544 * t.val + a.val; omega
  | ⟨1, _⟩ => show win0_1.index t 1 * 1024 + 1 * k.val = _; rw [(idx1 t).2]; show _ = k.val; omega

theorem iblk2 (t : Fin cfg0.N) (a : Fin 544) (k : Fin 1024) : iblk m c 2 t (ix2 a k) = V m c main_v9 (ix2 (row t a) k) := by
  refine congrArg (V m c main_v9) (funext fun i => Fin.ext ?_)
  match i with
  | ⟨0, _⟩ => show win0_2.index t 0 * 544 + 1 * a.val = _; rw [(idx2 t).1]; show _ = 544 * t.val + a.val; omega
  | ⟨1, _⟩ => show win0_2.index t 1 * 1024 + 1 * k.val = _; rw [(idx2 t).2]; show _ = k.val; omega

theorem iblk3 (t : Fin cfg0.N) (a : Fin 544) (k : Fin 1536) : iblk m c 3 t (ix2 a k) = V m c main_v6 (ix2 (row t a) k) := by
  refine congrArg (V m c main_v6) (funext fun i => Fin.ext ?_)
  match i with
  | ⟨0, _⟩ => show win0_3.index t 0 * 544 + 1 * a.val = _; rw [(idx3 t).1]; show _ = 544 * t.val + a.val; omega
  | ⟨1, _⟩ => show win0_3.index t 1 * 1536 + 1 * k.val = _; rw [(idx3 t).2]; show _ = k.val; omega

theorem iblk4 (t : Fin cfg0.N) (a : Fin 544) (k : Fin 256) : iblk m c 4 t (ix2 a k) = V m c main_v14 (ix2 (row t a) k) := by
  refine congrArg (V m c main_v14) (funext fun i => Fin.ext ?_)
  match i with
  | ⟨0, _⟩ => show win0_4.index t 0 * 544 + 1 * a.val = _; rw [(idx4 t).1]; show _ = 544 * t.val + a.val; omega
  | ⟨1, _⟩ => show win0_4.index t 1 * 256 + 1 * k.val = _; rw [(idx4 t).2]; show _ = k.val; omega

theorem iblk5 (t : Fin cfg0.N) (a : Fin 256) (k : Fin 1024) : iblk m c 5 t (ix2 a k) = V m c main_v21 (ix2 a k) := by
  refine congrArg (V m c main_v21) (funext fun i => Fin.ext ?_)
  match i with
  | ⟨0, _⟩ => show win0_5.index t 0 * 256 + 1 * a.val = _; rw [(idx5 t).1]; show _ = a.val; omega
  | ⟨1, _⟩ => show win0_5.index t 1 * 1024 + 1 * k.val = _; rw [(idx5 t).2]; show _ = k.val; omega

theorem iblk6 (t : Fin cfg0.N) (a : Fin 544) (k : Fin 1024) : iblk m c 6 t (ix2 a k) = V m c main_v23 (ix2 (row t a) k) := by
  refine congrArg (V m c main_v23) (funext fun i => Fin.ext ?_)
  match i with
  | ⟨0, _⟩ => show win0_6.index t 0 * 544 + 1 * a.val = _; rw [(idx6 t).1]; show _ = 544 * t.val + a.val; omega
  | ⟨1, _⟩ => show win0_6.index t 1 * 1024 + 1 * k.val = _; rw [(idx6 t).2]; show _ = k.val; omega

theorem iblk7 (t : Fin cfg0.N) (a : Fin 1) (k : Fin 1024) : iblk m c 7 t (ix2 a k) = V m c main_arg2 (ix2 a k) := by
  refine congrArg (V m c main_arg2) (funext fun i => Fin.ext ?_)
  match i with
  | ⟨0, _⟩ => show win0_7.index t 0 * 1 + 1 * a.val = _; rw [(idx7 t).1]; show _ = a.val; omega
  | ⟨1, _⟩ => show win0_7.index t 1 * 1024 + 1 * k.val = _; rw [(idx7 t).2]; show _ = k.val; omega

theorem iblk8 (t : Fin cfg0.N) (a : Fin 544) (k : Fin 1024) : iblk m c 8 t (ix2 a k) = V m c main_arg5 (ix2 (row t a) k) := by
  refine congrArg (V m c main_arg5) (funext fun i => Fin.ext ?_)
  match i with
  | ⟨0, _⟩ => show win0_8.index t 0 * 544 + 1 * a.val = _; rw [(idx8 t).1]; show _ = 544 * t.val + a.val; omega
  | ⟨1, _⟩ => show win0_8.index t 1 * 1024 + 1 * k.val = _; rw [(idx8 t).2]; show _ = k.val; omega

variable {m c} {p : Fin 2176 → Fin 4624 → ℝ} {x : Fin 2048 → Fin 1024 → ℝ} {e : Fin 16 → Fin 1024 → ℝ} {w : Fin 1024 → ℝ} {r : Fin 2176 → Fin 1024 → ℝ} {W : Fin 1024 → Fin 4624 → ℝ}

theorem Args.at_col (H : Args m c p x e w r W) (a : Fin 2176) (n : ℕ) (h : n < 4624) : m ((c : Thread nD τ).loc main_arg4) (ix2 a ⟨n, h⟩) = ((col (p a) n : ℝ) : EReal) :=
  (H.p_eq a ⟨n, h⟩).trans (congrArg (fun z : ℝ => (z : EReal)) (by unfold col; rw [dif_pos h]))
theorem Args.at_row (H : Args m c p x e w r W) (k : Fin 1024) (n : ℕ) (h : n < 4624) : m ((c : Thread nD τ).loc main_arg3) (ix2 k ⟨n, h⟩) = ((col (W k) n : ℝ) : EReal) :=
  (H.W_eq k ⟨n, h⟩).trans (congrArg (fun z : ℝ => (z : EReal)) (by unfold col; rw [dif_pos h]))

section
variable (H : Args m c p x e w r W)
include H

theorem V5 (a : Fin 2176) (j : Fin 1024) : V m c main_v5 (ix2 a j) = ((col (p a) (j.val) : ℝ) : EReal) := by
  refine Eq.trans ?_ (H.at_col a (j.val) (by omega))
  unfold V
  after_reads_at
theorem V6 (a : Fin 2176) (j : Fin 1536) : V m c main_v6 (ix2 a j) = ((col (p a) (1024 + j.val) : ℝ) : EReal) := by
  refine Eq.trans ?_ (H.at_col a (1024 + j.val) (by omega))
  unfold V
  after_reads_at
theorem V8 (a : Fin 2176) (j : Fin 1024) : V m c main_v8 (ix2 a j) = ((col (p a) (2576 + j.val) : ℝ) : EReal) := by
  refine Eq.trans ?_ (H.at_col a (2576 + j.val) (by omega))
  unfold V
  after_reads_at
theorem V9 (a : Fin 2176) (j : Fin 1024) : V m c main_v9 (ix2 a j) = ((col (p a) (3600 + j.val) : ℝ) : EReal) := by
  refine Eq.trans ?_ (H.at_col a (3600 + j.val) (by omega))
  unfold V
  after_reads_at

theorem V16 (j : Fin 4624) (k : Fin 1024) : V m c main_v16 (ix2 j k) = ((col (W k) j.val : ℝ) : EReal) := by
  refine Eq.trans ?_ (H.at_row k j.val j.isLt)
  unfold V
  after_reads_at

theorem V14 (a : Fin 2176) (j : Fin 256) : V m c main_v14 (ix2 a j) = ((packed (col (p a)) j.val : ℝ) : EReal) := by
  unfold V
  after_reads_at
  split_ifs
  all_goals after_reads_at
  all_goals first
    | exact (H.at_col a _ _).trans (congrArg (fun z : ℝ => (z : EReal)) (by unfold packed; split_ifs <;> first | omega | exact congrArg (col _) (by omega)))
    | exact zero_coe.trans (congrArg (fun z : ℝ => (z : EReal)) (by unfold packed; split_ifs <;> first | omega | rfl))

theorem V21 (j : Fin 256) (k : Fin 1024) : V m c main_v21 (ix2 j k) = ((packed (col (W k)) j.val : ℝ) : EReal) := by
  unfold V
  after_reads_at
  split_ifs
  all_goals after_reads_at
  all_goals first
    | exact (H.at_row k _ _).trans (congrArg (fun z : ℝ => (z : EReal)) (by unfold packed; split_ifs <;> first | omega | exact congrArg (col _) (by omega)))
    | exact zero_coe.trans (congrArg (fun z : ℝ => (z : EReal)) (by unfold packed; split_ifs <;> first | omega | rfl))

theorem V23 (a : Fin 2176) (k : Fin 1024) : V m c main_v23 (ix2 a k) = ((hid x e a k : ℝ) : EReal) := by
  unfold V
  after_reads_at
  split_ifs
  all_goals try after_reads_at
  all_goals unfold hid
  all_goals first
    | rw [dif_pos (by assumption)]; exact zero_coe
    | rw [dif_neg (by assumption), dif_pos (by omega)]; exact H.e_eq _ k
    | rw [dif_neg (by assumption), dif_neg (by omega)]; exact (congrArg (fun n => m ((c : Thread nD τ).loc main_arg0) (ix2 n k)) (Fin.ext (show a.val - 112 - 16 = a.val - 128 by omega))).trans (H.x_eq _ k)

end

theorem V25_3 : V m c main_v25_3 = m ((c : Thread nD τ).loc main_arg6) := by
  funext i
  unfold V
  after_reads_at
  rfl
theorem V25_4 : V m c main_v25_4 = m ((c : Thread nD τ).loc main_arg7) := by
  funext i
  unfold V
  after_reads_at
  rfl

end Cert.InProj.Array

end
-- ==== Proof.InProj.Array.lean ====
/-
  The call's result arrays over real arguments: the input's rows and the meta tokens' rows of the gradient, the norm weight's gradient
  summed over the points.
-/
module

public import proofs.«01_k».proof.Proof.InProj.Host

@[expose] public section

set_option maxRecDepth 16384

noncomputable section

namespace Cert.InProj.Array

open Idealize.ShloMosaic Idealize.ShloMosaic.TcCoe Idealize.ShloMosaic.StableHlo Idealize.SL Idealize.SL.Sem
open InProjIdeal InProjIdeal.Gen InProjIdeal.Hand Rows Spec Lift GateUp InProj InProj.Block

variable {m : (ℓ : Loc nD τ sig) → Buf (Elt Ideal) ℓ} {c : Dev nD} {p : Fin 2176 → Fin 4624 → ℝ} {x : Fin 2048 → Fin 1024 → ℝ} {e : Fin 16 → Fin 1024 → ℝ} {w : Fin 1024 → ℝ} {r : Fin 2176 → Fin 1024 → ℝ} {W : Fin 1024 → Fin 4624 → ℝ}

/-- A point's blocks are the images of the arrays' rows. -/
theorem reals (H : Args m c p x e w r W) (t : Fin cfg0.N) :
    Reals (iblk m c 0 t) (iblk m c 1 t) (iblk m c 2 t) (iblk m c 3 t) (iblk m c 4 t) (iblk m c 5 t) (iblk m c 6 t) (iblk m c 7 t) (iblk m c 8 t) (V m c main_v16)
      (fun a => p (row t a)) (fun a => hid x e (row t a)) w (fun a => r (row t a)) W := by
  obtain ⟨-, -, e2, -, -, e5, -, -⟩ := V_args m c
  exact ⟨fun a j => (iblk0 m c t a j).trans (V5 H _ j), fun a j => (iblk1 m c t a j).trans (V8 H _ j), fun a j => (iblk2 m c t a j).trans (V9 H _ j),
    fun a j => (iblk3 m c t a j).trans (V6 H _ j), fun a j => (iblk4 m c t a j).trans (V14 H _ j), fun j k => (iblk5 m c t j k).trans (V21 H j k),
    fun a k => (iblk6 m c t a k).trans (V23 H _ k), fun k => (iblk7 m c t 0 k).trans ((congrFun e2 _).trans (H.w_eq k)),
    fun a k => (iblk8 m c t a k).trans ((congrFun e5 _).trans (H.r_eq _ k)), fun j k => V16 H j k⟩

/-! The rows that the kernel writes itself. -/

theorem off26 : ∀ t : Fin cfg0.N, ¬ t.val = 0 → k0_off26 (grid0.coords t) 0 + 128 = 544 * t.val ∧ k0_off26 (grid0.coords t) 1 = 0 :=
  (by decide +kernel : ∀ t : Fin grid0.N, ¬ t.val = 0 → _)

theorem putTop_at (g : Buf (Elt Ideal) ((gxM).view.loc (c : Thread nD τ))) (o : Vec Ideal S416x1024 .f32) (i : Fin 2048) (h : i.val < 416) (k : Fin 1024) :
    putTop c g o (ix2 i k) = o (ix2 ⟨i.val, h⟩ k) := by
  refine Eq.trans (congrArg (putTop c g o) ?_) (View.write_emb_of_mem (v := gxM.view.slice (Rect.unit (s := S2048x1024) ![0, 0] S416x1024.size inb_S2048x1024_S416x1024_0_0)) (Val := Elt Ideal) g o
    (Finset.mem_univ (ix2 ⟨i.val, h⟩ k)))
  exact ((emb_at (o0 := 0) (o1 := 0) inb_S2048x1024_S416x1024_0_0 rfl (⟨i.val, h⟩ : Fin 416) k).trans (congrArg₂ ix2 (Fin.ext (Nat.zero_add _)) (Fin.ext (Nat.zero_add _)))).symm

theorem put_emb (t : Fin cfg0.N) (ht : ¬ t.val = 0) (a : Fin 544) (k : Fin 1024) (i : Fin 2048) (hi : i.val + 128 = 544 * t.val + a.val) :
    (Rect.unit (s := S2048x1024) (k0_off26 (grid0.coords t)) S544x1024.size (k0_off26_inb (grid0.coords t) (later_of t ht).h12)).emb (ix2 a k) = ix2 i k := by
  obtain ⟨e0, e1⟩ := off26 t ht
  refine funext fun d => Fin.ext ?_
  match d with
  | ⟨0, _⟩ => show k0_off26 (grid0.coords t) 0 + 1 * a.val = i.val; omega
  | ⟨1, _⟩ => show k0_off26 (grid0.coords t) 1 + 1 * k.val = k.val; omega

theorem put_in (t : Fin cfg0.N) (ht : ¬ t.val = 0) (g : Buf (Elt Ideal) ((gxM).view.loc (c : Thread nD τ))) (o : Vec Ideal S544x1024 .f32) (i : Fin 2048) (a : Fin 544)
    (hi : i.val + 128 = 544 * t.val + a.val) (k : Fin 1024) : put c g (grid0.coords t) (later_of t ht).h12 o (ix2 i k) = o (ix2 a k) := by
  refine Eq.trans (congrArg (put c g (grid0.coords t) (later_of t ht).h12 o) (put_emb t ht a k i hi).symm) ?_
  exact View.write_emb_of_mem (v := (gxM.slice (Rect.unit (s := S2048x1024) (k0_off26 (grid0.coords t)) S544x1024.size (k0_off26_inb (grid0.coords t) (later_of t ht).h12)) (fun _ => rfl)).view)
    (Val := Elt Ideal) g o (Finset.mem_univ (ix2 a k))

theorem put_out (t : Fin cfg0.N) (ht : ¬ t.val = 0) (g : Buf (Elt Ideal) ((gxM).view.loc (c : Thread nD τ))) (o : Vec Ideal S544x1024 .f32) (i : Fin 2048)
    (hi : i.val + 128 < 544 * t.val) (k : Fin 1024) : put c g (grid0.coords t) (later_of t ht).h12 o (ix2 i k) = g (ix2 i k) := by
  refine View.write_of_not_mem (v := (gxM.slice (Rect.unit (s := S2048x1024) (k0_off26 (grid0.coords t)) S544x1024.size (k0_off26_inb (grid0.coords t) (later_of t ht).h12)) (fun _ => rfl)).view)
    (Val := Elt Ideal) g o Finset.univ fun hm => ?_
  obtain ⟨y, -, hy⟩ := Finset.mem_map.mp hm
  have h0 : k0_off26 (grid0.coords t) 0 + 1 * (y 0).val = i.val := congrArg (fun j : S2048x1024.Idx => (j 0).val) hy
  have := (off26 t ht).1
  omega

/-- Before point `n`, the rows up to the point's are the gradient's. -/
theorem gx_at (H : Args m c p x e w r W) (k : Fin 1024) : ∀ (n : ℕ) (hn : n ≤ cfg0.N) (i : Fin 2048), i.val + 128 < 544 * n →
    gxAt m c n hn (ix2 i k) = ((dhRow (dn p W) (hid x e) r w ⟨128 + i.val, by omega⟩ k : ℝ) : EReal)
  | 0, _, _, h => absurd h (by omega)
  | n + 1, hn, i, h => by
    show stepX m c ⟨n, hn⟩ (gxAt m c n (Nat.le_of_succ_le hn)) (ix2 i k) = _
    have hN : cfg0.N = 4 := N_0
    unfold stepX
    by_cases h0 : n = 0
    · subst h0
      rw [dif_pos (show (⟨0, hn⟩ : Fin cfg0.N).val = 0 from rfl)]
      refine (putTop_at _ _ i (by omega) k).trans ((top_at (reals H ⟨0, hn⟩) _ k).trans (congrArg (fun a => ((dhRow (dn p W) (hid x e) r w a k : ℝ) : EReal)) (Fin.ext ?_)))
      show 544 * 0 + (128 + i.val) = 128 + i.val
      omega
    · rw [dif_neg (show ¬ (⟨n, hn⟩ : Fin cfg0.N).val = 0 from h0)]
      rcases Nat.lt_or_ge (i.val + 128) (544 * n) with hi | hi
      · exact (put_out ⟨n, hn⟩ h0 _ _ i hi k).trans (gx_at H k n (Nat.le_of_succ_le hn) i hi)
      · refine (put_in ⟨n, hn⟩ h0 _ _ i ⟨i.val + 128 - 544 * n, by omega⟩ (by show _ = 544 * n + _; simp only; omega) k).trans
          ((rows_at (reals H ⟨n, hn⟩) _ k).trans (congrArg (fun a => ((dhRow (dn p W) (hid x e) r w a k : ℝ) : EReal)) (Fin.ext ?_)))
        show 544 * n + (i.val + 128 - 544 * n) = 128 + i.val
        omega

theorem arrX (H : Args m c p x e w r W) (i : Fin 2048) (k : Fin 1024) : G m c main_v25_0 (ix2 i k) = ((dhRow (dn p W) (hid x e) r w ⟨128 + i.val, by omega⟩ k : ℝ) : EReal) := by
  refine (congrFun (show G m c main_v25_0 = gxAt m c cfg0.N le_rfl from dif_pos rfl) (ix2 i k)).trans (gx_at H k cfg0.N le_rfl i ?_)
  rw [show cfg0.N = 4 from N_0]; omega

/-! The results in their windows. -/

theorem flushed9 (t : Fin cfg0.N) : (dats m 0 c).flushed 9 t = (cfg0.win 9).cut (grid0.coords t) (metaAt m c) := by
  show (cfg0.win 9).cut (grid0.coords t) ((dats m 0 c).after 9 t) = _
  rw [after_9]
theorem flushed10 (t : Fin cfg0.N) : (dats m 0 c).flushed 10 t = (cfg0.win 10).cut (grid0.coords t) (dwAt m c t) := by
  show (cfg0.win 10).cut (grid0.coords t) ((dats m 0 c).after 10 t) = _
  rw [after_10]

theorem point_sum (f : Fin 2176 → ℝ) (t : Fin cfg0.N) : ∑ r ∈ Finset.range 544, past f (544 * t.val + r) = ∑ a, f (row t a) := by
  rw [Finset.sum_range]
  have : cfg0.N = 4 := N_0
  have := t.isLt
  exact Finset.sum_congr rfl fun a _ => dif_pos (by omega)

/-- The weight's gradient before point `n`. -/
theorem sofar_at (H : Args m c p x e w r W) (k : Fin 1024) : ∀ (n : ℕ) (hn : n ≤ cfg0.N),
    sofar m c n hn (ix2 0 k) = ((∑ i ∈ Finset.range (544 * n), past (dwRow (dn p W) (hid x e) k) i : ℝ) : EReal)
  | 0, _ => by
    refine (Pay.pay1_at k).trans ?_
    rw [Nat.mul_zero, Finset.sum_range_zero, EReal.coe_zero]
  | n + 1, hn => by
    refine (both_at (reals H ⟨n, hn⟩) _ k).trans ?_
    rw [sofar_at H k n (Nat.le_of_succ_le hn), ← EReal.coe_add, Nat.mul_succ, Finset.sum_range_add _ (544 * n) 544]
    exact congrArg (fun z : ℝ => ((_ + z : ℝ) : EReal)) (point_sum (dwRow (dn p W) (hid x e) k) ⟨n, hn⟩).symm

/-- The last point, the one that writes the windows back. -/
theorem last (t : Fin cfg0.N) (ht : t.val % 4 = 3) : t = t0_3 := Fin.ext (by have := t.isLt; have hN : cfg0.N = 4 := N_0; show t.val = 3; omega)

theorem whole_sum (f : Fin 2176 → ℝ) : ∑ r ∈ Finset.range (544 * (t0_3.val + 1)), past f r = ∑ a, f a := by
  rw [show 544 * (t0_3.val + 1) = 2176 from rfl, Finset.sum_range]
  exact Finset.sum_congr rfl fun a _ => dif_pos a.isLt

theorem arr9 (H : Args m c p x e w r W) (a : Fin 16) (k : Fin 1024) :
    (dats m 0 c).arrAt 9 cfg0.N (ix2 a k) = ((dhRow (dn p W) (hid x e) r w ⟨112 + a.val, by omega⟩ k : ℝ) : EReal) := by
  refine congrFun ((dats m 0 c).arrAt_eq_of_cover 9 (fun i : S16x1024.Idx => ((dhRow (dn p W) (hid x e) r w ⟨112 + (i 0).val, by have : (i 0).val < 16 := (i 0).isLt; omega⟩ (i 1) : ℝ) : EReal)) (fun t hf => ?_) fun i => ⟨t0_3, (flush0_9 t0_3).mpr rfl, ?_⟩) (ix2 a k)
  · obtain rfl := last t ((flush0_9 t).mp hf)
    have hz' : (fun a => win0_9.index t0_3 a * main_v25_1.ty.shape.size a) = fun _ => 0 := funext fun a => by fin_cases a <;> decide
    rw [flushed9]
    refine Eq.trans ?_ (Memref.read_access_unit_zero (Elt Ideal) main_v25_1 hz' (fun a => by rw [congrFun hz' a]; simp) _).symm
    funext i
    obtain ⟨a, k, rfl⟩ : ∃ (a : Fin 16) (k : Fin 1024), i = ix2 a k := ⟨i 0, i 1, eq_ix2 i⟩
    refine (meta_at (reals H Hand.t0) a k).trans (congrArg (fun n => ((dhRow (dn p W) (hid x e) r w n k : ℝ) : EReal)) (Fin.ext ?_))
    show 544 * 0 + (112 + a.val) = 112 + a.val
    omega
  · show i ∈ ((View.whole main_v25_1).slice (win0_9.rect t0_3)).set
    rw [View.set_slice_whole, Rect.mem_set_unit]
    intro a
    have h0 : (i 0 : Nat) < 16 := (i 0).isLt
    have h1 : (i 1 : Nat) < 1024 := (i 1).isLt
    match a with
    | ⟨0, _⟩ =>
      show win0_9.index t0_3 0 * win0_9.size 0 ≤ (i 0 : Nat) ∧ (i 0 : Nat) < win0_9.index t0_3 0 * win0_9.size 0 + win0_9.xsize (grid0.coords t0_3) 0
      rw [show win0_9.index t0_3 0 * win0_9.size 0 = 0 from by decide +kernel, show win0_9.xsize (grid0.coords t0_3) 0 = 16 from by decide +kernel]; omega
    | ⟨1, _⟩ =>
      show win0_9.index t0_3 1 * win0_9.size 1 ≤ (i 1 : Nat) ∧ (i 1 : Nat) < win0_9.index t0_3 1 * win0_9.size 1 + win0_9.xsize (grid0.coords t0_3) 1
      rw [show win0_9.index t0_3 1 * win0_9.size 1 = 0 from by decide +kernel, show win0_9.xsize (grid0.coords t0_3) 1 = 1024 from by decide +kernel]; omega

theorem arr10 (H : Args m c p x e w r W) (a : Fin 1) (k : Fin 1024) :
    (dats m 0 c).arrAt 10 cfg0.N (ix2 a k) = ((∑ a, dwRow (dn p W) (hid x e) k a : ℝ) : EReal) := by
  refine congrFun ((dats m 0 c).arrAt_eq_of_cover 10 (fun i : S1x1024.Idx => ((∑ a, dwRow (dn p W) (hid x e) (i 1) a : ℝ) : EReal)) (fun t hf => ?_) fun i => ⟨t0_3, (flush0_10 t0_3).mpr rfl, ?_⟩) (ix2 a k)
  · obtain rfl := last t ((flush0_10 t).mp hf)
    have hz' : (fun a => win0_10.index t0_3 a * main_v25_2.ty.shape.size a) = fun _ => 0 := funext fun a => by fin_cases a <;> decide
    rw [flushed10]
    refine Eq.trans ?_ (Memref.read_access_unit_zero (Elt Ideal) main_v25_2 hz' (fun a => by rw [congrFun hz' a]; simp) _).symm
    funext i
    obtain ⟨a, k, rfl⟩ : ∃ (a : Fin 1) (k : Fin 1024), i = ix2 a k := ⟨i 0, i 1, eq_ix2 i⟩
    obtain rfl : a = 0 := Subsingleton.elim _ _
    exact (sofar_at H k (t0_3.val + 1) t0_3.isLt).trans (congrArg (fun z : ℝ => (z : EReal)) (whole_sum _))
  · show i ∈ ((View.whole main_v25_2).slice (win0_10.rect t0_3)).set
    rw [View.set_slice_whole, Rect.mem_set_unit]
    intro a
    have h0 : (i 0 : Nat) < 1 := (i 0).isLt
    have h1 : (i 1 : Nat) < 1024 := (i 1).isLt
    match a with
    | ⟨0, _⟩ =>
      show win0_10.index t0_3 0 * win0_10.size 0 ≤ (i 0 : Nat) ∧ (i 0 : Nat) < win0_10.index t0_3 0 * win0_10.size 0 + win0_10.xsize (grid0.coords t0_3) 0
      rw [show win0_10.index t0_3 0 * win0_10.size 0 = 0 from by decide +kernel, show win0_10.xsize (grid0.coords t0_3) 0 = 1 from by decide +kernel]; omega
    | ⟨1, _⟩ =>
      show win0_10.index t0_3 1 * win0_10.size 1 ≤ (i 1 : Nat) ∧ (i 1 : Nat) < win0_10.index t0_3 1 * win0_10.size 1 + win0_10.xsize (grid0.coords t0_3) 1
      rw [show win0_10.index t0_3 1 * win0_10.size 1 = 0 from by decide +kernel, show win0_10.xsize (grid0.coords t0_3) 1 = 1024 from by decide +kernel]; omega

end Cert.InProj.Array

end
-- ==== Proof.InProj.RefLine.lean ====
/-
  The reference's straight line of host operations, and that each of its buffers is written once and read only afterwards.
-/
module

public import proofs.«01_k».proof.Defs
public import proofs.«01_k».proof.Proof.Line
public import proofs.«01_k».proof.Proof.Gen.InProjRefIdeal

@[expose] public section

set_option maxRecDepth 16384

namespace Cert.InProjRefIdeal

open Idealize.ShloMosaic Idealize.ShloMosaic.StableHlo Idealize.SL.Sem Line

/-- The operations of the reference. -/
noncomputable def line : {ops : List (HloOp τ sig (Elt Ideal)) // ∀ d, IsSeq (main (F := Ideal) d) ops} := by
  apply Subtype.mk
  hlo_seq

/-- What each of them writes and reads. -/
noncomputable def table : {T : List (Ref sig .tc × List (Ref sig .tc)) // Table line.1 T} := by
  apply Subtype.mk
  repeat first
    | exact Table.nil
    | apply Table.cons (reads_nullary _ _ _)
    | apply Table.cons (reads_unary _ _ _ _ _)
    | apply Table.cons (reads_binary _ _ _ _ _ _ _)
    | apply Table.cons (reads_reshape _ _ _ _ _ _)
    | apply Table.cons (reads_ternary _ _ _ _ _ _ _ _ _)
    | apply Table.cons (reads_nary _ _ _ _ _)

theorem single_line : single table.1 = true := by decide +kernel

/-- The contents at the end, which every operation leaves alone. -/
theorem fixed (V : Valuation τ sig (Elt Ideal)) : Fixed line.1 (after line.1 V) := fixed_of table.2 single_line V

/-- The arguments are not written. -/
theorem kept (V : Valuation τ sig (Elt Ideal)) (r : Ref sig .tc) (h : table.1.all (fun e => e.1 != r) = true) :
    after line.1 V (Proc.devRef .tc r) = V (Proc.devRef .tc r) := after_keep table.2 h V

end Cert.InProjRefIdeal
-- ==== Proof.InProj.RefVal.lean ====
/-
  The reference's results over real arguments, read off its line stage by stage.
-/
module

public import proofs.«01_k».proof.Proof.InProj.RefLine
public import proofs.«01_k».proof.Proof.InProj.Real

@[expose] public section

set_option maxRecDepth 16384

namespace Cert.InProjRefIdeal

open Idealize.ShloMosaic Idealize.ShloMosaic.TcCoe Idealize.ShloMosaic.StableHlo Idealize.SL.Sem Line Lift Spec GateUp InProj

/-- The contents `A` at the end, the arguments being images of reals. -/
structure Reals (A : Valuation τ sig (Elt Ideal)) (p : Fin 2176 → Fin 4624 → ℝ) (x : Fin 2048 → Fin 1024 → ℝ) (e : Fin 16 → Fin 1024 → ℝ) (w : Fin 1024 → ℝ) (r : Fin 2176 → Fin 1024 → ℝ) (W : Fin 1024 → Fin 4624 → ℝ) : Prop where
  fixed : Fixed line.1 A
  x_eq : ∀ a k, A (↑main_arg0 : DevRef τ sig) (ix2 a k) = ((x a k : ℝ) : EReal)
  e_eq : ∀ a k, A (↑main_arg1 : DevRef τ sig) (ix2 a k) = ((e a k : ℝ) : EReal)
  w_eq : ∀ k, A (↑main_arg2 : DevRef τ sig) (ix2 0 k) = ((w k : ℝ) : EReal)
  W_eq : ∀ k j, A (↑main_arg3 : DevRef τ sig) (ix2 k j) = ((W k j : ℝ) : EReal)
  p_eq : ∀ a j, A (↑main_arg4 : DevRef τ sig) (ix2 a j) = ((p a j : ℝ) : EReal)
  r_eq : ∀ a k, A (↑main_arg5 : DevRef τ sig) (ix2 a k) = ((r a k : ℝ) : EReal)

variable {A : Valuation τ sig (Elt Ideal)} {p : Fin 2176 → Fin 4624 → ℝ} {x : Fin 2048 → Fin 1024 → ℝ} {e : Fin 16 → Fin 1024 → ℝ} {w : Fin 1024 → ℝ} {r : Fin 2176 → Fin 1024 → ℝ} {W : Fin 1024 → Fin 4624 → ℝ} (H : Reals A p x e w r W)
include H

theorem v0_at (a : Fin 112) (k : Fin 1024) : A (↑main_v0 : DevRef τ sig) (ix2 a k) = (0 : EReal) := by
  refine (congrFun (congrFun (H.fixed [0, 1]).symm _) _).trans ?_
  after_reads_at

theorem v1_at (a : Fin 2176) (k : Fin 1024) : A (↑main_v1 : DevRef τ sig) (ix2 a k) = ((hid x e a k : ℝ) : EReal) := by
  refine (congrFun (congrFun (H.fixed [2]).symm _) _).trans ?_
  after_reads_at
  split_ifs
  all_goals try after_reads_at
  all_goals unfold hid
  all_goals first
    | rw [dif_pos (by assumption)]; exact (v0_at H _ k).trans zero_coe
    | rw [dif_neg (by assumption), dif_pos (by omega)]; exact H.e_eq _ k
    | rw [dif_neg (by assumption), dif_neg (by omega)]; exact (congrArg (fun n => A (↑main_arg0 : DevRef τ sig) (ix2 n k)) (Fin.ext (show a.val - 112 - 16 = a.val - 128 by omega))).trans (H.x_eq _ k)

theorem v9_at (a : Fin 2176) : A (↑main_v9 : DevRef τ sig) (ix2 a 0) = ((((∑ k, hid x e a k * hid x e a k) / 1024 + eps) : ℝ) : EReal) := by
  refine (congrFun (congrFun (H.fixed [5, 6, 7, 8, 9, 10, 11, 12, 13, 14]).symm _) _).trans ?_
  after_reads_at
  simp only [v1_at H, c_1024, c_eps, ← EReal.coe_mul, ← EReal.coe_add, sum_coe, div_coe_coe _ (show (1024 : ℝ) ≠ 0 by norm_num)]

theorem v10_at (a : Fin 2176) : A (↑main_v10 : DevRef τ sig) (ix2 a 0) = ((rms (hid x e a) : ℝ) : EReal) := by
  refine (congrFun (congrFun (H.fixed [15]).symm _) _).trans ?_
  after_reads_at
  simp only [v9_at H]
  exact rsqrt_coe_pos (rms_arg_pos (hid x e a))

theorem v13_at (a : Fin 2176) : A (↑main_v13 : DevRef τ sig) (ix2 a 0) = ((-(1 / 2) * (rms (hid x e a) / ((∑ k, hid x e a k * hid x e a k) / 1024 + eps)) : ℝ) : EReal) := by
  refine (congrFun (congrFun (H.fixed [16, 17, 18, 19]).symm _) _).trans ?_
  after_reads_at
  simp only [v9_at H, v10_at H, c_neg_half]
  rw [div_coe_coe _ (rms_arg_pos (hid x e a)).ne', ← EReal.coe_mul]

theorem v15_at (a : Fin 2176) (k : Fin 1024) : A (↑main_v15 : DevRef τ sig) (ix2 a k) = ((hid x e a k * rms (hid x e a) : ℝ) : EReal) := by
  refine (congrFun (congrFun (H.fixed [20, 21]).symm _) _).trans ?_
  after_reads_at
  simp only [v1_at H, v10_at H, ← EReal.coe_mul]

theorem v19_at (a : Fin 2176) (k : Fin 1024) : A (↑main_v19 : DevRef τ sig) (ix2 a k) = ((dn p W a k : ℝ) : EReal) := by
  refine (congrFun (congrFun (H.fixed [25]).symm _) _).trans ?_
  after_reads_at
  simp only [H.p_eq, H.W_eq, ← EReal.coe_mul, sum_coe]
  rfl

theorem v22_at (k : Fin 1024) : A (↑main_v22 : DevRef τ sig) (ix2 0 k) = ((∑ a, dwRow (dn p W) (hid x e) k a : ℝ) : EReal) := by
  refine (congrFun (congrFun (H.fixed [26, 27, 28, 29]).symm _) _).trans ?_
  after_reads_at
  simp only [v15_at H, v19_at H, ← EReal.coe_mul, sum_coe]
  refine congrArg _ ?_
  simp only [dwRow, mul_comm]

theorem v24_at (a : Fin 2176) (k : Fin 1024) : A (↑main_v24 : DevRef τ sig) (ix2 a k) = ((dn p W a k * w k : ℝ) : EReal) := by
  refine (congrFun (congrFun (H.fixed [30, 31]).symm _) _).trans ?_
  after_reads_at
  simp only [v19_at H, H.w_eq, ← EReal.coe_mul]

theorem v35_at (a : Fin 2176) (k : Fin 1024) : A (↑main_v35 : DevRef τ sig) (ix2 a k) = (((∑ j, hid x e a j * (dn p W a j * w j)) * (-(1 / 2) * (rms (hid x e a) / ((∑ k, hid x e a k * hid x e a k) / 1024 + eps))) / 1024 : ℝ) : EReal) := by
  refine (congrFun (congrFun (H.fixed [32, 33, 34, 35, 39, 40, 41, 42, 43, 44, 45]).symm _) _).trans ?_
  after_reads_at
  simp only [Fin.sum_univ_one, v1_at H, v24_at H, v13_at H, c_1024, ← EReal.coe_mul, sum_coe, div_coe_coe _ (show (1024 : ℝ) ≠ 0 by norm_num)]

theorem v39_at (a : Fin 2176) (k : Fin 1024) : A (↑main_v39 : DevRef τ sig) (ix2 a k) = ((dhRow (dn p W) (hid x e) r w a k : ℝ) : EReal) := by
  refine (congrFun (congrFun (H.fixed [36, 37, 38, 46, 47, 48, 49]).symm _) _).trans ?_
  after_reads_at
  simp only [v35_at H, v1_at H, H.r_eq, v24_at H, v10_at H, ← EReal.coe_mul, ← EReal.coe_add]
  refine congrArg _ ?_
  unfold dhRow
  rw [← rmsGrad_eq]
  ring

theorem v41_at (a : Fin 16) (k : Fin 1024) : A (↑main_v41 : DevRef τ sig) (ix2 a k) = ((dhRow (dn p W) (hid x e) r w ⟨112 + a.val, by omega⟩ k : ℝ) : EReal) := by
  refine (congrFun (congrFun (H.fixed [51]).symm _) _).trans ?_
  after_reads_at
  exact v39_at H _ k

theorem v42_at (a : Fin 2048) (k : Fin 1024) : A (↑main_v42 : DevRef τ sig) (ix2 a k) = ((dhRow (dn p W) (hid x e) r w ⟨128 + a.val, by omega⟩ k : ℝ) : EReal) := by
  refine (congrFun (congrFun (H.fixed [52]).symm _) _).trans ?_
  after_reads_at
  exact v39_at H _ k

end Cert.InProjRefIdeal
-- ==== Proof.InProj.Finite.lean ====
/-
  The precondition read: every element of the arguments is the image of a real number.
-/
module

public import proofs.«01_k».proof.Proof.Lift
public import proofs.«01_k».proof.Proof.Gen.Pre_in_proj_finite

@[expose] public section

set_option maxRecDepth 16384

namespace Cert.InProj

open Idealize.ShloMosaic Lift Pre_in_proj_finite

theorem real_of_fn (a0 : FVec Ideal S2048x1024 .f32) (a1 : FVec Ideal S16x1024 .f32) (a2 : FVec Ideal S1x1024 .f32) (a3 : FVec Ideal S1024x4624 .f32) (a4 : FVec Ideal S2176x4624 .f32) (a5 : FVec Ideal S2176x1024 .f32) (a6 : FVec Ideal S8x128x128 .f32) (a7 : FVec Ideal S8x128x128 .f32)
    (j : S_.Idx) (h : fn a0 a1 a2 a3 a4 a5 a6 a7 j = 1#1) : IsReal a0 ∧ IsReal a1 ∧ IsReal a2 ∧ IsReal a3 ∧ IsReal a4 ∧ IsReal a5 := by
  have : Subsingleton S_.Idx := ⟨fun a b => funext fun i => i.elim0⟩
  unfold fn fn_part1 at h
  dsimp only at h
  obtain ⟨h, h5⟩ := and_split _ _ j h
  obtain ⟨h, h4⟩ := and_split _ _ j h
  obtain ⟨h, h3⟩ := and_split _ _ j h
  obtain ⟨h, h2⟩ := and_split _ _ j h
  obtain ⟨h0, h1⟩ := and_split _ _ j h
  refine ⟨fun i => finite_of_reduce _ _ _ ?_ _ _ j h0 i, fun i => finite_of_reduce _ _ _ ?_ _ _ j h1 i, fun i => finite_of_reduce _ _ _ ?_ _ _ j h2 i, fun i => finite_of_reduce _ _ _ ?_ _ _ j h3 i, fun i => finite_of_reduce _ _ _ ?_ _ _ j h4 i, fun i => finite_of_reduce _ _ _ ?_ _ _ j h5 i⟩
  all_goals exact fun _ => ofBits_inf

end Cert.InProj
-- ==== Proof.InProj.Claims.lean ====
/-
  The claims about the gradient of the input projection and its norm.
-/
module

public import proofs.«01_k».proof.Proof.Gen.InProj.Skeleton
public import proofs.«01_k».proof.Proof.InProj.Array
public import proofs.«01_k».proof.Proof.InProj.RefVal
public import proofs.«01_k».proof.Proof.InProj.Finite

@[expose] public section

set_option maxRecDepth 16384

open Idealize.ShloMosaic Idealize.ShloMosaic.TcCoe Idealize.SL.Sem Cert.Lift

namespace Cert.InProjRefIdeal

/-- The reference's run: every buffer ends at the line's value. -/
theorem ref_run (m : (ℓ : Loc nD τ sig) → Buf (Elt Ideal) ℓ)
    (ρ : Dev nD → PrngReg) :
    θ_run (defs (F := Ideal)) (onTc (τ := τ) (main (F := Ideal))) ⟨m, fun _ => 0, ρ⟩ fun r =>
      ∀ (d : Dev nD) (b : Ref sig .tc),
        r.2.mem ((d.tc : Thread _ _).loc b) = StableHlo.after line.1 (StableHlo.launchContents m d) (Proc.devRef .tc b) :=
  StableHlo.run_hlo _ _ line.2 (by decide) (by decide) (by unfold line; simp)
    (by unfold line; intro _ h; (repeat (cases h with | head => rfl | tail _ h => ?_)); exact nomatch h) m ρ

theorem ref_kept (m : (ℓ : Loc nD τ sig) → Buf (Elt Ideal) ℓ) (d : Dev nD)
    (b : Ref sig .tc) (h : table.1.all (fun e => e.1 != b) = true) :
    StableHlo.after line.1 (StableHlo.launchContents m d) (Proc.devRef .tc b) = m ((d.tc : Thread _ _).loc b) :=
  kept _ b h

end Cert.InProjRefIdeal

namespace Cert.InProjIdeal.Claims

open Cert.InProjRefIdeal (ref_run ref_kept)

/-- The two printed programs are one. -/
theorem defs_eq : InProj.defs (F := Bits) = defs (F := Bits) := by sl_kernel_rfl

set_option maxHeartbeats 2000000 in
theorem frame_kernel : Cert.quiescent_InProj := fun m ρ _ => by
  have h := Hand.frame (F := Bits) m ρ
  rw [← defs_eq] at h
  exact h
theorem frame_ideal : Cert.quiescent_InProjIdeal := fun m ρ _ => Hand.frame m ρ
theorem frame_ideal_pre : Cert.quiescent_InProjIdeal_pre_in_proj_finite := fun m ρ _ => Hand.frame m ρ

theorem frame_ref : Cert.quiescent_InProjRefIdeal := fun m ρ _ =>
  (θ_run InProjRefIdeal.defs _ _).mono (fun r h => ⟨fun c =>
    by refine ⟨?_, ?_, ?_, ?_, ?_, ?_, ?_, ?_⟩ <;> exact (h c _).trans (ref_kept m c _ (by decide +kernel)),
    sem_eq_zero_of_no_sems (by decide) r.2⟩) (ref_run m ρ)

theorem frame_ref_pre : Cert.quiescent_InProjRefIdeal_pre_in_proj_finite := fun m ρ _ => frame_ref m ρ trivial

theorem preserves : Cert.preserves_InProj_InProjIdeal := trivial

section
variable (m : (ℓ : Loc nD τ sig) → Buf (Elt Ideal) ℓ) (c : Dev nD)

/-- The real arrays the arguments are images of. -/
def argX (a : Fin 2048) (k : Fin 1024) : ℝ := (m ((c : Thread nD τ).loc main_arg0) (ix2 a k) : EReal).toReal
def argE (a : Fin 16) (k : Fin 1024) : ℝ := (m ((c : Thread nD τ).loc main_arg1) (ix2 a k) : EReal).toReal
def argN (k : Fin 1024) : ℝ := (m ((c : Thread nD τ).loc main_arg2) (ix2 0 k) : EReal).toReal
def argW (a : Fin 1024) (k : Fin 4624) : ℝ := (m ((c : Thread nD τ).loc main_arg3) (ix2 a k) : EReal).toReal
def argP (a : Fin 2176) (k : Fin 4624) : ℝ := (m ((c : Thread nD τ).loc main_arg4) (ix2 a k) : EReal).toReal
def argR (a : Fin 2176) (k : Fin 1024) : ℝ := (m ((c : Thread nD τ).loc main_arg5) (ix2 a k) : EReal).toReal

theorem args (hpre : Pre_InProjIdeal_in_proj_finite m) : InProj.Array.Args m c (argP m c) (argX m c) (argE m c) (argN m c) (argR m c) (argW m c) := by
  obtain ⟨h0, h1, h2, h3, h4, h5⟩ := InProj.real_of_fn _ _ _ _ _ _ _ _ (fun i => i.elim0) (congrFun (hpre c) _)
  constructor
  · exact fun a k => (h0 _).symm
  · exact fun a k => (h1 _).symm
  · exact fun k => (h2 _).symm
  · exact fun a k => (h3 _).symm
  · exact fun a k => (h4 _).symm
  · exact fun a k => (h5 _).symm

/-- The kernel's run: the results are the arrays after the last point. -/
theorem run_blocks (ρ : Dev nD → PrngReg) :
    θ_run (defs (F := Ideal)) (onTc (τ := τ) (main (F := Ideal))) ⟨m, fun _ => 0, ρ⟩ fun r => ∀ c : Dev nD,
      r.2.mem ((c.tc : Thread _ _).loc main_v25_0) = Hand.G m c main_v25_0
      ∧ r.2.mem ((c.tc : Thread _ _).loc main_v25_1) = (Hand.dats m 0 c).arrAt 9 cfg0.N
      ∧ r.2.mem ((c.tc : Thread _ _).loc main_v25_2) = (Hand.dats m 0 c).arrAt 10 cfg0.N
      ∧ r.2.mem ((c.tc : Thread _ _).loc main_v25_3) = m ((c.tc : Thread _ _).loc main_arg6)
      ∧ r.2.mem ((c.tc : Thread _ _).loc main_v25_4) = m ((c.tc : Thread _ _).loc main_arg7)
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)
      ∧ r.2.mem ((c.tc : Thread _ _).loc main_arg3) = m ((c.tc : Thread _ _).loc main_arg3)
      ∧ r.2.mem ((c.tc : Thread _ _).loc main_arg4) = m ((c.tc : Thread _ _).loc main_arg4)
      ∧ r.2.mem ((c.tc : Thread _ _).loc main_arg5) = m ((c.tc : Thread _ _).loc main_arg5)
      ∧ r.2.mem ((c.tc : Thread _ _).loc main_arg6) = m ((c.tc : Thread _ _).loc main_arg6)
      ∧ r.2.mem ((c.tc : Thread _ _).loc main_arg7) = m ((c.tc : Thread _ _).loc main_arg7) :=
  (θ_run defs _ _).mono (fun _ h c => ⟨h.1.written c (by decide), (h.1.toR c).1 9, (h.1.toR c).1 10, (Hand.untouched m h.1 c _ (by decide)).trans InProj.Array.V25_3, (Hand.untouched m h.1 c _ (by decide)).trans InProj.Array.V25_4, Hand.args_kept m h.1 c⟩)
    (Hand.run_main m ρ)

end

/-- The kernel and the reference compute the same gradients. -/
theorem algebraic : Cert.algebraic_InProjIdeal_InProjRefIdeal_pre_in_proj_finite := by
  intro m g m' g' hpre hagree
  refine ⟨_, _, _, _, _, run_blocks m g, (θ_run InProjRefIdeal.defs _ _).mono (fun r h c => ?_) (ref_run m' g')⟩
  obtain ⟨h0, h1, h2, h3, h4, h5, h6, h7⟩ := hagree c
  have H := args m c hpre
  have R : InProjRefIdeal.Reals (StableHlo.after InProjRefIdeal.line.1 (StableHlo.launchContents m' c)) (argP m c) (argX m c) (argE m c) (argN m c) (argR m c) (argW m c) :=
    ⟨InProjRefIdeal.fixed _,
      fun a k => ((congrFun ((ref_kept m' c _ (by decide +kernel)).trans h0) _).trans (H.x_eq a k)),
      fun a k => ((congrFun ((ref_kept m' c _ (by decide +kernel)).trans h1) _).trans (H.e_eq a k)),
      fun k => ((congrFun ((ref_kept m' c _ (by decide +kernel)).trans h2) _).trans (H.w_eq k)),
      fun a k => ((congrFun ((ref_kept m' c _ (by decide +kernel)).trans h3) _).trans (H.W_eq a k)),
      fun a k => ((congrFun ((ref_kept m' c _ (by decide +kernel)).trans h4) _).trans (H.p_eq a k)),
      fun a k => ((congrFun ((ref_kept m' c _ (by decide +kernel)).trans h5) _).trans (H.r_eq a k))⟩
  have q := fun b hb => (h c b).trans (ref_kept m' c b hb)
  refine ⟨(h c _).trans ?_, (h c _).trans ?_, (h c _).trans ?_, (h c _).trans ((ref_kept m' c _ (by decide +kernel)).trans h6), (h c _).trans ((ref_kept m' c _ (by decide +kernel)).trans h7),
    q _ (by decide +kernel), q _ (by decide +kernel), q _ (by decide +kernel), q _ (by decide +kernel), q _ (by decide +kernel), q _ (by decide +kernel), q _ (by decide +kernel), q _ (by decide +kernel)⟩
  · funext i
    obtain ⟨a, k, rfl⟩ : ∃ (a : Fin 2048) (k : Fin 1024), i = ix2 a k := ⟨i 0, i 1, eq_ix2 i⟩
    exact (InProjRefIdeal.v42_at R a k).trans (InProj.Array.arrX H a k).symm
  · funext i
    obtain ⟨a, k, rfl⟩ : ∃ (a : Fin 16) (k : Fin 1024), i = ix2 a k := ⟨i 0, i 1, eq_ix2 i⟩
    exact (InProjRefIdeal.v41_at R a k).trans (InProj.Array.arr9 H a k).symm
  · funext i
    obtain ⟨a, k, rfl⟩ : ∃ (a : Fin 1) (k : Fin 1024), i = ix2 a k := ⟨i 0, i 1, eq_ix2 i⟩
    obtain rfl : a = 0 := Subsingleton.elim _ _
    exact (InProjRefIdeal.v22_at R k).trans (InProj.Array.arr10 H 0 k).symm

end Cert.InProjIdeal.Claims
-- ==== Proof.OutProj.Row.lean ====
/-
  One row of the output projection's operand, on the extended reals: the state-space branch beside the normalised, gated recurrence.
-/
module

public import proofs.«01_k».proof.Proof.Spec

@[expose] public section

noncomputable section

namespace Cert.OutProj.Row

open Idealize.ShloMosaic Lift Spec

/-- The tanh form of the gate. -/
def gate (x : EReal) : EReal :=
  ((1 / 2 : ℝ) : EReal) * x * (((1 : ℝ) : EReal) + Ideal.tanh (((geluScale : ℝ) : EReal) * (x + ((8943 / 200000 : ℝ) : EReal) * (x * x * x))))

/-- The gated recurrence, normalised. -/
def normed (x h w : Fin 1024 → EReal) (k : Fin 1024) : EReal :=
  gate (x k) * h k
    * Ideal.rsqrt (Ideal.div (∑ k, gate (x k) * h k * (gate (x k) * h k)) ((1024 : ℝ) : EReal) + ((eps : ℝ) : EReal)) * w k

/-- The operand's row. -/
def cat (y x h w : Fin 1024 → EReal) (j : Fin 2048) : EReal :=
  if hj : j.val < 1024 then y ⟨j.val, hj⟩ else normed x h w ⟨j.val - 1024, by omega⟩

theorem cat_left (y x h w : Fin 1024 → EReal) (j : Fin 2048) (hj : j.val < 1024) : cat y x h w j = y ⟨j.val, hj⟩ := dif_pos hj

theorem cat_right (y x h w : Fin 1024 → EReal) (k : Fin 1024) (j : Fin 2048) (hj : j.val = 1024 + k.val) : cat y x h w j = normed x h w k := by
  unfold cat
  rw [dif_neg (by omega)]
  exact congrArg _ (Fin.ext (by dsimp only; omega))

/-- The result's row: the residual plus the product with the weight. -/
def out (y x h w : Fin 1024 → EReal) (W : Fin 2048 → Fin 1024 → EReal) (r : Fin 1024 → EReal) (k : Fin 1024) : EReal :=
  r k + ∑ j, cat y x h w j * W j k

end Cert.OutProj.Row

end
-- ==== Proof.OutProj.Block.lean ====
/-
  The output projection at one grid point: what its stores leave in the two output blocks, element by element.
-/
module

public import proofs.«01_k».proof.Proof.OutProj.Row
public import proofs.«01_k».proof.Proof.Halves
public import proofs.«01_k».proof.Proof.Gen.OutProjIdeal.Value

@[expose] public section

set_option maxRecDepth 16384

noncomputable section

namespace Cert.OutProj.Block

open Idealize.ShloMosaic Idealize.ShloMosaic.TcCoe OutProjIdeal OutProjIdeal.Gen Lift Spec Rows OutProj.Row

theorem cubic : (Named.named (F := Ideal) (φ := .f32) OutProjIdeal.κ "gelu_cubic" 0x3D372713#32) = ((8943 / 200000 : ℝ) : EReal) :=
  IdealRules.named_const.ideal_named_scalar _ _ _ _ rfl

theorem pay4_at (v3 : Vec Ideal S272x1024 .bf16) (v19 : Vec Ideal S272x1024 .f32) (v21 : Vec Ideal S1x1024 .f32) (a : Fin 272) (k : Fin 1024) :
    k0_pay4 (F := Ideal) v3 v19 v21 (ix2 a k) = normed (fun k => v3 (ix2 a k)) (fun k => v19 (ix2 a k)) (fun k => v21 (ix2 0 k)) k := by
  pointwise [k0_pay4]
  simp only [cubic, c_half, c_geluScale, one_coe, c_1024, c_eps]
  rfl

theorem pay1_at (v3 : Vec Ideal S272x1024 .bf16) (v19 : Vec Ideal S272x1024 .f32) (v21 : Vec Ideal S1x1024 .f32) (a : Fin 272) (k : Fin 1024) :
    k0_pay1 (F := Ideal) v3 v19 v21 (ix2 a k) = normed (fun k => v3 (ix2 a k)) (fun k => v19 (ix2 a k)) (fun k => v21 (ix2 0 k)) k := by
  pointwise [k0_pay1]
  simp only [cubic, c_half, c_geluScale, one_coe, c_1024, c_eps]
  rfl

theorem pay3_at (v0 : Vec Ideal S544x1024 .bf16) (a : Fin 544) (k : Fin 1024) : k0_pay3 (F := Ideal) v0 (ix2 a k) = v0 (ix2 a k) := by
  pointwise [k0_pay3]

theorem pay2_at (v73 : Vec Ideal S544x512 .f32) (v74 : Vec Ideal S544x2048 .bf16) (v77 : Vec Ideal S2048x512 .bf16) (a : Fin 544) (b : Fin 512) :
    k0_pay2 (F := Ideal) v73 v74 v77 (ix2 a b) = v73 (ix2 a b) + ∑ m : Fin 2048, v74 (ix2 a m) * v77 (ix2 m b) := by
  pointwise [k0_pay2]

theorem off1_eq : ∀ k : Fin k0_t1_loop.trips, k0_off1 k = ![0, 512 * k.val] := by decide +kernel
theorem off2_eq : ∀ k : Fin k0_t1_loop.trips, k0_off2 k = ![0, 512 * k.val] := by decide +kernel
theorem trips_eq : k0_t1_loop.trips = 2 := by decide +kernel

variable {c : Dev nD} {i : grid0.Coords} {arg1 : Memref sig .tc .vmem S544x1024 .bf16} {harg1 : arg1.IsWhole} {arg2 : Memref sig .tc .vmem S544x1024 .bf16} {harg2 : arg2.IsWhole} {arg3 : Memref sig .tc .vmem S544x1024 .f32} {harg3 : arg3.IsWhole} {arg4 : Memref sig .tc .vmem S1x1024 .f32} {harg4 : arg4.IsWhole} {arg5 : Memref sig .tc .vmem S2048x1024 .bf16} {harg5 : arg5.IsWhole} {arg6 : Memref sig .tc .vmem S544x1024 .f32} {harg6 : arg6.IsWhole} {arg7 : Memref sig .tc .vmem S544x1024 .f32} {harg7 : arg7.IsWhole} {arg8 : Memref sig .tc .vmem S544x2048 .bf16} {harg8 : arg8.IsWhole}
variable {x0 x1 : Vec Ideal S544x1024 .bf16} {x2 : Vec Ideal S544x1024 .f32} {x3 : Vec Ideal S1x1024 .f32} {x4 : Vec Ideal S2048x1024 .bf16}
  {x5 : Vec Ideal S544x1024 .f32} {X8 : BufTy.Contents (Elt Ideal) arg8.view.ty} {C : Fin 544 → Fin 2048 → EReal}

/-- The residual plus the product with the weight, when the operand's block reads `C`. -/
def prod (C : Fin 544 → Fin 2048 → EReal) (x4 : Vec Ideal S2048x1024 .bf16) (x5 : Vec Ideal S544x1024 .f32) (j : S544x1024.Idx) : Ideal .f32 :=
  x5 j + ∑ m : Fin 2048, C (j 0) m * x4 (ix2 m (j 1))

section
variable (c i arg1 harg1 arg2 harg2 arg3 harg3 arg4 harg4 arg5 harg5 arg6 harg6 arg7 harg7 arg8 harg8 x4 x5 X8)

/-- One trip's stores. -/
abbrev trip (k : Fin k0_t1_loop.trips) : List (View.Piece (Elt Ideal) S544x1024 .f32) :=
  tripL_k0_t1 (F := Ideal) Variants.none c none i arg1 harg1 arg2 harg2 arg3 harg3 arg4 harg4 arg5 harg5 arg6 harg6 arg7 harg7 arg8 harg8 (harg5.unread x4) (harg6.unread x5) X8 k

theorem trip_out (hX : ∀ inb a m, View.readAt (Elt Ideal) arg8.view (Rect.unit (s := S544x2048) ![0, 0] S544x2048.size inb).toLoadRect X8 (ix2 a m) = C a m)
    (k : Fin k0_t1_loop.trips) :
    (∀ p ∈ trip c i arg1 harg1 arg2 harg2 arg3 harg3 arg4 harg4 arg5 harg5 arg6 harg6 arg7 harg7 arg8 harg8 x4 x5 X8 k, ∀ x : p.1.shape.Idx, p.2 x = prod C x4 x5 (p.1.emb x))
    ∧ ∃ p ∈ trip c i arg1 harg1 arg2 harg2 arg3 harg3 arg4 harg4 arg5 harg5 arg6 harg6 arg7 harg7 arg8 harg8 x4 x5 X8 k,
      ∀ (a : Fin 544) (b : Fin 1024), 512 * k.val ≤ b.val → b.val < 512 * k.val + 512 → (ix2 a b : S544x1024.Idx) ∈ p.1.set := by
  unfold trip tripL_k0_t1 trip_k0_t1
  refine ⟨fun p hp => ?_, ⟨_, List.mem_singleton.mpr rfl, fun a b h1 h2 => ?_⟩⟩
  rotate_left
  · refine (mem_at (k0_off1_inb k) (off1_eq k) a b).mpr ⟨⟨Nat.zero_le _, by simpa using a.isLt⟩, h1, h2⟩
  obtain rfl := List.mem_singleton.mp hp
  dsimp only
  intro x
  obtain ⟨a, b, rfl⟩ : ∃ (a : Fin 544) (b : Fin 512), x = ix2 a b := ⟨x 0, x 1, eq_ix2 x⟩
  refine (pay2_at _ _ _ a b).trans ?_
  simp only [hX]
  simp only [View.readAt_eq_ld, harg5.read_unread, harg6.read_unread]
  refine Eq.trans ?_ (congrArg (prod C x4 x5) (emb_at _ (off1_eq k) a b)).symm
  unfold prod
  refine congrArg₂ (· + ·) ((ld_at x5 _ (off1_eq k) a b).trans rfl) (Finset.sum_congr rfl fun m _ => congrArg₂ (· * ·) (congrArg (C · m) (Fin.ext ?_)) ((ld_at x4 _ (off2_eq k) m b).trans (congrArg x4 (congrArg₂ ix2 (Fin.ext ?_) rfl))))
    <;> simp

theorem canon_out (hX : ∀ inb a m, View.readAt (Elt Ideal) arg8.view (Rect.unit (s := S544x2048) ![0, 0] S544x2048.size inb).toLoadRect X8 (ix2 a m) = C a m)
    (a : Fin 544) (b : Fin 1024) :
    View.canon (pb_k0_t1 (F := Ideal) Variants.none c none i arg1 harg1 arg2 harg2 arg3 harg3 arg4 harg4 arg5 harg5 arg6 harg6 arg7 harg7 arg8 harg8 (harg5.unread x4) (harg6.unread x5) X8 2) (ix2 a b)
      = prod C x4 x5 (ix2 a b) := by
  have T := trip_out c i arg1 harg1 arg2 harg2 arg3 harg3 arg4 harg4 arg5 harg5 arg6 harg6 arg7 harg7 arg8 harg8 x4 x5 X8 hX
  rw [show (2 : ℕ) = (⟨1, by decide +kernel⟩ : Fin k0_t1_loop.trips).val + 1 from rfl, pb_k0_t1_succ,
    show ((⟨1, by decide +kernel⟩ : Fin k0_t1_loop.trips).val : ℕ) = (⟨0, by decide +kernel⟩ : Fin k0_t1_loop.trips).val + 1 from rfl, pb_k0_t1_succ,
    show ((⟨0, by decide +kernel⟩ : Fin k0_t1_loop.trips).val : ℕ) = 0 from rfl, pb_k0_t1]
  refine View.canon_apply_of_pieces (Val := Elt Ideal) (e := .f32) (prod C x4 x5) _ (fun p hp => ?_) _ ?_
  · rcases List.mem_append.mp hp with hp | hp
    · exact (T _).1 p hp
    · exact (T _).1 p ((List.append_nil _) ▸ hp)
  · rcases Nat.lt_or_ge b.val 512 with hb | hb
    · obtain ⟨p, hp, h⟩ := (T ⟨0, by decide +kernel⟩).2
      exact ⟨p, List.mem_append_right _ (List.mem_append_left _ hp), h a b (by simp) (by simpa using hb)⟩
    · obtain ⟨p, hp, h⟩ := (T ⟨1, by decide +kernel⟩).2
      exact ⟨p, List.mem_append_left _ hp, h a b (by simpa using hb) (by simpa using b.isLt)⟩

end

/-- The operand's block. -/
def catBlk (x0 x1 : Vec Ideal S544x1024 .bf16) (x2 : Vec Ideal S544x1024 .f32) (x3 : Vec Ideal S1x1024 .f32) (a : Fin 544) (j : Fin 2048) : EReal :=
  cat (fun k => x0 (ix2 a k)) (fun k => x1 (ix2 a k)) (fun k => x2 (ix2 a k)) (fun k => x3 (ix2 0 k)) j

/-- The operand as a function of the block's index. -/
def catFn (x0 x1 : Vec Ideal S544x1024 .bf16) (x2 : Vec Ideal S544x1024 .f32) (x3 : Vec Ideal S1x1024 .f32) (j : S544x2048.Idx) : Elt Ideal .bf16 :=
  catBlk x0 x1 x2 x3 (j 0) (j 1)

/-- The normalised half is computed by two blocks of rows. -/
theorem half_at (f : Vec Ideal S272x1024 .bf16 → Vec Ideal S272x1024 .f32 → Vec Ideal S1x1024 .f32 → FVec Ideal S272x1024 .bf16)
    (hf : ∀ v3 v19 v21 a k, f v3 v19 v21 (ix2 a k) = normed (fun k => v3 (ix2 a k)) (fun k => v19 (ix2 a k)) (fun k => v21 (ix2 0 k)) k)
    (o : ℕ) (ho : o + 272 ≤ 544) (inb1 inb2 inb3) (inb) (x : S272x1024.Idx) :
    f (View.readAt (Elt Ideal) arg2.view (Rect.unit (s := S544x1024) ![o, 0] S272x1024.size inb1).toLoadRect (harg2.unread x1))
      (View.readAt (Elt Ideal) arg3.view (Rect.unit (s := S544x1024) ![o, 0] S272x1024.size inb2).toLoadRect (harg3.unread x2))
      (View.readAt (Elt Ideal) arg4.view (Rect.unit (s := S1x1024) ![0, 0] S1x1024.size inb3).toLoadRect (harg4.unread x3)) x
      = catFn x0 x1 x2 x3 ((Rect.unit (s := S544x2048) ![o, 1024] S272x1024.size inb).emb x) := by
  obtain ⟨a, k, rfl⟩ : ∃ (a : Fin 272) (k : Fin 1024), x = ix2 a k := ⟨x 0, x 1, eq_ix2 x⟩
  refine (hf _ _ _ a k).trans (Eq.trans ?_ (congrArg (catFn x0 x1 x2 x3) (emb_at (o0 := o) (o1 := 1024) _ rfl a k)).symm)
  unfold catFn catBlk
  refine Eq.trans ?_ (cat_right _ _ _ _ k _ rfl).symm
  simp only [View.readAt_eq_ld, harg2.read_unread, harg3.read_unread, harg4.read_unread]
  congr 1 <;> funext k'
  rotate_left 2
  · exact congrFun (View.ld_unit_zero (S := S1x1024) hz _ _) _
  · exact (ld_at x1 _ rfl a k').trans (congrArg x1 (congrArg (ix2 _) (Fin.ext (Nat.zero_add _))))
  · exact (ld_at x2 _ rfl a k').trans (congrArg x2 (congrArg (ix2 _) (Fin.ext (Nat.zero_add _))))

theorem left_at (inb0) (inb) (x : S544x1024.Idx) :
    k0_pay3 (F := Ideal) (View.readAt (Elt Ideal) arg1.view (Rect.unit (s := S544x1024) ![0, 0] S544x1024.size inb0).toLoadRect (harg1.unread x0)) x
      = catFn x0 x1 x2 x3 ((Rect.unit (s := S544x2048) ![0, 0] S544x1024.size inb).emb x) := by
  obtain ⟨a, k, rfl⟩ : ∃ (a : Fin 544) (k : Fin 1024), x = ix2 a k := ⟨x 0, x 1, eq_ix2 x⟩
  refine (pay3_at _ a k).trans (Eq.trans ?_ (congrArg (catFn x0 x1 x2 x3) (emb_at (o0 := 0) (o1 := 0) _ rfl a k)).symm)
  unfold catFn catBlk
  have hk : 0 + k.val < 1024 := by have := k.isLt; omega
  refine Eq.trans ?_ (cat_left _ _ _ _ _ hk).symm
  rw [View.readAt_eq_ld, harg1.read_unread, View.ld_unit_zero (S := S544x1024) hz]
  exact congrArg x0 (congrArg₂ ix2 (Fin.ext (Nat.zero_add _).symm) (Fin.ext (Nat.zero_add _).symm))

section
variable (arg1 harg1 arg2 harg2 arg3 harg3 arg4 harg4 x0 x1 x2 x3)

/-- The stores into the operand's block, the last first. -/
abbrev stores : List (View.Piece (Elt Ideal) S544x2048 .bf16) :=
  [⟨Rect.unit ![272, 1024] ![272, 1024] inb_S544x2048_S272x1024_272_1024,
      k0_pay1
        (View.readAt (Elt Ideal) arg2.view (Rect.unit (s := S544x1024) ![272, 0] ![272, 1024] inb_S544x1024_S272x1024_272_0).toLoadRect (harg2.unread x1))
        (View.readAt (Elt Ideal) arg3.view (Rect.unit (s := S544x1024) ![272, 0] ![272, 1024] inb_S544x1024_S272x1024_272_0).toLoadRect (harg3.unread x2))
        (View.readAt (Elt Ideal) arg4.view (Rect.unit (s := S1x1024) ![0, 0] ![1, 1024] inb_S1x1024_S1x1024_0_0).toLoadRect (harg4.unread x3))⟩,
    ⟨Rect.unit ![0, 1024] S272x1024.size inb_S544x2048_S272x1024_0_1024,
      k0_pay4
        (View.readAt (Elt Ideal) arg2.view (Rect.unit (s := S544x1024) ![0, 0] S272x1024.size inb_S544x1024_S272x1024_0_0).toLoadRect (harg2.unread x1))
        (View.readAt (Elt Ideal) arg3.view (Rect.unit (s := S544x1024) ![0, 0] S272x1024.size inb_S544x1024_S272x1024_0_0).toLoadRect (harg3.unread x2))
        (View.readAt (Elt Ideal) arg4.view (Rect.unit (s := S1x1024) ![0, 0] S1x1024.size inb_S1x1024_S1x1024_0_0).toLoadRect (harg4.unread x3))⟩,
    ⟨Rect.unit ![0, 0] S544x1024.size inb_S544x2048_S544x1024_0_0,
      k0_pay3 (View.readAt (Elt Ideal) arg1.view (Rect.unit (s := S544x1024) ![0, 0] S544x1024.size inb_S544x1024_S544x1024_0_0).toLoadRect (harg1.unread x0))⟩]

theorem canon_stores (a : Fin 544) (j : Fin 2048) :
    View.canon (stores arg1 harg1 arg2 harg2 arg3 harg3 arg4 harg4 x0 x1 x2 x3) (ix2 a j) = catBlk x0 x1 x2 x3 a j := by
  refine View.canon_apply_of_pieces (Val := Elt Ideal) (e := .bf16) (catFn x0 x1 x2 x3) _ (fun p hp => ?_) _ ?_
  · rcases List.mem_cons.mp hp with rfl | hp
    · exact half_at _ pay1_at 272 (by omega) _ _ _ inb_S544x2048_S272x1024_272_1024
    rcases List.mem_cons.mp hp with rfl | hp
    · exact half_at _ pay4_at 0 (by omega) _ _ _ inb_S544x2048_S272x1024_0_1024
    obtain rfl := List.mem_singleton.mp hp
    exact left_at _ inb_S544x2048_S544x1024_0_0
  · have ha := a.isLt
    have hj := j.isLt
    rcases Nat.lt_or_ge j.val 1024 with h | h
    · exact ⟨_, List.mem_cons_of_mem _ (List.mem_cons_of_mem _ List.mem_cons_self), (mem_at (o0 := 0) (o1 := 0) inb_S544x2048_S544x1024_0_0 rfl a j).mpr ⟨⟨by omega, by omega⟩, by omega, by omega⟩⟩
    rcases Nat.lt_or_ge a.val 272 with h' | h'
    · exact ⟨_, List.mem_cons_of_mem _ List.mem_cons_self, (mem_at (o0 := 0) (o1 := 1024) inb_S544x2048_S272x1024_0_1024 rfl a j).mpr ⟨⟨by omega, by omega⟩, by omega, by omega⟩⟩
    · exact ⟨_, List.mem_cons_self, (mem_at (o0 := 272) (o1 := 1024) inb_S544x2048_S272x1024_272_1024 rfl a j).mpr ⟨⟨by omega, by omega⟩, by omega, by omega⟩⟩

end

theorem out_7 (a : Fin 544) (j : Fin 2048) :
    out0_A_7 c i arg1 harg1 arg2 harg2 arg3 harg3 arg4 harg4 arg5 harg5 arg6 harg6 arg7 harg7 arg8 harg8 x0 x1 x2 x3 x4 x5 (ix2 a j) = catBlk x0 x1 x2 x3 a j := by
  unfold out0_A_7
  rw [View.read_writes_junk_eq_canon]
  unfold kernelRun0_A
  dsimp only
  sl_unfold_words
  exact canon_stores arg1 harg1 arg2 harg2 arg3 harg3 arg4 harg4 x0 x1 x2 x3 a j

theorem out_6 (a : Fin 544) (b : Fin 1024) :
    out0_A_6 c i arg1 harg1 arg2 harg2 arg3 harg3 arg4 harg4 arg5 harg5 arg6 harg6 arg7 harg7 arg8 harg8 x0 x1 x2 x3 x4 x5 (ix2 a b)
      = out (fun k => x0 (ix2 a k)) (fun k => x1 (ix2 a k)) (fun k => x2 (ix2 a k)) (fun k => x3 (ix2 0 k)) (fun j k => x4 (ix2 j k)) (fun k => x5 (ix2 a k)) b := by
  unfold out0_A_6
  rw [View.read_writes_junk_eq_canon]
  unfold kernelRun0_A
  dsimp only
  sl_unfold_words
  refine canon_out c i arg1 harg1 arg2 harg2 arg3 harg3 arg4 harg4 arg5 harg5 arg6 harg6 arg7 harg7 arg8 harg8 x4 x5 _ (C := catBlk x0 x1 x2 x3) (fun inb a m => ?_) a b
  rw [View.readAt_eq_ld, View.read_writes_junk_eq_canon, View.ld_unit_zero (S := S544x2048) hz]
  exact canon_stores arg1 harg1 arg2 harg2 arg3 harg3 arg4 harg4 x0 x1 x2 x3 a m

end Cert.OutProj.Block

end
-- ==== Proof.OutProj.Array.lean ====
/-
  The output projection's two result arrays, as functions of the arguments: each row of a point's block is a row of the array.
-/
module

public import proofs.«01_k».proof.Proof.OutProj.Block
public import Idealize.ShloMosaic.Lib.StableHlo.ReadAt

@[expose] public section

set_option maxRecDepth 16384

noncomputable section

namespace Cert.OutProj.Array

open Idealize.ShloMosaic Idealize.ShloMosaic.TcCoe Idealize.ShloMosaic.StableHlo Idealize.SL Idealize.SL.Sem
open OutProjIdeal OutProjIdeal.Gen Rows OutProj.Row OutProj.Block

variable (m : (ℓ : Loc nD τ sig) → Buf (Elt Ideal) ℓ) (c : Dev nD)

/-- Row `a` of point `t`'s block. -/
def row (t : Fin cfg0.N) (a : Fin 544) : Fin 2176 := ⟨544 * t.val + a.val, by have : cfg0.N = 4 := N_0; have := t.isLt; omega⟩

theorem idx0 : ∀ t : Fin cfg0.N, win0_0.index t 0 = t.val ∧ win0_0.index t 1 = 0 := (by decide +kernel : ∀ t : Fin grid0.N, _)
theorem idx1 : ∀ t : Fin cfg0.N, win0_1.index t 0 = t.val ∧ win0_1.index t 1 = 1 := (by decide +kernel : ∀ t : Fin grid0.N, _)
theorem idx2 : ∀ t : Fin cfg0.N, win0_2.index t 0 = t.val ∧ win0_2.index t 1 = 0 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = 0 ∧ win0_4.index t 1 = 0 := (by decide +kernel : ∀ t : Fin grid0.N, _)
theorem idx5 : ∀ t : Fin cfg0.N, win0_5.index t 0 = t.val ∧ win0_5.index t 1 = 0 := (by decide +kernel : ∀ t : Fin grid0.N, _)
theorem idx6 : ∀ t : Fin cfg0.N, win0_6.index t 0 = t.val ∧ win0_6.index t 1 = 0 := (by decide +kernel : ∀ t : Fin grid0.N, _)
theorem idx7 : ∀ t : Fin cfg0.N, win0_7.index t 0 = t.val ∧ win0_7.index t 1 = 0 := (by decide +kernel : ∀ t : Fin grid0.N, _)

theorem iblk0 (t : Fin cfg0.N) (a : Fin 544) (k : Fin 1024) : iblk m c 0 t (ix2 a k) = V m c main_v5 (ix2 (row t a) k) := by
  refine congrArg (V m c main_v5) (funext fun i => Fin.ext ?_)
  match i with
  | ⟨0, _⟩ => show win0_0.index t 0 * 544 + 1 * a.val = _; rw [(idx0 t).1]; show _ = 544 * t.val + a.val; omega
  | ⟨1, _⟩ => show win0_0.index t 1 * 1024 + 1 * k.val = _; rw [(idx0 t).2]; show _ = k.val; omega

theorem iblk1 (t : Fin cfg0.N) (a : Fin 544) (k : Fin 1024) : X0_1 m c t (ix2 a k) = V m c main_v4 (ix2 (row t a) ⟨1024 + k.val, by omega⟩) := by
  unfold X0_1 Pipeline.Window.fill
  rw [dif_pos (moved0_1 t _)]
  refine congrArg (V m c main_v4) (funext fun i => Fin.ext ?_)
  match i with
  | ⟨0, _⟩ => show win0_1.index t 0 * 544 + 1 * a.val = _; rw [(idx1 t).1]; show _ = 544 * t.val + a.val; omega
  | ⟨1, _⟩ => show win0_1.index t 1 * 1024 + 1 * k.val = _; rw [(idx1 t).2]; show _ = 1024 + k.val; omega

theorem iblk2 (t : Fin cfg0.N) (a : Fin 544) (k : Fin 1024) : iblk m c 2 t (ix2 a k) = V m c main_arg2 (ix2 (row t a) k) := by
  refine congrArg (V m c main_arg2) (funext fun i => Fin.ext ?_)
  match i with
  | ⟨0, _⟩ => show win0_2.index t 0 * 544 + 1 * a.val = _; rw [(idx2 t).1]; show _ = 544 * t.val + a.val; omega
  | ⟨1, _⟩ => show win0_2.index t 1 * 1024 + 1 * k.val = _; rw [(idx2 t).2]; show _ = k.val; omega

theorem iblk3 (t : Fin cfg0.N) (a : Fin 1) (k : Fin 1024) : iblk m c 3 t (ix2 a k) = V m c main_arg3 (ix2 a k) := by
  refine congrArg (V m c main_arg3) (funext fun i => Fin.ext ?_)
  match i with
  | ⟨0, _⟩ => show win0_3.index t 0 * 1 + 1 * a.val = _; rw [(idx3 t).1]; show _ = a.val; omega
  | ⟨1, _⟩ => show win0_3.index t 1 * 1024 + 1 * k.val = _; rw [(idx3 t).2]; show _ = k.val; omega

theorem iblk4 (t : Fin cfg0.N) (a : Fin 2048) (k : Fin 1024) : iblk m c 4 t (ix2 a k) = V m c main_v6 (ix2 a k) := by
  refine congrArg (V m c main_v6) (funext fun i => Fin.ext ?_)
  match i with
  | ⟨0, _⟩ => show win0_4.index t 0 * 2048 + 1 * a.val = _; rw [(idx4 t).1]; show _ = a.val; omega
  | ⟨1, _⟩ => show win0_4.index t 1 * 1024 + 1 * k.val = _; rw [(idx4 t).2]; show _ = k.val; omega

theorem iblk5 (t : Fin cfg0.N) (a : Fin 544) (k : Fin 1024) : iblk m c 5 t (ix2 a k) = V m c main_arg5 (ix2 (row t a) k) := by
  refine congrArg (V m c main_arg5) (funext fun i => Fin.ext ?_)
  match i with
  | ⟨0, _⟩ => show win0_5.index t 0 * 544 + 1 * a.val = _; rw [(idx5 t).1]; show _ = 544 * t.val + a.val; omega
  | ⟨1, _⟩ => show win0_5.index t 1 * 1024 + 1 * k.val = _; rw [(idx5 t).2]; show _ = k.val; omega

theorem V0 (a : Fin 2176) (k : Fin 1024) : V m c main_v5 (ix2 a k) = m ((c : Thread nD τ).loc main_arg0) (ix2 a k) := by
  unfold V
  after_reads_at

theorem V4 (a : Fin 2048) (k : Fin 1024) : V m c main_v6 (ix2 a k) = m ((c : Thread nD τ).loc main_arg4) (ix2 a k) := by
  unfold V
  after_reads_at

/-- The packed projection's second thousand columns are the gate's. -/
theorem V1 (a : Fin 2176) (k : Fin 1024) : V m c main_v4 (ix2 a ⟨1024 + k.val, by omega⟩) = m ((c : Thread nD τ).loc main_arg1) (ix2 a ⟨2576 + k.val, by omega⟩) := by
  unfold V
  after_reads_at
  rw [dif_pos (by omega)]
  after_reads_at

/-- The rows of the arguments. -/
def y (r : Fin 2176) (k : Fin 1024) : EReal := m ((c : Thread nD τ).loc main_arg0) (ix2 r k)
def x (r : Fin 2176) (k : Fin 1024) : EReal := m ((c : Thread nD τ).loc main_arg1) (ix2 r ⟨2576 + k.val, by omega⟩)
def h (r : Fin 2176) (k : Fin 1024) : EReal := m ((c : Thread nD τ).loc main_arg2) (ix2 r k)
def w (k : Fin 1024) : EReal := m ((c : Thread nD τ).loc main_arg3) (ix2 0 k)
def W (j : Fin 2048) (k : Fin 1024) : EReal := m ((c : Thread nD τ).loc main_arg4) (ix2 j k)
def res (r : Fin 2176) (k : Fin 1024) : EReal := m ((c : Thread nD τ).loc main_arg5) (ix2 r k)

theorem y_row (t : Fin cfg0.N) (a : Fin 544) : (fun k => iblk m c 0 t (ix2 a k)) = y m c (row t a) := funext fun k => (iblk0 m c t a k).trans (V0 m c _ k)
theorem x_row (t : Fin cfg0.N) (a : Fin 544) : (fun k => X0_1 m c t (ix2 a k)) = x m c (row t a) := funext fun k => (iblk1 m c t a k).trans (V1 m c _ k)
theorem h_row (t : Fin cfg0.N) (a : Fin 544) : (fun k => iblk m c 2 t (ix2 a k)) = h m c (row t a) := funext fun k => (iblk2 m c t a k).trans (congrFun (V_main_arg2 m c) _)
theorem w_row (t : Fin cfg0.N) : (fun k => iblk m c 3 t (ix2 0 k)) = w m c := funext fun k => (iblk3 m c t 0 k).trans (congrFun (V_main_arg3 m c) _)
theorem W_row (t : Fin cfg0.N) : (fun j k => iblk m c 4 t (ix2 j k)) = W m c := funext fun j => funext fun k => (iblk4 m c t j k).trans (V4 m c j k)
theorem res_row (t : Fin cfg0.N) (a : Fin 544) : (fun k => iblk m c 5 t (ix2 a k)) = res m c (row t a) := funext fun k => (iblk5 m c t a k).trans (congrFun (V_main_arg5 m c) _)

theorem row_of (r : Fin 2176) : ∃ (t : Fin cfg0.N) (a : Fin 544), r = row t a :=
  ⟨⟨r.val / 544, by rw [show cfg0.N = 4 from N_0]; omega⟩, ⟨r.val % 544, Nat.mod_lt _ (by decide)⟩, Fin.ext (Nat.div_add_mod _ _).symm⟩

theorem arr6 (r : Fin 2176) (k : Fin 1024) :
    (dats m 0 c).arrAt 6 cfg0.N (ix2 r k) = out (y m c r) (x m c r) (h m c r) (w m c) (W m c) (res m c r) k := by
  obtain ⟨t, a, rfl⟩ := row_of r
  refine Eq.trans ?_ (((congrFun (Value.blocks6 m c t (flush0_6 t)) (ix2 a k)).trans (congrFun (Value.flushed6_A m c t) (ix2 a k))).trans ((out_6 a k).trans ?_))
  · refine congrArg ((dats m 0 c).arrAt 6 cfg0.N) (funext fun i => Fin.ext ?_)
    match i with
    | ⟨0, _⟩ => show _ = win0_6.index t 0 * 544 + 1 * a.val; rw [(idx6 t).1]; show 544 * t.val + a.val = _; omega
    | ⟨1, _⟩ => show _ = win0_6.index t 1 * 1024 + 1 * k.val; rw [(idx6 t).2]; show k.val = _; omega
  · rw [y_row, x_row, h_row, w_row, W_row, res_row]

theorem arr7 (r : Fin 2176) (k : Fin 2048) :
    (dats m 0 c).arrAt 7 cfg0.N (ix2 r k) = cat (y m c r) (x m c r) (h m c r) (w m c) k := by
  obtain ⟨t, a, rfl⟩ := row_of r
  refine Eq.trans ?_ (((congrFun (Value.blocks7 m c t (flush0_7 t)) (ix2 a k)).trans (congrFun (Value.flushed7_A m c t) (ix2 a k))).trans ((out_7 a k).trans ?_))
  · refine congrArg ((dats m 0 c).arrAt 7 cfg0.N) (funext fun i => Fin.ext ?_)
    match i with
    | ⟨0, _⟩ => show _ = win0_7.index t 0 * 544 + 1 * a.val; rw [(idx7 t).1]; show 544 * t.val + a.val = _; omega
    | ⟨1, _⟩ => show _ = win0_7.index t 1 * 2048 + 1 * k.val; rw [(idx7 t).2]; show k.val = _; omega
  · unfold catBlk
    rw [y_row, x_row, h_row, w_row]

end Cert.OutProj.Array

end
-- ==== Proof.OutProj.RefLine.lean ====
/-
  The reference's straight line of host operations, and that each of its buffers is written once and read only afterwards.
-/
module

public import proofs.«01_k».proof.Defs
public import proofs.«01_k».proof.Proof.Line
public import proofs.«01_k».proof.Proof.Gen.OutProjRefIdeal

@[expose] public section

set_option maxRecDepth 16384

namespace Cert.OutProjRefIdeal

open Idealize.ShloMosaic Idealize.ShloMosaic.StableHlo Idealize.SL.Sem Line

/-- The operations of the reference. -/
noncomputable def line : {ops : List (HloOp τ sig (Elt Ideal)) // ∀ d, IsSeq (main (F := Ideal) d) ops} := by
  apply Subtype.mk
  hlo_seq

/-- What each of them writes and reads. -/
noncomputable def table : {T : List (Ref sig .tc × List (Ref sig .tc)) // Table line.1 T} := by
  apply Subtype.mk
  repeat first
    | exact Table.nil
    | apply Table.cons (reads_nullary _ _ _)
    | apply Table.cons (reads_unary _ _ _ _ _)
    | apply Table.cons (reads_binary _ _ _ _ _ _ _)
    | apply Table.cons (reads_reshape _ _ _ _ _ _)
    | apply Table.cons (reads_ternary _ _ _ _ _ _ _ _ _)
    | apply Table.cons (reads_nary _ _ _ _ _)

theorem single_line : single table.1 = true := by decide +kernel

/-- The contents at the end, which every operation leaves alone. -/
theorem fixed (V : Valuation τ sig (Elt Ideal)) : Fixed line.1 (after line.1 V) := fixed_of table.2 single_line V

/-- The arguments are not written. -/
theorem kept (V : Valuation τ sig (Elt Ideal)) (r : Ref sig .tc) (h : table.1.all (fun e => e.1 != r) = true) :
    after line.1 V (Proc.devRef .tc r) = V (Proc.devRef .tc r) := after_keep table.2 h V

end Cert.OutProjRefIdeal
-- ==== Proof.OutProj.RefVal.lean ====
/-
  The reference's results as functions of its arguments, read off its line stage by stage.
-/
module

public import proofs.«01_k».proof.Proof.OutProj.RefLine
public import proofs.«01_k».proof.Proof.OutProj.Row

@[expose] public section

set_option maxRecDepth 16384

namespace Cert.OutProjRefIdeal

open Idealize.ShloMosaic Idealize.ShloMosaic.TcCoe Idealize.ShloMosaic.StableHlo Idealize.SL.Sem Line Lift Spec OutProj OutProj.Row

theorem c_8943 : (Ideal.ofBits .f32 0x460BBC00#32 : EReal) = ((8943 : ℝ) : EReal) := by
  rw [ofBits_lit _ (by decide), show lit 0x460BBC00#32 = 8943 by simp [lit, Ideal.ofBits, Ideal.ieee, -EReal.coe_mul]; norm_num]

theorem c_200000 : (Ideal.ofBits .f32 0x48435000#32 : EReal) = ((200000 : ℝ) : EReal) := by
  rw [ofBits_lit _ (by decide), show lit 0x48435000#32 = 200000 by simp [lit, Ideal.ofBits, Ideal.ieee, -EReal.coe_mul]; norm_num]

/-- The contents `A` at the end, in terms of the arguments' rows. -/
structure Args (A : Valuation τ sig (Elt Ideal)) (y x h : Fin 2176 → Fin 1024 → EReal) (w : Fin 1024 → EReal)
    (W : Fin 2048 → Fin 1024 → EReal) (r : Fin 2176 → Fin 1024 → EReal) : Prop where
  fixed : Fixed line.1 A
  y_eq : ∀ a k, A (↑main_arg0 : DevRef τ sig) (ix2 a k) = y a k
  x_eq : ∀ (a : Fin 2176) (k : Fin 1024), A (↑main_arg1 : DevRef τ sig) (ix2 a ⟨2576 + k.val, by omega⟩) = x a k
  h_eq : ∀ a k, A (↑main_arg2 : DevRef τ sig) (ix2 a k) = h a k
  w_eq : ∀ k, A (↑main_arg3 : DevRef τ sig) (ix2 0 k) = w k
  W_eq : ∀ j k, A (↑main_arg4 : DevRef τ sig) (ix2 j k) = W j k
  r_eq : ∀ a k, A (↑main_arg5 : DevRef τ sig) (ix2 a k) = r a k

variable {A : Valuation τ sig (Elt Ideal)} {y x h : Fin 2176 → Fin 1024 → EReal} {w : Fin 1024 → EReal}
  {W : Fin 2048 → Fin 1024 → EReal} {r : Fin 2176 → Fin 1024 → EReal} (H : Args A y x h w W r)
include H

theorem v3_at (a : Fin 2176) (k : Fin 1024) : A (↑main_v3 : DevRef τ sig) (ix2 a k) = x a k := by
  refine (congrFun (congrFun (H.fixed [3]).symm _) _).trans ?_
  after_reads_at
  exact H.x_eq a k

theorem v18_at (a : Fin 2176) (k : Fin 1024) : A (↑main_v18 : DevRef τ sig) (ix2 a k) = gate (x a k) := by
  refine (congrFun (congrFun (H.fixed [5, 6, 7, 8, 9, 10, 11, 12, 13, 14, 15, 16, 17, 18, 19, 20, 21, 22, 23]).symm _) _).trans ?_
  after_reads_at
  simp only [v3_at H, c_8943, c_200000, c_geluScale, c_half, one_coe, div_coe_coe _ (show (200000 : ℝ) ≠ 0 by norm_num)]
  unfold gate
  rw [mul_comm _ (x a k), ← mul_assoc, mul_comm (x a k) _]

theorem v19_at (a : Fin 2176) (k : Fin 1024) : A (↑main_v19 : DevRef τ sig) (ix2 a k) = gate (x a k) * h a k := by
  refine (congrFun (congrFun (H.fixed [24]).symm _) _).trans ?_
  after_reads_at
  rw [v18_at H, H.h_eq]

theorem v31_at (a : Fin 2176) (k : Fin 1024) : A (↑main_v31 : DevRef τ sig) (ix2 a k) = normed (x a) (h a) w k := by
  refine (congrFun (congrFun (H.fixed [25, 26, 27, 28, 29, 30, 31, 32, 33, 34, 35, 36, 37, 38, 39]).symm _) _).trans ?_
  after_reads_at
  simp only [v19_at H, H.w_eq, c_1024, c_eps]
  rfl

theorem v32_at (a : Fin 2176) (j : Fin 2048) : A (↑main_v32 : DevRef τ sig) (ix2 a j) = cat (y a) (x a) (h a) w j := by
  refine (congrFun (congrFun (H.fixed [40]).symm _) _).trans ?_
  after_reads_at
  unfold cat
  split_ifs
  all_goals (try after_reads_at)
  all_goals first | exact H.y_eq a _ | exact v31_at H a _

theorem v34_at (a : Fin 2176) (k : Fin 1024) : A (↑main_v34 : DevRef τ sig) (ix2 a k) = out (y a) (x a) (h a) w W (r a) k := by
  refine (congrFun (congrFun (H.fixed [41, 42]).symm _) _).trans ?_
  after_reads_at
  simp only [v32_at H, H.W_eq, H.r_eq]
  rfl

theorem v35_at (a : Fin 2176) (j : Fin 2048) : A (↑main_v35 : DevRef τ sig) (ix2 a j) = cat (y a) (x a) (h a) w j := by
  refine (congrFun (congrFun (H.fixed [43]).symm _) _).trans ?_
  after_reads_at
  exact v32_at H a j

end Cert.OutProjRefIdeal
-- ==== Proof.OutProj.Claims.lean ====
/-
  The claims about the output projection.
-/
module

public import proofs.«01_k».proof.Proof.Gen.OutProj.Frame
public import proofs.«01_k».proof.Proof.OutProj.Array
public import proofs.«01_k».proof.Proof.OutProj.RefVal

@[expose] public section

set_option maxRecDepth 16384

open Idealize.ShloMosaic Idealize.ShloMosaic.TcCoe Idealize.SL.Sem

namespace Cert.OutProjRefIdeal

/-- The reference's run: every buffer ends at the line's value. -/
theorem ref_run (m : (ℓ : Loc nD τ sig) → Buf (Elt Ideal) ℓ)
    (ρ : Dev nD → PrngReg) :
    θ_run (defs (F := Ideal)) (onTc (τ := τ) (main (F := Ideal))) ⟨m, fun _ => 0, ρ⟩ fun r =>
      ∀ (d : Dev nD) (b : Ref sig .tc),
        r.2.mem ((d.tc : Thread _ _).loc b) = StableHlo.after line.1 (StableHlo.launchContents m d) (Proc.devRef .tc b) :=
  StableHlo.run_hlo _ _ line.2 (by decide) (by decide) (by unfold line; simp)
    (by unfold line; intro _ h; (repeat (cases h with | head => rfl | tail _ h => ?_)); exact nomatch h) m ρ

theorem ref_kept (m : (ℓ : Loc nD τ sig) → Buf (Elt Ideal) ℓ) (d : Dev nD)
    (b : Ref sig .tc) (h : table.1.all (fun e => e.1 != b) = true) :
    StableHlo.after line.1 (StableHlo.launchContents m d) (Proc.devRef .tc b) = m ((d.tc : Thread _ _).loc b) :=
  kept _ b h

end Cert.OutProjRefIdeal

namespace Cert.OutProjIdeal.Claims

open Cert.OutProjRefIdeal (ref_run ref_kept)

theorem frame_kernel : Cert.quiescent_OutProj := fun m ρ _ => OutProj.Gen.frame m ρ
theorem frame_ideal : Cert.quiescent_OutProjIdeal := fun m ρ _ => Gen.frame m ρ

theorem frame_ref : Cert.quiescent_OutProjRefIdeal := fun m ρ _ =>
  (θ_run OutProjRefIdeal.defs _ _).mono (fun r h => ⟨fun c =>
    by refine ⟨?_, ?_, ?_, ?_, ?_, ?_⟩ <;> exact (h c _).trans (ref_kept m c _ (by decide +kernel)),
    sem_eq_zero_of_no_sems (by decide) r.2⟩) (ref_run m ρ)

theorem preserves : Cert.preserves_OutProj_OutProjIdeal := IdealRules.named_const.statement _ "gelu_cubic" .f32 _ _ rfl

/-- The kernel and the reference compute the same residual stream and the same operand. -/
theorem algebraic : Cert.algebraic_OutProjIdeal_OutProjRefIdeal := by
  intro m g m' g' _ hagree
  refine ⟨_, _, Value.run_blocks m g, (θ_run OutProjRefIdeal.defs _ _).mono (fun r h c => ?_) (ref_run m' g')⟩
  obtain ⟨h0, h1, h2, h3, h4, h5⟩ := hagree c
  have R : OutProjRefIdeal.Args (StableHlo.after OutProjRefIdeal.line.1 (StableHlo.launchContents m' c))
      (OutProj.Array.y m c) (OutProj.Array.x m c) (OutProj.Array.h m c) (OutProj.Array.w m c) (OutProj.Array.W m c) (OutProj.Array.res m c) :=
    ⟨OutProjRefIdeal.fixed _,
      fun a k => congrFun ((ref_kept m' c _ (by decide +kernel)).trans h0) _, fun a k => congrFun ((ref_kept m' c _ (by decide +kernel)).trans h1) _,
      fun a k => congrFun ((ref_kept m' c _ (by decide +kernel)).trans h2) _, fun k => congrFun ((ref_kept m' c _ (by decide +kernel)).trans h3) _,
      fun a k => congrFun ((ref_kept m' c _ (by decide +kernel)).trans h4) _, fun a k => congrFun ((ref_kept m' c _ (by decide +kernel)).trans h5) _⟩
  have q := fun b hb => (h c b).trans (ref_kept m' c b hb)
  refine ⟨(h c _).trans ?_, (h c _).trans ?_,
    q _ (by decide +kernel), q _ (by decide +kernel), q _ (by decide +kernel),
    q _ (by decide +kernel), q _ (by decide +kernel), q _ (by decide +kernel)⟩
  · funext i
    obtain ⟨a, k, rfl⟩ : ∃ (a : Fin 2176) (k : Fin 1024), i = ix2 a k := ⟨i 0, i 1, eq_ix2 i⟩
    exact (OutProjRefIdeal.v34_at R a k).trans (OutProj.Array.arr6 m c a k).symm
  · funext i
    obtain ⟨a, k, rfl⟩ : ∃ (a : Fin 2176) (k : Fin 2048), i = ix2 a k := ⟨i 0, i 1, eq_ix2 i⟩
    exact (OutProjRefIdeal.v35_at R a k).trans (OutProj.Array.arr7 m c a k).symm

end Cert.OutProjIdeal.Claims
-- ==== Proof.GateUpFwd.Row.lean ====
/-
  One row of the norm and of the two input products, on the extended reals.
-/
module

public import proofs.«01_k».proof.Proof.Swiglu.Real

@[expose] public section

noncomputable section

namespace Cert.GateUpFwd.Row

open Idealize.ShloMosaic Lift Spec

/-- The normed row. -/
def unit (x w : Fin 1024 → EReal) (k : Fin 1024) : EReal :=
  x k * Ideal.rsqrt (Ideal.div (∑ k, x k * x k) ((1024 : ℝ) : EReal) + ((eps : ℝ) : EReal)) * w k

/-- The normed row's product with column `j` of a weight. -/
def prod (x w : Fin 1024 → EReal) (W : Fin 1024 → Fin 2816 → EReal) (j : Fin 2816) : EReal := ∑ k, unit x w k * W k j

/-- The gate's logistic, times both. -/
def gated (g u : EReal) : EReal := g * Ideal.logistic g * u

/-- The tanh form of the logistic. -/
theorem tanh_form (x : EReal) : ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.logistic_bot, show Ideal.tanh ⊥ = ((-1 : ℝ) : EReal) from rfl, ← EReal.coe_mul, ← EReal.coe_add]
    norm_num
  | top =>
    rw [EReal.coe_mul_top_of_pos (by norm_num), Ideal.logistic_top, show Ideal.tanh ⊤ = ((1 : ℝ) : EReal) from rfl, ← EReal.coe_mul, ← EReal.coe_add]
    norm_num
  | coe r =>
    rw [← EReal.coe_mul, Ideal.tanh_coe, ← EReal.coe_mul, ← EReal.coe_add, Ideal.logistic_coe]
    exact congrArg _ ((sgm_exp r).symm.trans (one_div _))

end Cert.GateUpFwd.Row

end
-- ==== Proof.GateUpFwd.Run.lean ====
/-
  The body of the norm and the two input products with their gate, run once at the first point and once at a later point.
-/
module

public import proofs.«01_k».proof.Proof.Gen.GateUpFwdIdeal.Loops
public import proofs.«01_k».proof.Proof.Gen.GateUpFwdIdeal.Points
public import Idealize.ShloMosaic.Lib.Pipeline.Frame

@[expose] public section

set_option maxRecDepth 16384

noncomputable section

namespace Cert.GateUpFwdIdeal.Hand

open GateUpFwdIdeal GateUpFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The two weights the kernel copies, and the two scratch buffers it copies them into. -/
abbrev gHbm : Memref sig .tc .hbm S2816x1024 .bf16 := Memref.whole main_v1
abbrev uHbm : Memref sig .tc .hbm S2816x1024 .bf16 := Memref.whole main_v3
abbrev gM : Memref sig .tc .vmem S2816x1024 .bf16 := Memref.whole cc0_scratch0
abbrev uM : Memref sig .tc .vmem S2816x1024 .bf16 := Memref.whole cc0_scratch1

/-- The windows' buffers at one point: rows, the norm's weight, the two products, the gated product, the normed rows. -/
structure Bufs where
  h : Memref sig .tc .vmem S544x1024 .f32
  hh : h.IsWhole
  w : Memref sig .tc .vmem S1x1024 .f32
  hw : w.IsWhole
  gt : Memref sig .tc .vmem S544x2816 .bf16
  hgt : gt.IsWhole
  up : Memref sig .tc .vmem S544x2816 .bf16
  hup : up.IsWhole
  act : Memref sig .tc .vmem S544x2816 .bf16
  hact : act.IsWhole
  u : Memref sig .tc .vmem S544x1024 .bf16
  hu : u.IsWhole

/-- The body on a point's buffers. -/
abbrev prog (i : grid0.Coords) (B : Bufs) : Prog (TpuEff nD τ sig (Elt F) Λ₀ .tc) PUnit :=
  cc0_gate_up i B.h B.hh B.w B.hw gHbm (Memref.isWhole_whole _) uHbm (Memref.isWhole_whole _) B.gt B.hgt B.up B.hup B.act B.hact B.u B.hu
    gM (Memref.isWhole_whole _) uM (Memref.isWhole_whole _) cc0_scratch2 cc0_scratch3

/-- A whole buffer at its contents; one at some contents; one with pieces written over unknown contents. -/
abbrev whole {sp : Space} {S : Shape} {e : EltTy} (c : Dev nD) (M : Memref sig .tc sp S e) (f : Buf (Elt F) (M.view.loc (c : Thread nD τ))) : sProp 𝕄 :=
  M.view.loc (c : Thread nD τ) ↦[M.view.set]{fullShare} f
abbrev some {sp : Space} {S : Shape} {e : EltTy} (c : Dev nD) (M : Memref sig .tc sp S e) : sProp 𝕄 := iprop(∃ d, owns (c : Thread nD τ) M fullShare d)
abbrev written {sp : Space} {S : Shape} {e : EltTy} (c : Dev nD) (M : Memref sig .tc sp S e) (L : List (View.Piece (Elt F) S e)) : sProp 𝕄 :=
  iprop(∃ f, M.view.loc (c : Thread nD τ) ↦[M.view.set]{fullShare} M.view.writes (Elt F) f L)

/-- The transfers' semaphores at zero. -/
abbrev sems (c : Dev nD) : sProp 𝕄 :=
  iprop(semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0)

/-- The transfers' conditions at the first point, and at a later one. -/
abbrev First (i : grid0.Coords) : Prop := k0_cond1 i = 1#1 ∧ k0_cond2 i = 1#1 ∧ k0_cond3 i = 1#1 ∧ k0_cond5 i = 1#1
abbrev Later (i : grid0.Coords) : Prop := (¬ k0_cond1 i = 1#1) ∧ (¬ k0_cond2 i = 1#1) ∧ (¬ k0_cond3 i = 1#1) ∧ ¬ k0_cond5 i = 1#1

/-- Which pieces start the transfer of the piece two further on. -/
theorem gate0 : k0_cond4 ⟨0, by decide⟩ = 1#1 := by decide +kernel
theorem up0 : k0_cond6 ⟨0, by decide⟩ = 1#1 := by decide +kernel
theorem gate1 : k0_cond4 ⟨1, by decide⟩ = 1#1 := by decide +kernel
theorem up1 : k0_cond6 ⟨1, by decide⟩ = 1#1 := by decide +kernel
theorem gate2 : k0_cond4 ⟨2, by decide⟩ = 1#1 := by decide +kernel
theorem up2 : k0_cond6 ⟨2, by decide⟩ = 1#1 := by decide +kernel
theorem gate3 : k0_cond4 ⟨3, by decide⟩ = 1#1 := by decide +kernel
theorem up3 : k0_cond6 ⟨3, by decide⟩ = 1#1 := by decide +kernel
theorem gate4 : k0_cond4 ⟨4, by decide⟩ = 1#1 := by decide +kernel
theorem up4 : k0_cond6 ⟨4, by decide⟩ = 1#1 := by decide +kernel
theorem gate5 : k0_cond4 ⟨5, by decide⟩ = 1#1 := by decide +kernel
theorem up5 : k0_cond6 ⟨5, by decide⟩ = 1#1 := by decide +kernel
theorem gate6 : k0_cond4 ⟨6, by decide⟩ = 1#1 := by decide +kernel
theorem up6 : k0_cond6 ⟨6, by decide⟩ = 1#1 := by decide +kernel
theorem gate7 : k0_cond4 ⟨7, by decide⟩ = 1#1 := by decide +kernel
theorem up7 : k0_cond6 ⟨7, by decide⟩ = 1#1 := by decide +kernel
theorem gate8 : k0_cond4 ⟨8, by decide⟩ = 1#1 := by decide +kernel
theorem up8 : k0_cond6 ⟨8, by decide⟩ = 1#1 := by decide +kernel
theorem gate9 : ¬ k0_cond4 ⟨9, by decide⟩ = 1#1 := by decide +kernel
theorem up9 : ¬ k0_cond6 ⟨9, by decide⟩ = 1#1 := by decide +kernel
theorem gate10 : ¬ k0_cond4 ⟨10, by decide⟩ = 1#1 := by decide +kernel
theorem up10 : ¬ k0_cond6 ⟨10, by decide⟩ = 1#1 := by decide +kernel

section
variable (c : Dev nD) (i : grid0.Coords) (B : Bufs) (xh : Vec F S544x1024 .f32) (xw : Vec F S1x1024 .f32) (yg yu : Vec F S2816x1024 .bf16)

/-- The input windows at their blocks, the results' windows at anything, and a run's end. -/
abbrev inputs : sProp 𝕄 := iprop(owns (c : Thread nD τ) B.h fullShare xh ∗ owns (c : Thread nD τ) B.w fullShare xw)
abbrev empties : sProp 𝕄 := iprop(some c B.gt ∗ some c B.up ∗ some c B.act ∗ some c B.u)
abbrev ended (L2 L3 L4 : List (View.Piece (Elt F) S544x2816 .bf16)) (L5 : List (View.Piece (Elt F) S544x1024 .bf16)) : sProp 𝕄 :=
  iprop(inputs c B xh xw ∗ (∃ W', owes (c : Thread nD τ) 0 W') ∗ written c B.gt L2 ∗ written c B.up L3 ∗ written c B.act L4 ∗ written c B.u L5)
/-- The arrays the kernel copies, and the copies. -/
abbrev sources : sProp 𝕄 := iprop(whole c gHbm yg ∗ whole c uHbm yu)
abbrev arrived : sProp 𝕄 := iprop(owns (c : Thread nD τ) gM fullShare yg ∗ owns (c : Thread nD τ) uM fullShare yu)

set_option backward.proofsInPublic true in
set_option maxHeartbeats 8000000 in
set_option sl_exec.unrollTrips 12 in
set_option sl_exec.dischHeartbeats 100000 in
set_option sl_exec.dmaWindow true in
set_option sl_exec.dmaWindowSet true in
/-- The first point: what the body leaves in its results and in the two scratch buffers, found by running it. -/
def runA (h : First i) :
    Σ' (L2 L3 L4 : List (View.Piece (Elt F) S544x2816 .bf16)) (L5 : List (View.Piece (Elt F) S544x1024 .bf16)) (Lg : List (View.Piece (Elt F) S2816x1024 .bf16)),
      { Lu : List (View.Piece (Elt F) S2816x1024 .bf16) // ∀ (W : Waits sig Unit) (K : PUnit → sProp 𝕄),
        iprop(inputs c B xh xw ∗ (some c gM ∗ some c uM) ∗ sems c ∗ sources c yg yu ∗ owes (c : Thread nD τ) 0 W ∗ empties c B
            ∗ (iprop((written c gM Lg ∗ written c uM Lu) ∗ sems c ∗ sources c yg yu ∗ ended c B xh xw L2 L3 L4 L5) -∗ K ⟨⟩))
          ⊢ wp frame (wpE (defs₀ (F := F)) Variants.none c none) Set.univ (prog i B) K } := by
  refine ⟨?_, ?_, ?_, ?_, ?_, ?_, fun W K => ?run⟩
  case run =>
    unfold prog; simp only [cc0_gate_up_eq_skeleton]; unfold cc0_gate_up_skel
    simp only [k0_part1_eq_skeleton, k0_part2_eq_skeleton, k0_part3_eq_skeleton, k0_part4_eq_skeleton]
    unfold inputs empties some owns sems sources
    iintro ⟨⟨⟨%f0, %hf0, H0⟩, ⟨%f1, %hf1, H1⟩⟩, ⟨⟨%ds, %fs, -, HG⟩, ⟨%dt, %ft, -, HT⟩⟩, ⟨Q0, Q1, Q2, Q3, Q4, Q5, Q6, Q7, Q8, Q9, Q10, Q11, Q12, Q13, Q14, Q15, Q16, Q17, Q18, Q19, Q20, Q21⟩, ⟨Hg, Hu⟩, HW, ⟨⟨%d2, %f2, -, H2⟩, ⟨%d3, %f3, -, H3⟩, ⟨%d4, %f4, -, H4⟩, ⟨%d5, %f5, -, H5⟩⟩, Hk⟩
    obtain rfl := B.hh.eq_unread hf0; obtain rfl := B.hw.eq_unread hf1
    sl_exec (disch := first | sl_exact h.1 | sl_exact h.2.1 | sl_exact h.2.2.1 | sl_exact h.2.2.2 | sl_exact gate0 | sl_exact up0 | sl_exact gate1 | sl_exact up1 | sl_exact gate2 | sl_exact up2 | sl_exact gate3 | sl_exact up3 | sl_exact gate4 | sl_exact up4 | sl_exact gate5 | sl_exact up5 | sl_exact gate6 | sl_exact up6 | sl_exact gate7 | sl_exact up7 | sl_exact gate8 | sl_exact up8 | sl_exact gate9 | sl_exact up9 | sl_exact gate10 | sl_exact up10)
    sl_step
    iapply Hk
    isplitl [HG HT]
    · isplitl [HG]; · iexists _; iexact HG
      iexists _; iexact HT
    iframe Q0 Q1 Q2 Q3 Q4 Q5 Q6 Q7 Q8 Q9 Q10 Q11 Q12 Q13 Q14 Q15 Q16 Q17 Q18 Q19 Q20 Q21 Hg Hu
    unfold ended inputs owns
    isplitl [H0 H1]
    · isplitl [H0]
      · iexists _; isplitr; · ipureintro; exact B.hh.read_unread _
        iexact H0
      iexists _; isplitr; · ipureintro; exact B.hw.read_unread _
      iexact H1
    isplitl [HW]; · iexists _; iexact HW
    isplitl [H2]; · iexists _; iexact H2
    isplitl [H3]; · iexists _; iexact H3
    isplitl [H4]; · iexists _; iexact H4
    iexists _; iexact H5

set_option backward.proofsInPublic true in
set_option maxHeartbeats 8000000 in
set_option sl_exec.unrollTrips 12 in
set_option sl_exec.dischHeartbeats 100000 in
/-- A later point: the scratch buffers hold the copied weights. -/
def runB (h : Later i) :
    Σ' (L2 L3 L4 : List (View.Piece (Elt F) S544x2816 .bf16)),
      { L5 : List (View.Piece (Elt F) S544x1024 .bf16) // ∀ (W : Waits sig Unit) (K : PUnit → sProp 𝕄),
        iprop(inputs c B xh xw ∗ arrived c yg yu ∗ owes (c : Thread nD τ) 0 W ∗ empties c B
            ∗ (iprop(arrived c yg yu ∗ ended c B xh xw L2 L3 L4 L5) -∗ K ⟨⟩))
          ⊢ wp frame (wpE (defs₀ (F := F)) Variants.none c none) Set.univ (prog i B) K } := by
  refine ⟨?_, ?_, ?_, ?_, fun W K => ?run⟩
  case run =>
    unfold prog; simp only [cc0_gate_up_eq_skeleton]; unfold cc0_gate_up_skel
    simp only [k0_part3_eq_skeleton, k0_part4_eq_skeleton]
    unfold inputs empties arrived some owns
    iintro ⟨⟨⟨%f0, %hf0, H0⟩, ⟨%f1, %hf1, H1⟩⟩, ⟨⟨%fs, %hfs, HG⟩, ⟨%ft, %hft, HT⟩⟩, HW, ⟨⟨%d2, %f2, -, H2⟩, ⟨%d3, %f3, -, H3⟩, ⟨%d4, %f4, -, H4⟩, ⟨%d5, %f5, -, H5⟩⟩, Hk⟩
    obtain rfl := B.hh.eq_unread hf0; obtain rfl := B.hw.eq_unread hf1
    obtain rfl := (Memref.isWhole_whole _).eq_unread hfs; obtain rfl := (Memref.isWhole_whole _).eq_unread hft
    sl_exec (disch := first | sl_exact h.1 | sl_exact h.2.1 | sl_exact h.2.2.1 | sl_exact h.2.2.2)
    sl_step
    iapply Hk
    isplitl [HG HT]
    · isplitl [HG]
      · iexists _; isplitr; · ipureintro; exact (Memref.isWhole_whole _).read_unread _
        iexact HG
      iexists _; isplitr; · ipureintro; exact (Memref.isWhole_whole _).read_unread _
      iexact HT
    unfold ended inputs owns
    isplitl [H0 H1]
    · isplitl [H0]
      · iexists _; isplitr; · ipureintro; exact B.hh.read_unread _
        iexact H0
      iexists _; isplitr; · ipureintro; exact B.hw.read_unread _
      iexact H1
    isplitl [HW]; · iexists _; iexact HW
    isplitl [H2]; · iexists _; iexact H2
    isplitl [H3]; · iexists _; iexact H3
    isplitl [H4]; · iexists _; iexact H4
    iexists _; iexact H5

end

end Cert.GateUpFwdIdeal.Hand

end
-- ==== Proof.GateUpFwd.Lists.lean ====
/-
  What the body of the norm and the two input products leaves: its lists of stores, from the contents of the blocks.
-/
module

public import proofs.«01_k».proof.Proof.Arrive
public import proofs.«01_k».proof.Proof.GateUpFwd.Run
public import Idealize.ShloMosaic.Lib.Ring

@[expose] public section

set_option maxRecDepth 16384

noncomputable section

namespace Cert.GateUpFwdIdeal.Hand

open GateUpFwdIdeal GateUpFwdIdeal.Gen
open Idealize.ShloMosaic Idealize.ShloMosaic.TcCoe

variable {F : FTy → Type} [FloatOps F]

theorem zz : (![0, 0] : Fin 2 → ℕ) = fun _ => 0 := funext fun a => by fin_cases a <;> rfl
theorem inb_cols : ∀ (k : Fin 11) (a : Fin 2), (![0, 256 * k.val] : Fin 2 → ℕ) a + S544x256.size a ≤ S544x2816.size a := by decide
theorem inb_rows : ∀ (k : Fin 11) (a : Fin 2), (![256 * k.val, 0] : Fin 2 → ℕ) a + S256x1024.size a ≤ S2816x1024.size a := by decide

/-- Tile `k` of a weight's rows; the two halves of a block. -/
def rows (z : Vec F S2816x1024 .bf16) (k : Fin 11) : Vec F S256x1024 .bf16 := fun y => z ((Rect.unit (s := S2816x1024) ![256 * k.val, 0] S256x1024.size (inb_rows k)).emb y)
def lo (a : Vec F S544x1024 .f32) : Vec F S272x1024 .f32 := fun y => a ((Rect.unit (s := S544x1024) ![0, 0] S272x1024.size inb_S544x1024_S272x1024_0_0).emb y)
def hi (a : Vec F S544x1024 .f32) : Vec F S272x1024 .f32 := fun y => a ((Rect.unit (s := S544x1024) ![272, 0] S272x1024.size inb_S544x1024_S272x1024_272_0).emb y)

/-- The block whose tile of columns `k` is `f k`, and its pieces. -/
def tiled (f : Fin 11 → Vec F S544x256 .bf16) : Vec F S544x2816 .bf16 := fun y =>
  f ⟨(y 1).val / 256, Nat.div_lt_of_lt_mul (y 1).isLt⟩ (ix2 (y 0) ⟨(y 1).val % 256, Nat.mod_lt _ (by decide)⟩)
def pieces (f : Fin 11 → Vec F S544x256 .bf16) : List (View.Piece (Elt F) S544x2816 .bf16) :=
  (List.finRange 11).reverse.map fun k => ⟨Rect.unit (s := S544x2816) ![0, 256 * k.val] S544x256.size (inb_cols k), f k⟩

theorem pieces_agree (f : Fin 11 → Vec F S544x256 .bf16) : Arrive.Agrees (pieces f) (tiled f) := by
  intro p hp y
  obtain ⟨k, -, rfl⟩ := List.mem_map.mp hp
  obtain ⟨a, b, rfl⟩ : ∃ (a : Fin 544) (b : Fin 256), y = ix2 a b := ⟨y 0, y 1, eq_ix2 y⟩
  refine Eq.trans ?_ (congrArg (tiled f) (Rows.emb_at (inb_cols k) rfl a b)).symm
  have hk : (256 * k.val + b.val) / 256 = k.val := by omega
  have hb : (256 * k.val + b.val) % 256 = b.val := by omega
  have ek : (⟨(256 * k.val + b.val) / 256, Nat.div_lt_of_lt_mul (by omega)⟩ : Fin 11) = k := Fin.ext hk
  show f k _ = f ⟨(256 * k.val + b.val) / 256, _⟩ (ix2 ⟨0 + a.val, _⟩ ⟨(256 * k.val + b.val) % 256, _⟩)
  rw [ek]
  exact congrArg (f k) (congrArg₂ ix2 (Fin.ext (Nat.zero_add _).symm) (Fin.ext hb.symm))

theorem pieces_cover (f : Fin 11 → Vec F S544x256 .bf16) (y : S544x2816.Idx) : ∃ p ∈ pieces f, y ∈ p.1.set := by
  obtain ⟨a, b, rfl⟩ : ∃ (a : Fin 544) (b : Fin 2816), y = ix2 a b := ⟨y 0, y 1, eq_ix2 y⟩
  refine ⟨_, List.mem_map.mpr ⟨⟨b.val / 256, by omega⟩, List.mem_reverse.mpr (List.mem_finRange _), rfl⟩, ?_⟩
  exact (Rows.mem_at (inb_cols _) rfl a b).mpr ⟨⟨Nat.zero_le _, by omega⟩, by dsimp only; omega, by dsimp only; omega⟩

section
variable (xh : Vec F S544x1024 .f32) (xw : Vec F S1x1024 .f32) (yg yu : Vec F S2816x1024 .bf16)

/-- The normed rows' pieces, and the normed rows. -/
def listU : List (View.Piece (Elt F) S544x1024 .bf16) :=
  [⟨Rect.unit (s := S544x1024) ![272, 0] S272x1024.size inb_S544x1024_S272x1024_272_0, k0_pay1 (k0_pay8 (hi xh) xw)⟩,
    ⟨Rect.unit (s := S544x1024) ![0, 0] S272x1024.size inb_S544x1024_S272x1024_0_0, k0_pay7 (lo xh) xw⟩]
def ub : Vec F S544x1024 .bf16 := View.canon (listU xh xw)

/-- The tiles of the three products. -/
def gt (k : Fin 11) : Vec F S544x256 .bf16 := k0_pay4 (ub xh xw) (rows yg k)
def up (k : Fin 11) : Vec F S544x256 .bf16 := k0_pay5 (ub xh xw) (rows yu k)
def act (k : Fin 11) : Vec F S544x256 .bf16 := k0_pay6 (ub xh xw) (rows yg k) (ub xh xw) (rows yu k)

variable (c : Dev nD) (i : grid0.Coords) (B : Bufs)

theorem read_w : View.readAt (Elt F) B.w.view (Rect.unit (s := S1x1024) ![0, 0] S1x1024.size inb_S1x1024_S1x1024_0_0).toLoadRect (B.hw.unread xw) = xw := by
  rw [View.readAt_eq_ld, B.hw.read_unread, View.ld_unit_zero (S := S1x1024) zz]

/-! ## A later point -/

theorem later_u : runB.sl.H5_2 c B xh xw = listU xh xw := by
  unfold runB.sl.H5_2 runB.sl.r listU
  rw [read_w, Arrive.held B.hh, Arrive.held B.hh]; rfl

theorem later_ub : runB.sl.v79 c B xh xw = ub xh xw := by
  unfold runB.sl.v79 ub
  rw [later_u, View.readCov_eq_canon']; exact View.ld_unit_zero (S := S544x1024) zz _ _

theorem later_lists (h : Later i) :
    (runB c i B xh xw yg yu h).1 = pieces (gt xh xw yg) ∧ (runB c i B xh xw yg yu h).2.1 = pieces (up xh xw yu)
      ∧ (runB c i B xh xw yg yu h).2.2.1 = pieces (act xh xw yg yu) ∧ (runB c i B xh xw yg yu h).2.2.2.1 = listU xh xw := by
  have hg : ∀ (r : Rect S2816x1024), View.readAt (Elt F) gM.view r.toLoadRect ((Memref.isWhole_whole cc0_scratch0).unread yg) = fun y => yg (r.emb y) := Arrive.held _ yg
  have hu : ∀ (r : Rect S2816x1024), View.readAt (Elt F) uM.view r.toLoadRect ((Memref.isWhole_whole cc0_scratch1).unread yu) = fun y => yu (r.emb y) := Arrive.held _ yu
  refine ⟨?_, ?_, ?_, later_u xh xw c B⟩ <;>
    (unfold runB; dsimp only
     simp only [later_ub, runB.sl.v82, runB.sl.v82_1, runB.sl.v82_2, runB.sl.v82_3, runB.sl.v82_4, runB.sl.v82_5, runB.sl.v82_6, runB.sl.v82_7, runB.sl.v82_8, runB.sl.v82_9, runB.sl.v82_10,
       runB.sl.v87, runB.sl.v87_1, runB.sl.v87_2, runB.sl.v87_3, runB.sl.v87_4, runB.sl.v87_5, runB.sl.v87_6, runB.sl.v87_7, runB.sl.v87_8, runB.sl.v87_9, runB.sl.v87_10, hg, hu]
     rfl)

/-! ## The first point -/

/-- The pieces the first point copies: they are the weights' own, and cover them. -/
abbrev copyG (h : First i) : List (View.Piece (Elt F) S2816x1024 .bf16) := (runA c i B xh xw yg yu h).2.2.2.2.1
abbrev copyU (h : First i) : List (View.Piece (Elt F) S2816x1024 .bf16) := (runA c i B xh xw yg yu h).2.2.2.2.2.1

theorem agrees_g (h : First i) : Arrive.Agrees (copyG xh xw yg yu c i B h) yg := by
  intro p hp y
  simp only [copyG, runA, List.mem_cons, List.not_mem_nil, or_false] at hp
  rcases hp with rfl | rfl | rfl | rfl | rfl | rfl | rfl | rfl | rfl | rfl | rfl <;> rfl
theorem agrees_u (h : First i) : Arrive.Agrees (copyU xh xw yg yu c i B h) yu := by
  intro p hp y
  simp only [copyU, runA, List.mem_cons, List.not_mem_nil, or_false] at hp
  rcases hp with rfl | rfl | rfl | rfl | rfl | rfl | rfl | rfl | rfl | rfl | rfl <;> rfl
theorem cover_g (h : First i) (y : S2816x1024.Idx) : ∃ p ∈ copyG xh xw yg yu c i B h, y ∈ p.1.set :=
  View.cover_of_tiledL (s := S2816x1024) _ S256x1024.size (by sl_kernel_rfl) y
theorem cover_u (h : First i) (y : S2816x1024.Idx) : ∃ p ∈ copyU xh xw yg yu c i B h, y ∈ p.1.set :=
  View.cover_of_tiledL (s := S2816x1024) _ S256x1024.size (by sl_kernel_rfl) y

theorem second {α : Type*} {a b : α} {l : List α} : b ∈ a :: b :: l := List.mem_cons_of_mem _ List.mem_cons_self
theorem third {α : Type*} {a b d : α} {l : List α} : d ∈ a :: b :: d :: l := List.mem_cons_of_mem _ second

/-- A tile is loaded when its own piece is among those that have arrived. -/
theorem tile_g (h : First i) (n : ℕ) (k : Fin 11) (e : ∃ f, (⟨Rect.unit (s := S2816x1024) ![256 * k.val, 0] S256x1024.size (inb_rows k), f⟩ : View.Piece (Elt F) S2816x1024 .bf16) ∈ (copyG xh xw yg yu c i B h).drop n) :
    gM.view.readCov ((copyG xh xw yg yu c i B h).drop n) (Rect.unit (s := S2816x1024) ![256 * k.val, 0] S256x1024.size (inb_rows k)).toLoadRect = rows yg k :=
  let ⟨_, hf⟩ := e
  Arrive.load gM.view (fun p hp => agrees_g xh xw yg yu c i B h p (List.mem_of_mem_drop hp)) _ fun y => ⟨_, hf, Arrive.emb_mem _ y⟩
theorem tile_u (h : First i) (n : ℕ) (k : Fin 11) (e : ∃ f, (⟨Rect.unit (s := S2816x1024) ![256 * k.val, 0] S256x1024.size (inb_rows k), f⟩ : View.Piece (Elt F) S2816x1024 .bf16) ∈ (copyU xh xw yg yu c i B h).drop n) :
    uM.view.readCov ((copyU xh xw yg yu c i B h).drop n) (Rect.unit (s := S2816x1024) ![256 * k.val, 0] S256x1024.size (inb_rows k)).toLoadRect = rows yu k :=
  let ⟨_, hf⟩ := e
  Arrive.load uM.view (fun p hp => agrees_u xh xw yg yu c i B h p (List.mem_of_mem_drop hp)) _ fun y => ⟨_, hf, Arrive.emb_mem _ y⟩

theorem first_u : runA.sl.H5_2 c B xh xw = listU xh xw := by
  unfold runA.sl.H5_2 runA.sl.r listU
  rw [read_w, Arrive.held B.hh, Arrive.held B.hh]; rfl

theorem first_ub : runA.sl.v79 c B xh xw = ub xh xw := by
  unfold runA.sl.v79 ub
  rw [first_u, View.readCov_eq_canon']; exact View.ld_unit_zero (S := S544x1024) zz _ _

theorem first_lists (h : First i) :
    (runA c i B xh xw yg yu h).1 = pieces (gt xh xw yg) ∧ (runA c i B xh xw yg yu h).2.1 = pieces (up xh xw yu)
      ∧ (runA c i B xh xw yg yu h).2.2.1 = pieces (act xh xw yg yu) ∧ (runA c i B xh xw yg yu h).2.2.2.1 = listU xh xw := by
  have g0 : runA.sl.v82 c i yg h = rows yg 0 := tile_g xh xw yg yu c i B h 8 0 ⟨_, third⟩
  have u0 : runA.sl.v87 c i yu h = rows yu 0 := tile_u xh xw yg yu c i B h 8 0 ⟨_, third⟩
  have g1 : runA.sl.v82_1 c i yg h = rows yg 1 := tile_g xh xw yg yu c i B h 7 1 ⟨_, third⟩
  have u1 : runA.sl.v87_1 c i yu h = rows yu 1 := tile_u xh xw yg yu c i B h 7 1 ⟨_, third⟩
  have g2 : runA.sl.v82_2 c i yg h = rows yg 2 := tile_g xh xw yg yu c i B h 6 2 ⟨_, third⟩
  have u2 : runA.sl.v87_2 c i yu h = rows yu 2 := tile_u xh xw yg yu c i B h 6 2 ⟨_, third⟩
  have g3 : runA.sl.v82_3 c i yg h = rows yg 3 := tile_g xh xw yg yu c i B h 5 3 ⟨_, third⟩
  have u3 : runA.sl.v87_3 c i yu h = rows yu 3 := tile_u xh xw yg yu c i B h 5 3 ⟨_, third⟩
  have g4 : runA.sl.v82_4 c i yg h = rows yg 4 := tile_g xh xw yg yu c i B h 4 4 ⟨_, third⟩
  have u4 : runA.sl.v87_4 c i yu h = rows yu 4 := tile_u xh xw yg yu c i B h 4 4 ⟨_, third⟩
  have g5 : runA.sl.v82_5 c i yg h = rows yg 5 := tile_g xh xw yg yu c i B h 3 5 ⟨_, third⟩
  have u5 : runA.sl.v87_5 c i yu h = rows yu 5 := tile_u xh xw yg yu c i B h 3 5 ⟨_, third⟩
  have g6 : runA.sl.v82_6 c i yg h = rows yg 6 := tile_g xh xw yg yu c i B h 2 6 ⟨_, third⟩
  have u6 : runA.sl.v87_6 c i yu h = rows yu 6 := tile_u xh xw yg yu c i B h 2 6 ⟨_, third⟩
  have g7 : runA.sl.v82_7 c i yg h = rows yg 7 := tile_g xh xw yg yu c i B h 1 7 ⟨_, third⟩
  have u7 : runA.sl.v87_7 c i yu h = rows yu 7 := tile_u xh xw yg yu c i B h 1 7 ⟨_, third⟩
  have g8 : runA.sl.v82_8 c i yg h = rows yg 8 := tile_g xh xw yg yu c i B h 0 8 ⟨_, third⟩
  have u8 : runA.sl.v87_8 c i yu h = rows yu 8 := tile_u xh xw yg yu c i B h 0 8 ⟨_, third⟩
  have g9 : runA.sl.v82_9 c i yg h = rows yg 9 := tile_g xh xw yg yu c i B h 0 9 ⟨_, second⟩
  have u9 : runA.sl.v87_9 c i yu h = rows yu 9 := tile_u xh xw yg yu c i B h 0 9 ⟨_, second⟩
  have g10 : runA.sl.v82_10 c i yg h = rows yg 10 := tile_g xh xw yg yu c i B h 0 10 ⟨_, List.mem_cons_self⟩
  have u10 : runA.sl.v87_10 c i yu h = rows yu 10 := tile_u xh xw yg yu c i B h 0 10 ⟨_, List.mem_cons_self⟩
  refine ⟨?_, ?_, ?_, first_u xh xw c B⟩ <;>
    (unfold runA; dsimp only
     simp only [first_ub, g0, u0, g1, u1, g2, u2, g3, u3, g4, u4, g5, u5, g6, u6, g7, u7, g8, u8, g9, u9, g10, u10]
     rfl)

end

end Cert.GateUpFwdIdeal.Hand

end
-- ==== Proof.GateUpFwd.Frame.lean ====
/-
  The run of the norm and the two input products: the pipeline's proof data, the body at a generic point, the launch, the frame.
-/
module

public import proofs.«01_k».proof.Proof.GateUpFwd.Lists
public import proofs.«01_k».proof.Proof.Gen.GateUpFwdIdeal.Frame

@[expose] public section

set_option maxRecDepth 16384

noncomputable section

namespace Cert.GateUpFwdIdeal.Hand

open GateUpFwdIdeal GateUpFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

/-! ## What a point leaves, owned -/

section
variable (c : Dev nD) (i : grid0.Coords) (B : Bufs) (xh : Vec F S544x1024 .f32) (xw : Vec F S1x1024 .f32) (yg yu : Vec F S2816x1024 .bf16)

/-- The results owned at the products and the normed rows. -/
abbrev outputs : sProp 𝕄 :=
  iprop(owns (c : Thread nD τ) B.gt fullShare (tiled (gt xh xw yg)) ∗ owns (c : Thread nD τ) B.up fullShare (tiled (up xh xw yu))
    ∗ owns (c : Thread nD τ) B.act fullShare (tiled (act xh xw yg yu)) ∗ owns (c : Thread nD τ) B.u fullShare (ub xh xw))

theorem owns_of {S : Shape} {e : EltTy} (M : Memref sig .tc .vmem S e) (G : Vec F S e) (L : List (View.Piece (Elt F) S e))
    (h : ∀ f, M.view.read (Elt F) (M.view.writes (Elt F) f L) = G) : (written c M L : sProp 𝕄) ⊢ owns (c : Thread nD τ) M fullShare G := by
  unfold written owns
  iintro ⟨%f, H⟩
  iexists _; isplitr; swap; · iexact H
  ipureintro; exact h f

theorem outputs_of_written {L2 L3 L4 : List (View.Piece (Elt F) S544x2816 .bf16)} {L5 : List (View.Piece (Elt F) S544x1024 .bf16)}
    (e : L2 = pieces (gt xh xw yg) ∧ L3 = pieces (up xh xw yu) ∧ L4 = pieces (act xh xw yg yu) ∧ L5 = listU xh xw) :
    iprop(written c B.gt L2 ∗ written c B.up L3 ∗ written c B.act L4 ∗ written c B.u L5) ⊢ (outputs c B xh xw yg yu : sProp 𝕄) := by
  obtain ⟨rfl, rfl, rfl, rfl⟩ := e
  have ht := fun (M : Memref sig .tc .vmem S544x2816 .bf16) (f : Fin 11 → Vec F S544x256 .bf16) =>
    owns_of c M (tiled f) (pieces f) fun b => Arrive.all M.view b (pieces_agree f) (pieces_cover f)
  iintro ⟨H2, H3, H4, H5⟩
  isplitl [H2]; · iapply (ht B.gt _); iexact H2
  isplitl [H3]; · iapply (ht B.up _); iexact H3
  isplitl [H4]; · iapply (ht B.act _); iexact H4
  iapply (owns_of c B.u (ub xh xw) _ fun f => funext fun y => View.read_writes_apply_eq_canon B.u.view f y _
    (View.cover_of_tiledL (s := S544x1024) _ S272x1024.size (by sl_kernel_rfl) y)); iexact H5

theorem bodyA (h : First i) (W : Waits sig Unit) (K : PUnit → sProp 𝕄) :
    iprop(inputs c B xh xw ∗ (some c gM ∗ some c uM) ∗ sems c ∗ sources c yg yu ∗ owes (c : Thread nD τ) 0 W ∗ empties c B
        ∗ (iprop(inputs c B xh xw ∗ arrived c yg yu ∗ sems c ∗ sources c yg yu ∗ (∃ W', owes (c : Thread nD τ) 0 W') ∗ outputs c B xh xw yg yu) -∗ K ⟨⟩))
      ⊢ wp frame (wpE (defs₀ (F := F)) Variants.none c none) Set.univ (prog i B) K := by
  iintro ⟨Hi, Hs, Hq, Hh, HW, Ho, Hk⟩
  iapply ((runA c i B xh xw yg yu h).2.2.2.2.2.2 W K)
  iframe Hi Hs Hq Hh HW Ho
  unfold ended
  iintro ⟨⟨Hd, Hu⟩, Hq, Hh, Hi, HW, H⟩
  iapply Hk
  iframe Hi Hq Hh HW
  isplitl [Hd Hu]
  · isplitl [Hd]
    · iapply (owns_of c gM yg _ fun f => Arrive.all gM.view f (agrees_g xh xw yg yu c i B h) (cover_g xh xw yg yu c i B h)); iexact Hd
    iapply (owns_of c uM yu _ fun f => Arrive.all uM.view f (agrees_u xh xw yg yu c i B h) (cover_u xh xw yg yu c i B h)); iexact Hu
  iapply (outputs_of_written c B xh xw yg yu (first_lists xh xw yg yu c i B h)); iexact H

theorem bodyB (h : Later i) (W : Waits sig Unit) (K : PUnit → sProp 𝕄) :
    iprop(inputs c B xh xw ∗ arrived c yg yu ∗ owes (c : Thread nD τ) 0 W ∗ empties c B
        ∗ (iprop(inputs c B xh xw ∗ arrived c yg yu ∗ (∃ W', owes (c : Thread nD τ) 0 W') ∗ outputs c B xh xw yg yu) -∗ K ⟨⟩))
      ⊢ wp frame (wpE (defs₀ (F := F)) Variants.none c none) Set.univ (prog i B) K := by
  iintro ⟨Hi, Hs, HW, Ho, Hk⟩
  iapply ((runB c i B xh xw yg yu h).2.2.2.2 W K)
  iframe Hi Hs HW Ho
  unfold ended
  iintro ⟨Hs, Hi, HW, H⟩
  iapply Hk
  iframe Hi Hs HW
  iapply (outputs_of_written c B xh xw yg yu (later_lists xh xw yg yu c i B h)); iexact H

end

/-! ## The points -/

theorem first_of : ∀ t : Fin cfg0.N, t.val = 0 → First (grid0.coords t) := by decide +kernel
theorem later_of : ∀ t : Fin cfg0.N, ¬ t.val = 0 → Later (grid0.coords t) := by decide +kernel

/-- The buffers the pipeline passes at point `t`. -/
def bufs (t : Fin cfg0.N) : Bufs where
  h := win0_0.stage (cfg0.slots t 0)
  hh := hstage0_0 ((cfg0.slots t 0).cast nbuf0_0)
  w := win0_1.stage (cfg0.slots t 1)
  hw := hstage0_1 ((cfg0.slots t 1).cast nbuf0_1)
  gt := win0_2.stage (cfg0.slots t 2)
  hgt := hstage0_2 ((cfg0.slots t 2).cast nbuf0_2)
  up := win0_3.stage (cfg0.slots t 3)
  hup := hstage0_3 ((cfg0.slots t 3).cast nbuf0_3)
  act := win0_4.stage (cfg0.slots t 4)
  hact := hstage0_4 ((cfg0.slots t 4).cast nbuf0_4)
  u := win0_5.stage (cfg0.slots t 5)
  hu := hstage0_5 ((cfg0.slots t 5).cast nbuf0_5)

variable (m : (ℓ : Loc nD τ sig) → Buf (Elt F) ℓ) (ρ : Dev nD → PrngReg)

/-! ## The kernel's own semaphores and the copied arrays -/

abbrev osem : Fin 22 → SemLoc sig := fun j => (![.dma 11, .dma 12, .dma 13, .dma 14, .dma 15, .dma 16, .dma 17, .dma 18, .dma 19, .dma 20, .dma 21, .dma 22, .dma 23, .dma 24, .dma 25, .dma 26, .dma 27, .dma 28, .dma 29, .dma 30, .dma 31, .dma 32] : Fin 22 → SemLoc sig) j
theorem osem_facts : Pipeline.OwnSemFacts spec0 osem := by decide
def Hbm : Finset (Ref sig .tc) := {main_v1, main_v3}
theorem hbm_sub : Hbm ⊆ Pipeline.restRefs sig spec0 := by decide

theorem ownSems_eq (c : Dev nD) :
    (Pipeline.ownSems0 (Ix := Unit) (Name := ℕ) (U := Pipeline.UD sig nD τ) (Lvl := ℕ) (Val := Elt F) (τ := τ) osem c : sProp 𝕄) = sems c := by
  rw [Pipeline.ownSems0_eq_of_list c osem [0, 1, 2, 3, 4, 5, 6, 7, 8, 9, 10, 11, 12, 13, 14, 15, 16, 17, 18, 19, 20, 21] (by decide) (by decide)]; rfl
theorem hbm_eq (c : Dev nD) :
    (bigSep Hbm (fun b => ((c : Thread nD τ).loc b) ↦{fullShare} V m c b) : sProp 𝕄) = sources c (V m c main_v1) (V m c main_v3) := by
  rw [BI.bigSep_eq_bigSepL_of_eq [main_v1, main_v3] (by decide) (by decide)]; simp only [sources, whole, Memref.view_whole, View.set_whole]; rfl

/-- What the kernel keeps between points, apart from the scratch buffers. -/
abbrev kept (c : Dev nD) : sProp 𝕄 := iprop((∃ r, prngReg c r) ∗ sems c ∗ sources c (V m c main_v1) (V m c main_v3))

theorem inv_eq (c : Dev nD) : (Pipeline.ΦD osem spec0 Hbm (V m) c : sProp 𝕄) = iprop((some c gM ∗ some c uM) ∗ kept m c) := by
  rw [Pipeline.ΦD_eq, scopedRest0_eq, ownSems_eq, hbm_eq]; simp only [some, gM, uM, owns_whole, kept]; try rfl

/-- The invariant: before the first point the weights' buffers hold anything, from then on the copied arrays. -/
def inv (c : Dev nD) (p : ℕ) : sProp 𝕄 :=
  if p = 0 then Pipeline.ΦD osem spec0 Hbm (V m) c else iprop(arrived c (V m c main_v1) (V m c main_v3) ∗ kept m c)

theorem inv_first (c : Dev nD) (p : ℕ) (h : p = 0) : inv m c p = Pipeline.ΦD osem spec0 Hbm (V m) c := by unfold inv; exact if_pos h
theorem inv_later (c : Dev nD) (p : ℕ) (h : ¬ p = 0) : inv m c p = iprop(arrived c (V m c main_v1) (V m c main_v3) ∗ kept m c) := by
  unfold inv; exact if_neg h

/-! ## The proof data -/

/-- What each result's block is after point `t`. -/
abbrev gtAt (c : Dev nD) (t : Fin cfg0.N) : Vec F S544x2816 .bf16 := tiled (gt (iblk m c 0 t) (iblk m c 1 t) (V m c main_v1))
abbrev upAt (c : Dev nD) (t : Fin cfg0.N) : Vec F S544x2816 .bf16 := tiled (up (iblk m c 0 t) (iblk m c 1 t) (V m c main_v3))
abbrev actAt (c : Dev nD) (t : Fin cfg0.N) : Vec F S544x2816 .bf16 := tiled (act (iblk m c 0 t) (iblk m c 1 t) (V m c main_v1) (V m c main_v3))
abbrev uAt (c : Dev nD) (t : Fin cfg0.N) : Vec F S544x1024 .bf16 := ub (iblk m c 0 t) (iblk m c 1 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => gtAt m c t
    | ⟨3, _⟩ => upAt m c t
    | ⟨4, _⟩ => actAt m c t
    | ⟨5, _⟩ => uAt m c t
  Φ p := inv m c p.val
  q _ := fullShare
  owed _ := 0

theorem A_eq (c : Dev nD) (w : Fin cfg0.W) : (dats m 0 c).A w = V m c (Pipeline.arrRef spec0 w) := by dsimp only [dats]

section
variable (c : Dev nD) (t : Fin cfg0.N)

/-- An input's staging buffer holds its block at every point. -/
theorem before_in (w : Fin cfg0.W) (hw : (cfg0.win w).isOut = false) (hl : ∀ i, cfg0.idle w i = false)
    (hc : ∀ t t' : Fin cfg0.N, (cfg0.win w).index t = (cfg0.win w).index t' → (cfg0.win w).clip (cfg0.grid.coords t) = (cfg0.win w).clip (cfg0.grid.coords t'))
    (ha : ∀ t, (cfg0.win w).cut (cfg0.grid.coords t) ((dats m 0 c).after w t) = iblk m c w t) (d) : (dats m 0 c).before w t d = (dats m 0 c).fetched w t d :=
  (dats m 0 c).before_in_eq_fetched w hw hl hc (fun t => by rw [ha]; unfold Dat.blockOf iblk; rw [A_eq]) t d

theorem after_0 : (dats m 0 c).after 0 t = iblk m c 0 t := by dsimp only [dats]
theorem after_1 : (dats m 0 c).after 1 t = iblk m c 1 t := by dsimp only [dats]
theorem after_2 : (dats m 0 c).after 2 t = gtAt m c t := by dsimp only [dats]
theorem after_3 : (dats m 0 c).after 3 t = upAt m c t := by dsimp only [dats]
theorem after_4 : (dats m 0 c).after 4 t = actAt m c t := by dsimp only [dats]
theorem after_5 : (dats m 0 c).after 5 t = uAt m c t := by dsimp only [dats]

theorem before_0 (d) : (dats m 0 c).before 0 t d = iblk m c 0 t := (before_in m c t 0 rfl (fun _ => rfl) (fun _ _ _ => rfl) (after_0 m c) d).trans rfl
theorem before_1 (d) : (dats m 0 c).before 1 t d = iblk m c 1 t := (before_in m c t 1 rfl (fun _ => rfl) (fun _ _ _ => rfl) (after_1 m c) d).trans rfl

end

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (bufs t).h fullShare ((dats m 0 c).before 0 t d))
    ∗ (∃ d, owns (c : Thread nD τ) (bufs t).w fullShare ((dats m 0 c).before 1 t d))
    ∗ (∃ d, owns (c : Thread nD τ) (bufs t).gt fullShare ((dats m 0 c).before 2 t d))
    ∗ (∃ d, owns (c : Thread nD τ) (bufs t).up fullShare ((dats m 0 c).before 3 t d))
    ∗ (∃ d, owns (c : Thread nD τ) (bufs t).act fullShare ((dats m 0 c).before 4 t d))
    ∗ (∃ d, owns (c : Thread nD τ) (bufs t).u fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (bufs t).h fullShare ((dats m 0 c).after 0 t)
    ∗ owns (c : Thread nD τ) (bufs t).w fullShare ((dats m 0 c).after 1 t)
    ∗ owns (c : Thread nD τ) (bufs t).gt fullShare ((dats m 0 c).after 2 t)
    ∗ owns (c : Thread nD τ) (bufs t).up fullShare ((dats m 0 c).after 3 t)
    ∗ owns (c : Thread nD τ) (bufs t).act fullShare ((dats m 0 c).after 4 t)
    ∗ owns (c : Thread nD τ) (bufs t).u fullShare ((dats m 0 c).after 5 t))

/-- The end of a point, whichever case it was. -/
theorem ends (c : Dev nD) (t : Fin cfg0.N) :
    iprop(kept m c ∗ inputs c (bufs t) (iblk m c 0 t) (iblk m c 1 t) ∗ arrived c (V m c main_v1) (V m c main_v3)
      ∗ (∃ W', owes (c : Thread nD τ) 0 W') ∗ outputs c (bufs t) (iblk m c 0 t) (iblk m c 1 t) (V m c main_v1) (V m c main_v3)) ⊢ bodyPost m c t := by
  unfold bodyPost
  rw [show (dats m 0 c).Φ t.succ = iprop(arrived c (V m c main_v1) (V m c main_v3) ∗ kept m c) from inv_later m c t.succ.val (Nat.succ_ne_zero _),
    after_0, after_1, after_2, after_3, after_4, after_5]
  unfold Dat.owesAt Pipeline.owesWithin
  rw [show (dats m 0 c).owed t.succ = 0 from rfl]
  iintro ⟨Hk, ⟨H0, H1⟩, Hs, ⟨%W', HW⟩, ⟨H2, H3, H4, H5⟩⟩
  isplitl [Hs Hk]; · iframe Hs Hk
  isplitl [HW]
  · iexists W'; isplitr; · ipureintro; exact fun _ _ => Or.inl trivial
    iexact HW
  iframe H0 H1 H2 H3 H4 H5

theorem sound_body (c : Dev nD) (t : Fin cfg0.N) :
    bodyPre m c t ⊢ wp frame (wpE (defs₀ (F := F)) Variants.none c none) Set.univ (prog (grid0.coords t) (bufs t)) (fun _ => bodyPost m c t) := by
  have hend := ends m c t
  unfold bodyPre
  simp only [before_0, before_1]
  unfold Dat.owesAt Pipeline.owesWithin
  rw [show (dats m 0 c).owed t.castSucc = 0 from rfl]
  by_cases h : t.val = 0
  · rw [show (dats m 0 c).Φ t.castSucc = Pipeline.ΦD osem spec0 Hbm (V m) c from inv_first m c _ h, inv_eq]
    iintro ⟨⟨Hs, Hg, Hq, Hh⟩, ⟨%W, %hW, HW⟩, ⟨%d0, H0⟩, ⟨%d1, H1⟩, ⟨%d2, H2⟩, ⟨%d3, H3⟩, ⟨%d4, H4⟩, ⟨%d5, H5⟩⟩
    iapply (bodyA c (grid0.coords t) (bufs t) (iblk m c 0 t) (iblk m c 1 t) (V m c main_v1) (V m c main_v3) (first_of t h) W _)
    iframe H0 H1 Hs Hq Hh HW
    isplitl [H2 H3 H4 H5]
    · isplitl [H2]; · iexists _; iexact H2
      isplitl [H3]; · iexists _; iexact H3
      isplitl [H4]; · iexists _; iexact H4
      iexists _; iexact H5
    iintro ⟨Hi, Hs, Hq, Hh, HW, Ho⟩
    iapply hend
    iframe Hg Hq Hh Hi Hs HW Ho
  · rw [show (dats m 0 c).Φ t.castSucc = iprop(arrived c (V m c main_v1) (V m c main_v3) ∗ kept m c) from inv_later m c t.castSucc.val h]
    iintro ⟨⟨Hs, Hg⟩, ⟨%W, %hW, HW⟩, ⟨%d0, H0⟩, ⟨%d1, H1⟩, ⟨%d2, H2⟩, ⟨%d3, H3⟩, ⟨%d4, H4⟩, ⟨%d5, H5⟩⟩
    iapply (bodyB c (grid0.coords t) (bufs t) (iblk m c 0 t) (iblk m c 1 t) (V m c main_v1) (V m c main_v3) (later_of t h) W _)
    iframe H0 H1 Hs HW
    isplitl [H2 H3 H4 H5]
    · isplitl [H2]; · iexists _; iexact H2
      isplitl [H3]; · iexists _; iexact H3
      isplitl [H4]; · iexists _; iexact H4
      iexists _; iexact H5
    iintro ⟨Hi, Hs, HW, Ho⟩
    iapply hend
    iframe Hg Hi Hs HW Ho

theorem row (t : Fin cfg0.N) : defs₀ (F := F) .tc cfg0.body (cfg0.bodyArgs t (cfg0.slots t)) = prog (grid0.coords t) (bufs t) := by
  unfold defs₀; rw [Defs.onTc_tc]; rfl

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The launch -/

set_option maxHeartbeats 800000 in
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub (by simp only [List.Forall]; repeat' constructor) main_chain

/-- The invariant's ends: the scratch buffers at any contents. -/
theorem inv_in (c : Dev nD) : Pipeline.ΦD osem spec0 Hbm (V m) c ⊢ (dats m 0 c).Φ 0 := by
  rw [show (dats m 0 c).Φ 0 = Pipeline.ΦD osem spec0 Hbm (V m) c from inv_first m c _ rfl]
theorem inv_out (c : Dev nD) : (dats m 0 c).Φ (Fin.last cfg0.N) ⊢ Pipeline.ΦD osem spec0 Hbm (V m) c := by
  rw [show (dats m 0 c).Φ (Fin.last cfg0.N) = iprop(arrived c (V m c main_v1) (V m c main_v3) ∗ kept m c) from
    inv_later m c (Fin.last cfg0.N).val (by rw [Fin.val_last, show cfg0.N = 4 from N_0]; decide), inv_eq]
  iintro ⟨⟨Hd, Hu⟩, Hk⟩
  isplitl [Hd Hu]
  · isplitl [Hd]; · iexists _; iexact Hd
    iexists _; iexact Hu
  iexact Hk

set_option backward.isDefEq.respectTransparency.types false in
/-- Every run ends, with the results' arrays at what the points leave, every other buffer as the region found it, and the
    semaphores at zero. -/
theorem run_main :
    θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ Variants.none osem_facts Hbm hbm_sub m ρ main
    (hbody := fun c => (body_obligation m c).loose) (hshare := fun c => (dats m 0 c).share_full fun _ => rfl)
    (howed := fun _ _ => rfl) (V := V m) (hmain := hmainD m Variants.none) (hA := A_eq m)
    (hin := inv_in m) (hout := inv_out m)

/-- The arguments end as they were. -/
abbrev ArgsKept (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)

theorem args_kept {r : PUnit × MemSt nD τ sig (Elt F)} (h : Pipeline.FramePost cfgs (dats m) 0 (V m) r) (c : Dev nD) :
      ArgsKept m r c :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

theorem frame : θ_run defs (onTc (τ := τ) (main (F := F))) ⟨m, fun _ => 0, ρ⟩ (fun r => (∀ c : Dev nD,
      ArgsKept m r c)
      ∧ r.2.sem = fun _ => 0) :=
  (θ_run defs _ _).mono (fun _ h => ⟨args_kept m h.1, h.2⟩) (run_main m ρ)

end Cert.GateUpFwdIdeal.Hand

end
-- ==== Proof.GateUpFwd.Block.lean ====
/-
  The norm and the two input products at one grid point, and the result arrays as functions of the arguments: each row of a point's block
  is a row of the array.
-/
module

public import proofs.«01_k».proof.Proof.GateUpFwd.Row
public import proofs.«01_k».proof.Proof.GateUpFwd.Frame
public import proofs.«01_k».proof.Proof.Halves
public import Idealize.ShloMosaic.Lib.StableHlo.ReadAt

@[expose] public section

set_option maxRecDepth 16384

noncomputable section

namespace Cert.GateUpFwdIdeal.Value

open Idealize.ShloMosaic Idealize.ShloMosaic.TcCoe Idealize.ShloMosaic.StableHlo Idealize.SL Idealize.SL.Sem
open GateUpFwdIdeal GateUpFwdIdeal.Gen GateUpFwdIdeal.Hand Lift Spec Rows GateUpFwd.Row

/-! ## The payloads -/

theorem pay7_at (v6 : Vec Ideal S272x1024 .f32) (v7 : Vec Ideal S1x1024 .f32) (a : Fin 272) (k : Fin 1024) :
    k0_pay7 (F := Ideal) v6 v7 (ix2 a k) = unit (fun k => v6 (ix2 a k)) (fun k => v7 (ix2 0 k)) k := by
  pointwise [k0_pay7]
  simp only [c_1024, c_eps]
  rfl

theorem pay8_at (v6 : Vec Ideal S272x1024 .f32) (v7 : Vec Ideal S1x1024 .f32) (a : Fin 272) (k : Fin 1024) :
    k0_pay1 (k0_pay8 (F := Ideal) v6 v7) (ix2 a k) = unit (fun k => v6 (ix2 a k)) (fun k => v7 (ix2 0 k)) k := by
  pointwise [k0_pay1, k0_pay8]
  simp only [c_1024, c_eps]
  rfl

theorem pay2_at (u : Vec Ideal S544x1024 .bf16) (z : Vec Ideal S256x1024 .bf16) (a : Fin 544) (b : Fin 256) :
    k0_pay2 (F := Ideal) u z (ix2 a b) = ∑ k : Fin 1024, u (ix2 a k) * z (ix2 b k) := by
  pointwise [k0_pay2]

theorem pay3_at (u : Vec Ideal S544x1024 .bf16) (z : Vec Ideal S256x1024 .bf16) (a : Fin 544) (b : Fin 256) :
    k0_pay3 (F := Ideal) u z (ix2 a b) = ∑ k : Fin 1024, u (ix2 a k) * z (ix2 b k) := by
  pointwise [k0_pay3]

theorem pay6_at (u : Vec Ideal S544x1024 .bf16) (z : Vec Ideal S256x1024 .bf16) (u' : Vec Ideal S544x1024 .bf16) (z' : Vec Ideal S256x1024 .bf16) (a : Fin 544) (b : Fin 256) :
    k0_pay6 (F := Ideal) u z u' z' (ix2 a b) = gated (k0_pay2 (F := Ideal) u z (ix2 a b)) (k0_pay3 (F := Ideal) u' z' (ix2 a b)) := by
  pointwise [k0_pay6]
  simp only [c_half, tanh_form]
  rfl

/-! ## A point's blocks -/

section
variable (xh : Vec Ideal S544x1024 .f32) (xw : Vec Ideal S1x1024 .f32) (yg yu : Vec Ideal S2816x1024 .bf16) (a : Fin 544)

/-- The block's row, the norm's weight and a copied weight. -/
abbrev hrow : Fin 1024 → EReal := fun k => xh (ix2 a k)
abbrev wrow : Fin 1024 → EReal := fun k => xw (ix2 0 k)
abbrev wcol (z : Vec Ideal S2816x1024 .bf16) : Fin 1024 → Fin 2816 → EReal := fun k j => z (ix2 j k)

theorem ub_at (k : Fin 1024) : ub xh xw (ix2 a k) = unit (hrow xh a) (wrow xw) k :=
  canon_halves (e := .bf16) (fun a k => unit (hrow xh a) (wrow xw) k) (k0_pay1 (k0_pay8 (F := Ideal) (hi xh) xw)) (k0_pay7 (F := Ideal) (lo xh) xw)
    inb_S544x1024_S272x1024_272_0 inb_S544x1024_S272x1024_0_0
    (fun a k => (pay8_at (hi xh) xw a k).trans (congrArg (fun r => unit r (wrow xw) k) (funext fun k' => congrArg xh
      ((emb_at inb_S544x1024_S272x1024_272_0 rfl a k').trans (congrArg (ix2 _) (Fin.ext (Nat.zero_add _)))))))
    (fun a k => (pay7_at (lo xh) xw a k).trans (congrArg (fun r => unit r (wrow xw) k) (funext fun k' => congrArg xh
      ((emb_at inb_S544x1024_S272x1024_0_0 rfl a k').trans (congrArg (ix2 _) (Fin.ext (Nat.zero_add _))))))) a k

theorem rows_at (z : Vec Ideal S2816x1024 .bf16) (k : Fin 11) (b : Fin 256) (l : Fin 1024) : rows z k (ix2 b l) = z (ix2 ⟨256 * k.val + b.val, by omega⟩ l) :=
  congrArg z ((emb_at (inb_rows k) rfl b l).trans (congrArg (ix2 _) (Fin.ext (Nat.zero_add _))))

theorem product (z : Vec Ideal S2816x1024 .bf16) (k : Fin 11) (b : Fin 256) (j : Fin 2816) (hj : 256 * k.val + b.val = j.val) :
    ∑ l : Fin 1024, ub xh xw (ix2 a l) * rows z k (ix2 b l) = prod (hrow xh a) (wrow xw) (wcol z) j :=
  Finset.sum_congr rfl fun l _ => congrArg₂ (· * ·) (ub_at xh xw a l) ((rows_at z k b l).trans (congrArg (fun i => z (ix2 i l)) (Fin.ext hj)))

theorem gt_at (j : Fin 2816) : tiled (gt xh xw yg) (ix2 a j) = prod (hrow xh a) (wrow xw) (wcol yg) j :=
  (pay2_at _ _ _ _).trans (product xh xw a yg _ _ j (Nat.div_add_mod _ _))
theorem up_at (j : Fin 2816) : tiled (up xh xw yu) (ix2 a j) = prod (hrow xh a) (wrow xw) (wcol yu) j :=
  (pay3_at _ _ _ _).trans (product xh xw a yu _ _ j (Nat.div_add_mod _ _))
theorem act_at (j : Fin 2816) : tiled (act xh xw yg yu) (ix2 a j) = gated (prod (hrow xh a) (wrow xw) (wcol yg) j) (prod (hrow xh a) (wrow xw) (wcol yu) j) :=
  (pay6_at _ _ _ _ _ _).trans (congrArg₂ gated (gt_at xh xw yg a j) (up_at xh xw yu a j))

end

/-! ## The arrays -/

variable (m : (ℓ : Loc nD τ sig) → Buf (Elt Ideal) ℓ) (c : Dev nD)

/-- The rows of the arguments. -/
def x (r : Fin 2176) (k : Fin 1024) : EReal := m ((c : Thread nD τ).loc main_arg0) (ix2 r k)
def w (k : Fin 1024) : EReal := m ((c : Thread nD τ).loc main_arg1) (ix2 0 k)
def Wg (k : Fin 1024) (j : Fin 2816) : EReal := m ((c : Thread nD τ).loc main_arg2) (ix2 k j)
def Wu (k : Fin 1024) (j : Fin 2816) : EReal := m ((c : Thread nD τ).loc main_arg3) (ix2 k j)

/-- Row `a` of point `t`'s block. -/
def row (t : Fin cfg0.N) (a : Fin 544) : Fin 2176 := ⟨544 * t.val + a.val, by have : cfg0.N = 4 := N_0; have := t.isLt; omega⟩

theorem row_of (r : Fin 2176) : ∃ (t : Fin cfg0.N) (a : Fin 544), r = row t a :=
  ⟨⟨r.val / 544, by rw [show cfg0.N = 4 from N_0]; omega⟩, ⟨r.val % 544, Nat.mod_lt _ (by decide)⟩, Fin.ext (Nat.div_add_mod _ _).symm⟩

theorem index_eq : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0) :=
  (by decide +kernel : ∀ t : Fin grid0.N, _)

theorem x_row (t : Fin cfg0.N) (a : Fin 544) : hrow (iblk m c 0 t) a = x m c (row t a) := by
  obtain ⟨⟨h0, h1⟩, -⟩ := index_eq t
  refine funext fun k => Eq.trans (congrArg (V m c main_arg0) (funext fun i => Fin.ext ?_)) (congrFun (V_main_arg0 m c) (ix2 (row t a) k))
  match i with
  | ⟨0, _⟩ => show win0_0.index t 0 * 544 + 1 * a.val = 544 * t.val + a.val; rw [h0]; omega
  | ⟨1, _⟩ => show win0_0.index t 1 * 1024 + 1 * k.val = k.val; rw [h1]; omega

theorem w_row (t : Fin cfg0.N) : wrow (iblk m c 1 t) = w m c := by
  obtain ⟨-, ⟨h0, h1⟩, -⟩ := index_eq t
  refine funext fun k => Eq.trans (congrArg (V m c main_arg1) (funext fun i => Fin.ext ?_)) (congrFun (V_main_arg1 m c) (ix2 0 k))
  match i with
  | ⟨0, _⟩ => show win0_1.index t 0 * 1 + 1 * 0 = 0; rw [h0]
  | ⟨1, _⟩ => show win0_1.index t 1 * 1024 + 1 * k.val = k.val; rw [h1]; omega

theorem Wg_eq : wcol (V m c main_v1) = Wg m c := by
  funext k j
  show V m c main_v1 (ix2 j k) = m ((c : Thread nD τ).loc main_arg2) (ix2 k j)
  unfold V
  after_reads_at
theorem Wu_eq : wcol (V m c main_v3) = Wu m c := by
  funext k j
  show V m c main_v3 (ix2 j k) = m ((c : Thread nD τ).loc main_arg3) (ix2 k j)
  unfold V
  after_reads_at

theorem arr2 (r : Fin 2176) (j : Fin 2816) : (dats m 0 c).arrAt 2 cfg0.N (ix2 r j) = prod (x m c r) (w m c) (Wg m c) j := by
  obtain ⟨t, a, rfl⟩ := row_of r
  obtain ⟨-, -, ⟨h0, h1⟩, -⟩ := index_eq t
  refine Eq.trans ?_ (((congrFun ((dats m 0 c).read_blk_arrAt_eq_flushed 2 (fun t t' _ _ hne => (cfg0.win 2).disjoint_blk fun h =>
      hne ((by decide +kernel : ∀ t t' : Fin grid0.N, win0_2.index t = win0_2.index t' → t = t') t t' h)) cfg0.N t t.isLt (flush0_2 t)) (ix2 a j)).trans
    (congrFun (show (dats m 0 c).flushed 2 t = (cfg0.win 2).cut (grid0.coords t) (gtAt m c t) from congrArg ((cfg0.win 2).cut (grid0.coords t)) (after_2 m c t)) (ix2 a j))).trans
    ((gt_at _ _ _ a j).trans (by rw [x_row, w_row, Wg_eq])))
  refine congrArg ((dats m 0 c).arrAt 2 cfg0.N) (funext fun i => Fin.ext ?_)
  match i with
  | ⟨0, _⟩ => show 544 * t.val + a.val = win0_2.index t 0 * 544 + 1 * a.val; rw [h0]; omega
  | ⟨1, _⟩ => show j.val = win0_2.index t 1 * 2816 + 1 * j.val; rw [h1]; omega

theorem arr3 (r : Fin 2176) (j : Fin 2816) : (dats m 0 c).arrAt 3 cfg0.N (ix2 r j) = prod (x m c r) (w m c) (Wu m c) j := by
  obtain ⟨t, a, rfl⟩ := row_of r
  obtain ⟨-, -, -, ⟨h0, h1⟩, -⟩ := index_eq t
  refine Eq.trans ?_ (((congrFun ((dats m 0 c).read_blk_arrAt_eq_flushed 3 (fun t t' _ _ hne => (cfg0.win 3).disjoint_blk fun h =>
      hne ((by decide +kernel : ∀ t t' : Fin grid0.N, win0_3.index t = win0_3.index t' → t = t') t t' h)) cfg0.N t t.isLt (flush0_3 t)) (ix2 a j)).trans
    (congrFun (show (dats m 0 c).flushed 3 t = (cfg0.win 3).cut (grid0.coords t) (upAt m c t) from congrArg ((cfg0.win 3).cut (grid0.coords t)) (after_3 m c t)) (ix2 a j))).trans
    ((up_at _ _ _ a j).trans (by rw [x_row, w_row, Wu_eq])))
  refine congrArg ((dats m 0 c).arrAt 3 cfg0.N) (funext fun i => Fin.ext ?_)
  match i with
  | ⟨0, _⟩ => show 544 * t.val + a.val = win0_3.index t 0 * 544 + 1 * a.val; rw [h0]; omega
  | ⟨1, _⟩ => show j.val = win0_3.index t 1 * 2816 + 1 * j.val; rw [h1]; omega

theorem arr4 (r : Fin 2176) (j : Fin 2816) :
    (dats m 0 c).arrAt 4 cfg0.N (ix2 r j) = gated (prod (x m c r) (w m c) (Wg m c) j) (prod (x m c r) (w m c) (Wu m c) j) := by
  obtain ⟨t, a, rfl⟩ := row_of r
  obtain ⟨-, -, -, -, ⟨h0, h1⟩, -⟩ := index_eq t
  refine Eq.trans ?_ (((congrFun ((dats m 0 c).read_blk_arrAt_eq_flushed 4 (fun t t' _ _ hne => (cfg0.win 4).disjoint_blk fun h =>
      hne ((by decide +kernel : ∀ t t' : Fin grid0.N, win0_4.index t = win0_4.index t' → t = t') t t' h)) cfg0.N t t.isLt (flush0_4 t)) (ix2 a j)).trans
    (congrFun (show (dats m 0 c).flushed 4 t = (cfg0.win 4).cut (grid0.coords t) (actAt m c t) from congrArg ((cfg0.win 4).cut (grid0.coords t)) (after_4 m c t)) (ix2 a j))).trans
    ((act_at _ _ _ _ a j).trans (by rw [x_row, w_row, Wg_eq, Wu_eq])))
  refine congrArg ((dats m 0 c).arrAt 4 cfg0.N) (funext fun i => Fin.ext ?_)
  match i with
  | ⟨0, _⟩ => show 544 * t.val + a.val = win0_4.index t 0 * 544 + 1 * a.val; rw [h0]; omega
  | ⟨1, _⟩ => show j.val = win0_4.index t 1 * 2816 + 1 * j.val; rw [h1]; omega

theorem arr5 (r : Fin 2176) (k : Fin 1024) : (dats m 0 c).arrAt 5 cfg0.N (ix2 r k) = unit (x m c r) (w m c) k := by
  obtain ⟨t, a, rfl⟩ := row_of r
  obtain ⟨-, -, -, -, -, ⟨h0, h1⟩⟩ := index_eq t
  refine Eq.trans ?_ (((congrFun ((dats m 0 c).read_blk_arrAt_eq_flushed 5 (fun t t' _ _ hne => (cfg0.win 5).disjoint_blk fun h =>
      hne ((by decide +kernel : ∀ t t' : Fin grid0.N, win0_5.index t = win0_5.index t' → t = t') t t' h)) cfg0.N t t.isLt (flush0_5 t)) (ix2 a k)).trans
    (congrFun (show (dats m 0 c).flushed 5 t = (cfg0.win 5).cut (grid0.coords t) (uAt m c t) from congrArg ((cfg0.win 5).cut (grid0.coords t)) (after_5 m c t)) (ix2 a k))).trans
    ((ub_at _ _ a k).trans (by rw [x_row, w_row])))
  refine congrArg ((dats m 0 c).arrAt 5 cfg0.N) (funext fun i => Fin.ext ?_)
  match i with
  | ⟨0, _⟩ => show 544 * t.val + a.val = win0_5.index t 0 * 544 + 1 * a.val; rw [h0]; omega
  | ⟨1, _⟩ => show k.val = win0_5.index t 1 * 1024 + 1 * k.val; rw [h1]; omega

end Cert.GateUpFwdIdeal.Value

end
-- ==== Proof.GateUpFwd.RefLine.lean ====
/-
  The reference's straight line of host operations, and that each of its buffers is written once and read only afterwards.
-/
module

public import proofs.«01_k».proof.Defs
public import proofs.«01_k».proof.Proof.Line
public import proofs.«01_k».proof.Proof.Gen.GateUpFwdRefIdeal

@[expose] public section

set_option maxRecDepth 16384

namespace Cert.GateUpFwdRefIdeal

open Idealize.ShloMosaic Idealize.ShloMosaic.StableHlo Idealize.SL.Sem Line

/-- The operations of the reference. -/
noncomputable def line : {ops : List (HloOp τ sig (Elt Ideal)) // ∀ d, IsSeq (main (F := Ideal) d) ops} := by
  apply Subtype.mk
  hlo_seq

/-- What each of them writes and reads. -/
noncomputable def table : {T : List (Ref sig .tc × List (Ref sig .tc)) // Table line.1 T} := by
  apply Subtype.mk
  repeat first
    | exact Table.nil
    | apply Table.cons (reads_nullary _ _ _)
    | apply Table.cons (reads_unary _ _ _ _ _)
    | apply Table.cons (reads_binary _ _ _ _ _ _ _)
    | apply Table.cons (reads_reshape _ _ _ _ _ _)
    | apply Table.cons (reads_ternary _ _ _ _ _ _ _ _ _)
    | apply Table.cons (reads_nary _ _ _ _ _)

theorem single_line : single table.1 = true := by decide +kernel

/-- The contents at the end, which every operation leaves alone. -/
theorem fixed (V : Valuation τ sig (Elt Ideal)) : Fixed line.1 (after line.1 V) := fixed_of table.2 single_line V

/-- The arguments are not written. -/
theorem kept (V : Valuation τ sig (Elt Ideal)) (r : Ref sig .tc) (h : table.1.all (fun e => e.1 != r) = true) :
    after line.1 V (Proc.devRef .tc r) = V (Proc.devRef .tc r) := after_keep table.2 h V

end Cert.GateUpFwdRefIdeal
-- ==== Proof.GateUpFwd.RefVal.lean ====
/-
  The reference's results as functions of its arguments, read off its line stage by stage.
-/
module

public import proofs.«01_k».proof.Proof.GateUpFwd.RefLine
public import proofs.«01_k».proof.Proof.GateUpFwd.Row

@[expose] public section

set_option maxRecDepth 16384

namespace Cert.GateUpFwdRefIdeal

open Idealize.ShloMosaic Idealize.ShloMosaic.TcCoe Idealize.ShloMosaic.StableHlo Idealize.SL.Sem Line Lift Spec GateUpFwd.Row

/-- The contents `A` at the end, in terms of the arguments' rows. -/
structure Args (A : Valuation τ sig (Elt Ideal)) (x : Fin 2176 → Fin 1024 → EReal) (w : Fin 1024 → EReal) (Wg Wu : Fin 1024 → Fin 2816 → EReal) : Prop where
  fixed : Fixed line.1 A
  x_eq : ∀ a k, A (↑main_arg0 : DevRef τ sig) (ix2 a k) = x a k
  w_eq : ∀ k, A (↑main_arg1 : DevRef τ sig) (ix2 0 k) = w k
  g_eq : ∀ k j, A (↑main_arg2 : DevRef τ sig) (ix2 k j) = Wg k j
  u_eq : ∀ k j, A (↑main_arg3 : DevRef τ sig) (ix2 k j) = Wu k j

variable {A : Valuation τ sig (Elt Ideal)} {x : Fin 2176 → Fin 1024 → EReal} {w : Fin 1024 → EReal} {Wg Wu : Fin 1024 → Fin 2816 → EReal} (H : Args A x w Wg Wu)
include H

theorem v11_at (a : Fin 2176) (k : Fin 1024) : A (↑main_v11 : DevRef τ sig) (ix2 a k) = unit (x a) w k := by
  refine (congrFun (congrFun (H.fixed [0, 1, 2, 3, 4, 5, 6, 7, 8, 9, 10, 11, 12, 13, 14]).symm _) _).trans ?_
  after_reads_at
  simp only [H.x_eq, H.w_eq, c_1024, c_eps]
  rfl

theorem v12_at (a : Fin 2176) (j : Fin 2816) : A (↑main_v12 : DevRef τ sig) (ix2 a j) = prod (x a) w Wg j := by
  refine (congrFun (congrFun (H.fixed [15]).symm _) _).trans ?_
  after_reads_at
  simp only [v11_at H, H.g_eq]
  rfl

theorem v13_at (a : Fin 2176) (j : Fin 2816) : A (↑main_v13 : DevRef τ sig) (ix2 a j) = prod (x a) w Wu j := by
  refine (congrFun (congrFun (H.fixed [16]).symm _) _).trans ?_
  after_reads_at
  simp only [v11_at H, H.u_eq]
  rfl

theorem v14_at (a : Fin 2176) (j : Fin 2816) : A (↑main_v14 : DevRef τ sig) (ix2 a j) = prod (x a) w Wg j := by
  refine (congrFun (congrFun (H.fixed [17]).symm _) _).trans ?_
  after_reads_at
  exact v12_at H a j

theorem v15_at (a : Fin 2176) (j : Fin 2816) : A (↑main_v15 : DevRef τ sig) (ix2 a j) = prod (x a) w Wu j := by
  refine (congrFun (congrFun (H.fixed [18]).symm _) _).trans ?_
  after_reads_at
  exact v13_at H a j

theorem v18_at (a : Fin 2176) (j : Fin 2816) : A (↑main_v18 : DevRef τ sig) (ix2 a j) = gated (prod (x a) w Wg j) (prod (x a) w Wu j) := by
  refine (congrFun (congrFun (H.fixed [19, 20, 21, 22, 23, 24, 25, 26, 27, 28, 29]).symm _) _).trans ?_
  after_reads_at
  simp only [v12_at H, v13_at H]
  rfl

theorem v19_at (a : Fin 2176) (k : Fin 1024) : A (↑main_v19 : DevRef τ sig) (ix2 a k) = unit (x a) w k := by
  refine (congrFun (congrFun (H.fixed [30]).symm _) _).trans ?_
  after_reads_at
  exact v11_at H a k

end Cert.GateUpFwdRefIdeal
-- ==== Proof.GateUpFwd.Claims.lean ====
/-
  The claims about the norm and the two input products.
-/
module

public import proofs.«01_k».proof.Proof.Gen.GateUpFwd.Skeleton
public import proofs.«01_k».proof.Proof.GateUpFwd.Block
public import proofs.«01_k».proof.Proof.GateUpFwd.RefVal

@[expose] public section

set_option maxRecDepth 16384

open Idealize.ShloMosaic Idealize.ShloMosaic.TcCoe Idealize.SL.Sem Cert.GateUpFwdIdeal.Value

namespace Cert.GateUpFwdRefIdeal

/-- The reference's run: every buffer ends at the line's value. -/
theorem ref_run (m : (ℓ : Loc nD τ sig) → Buf (Elt Ideal) ℓ)
    (ρ : Dev nD → PrngReg) :
    θ_run (defs (F := Ideal)) (onTc (τ := τ) (main (F := Ideal))) ⟨m, fun _ => 0, ρ⟩ fun r =>
      ∀ (d : Dev nD) (b : Ref sig .tc),
        r.2.mem ((d.tc : Thread _ _).loc b) = StableHlo.after line.1 (StableHlo.launchContents m d) (Proc.devRef .tc b) :=
  StableHlo.run_hlo _ _ line.2 (by decide) (by decide) (by unfold line; simp)
    (by unfold line; intro _ h; (repeat (cases h with | head => rfl | tail _ h => ?_)); exact nomatch h) m ρ

/-- Its arguments are kept. -/
theorem ref_kept (m : (ℓ : Loc nD τ sig) → Buf (Elt Ideal) ℓ) (d : Dev nD)
    (b : Ref sig .tc) (h : table.1.all (fun e => e.1 != b) = true) :
    StableHlo.after line.1 (StableHlo.launchContents m d) (Proc.devRef .tc b) = m ((d.tc : Thread _ _).loc b) :=
  kept _ b h

end Cert.GateUpFwdRefIdeal

namespace Cert.GateUpFwdIdeal.Claims

open Cert.GateUpFwdRefIdeal (ref_run ref_kept)

/-- The two printed programs are one. -/
theorem defs_eq : GateUpFwd.defs (F := Bits) = defs (F := Bits) := by sl_kernel_rfl

theorem frame_kernel : Cert.quiescent_GateUpFwd := fun m ρ _ => by
  have h := Hand.frame (F := Bits) m ρ
  rw [← defs_eq] at h
  exact h
theorem frame_ideal : Cert.quiescent_GateUpFwdIdeal := fun m ρ _ => Hand.frame m ρ

theorem frame_ref : Cert.quiescent_GateUpFwdRefIdeal := fun m ρ _ =>
  (θ_run GateUpFwdRefIdeal.defs _ _).mono (fun r h => ⟨fun c =>
    by refine ⟨?_, ?_, ?_, ?_⟩ <;> exact (h c _).trans (ref_kept m c _ (by decide +kernel)), sem_eq_zero_of_no_sems (by decide) r.2⟩) (ref_run m ρ)

theorem preserves : Cert.preserves_GateUpFwd_GateUpFwdIdeal := trivial

/-- The kernel's run: the results are the arrays after the last point. -/
theorem run_blocks (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread _ _).loc main_v4_0) = (Hand.dats m 0 c).arrAt 2 cfg0.N
      ∧ r.2.mem ((c.tc : Thread _ _).loc main_v4_1) = (Hand.dats m 0 c).arrAt 3 cfg0.N
      ∧ r.2.mem ((c.tc : Thread _ _).loc main_v4_2) = (Hand.dats m 0 c).arrAt 4 cfg0.N
      ∧ r.2.mem ((c.tc : Thread _ _).loc main_v4_3) = (Hand.dats m 0 c).arrAt 5 cfg0.N
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)
      ∧ r.2.mem ((c.tc : Thread _ _).loc main_arg3) = m ((c.tc : Thread _ _).loc main_arg3) :=
  (θ_run defs _ _).mono (fun _ h c => ⟨(h.1 c).1 2, (h.1 c).1 3, (h.1 c).1 4, (h.1 c).1 5, Hand.args_kept m h.1 c⟩)
    (Hand.run_main m ρ)

/-- The kernel and the reference compute the same normed rows, products and gated product. -/
theorem algebraic : Cert.algebraic_GateUpFwdIdeal_GateUpFwdRefIdeal := by
  intro m g m' g' _ hagree
  refine ⟨_, _, _, _, run_blocks m g, (θ_run GateUpFwdRefIdeal.defs _ _).mono (fun r h d => ?_) (ref_run m' g')⟩
  obtain ⟨h0, h1, h2, h3⟩ := hagree d
  have R : GateUpFwdRefIdeal.Args (StableHlo.after GateUpFwdRefIdeal.line.1 (StableHlo.launchContents m' d)) (x m d) (w m d) (Wg m d) (Wu m d) :=
    ⟨GateUpFwdRefIdeal.fixed _,
      fun a k => congrFun ((ref_kept m' d _ (by decide +kernel)).trans h0) _, fun k => congrFun ((ref_kept m' d _ (by decide +kernel)).trans h1) _,
      fun k j => congrFun ((ref_kept m' d _ (by decide +kernel)).trans h2) _, fun k j => congrFun ((ref_kept m' d _ (by decide +kernel)).trans h3) _⟩
  have q := fun b hb => (h d b).trans (ref_kept m' d b hb)
  refine ⟨(h d _).trans ?_, (h d _).trans ?_, (h d _).trans ?_, (h d _).trans ?_,
    q _ (by decide +kernel), q _ (by decide +kernel), q _ (by decide +kernel),
    q _ (by decide +kernel)⟩
  · funext i
    obtain ⟨a, j, rfl⟩ : ∃ (a : Fin 2176) (j : Fin 2816), i = ix2 a j := ⟨i 0, i 1, eq_ix2 i⟩
    exact (GateUpFwdRefIdeal.v14_at R a j).trans (arr2 m d a j).symm
  · funext i
    obtain ⟨a, j, rfl⟩ : ∃ (a : Fin 2176) (j : Fin 2816), i = ix2 a j := ⟨i 0, i 1, eq_ix2 i⟩
    exact (GateUpFwdRefIdeal.v15_at R a j).trans (arr3 m d a j).symm
  · funext i
    obtain ⟨a, j, rfl⟩ : ∃ (a : Fin 2176) (j : Fin 2816), i = ix2 a j := ⟨i 0, i 1, eq_ix2 i⟩
    exact (GateUpFwdRefIdeal.v18_at R a j).trans (arr4 m d a j).symm
  · funext i
    obtain ⟨a, k, rfl⟩ : ∃ (a : Fin 2176) (k : Fin 1024), i = ix2 a k := ⟨i 0, i 1, eq_ix2 i⟩
    exact (GateUpFwdRefIdeal.v19_at R a k).trans (arr5 m d a k).symm

end Cert.GateUpFwdIdeal.Claims
-- ==== Proof.lean ====
/-
  The proof of `Cert.Claim`: every claim of the seven calls, from the calls' own modules. The witnesses of
  the programs' stated facts are the instances that the generated modules prove.
-/
module

public import proofs.«01_k».proof.Defs
public import proofs.«01_k».proof.Proof.Gen.OutBwd
public import proofs.«01_k».proof.Proof.Gen.OutBwd.Skeleton
public import proofs.«01_k».proof.Proof.Gen.OutBwd.Loops
public import proofs.«01_k».proof.Proof.Gen.OutBwd.Launch
public import proofs.«01_k».proof.Proof.Gen.OutBwd.Points
public import proofs.«01_k».proof.Proof.Gen.OutBwd.Frame
public import proofs.«01_k».proof.Proof.Gen.OutBwdIdeal
public import proofs.«01_k».proof.Proof.Gen.OutBwdIdeal.Skeleton
public import proofs.«01_k».proof.Proof.Gen.OutBwdIdeal.Loops
public import proofs.«01_k».proof.Proof.Gen.OutBwdIdeal.Launch
public import proofs.«01_k».proof.Proof.Gen.OutBwdIdeal.Points
public import proofs.«01_k».proof.Proof.Gen.OutBwdIdeal.Frame
public import proofs.«01_k».proof.Proof.Gen.OutBwdRefIdeal
public import proofs.«01_k».proof.Proof.Gen.Pre_finite
public import proofs.«01_k».proof.Proof.Gen.Loss
public import proofs.«01_k».proof.Proof.Gen.Loss.Skeleton
public import proofs.«01_k».proof.Proof.Gen.Loss.Loops
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Loops
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.Pre_loss_finite
public import proofs.«01_k».proof.Proof.Gen.Swiglu
public import proofs.«01_k».proof.Proof.Gen.Swiglu.Skeleton
public import proofs.«01_k».proof.Proof.Gen.SwigluIdeal
public import proofs.«01_k».proof.Proof.Gen.SwigluIdeal.Skeleton
public import proofs.«01_k».proof.Proof.Gen.SwigluIdeal.Loops
public import proofs.«01_k».proof.Proof.Gen.SwigluIdeal.Launch
public import proofs.«01_k».proof.Proof.Gen.SwigluIdeal.Points
public import proofs.«01_k».proof.Proof.Gen.SwigluRefIdeal
public import proofs.«01_k».proof.Proof.Gen.Pre_swiglu_finite
public import proofs.«01_k».proof.Proof.Gen.OutBwdIdeal.Value
public import proofs.«01_k».proof.Proof.OutBwd.Claims
public import proofs.«01_k».proof.Proof.Loss.Claims
public import proofs.«01_k».proof.Proof.Swiglu.Claims
public import proofs.«01_k».proof.Proof.Gen.GateUp
public import proofs.«01_k».proof.Proof.Gen.GateUp.Skeleton
public import proofs.«01_k».proof.Proof.Gen.GateUpIdeal
public import proofs.«01_k».proof.Proof.Gen.GateUpIdeal.Skeleton
public import proofs.«01_k».proof.Proof.Gen.GateUpIdeal.Loops
public import proofs.«01_k».proof.Proof.Gen.GateUpIdeal.Launch
public import proofs.«01_k».proof.Proof.Gen.GateUpIdeal.Points
public import proofs.«01_k».proof.Proof.Gen.GateUpRefIdeal
public import proofs.«01_k».proof.Proof.Gen.Pre_gate_up_finite
public import proofs.«01_k».proof.Proof.Gen.InProj
public import proofs.«01_k».proof.Proof.Gen.InProj.Skeleton
public import proofs.«01_k».proof.Proof.Gen.InProjIdeal
public import proofs.«01_k».proof.Proof.Gen.InProjIdeal.Skeleton
public import proofs.«01_k».proof.Proof.Gen.InProjIdeal.Loops
public import proofs.«01_k».proof.Proof.Gen.InProjIdeal.Launch
public import proofs.«01_k».proof.Proof.Gen.InProjIdeal.Points
public import proofs.«01_k».proof.Proof.Gen.InProjRefIdeal
public import proofs.«01_k».proof.Proof.Gen.Pre_in_proj_finite
public import proofs.«01_k».proof.Proof.GateUp.Claims
public import proofs.«01_k».proof.Proof.InProj.Claims
public import proofs.«01_k».proof.Proof.OutProj.Claims
public import proofs.«01_k».proof.Proof.GateUpFwd.Claims
public import proofs.«01_k».proof.Proof.Gen.OutProj
public import proofs.«01_k».proof.Proof.Gen.OutProj.Skeleton
public import proofs.«01_k».proof.Proof.Gen.OutProj.Loops
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Loops
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.GateUpFwd
public import proofs.«01_k».proof.Proof.Gen.GateUpFwd.Skeleton
public import proofs.«01_k».proof.Proof.Gen.GateUpFwd.Loops
public import proofs.«01_k».proof.Proof.Gen.GateUpFwd.Launch
public import proofs.«01_k».proof.Proof.Gen.GateUpFwd.Points
public import proofs.«01_k».proof.Proof.Gen.GateUpFwd.Frame
public import proofs.«01_k».proof.Proof.Gen.GateUpFwdIdeal
public import proofs.«01_k».proof.Proof.Gen.GateUpFwdIdeal.Skeleton
public import proofs.«01_k».proof.Proof.Gen.GateUpFwdIdeal.Loops
public import proofs.«01_k».proof.Proof.Gen.GateUpFwdIdeal.Launch
public import proofs.«01_k».proof.Proof.Gen.GateUpFwdIdeal.Points
public import proofs.«01_k».proof.Proof.Gen.GateUpFwdIdeal.Frame
public import proofs.«01_k».proof.Proof.Gen.GateUpFwdRefIdeal
public import Idealize.ShloMosaic.Adequacy
public import Idealize.ShloMosaic.Init

@[expose] public section

noncomputable section

namespace Cert.Proof

open Idealize.ShloMosaic Idealize.SL.Sem Cert.OutBwd

theorem claim : Cert.Claim := ⟨Cert.OutBwd.Gen.facts, Cert.OutBwdIdeal.Gen.facts, Cert.OutBwdRefIdeal.Gen.facts,
    Cert.Loss.Gen.facts, Cert.LossIdeal.Gen.facts, Cert.LossRefIdeal.Gen.facts,
    Cert.Swiglu.Gen.facts, Cert.SwigluIdeal.Gen.facts, Cert.SwigluRefIdeal.Gen.facts,
    Cert.GateUp.Gen.facts, Cert.GateUpIdeal.Gen.facts, Cert.GateUpRefIdeal.Gen.facts,
    Cert.InProj.Gen.facts, Cert.InProjIdeal.Gen.facts, Cert.InProjRefIdeal.Gen.facts,
    Cert.OutProj.Gen.facts, Cert.OutProjIdeal.Gen.facts, Cert.OutProjRefIdeal.Gen.facts,
    Cert.GateUpFwd.Gen.facts, Cert.GateUpFwdIdeal.Gen.facts, Cert.GateUpFwdRefIdeal.Gen.facts,
    Cert.Pre_finite.Gen.facts, Cert.Pre_loss_finite.Gen.facts, Cert.Pre_swiglu_finite.Gen.facts, Cert.Pre_gate_up_finite.Gen.facts, Cert.Pre_in_proj_finite.Gen.facts,
    Cert.OutBwdIdeal.Claims.frame_kernel, Cert.OutBwdIdeal.Claims.frame_ideal, Cert.OutBwdIdeal.Claims.frame_ideal_pre, Cert.OutBwdIdeal.Claims.frame_ref, Cert.OutBwdIdeal.Claims.frame_ref_pre,
    Cert.LossIdeal.Claims.frame_kernel, Cert.LossIdeal.Claims.frame_ideal, Cert.LossIdeal.Claims.frame_ideal_pre, Cert.LossIdeal.Claims.frame_ref, Cert.LossIdeal.Claims.frame_ref_pre,
    Cert.SwigluIdeal.Claims.frame_kernel, Cert.SwigluIdeal.Claims.frame_ideal, Cert.SwigluIdeal.Claims.frame_ideal_pre, Cert.SwigluIdeal.Claims.frame_ref, Cert.SwigluIdeal.Claims.frame_ref_pre,
    Cert.GateUpIdeal.Claims.frame_kernel, Cert.GateUpIdeal.Claims.frame_ideal, Cert.GateUpIdeal.Claims.frame_ideal_pre, Cert.GateUpIdeal.Claims.frame_ref, Cert.GateUpIdeal.Claims.frame_ref_pre,
    Cert.InProjIdeal.Claims.frame_kernel, Cert.InProjIdeal.Claims.frame_ideal, Cert.InProjIdeal.Claims.frame_ideal_pre, Cert.InProjIdeal.Claims.frame_ref, Cert.InProjIdeal.Claims.frame_ref_pre,
    Cert.OutProjIdeal.Claims.frame_kernel, Cert.OutProjIdeal.Claims.frame_ideal, Cert.OutProjIdeal.Claims.frame_ref,
    Cert.GateUpFwdIdeal.Claims.frame_kernel, Cert.GateUpFwdIdeal.Claims.frame_ideal, Cert.GateUpFwdIdeal.Claims.frame_ref,
    Cert.OutBwdIdeal.Claims.preserves, Cert.OutBwdIdeal.Claims.algebraic,
    Cert.LossIdeal.Claims.preserves, Cert.LossIdeal.Claims.algebraic,
    Cert.SwigluIdeal.Claims.preserves, Cert.SwigluIdeal.Claims.algebraic,
    Cert.GateUpIdeal.Claims.preserves, Cert.GateUpIdeal.Claims.algebraic,
    Cert.InProjIdeal.Claims.preserves, Cert.InProjIdeal.Claims.algebraic,
    Cert.OutProjIdeal.Claims.preserves, Cert.OutProjIdeal.Claims.algebraic,
    Cert.GateUpFwdIdeal.Claims.preserves, Cert.GateUpFwdIdeal.Claims.algebraic⟩

end Cert.Proof

end
